-- ==== Defs.lean ====
def Pre_Kernel [hPre_distinct_slots : Cert.Pre_distinct_slots.Facts] (m : (ℓ : Loc Cert.Kernel.nD Cert.Kernel.τ Cert.Kernel.sig) → Buf (Elt Bits) ℓ) : Prop :=
  ∀ c : Dev Cert.Kernel.nD,
    (Cert.Pre_distinct_slots.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_distinct_slots : Cert.Pre_distinct_slots.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_slots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_slots [hPre_distinct_slots : Cert.Pre_distinct_slots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_slots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_distinct_slots : Cert.Pre_distinct_slots.Facts] (m : (ℓ : Loc Cert.Reference.nD Cert.Reference.τ Cert.Reference.sig) → Buf (Elt Bits) ℓ) : Prop :=
  ∀ c : Dev Cert.Reference.nD,
    (Cert.Pre_distinct_slots.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_all_finite [hPre_all_finite : Cert.Pre_all_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_all_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_all_finite [hPre_all_finite : Cert.Pre_all_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_all_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] [hPre_distinct_slots : Cert.Pre_distinct_slots.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_distinct_slots : Cert.Pre_distinct_slots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_distinct_slots [hReferenceIdeal : Cert.ReferenceIdeal.Facts] [hPre_distinct_slots : Cert.Pre_distinct_slots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_slots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_distinct_slots : Cert.Pre_distinct_slots.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_all_finite [hKernel6Ideal : Cert.Kernel6Ideal.Facts] [hPre_all_finite : Cert.Pre_all_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_all_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_all_finite [hReference6Ideal : Cert.Reference6Ideal.Facts] [hPre_all_finite : Cert.Pre_all_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_all_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_distinct_slots : Cert.Pre_distinct_slots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_distinct_slots : Cert.Pre_distinct_slots.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)) (v6 : (c : Dev Cert.Kernel2Ideal.nD) → Buf (Elt Ideal) ((c.tc : Thread Cert.Kernel2Ideal.nD Cert.Kernel2Ideal.τ).loc Cert.Kernel2Ideal.main_v24_6)) (v7 : (c : Dev Cert.Kernel2Ideal.nD) → Buf (Elt Ideal) ((c.tc : Thread Cert.Kernel2Ideal.nD Cert.Kernel2Ideal.τ).loc Cert.Kernel2Ideal.main_v24_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_v24_6) = v6 c
          ∧ r.2.mem ((c.tc : Thread Cert.Kernel2Ideal.nD Cert.Kernel2Ideal.τ).loc Cert.Kernel2Ideal.main_v24_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v73) = v3 c
          ∧ r.2.mem ((c.tc : Thread Cert.Reference2Ideal.nD Cert.Reference2Ideal.τ).loc Cert.Reference2Ideal.main_v74) = v4 c
          ∧ r.2.mem ((c.tc : Thread Cert.Reference2Ideal.nD Cert.Reference2Ideal.τ).loc Cert.Reference2Ideal.main_v76) = v5 c
          ∧ r.2.mem ((c.tc : Thread Cert.Reference2Ideal.nD Cert.Reference2Ideal.τ).loc Cert.Reference2Ideal.main_v79) = v6 c
          ∧ r.2.mem ((c.tc : Thread Cert.Reference2Ideal.nD Cert.Reference2Ideal.τ).loc Cert.Reference2Ideal.main_v80) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)) (v5 : (c : Dev Cert.Kernel3Ideal.nD) → Buf (Elt Ideal) ((c.tc : Thread Cert.Kernel3Ideal.nD Cert.Kernel3Ideal.τ).loc Cert.Kernel3Ideal.main_v24_5)) (v6 : (c : Dev Cert.Kernel3Ideal.nD) → Buf (Elt Ideal) ((c.tc : Thread Cert.Kernel3Ideal.nD Cert.Kernel3Ideal.τ).loc Cert.Kernel3Ideal.main_v24_6)) (v7 : (c : Dev Cert.Kernel3Ideal.nD) → Buf (Elt Ideal) ((c.tc : Thread Cert.Kernel3Ideal.nD Cert.Kernel3Ideal.τ).loc Cert.Kernel3Ideal.main_v24_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_v24_5) = v5 c
          ∧ r.2.mem ((c.tc : Thread Cert.Kernel3Ideal.nD Cert.Kernel3Ideal.τ).loc Cert.Kernel3Ideal.main_v24_6) = v6 c
          ∧ r.2.mem ((c.tc : Thread Cert.Kernel3Ideal.nD Cert.Kernel3Ideal.τ).loc Cert.Kernel3Ideal.main_v24_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v73) = v3 c
          ∧ r.2.mem ((c.tc : Thread Cert.Reference3Ideal.nD Cert.Reference3Ideal.τ).loc Cert.Reference3Ideal.main_v74) = v4 c
          ∧ r.2.mem ((c.tc : Thread Cert.Reference3Ideal.nD Cert.Reference3Ideal.τ).loc Cert.Reference3Ideal.main_v76) = v5 c
          ∧ r.2.mem ((c.tc : Thread Cert.Reference3Ideal.nD Cert.Reference3Ideal.τ).loc Cert.Reference3Ideal.main_v79) = v6 c
          ∧ r.2.mem ((c.tc : Thread Cert.Reference3Ideal.nD Cert.Reference3Ideal.τ).loc Cert.Reference3Ideal.main_v80) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.bf16_pair.BufferStatement Cert.Kernel4Ideal.S8192x2x1024 Cert.Kernel4Ideal.S8192x1x1024
  ∧ IdealRules.bf16_pair.BufferStatement Cert.Kernel4Ideal.S512x2x1024 Cert.Kernel4Ideal.S512x1x1024
  ∧ IdealRules.bf16_pair.Statement Cert.Kernel4Ideal.S512x2x1024 Cert.Kernel4Ideal.S512x1x1024
  ∧ IdealRules.bf16_pack.Statement Cert.Kernel4Ideal.S512x1024

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v21_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.bf16_pair.BufferStatement Cert.Kernel5Ideal.S256x2x1024 Cert.Kernel5Ideal.S256x1x1024
  ∧ IdealRules.bf16_pair.Statement Cert.Kernel5Ideal.S256x2x1024 Cert.Kernel5Ideal.S256x1x1024
  ∧ IdealRules.bf16_pack.Statement Cert.Kernel5Ideal.S256x1024

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v21_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_all_finite [hKernel6Ideal : Cert.Kernel6Ideal.Facts] [hReference6Ideal : Cert.Reference6Ideal.Facts] [hPre_all_finite : Cert.Pre_all_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_all_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_distinct_slots : Cert.Pre_distinct_slots.Facts) (hPre_all_finite : Cert.Pre_all_finite.Facts),
    quiescent_Kernel (hKernel := hKernel) (hPre_distinct_slots := hPre_distinct_slots)
    ∧ quiescent_KernelIdeal (hKernelIdeal := hKernelIdeal) (hPre_distinct_slots := hPre_distinct_slots)
    ∧ quiescent_ReferenceIdeal (hReferenceIdeal := hReferenceIdeal)
    ∧ quiescent_ReferenceIdeal_pre_distinct_slots (hReferenceIdeal := hReferenceIdeal) (hPre_distinct_slots := hPre_distinct_slots)
    ∧ quiescent_Reference (hReference := hReference) (hPre_distinct_slots := hPre_distinct_slots)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_all_finite (hKernel6Ideal := hKernel6Ideal) (hPre_all_finite := hPre_all_finite)
    ∧ quiescent_Reference6Ideal (hReference6Ideal := hReference6Ideal)
    ∧ quiescent_Reference6Ideal_pre_all_finite (hReference6Ideal := hReference6Ideal) (hPre_all_finite := hPre_all_finite)
    ∧ preserves_Kernel_KernelIdeal
    ∧ algebraic_KernelIdeal_ReferenceIdeal (hKernelIdeal := hKernelIdeal) (hReferenceIdeal := hReferenceIdeal) (hPre_distinct_slots := hPre_distinct_slots)
    ∧ bitexact_Kernel_Reference (hKernel := hKernel) (hReference := hReference) (hPre_distinct_slots := hPre_distinct_slots)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_all_finite (hKernel6Ideal := hKernel6Ideal) (hReference6Ideal := hReference6Ideal) (hPre_all_finite := hPre_all_finite)
-- ==== Pre_all_finite.lean ====
abbrev S8192x1024 : Shape := ⟨2, ![8192, 1024]⟩
abbrev S8192x128 : Shape := ⟨2, ![8192, 128]⟩
abbrev S1024x8192 : Shape := ⟨2, ![1024, 8192]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S1024x8192 : S_.BroadcastsInDim S1024x8192 (![] : Fin 0 → Fin S1024x8192.rank)
  reducesTo_S1024x8192_S_d0_1 : S1024x8192.ReducesTo [0, 1] S_

variable [Facts]

def fn_part1 {F : FTy → Type} [FloatOps F] (main_arg4 : FVec F S1024x8192 .bf16) (main_v16 : IVec S_ 1) (main_v17 : FVec F S8192x128 .f32) : IVec S_ 1 :=
  let main_v18 : FVec F S8192x128 .f32 := Host.absf main_v17
  let main_cst_4 : FVec F S_ .f32 := constant S_ .f32 0x7F800000#32
  let main_v19 : FVec F S8192x128 .f32 := broadcastInDim S8192x128 ![] bcast_S_S8192x128 main_cst_4
  let main_v20 : IVec S8192x128 1 := cmpf .olt main_v18 main_v19
  let main_c_5 : IVec S_ 1 := constantI S_ 1 1#1
  let main_v21 : IVec S_ 1 := (fun x v => Host.reduce IntOp.andi x v reducesTo_S8192x128_S_d0_1 h_S_) main_v20 main_c_5
  let main_v22 : IVec S_ 1 := andi main_v16 main_v21
  let main_v23 : FVec F S1024x8192 .f32 := (extf .f32 · bitsLt_bf16_f32) main_arg4
  let main_v24 : FVec F S1024x8192 .f32 := Host.absf main_v23
  let main_cst_6 : FVec F S_ .f32 := constant S_ .f32 0x7F800000#32
  let main_v25 : FVec F S1024x8192 .f32 := broadcastInDim S1024x8192 ![] bcast_S_S1024x8192 main_cst_6
  let main_v26 : IVec S1024x8192 1 := cmpf .olt main_v24 main_v25
  let main_c_7 : IVec S_ 1 := constantI S_ 1 1#1
  let main_v27 : IVec S_ 1 := (fun x v => Host.reduce IntOp.andi x v reducesTo_S1024x8192_S_d0_1 h_S_) main_v26 main_c_7
  let main_v28 : IVec S_ 1 := andi main_v22 main_v27
  main_v28

def fn {F : FTy → Type} [FloatOps F] (main_arg0 : FVec F S8192x1024 .bf16) (main_arg1 : FVec F S8192x128 .bf16) (main_arg2 : FVec F S8192x1024 .bf16) (main_arg3 : FVec F S8192x128 .bf16) (main_arg4 : FVec F S1024x8192 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x128 .f32 := (extf .f32 · bitsLt_bf16_f32) main_arg1
  let main_v6 : FVec F S8192x128 .f32 := Host.absf main_v5
  let main_cst_0 : FVec F S_ .f32 := constant S_ .f32 0x7F800000#32
  let main_v7 : FVec F S8192x128 .f32 := broadcastInDim S8192x128 ![] bcast_S_S8192x128 main_cst_0
  let main_v8 : IVec S8192x128 1 := cmpf .olt main_v6 main_v7
  let main_c_1 : IVec S_ 1 := constantI S_ 1 1#1
  let main_v9 : IVec S_ 1 := (fun x v => Host.reduce IntOp.andi x v reducesTo_S8192x128_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  let main_v17 : FVec F S8192x128 .f32 := (extf .f32 · bitsLt_bf16_f32) main_arg3
  fn_part1 (F := F) main_arg4 main_v16 main_v17
-- ==== Pre_distinct_slots.lean ====
abbrev S16896 : Shape := ⟨1, ![16896]⟩
abbrev S98 : Shape := ⟨1, ![98]⟩
abbrev S8192x1024 : Shape := ⟨2, ![8192, 1024]⟩
abbrev S256x1024 : Shape := ⟨2, ![256, 1024]⟩
abbrev S25088 : Shape := ⟨1, ![25088]⟩
abbrev S_ : Shape := ⟨0, ![]⟩
abbrev S16896x1 : Shape := ⟨2, ![16896, 1]⟩
abbrev S1x16896 : Shape := ⟨2, ![1, 16896]⟩
abbrev S16896x16896 : Shape := ⟨2, ![16896, 16896]⟩
abbrev S25088x1 : Shape := ⟨2, ![25088, 1]⟩
abbrev S25088x16896 : Shape := ⟨2, ![25088, 16896]⟩
abbrev S98x256 : Shape := ⟨2, ![98, 256]⟩
abbrev S98x1 : Shape := ⟨2, ![98, 1]⟩

class Facts : Prop where
  bcast_S_S16896 : S_.BroadcastsInDim S16896 (![] : Fin 0 → Fin S16896.rank)
  reducesTo_S16896_S_d0 : S16896.ReducesTo [0] S_
  h_S_ : 0 < S_.numel
  bcast_S16896_S16896x1_0 : S16896.BroadcastsInDim S16896x1 (![0] : Fin 1 → Fin S16896x1.rank)
  bcast_S16896_S1x16896_1 : S16896.BroadcastsInDim S1x16896 (![1] : Fin 1 → Fin S1x16896.rank)
  bcast_S16896x1_S16896x16896_0_1 : S16896x1.BroadcastsInDim S16896x16896 (![0, 1] : Fin 2 → Fin S16896x16896.rank)
  bcast_S1x16896_S16896x16896_0_1 : S1x16896.BroadcastsInDim S16896x16896 (![0, 1] : Fin 2 → Fin S16896x16896.rank)
  reducesTo_S16896x16896_S_d0_1 : S16896x16896.ReducesTo [0, 1] S_
  bcast_S25088_S25088x1_0 : S25088.BroadcastsInDim S25088x1 (![0] : Fin 1 → Fin S25088x1.rank)
  bcast_S1x16896_S25088x16896_0_1 : S1x16896.BroadcastsInDim S25088x16896 (![0, 1] : Fin 2 → Fin S25088x16896.rank)
  bcast_S25088x1_S25088x16896_0_1 : S25088x1.BroadcastsInDim S25088x16896 (![0, 1] : Fin 2 → Fin S25088x16896.rank)
  reducesTo_S25088x16896_S25088_d1 : S25088x16896.ReducesTo [1] S25088
  shapeCasts_S25088_S98x256 : S25088.ShapeCasts S98x256
  bcast_S_S98 : S_.BroadcastsInDim S98 (![] : Fin 0 → Fin S98.rank)
  bcast_S98_S98x1_0 : S98.BroadcastsInDim S98x1 (![0] : Fin 1 → Fin S98x1.rank)
  bcast_S98x1_S98x256_0_1 : S98x1.BroadcastsInDim S98x256 (![0, 1] : Fin 2 → Fin S98x256.rank)
  reducesTo_S98x256_S_d0_1 : S98x256.ReducesTo [0, 1] S_

variable [Facts]

def fn_part1 {F : FTy → Type} [FloatOps F] (main_arg0 : IVec S16896 32) (main_arg1 : IVec S98 32) (main_v1 : IVec S25088 32) (main_v7 : IVec S_ 1) (main_v19 : IVec S_ 1) : IVec S_ 1 :=
  let main_v20 : IVec S1x16896 32 := broadcastInDim S1x16896 ![1] bcast_S16896_S1x16896_1 main_arg0
  let main_v21 : IVec S25088x1 32 := broadcastInDim S25088x1 ![0] bcast_S25088_S25088x1_0 main_v1
  let main_v22 : IVec S25088x16896 32 := broadcastInDim S25088x16896 ![0, 1] bcast_S1x16896_S25088x16896_0_1 main_v20
  let main_v23 : IVec S25088x16896 32 := broadcastInDim S25088x16896 ![0, 1] bcast_S25088x1_S25088x16896_0_1 main_v21
  let main_v24 : IVec S25088x16896 1 := cmpi .eq main_v22 main_v23
  let main_c_3 : IVec S_ 1 := constantI S_ 1 0#1
  let main_v25 : IVec S25088 1 := (fun x v => Host.reduce IntOp.ori x v reducesTo_S25088x16896_S25088_d1 h_S_) main_v24 main_c_3
  let main_v26 : IVec S98x256 1 := shapeCast S98x256 main_v25 shapeCasts_S25088_S98x256
  let main_c_4 : IVec S_ 32 := constantI S_ 32 0#32
  let main_v27 : IVec S98 32 := broadcastInDim S98 ![] bcast_S_S98 main_c_4
  let main_v28 : IVec S98 1 := cmpi .ne main_arg1 main_v27
  let main_v29 : IVec S98x1 1 := broadcastInDim S98x1 ![0] bcast_S98_S98x1_0 main_v28
  let main_v30 : IVec S98x256 1 := broadcastInDim S98x256 ![0, 1] bcast_S98x1_S98x256_0_1 main_v29
  let main_v31 : IVec S98x256 1 := ori main_v26 main_v30
  let main_c_5 : IVec S_ 1 := constantI S_ 1 1#1
  let main_v32 : IVec S_ 1 := (fun x v => Host.reduce IntOp.andi x v reducesTo_S98x256_S_d0_1 h_S_) main_v31 main_c_5
  let main_v33 : IVec S_ 1 := andi main_v7 main_v19
  let main_v34 : IVec S_ 1 := andi main_v33 main_v32
  main_v34

def fn {F : FTy → Type} [FloatOps F] (main_arg0 : IVec S16896 32) (main_arg1 : IVec S98 32) (main_arg2 : IVec S8192x1024 32) (main_arg3 : IVec S256x1024 32) : IVec S_ 1 :=
  let main_v0 : IVec S16896 32 := iotaInDim S16896 32 0
  let main_v1 : IVec S25088 32 := iotaInDim S25088 32 0
  let main_c : IVec S_ 32 := constantI S_ 32 0#32
  let main_v2 : IVec S16896 32 := broadcastInDim S16896 ![] bcast_S_S16896 main_c
  let main_v3 : IVec S16896 1 := cmpi .sge main_arg0 main_v2
  let main_c_0 : IVec S_ 32 := constantI S_ 32 25088#32
  let main_v4 : IVec S16896 32 := broadcastInDim S16896 ![] bcast_S_S16896 main_c_0
  let main_v5 : IVec S16896 1 := cmpi .slt main_arg0 main_v4
  let main_v6 : IVec S16896 1 := andi main_v3 main_v5
  let main_c_1 : IVec S_ 1 := constantI S_ 1 1#1
  let main_v7 : IVec S_ 1 := (fun x v => Host.reduce IntOp.andi x v reducesTo_S16896_S_d0 h_S_) main_v6 main_c_1
  let main_v8 : IVec S16896x1 32 := broadcastInDim S16896x1 ![0] bcast_S16896_S16896x1_0 main_arg0
  let main_v9 : IVec S1x16896 32 := broadcastInDim S1x16896 ![1] bcast_S16896_S1x16896_1 main_arg0
  let main_v10 : IVec S16896x16896 32 := broadcastInDim S16896x16896 ![0, 1] bcast_S16896x1_S16896x16896_0_1 main_v8
  let main_v11 : IVec S16896x16896 32 := broadcastInDim S16896x16896 ![0, 1] bcast_S1x16896_S16896x16896_0_1 main_v9
  let main_v12 : IVec S16896x16896 1 := cmpi .ne main_v10 main_v11
  let main_v13 : IVec S16896x1 32 := broadcastInDim S16896x1 ![0] bcast_S16896_S16896x1_0 main_v0
  let main_v14 : IVec S1x16896 32 := broadcastInDim S1x16896 ![1] bcast_S16896_S1x16896_1 main_v0
  let main_v15 : IVec S16896x16896 32 := broadcastInDim S16896x16896 ![0, 1] bcast_S16896x1_S16896x16896_0_1 main_v13
  let main_v16 : IVec S16896x16896 32 := broadcastInDim S16896x16896 ![0, 1] bcast_S1x16896_S16896x16896_0_1 main_v14
  let main_v17 : IVec S16896x16896 1 := cmpi .eq main_v15 main_v16
  let main_v18 : IVec S16896x16896 1 := ori main_v12 main_v17
  let main_c_2 : IVec S_ 1 := constantI S_ 1 1#1
  let main_v19 : IVec S_ 1 := (fun x v => Host.reduce IntOp.andi x v reducesTo_S16896x16896_S_d0_1 h_S_) main_v18 main_c_2
  fn_part1 (F := F) main_arg0 main_arg1 main_v1 main_v7 main_v19
-- ==== Kernel.lean ====
abbrev S16896 : Shape := ⟨1, ![16896]⟩
abbrev S98 : Shape := ⟨1, ![98]⟩
abbrev S8192x1024 : Shape := ⟨2, ![8192, 1024]⟩
abbrev S256x1024 : Shape := ⟨2, ![256, 1024]⟩
abbrev S25088x1024 : Shape := ⟨2, ![25088, 1024]⟩
abbrev S_ : Shape := ⟨0, ![]⟩
abbrev S1 : Shape := ⟨1, ![1]⟩
abbrev S1x1024 : Shape := ⟨2, ![1, 1024]⟩

abbrev nBuf : Space → Nat
  | .hbm => 3
  | .vmem => 3
  | .smem => 2
  | _ => 0

abbrev bufTy : (tb : Table) → Fin (tcTables nBuf tb) → BufTy
  | .hbm, ⟨0, _⟩ => ⟨S8192x1024, .i32⟩
  | .hbm, ⟨1, _⟩ => ⟨S256x1024, .i32⟩
  | .hbm, ⟨2, _⟩ => ⟨S25088x1024, .i32⟩
  | .local _ .vmem, ⟨0, _⟩ => ⟨S8192x1024, .i32⟩
  | .local _ .vmem, ⟨1, _⟩ => ⟨S256x1024, .i32⟩
  | .local _ .vmem, ⟨2, _⟩ => ⟨S256x1024, .i32⟩
  | .local _ .smem, ⟨0, _⟩ => ⟨S16896, .i32⟩
  | .local _ .smem, ⟨1, _⟩ => ⟨S98, .i32⟩
  | _, _ => ⟨S8192x1024, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32_1 : BitVec 32 := 0#32
  let c98_i32 : BitVec 32 := 98#32
  let v4 : BitVec 32 := Scalar.addi c0_i32_1 c98_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let v10 : Index := Scalar.indexCast arg10
  ![v10.toNat]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c256_i32 : BitVec 32 := 256#32
  let v15 : BitVec 32 := Scalar.muli arg10 c256_i32
  let c0_i32_22 : BitVec 32 := 0#32
  ![v15.toNat, 0]
@[reducible] def k0_t2_loop : Scf.Loop 32 :=
  let c0_i32_3 : BitVec 32 := 0#32
  let c98_i32_4 : BitVec 32 := 98#32
  let v5 : BitVec 32 := Scalar.addi c0_i32_3 c98_i32_4
  let c1_i32_5 : BitVec 32 := 1#32
  ⟨c0_i32_3, v5, c1_i32_5⟩
def k0_off3 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let v10 : Index := Scalar.indexCast arg10
  ![v10.toNat]
def k0_off4 (k0_t2 : Fin k0_t2_loop.trips) : Fin 2 → Nat :=
  let c0_i32_3 : BitVec 32 := 0#32
  let c1_i32_5 : BitVec 32 := 1#32
  let arg10 : BitVec 32 := Scf.iv c0_i32_3 c1_i32_5 k0_t2
  let c256_i32 : BitVec 32 := 256#32
  let v15 : BitVec 32 := Scalar.muli arg10 c256_i32
  let c0_i32_22 : BitVec 32 := 0#32
  ![v15.toNat, 0]
@[reducible] def k0_t3_loop : Scf.Loop 32 :=
  let c0_i32_7 : BitVec 32 := 0#32
  let c64_i32 : BitVec 32 := 64#32
  let v6 : BitVec 32 := Scalar.addi c0_i32_7 c64_i32
  let c1_i32_8 : BitVec 32 := 1#32
  ⟨c0_i32_7, v6, c1_i32_8⟩
@[reducible] def k0_t4_loop : Scf.Loop 32 :=
  let c0_i32_20 : BitVec 32 := 0#32
  let c128_i32_21 : BitVec 32 := 128#32
  let v10 : BitVec 32 := Scalar.addi c0_i32_20 c128_i32_21
  let c1_i32_22 : BitVec 32 := 1#32
  ⟨c0_i32_20, v10, c1_i32_22⟩
def k0_off5 (k0_t3 : Fin k0_t3_loop.trips) (k0_t4 : Fin k0_t4_loop.trips) : Fin 1 → Nat :=
  let c0_i32_27 : BitVec 32 := 0#32
  let c0_i32_7 : BitVec 32 := 0#32
  let c1_i32_8 : BitVec 32 := 1#32
  let arg10 : BitVec 32 := Scf.iv c0_i32_7 c1_i32_8 k0_t3
  let c128_i32_26 : BitVec 32 := 128#32
  let v14 : BitVec 32 := Scalar.muli arg10 c128_i32_26
  let c0_i32_20 : BitVec 32 := 0#32
  let c1_i32_22 : BitVec 32 := 1#32
  let arg11 : BitVec 32 := Scf.iv c0_i32_20 c1_i32_22 k0_t4
  let v15 : BitVec 32 := Scalar.addi v14 arg11
  let v16 : BitVec 32 := Scalar.addi c0_i32_27 v15
  let v17 : Index := Scalar.indexCast v16
  ![v17.toNat]
def k0_off6 (v18 : BitVec 32) : Fin 2 → Nat :=
  let c0_i32_28 : BitVec 32 := 0#32
  ![v18.toNat, 0]

def k0_chk1 (v18 : BitVec 32) : Prop :=
  (∀ a, (k0_off6 v18) a + S1x1024.size a ≤ S25088x1024.size a)
theorem k0_off6_inb : ∀ (v18 : BitVec 32) (k0_hw1 : k0_chk1 v18), ∀ a, (k0_off6 v18) a + S1x1024.size a ≤ S25088x1024.size a := fun v18 k0_hw1 => k0_hw1

def k0_off7 (k0_t3 : Fin k0_t3_loop.trips) (k0_t4 : Fin k0_t4_loop.trips) : Fin 2 → Nat :=
  let c0_i32_7 : BitVec 32 := 0#32
  let c1_i32_8 : BitVec 32 := 1#32
  let arg10 : BitVec 32 := Scf.iv c0_i32_7 c1_i32_8 k0_t3
  let c128_i32_26 : BitVec 32 := 128#32
  let v14 : BitVec 32 := Scalar.muli arg10 c128_i32_26
  let c0_i32_20 : BitVec 32 := 0#32
  let c1_i32_22 : BitVec 32 := 1#32
  let arg11 : BitVec 32 := Scf.iv c0_i32_20 c1_i32_22 k0_t4
  let v15 : BitVec 32 := Scalar.addi v14 arg11
  let c0_i32_29 : BitVec 32 := 0#32
  ![v15.toNat, 0]
def k0_off8 (k0_t3 : Fin k0_t3_loop.trips) (k0_t4 : Fin k0_t4_loop.trips) : Fin 1 → Nat :=
  let c8448_i32 : BitVec 32 := 8448#32
  let c0_i32_7 : BitVec 32 := 0#32
  let c1_i32_8 : BitVec 32 := 1#32
  let arg10 : BitVec 32 := Scf.iv c0_i32_7 c1_i32_8 k0_t3
  let c128_i32_30 : BitVec 32 := 128#32
  let v21 : BitVec 32 := Scalar.muli arg10 c128_i32_30
  let c0_i32_20 : BitVec 32 := 0#32
  let c1_i32_22 : BitVec 32 := 1#32
  let arg11 : BitVec 32 := Scf.iv c0_i32_20 c1_i32_22 k0_t4
  let v22 : BitVec 32 := Scalar.addi v21 arg11
  let v23 : BitVec 32 := Scalar.addi c8448_i32 v22
  let v24 : Index := Scalar.indexCast v23
  ![v24.toNat]
def k0_off9 (v25 : BitVec 32) : Fin 2 → Nat :=
  let c0_i32_31 : BitVec 32 := 0#32
  ![v25.toNat, 0]

def k0_chk2 (v25 : BitVec 32) : Prop :=
  (∀ a, (k0_off9 v25) a + S1x1024.size a ≤ S25088x1024.size a)
theorem k0_off9_inb : ∀ (v25 : BitVec 32) (k0_hw2 : k0_chk2 v25), ∀ a, (k0_off9 v25) a + S1x1024.size a ≤ S25088x1024.size a := fun v25 k0_hw2 => k0_hw2

def k0_off10 (k0_t3 : Fin k0_t3_loop.trips) (k0_t4 : Fin k0_t4_loop.trips) : Fin 2 → Nat :=
  let c0_i32_7 : BitVec 32 := 0#32
  let c1_i32_8 : BitVec 32 := 1#32
  let arg10 : BitVec 32 := Scf.iv c0_i32_7 c1_i32_8 k0_t3
  let c128_i32_30 : BitVec 32 := 128#32
  let v21 : BitVec 32 := Scalar.muli arg10 c128_i32_30
  let c0_i32_20 : BitVec 32 := 0#32
  let c1_i32_22 : BitVec 32 := 1#32
  let arg11 : BitVec 32 := Scf.iv c0_i32_20 c1_i32_22 k0_t4
  let v22 : BitVec 32 := Scalar.addi v21 arg11
  let c0_i32_32 : BitVec 32 := 0#32
  ![v22.toNat, 0]
def k0_cond3 (k0_t3 : Fin k0_t3_loop.trips) : BitVec 1 :=
  let c0_i32_7 : BitVec 32 := 0#32
  let c1_i32_8 : BitVec 32 := 1#32
  let arg10 : BitVec 32 := Scf.iv c0_i32_7 c1_i32_8 k0_t3
  let c0_i32_24 : BitVec 32 := 0#32
  let v11 : BitVec 1 := Scalar.cmpi .sgt arg10 c0_i32_24
  let v12 : BitVec 32 := Scalar.extui v11
  let c0_i32_25 : BitVec 32 := 0#32
  let v13 : BitVec 1 := Scalar.cmpi .ne v12 c0_i32_25
  v13

@[reducible] def k0_t5_loop : Scf.Loop 32 :=
  let c0_i32_27 : BitVec 32 := 0#32
  let c128_i32_28 : BitVec 32 := 128#32
  let v15 : BitVec 32 := Scalar.addi c0_i32_27 c128_i32_28
  let c1_i32_29 : BitVec 32 := 1#32
  ⟨c0_i32_27, v15, c1_i32_29⟩
def k0_off11 (k0_t3 : Fin k0_t3_loop.trips) (k0_t5 : Fin k0_t5_loop.trips) : Fin 1 → Nat :=
  let c0_i32_32 : BitVec 32 := 0#32
  let c0_i32_7 : BitVec 32 := 0#32
  let c1_i32_8 : BitVec 32 := 1#32
  let arg10 : BitVec 32 := Scf.iv c0_i32_7 c1_i32_8 k0_t3
  let c1_i32_26 : BitVec 32 := 1#32
  let v14 : BitVec 32 := Scalar.subi arg10 c1_i32_26
  let c128_i32_31 : BitVec 32 := 128#32
  let v16 : BitVec 32 := Scalar.muli v14 c128_i32_31
  let c0_i32_27 : BitVec 32 := 0#32
  let c1_i32_29 : BitVec 32 := 1#32
  let arg11 : BitVec 32 := Scf.iv c0_i32_27 c1_i32_29 k0_t5
  let v17 : BitVec 32 := Scalar.addi v16 arg11
  let v18 : BitVec 32 := Scalar.addi c0_i32_32 v17
  let v19 : Index := Scalar.indexCast v18
  ![v19.toNat]
def k0_off12 (v20 : BitVec 32) : Fin 2 → Nat :=
  let c0_i32_33 : BitVec 32 := 0#32
  ![v20.toNat, 0]

def k0_chk3 (k0_t3 : Fin k0_t3_loop.trips) (v20 : BitVec 32) : Prop :=
  (∀ (k0_h3 : k0_cond3 k0_t3 = 1#1), ∀ a, (k0_off12 v20) a + S1x1024.size a ≤ S25088x1024.size a)
theorem k0_off12_inb : ∀ (k0_t3 : Fin k0_t3_loop.trips) (v20 : BitVec 32) (k0_hw3 : k0_chk3 k0_t3 v20), ∀ (k0_h3 : k0_cond3 k0_t3 = 1#1), ∀ a, (k0_off12 v20) a + S1x1024.size a ≤ S25088x1024.size a := fun k0_t3 v20 k0_hw3 k0_h3 => k0_hw3 k0_h3

def k0_off13 (k0_t3 : Fin k0_t3_loop.trips) (k0_t5 : Fin k0_t5_loop.trips) : Fin 2 → Nat :=
  let c0_i32_7 : BitVec 32 := 0#32
  let c1_i32_8 : BitVec 32 := 1#32
  let arg10 : BitVec 32 := Scf.iv c0_i32_7 c1_i32_8 k0_t3
  let c1_i32_26 : BitVec 32 := 1#32
  let v14 : BitVec 32 := Scalar.subi arg10 c1_i32_26
  let c128_i32_31 : BitVec 32 := 128#32
  let v16 : BitVec 32 := Scalar.muli v14 c128_i32_31
  let c0_i32_27 : BitVec 32 := 0#32
  let c1_i32_29 : BitVec 32 := 1#32
  let arg11 : BitVec 32 := Scf.iv c0_i32_27 c1_i32_29 k0_t5
  let v17 : BitVec 32 := Scalar.addi v16 arg11
  let c0_i32_34 : BitVec 32 := 0#32
  ![v17.toNat, 0]
def k0_off14 (k0_t3 : Fin k0_t3_loop.trips) (k0_t5 : Fin k0_t5_loop.trips) : Fin 1 → Nat :=
  let c8448_i32 : BitVec 32 := 8448#32
  let c0_i32_7 : BitVec 32 := 0#32
  let c1_i32_8 : BitVec 32 := 1#32
  let arg10 : BitVec 32 := Scf.iv c0_i32_7 c1_i32_8 k0_t3
  let c1_i32_26 : BitVec 32 := 1#32
  let v14 : BitVec 32 := Scalar.subi arg10 c1_i32_26
  let c128_i32_35 : BitVec 32 := 128#32
  let v23 : BitVec 32 := Scalar.muli v14 c128_i32_35
  let c0_i32_27 : BitVec 32 := 0#32
  let c1_i32_29 : BitVec 32 := 1#32
  let arg11 : BitVec 32 := Scf.iv c0_i32_27 c1_i32_29 k0_t5
  let v24 : BitVec 32 := Scalar.addi v23 arg11
  let v25 : BitVec 32 := Scalar.addi c8448_i32 v24
  let v26 : Index := Scalar.indexCast v25
  ![v26.toNat]
def k0_off15 (v27 : BitVec 32) : Fin 2 → Nat :=
  let c0_i32_36 : BitVec 32 := 0#32
  ![v27.toNat, 0]

def k0_chk4 (k0_t3 : Fin k0_t3_loop.trips) (v27 : BitVec 32) : Prop :=
  (∀ (k0_h3 : k0_cond3 k0_t3 = 1#1), ∀ a, (k0_off15 v27) a + S1x1024.size a ≤ S25088x1024.size a)
theorem k0_off15_inb : ∀ (k0_t3 : Fin k0_t3_loop.trips) (v27 : BitVec 32) (k0_hw4 : k0_chk4 k0_t3 v27), ∀ (k0_h3 : k0_cond3 k0_t3 = 1#1), ∀ a, (k0_off15 v27) a + S1x1024.size a ≤ S25088x1024.size a := fun k0_t3 v27 k0_hw4 k0_h3 => k0_hw4 k0_h3

def k0_off16 (k0_t3 : Fin k0_t3_loop.trips) (k0_t5 : Fin k0_t5_loop.trips) : Fin 2 → Nat :=
  let c0_i32_7 : BitVec 32 := 0#32
  let c1_i32_8 : BitVec 32 := 1#32
  let arg10 : BitVec 32 := Scf.iv c0_i32_7 c1_i32_8 k0_t3
  let c1_i32_26 : BitVec 32 := 1#32
  let v14 : BitVec 32 := Scalar.subi arg10 c1_i32_26
  let c128_i32_35 : BitVec 32 := 128#32
  let v23 : BitVec 32 := Scalar.muli v14 c128_i32_35
  let c0_i32_27 : BitVec 32 := 0#32
  let c1_i32_29 : BitVec 32 := 1#32
  let arg11 : BitVec 32 := Scf.iv c0_i32_27 c1_i32_29 k0_t5
  let v24 : BitVec 32 := Scalar.addi v23 arg11
  let c0_i32_37 : BitVec 32 := 0#32
  ![v24.toNat, 0]
@[reducible] def k0_t6_loop : Scf.Loop 32 :=
  let c0_i32_10 : BitVec 32 := 0#32
  let c128_i32 : BitVec 32 := 128#32
  let v7 : BitVec 32 := Scalar.addi c0_i32_10 c128_i32
  let c1_i32_11 : BitVec 32 := 1#32
  ⟨c0_i32_10, v7, c1_i32_11⟩
def k0_off17 (k0_t6 : Fin k0_t6_loop.trips) : Fin 1 → Nat :=
  let c0_i32_20 : BitVec 32 := 0#32
  let c8064_i32 : BitVec 32 := 8064#32
  let c0_i32_10 : BitVec 32 := 0#32
  let c1_i32_11 : BitVec 32 := 1#32
  let arg10 : BitVec 32 := Scf.iv c0_i32_10 c1_i32_11 k0_t6
  let v10 : BitVec 32 := Scalar.addi c8064_i32 arg10
  let v11 : BitVec 32 := Scalar.addi c0_i32_20 v10
  let v12 : Index := Scalar.indexCast v11
  ![v12.toNat]
def k0_off18 (v13 : BitVec 32) : Fin 2 → Nat :=
  let c0_i32_21 : BitVec 32 := 0#32
  ![v13.toNat, 0]

def k0_chk5 (v13 : BitVec 32) : Prop :=
  (∀ a, (k0_off18 v13) a + S1x1024.size a ≤ S25088x1024.size a)
theorem k0_off18_inb : ∀ (v13 : BitVec 32) (k0_hw5 : k0_chk5 v13), ∀ a, (k0_off18 v13) a + S1x1024.size a ≤ S25088x1024.size a := fun v13 k0_hw5 => k0_hw5

def k0_off19 (k0_t6 : Fin k0_t6_loop.trips) : Fin 2 → Nat :=
  let c8064_i32 : BitVec 32 := 8064#32
  let c0_i32_10 : BitVec 32 := 0#32
  let c1_i32_11 : BitVec 32 := 1#32
  let arg10 : BitVec 32 := Scf.iv c0_i32_10 c1_i32_11 k0_t6
  let v10 : BitVec 32 := Scalar.addi c8064_i32 arg10
  let c0_i32_22 : BitVec 32 := 0#32
  ![v10.toNat, 0]
def k0_off20 (k0_t6 : Fin k0_t6_loop.trips) : Fin 1 → Nat :=
  let c8448_i32 : BitVec 32 := 8448#32
  let c8064_i32_23 : BitVec 32 := 8064#32
  let c0_i32_10 : BitVec 32 := 0#32
  let c1_i32_11 : BitVec 32 := 1#32
  let arg10 : BitVec 32 := Scf.iv c0_i32_10 c1_i32_11 k0_t6
  let v16 : BitVec 32 := Scalar.addi c8064_i32_23 arg10
  let v17 : BitVec 32 := Scalar.addi c8448_i32 v16
  let v18 : Index := Scalar.indexCast v17
  ![v18.toNat]
def k0_off21 (v19 : BitVec 32) : Fin 2 → Nat :=
  let c0_i32_24 : BitVec 32 := 0#32
  ![v19.toNat, 0]

def k0_chk6 (v19 : BitVec 32) : Prop :=
  (∀ a, (k0_off21 v19) a + S1x1024.size a ≤ S25088x1024.size a)
theorem k0_off21_inb : ∀ (v19 : BitVec 32) (k0_hw6 : k0_chk6 v19), ∀ a, (k0_off21 v19) a + S1x1024.size a ≤ S25088x1024.size a := fun v19 k0_hw6 => k0_hw6

def k0_off22 (k0_t6 : Fin k0_t6_loop.trips) : Fin 2 → Nat :=
  let c8064_i32_23 : BitVec 32 := 8064#32
  let c0_i32_10 : BitVec 32 := 0#32
  let c1_i32_11 : BitVec 32 := 1#32
  let arg10 : BitVec 32 := Scf.iv c0_i32_10 c1_i32_11 k0_t6
  let v16 : BitVec 32 := Scalar.addi c8064_i32_23 arg10
  let c0_i32_25 : BitVec 32 := 0#32
  ![v16.toNat, 0]
@[reducible] def k0_t7_loop : Scf.Loop 32 :=
  let c0_i32_13 : BitVec 32 := 0#32
  let c2_i32 : BitVec 32 := 2#32
  let v8 : BitVec 32 := Scalar.addi c0_i32_13 c2_i32
  let c1_i32_14 : BitVec 32 := 1#32
  ⟨c0_i32_13, v8, c1_i32_14⟩
@[reducible] def k0_t8_loop : Scf.Loop 32 :=
  let c0_i32_20 : BitVec 32 := 0#32
  let c128_i32_21 : BitVec 32 := 128#32
  let v10 : BitVec 32 := Scalar.addi c0_i32_20 c128_i32_21
  let c1_i32_22 : BitVec 32 := 1#32
  ⟨c0_i32_20, v10, c1_i32_22⟩
def k0_off23 (k0_t7 : Fin k0_t7_loop.trips) (k0_t8 : Fin k0_t8_loop.trips) : Fin 1 → Nat :=
  let c8192_i32 : BitVec 32 := 8192#32
  let c0_i32_13 : BitVec 32 := 0#32
  let c1_i32_14 : BitVec 32 := 1#32
  let arg10 : BitVec 32 := Scf.iv c0_i32_13 c1_i32_14 k0_t7
  let c128_i32_26 : BitVec 32 := 128#32
  let v14 : BitVec 32 := Scalar.muli arg10 c128_i32_26
  let c0_i32_20 : BitVec 32 := 0#32
  let c1_i32_22 : BitVec 32 := 1#32
  let arg11 : BitVec 32 := Scf.iv c0_i32_20 c1_i32_22 k0_t8
  let v15 : BitVec 32 := Scalar.addi v14 arg11
  let v16 : BitVec 32 := Scalar.addi c8192_i32 v15
  let v17 : Index := Scalar.indexCast v16
  ![v17.toNat]
def k0_off24 (v18 : BitVec 32) : Fin 2 → Nat :=
  let c0_i32_27 : BitVec 32 := 0#32
  ![v18.toNat, 0]

def k0_chk7 (v18 : BitVec 32) : Prop :=
  (∀ a, (k0_off24 v18) a + S1x1024.size a ≤ S25088x1024.size a)
theorem k0_off24_inb : ∀ (v18 : BitVec 32) (k0_hw7 : k0_chk7 v18), ∀ a, (k0_off24 v18) a + S1x1024.size a ≤ S25088x1024.size a := fun v18 k0_hw7 => k0_hw7

def k0_off25 (k0_t7 : Fin k0_t7_loop.trips) (k0_t8 : Fin k0_t8_loop.trips) : Fin 2 → Nat :=
  let c0_i32_13 : BitVec 32 := 0#32
  let c1_i32_14 : BitVec 32 := 1#32
  let arg10 : BitVec 32 := Scf.iv c0_i32_13 c1_i32_14 k0_t7
  let c128_i32_26 : BitVec 32 := 128#32
  let v14 : BitVec 32 := Scalar.muli arg10 c128_i32_26
  let c0_i32_20 : BitVec 32 := 0#32
  let c1_i32_22 : BitVec 32 := 1#32
  let arg11 : BitVec 32 := Scf.iv c0_i32_20 c1_i32_22 k0_t8
  let v15 : BitVec 32 := Scalar.addi v14 arg11
  let c0_i32_28 : BitVec 32 := 0#32
  ![v15.toNat, 0]
def k0_off26 (k0_t7 : Fin k0_t7_loop.trips) (k0_t8 : Fin k0_t8_loop.trips) : Fin 1 → Nat :=
  let c16640_i32 : BitVec 32 := 16640#32
  let c0_i32_13 : BitVec 32 := 0#32
  let c1_i32_14 : BitVec 32 := 1#32
  let arg10 : BitVec 32 := Scf.iv c0_i32_13 c1_i32_14 k0_t7
  let c128_i32_29 : BitVec 32 := 128#32
  let v21 : BitVec 32 := Scalar.muli arg10 c128_i32_29
  let c0_i32_20 : BitVec 32 := 0#32
  let c1_i32_22 : BitVec 32 := 1#32
  let arg11 : BitVec 32 := Scf.iv c0_i32_20 c1_i32_22 k0_t8
  let v22 : BitVec 32 := Scalar.addi v21 arg11
  let v23 : BitVec 32 := Scalar.addi c16640_i32 v22
  let v24 : Index := Scalar.indexCast v23
  ![v24.toNat]
def k0_off27 (v25 : BitVec 32) : Fin 2 → Nat :=
  let c0_i32_30 : BitVec 32 := 0#32
  ![v25.toNat, 0]

def k0_chk8 (v25 : BitVec 32) : Prop :=
  (∀ a, (k0_off27 v25) a + S1x1024.size a ≤ S25088x1024.size a)
theorem k0_off27_inb : ∀ (v25 : BitVec 32) (k0_hw8 : k0_chk8 v25), ∀ a, (k0_off27 v25) a + S1x1024.size a ≤ S25088x1024.size a := fun v25 k0_hw8 => k0_hw8

def k0_off28 (k0_t7 : Fin k0_t7_loop.trips) (k0_t8 : Fin k0_t8_loop.trips) : Fin 2 → Nat :=
  let c0_i32_13 : BitVec 32 := 0#32
  let c1_i32_14 : BitVec 32 := 1#32
  let arg10 : BitVec 32 := Scf.iv c0_i32_13 c1_i32_14 k0_t7
  let c128_i32_29 : BitVec 32 := 128#32
  let v21 : BitVec 32 := Scalar.muli arg10 c128_i32_29
  let c0_i32_20 : BitVec 32 := 0#32
  let c1_i32_22 : BitVec 32 := 1#32
  let arg11 : BitVec 32 := Scf.iv c0_i32_20 c1_i32_22 k0_t8
  let v22 : BitVec 32 := Scalar.addi v21 arg11
  let c0_i32_31 : BitVec 32 := 0#32
  ![v22.toNat, 0]
def k0_cond4 (k0_t7 : Fin k0_t7_loop.trips) : BitVec 1 :=
  let c0_i32_13 : BitVec 32 := 0#32
  let c1_i32_14 : BitVec 32 := 1#32
  let arg10 : BitVec 32 := Scf.iv c0_i32_13 c1_i32_14 k0_t7
  let c0_i32_24 : BitVec 32 := 0#32
  let v11 : BitVec 1 := Scalar.cmpi .sgt arg10 c0_i32_24
  let v12 : BitVec 32 := Scalar.extui v11
  let c0_i32_25 : BitVec 32 := 0#32
  let v13 : BitVec 1 := Scalar.cmpi .ne v12 c0_i32_25
  v13

@[reducible] def k0_t9_loop : Scf.Loop 32 :=
  let c0_i32_27 : BitVec 32 := 0#32
  let c128_i32_28 : BitVec 32 := 128#32
  let v15 : BitVec 32 := Scalar.addi c0_i32_27 c128_i32_28
  let c1_i32_29 : BitVec 32 := 1#32
  ⟨c0_i32_27, v15, c1_i32_29⟩
def k0_off29 (k0_t7 : Fin k0_t7_loop.trips) (k0_t9 : Fin k0_t9_loop.trips) : Fin 1 → Nat :=
  let c8192_i32 : BitVec 32 := 8192#32
  let c0_i32_13 : BitVec 32 := 0#32
  let c1_i32_14 : BitVec 32 := 1#32
  let arg10 : BitVec 32 := Scf.iv c0_i32_13 c1_i32_14 k0_t7
  let c1_i32_26 : BitVec 32 := 1#32
  let v14 : BitVec 32 := Scalar.subi arg10 c1_i32_26
  let c128_i32_31 : BitVec 32 := 128#32
  let v16 : BitVec 32 := Scalar.muli v14 c128_i32_31
  let c0_i32_27 : BitVec 32 := 0#32
  let c1_i32_29 : BitVec 32 := 1#32
  let arg11 : BitVec 32 := Scf.iv c0_i32_27 c1_i32_29 k0_t9
  let v17 : BitVec 32 := Scalar.addi v16 arg11
  let v18 : BitVec 32 := Scalar.addi c8192_i32 v17
  let v19 : Index := Scalar.indexCast v18
  ![v19.toNat]
def k0_off30 (v20 : BitVec 32) : Fin 2 → Nat :=
  let c0_i32_32 : BitVec 32 := 0#32
  ![v20.toNat, 0]

def k0_chk9 (k0_t7 : Fin k0_t7_loop.trips) (v20 : BitVec 32) : Prop :=
  (∀ (k0_h4 : k0_cond4 k0_t7 = 1#1), ∀ a, (k0_off30 v20) a + S1x1024.size a ≤ S25088x1024.size a)
theorem k0_off30_inb : ∀ (k0_t7 : Fin k0_t7_loop.trips) (v20 : BitVec 32) (k0_hw9 : k0_chk9 k0_t7 v20), ∀ (k0_h4 : k0_cond4 k0_t7 = 1#1), ∀ a, (k0_off30 v20) a + S1x1024.size a ≤ S25088x1024.size a := fun k0_t7 v20 k0_hw9 k0_h4 => k0_hw9 k0_h4

def k0_off31 (k0_t7 : Fin k0_t7_loop.trips) (k0_t9 : Fin k0_t9_loop.trips) : Fin 2 → Nat :=
  let c0_i32_13 : BitVec 32 := 0#32
  let c1_i32_14 : BitVec 32 := 1#32
  let arg10 : BitVec 32 := Scf.iv c0_i32_13 c1_i32_14 k0_t7
  let c1_i32_26 : BitVec 32 := 1#32
  let v14 : BitVec 32 := Scalar.subi arg10 c1_i32_26
  let c128_i32_31 : BitVec 32 := 128#32
  let v16 : BitVec 32 := Scalar.muli v14 c128_i32_31
  let c0_i32_27 : BitVec 32 := 0#32
  let c1_i32_29 : BitVec 32 := 1#32
  let arg11 : BitVec 32 := Scf.iv c0_i32_27 c1_i32_29 k0_t9
  let v17 : BitVec 32 := Scalar.addi v16 arg11
  let c0_i32_33 : BitVec 32 := 0#32
  ![v17.toNat, 0]
def k0_off32 (k0_t7 : Fin k0_t7_loop.trips) (k0_t9 : Fin k0_t9_loop.trips) : Fin 1 → Nat :=
  let c16640_i32 : BitVec 32 := 16640#32
  let c0_i32_13 : BitVec 32 := 0#32
  let c1_i32_14 : BitVec 32 := 1#32
  let arg10 : BitVec 32 := Scf.iv c0_i32_13 c1_i32_14 k0_t7
  let c1_i32_26 : BitVec 32 := 1#32
  let v14 : BitVec 32 := Scalar.subi arg10 c1_i32_26
  let c128_i32_34 : BitVec 32 := 128#32
  let v23 : BitVec 32 := Scalar.muli v14 c128_i32_34
  let c0_i32_27 : BitVec 32 := 0#32
  let c1_i32_29 : BitVec 32 := 1#32
  let arg11 : BitVec 32 := Scf.iv c0_i32_27 c1_i32_29 k0_t9
  let v24 : BitVec 32 := Scalar.addi v23 arg11
  let v25 : BitVec 32 := Scalar.addi c16640_i32 v24
  let v26 : Index := Scalar.indexCast v25
  ![v26.toNat]
def k0_off33 (v27 : BitVec 32) : Fin 2 → Nat :=
  let c0_i32_35 : BitVec 32 := 0#32
  ![v27.toNat, 0]

def k0_chk10 (k0_t7 : Fin k0_t7_loop.trips) (v27 : BitVec 32) : Prop :=
  (∀ (k0_h4 : k0_cond4 k0_t7 = 1#1), ∀ a, (k0_off33 v27) a + S1x1024.size a ≤ S25088x1024.size a)
theorem k0_off33_inb : ∀ (k0_t7 : Fin k0_t7_loop.trips) (v27 : BitVec 32) (k0_hw10 : k0_chk10 k0_t7 v27), ∀ (k0_h4 : k0_cond4 k0_t7 = 1#1), ∀ a, (k0_off33 v27) a + S1x1024.size a ≤ S25088x1024.size a := fun k0_t7 v27 k0_hw10 k0_h4 => k0_hw10 k0_h4

def k0_off34 (k0_t7 : Fin k0_t7_loop.trips) (k0_t9 : Fin k0_t9_loop.trips) : Fin 2 → Nat :=
  let c0_i32_13 : BitVec 32 := 0#32
  let c1_i32_14 : BitVec 32 := 1#32
  let arg10 : BitVec 32 := Scf.iv c0_i32_13 c1_i32_14 k0_t7
  let c1_i32_26 : BitVec 32 := 1#32
  let v14 : BitVec 32 := Scalar.subi arg10 c1_i32_26
  let c128_i32_34 : BitVec 32 := 128#32
  let v23 : BitVec 32 := Scalar.muli v14 c128_i32_34
  let c0_i32_27 : BitVec 32 := 0#32
  let c1_i32_29 : BitVec 32 := 1#32
  let arg11 : BitVec 32 := Scf.iv c0_i32_27 c1_i32_29 k0_t9
  let v24 : BitVec 32 := Scalar.addi v23 arg11
  let c0_i32_36 : BitVec 32 := 0#32
  ![v24.toNat, 0]
@[reducible] def k0_t10_loop : Scf.Loop 32 :=
  let c0_i32_16 : BitVec 32 := 0#32
  let c128_i32_17 : BitVec 32 := 128#32
  let v9 : BitVec 32 := Scalar.addi c0_i32_16 c128_i32_17
  let c1_i32_18 : BitVec 32 := 1#32
  ⟨c0_i32_16, v9, c1_i32_18⟩
def k0_off35 (k0_t10 : Fin k0_t10_loop.trips) : Fin 1 → Nat :=
  let c8192_i32 : BitVec 32 := 8192#32
  let c128_i32_20 : BitVec 32 := 128#32
  let c0_i32_16 : BitVec 32 := 0#32
  let c1_i32_18 : BitVec 32 := 1#32
  let arg10 : BitVec 32 := Scf.iv c0_i32_16 c1_i32_18 k0_t10
  let v10 : BitVec 32 := Scalar.addi c128_i32_20 arg10
  let v11 : BitVec 32 := Scalar.addi c8192_i32 v10
  let v12 : Index := Scalar.indexCast v11
  ![v12.toNat]
def k0_off36 (v13 : BitVec 32) : Fin 2 → Nat :=
  let c0_i32_21 : BitVec 32 := 0#32
  ![v13.toNat, 0]

def k0_chk11 (v13 : BitVec 32) : Prop :=
  (∀ a, (k0_off36 v13) a + S1x1024.size a ≤ S25088x1024.size a)
theorem k0_off36_inb : ∀ (v13 : BitVec 32) (k0_hw11 : k0_chk11 v13), ∀ a, (k0_off36 v13) a + S1x1024.size a ≤ S25088x1024.size a := fun v13 k0_hw11 => k0_hw11

def k0_off37 (k0_t10 : Fin k0_t10_loop.trips) : Fin 2 → Nat :=
  let c128_i32_20 : BitVec 32 := 128#32
  let c0_i32_16 : BitVec 32 := 0#32
  let c1_i32_18 : BitVec 32 := 1#32
  let arg10 : BitVec 32 := Scf.iv c0_i32_16 c1_i32_18 k0_t10
  let v10 : BitVec 32 := Scalar.addi c128_i32_20 arg10
  let c0_i32_22 : BitVec 32 := 0#32
  ![v10.toNat, 0]
def k0_off38 (k0_t10 : Fin k0_t10_loop.trips) : Fin 1 → Nat :=
  let c16640_i32 : BitVec 32 := 16640#32
  let c128_i32_23 : BitVec 32 := 128#32
  let c0_i32_16 : BitVec 32 := 0#32
  let c1_i32_18 : BitVec 32 := 1#32
  let arg10 : BitVec 32 := Scf.iv c0_i32_16 c1_i32_18 k0_t10
  let v16 : BitVec 32 := Scalar.addi c128_i32_23 arg10
  let v17 : BitVec 32 := Scalar.addi c16640_i32 v16
  let v18 : Index := Scalar.indexCast v17
  ![v18.toNat]
def k0_off39 (v19 : BitVec 32) : Fin 2 → Nat :=
  let c0_i32_24 : BitVec 32 := 0#32
  ![v19.toNat, 0]

def k0_chk12 (v19 : BitVec 32) : Prop :=
  (∀ a, (k0_off39 v19) a + S1x1024.size a ≤ S25088x1024.size a)
theorem k0_off39_inb : ∀ (v19 : BitVec 32) (k0_hw12 : k0_chk12 v19), ∀ a, (k0_off39 v19) a + S1x1024.size a ≤ S25088x1024.size a := fun v19 k0_hw12 => k0_hw12

def k0_off40 (k0_t10 : Fin k0_t10_loop.trips) : Fin 2 → Nat :=
  let c128_i32_23 : BitVec 32 := 128#32
  let c0_i32_16 : BitVec 32 := 0#32
  let c1_i32_18 : BitVec 32 := 1#32
  let arg10 : BitVec 32 := Scf.iv c0_i32_16 c1_i32_18 k0_t10
  let v16 : BitVec 32 := Scalar.addi c128_i32_23 arg10
  let c0_i32_25 : BitVec 32 := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference.lean ====
abbrev S16896 : Shape := ⟨1, ![16896]⟩
abbrev S98 : Shape := ⟨1, ![98]⟩
abbrev S8192x1024 : Shape := ⟨2, ![8192, 1024]⟩
abbrev S256x1024 : Shape := ⟨2, ![256, 1024]⟩
abbrev S8448 : Shape := ⟨1, ![8448]⟩
abbrev S1x8448 : Shape := ⟨2, ![1, 8448]⟩
abbrev S2x8448 : Shape := ⟨2, ![2, 8448]⟩
abbrev S_ : Shape := ⟨0, ![]⟩
abbrev S25088 : Shape := ⟨1, ![25088]⟩
abbrev S16896x1 : Shape := ⟨2, ![16896, 1]⟩
abbrev S1x1024 : Shape := ⟨2, ![1, 1024]⟩
abbrev S8449x1024 : Shape := ⟨2, ![8449, 1024]⟩
abbrev S25088x1 : Shape := ⟨2, ![25088, 1]⟩
abbrev S25088x1024 : Shape := ⟨2, ![25088, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16896, .i32⟩
  | .hbm, ⟨1, _⟩ => ⟨S98, .i32⟩
  | .hbm, ⟨2, _⟩ => ⟨S8192x1024, .i32⟩
  | .hbm, ⟨3, _⟩ => ⟨S256x1024, .i32⟩
  | .hbm, ⟨4, _⟩ => ⟨S8448, .i32⟩
  | .hbm, ⟨5, _⟩ => ⟨S1x8448, .i32⟩
  | .hbm, ⟨6, _⟩ => ⟨S2x8448, .i32⟩
  | .hbm, ⟨7, _⟩ => ⟨S16896, .i32⟩
  | .hbm, ⟨8, _⟩ => ⟨S_, .i32⟩
  | .hbm, ⟨9, _⟩ => ⟨S25088, .i32⟩
  | .hbm, ⟨10, _⟩ => ⟨S_, .i32⟩
  | .hbm, ⟨11, _⟩ => ⟨S16896, .i32⟩
  | .hbm, ⟨12, _⟩ => ⟨S16896, .i1⟩
  | .hbm, ⟨13, _⟩ => ⟨S_, .i32⟩
  | .hbm, ⟨14, _⟩ => ⟨S16896, .i32⟩
  | .hbm, ⟨15, _⟩ => ⟨S16896, .i32⟩
  | .hbm, ⟨16, _⟩ => ⟨S16896, .i32⟩
  | .hbm, ⟨17, _⟩ => ⟨S16896x1, .i32⟩
  | .hbm, ⟨18, _⟩ => ⟨S25088, .i32⟩
  | .hbm, ⟨19, _⟩ => ⟨S_, .i32⟩
  | .hbm, ⟨20, _⟩ => ⟨S1x1024, .i32⟩
  | .hbm, ⟨21, _⟩ => ⟨S8449x1024, .i32⟩
  | .hbm, ⟨22, _⟩ => ⟨S_, .i32⟩
  | .hbm, ⟨23, _⟩ => ⟨S25088, .i32⟩
  | .hbm, ⟨24, _⟩ => ⟨S25088, .i1⟩
  | .hbm, ⟨25, _⟩ => ⟨S_, .i32⟩
  | .hbm, ⟨26, _⟩ => ⟨S25088, .i32⟩
  | .hbm, ⟨27, _⟩ => ⟨S25088, .i32⟩
  | .hbm, ⟨28, _⟩ => ⟨S25088, .i32⟩
  | .hbm, ⟨29, _⟩ => ⟨S25088x1, .i32⟩
  | .hbm, ⟨30, _⟩ => ⟨S25088x1024, .i32⟩
  | _, _ => ⟨S16896, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel2.lean ====
abbrev S2x4096x2048 : Shape := ⟨3, ![2, 4096, 2048]⟩
abbrev S1x2048 : Shape := ⟨2, ![1, 2048]⟩
abbrev S1x2048x5128 : Shape := ⟨3, ![1, 2048, 5128]⟩
abbrev S1x8 : Shape := ⟨2, ![1, 8]⟩
abbrev S1x128 : Shape := ⟨2, ![1, 128]⟩
abbrev S2048x5128 : Shape := ⟨2, ![2048, 5128]⟩
abbrev S2048x1024 : Shape := ⟨2, ![2048, 1024]⟩
abbrev S8192x2048 : Shape := ⟨2, ![8192, 2048]⟩
abbrev S2048 : Shape := ⟨1, ![2048]⟩
abbrev S2048x8 : Shape := ⟨2, ![2048, 8]⟩
abbrev S_ : Shape := ⟨0, ![]⟩
abbrev S2048x128 : Shape := ⟨2, ![2048, 128]⟩
abbrev S8 : Shape := ⟨1, ![8]⟩
abbrev S128 : Shape := ⟨1, ![128]⟩
abbrev S8192x1024 : Shape := ⟨2, ![8192, 1024]⟩
abbrev S1024x8192 : Shape := ⟨2, ![1024, 8192]⟩
abbrev S8192x8 : Shape := ⟨2, ![8192, 8]⟩
abbrev S512x2048 : Shape := ⟨2, ![512, 2048]⟩
abbrev S512x1024 : Shape := ⟨2, ![512, 1024]⟩
abbrev S1024x512 : Shape := ⟨2, ![1024, 512]⟩
abbrev S512x8 : Shape := ⟨2, ![512, 8]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S512x128 : Shape := ⟨2, ![512, 128]⟩
abbrev S256x512 : Shape := ⟨2, ![256, 512]⟩

abbrev nBuf : Space → Nat
  | .hbm => 42
  | .vmem => 28
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5128, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S2048x5128, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S8192x2048, .f32⟩
  | .hbm, ⟨18, _⟩ => ⟨S2048, .f32⟩
  | .hbm, ⟨19, _⟩ => ⟨S1x2048, .f32⟩
  | .hbm, ⟨20, _⟩ => ⟨S2048x8, .f32⟩
  | .hbm, ⟨21, _⟩ => ⟨S_, .i32⟩
  | .hbm, ⟨22, _⟩ => ⟨S_, .f32⟩
  | .hbm, ⟨23, _⟩ => ⟨S2048x128, .f32⟩
  | .hbm, ⟨24, _⟩ => ⟨S2048x128, .bf16⟩
  | .hbm, ⟨25, _⟩ => ⟨S8, .f32⟩
  | .hbm, ⟨26, _⟩ => ⟨S1x8, .f32⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S8192x1024, .f32⟩
  | .hbm, ⟨35, _⟩ => ⟨S8192x1024, .bf16⟩
  | .hbm, ⟨36, _⟩ => ⟨S8192x1024, .f32⟩
  | .hbm, ⟨37, _⟩ => ⟨S8192x1024, .bf16⟩
  | .hbm, ⟨38, _⟩ => ⟨S8192x1024, .f32⟩
  | .hbm, ⟨39, _⟩ => ⟨S8192x1024, .bf16⟩
  | .hbm, ⟨40, _⟩ => ⟨S1024x8192, .bf16⟩
  | .hbm, ⟨41, _⟩ => ⟨S8192x8, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1024x512, .bf16⟩
  | .local _ .vmem, ⟨25, _⟩ => ⟨S1024x512, .bf16⟩
  | .local _ .vmem, ⟨26, _⟩ => ⟨S512x8, .f32⟩
  | .local _ .vmem, ⟨27, _⟩ => ⟨S512x8, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev main_v24_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x8 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S2x4096x2048 : Shape := ⟨3, ![2, 4096, 2048]⟩
abbrev S1x2048 : Shape := ⟨2, ![1, 2048]⟩
abbrev S1x2048x5128 : Shape := ⟨3, ![1, 2048, 5128]⟩
abbrev S1x8 : Shape := ⟨2, ![1, 8]⟩
abbrev S1x128 : Shape := ⟨2, ![1, 128]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5128 : Shape := ⟨2, ![2048, 5128]⟩
abbrev S2x4096x5128 : Shape := ⟨3, ![2, 4096, 5128]⟩
abbrev S2x4096x1024 : Shape := ⟨3, ![2, 4096, 1024]⟩
abbrev S2x4096x8 : Shape := ⟨3, ![2, 4096, 8]⟩
abbrev S2x4096x8x128 : Shape := ⟨4, ![2, 4096, 8, 128]⟩
abbrev S128 : Shape := ⟨1, ![128]⟩
abbrev S2x4096x8x1 : Shape := ⟨4, ![2, 4096, 8, 1]⟩
abbrev S1x1x1x128 : Shape := ⟨4, ![1, 1, 1, 128]⟩
abbrev S8 : Shape := ⟨1, ![8]⟩
abbrev S1x1x8 : Shape := ⟨3, ![1, 1, 8]⟩
abbrev S8192x1024 : Shape := ⟨2, ![8192, 1024]⟩
abbrev S1024x8192 : Shape := ⟨2, ![1024, 8192]⟩
abbrev S8192x8 : Shape := ⟨2, ![8192, 8]⟩

abbrev nBuf : Space → Nat
  | .hbm => 114
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5128, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2048x5128, .f32⟩
  | .hbm, ⟨24, _⟩ => ⟨S2x4096x5128, .f32⟩
  | .hbm, ⟨25, _⟩ => ⟨S2x4096x2048, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x8, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S_, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x8x128, .f32⟩
  | .hbm, ⟨42, _⟩ => ⟨S128, .f32⟩
  | .hbm, ⟨43, _⟩ => ⟨S2x4096x8x128, .f32⟩
  | .hbm, ⟨44, _⟩ => ⟨S_, .f32⟩
  | .hbm, ⟨45, _⟩ => ⟨S2x4096x8, .f32⟩
  | .hbm, ⟨46, _⟩ => ⟨S2x4096x8x1, .f32⟩
  | .hbm, ⟨47, _⟩ => ⟨S_, .f32⟩
  | .hbm, ⟨48, _⟩ => ⟨S2x4096x8x1, .f32⟩
  | .hbm, ⟨49, _⟩ => ⟨S2x4096x8x1, .f32⟩
  | .hbm, ⟨50, _⟩ => ⟨S_, .f32⟩
  | .hbm, ⟨51, _⟩ => ⟨S2x4096x8x1, .f32⟩
  | .hbm, ⟨52, _⟩ => ⟨S2x4096x8x1, .f32⟩
  | .hbm, ⟨53, _⟩ => ⟨S2x4096x8x1, .f32⟩
  | .hbm, ⟨54, _⟩ => ⟨S2x4096x8x128, .f32⟩
  | .hbm, ⟨55, _⟩ => ⟨S2x4096x8x128, .f32⟩
  | .hbm, ⟨56, _⟩ => ⟨S1x1x1x128, .f32⟩
  | .hbm, ⟨57, _⟩ => ⟨S2x4096x8x128, .f32⟩
  | .hbm, ⟨58, _⟩ => ⟨S2x4096x8x128, .f32⟩
  | .hbm, ⟨59, _⟩ => ⟨S2x4096x8x128, .f32⟩
  | .hbm, ⟨60, _⟩ => ⟨S128, .f32⟩
  | .hbm, ⟨61, _⟩ => ⟨S2x4096x8x128, .f32⟩
  | .hbm, ⟨62, _⟩ => ⟨S_, .f32⟩
  | .hbm, ⟨63, _⟩ => ⟨S2x4096x8, .f32⟩
  | .hbm, ⟨64, _⟩ => ⟨S2x4096x8x1, .f32⟩
  | .hbm, ⟨65, _⟩ => ⟨S_, .f32⟩
  | .hbm, ⟨66, _⟩ => ⟨S2x4096x8x1, .f32⟩
  | .hbm, ⟨67, _⟩ => ⟨S2x4096x8x1, .f32⟩
  | .hbm, ⟨68, _⟩ => ⟨S_, .f32⟩
  | .hbm, ⟨69, _⟩ => ⟨S2x4096x8x1, .f32⟩
  | .hbm, ⟨70, _⟩ => ⟨S2x4096x8x1, .f32⟩
  | .hbm, ⟨71, _⟩ => ⟨S2x4096x8x1, .f32⟩
  | .hbm, ⟨72, _⟩ => ⟨S2x4096x8x128, .f32⟩
  | .hbm, ⟨73, _⟩ => ⟨S2x4096x8x128, .f32⟩
  | .hbm, ⟨74, _⟩ => ⟨S1x1x1x128, .f32⟩
  | .hbm, ⟨75, _⟩ => ⟨S2x4096x8x128, .f32⟩
  | .hbm, ⟨76, _⟩ => ⟨S2x4096x8x128, .f32⟩
  | .hbm, ⟨77, _⟩ => ⟨S2x4096x8x128, .f32⟩
  | .hbm, ⟨78, _⟩ => ⟨S8, .f32⟩
  | .hbm, ⟨79, _⟩ => ⟨S1x1x8, .f32⟩
  | .hbm, ⟨80, _⟩ => ⟨S2x4096x8, .f32⟩
  | .hbm, ⟨81, _⟩ => ⟨S2x4096x8, .f32⟩
  | .hbm, ⟨82, _⟩ => ⟨S2x4096x8, .f32⟩
  | .hbm, ⟨83, _⟩ => ⟨S_, .f32⟩
  | .hbm, ⟨84, _⟩ => ⟨S2x4096x8, .f32⟩
  | .hbm, ⟨85, _⟩ => ⟨S2x4096x8, .f32⟩
  | .hbm, ⟨86, _⟩ => ⟨S2x4096x8, .f32⟩
  | .hbm, ⟨87, _⟩ => ⟨S2x4096x8, .f32⟩
  | .hbm, ⟨88, _⟩ => ⟨S2x4096x8, .i1⟩
  | .hbm, ⟨89, _⟩ => ⟨S2x4096x8, .f32⟩
  | .hbm, ⟨90, _⟩ => ⟨S2x4096x8, .f32⟩
  | .hbm, ⟨91, _⟩ => ⟨S2x4096x8, .f32⟩
  | .hbm, ⟨92, _⟩ => ⟨S2x4096x8, .f32⟩
  | .hbm, ⟨93, _⟩ => ⟨S2x4096x8, .f32⟩
  | .hbm, ⟨94, _⟩ => ⟨S2x4096x8, .f32⟩
  | .hbm, ⟨95, _⟩ => ⟨S2x4096x8, .f32⟩
  | .hbm, ⟨96, _⟩ => ⟨S2x4096x8, .f32⟩
  | .hbm, ⟨97, _⟩ => ⟨S2x4096x8, .f32⟩
  | .hbm, ⟨98, _⟩ => ⟨S8192x1024, .f32⟩
  | .hbm, ⟨99, _⟩ => ⟨S_, .f32⟩
  | .hbm, ⟨100, _⟩ => ⟨S2x4096x8x128, .f32⟩
  | .hbm, ⟨101, _⟩ => ⟨S2x4096x8x128, .f32⟩
  | .hbm, ⟨102, _⟩ => ⟨S8192x1024, .f32⟩
  | .hbm, ⟨103, _⟩ => ⟨S8192x1024, .bf16⟩
  | .hbm, ⟨104, _⟩ => ⟨S8192x1024, .f32⟩
  | .hbm, ⟨105, _⟩ => ⟨S8192x1024, .f32⟩
  | .hbm, ⟨106, _⟩ => ⟨S8192x1024, .bf16⟩
  | .hbm, ⟨107, _⟩ => ⟨S8192x1024, .f32⟩
  | .hbm, ⟨108, _⟩ => ⟨S8192x1024, .f32⟩
  | .hbm, ⟨109, _⟩ => ⟨S8192x1024, .bf16⟩
  | .hbm, ⟨110, _⟩ => ⟨S8192x1024, .f32⟩
  | .hbm, ⟨111, _⟩ => ⟨S1024x8192, .f32⟩
  | .hbm, ⟨112, _⟩ => ⟨S1024x8192, .bf16⟩
  | .hbm, ⟨113, _⟩ => ⟨S8192x8, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_call0_v0 : Ref sig .tc := ⟨.hbm, 82, rfl⟩
abbrev main_call0_call0_cst : Ref sig .tc := ⟨.hbm, 83, rfl⟩
abbrev main_call0_call0_v0 : Ref sig .tc := ⟨.hbm, 84, rfl⟩
abbrev main_call0_call0_v1 : Ref sig .tc := ⟨.hbm, 85, rfl⟩
abbrev main_call0_call0_v2 : Ref sig .tc := ⟨.hbm, 86, rfl⟩
abbrev main_call0_call0_v3 : Ref sig .tc := ⟨.hbm, 87, rfl⟩
abbrev main_call0_call0_v4 : Ref sig .tc := ⟨.hbm, 88, rfl⟩
abbrev main_call0_call0_v5 : Ref sig .tc := ⟨.hbm, 89, rfl⟩
abbrev main_call0_call0_v6 : Ref sig .tc := ⟨.hbm, 90, rfl⟩
abbrev main_call0_call0_v7 : Ref sig .tc := ⟨.hbm, 91, rfl⟩
abbrev main_call0_call0_v8 : Ref sig .tc := ⟨.hbm, 92, rfl⟩
abbrev main_call0_call0_v9 : Ref sig .tc := ⟨.hbm, 93, rfl⟩
abbrev main_call0_call0_v10 : Ref sig .tc := ⟨.hbm, 94, rfl⟩
abbrev main_call0_call0_v11 : Ref sig .tc := ⟨.hbm, 95, rfl⟩
abbrev main_call0_v1 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== Kernel3.lean ====
abbrev S8x32x2048 : Shape := ⟨3, ![8, 32, 2048]⟩
abbrev S1x2048 : Shape := ⟨2, ![1, 2048]⟩
abbrev S1x2048x5128 : Shape := ⟨3, ![1, 2048, 5128]⟩
abbrev S1x8 : Shape := ⟨2, ![1, 8]⟩
abbrev S1x128 : Shape := ⟨2, ![1, 128]⟩
abbrev S2048x5128 : Shape := ⟨2, ![2048, 5128]⟩
abbrev S2048x1024 : Shape := ⟨2, ![2048, 1024]⟩
abbrev S256x2048 : Shape := ⟨2, ![256, 2048]⟩
abbrev S2048 : Shape := ⟨1, ![2048]⟩
abbrev S2048x8 : Shape := ⟨2, ![2048, 8]⟩
abbrev S_ : Shape := ⟨0, ![]⟩
abbrev S2048x128 : Shape := ⟨2, ![2048, 128]⟩
abbrev S8 : Shape := ⟨1, ![8]⟩
abbrev S128 : Shape := ⟨1, ![128]⟩
abbrev S256x1024 : Shape := ⟨2, ![256, 1024]⟩
abbrev S1024x256 : Shape := ⟨2, ![1024, 256]⟩
abbrev S256x8 : Shape := ⟨2, ![256, 8]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩
abbrev S256x128 : Shape := ⟨2, ![256, 128]⟩

abbrev nBuf : Space → Nat
  | .hbm => 42
  | .vmem => 19
  | .smem => 0
  | _ => 0

abbrev bufTy : (tb : Table) → Fin (tcTables nBuf tb) → BufTy
  | .hbm, ⟨0, _⟩ => ⟨S8x32x2048, .f32⟩
  | .hbm, ⟨1, _⟩ => ⟨S1x2048, .f32⟩
  | .hbm, ⟨2, _⟩ => ⟨S1x2048x5128, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S2048x5128, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S256x2048, .f32⟩
  | .hbm, ⟨18, _⟩ => ⟨S2048, .f32⟩
  | .hbm, ⟨19, _⟩ => ⟨S1x2048, .f32⟩
  | .hbm, ⟨20, _⟩ => ⟨S2048x8, .f32⟩
  | .hbm, ⟨21, _⟩ => ⟨S_, .i32⟩
  | .hbm, ⟨22, _⟩ => ⟨S_, .f32⟩
  | .hbm, ⟨23, _⟩ => ⟨S2048x128, .f32⟩
  | .hbm, ⟨24, _⟩ => ⟨S2048x128, .bf16⟩
  | .hbm, ⟨25, _⟩ => ⟨S8, .f32⟩
  | .hbm, ⟨26, _⟩ => ⟨S1x8, .f32⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S256x1024, .f32⟩
  | .hbm, ⟨35, _⟩ => ⟨S256x1024, .bf16⟩
  | .hbm, ⟨36, _⟩ => ⟨S256x1024, .f32⟩
  | .hbm, ⟨37, _⟩ => ⟨S256x1024, .bf16⟩
  | .hbm, ⟨38, _⟩ => ⟨S256x1024, .f32⟩
  | .hbm, ⟨39, _⟩ => ⟨S256x1024, .bf16⟩
  | .hbm, ⟨40, _⟩ => ⟨S1024x256, .bf16⟩
  | .hbm, ⟨41, _⟩ => ⟨S256x8, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S256x1024, .f32⟩
  | .local _ .vmem, ⟨12, _⟩ => ⟨S256x1024, .bf16⟩
  | .local _ .vmem, ⟨13, _⟩ => ⟨S256x1024, .f32⟩
  | .local _ .vmem, ⟨14, _⟩ => ⟨S256x1024, .bf16⟩
  | .local _ .vmem, ⟨15, _⟩ => ⟨S256x1024, .f32⟩
  | .local _ .vmem, ⟨16, _⟩ => ⟨S256x1024, .bf16⟩
  | .local _ .vmem, ⟨17, _⟩ => ⟨S1024x256, .bf16⟩
  | .local _ .vmem, ⟨18, _⟩ => ⟨S256x8, .f32⟩
  | _, _ => ⟨S8x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev main_v24_7 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference3Ideal.lean ====
abbrev S8x32x2048 : Shape := ⟨3, ![8, 32, 2048]⟩
abbrev S1x2048 : Shape := ⟨2, ![1, 2048]⟩
abbrev S1x2048x5128 : Shape := ⟨3, ![1, 2048, 5128]⟩
abbrev S1x8 : Shape := ⟨2, ![1, 8]⟩
abbrev S1x128 : Shape := ⟨2, ![1, 128]⟩
abbrev S2048 : Shape := ⟨1, ![2048]⟩
abbrev S_ : Shape := ⟨0, ![]⟩
abbrev S8x32 : Shape := ⟨2, ![8, 32]⟩
abbrev S8x32x1 : Shape := ⟨3, ![8, 32, 1]⟩
abbrev S1x1x2048 : Shape := ⟨3, ![1, 1, 2048]⟩
abbrev S2048x5128 : Shape := ⟨2, ![2048, 5128]⟩
abbrev S8x32x5128 : Shape := ⟨3, ![8, 32, 5128]⟩
abbrev S8x32x1024 : Shape := ⟨3, ![8, 32, 1024]⟩
abbrev S8x32x8 : Shape := ⟨3, ![8, 32, 8]⟩
abbrev S8x32x8x128 : Shape := ⟨4, ![8, 32, 8, 128]⟩
abbrev S128 : Shape := ⟨1, ![128]⟩
abbrev S8x32x8x1 : Shape := ⟨4, ![8, 32, 8, 1]⟩
abbrev S1x1x1x128 : Shape := ⟨4, ![1, 1, 1, 128]⟩
abbrev S8 : Shape := ⟨1, ![8]⟩
abbrev S1x1x8 : Shape := ⟨3, ![1, 1, 8]⟩
abbrev S256x1024 : Shape := ⟨2, ![256, 1024]⟩
abbrev S1024x256 : Shape := ⟨2, ![1024, 256]⟩
abbrev S256x8 : Shape := ⟨2, ![256, 8]⟩

abbrev nBuf : Space → Nat
  | .hbm => 114
  | .vmem => 0
  | .smem => 0
  | _ => 0

abbrev bufTy : (tb : Table) → Fin (tcTables nBuf tb) → BufTy
  | .hbm, ⟨0, _⟩ => ⟨S8x32x2048, .f32⟩
  | .hbm, ⟨1, _⟩ => ⟨S1x2048, .f32⟩
  | .hbm, ⟨2, _⟩ => ⟨S1x2048x5128, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S2048, .f32⟩
  | .hbm, ⟨7, _⟩ => ⟨S8x32x2048, .f32⟩
  | .hbm, ⟨8, _⟩ => ⟨S_, .f32⟩
  | .hbm, ⟨9, _⟩ => ⟨S8x32, .f32⟩
  | .hbm, ⟨10, _⟩ => ⟨S8x32x1, .f32⟩
  | .hbm, ⟨11, _⟩ => ⟨S_, .f32⟩
  | .hbm, ⟨12, _⟩ => ⟨S8x32x1, .f32⟩
  | .hbm, ⟨13, _⟩ => ⟨S8x32x1, .f32⟩
  | .hbm, ⟨14, _⟩ => ⟨S_, .f32⟩
  | .hbm, ⟨15, _⟩ => ⟨S8x32x1, .f32⟩
  | .hbm, ⟨16, _⟩ => ⟨S8x32x1, .f32⟩
  | .hbm, ⟨17, _⟩ => ⟨S8x32x1, .f32⟩
  | .hbm, ⟨18, _⟩ => ⟨S8x32x2048, .f32⟩
  | .hbm, ⟨19, _⟩ => ⟨S8x32x2048, .f32⟩
  | .hbm, ⟨20, _⟩ => ⟨S1x1x2048, .f32⟩
  | .hbm, ⟨21, _⟩ => ⟨S8x32x2048, .f32⟩
  | .hbm, ⟨22, _⟩ => ⟨S8x32x2048, .f32⟩
  | .hbm, ⟨23, _⟩ => ⟨S2048x5128, .f32⟩
  | .hbm, ⟨24, _⟩ => ⟨S8x32x5128, .f32⟩
  | .hbm, ⟨25, _⟩ => ⟨S8x32x2048, .f32⟩
  | .hbm, ⟨26, _⟩ => ⟨S8x32x1024, .f32⟩
  | .hbm, ⟨27, _⟩ => ⟨S8x32x1024, .f32⟩
  | .hbm, ⟨28, _⟩ => ⟨S8x32x1024, .f32⟩
  | .hbm, ⟨29, _⟩ => ⟨S8x32x8, .f32⟩
  | .hbm, ⟨30, _⟩ => ⟨S8x32x1024, .f32⟩
  | .hbm, ⟨31, _⟩ => ⟨S8x32x1024, .f32⟩
  | .hbm, ⟨32, _⟩ => ⟨S8x32x1024, .f32⟩
  | .hbm, ⟨33, _⟩ => ⟨S8x32x1024, .f32⟩
  | .hbm, ⟨34, _⟩ => ⟨S_, .f32⟩
  | .hbm, ⟨35, _⟩ => ⟨S8x32x1024, .f32⟩
  | .hbm, ⟨36, _⟩ => ⟨S8x32x1024, .f32⟩
  | .hbm, ⟨37, _⟩ => ⟨S_, .f32⟩
  | .hbm, ⟨38, _⟩ => ⟨S8x32x1024, .f32⟩
  | .hbm, ⟨39, _⟩ => ⟨S8x32x1024, .f32⟩
  | .hbm, ⟨40, _⟩ => ⟨S8x32x1024, .f32⟩
  | .hbm, ⟨41, _⟩ => ⟨S8x32x8x128, .f32⟩
  | .hbm, ⟨42, _⟩ => ⟨S128, .f32⟩
  | .hbm, ⟨43, _⟩ => ⟨S8x32x8x128, .f32⟩
  | .hbm, ⟨44, _⟩ => ⟨S_, .f32⟩
  | .hbm, ⟨45, _⟩ => ⟨S8x32x8, .f32⟩
  | .hbm, ⟨46, _⟩ => ⟨S8x32x8x1, .f32⟩
  | .hbm, ⟨47, _⟩ => ⟨S_, .f32⟩
  | .hbm, ⟨48, _⟩ => ⟨S8x32x8x1, .f32⟩
  | .hbm, ⟨49, _⟩ => ⟨S8x32x8x1, .f32⟩
  | .hbm, ⟨50, _⟩ => ⟨S_, .f32⟩
  | .hbm, ⟨51, _⟩ => ⟨S8x32x8x1, .f32⟩
  | .hbm, ⟨52, _⟩ => ⟨S8x32x8x1, .f32⟩
  | .hbm, ⟨53, _⟩ => ⟨S8x32x8x1, .f32⟩
  | .hbm, ⟨54, _⟩ => ⟨S8x32x8x128, .f32⟩
  | .hbm, ⟨55, _⟩ => ⟨S8x32x8x128, .f32⟩
  | .hbm, ⟨56, _⟩ => ⟨S1x1x1x128, .f32⟩
  | .hbm, ⟨57, _⟩ => ⟨S8x32x8x128, .f32⟩
  | .hbm, ⟨58, _⟩ => ⟨S8x32x8x128, .f32⟩
  | .hbm, ⟨59, _⟩ => ⟨S8x32x8x128, .f32⟩
  | .hbm, ⟨60, _⟩ => ⟨S128, .f32⟩
  | .hbm, ⟨61, _⟩ => ⟨S8x32x8x128, .f32⟩
  | .hbm, ⟨62, _⟩ => ⟨S_, .f32⟩
  | .hbm, ⟨63, _⟩ => ⟨S8x32x8, .f32⟩
  | .hbm, ⟨64, _⟩ => ⟨S8x32x8x1, .f32⟩
  | .hbm, ⟨65, _⟩ => ⟨S_, .f32⟩
  | .hbm, ⟨66, _⟩ => ⟨S8x32x8x1, .f32⟩
  | .hbm, ⟨67, _⟩ => ⟨S8x32x8x1, .f32⟩
  | .hbm, ⟨68, _⟩ => ⟨S_, .f32⟩
  | .hbm, ⟨69, _⟩ => ⟨S8x32x8x1, .f32⟩
  | .hbm, ⟨70, _⟩ => ⟨S8x32x8x1, .f32⟩
  | .hbm, ⟨71, _⟩ => ⟨S8x32x8x1, .f32⟩
  | .hbm, ⟨72, _⟩ => ⟨S8x32x8x128, .f32⟩
  | .hbm, ⟨73, _⟩ => ⟨S8x32x8x128, .f32⟩
  | .hbm, ⟨74, _⟩ => ⟨S1x1x1x128, .f32⟩
  | .hbm, ⟨75, _⟩ => ⟨S8x32x8x128, .f32⟩
  | .hbm, ⟨76, _⟩ => ⟨S8x32x8x128, .f32⟩
  | .hbm, ⟨77, _⟩ => ⟨S8x32x8x128, .f32⟩
  | .hbm, ⟨78, _⟩ => ⟨S8, .f32⟩
  | .hbm, ⟨79, _⟩ => ⟨S1x1x8, .f32⟩
  | .hbm, ⟨80, _⟩ => ⟨S8x32x8, .f32⟩
  | .hbm, ⟨81, _⟩ => ⟨S8x32x8, .f32⟩
  | .hbm, ⟨82, _⟩ => ⟨S8x32x8, .f32⟩
  | .hbm, ⟨83, _⟩ => ⟨S_, .f32⟩
  | .hbm, ⟨84, _⟩ => ⟨S8x32x8, .f32⟩
  | .hbm, ⟨85, _⟩ => ⟨S8x32x8, .f32⟩
  | .hbm, ⟨86, _⟩ => ⟨S8x32x8, .f32⟩
  | .hbm, ⟨87, _⟩ => ⟨S8x32x8, .f32⟩
  | .hbm, ⟨88, _⟩ => ⟨S8x32x8, .i1⟩
  | .hbm, ⟨89, _⟩ => ⟨S8x32x8, .f32⟩
  | .hbm, ⟨90, _⟩ => ⟨S8x32x8, .f32⟩
  | .hbm, ⟨91, _⟩ => ⟨S8x32x8, .f32⟩
  | .hbm, ⟨92, _⟩ => ⟨S8x32x8, .f32⟩
  | .hbm, ⟨93, _⟩ => ⟨S8x32x8, .f32⟩
  | .hbm, ⟨94, _⟩ => ⟨S8x32x8, .f32⟩
  | .hbm, ⟨95, _⟩ => ⟨S8x32x8, .f32⟩
  | .hbm, ⟨96, _⟩ => ⟨S8x32x8, .f32⟩
  | .hbm, ⟨97, _⟩ => ⟨S8x32x8, .f32⟩
  | .hbm, ⟨98, _⟩ => ⟨S256x1024, .f32⟩
  | .hbm, ⟨99, _⟩ => ⟨S_, .f32⟩
  | .hbm, ⟨100, _⟩ => ⟨S8x32x8x128, .f32⟩
  | .hbm, ⟨101, _⟩ => ⟨S8x32x8x128, .f32⟩
  | .hbm, ⟨102, _⟩ => ⟨S256x1024, .f32⟩
  | .hbm, ⟨103, _⟩ => ⟨S256x1024, .bf16⟩
  | .hbm, ⟨104, _⟩ => ⟨S256x1024, .f32⟩
  | .hbm, ⟨105, _⟩ => ⟨S256x1024, .f32⟩
  | .hbm, ⟨106, _⟩ => ⟨S256x1024, .bf16⟩
  | .hbm, ⟨107, _⟩ => ⟨S256x1024, .f32⟩
  | .hbm, ⟨108, _⟩ => ⟨S256x1024, .f32⟩
  | .hbm, ⟨109, _⟩ => ⟨S256x1024, .bf16⟩
  | .hbm, ⟨110, _⟩ => ⟨S256x1024, .f32⟩
  | .hbm, ⟨111, _⟩ => ⟨S1024x256, .f32⟩
  | .hbm, ⟨112, _⟩ => ⟨S1024x256, .bf16⟩
  | .hbm, ⟨113, _⟩ => ⟨S256x8, .f32⟩
  | _, _ => ⟨S8x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_call0_v0 : Ref sig .tc := ⟨.hbm, 82, rfl⟩
abbrev main_call0_call0_cst : Ref sig .tc := ⟨.hbm, 83, rfl⟩
abbrev main_call0_call0_v0 : Ref sig .tc := ⟨.hbm, 84, rfl⟩
abbrev main_call0_call0_v1 : Ref sig .tc := ⟨.hbm, 85, rfl⟩
abbrev main_call0_call0_v2 : Ref sig .tc := ⟨.hbm, 86, rfl⟩
abbrev main_call0_call0_v3 : Ref sig .tc := ⟨.hbm, 87, rfl⟩
abbrev main_call0_call0_v4 : Ref sig .tc := ⟨.hbm, 88, rfl⟩
abbrev main_call0_call0_v5 : Ref sig .tc := ⟨.hbm, 89, rfl⟩
abbrev main_call0_call0_v6 : Ref sig .tc := ⟨.hbm, 90, rfl⟩
abbrev main_call0_call0_v7 : Ref sig .tc := ⟨.hbm, 91, rfl⟩
abbrev main_call0_call0_v8 : Ref sig .tc := ⟨.hbm, 92, rfl⟩
abbrev main_call0_call0_v9 : Ref sig .tc := ⟨.hbm, 93, rfl⟩
abbrev main_call0_call0_v10 : Ref sig .tc := ⟨.hbm, 94, rfl⟩
abbrev main_call0_call0_v11 : Ref sig .tc := ⟨.hbm, 95, rfl⟩
abbrev main_call0_v1 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== Kernel4.lean ====
abbrev S8192x1024 : Shape := ⟨2, ![8192, 1024]⟩
abbrev S2x4096x2048 : Shape := ⟨3, ![2, 4096, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048x32 : Shape := ⟨2, ![2048, 32]⟩
abbrev S2048x4 : Shape := ⟨2, ![2048, 4]⟩
abbrev S2048x36 : Shape := ⟨2, ![2048, 36]⟩
abbrev S_ : Shape := ⟨0, ![]⟩
abbrev S2048x128 : Shape := ⟨2, ![2048, 128]⟩
abbrev S32 : Shape := ⟨1, ![32]⟩
abbrev S4 : Shape := ⟨1, ![4]⟩
abbrev S36 : Shape := ⟨1, ![36]⟩
abbrev S1x36 : Shape := ⟨2, ![1, 36]⟩
abbrev S1x128 : Shape := ⟨2, ![1, 128]⟩
abbrev S8192x2048 : Shape := ⟨2, ![8192, 2048]⟩
abbrev S1024 : Shape := ⟨1, ![1024]⟩
abbrev S2048 : Shape := ⟨1, ![2048]⟩
abbrev S2048x256 : Shape := ⟨2, ![2048, 256]⟩
abbrev S8192x128 : Shape := ⟨2, ![8192, 128]⟩
abbrev S512x1024 : Shape := ⟨2, ![512, 1024]⟩
abbrev S512x2048 : Shape := ⟨2, ![512, 2048]⟩
abbrev S1024x2048 : Shape := ⟨2, ![1024, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 38
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2x4096x2048, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S2048x2048, .f32⟩
  | .hbm, ⟨11, _⟩ => ⟨S2048x2048, .bf16⟩
  | .hbm, ⟨12, _⟩ => ⟨S2048x32, .f32⟩
  | .hbm, ⟨13, _⟩ => ⟨S2048x4, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S32, .f32⟩
  | .hbm, ⟨23, _⟩ => ⟨S4, .f32⟩
  | .hbm, ⟨24, _⟩ => ⟨S36, .f32⟩
  | .hbm, ⟨25, _⟩ => ⟨S1x36, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S8192x2048, .f32⟩
  | .hbm, ⟨30, _⟩ => ⟨S1024, .f32⟩
  | .hbm, ⟨31, _⟩ => ⟨S1x1024, .f32⟩
  | .hbm, ⟨32, _⟩ => ⟨S2048, .f32⟩
  | .hbm, ⟨33, _⟩ => ⟨S1x2048, .f32⟩
  | .hbm, ⟨34, _⟩ => ⟨S2048x256, .bf16⟩
  | .hbm, ⟨35, _⟩ => ⟨S8192x2048, .f32⟩
  | .hbm, ⟨36, _⟩ => ⟨S8192x1024, .i32⟩
  | .hbm, ⟨37, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1x2048, .f32⟩
  | .local _ .vmem, ⟨10, _⟩ => ⟨S2048x256, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x1024, .i32⟩
  | .local _ .vmem, ⟨15, _⟩ => ⟨S512x1024, .i32⟩
  | .local _ .vmem, ⟨16, _⟩ => ⟨S512x128, .f32⟩
  | .local _ .vmem, ⟨17, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
abbrev S8192x1024 : Shape := ⟨2, ![8192, 1024]⟩
abbrev S2x4096x2048 : Shape := ⟨3, ![2, 4096, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048x32 : Shape := ⟨2, ![2048, 32]⟩
abbrev S2048x4 : Shape := ⟨2, ![2048, 4]⟩
abbrev S2048x36 : Shape := ⟨2, ![2048, 36]⟩
abbrev S_ : Shape := ⟨0, ![]⟩
abbrev S2048x128 : Shape := ⟨2, ![2048, 128]⟩
abbrev S32 : Shape := ⟨1, ![32]⟩
abbrev S4 : Shape := ⟨1, ![4]⟩
abbrev S36 : Shape := ⟨1, ![36]⟩
abbrev S1x36 : Shape := ⟨2, ![1, 36]⟩
abbrev S1x128 : Shape := ⟨2, ![1, 128]⟩
abbrev S8192x2048 : Shape := ⟨2, ![8192, 2048]⟩
abbrev S1024 : Shape := ⟨1, ![1024]⟩
abbrev S2048 : Shape := ⟨1, ![2048]⟩
abbrev S2048x256 : Shape := ⟨2, ![2048, 256]⟩
abbrev S8192x2x1024 : Shape := ⟨3, ![8192, 2, 1024]⟩
abbrev S8192x128 : Shape := ⟨2, ![8192, 128]⟩
abbrev S8192x1x1024 : Shape := ⟨3, ![8192, 1, 1024]⟩
abbrev S512x1024 : Shape := ⟨2, ![512, 1024]⟩
abbrev S512x2048 : Shape := ⟨2, ![512, 2048]⟩
abbrev S1024x2048 : Shape := ⟨2, ![1024, 2048]⟩
abbrev S512x2x1024 : Shape := ⟨3, ![512, 2, 1024]⟩
abbrev S512x1x1024 : Shape := ⟨3, ![512, 1, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 38
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2x4096x2048, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S2048x2048, .f32⟩
  | .hbm, ⟨11, _⟩ => ⟨S2048x2048, .bf16⟩
  | .hbm, ⟨12, _⟩ => ⟨S2048x32, .f32⟩
  | .hbm, ⟨13, _⟩ => ⟨S2048x4, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S32, .f32⟩
  | .hbm, ⟨23, _⟩ => ⟨S4, .f32⟩
  | .hbm, ⟨24, _⟩ => ⟨S36, .f32⟩
  | .hbm, ⟨25, _⟩ => ⟨S1x36, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S8192x2048, .f32⟩
  | .hbm, ⟨30, _⟩ => ⟨S1024, .f32⟩
  | .hbm, ⟨31, _⟩ => ⟨S1x1024, .f32⟩
  | .hbm, ⟨32, _⟩ => ⟨S2048, .f32⟩
  | .hbm, ⟨33, _⟩ => ⟨S1x2048, .f32⟩
  | .hbm, ⟨34, _⟩ => ⟨S2048x256, .bf16⟩
  | .hbm, ⟨35, _⟩ => ⟨S8192x2048, .f32⟩
  | .hbm, ⟨36, _⟩ => ⟨S8192x2x1024, .bf16⟩
  | .hbm, ⟨37, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1x2048, .f32⟩
  | .local _ .vmem, ⟨10, _⟩ => ⟨S2048x256, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x2x1024, .bf16⟩
  | .local _ .vmem, ⟨15, _⟩ => ⟨S512x2x1024, .bf16⟩
  | .local _ .vmem, ⟨16, _⟩ => ⟨S512x128, .f32⟩
  | .local _ .vmem, ⟨17, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8192x1024 : Shape := ⟨2, ![8192, 1024]⟩
abbrev S2x4096x2048 : Shape := ⟨3, ![2, 4096, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S2048x2048 : Shape := ⟨2, ![2048, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2x4096x2048, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x2048, .f32⟩
  | .hbm, ⟨30, _⟩ => ⟨S2048x2048, .f32⟩
  | .hbm, ⟨31, _⟩ => ⟨S8192x2048, .f32⟩
  | .hbm, ⟨32, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Kernel5.lean ====
abbrev S256x1024 : Shape := ⟨2, ![256, 1024]⟩
abbrev S8x32x2048 : Shape := ⟨3, ![8, 32, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048x32 : Shape := ⟨2, ![2048, 32]⟩
abbrev S2048x4 : Shape := ⟨2, ![2048, 4]⟩
abbrev S2048x36 : Shape := ⟨2, ![2048, 36]⟩
abbrev S_ : Shape := ⟨0, ![]⟩
abbrev S2048x128 : Shape := ⟨2, ![2048, 128]⟩
abbrev S32 : Shape := ⟨1, ![32]⟩
abbrev S4 : Shape := ⟨1, ![4]⟩
abbrev S36 : Shape := ⟨1, ![36]⟩
abbrev S1x36 : Shape := ⟨2, ![1, 36]⟩
abbrev S1x128 : Shape := ⟨2, ![1, 128]⟩
abbrev S256x2048 : Shape := ⟨2, ![256, 2048]⟩
abbrev S1024 : Shape := ⟨1, ![1024]⟩
abbrev S2048 : Shape := ⟨1, ![2048]⟩
abbrev S2048x256 : Shape := ⟨2, ![2048, 256]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 38
  | .vmem => 12
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S8x32x2048, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S2048x2048, .f32⟩
  | .hbm, ⟨11, _⟩ => ⟨S2048x2048, .bf16⟩
  | .hbm, ⟨12, _⟩ => ⟨S2048x32, .f32⟩
  | .hbm, ⟨13, _⟩ => ⟨S2048x4, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S32, .f32⟩
  | .hbm, ⟨23, _⟩ => ⟨S4, .f32⟩
  | .hbm, ⟨24, _⟩ => ⟨S36, .f32⟩
  | .hbm, ⟨25, _⟩ => ⟨S1x36, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S256x2048, .f32⟩
  | .hbm, ⟨30, _⟩ => ⟨S1024, .f32⟩
  | .hbm, ⟨31, _⟩ => ⟨S1x1024, .f32⟩
  | .hbm, ⟨32, _⟩ => ⟨S2048, .f32⟩
  | .hbm, ⟨33, _⟩ => ⟨S1x2048, .f32⟩
  | .hbm, ⟨34, _⟩ => ⟨S2048x256, .bf16⟩
  | .hbm, ⟨35, _⟩ => ⟨S256x2048, .f32⟩
  | .hbm, ⟨36, _⟩ => ⟨S256x1024, .i32⟩
  | .hbm, ⟨37, _⟩ => ⟨S256x128, .f32⟩
  | .local _ .vmem, ⟨0, _⟩ => ⟨S256x1024, .bf16⟩
  | .local _ .vmem, ⟨1, _⟩ => ⟨S256x1024, .f32⟩
  | .local _ .vmem, ⟨2, _⟩ => ⟨S256x2048, .f32⟩
  | .local _ .vmem, ⟨3, _⟩ => ⟨S1x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S2048x256, .bf16⟩
  | .local _ .vmem, ⟨8, _⟩ => ⟨S1x128, .f32⟩
  | .local _ .vmem, ⟨9, _⟩ => ⟨S256x2048, .f32⟩
  | .local _ .vmem, ⟨10, _⟩ => ⟨S256x1024, .i32⟩
  | .local _ .vmem, ⟨11, _⟩ => ⟨S256x128, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Kernel5Ideal.lean ====
abbrev S256x1024 : Shape := ⟨2, ![256, 1024]⟩
abbrev S8x32x2048 : Shape := ⟨3, ![8, 32, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048x32 : Shape := ⟨2, ![2048, 32]⟩
abbrev S2048x4 : Shape := ⟨2, ![2048, 4]⟩
abbrev S2048x36 : Shape := ⟨2, ![2048, 36]⟩
abbrev S_ : Shape := ⟨0, ![]⟩
abbrev S2048x128 : Shape := ⟨2, ![2048, 128]⟩
abbrev S32 : Shape := ⟨1, ![32]⟩
abbrev S4 : Shape := ⟨1, ![4]⟩
abbrev S36 : Shape := ⟨1, ![36]⟩
abbrev S1x36 : Shape := ⟨2, ![1, 36]⟩
abbrev S1x128 : Shape := ⟨2, ![1, 128]⟩
abbrev S256x2048 : Shape := ⟨2, ![256, 2048]⟩
abbrev S1024 : Shape := ⟨1, ![1024]⟩
abbrev S2048 : Shape := ⟨1, ![2048]⟩
abbrev S2048x256 : Shape := ⟨2, ![2048, 256]⟩
abbrev S256x2x1024 : Shape := ⟨3, ![256, 2, 1024]⟩
abbrev S256x128 : Shape := ⟨2, ![256, 128]⟩
abbrev S256x1x1024 : Shape := ⟨3, ![256, 1, 1024]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 38
  | .vmem => 12
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S8x32x2048, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S2048x2048, .f32⟩
  | .hbm, ⟨11, _⟩ => ⟨S2048x2048, .bf16⟩
  | .hbm, ⟨12, _⟩ => ⟨S2048x32, .f32⟩
  | .hbm, ⟨13, _⟩ => ⟨S2048x4, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S32, .f32⟩
  | .hbm, ⟨23, _⟩ => ⟨S4, .f32⟩
  | .hbm, ⟨24, _⟩ => ⟨S36, .f32⟩
  | .hbm, ⟨25, _⟩ => ⟨S1x36, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S256x2048, .f32⟩
  | .hbm, ⟨30, _⟩ => ⟨S1024, .f32⟩
  | .hbm, ⟨31, _⟩ => ⟨S1x1024, .f32⟩
  | .hbm, ⟨32, _⟩ => ⟨S2048, .f32⟩
  | .hbm, ⟨33, _⟩ => ⟨S1x2048, .f32⟩
  | .hbm, ⟨34, _⟩ => ⟨S2048x256, .bf16⟩
  | .hbm, ⟨35, _⟩ => ⟨S256x2048, .f32⟩
  | .hbm, ⟨36, _⟩ => ⟨S256x2x1024, .bf16⟩
  | .hbm, ⟨37, _⟩ => ⟨S256x128, .f32⟩
  | .local _ .vmem, ⟨0, _⟩ => ⟨S256x1024, .bf16⟩
  | .local _ .vmem, ⟨1, _⟩ => ⟨S256x1024, .f32⟩
  | .local _ .vmem, ⟨2, _⟩ => ⟨S256x2048, .f32⟩
  | .local _ .vmem, ⟨3, _⟩ => ⟨S1x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S2048x256, .bf16⟩
  | .local _ .vmem, ⟨8, _⟩ => ⟨S1x128, .f32⟩
  | .local _ .vmem, ⟨9, _⟩ => ⟨S256x2048, .f32⟩
  | .local _ .vmem, ⟨10, _⟩ => ⟨S256x2x1024, .bf16⟩
  | .local _ .vmem, ⟨11, _⟩ => ⟨S256x128, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference5Ideal.lean ====
abbrev S256x1024 : Shape := ⟨2, ![256, 1024]⟩
abbrev S8x32x2048 : Shape := ⟨3, ![8, 32, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S1024 : Shape := ⟨1, ![1024]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S2048x2048 : Shape := ⟨2, ![2048, 2048]⟩

abbrev nBuf : Space → Nat
  | .hbm => 33
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S8x32x2048, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S256x1024, .f32⟩
  | .hbm, ⟨11, _⟩ => ⟨S1024, .f32⟩
  | .hbm, ⟨12, _⟩ => ⟨S256x1024, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x2048, .f32⟩
  | .hbm, ⟨29, _⟩ => ⟨S256x2048, .f32⟩
  | .hbm, ⟨30, _⟩ => ⟨S2048x2048, .f32⟩
  | .hbm, ⟨31, _⟩ => ⟨S256x2048, .f32⟩
  | .hbm, ⟨32, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Kernel6.lean ====
abbrev S8192x1024 : Shape := ⟨2, ![8192, 1024]⟩
abbrev S8192x128 : Shape := ⟨2, ![8192, 128]⟩
abbrev S1024x8192 : Shape := ⟨2, ![1024, 8192]⟩
abbrev S256x1024 : Shape := ⟨2, ![256, 1024]⟩
abbrev S256x128 : Shape := ⟨2, ![256, 128]⟩
abbrev S4096x1024 : Shape := ⟨2, ![4096, 1024]⟩
abbrev S4096x128 : Shape := ⟨2, ![4096, 128]⟩
abbrev S1024x4096 : Shape := ⟨2, ![1024, 4096]⟩
abbrev S8x1x256 : Shape := ⟨3, ![8, 1, 256]⟩
abbrev S8x128x256 : Shape := ⟨3, ![8, 128, 256]⟩
abbrev S8x256x256 : Shape := ⟨3, ![8, 256, 256]⟩
abbrev S4x256x256 : Shape := ⟨3, ![4, 256, 256]⟩
abbrev S256x256 : Shape := ⟨2, ![256, 256]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S128x256 : Shape := ⟨2, ![128, 256]⟩
abbrev S1x128x256 : Shape := ⟨3, ![1, 128, 256]⟩

abbrev nBuf : Space → Nat
  | .hbm => 6
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .bf16⟩
  | .hbm, ⟨3, _⟩ => ⟨S8192x128, .bf16⟩
  | .hbm, ⟨4, _⟩ => ⟨S1024x8192, .bf16⟩
  | .hbm, ⟨5, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x128, .bf16⟩
  | .local _ .vmem, ⟨3, _⟩ => ⟨S256x128, .bf16⟩
  | .local _ .vmem, ⟨4, _⟩ => ⟨S4096x1024, .bf16⟩
  | .local _ .vmem, ⟨5, _⟩ => ⟨S4096x1024, .bf16⟩
  | .local _ .vmem, ⟨6, _⟩ => ⟨S4096x128, .bf16⟩
  | .local _ .vmem, ⟨7, _⟩ => ⟨S4096x128, .bf16⟩
  | .local _ .vmem, ⟨8, _⟩ => ⟨S1024x4096, .bf16⟩
  | .local _ .vmem, ⟨9, _⟩ => ⟨S1024x4096, .bf16⟩
  | .local _ .vmem, ⟨10, _⟩ => ⟨S256x1024, .f32⟩
  | .local _ .vmem, ⟨11, _⟩ => ⟨S256x1024, .f32⟩
  | .local _ .vmem, ⟨12, _⟩ => ⟨S8x1x256, .f32⟩
  | .local _ .vmem, ⟨13, _⟩ => ⟨S8x1x256, .f32⟩
  | .local _ .vmem, ⟨14, _⟩ => ⟨S8x128x256, .f32⟩
  | .local _ .vmem, ⟨15, _⟩ => ⟨S8x256x256, .bf16⟩
  | .local _ .vmem, ⟨16, _⟩ => ⟨S4x256x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_113 : BitVec 32 := 1#32
  ⟨c0_i32_112, v167, c1_i32_113⟩
def k0_mult1 (i : grid0.Coords) (k0_t1 : Fin (k0_t1_loop i).trips) : BitVec 32 :=
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  v570
def k0_mult2 (i : grid0.Coords) (k0_t1 : Fin (k0_t1_loop i).trips) : BitVec 32 :=
  let c0_i32_112 : BitVec 32 := 0#32
  let c1_i32_113 : BitVec 32 := 1#32
  let arg13 : BitVec 32 := Scf.iv c0_i32_112 c1_i32_113 k0_t1
  let c1_i32_400 : BitVec 32 := 1#32
  let v572 : BitVec 32 := Scalar.addi arg13 c1_i32_400
  let c256_i32_401 : BitVec 32 := 256#32
  let v573 : BitVec 32 := Scalar.muli v572 c256_i32_401
  v573
def k0_off1 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v583 : Index := Scalar.indexCast v571
  let c512_414 : Index := 512#32
  ![v583.toNat, 512]
def k0_off2 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v585 : Index := Scalar.indexCast v571
  let c0_415 : Index := 0#32
  ![v585.toNat, 0]
def k0_off3 (i : grid0.Coords) (k0_t1 : Fin (k0_t1_loop i).trips) : Fin 2 → Nat :=
  let c0_434 : Index := 0#32
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v613 : Index := Scalar.indexCast v571
  ![0, v613.toNat]
def k0_off4 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v625 : Index := Scalar.indexCast v571
  let c640_442 : Index := 640#32
  ![v625.toNat, 640]
def k0_off5 (i : grid0.Coords) (k0_t1 : Fin (k0_t1_loop i).trips) : Fin 2 → Nat :=
  let c128_462 : Index := 128#32
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v655 : Index := Scalar.indexCast v571
  ![128, v655.toNat]
def k0_off6 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v667 : Index := Scalar.indexCast v571
  let c768_470 : Index := 768#32
  ![v667.toNat, 768]
def k0_off7 (i : grid0.Coords) (k0_t1 : Fin (k0_t1_loop i).trips) : Fin 2 → Nat :=
  let c256_490 : Index := 256#32
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v697 : Index := Scalar.indexCast v571
  ![256, v697.toNat]
def k0_off8 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v709 : Index := Scalar.indexCast v571
  let c896_498 : Index := 896#32
  ![v709.toNat, 896]
def k0_off9 (i : grid0.Coords) (k0_t1 : Fin (k0_t1_loop i).trips) : Fin 2 → Nat :=
  let c384_518 : Index := 384#32
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v739 : Index := Scalar.indexCast v571
  ![384, v739.toNat]
def k0_off10 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v751 : Index := Scalar.indexCast v574
  let c0_526 : Index := 0#32
  ![v751.toNat, 0]
def k0_off11 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v753 : Index := Scalar.indexCast v574
  let c0_527 : Index := 0#32
  ![v753.toNat, 0]
def k0_off12 (i : grid0.Coords) (k0_t1 : Fin (k0_t1_loop i).trips) : Fin 2 → Nat :=
  let c512_546 : Index := 512#32
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v781 : Index := Scalar.indexCast v571
  ![512, v781.toNat]
def k0_off13 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v793 : Index := Scalar.indexCast v574
  let c128_554 : Index := 128#32
  ![v793.toNat, 128]
def k0_off14 (i : grid0.Coords) (k0_t1 : Fin (k0_t1_loop i).trips) : Fin 2 → Nat :=
  let c640_574 : Index := 640#32
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v823 : Index := Scalar.indexCast v571
  ![640, v823.toNat]
def k0_off15 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v835 : Index := Scalar.indexCast v574
  let c256_582 : Index := 256#32
  ![v835.toNat, 256]
def k0_off16 (i : grid0.Coords) (k0_t1 : Fin (k0_t1_loop i).trips) : Fin 2 → Nat :=
  let c768_602 : Index := 768#32
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v865 : Index := Scalar.indexCast v571
  ![768, v865.toNat]
def k0_off17 (i : grid0.Coords) (k0_t1 : Fin (k0_t1_loop i).trips) : Fin 2 → Nat :=
  let c0_i32_112 : BitVec 32 := 0#32
  let c1_i32_113 : BitVec 32 := 1#32
  let arg13 : BitVec 32 := Scf.iv c0_i32_112 c1_i32_113 k0_t1
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v877 : Index := Scalar.indexCast v574
  let c384_610 : Index := 384#32
  ![v877.toNat, 384]
def k0_off18 (i : grid0.Coords) (k0_t1 : Fin (k0_t1_loop i).trips) : Fin 2 → Nat :=
  let c896_630 : Index := 896#32
  let c0_i32_112 : BitVec 32 := 0#32
  let c1_i32_113 : BitVec 32 := 1#32
  let arg13 : BitVec 32 := Scf.iv c0_i32_112 c1_i32_113 k0_t1
  let c256_i32_399 : BitVec 32 := 256#32
  let v570 : BitVec 32 := Scalar.muli arg13 c256_i32_399
  let v571 : BitVec 32 := v570
  let v907 : Index := Scalar.indexCast v571
  ![896, v907.toNat]
@[reducible] def k0_t2_loop (i : grid0.Coords) : Scf.Loop 32 :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let v164 : BitVec 32 := Scalar.addi c0_i32_112 v163
  let c1_i32_114 : BitVec 32 := 1#32
  ⟨v167, v164, c1_i32_114⟩
def k0_mult3 (i : grid0.Coords) (k0_t2 : Fin (k0_t2_loop i).trips) : BitVec 32 :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  v570
def k0_mult4 (i : grid0.Coords) (k0_t2 : Fin (k0_t2_loop i).trips) : BitVec 32 :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c1_i32_400 : BitVec 32 := 1#32
  let v572 : BitVec 32 := Scalar.addi arg13 c1_i32_400
  let c256_i32_401 : BitVec 32 := 256#32
  let v573 : BitVec 32 := Scalar.muli v572 c256_i32_401
  v573
def k0_off19 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v583 : Index := Scalar.indexCast v571
  let c512_414 : Index := 512#32
  ![v583.toNat, 512]
def k0_off20 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v585 : Index := Scalar.indexCast v571
  let c0_415 : Index := 0#32
  ![v585.toNat, 0]
def k0_off21 (i : grid0.Coords) (k0_t2 : Fin (k0_t2_loop i).trips) : Fin 2 → Nat :=
  let c0_434 : Index := 0#32
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v613 : Index := Scalar.indexCast v571
  ![0, v613.toNat]
def k0_off22 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v625 : Index := Scalar.indexCast v571
  let c640_442 : Index := 640#32
  ![v625.toNat, 640]
def k0_off23 (i : grid0.Coords) (k0_t2 : Fin (k0_t2_loop i).trips) : Fin 2 → Nat :=
  let c128_462 : Index := 128#32
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v655 : Index := Scalar.indexCast v571
  ![128, v655.toNat]
def k0_off24 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v667 : Index := Scalar.indexCast v571
  let c768_470 : Index := 768#32
  ![v667.toNat, 768]
def k0_off25 (i : grid0.Coords) (k0_t2 : Fin (k0_t2_loop i).trips) : Fin 2 → Nat :=
  let c256_490 : Index := 256#32
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v697 : Index := Scalar.indexCast v571
  ![256, v697.toNat]
def k0_off26 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v709 : Index := Scalar.indexCast v571
  let c896_498 : Index := 896#32
  ![v709.toNat, 896]
def k0_off27 (i : grid0.Coords) (k0_t2 : Fin (k0_t2_loop i).trips) : Fin 2 → Nat :=
  let c384_518 : Index := 384#32
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v739 : Index := Scalar.indexCast v571
  ![384, v739.toNat]
def k0_off28 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v751 : Index := Scalar.indexCast v574
  let c0_526 : Index := 0#32
  ![v751.toNat, 0]
def k0_off29 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v753 : Index := Scalar.indexCast v574
  let c0_527 : Index := 0#32
  ![v753.toNat, 0]
def k0_off30 (i : grid0.Coords) (k0_t2 : Fin (k0_t2_loop i).trips) : Fin 2 → Nat :=
  let c512_546 : Index := 512#32
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v781 : Index := Scalar.indexCast v571
  ![512, v781.toNat]
def k0_off31 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v793 : Index := Scalar.indexCast v574
  let c128_554 : Index := 128#32
  ![v793.toNat, 128]
def k0_off32 (i : grid0.Coords) (k0_t2 : Fin (k0_t2_loop i).trips) : Fin 2 → Nat :=
  let c640_574 : Index := 640#32
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v823 : Index := Scalar.indexCast v571
  ![640, v823.toNat]
def k0_off33 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v835 : Index := Scalar.indexCast v574
  let c256_582 : Index := 256#32
  ![v835.toNat, 256]
def k0_off34 (i : grid0.Coords) (k0_t2 : Fin (k0_t2_loop i).trips) : Fin 2 → Nat :=
  let c768_602 : Index := 768#32
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v865 : Index := Scalar.indexCast v571
  ![768, v865.toNat]
def k0_off35 (i : grid0.Coords) (k0_t2 : Fin (k0_t2_loop i).trips) : Fin 2 → Nat :=
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c1_i32_400 : BitVec 32 := 1#32
  let v572 : BitVec 32 := Scalar.addi arg13 c1_i32_400
  let c256_i32_401 : BitVec 32 := 256#32
  let v573 : BitVec 32 := Scalar.muli v572 c256_i32_401
  let v574 : BitVec 32 := v573
  let v877 : Index := Scalar.indexCast v574
  let c384_610 : Index := 384#32
  ![v877.toNat, 384]
def k0_off36 (i : grid0.Coords) (k0_t2 : Fin (k0_t2_loop i).trips) : Fin 2 → Nat :=
  let c896_630 : Index := 896#32
  let c0_i32_112 : BitVec 32 := 0#32
  let arg1 : BitVec 32 := BitVec.ofNat 32 (i 1).val
  let v163 : BitVec 32 := Scalar.subi arg1 c0_i32_112
  let c1_i32 : BitVec 32 := 1#32
  let v165 : BitVec 32 := Scalar.divsi v163 c1_i32
  let v166 : BitVec 32 := Scalar.muli v165 c1_i32
  let v167 : BitVec 32 := Scalar.addi c0_i32_112 v166
  let c1_i32_114 : BitVec 32 := 1#32
  let arg13 : BitVec 32 := Scf.iv v167 c1_i32_114 k0_t2
  let c256_i32_399 : BitVec 32 := 256#32
  let v570 : BitVec 32 := Scalar.muli arg13 c256_i32_399
  let v571 : BitVec 32 := v570
  let v907 : Index := Scalar.indexCast v571
  ![896, v907.toNat]
def k0_mult5 (i : grid0.Coords) : BitVec 32 :=
  let arg1 : BitVec 32 := BitVec.ofNat 32 (i 1).val
  let c256_i32 : BitVec 32 := 256#32
  let v168 : BitVec 32 := Scalar.muli arg1 c256_i32
  v168
def k0_off37 (i : grid0.Coords) : Fin 2 → Nat :=
  let arg1 : BitVec 32 := BitVec.ofNat 32 (i 1).val
  let c256_i32 : BitVec 32 := 256#32
  let v168 : BitVec 32 := Scalar.muli arg1 c256_i32
  let v169 : BitVec 32 := v168
  let v178 : Index := Scalar.indexCast v169
  let c512_127 : Index := 512#32
  ![v178.toNat, 512]
def k0_off38 (i : grid0.Coords) : Fin 2 → Nat :=
  let arg1 : BitVec 32 := BitVec.ofNat 32 (i 1).val
  let c256_i32 : BitVec 32 := 256#32
  let v168 : BitVec 32 := Scalar.muli arg1 c256_i32
  let v169 : BitVec 32 := v168
  let v180 : Index := Scalar.indexCast v169
  let c0_128 : Index := 0#32
  ![v180.toNat, 0]
def k0_off39 (i : grid0.Coords) : Fin 2 → Nat :=
  let c0_148 : Index := 0#32
  let arg1 : BitVec 32 := BitVec.ofNat 32 (i 1).val
  let c256_i32 : BitVec 32 := 256#32
  let v168 : BitVec 32 := Scalar.muli arg1 c256_i32
  let v169 : BitVec 32 := v168
  let v211 : Index := Scalar.indexCast v169
  ![0, v211.toNat]
def k0_off40 (i : grid0.Coords) : Fin 2 → Nat :=
  let arg1 : BitVec 32 := BitVec.ofNat 32 (i 1).val
  let c256_i32 : BitVec 32 := 256#32
  let v168 : BitVec 32 := Scalar.muli arg1 c256_i32
  let v169 : BitVec 32 := v168
  let v223 : Index := Scalar.indexCast v169
  let c640_156 : Index := 640#32
  ![v223.toNat, 640]
def k0_off41 (i : grid0.Coords) : Fin 2 → Nat :=
  let c128_177 : Index := 128#32
  let arg1 : BitVec 32 := BitVec.ofNat 32 (i 1).val
  let c256_i32 : BitVec 32 := 256#32
  let v168 : BitVec 32 := Scalar.muli arg1 c256_i32
  let v169 : BitVec 32 := v168
  let v256 : Index := Scalar.indexCast v169
  ![128, v256.toNat]
def k0_off42 (i : grid0.Coords) : Fin 2 → Nat :=
  let arg1 : BitVec 32 := BitVec.ofNat 32 (i 1).val
  let c256_i32 : BitVec 32 := 256#32
  let v168 : BitVec 32 := Scalar.muli arg1 c256_i32
  let v169 : BitVec 32 := v168
  let v268 : Index := Scalar.indexCast v169
  let c768_185 : Index := 768#32
  ![v268.toNat, 768]
def k0_off43 (i : grid0.Coords) : Fin 2 → Nat :=
  let c256_206 : Index := 256#32
  let arg1 : BitVec 32 := BitVec.ofNat 32 (i 1).val
  let c256_i32 : BitVec 32 := 256#32
  let v168 : BitVec 32 := Scalar.muli arg1 c256_i32
  let v169 : BitVec 32 := v168
  let v301 : Index := Scalar.indexCast v169
  ![256, v301.toNat]
def k0_off44 (i : grid0.Coords) : Fin 2 → Nat :=
  let arg1 : BitVec 32 := BitVec.ofNat 32 (i 1).val
  let c256_i32 : BitVec 32 := 256#32
  let v168 : BitVec 32 := Scalar.muli arg1 c256_i32
  let v169 : BitVec 32 := v168
  let v313 : Index := Scalar.indexCast v169
  let c896_214 : Index := 896#32
  ![v313.toNat, 896]
def k0_off45 (i : grid0.Coords) : Fin 2 → Nat :=
  let c384_235 : Index := 384#32
  let arg1 : BitVec 32 := BitVec.ofNat 32 (i 1).val
  let c256_i32 : BitVec 32 := 256#32
  let v168 : BitVec 32 := Scalar.muli arg1 c256_i32
  let v169 : BitVec 32 := v168
  let v346 : Index := Scalar.indexCast v169
  ![384, v346.toNat]
def k0_off46 (i : grid0.Coords) : Fin 2 → Nat :=
  let c512_258 : Index := 512#32
  let arg1 : BitVec 32 := BitVec.ofNat 32 (i 1).val
  let c256_i32 : BitVec 32 := 256#32
  let v168 : BitVec 32 := Scalar.muli arg1 c256_i32
  let v169 : BitVec 32 := v168
  let v383 : Index := Scalar.indexCast v169
  ![512, v383.toNat]
def k0_off47 (i : grid0.Coords) : Fin 2 → Nat :=
  let c640_281 : Index := 640#32
  let arg1 : BitVec 32 := BitVec.ofNat 32 (i 1).val
  let c256_i32 : BitVec 32 := 256#32
  let v168 : BitVec 32 := Scalar.muli arg1 c256_i32
  let v169 : BitVec 32 := v168
  let v420 : Index := Scalar.indexCast v169
  ![640, v420.toNat]
def k0_off48 (i : grid0.Coords) : Fin 2 → Nat :=
  let c768_304 : Index := 768#32
  let arg1 : BitVec 32 := BitVec.ofNat 32 (i 1).val
  let c256_i32 : BitVec 32 := 256#32
  let v168 : BitVec 32 := Scalar.muli arg1 c256_i32
  let v169 : BitVec 32 := v168
  let v457 : Index := Scalar.indexCast v169
  ![768, v457.toNat]
def k0_off49 (i : grid0.Coords) : Fin 2 → Nat :=
  let c896_327 : Index := 896#32
  let arg1 : BitVec 32 := BitVec.ofNat 32 (i 1).val
  let c256_i32 : BitVec 32 := 256#32
  let v168 : BitVec 32 := Scalar.muli arg1 c256_i32
  let v169 : BitVec 32 := v168
  let v494 : Index := Scalar.indexCast v169
  ![896, v494.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S8192x128 : Shape := ⟨2, ![8192, 128]⟩
abbrev S1024x8192 : Shape := ⟨2, ![1024, 8192]⟩
abbrev S2x4096x8x128 : Shape := ⟨4, ![2, 4096, 8, 128]⟩
abbrev S2x8x4096x4096 : Shape := ⟨4, ![2, 8, 4096, 4096]⟩
abbrev S2x4096x8x16 : Shape := ⟨4, ![2, 4096, 8, 16]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .bf16⟩
  | .hbm, ⟨3, _⟩ => ⟨S8192x128, .bf16⟩
  | .hbm, ⟨4, _⟩ => ⟨S1024x8192, .bf16⟩
  | .hbm, ⟨5, _⟩ => ⟨S1024x8192, .f32⟩
  | .hbm, ⟨6, _⟩ => ⟨S8192x1024, .f32⟩
  | .hbm, ⟨7, _⟩ => ⟨S2x4096x8x128, .f32⟩
  | .hbm, ⟨8, _⟩ => ⟨S8192x1024, .f32⟩
  | .hbm, ⟨9, _⟩ => ⟨S2x4096x8x128, .f32⟩
  | .hbm, ⟨10, _⟩ => ⟨S8192x1024, .f32⟩
  | .hbm, ⟨11, _⟩ => ⟨S2x4096x8x128, .f32⟩
  | .hbm, ⟨12, _⟩ => ⟨S2x8x4096x4096, .f32⟩
  | .hbm, ⟨13, _⟩ => ⟨S8192x128, .f32⟩
  | .hbm, ⟨14, _⟩ => ⟨S2x4096x8x16, .f32⟩
  | .hbm, ⟨15, _⟩ => ⟨S8192x128, .f32⟩
  | .hbm, ⟨16, _⟩ => ⟨S2x4096x8x16, .f32⟩
  | .hbm, ⟨17, _⟩ => ⟨S2x8x4096x4096, .f32⟩
  | .hbm, ⟨18, _⟩ => ⟨S2x8x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S2x8x4096x4096, .i1⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S_, .f32⟩
  | .hbm, ⟨36, _⟩ => ⟨S2x8x4096x4096, .f32⟩
  | .hbm, ⟨37, _⟩ => ⟨S2x8x4096x4096, .f32⟩
  | .hbm, ⟨38, _⟩ => ⟨S_, .f32⟩
  | .hbm, ⟨39, _⟩ => ⟨S2x8x4096, .f32⟩
  | .hbm, ⟨40, _⟩ => ⟨S2x8x4096x1, .f32⟩
  | .hbm, ⟨41, _⟩ => ⟨S2x8x4096x4096, .f32⟩
  | .hbm, ⟨42, _⟩ => ⟨S2x8x4096x4096, .f32⟩
  | .hbm, ⟨43, _⟩ => ⟨S2x8x128x4096, .f32⟩
  | .hbm, ⟨44, _⟩ => ⟨S2x4096x8x128, .f32⟩
  | .hbm, ⟨45, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.InSpec.lean ====
/- What one row of the input projection is, as functions on the extended reals, and two laws about them. -/
module

public import Idealize.ShloMosaic.Lib.Pipeline.Value
public import Idealize.ShloMosaic.Lib.ValueIdx
public import Idealize.ShloMosaic.Lib.ValueIdxCore
public import Idealize.ShloMosaic.Lib.ValueLayout
public import Idealize.ShloMosaic.PureOps.Ideal.Laws

@[expose] public section

noncomputable section

namespace Cert.Inp

open Idealize.ShloMosaic

/-- The reciprocal root mean square of a vector, `c` standing for its length. -/
def nf {n : ℕ} (c : EReal) (z : Fin n → EReal) : EReal :=
  Ideal.rsqrt (Ideal.div (∑ k, z k * z k) c + Ideal.ofBits .f32 0x358637BD#32)

/-- A row of the input normalised and scaled by the gain. -/
def act (z g : Fin 2048 → EReal) (k : Fin 2048) : EReal := z k * nf (Ideal.ofBits .f32 0x45000000#32) z * g k

/-- The normalised row times one column of weights. -/
def prj (z g w : Fin 2048 → EReal) : EReal := ∑ k, act z g k * w k

/-- One head normalised and scaled by its gain. -/
def hd (z g : Fin 128 → EReal) (e : Fin 128) : EReal := z e * nf (Ideal.ofBits .f32 0x43000000#32) z * g e

/-- The logarithm of the sigmoid. -/
def ls (f : EReal) : EReal := min f 0 - Ideal.log1p (Ideal.exp (0 - max f (-f)))

theorem one_f32 : Ideal.ofBits .f32 0x3F800000#32 = 1 := by
  simp [Ideal.ofBits, Ideal.ieee]
  rw [← EReal.coe_mul, ← EReal.coe_one, EReal.coe_eq_coe_iff]
  norm_num

/-- The logarithmic term is a real number whatever the argument. -/
theorem log1p_real (x : EReal) (hx : x ≤ 0) : ∃ r : ℝ, Ideal.log1p (Ideal.exp x) = (r : EReal) := by
  induction x using EReal.rec with
  | bot =>
    refine ⟨Real.log 1, ?_⟩
    show Ideal.log (1 + 0) = _
    rw [add_zero, ← EReal.coe_one]
    show (if (1:ℝ) ≤ 0 then (⊥ : EReal) else _) = _
    rw [if_neg (not_le.mpr one_pos)]
  | top => exact absurd hx (by simp)
  | coe r =>
    refine ⟨Real.log (1 + Real.exp r), ?_⟩
    have h : (0:ℝ) < 1 + Real.exp r := by have := Real.exp_pos r; linarith
    show Ideal.log (1 + (Real.exp r : EReal)) = _
    rw [← EReal.coe_one, ← EReal.coe_add]
    show (if (1 + Real.exp r) ≤ 0 then (⊥ : EReal) else _) = _
    rw [if_neg (not_le.mpr h)]

theorem neg_abs_le (f : EReal) : 0 - max f (-f) ≤ 0 := by
  rw [zero_sub, EReal.neg_le, neg_zero]
  rcases le_total 0 f with h | h
  · exact le_max_of_le_left h
  · exact le_max_of_le_right (by rw [EReal.le_neg, neg_zero]; exact h)

/-- The same logarithm written through `max` and the softplus of the negated argument. -/
theorem ls_eq (f : EReal) :
    -(max (-f) 0 + Ideal.log1p (Ideal.exp (-(max (-f - 0) (-(-f - 0)))))) = ls f := by
  have e : -(max (-f - 0) (-(-f - 0))) = 0 - max f (-f) := by
    rw [sub_zero, neg_neg, max_comm, zero_sub]
  rw [e]
  unfold ls
  obtain ⟨r, hr⟩ := log1p_real _ (neg_abs_le f)
  rw [hr, EReal.neg_add (Or.inr (EReal.coe_ne_top r)) (Or.inr (EReal.coe_ne_bot r))]
  have hm : -(max (-f) 0) = min f 0 := by
    rcases le_total f 0 with h | h
    · rw [min_eq_left h, max_eq_left (by rw [EReal.le_neg, neg_zero]; exact h), neg_neg]
    · rw [min_eq_right h, max_eq_right (by rw [EReal.neg_le, neg_zero]; exact h), neg_zero]
  rw [hm]

/-- Column `n` of the projection. -/
def cl (n : ℕ) : Fin 5128 := ⟨n % 5128, Nat.mod_lt _ (by decide)⟩

/-- A row `z`, normalised with the gain `g`, times column `n` of the weights `w`. -/
def pp (z g : Fin 2048 → EReal) (w : (⟨3, ![1, 2048, 5128]⟩ : Shape).Idx → EReal) (n : ℕ) : EReal :=
  prj z g (fun k => w (ValueIdx.ix3 0 k (cl n)))

/-- The gated value. -/
def fu (z g : Fin 2048 → EReal) (w : (⟨3, ![1, 2048, 5128]⟩ : Shape).Idx → EReal) (n : ℕ) : EReal :=
  pp z g w (0 + n) * Ideal.logistic (pp z g w (1024 + n))

/-- Entry `n` of the normalised heads whose columns begin at `o`. -/
def fh (o : ℕ) (z g : Fin 2048 → EReal) (w : (⟨3, ![1, 2048, 5128]⟩ : Shape).Idx → EReal) (gain : Fin 128 → EReal) (n : ℕ) : EReal :=
  hd (fun e => pp z g w (o + (n / 128 * 128 + e.val))) gain ⟨n % 128, Nat.mod_lt _ (by decide)⟩

/-- The logarithm of the forget gate of head `h`. -/
def fl (z g : Fin 2048 → EReal) (w : (⟨3, ![1, 2048, 5128]⟩ : Shape).Idx → EReal) (b : EReal) (h : ℕ) : EReal :=
  ls (pp z g w (5120 + h) + b)

end Cert.Inp

end
-- ==== Proof.InVec.lean ====
/- Vector expressions of the input projection read at an index, whatever the number of rows. -/
module

public import proofs.«01_k».proof.Proof.InSpec

@[expose] public section

noncomputable section

namespace Cert.Inp

open Idealize.ShloMosaic Idealize.ShloMosaic.ValueIdx

/-- Row `r` of a matrix. -/
def rowOf {a b : ℕ} (x : (⟨2, ![a, b]⟩ : Shape).Idx → EReal) (r : Fin a) : Fin b → EReal := fun k => x (ix2 r k)

/-- Column `c` of a matrix. -/
def colOf {a b : ℕ} (x : (⟨2, ![a, b]⟩ : Shape).Idx → EReal) (c : Fin b) : Fin a → EReal := fun k => x (ix2 k c)

/-- The factor by which a row is normalised, spread over the row. -/
theorem nfac_apply {a n : ℕ} (ha : a ≠ 1) (z : FVec Ideal ⟨2, ![a, n]⟩ .f32) (c : BitVec 32)
    (hr : (⟨2, ![a, n]⟩ : Shape).Reduces [1] ⟨1, ![a]⟩) (hs : (⟨1, ![a]⟩ : Shape).ShapeCasts ⟨2, ![a, 1]⟩)
    (hb : (⟨2, ![a, 1]⟩ : Shape).Broadcasts ⟨2, ![a, n]⟩) (h0 : (0x00000000#32 : BitVec 32) = FKind.add.neutral .f32 (.inl rfl)) (r : Fin a) (j : Fin n) :
    broadcastTo ⟨2, ![a, n]⟩ (rsqrt (addf (divf (shapeCast ⟨2, ![a, 1]⟩
      (multiReduction .add [1] ⟨1, ![a]⟩ (mulf z z) 0x00000000#32 hr (.inl rfl) h0) hs)
      (broadcast ⟨2, ![a, 1]⟩ (Scalar.ofBits .f32 c : Ideal .f32)))
      (broadcast ⟨2, ![a, 1]⟩ (Scalar.ofBits .f32 0x358637BD#32 : Ideal .f32)))) hb (ix2 r j)
      = nf (Ideal.ofBits .f32 c) (rowOf z r) := by
  rw [broadcastTo_apply _ hb (ix2 r j) (ix2 r (0 : Fin 1)) (fun ax => by
    match ax with
    | ⟨0, _⟩ => exact (if_neg ha).symm
    | ⟨1, _⟩ => rfl)]
  show Ideal.rsqrt (Ideal.div (shapeCast ⟨2, ![a, 1]⟩ _ hs (ix2 r (0 : Fin 1))) (Ideal.ofBits .f32 c) + Ideal.ofBits .f32 0x358637BD#32) = _
  rw [shapeCast_apply _ hs (ix2 r (0 : Fin 1)) (ix1 r) (by
    rw [Shape.rowMajor_val_two, Shape.rowMajor_val_one]; show r.val = r.val * 1 + 0; omega)]
  rw [Ideal.multiReduction_add_single]
  unfold nf
  refine congrArg (fun s => Ideal.rsqrt (Ideal.div s _ + _)) (Finset.sum_congr rfl fun k _ => ?_)
  have e : hr.lift (ix1 r) k = ix2 r k := by
    funext ax; apply Fin.ext
    match ax with
    | ⟨0, _⟩ => rfl
    | ⟨1, _⟩ => rfl
  rw [e]
  rfl

/-- A head's normalisation as the kernel writes it, read at an index. -/
theorem hnorm_apply {a : ℕ} (ha : a ≠ 1) (z : FVec Ideal ⟨2, ![a, 128]⟩ .f32) (g : FVec Ideal ⟨2, ![1, 128]⟩ .f32)
    (f : FVec Ideal ⟨2, ![a, 128]⟩ .f32) (hf : ∀ r j, f (ix2 r j) = nf (Ideal.ofBits .f32 0x43000000#32) (rowOf z r))
    (hb : (⟨2, ![1, 128]⟩ : Shape).Broadcasts ⟨2, ![a, 128]⟩) (r : Fin a) (j : Fin 128) :
    mulf (mulf z f) (broadcastTo ⟨2, ![a, 128]⟩ g hb) (ix2 r j) = hd (rowOf z r) (rowOf g 0) j := by
  rw [mulf_apply, mulf_apply, hf, broadcastTo_1b_ab_apply]
  rfl

/-- The rows' normalisation as the kernel writes it, read at an index. -/
theorem anorm_apply {a : ℕ} (ha : a ≠ 1) (z : FVec Ideal ⟨2, ![a, 2048]⟩ .f32) (g : FVec Ideal ⟨2, ![1, 2048]⟩ .f32)
    (f : FVec Ideal ⟨2, ![a, 2048]⟩ .f32) (hf : ∀ r j, f (ix2 r j) = nf (Ideal.ofBits .f32 0x45000000#32) (rowOf z r))
    (hb : (⟨2, ![1, 2048]⟩ : Shape).Broadcasts ⟨2, ![a, 2048]⟩) (r : Fin a) (j : Fin 2048) :
    mulf (mulf z f) (broadcastTo ⟨2, ![a, 2048]⟩ g hb) (ix2 r j) = act (rowOf z r) (rowOf g 0) j := by
  rw [mulf_apply, mulf_apply, hf, broadcastTo_1b_ab_apply]
  rfl

end Cert.Inp

end
-- ==== Proof.InBlock.lean ====
/- One grid point of the input projection: every output block is a row-wise function of the input blocks. -/
module

public import proofs.«01_k».proof.Proof.InVec
public import proofs.«01_k».proof.Proof.Gen.Kernel2Ideal.Value
public import Idealize.ShloMosaic.Lib.Pipeline.ValueKit.Tiles

@[expose] public section

noncomputable section

namespace Cert.Kernel2Ideal.Inp

open Cert.Kernel2Ideal Cert.Kernel2Ideal.Gen Cert.Inp Idealize.ShloMosaic Idealize.ShloMosaic.ValueIdx

/-- The product of a block of rows with 256 columns of weights. -/
def mm (a : FVec Ideal S512x2048 .bf16) (w : Vec Ideal S2048x256 .bf16) : FVec Ideal S512x256 .f32 :=
  matmul (F := Ideal) (φ₁ := .bf16) (φ₂ := .bf16) dot_S512x2048_S2048x256_S512x256_1_0_0_1_n_n none a (shapeCast (α := Ideal .bf16) S2048x256 w shapeCasts_S2048x256_S2048x256)
    (constant S512x256 .f32 0x00000000#32)

/-- A head normalised and scaled. -/
def hn (z : FVec Ideal S512x128 .f32) (g : Vec Ideal S1x128 .f32) : FVec Ideal S512x128 .f32 :=
  mulf (mulf z (broadcastTo S512x128 (rsqrt (addf (divf (shapeCast S512x1
      (multiReduction .add [1] S512 (mulf z z) 0x00000000#32 reduces_S512x128_S512 (.inl rfl) rfl) shapeCasts_S512_S512x1)
      (broadcast S512x1 (Scalar.ofBits .f32 0x43000000#32 : Ideal .f32)))
      (broadcast S512x1 (Scalar.ofBits .f32 0x358637BD#32 : Ideal .f32)))) broadcasts_S512x1_S512x128))
    (broadcastTo S512x128 (shapeCast S1x128 g shapeCasts_S1x128_S1x128) broadcasts_S1x128_S512x128)

theorem shapeCast_self {α : Type} {s : Shape} (x : s.Idx → α) (h : s.ShapeCasts s) : shapeCast s x h = x :=
  funext fun j => shapeCast_apply x h j j rfl

theorem embv {s : Shape} (off size : Fin s.rank → ℕ) (inb : ∀ a, off a + size a ≤ s.size a) (x : (Rect.unit off size inb).shape.Idx) (a : Fin s.rank) :
    ((Rect.unit off size inb).emb x a).val = off a + (x a).val := Rect.idx_unit_val off size inb x a

theorem lhs_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem rhs_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The product read at an index is the sum over the columns of the rows. -/
theorem mm_apply (a : FVec Ideal S512x2048 .bf16) (w : Vec Ideal S2048x256 .bf16) (r : Fin 512) (j : Fin 256) :
    mm a w (ix2 r j) = ∑ k : Fin 2048, a (ix2 r k) * w (ix2 k j) := by
  unfold mm
  rw [shapeCast_self]
  simp only [matmul]
  rw [Ideal.matmul_constant_zero_apply, ← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx (ix2 r j) ((ValueIdx.contrEquiv1 dot_S512x2048_S2048x256_S512x256_1_0_0_1_n_n 2048 rfl rfl).symm k) = ix2 r k := funext fun a => Fin.ext (by
    match a with
    | ⟨0, _⟩ => exact lhs_0 _ _
    | ⟨1, _⟩ => exact (dot_S512x2048_S2048x256_S512x256_1_0_0_1_n_n.lhsIdx_val_of_single rfl _ _).trans hk)
  have er : dot_S512x2048_S2048x256_S512x256_1_0_0_1_n_n.rhsIdx (ix2 r j) ((ValueIdx.contrEquiv1 dot_S512x2048_S2048x256_S512x256_1_0_0_1_n_n 2048 rfl rfl).symm k) = ix2 k j := funext fun a => Fin.ext (by
    match a with
    | ⟨0, _⟩ => exact (dot_S512x2048_S2048x256_S512x256_1_0_0_1_n_n.rhsIdx_val_of_single rfl _ _).trans hk
    | ⟨1, _⟩ => exact rhs_1 _ _)
  rw [el, er]

theorem lhsf_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem rhsf_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The product with the forget gate's columns, read at an index. -/
theorem mf_apply (a : FVec Ideal S512x2048 .bf16) (w : Vec Ideal S2048x128 .bf16) (r : Fin 512) (j : Fin 128) :
    matmul (F := Ideal) (φ₁ := .bf16) (φ₂ := .bf16) dot_S512x2048_S2048x128_S512x128_1_0_0_1_n_n none a w (constant S512x128 .f32 0x00000000#32) (ix2 r j)
      = ∑ k : Fin 2048, a (ix2 r k) * w (ix2 k j) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 r j) ((ValueIdx.contrEquiv1 dot_S512x2048_S2048x128_S512x128_1_0_0_1_n_n 2048 rfl rfl).symm k) = ix2 r k := funext fun a => Fin.ext (by
    match a with
    | ⟨0, _⟩ => exact lhsf_0 _ _
    | ⟨1, _⟩ => exact (dot_S512x2048_S2048x128_S512x128_1_0_0_1_n_n.lhsIdx_val_of_single rfl _ _).trans hk)
  have er : dot_S512x2048_S2048x128_S512x128_1_0_0_1_n_n.rhsIdx (ix2 r j) ((ValueIdx.contrEquiv1 dot_S512x2048_S2048x128_S512x128_1_0_0_1_n_n 2048 rfl rfl).symm k) = ix2 k j := funext fun a => Fin.ext (by
    match a with
    | ⟨0, _⟩ => exact (dot_S512x2048_S2048x128_S512x128_1_0_0_1_n_n.rhsIdx_val_of_single rfl _ _).trans hk
    | ⟨1, _⟩ => exact rhsf_1 _ _)
  rw [el, er]

theorem hn_apply (z : FVec Ideal S512x128 .f32) (g : Vec Ideal S1x128 .f32) (r : Fin 512) (j : Fin 128) :
    hn z g (ix2 r j) = hd (rowOf z r) (rowOf g 0) j := by
  unfold hn
  rw [shapeCast_self]
  exact hnorm_apply (by decide) z g _ (fun r j => nfac_apply (by decide) z _ _ _ _ _ r j) _ r j

/-- The normalised rows. -/
theorem pay1_apply (x0 : Vec Ideal S512x2048 .f32) (x1 : Vec Ideal S1x2048 .f32) (r : Fin 512) (k : Fin 2048) :
    k0_pay1 (F := Ideal) x0 x1 (ix2 r k) = act (rowOf x0 r) (rowOf x1 0) k := by
  unfold k0_pay1
  rw [shapeCast_self, shapeCast_self]
  exact anorm_apply (by decide) x0 x1 _ (fun r j => nfac_apply (by decide) x0 _ _ _ _ _ r j) _ r k

/-- A row of a block times a column of a matrix of weights. -/
def P {b : ℕ} (x0 : Vec Ideal S512x2048 .f32) (x1 : Vec Ideal S1x2048 .f32) (w : (⟨2, ![2048, b]⟩ : Shape).Idx → EReal) (r : Fin 512) (c : Fin b) : EReal :=
  prj (rowOf x0 r) (rowOf x1 0) (colOf w c)

/-- The gated value of a row. -/
def Gu (x0 : Vec Ideal S512x2048 .f32) (x1 : Vec Ideal S1x2048 .f32) (w w' : Vec Ideal S2048x1024 .bf16) (y : S512x1024.Idx) : EReal :=
  P x0 x1 w (y 0) (y 1) * Ideal.logistic (P x0 x1 w' (y 0) (y 1))

/-- The plain product. -/
def Gv (x0 : Vec Ideal S512x2048 .f32) (x1 : Vec Ideal S1x2048 .f32) (w : Vec Ideal S2048x1024 .bf16) (y : S512x1024.Idx) : EReal :=
  P x0 x1 w (y 0) (y 1)

/-- The plain product, transposed. -/
def Gt (x0 : Vec Ideal S512x2048 .f32) (x1 : Vec Ideal S1x2048 .f32) (w : Vec Ideal S2048x1024 .bf16) (y : S1024x512.Idx) : EReal :=
  P x0 x1 w (y 1) (y 0)

/-- Lane `e` of the head that column `c` belongs to. -/
def lane (c : Fin 1024) (e : Fin 128) : Fin 1024 := ⟨c.val / 128 * 128 + e.val, by omega⟩

/-- A normalised head. -/
def Gh (x0 : Vec Ideal S512x2048 .f32) (x1 : Vec Ideal S1x2048 .f32) (w : Vec Ideal S2048x1024 .bf16) (g : Vec Ideal S1x128 .f32) (y : S512x1024.Idx) : EReal :=
  hd (fun e => P x0 x1 w (y 0) (lane (y 1) e)) (rowOf g 0) ⟨(y 1).val % 128, Nat.mod_lt _ (by decide)⟩

/-- A normalised head, scaled. -/
def Gq (x0 : Vec Ideal S512x2048 .f32) (x1 : Vec Ideal S1x2048 .f32) (w : Vec Ideal S2048x1024 .bf16) (g : Vec Ideal S1x128 .f32) (y : S512x1024.Idx) : EReal :=
  Gh x0 x1 w g y * Ideal.ofBits .f32 0x3E0293EE#32

/-- The logarithm of the forget gate. -/
def Gl (x0 : Vec Ideal S512x2048 .f32) (x1 : Vec Ideal S1x2048 .f32) (w : Vec Ideal S2048x128 .bf16) (b : Vec Ideal S1x128 .f32) (y : S512x8.Idx) : EReal :=
  ls (P x0 x1 w (y 0) (⟨(y 1).val, lt_of_lt_of_le (y 1).isLt (by decide)⟩ : Fin 128) + b (ix2 0 (⟨(y 1).val, lt_of_lt_of_le (y 1).isLt (by decide)⟩ : Fin 128)))

section pieces

variable (x0 : Vec Ideal S512x2048 .f32) (x1 : Vec Ideal S1x2048 .f32) (x2 x3 x4 x5 x6 : Vec Ideal S2048x1024 .bf16)
  (x7 : Vec Ideal S2048x128 .bf16) (x8 x9 x10 : Vec Ideal S1x128 .f32)

theorem pay68_apply (r : Fin 512) (k : Fin 2048) :
    k0_pay68 x0 x1 x2 x3 x4 x5 x6 x7 x8 x9 x10 (ix2 r k) = act (rowOf x0 r) (rowOf x1 0) k := by
  unfold k0_pay68
  rw [show View.ld x0 r0_0 = x0 from funext fun y => View.ld_unit_apply_of x0 _ _ _ y y (fun a => by match a with | ⟨0, _⟩ => exact (Nat.zero_add _).symm | ⟨1, _⟩ => exact (Nat.zero_add _).symm),
    show View.ld x1 r0_1 = x1 from funext fun y => View.ld_unit_apply_of x1 _ _ _ y y (fun a => by match a with | ⟨0, _⟩ => exact (Nat.zero_add _).symm | ⟨1, _⟩ => exact (Nat.zero_add _).symm)]
  exact pay1_apply x0 x1 r k

theorem ldg (g : Vec Ideal S1x128 .f32) : View.ld g r0_10 = g :=
  funext fun y => View.ld_unit_apply_of g _ _ _ y y (fun a => by match a with | ⟨0, _⟩ => exact (Nat.zero_add _).symm | ⟨1, _⟩ => exact (Nat.zero_add _).symm)

theorem mmP (w : Vec Ideal S2048x1024 .bf16) (c : ℕ) (inb : ∀ a, (![0, c] : Fin 2 → ℕ) a + S2048x256.size a ≤ S2048x1024.size a)
    (r : Fin 512) (j : Fin 256) (q : Fin 1024) (hq : q.val = c + j.val) :
    mm (k0_pay68 x0 x1 x2 x3 x4 x5 x6 x7 x8 x9 x10) (View.ld w (Rect.unit (s := S2048x1024) ![0, c] S2048x256.size inb)) (ix2 r j) = P x0 x1 w r q := by
  rw [mm_apply]
  unfold P prj
  refine Finset.sum_congr rfl fun k _ => ?_
  rw [pay68_apply]
  exact congrArg (act (rowOf x0 r) (rowOf x1 0) k * ·) (View.ld_unit_apply_of w ![0, c] S2048x256.size inb (ix2 k j) (ix2 k q)
    (fun a => by match a with | ⟨0, _⟩ => exact (Nat.zero_add _).symm | ⟨1, _⟩ => exact hq))

theorem af (r : Fin 512) (j : Fin 128) :
    addf (matmul (F := Ideal) (φ₂ := .bf16) dot_S512x2048_S2048x128_S512x128_1_0_0_1_n_n none (k0_pay68 x0 x1 x2 x3 x4 x5 x6 x7 x8 x9 x10) x7 (constant S512x128 .f32 0x00000000#32))
      (broadcastTo S512x128 x8 broadcasts_S1x128_S512x128) (ix2 r j) = P x0 x1 x7 r j + x8 (ix2 0 j) := by
  rw [addf_apply, mf_apply]
  unfold P prj
  refine congrArg₂ (fun p q : EReal => p + q) ?_ (broadcastTo_1b_ab_apply x8 broadcasts_S1x128_S512x128 r j)
  refine (Finset.sum_congr rfl fun k _ => ?_)
  rw [pay68_apply]
  rfl

theorem pv (w : Vec Ideal S2048x1024 .bf16) (c : ℕ) (inb : ∀ a, (![0, c] : Fin 2 → ℕ) a + S2048x256.size a ≤ S2048x1024.size a)
    (inb' : ∀ a, (![0, c] : Fin 2 → ℕ) a + S512x256.size a ≤ S512x1024.size a) (x : S512x256.Idx) :
    mm (k0_pay68 x0 x1 x2 x3 x4 x5 x6 x7 x8 x9 x10) (View.ld w (Rect.unit (s := S2048x1024) ![0, c] S2048x256.size inb)) x
      = Gv x0 x1 w ((Rect.unit (s := S512x1024) ![0, c] S512x256.size inb').emb x) := by
  rw [eq_ix2 x]
  refine (mmP x0 x1 x2 x3 x4 x5 x6 x7 x8 x9 x10 w c inb (x 0) (x 1) ((Rect.unit (s := S512x1024) ![0, c] S512x256.size inb').emb x 1)
    (embv (s := S512x1024) ![0, c] S512x256.size inb' x 1)).trans ?_
  unfold Gv
  refine congrArg₂ (P x0 x1 w) (Fin.ext ?_) ?_
  · exact ((embv (s := S512x1024) ![0, c] S512x256.size inb' x 0).trans (Nat.zero_add _)).symm
  · rw [← eq_ix2 x]

theorem pt (w : Vec Ideal S2048x1024 .bf16) (c : ℕ) (inb : ∀ a, (![0, c] : Fin 2 → ℕ) a + S2048x256.size a ≤ S2048x1024.size a)
    (inb' : ∀ a, (![c, 0] : Fin 2 → ℕ) a + S256x512.size a ≤ S1024x512.size a) (h : S512x256.Transposes [1, 0] S256x512) (x : S256x512.Idx) :
    transpose S256x512 [1, 0] (mm (k0_pay68 x0 x1 x2 x3 x4 x5 x6 x7 x8 x9 x10) (View.ld w (Rect.unit (s := S2048x1024) ![0, c] S2048x256.size inb))) h x
      = Gt x0 x1 w ((Rect.unit (s := S1024x512) ![c, 0] S256x512.size inb').emb x) := by
  rw [eq_ix2 x]
  refine (transpose_ix2_apply _ h (x 0) (x 1)).trans ?_
  refine (mmP x0 x1 x2 x3 x4 x5 x6 x7 x8 x9 x10 w c inb (x 1) (x 0) ((Rect.unit (s := S1024x512) ![c, 0] S256x512.size inb').emb x 0)
    (embv (s := S1024x512) ![c, 0] S256x512.size inb' x 0)).trans ?_
  unfold Gt
  refine congrArg₂ (P x0 x1 w) (Fin.ext ?_) ?_
  · exact ((embv (s := S1024x512) ![c, 0] S256x512.size inb' x 1).trans (Nat.zero_add _)).symm
  · rw [← eq_ix2 x]

theorem pu (w w' : Vec Ideal S2048x1024 .bf16) (c : ℕ) (inb : ∀ a, (![0, c] : Fin 2 → ℕ) a + S2048x256.size a ≤ S2048x1024.size a)
    (inb' : ∀ a, (![0, c] : Fin 2 → ℕ) a + S512x256.size a ≤ S512x1024.size a) (x : S512x256.Idx) :
    mulf (mm (k0_pay68 x0 x1 x2 x3 x4 x5 x6 x7 x8 x9 x10) (View.ld w (Rect.unit (s := S2048x1024) ![0, c] S2048x256.size inb)))
      (logistic (mm (k0_pay68 x0 x1 x2 x3 x4 x5 x6 x7 x8 x9 x10) (View.ld w' (Rect.unit (s := S2048x1024) ![0, c] S2048x256.size inb)))) x
      = Gu x0 x1 w w' ((Rect.unit (s := S512x1024) ![0, c] S512x256.size inb').emb x) := by
  rw [mulf_apply]
  exact congrArg₂ (fun p q => p * Ideal.logistic q) (pv x0 x1 x2 x3 x4 x5 x6 x7 x8 x9 x10 w c inb inb' x) (pv x0 x1 x2 x3 x4 x5 x6 x7 x8 x9 x10 w' c inb inb' x)

theorem ph (w : Vec Ideal S2048x1024 .bf16) (g : Vec Ideal S1x128 .f32) (c o p : ℕ)
    (inb : ∀ a, (![0, c] : Fin 2 → ℕ) a + S2048x256.size a ≤ S2048x1024.size a)
    (inb' : ∀ a, (![0, p] : Fin 2 → ℕ) a + S512x128.size a ≤ S512x1024.size a)
    (hs : S512x256.Slices ![0, o] S512x128) (hp : p = c + o) (h8 : p % 128 = 0) (ho : o ≤ 128) (x : S512x128.Idx) :
    hn (extractStridedSlice S512x128 ![0, o] (mm (k0_pay68 x0 x1 x2 x3 x4 x5 x6 x7 x8 x9 x10) (View.ld w (Rect.unit (s := S2048x1024) ![0, c] S2048x256.size inb))) hs)
        (View.ld g r0_10) x
      = Gh x0 x1 w g ((Rect.unit (s := S512x1024) ![0, p] S512x128.size inb').emb x) := by
  have e1 : ((Rect.unit (s := S512x1024) ![0, p] S512x128.size inb').emb x 1).val = p + (x 1).val := embv (s := S512x1024) ![0, p] S512x128.size inb' x 1
  have e0 : ((Rect.unit (s := S512x1024) ![0, p] S512x128.size inb').emb x 0).val = (x 0).val :=
    (embv (s := S512x1024) ![0, p] S512x128.size inb' x 0).trans (Nat.zero_add _)
  have hx : (x 1).val < 128 := (x 1).isLt
  rw [ldg]
  refine ((congrArg (hn _ g) (eq_ix2 x)).trans (hn_apply _ g (x 0) (x 1))).trans ?_
  unfold Gh
  have hr : (Rect.unit (s := S512x1024) ![0, p] S512x128.size inb').emb x 0 = x 0 := Fin.ext e0
  have hj : (⟨((Rect.unit (s := S512x1024) ![0, p] S512x128.size inb').emb x 1).val % 128, Nat.mod_lt _ (by decide)⟩ : Fin 128) = x 1 :=
    Fin.ext (by show _ % 128 = _; rw [e1]; omega)
  rw [hj]
  refine congrArg (fun z => hd z (rowOf g 0) (x 1)) (funext fun e => ?_)
  have he := e.isLt
  refine (slice2_axis1_apply o _ hs (x 0) e ⟨o + e.val, by omega⟩ rfl).trans ?_
  refine (mmP x0 x1 x2 x3 x4 x5 x6 x7 x8 x9 x10 w c inb (x 0) ⟨o + e.val, by omega⟩ (lane ((Rect.unit (s := S512x1024) ![0, p] S512x128.size inb').emb x 1) e) ?_).trans ?_
  · show _ / 128 * 128 + e.val = c + (o + e.val)
    rw [e1]; omega
  · exact congrArg (fun r => P x0 x1 w r _) hr.symm

theorem pq (w : Vec Ideal S2048x1024 .bf16) (g : Vec Ideal S1x128 .f32) (c o p : ℕ)
    (inb : ∀ a, (![0, c] : Fin 2 → ℕ) a + S2048x256.size a ≤ S2048x1024.size a)
    (inb' : ∀ a, (![0, p] : Fin 2 → ℕ) a + S512x128.size a ≤ S512x1024.size a)
    (hs : S512x256.Slices ![0, o] S512x128) (hp : p = c + o) (h8 : p % 128 = 0) (ho : o ≤ 128) (x : S512x128.Idx) :
    mulf (hn (extractStridedSlice S512x128 ![0, o] (mm (k0_pay68 x0 x1 x2 x3 x4 x5 x6 x7 x8 x9 x10) (View.ld w (Rect.unit (s := S2048x1024) ![0, c] S2048x256.size inb))) hs)
        (View.ld g r0_10)) (broadcast S512x128 (Scalar.ofBits .f32 0x3E0293EE#32 : Ideal .f32)) x
      = Gq x0 x1 w g ((Rect.unit (s := S512x1024) ![0, p] S512x128.size inb').emb x) := by
  rw [mulf_apply, ph x0 x1 x2 x3 x4 x5 x6 x7 x8 x9 x10 w g c o p inb inb' hs hp h8 ho x]
  rfl

theorem out11 (y : S512x1024.Idx) : out0_11 x0 x1 x2 x3 x4 x5 x6 x7 x8 x9 x10 y = Gu x0 x1 x2 x3 y := by
  unfold out0_11
  refine View.canon_apply_of_pieces (Val := Elt Ideal) (Gu x0 x1 x2 x3) _ ?_ y (cover0_11 _ _ _ _ y)
  refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
  · exact pu x0 x1 x2 x3 x4 x5 x6 x7 x8 x9 x10 x2 x3 768 inb_S2048x1024_S2048x256_0_768 inb_S512x1024_S512x256_0_768 x
  · exact pu x0 x1 x2 x3 x4 x5 x6 x7 x8 x9 x10 x2 x3 512 inb_S2048x1024_S2048x256_0_512 inb_S512x1024_S512x256_0_512 x
  · exact pu x0 x1 x2 x3 x4 x5 x6 x7 x8 x9 x10 x2 x3 256 inb_S2048x1024_S2048x256_0_256 inb_S512x1024_S512x256_0_256 x
  · exact pu x0 x1 x2 x3 x4 x5 x6 x7 x8 x9 x10 x2 x3 0 inb_S2048x1024_S2048x256_0_0 inb_S512x1024_S512x256_0_0 x

theorem out12 (y : S512x1024.Idx) : out0_12 x0 x1 x2 x3 x4 x5 x6 x7 x8 x9 x10 y = Gq x0 x1 x4 x9 y := by
  unfold out0_12
  refine View.canon_apply_of_pieces (Val := Elt Ideal) (Gq x0 x1 x4 x9) _ ?_ y (cover0_12 _ _ _ _ _ _ _ _ y)
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩
  · exact pq x0 x1 x2 x3 x4 x5 x6 x7 x8 x9 x10 x4 x9 768 128 896 inb_S2048x1024_S2048x256_0_768 inb_S512x1024_S512x128_0_896 slices_S512x256_o0_128_S512x128 rfl rfl (by decide) x
  · exact pq x0 x1 x2 x3 x4 x5 x6 x7 x8 x9 x10 x4 x9 768 0 768 inb_S2048x1024_S2048x256_0_768 inb_S512x1024_S512x128_0_768 slices_S512x256_o0_0_S512x128 rfl rfl (by decide) x
  · exact pq x0 x1 x2 x3 x4 x5 x6 x7 x8 x9 x10 x4 x9 512 128 640 inb_S2048x1024_S2048x256_0_512 inb_S512x1024_S512x128_0_640 slices_S512x256_o0_128_S512x128 rfl rfl (by decide) x
  · exact pq x0 x1 x2 x3 x4 x5 x6 x7 x8 x9 x10 x4 x9 512 0 512 inb_S2048x1024_S2048x256_0_512 inb_S512x1024_S512x128_0_512 slices_S512x256_o0_0_S512x128 rfl rfl (by decide) x
  · exact pq x0 x1 x2 x3 x4 x5 x6 x7 x8 x9 x10 x4 x9 256 128 384 inb_S2048x1024_S2048x256_0_256 inb_S512x1024_S512x128_0_384 slices_S512x256_o0_128_S512x128 rfl rfl (by decide) x
  · exact pq x0 x1 x2 x3 x4 x5 x6 x7 x8 x9 x10 x4 x9 256 0 256 inb_S2048x1024_S2048x256_0_256 inb_S512x1024_S512x128_0_256 slices_S512x256_o0_0_S512x128 rfl rfl (by decide) x
  · exact pq x0 x1 x2 x3 x4 x5 x6 x7 x8 x9 x10 x4 x9 0 128 128 inb_S2048x1024_S2048x256_0_0 inb_S512x1024_S512x128_0_128 slices_S512x256_o0_128_S512x128 rfl rfl (by decide) x
  · exact pq x0 x1 x2 x3 x4 x5 x6 x7 x8 x9 x10 x4 x9 0 0 0 inb_S2048x1024_S2048x256_0_0 inb_S512x1024_S512x128_0_0 slices_S512x256_o0_0_S512x128 rfl rfl (by decide) x

theorem out13 (y : S512x1024.Idx) : out0_13 x0 x1 x2 x3 x4 x5 x6 x7 x8 x9 x10 y = Gh x0 x1 x5 x10 y := by
  unfold out0_13
  refine View.canon_apply_of_pieces (Val := Elt Ideal) (Gh x0 x1 x5 x10) _ ?_ y (cover0_13 _ _ _ _ _ _ _ _ y)
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩
  · exact ph x0 x1 x2 x3 x4 x5 x6 x7 x8 x9 x10 x5 x10 768 128 896 inb_S2048x1024_S2048x256_0_768 inb_S512x1024_S512x128_0_896 slices_S512x256_o0_128_S512x128 rfl rfl (by decide) x
  · exact ph x0 x1 x2 x3 x4 x5 x6 x7 x8 x9 x10 x5 x10 768 0 768 inb_S2048x1024_S2048x256_0_768 inb_S512x1024_S512x128_0_768 slices_S512x256_o0_0_S512x128 rfl rfl (by decide) x
  · exact ph x0 x1 x2 x3 x4 x5 x6 x7 x8 x9 x10 x5 x10 512 128 640 inb_S2048x1024_S2048x256_0_512 inb_S512x1024_S512x128_0_640 slices_S512x256_o0_128_S512x128 rfl rfl (by decide) x
  · exact ph x0 x1 x2 x3 x4 x5 x6 x7 x8 x9 x10 x5 x10 512 0 512 inb_S2048x1024_S2048x256_0_512 inb_S512x1024_S512x128_0_512 slices_S512x256_o0_0_S512x128 rfl rfl (by decide) x
  · exact ph x0 x1 x2 x3 x4 x5 x6 x7 x8 x9 x10 x5 x10 256 128 384 inb_S2048x1024_S2048x256_0_256 inb_S512x1024_S512x128_0_384 slices_S512x256_o0_128_S512x128 rfl rfl (by decide) x
  · exact ph x0 x1 x2 x3 x4 x5 x6 x7 x8 x9 x10 x5 x10 256 0 256 inb_S2048x1024_S2048x256_0_256 inb_S512x1024_S512x128_0_256 slices_S512x256_o0_0_S512x128 rfl rfl (by decide) x
  · exact ph x0 x1 x2 x3 x4 x5 x6 x7 x8 x9 x10 x5 x10 0 128 128 inb_S2048x1024_S2048x256_0_0 inb_S512x1024_S512x128_0_128 slices_S512x256_o0_128_S512x128 rfl rfl (by decide) x
  · exact ph x0 x1 x2 x3 x4 x5 x6 x7 x8 x9 x10 x5 x10 0 0 0 inb_S2048x1024_S2048x256_0_0 inb_S512x1024_S512x128_0_0 slices_S512x256_o0_0_S512x128 rfl rfl (by decide) x

theorem out14 (y : S512x1024.Idx) : out0_14 x0 x1 x2 x3 x4 x5 x6 x7 x8 x9 x10 y = Gh x0 x1 x5 x10 y := by
  unfold out0_14
  refine View.canon_apply_of_pieces (Val := Elt Ideal) (Gh x0 x1 x5 x10) _ ?_ y (cover0_14 _ _ _ _ _ _ _ _ y)
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩
  · exact ph x0 x1 x2 x3 x4 x5 x6 x7 x8 x9 x10 x5 x10 768 128 896 inb_S2048x1024_S2048x256_0_768 inb_S512x1024_S512x128_0_896 slices_S512x256_o0_128_S512x128 rfl rfl (by decide) x
  · exact ph x0 x1 x2 x3 x4 x5 x6 x7 x8 x9 x10 x5 x10 768 0 768 inb_S2048x1024_S2048x256_0_768 inb_S512x1024_S512x128_0_768 slices_S512x256_o0_0_S512x128 rfl rfl (by decide) x
  · exact ph x0 x1 x2 x3 x4 x5 x6 x7 x8 x9 x10 x5 x10 512 128 640 inb_S2048x1024_S2048x256_0_512 inb_S512x1024_S512x128_0_640 slices_S512x256_o0_128_S512x128 rfl rfl (by decide) x
  · exact ph x0 x1 x2 x3 x4 x5 x6 x7 x8 x9 x10 x5 x10 512 0 512 inb_S2048x1024_S2048x256_0_512 inb_S512x1024_S512x128_0_512 slices_S512x256_o0_0_S512x128 rfl rfl (by decide) x
  · exact ph x0 x1 x2 x3 x4 x5 x6 x7 x8 x9 x10 x5 x10 256 128 384 inb_S2048x1024_S2048x256_0_256 inb_S512x1024_S512x128_0_384 slices_S512x256_o0_128_S512x128 rfl rfl (by decide) x
  · exact ph x0 x1 x2 x3 x4 x5 x6 x7 x8 x9 x10 x5 x10 256 0 256 inb_S2048x1024_S2048x256_0_256 inb_S512x1024_S512x128_0_256 slices_S512x256_o0_0_S512x128 rfl rfl (by decide) x
  · exact ph x0 x1 x2 x3 x4 x5 x6 x7 x8 x9 x10 x5 x10 0 128 128 inb_S2048x1024_S2048x256_0_0 inb_S512x1024_S512x128_0_128 slices_S512x256_o0_128_S512x128 rfl rfl (by decide) x
  · exact ph x0 x1 x2 x3 x4 x5 x6 x7 x8 x9 x10 x5 x10 0 0 0 inb_S2048x1024_S2048x256_0_0 inb_S512x1024_S512x128_0_0 slices_S512x256_o0_0_S512x128 rfl rfl (by decide) x

theorem out15 (y : S512x1024.Idx) : out0_15 x0 x1 x2 x3 x4 x5 x6 x7 x8 x9 x10 y = Gv x0 x1 x6 y := by
  unfold out0_15
  refine View.canon_apply_of_pieces (Val := Elt Ideal) (Gv x0 x1 x6) _ ?_ y (cover0_15 _ _ _ _ y)
  refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
  · exact pv x0 x1 x2 x3 x4 x5 x6 x7 x8 x9 x10 x6 768 inb_S2048x1024_S2048x256_0_768 inb_S512x1024_S512x256_0_768 x
  · exact pv x0 x1 x2 x3 x4 x5 x6 x7 x8 x9 x10 x6 512 inb_S2048x1024_S2048x256_0_512 inb_S512x1024_S512x256_0_512 x
  · exact pv x0 x1 x2 x3 x4 x5 x6 x7 x8 x9 x10 x6 256 inb_S2048x1024_S2048x256_0_256 inb_S512x1024_S512x256_0_256 x
  · exact pv x0 x1 x2 x3 x4 x5 x6 x7 x8 x9 x10 x6 0 inb_S2048x1024_S2048x256_0_0 inb_S512x1024_S512x256_0_0 x

theorem out16 (y : S512x1024.Idx) : out0_16 x0 x1 x2 x3 x4 x5 x6 x7 x8 x9 x10 y = Gv x0 x1 x6 y := by
  unfold out0_16
  refine View.canon_apply_of_pieces (Val := Elt Ideal) (Gv x0 x1 x6) _ ?_ y (cover0_16 _ _ _ _ y)
  refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
  · exact pv x0 x1 x2 x3 x4 x5 x6 x7 x8 x9 x10 x6 768 inb_S2048x1024_S2048x256_0_768 inb_S512x1024_S512x256_0_768 x
  · exact pv x0 x1 x2 x3 x4 x5 x6 x7 x8 x9 x10 x6 512 inb_S2048x1024_S2048x256_0_512 inb_S512x1024_S512x256_0_512 x
  · exact pv x0 x1 x2 x3 x4 x5 x6 x7 x8 x9 x10 x6 256 inb_S2048x1024_S2048x256_0_256 inb_S512x1024_S512x256_0_256 x
  · exact pv x0 x1 x2 x3 x4 x5 x6 x7 x8 x9 x10 x6 0 inb_S2048x1024_S2048x256_0_0 inb_S512x1024_S512x256_0_0 x

theorem out17 (y : S1024x512.Idx) : out0_17 x0 x1 x2 x3 x4 x5 x6 x7 x8 x9 x10 y = Gt x0 x1 x6 y := by
  unfold out0_17
  refine View.canon_apply_of_pieces (Val := Elt Ideal) (Gt x0 x1 x6) _ ?_ y (cover0_17 _ _ _ _ y)
  refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
  · exact pt x0 x1 x2 x3 x4 x5 x6 x7 x8 x9 x10 x6 768 inb_S2048x1024_S2048x256_0_768 inb_S1024x512_S256x512_768_0 transposes_S512x256_p1_0_S256x512 x
  · exact pt x0 x1 x2 x3 x4 x5 x6 x7 x8 x9 x10 x6 512 inb_S2048x1024_S2048x256_0_512 inb_S1024x512_S256x512_512_0 transposes_S512x256_p1_0_S256x512 x
  · exact pt x0 x1 x2 x3 x4 x5 x6 x7 x8 x9 x10 x6 256 inb_S2048x1024_S2048x256_0_256 inb_S1024x512_S256x512_256_0 transposes_S512x256_p1_0_S256x512 x
  · exact pt x0 x1 x2 x3 x4 x5 x6 x7 x8 x9 x10 x6 0 inb_S2048x1024_S2048x256_0_0 inb_S1024x512_S256x512_0_0 transposes_S512x256_p1_0_S256x512 x

theorem out18 (y : S512x8.Idx) : out0_18 x0 x1 x2 x3 x4 x5 x6 x7 x8 x9 x10 y = Gl x0 x1 x7 x8 y := by
  unfold out0_18
  rw [View.canon_unit_zero (S := S512x8) (funext fun a => by match a with | ⟨0, _⟩ => rfl | ⟨1, _⟩ => rfl)]
  have h7 : View.ld x7 r0_23 = x7 := funext fun y => View.ld_unit_apply_of x7 _ _ _ y y (fun a => by match a with | ⟨0, _⟩ => exact (Nat.zero_add _).symm | ⟨1, _⟩ => exact (Nat.zero_add _).symm)
  rw [h7, ldg]
  unfold k0_pay67
  rw [shapeCast_self, shapeCast_self, eq_ix2 y]
  have hy : (y 1).val < 8 := (y 1).isLt
  refine (slice2_axis1_apply 0 _ _ (y 0) (y 1) (⟨(y 1).val, by omega⟩ : Fin 128) (Nat.zero_add _).symm).trans ?_
  rw [← eq_ix2 y]
  have e := af x0 x1 x2 x3 x4 x5 x6 x7 x8 x9 x10 (y 0) (⟨(y 1).val, by omega⟩ : Fin 128)
  unfold Gl
  rw [← e]
  generalize addf (matmul (F := Ideal) (φ₂ := .bf16) dot_S512x2048_S2048x128_S512x128_1_0_0_1_n_n none (k0_pay68 x0 x1 x2 x3 x4 x5 x6 x7 x8 x9 x10) x7 (constant S512x128 .f32 0x00000000#32))
      (broadcastTo S512x128 x8 broadcasts_S1x128_S512x128) = f
  show min _ (Ideal.ofBits .f32 0x00000000#32) - Ideal.log1p (Ideal.exp (Ideal.ofBits .f32 0x00000000#32 - _)) = _
  rw [Ideal.ofBits_zero_f32]
  rfl

end pieces

end Cert.Kernel2Ideal.Inp

end
-- ==== Proof.InArr.lean ====
/- The input projection's output arrays after the run, as functions of the arguments. -/
module

public import proofs.«01_k».proof.Proof.InBlock
public import Idealize.ShloMosaic.Lib.Pipeline.ValueKit.Geometry
public import Idealize.ShloMosaic.Lib.KernelVsHost
public import Idealize.ShloMosaic.Lib.StableHlo.RunRead

@[expose] public section

noncomputable section

namespace Cert.Kernel2Ideal.Inp

open Cert.Kernel2Ideal Cert.Kernel2Ideal.Gen Cert.Inp Idealize.ShloMosaic.TcCoe Idealize.ShloMosaic.ValueIdx Idealize.ShloMosaic.StableHlo
open Idealize.ShloMosaic

variable (m : (ℓ : Loc nD τ sig) → Buf (Elt Ideal) ℓ) (c : Dev nD)

/-- The arguments. -/
abbrev aX : S2x4096x2048.Idx → EReal := m ((c : Thread nD τ).loc main_arg0)
abbrev aG : S1x2048.Idx → EReal := m ((c : Thread nD τ).loc main_arg1)
abbrev aW : S1x2048x5128.Idx → EReal := m ((c : Thread nD τ).loc main_arg2)
abbrev aB : S1x8.Idx → EReal := m ((c : Thread nD τ).loc main_arg3)
abbrev aQ : S1x128.Idx → EReal := m ((c : Thread nD τ).loc main_arg4)
abbrev aK : S1x128.Idx → EReal := m ((c : Thread nD τ).loc main_arg5)

set_option maxRecDepth 65536 in
theorem V11 : (V m c main_v11 : S8192x2048.Idx → EReal) = shapeCast S8192x2048 (aX m c) shapeCasts_S2x4096x2048_S8192x2048 := by
    show StableHlo.after _ _ _ = _
    simp only [List.flatten_cons, List.flatten_nil, List.append_nil, List.cons_append, List.nil_append]
    after_results_simp <;> rfl

set_option maxRecDepth 65536 in
theorem V13 : (V m c main_v13 : S1x2048.Idx → EReal) = shapeCast S1x2048 (shapeCast S2048 (aG m c) shapeCasts_S1x2048_S2048) shapeCasts_S2048_S1x2048 := by
    show StableHlo.after _ _ _ = _
    simp only [List.flatten_cons, List.flatten_nil, List.append_nil, List.cons_append, List.nil_append]
    after_results_simp <;> rfl

set_option maxRecDepth 65536 in
theorem V2 : (V m c main_v2 : S2048x1024.Idx → EReal) = truncf (F := Ideal) .bf16 (extractStridedSlice S2048x1024 ![0, 0] (shapeCast S2048x5128 (aW m c) shapeCasts_S1x2048x5128_S2048x5128) slices_S2048x5128_S2048x1024_0_0) bitsLt_bf16_f32 := by
    show StableHlo.after _ _ _ = _
    simp only [List.flatten_cons, List.flatten_nil, List.append_nil, List.cons_append, List.nil_append]
    after_results_simp <;> rfl

set_option maxRecDepth 65536 in
theorem V4 : (V m c main_v4 : S2048x1024.Idx → EReal) = truncf (F := Ideal) .bf16 (extractStridedSlice S2048x1024 ![0, 1024] (shapeCast S2048x5128 (aW m c) shapeCasts_S1x2048x5128_S2048x5128) slices_S2048x5128_S2048x1024_0_1024) bitsLt_bf16_f32 := by
    show StableHlo.after _ _ _ = _
    simp only [List.flatten_cons, List.flatten_nil, List.append_nil, List.cons_append, List.nil_append]
    after_results_simp <;> rfl

set_option maxRecDepth 65536 in
theorem V6 : (V m c main_v6 : S2048x1024.Idx → EReal) = truncf (F := Ideal) .bf16 (extractStridedSlice S2048x1024 ![0, 2048] (shapeCast S2048x5128 (aW m c) shapeCasts_S1x2048x5128_S2048x5128) slices_S2048x5128_S2048x1024_0_2048) bitsLt_bf16_f32 := by
    show StableHlo.after _ _ _ = _
    simp only [List.flatten_cons, List.flatten_nil, List.append_nil, List.cons_append, List.nil_append]
    after_results_simp <;> rfl

set_option maxRecDepth 65536 in
theorem V8 : (V m c main_v8 : S2048x1024.Idx → EReal) = truncf (F := Ideal) .bf16 (extractStridedSlice S2048x1024 ![0, 3072] (shapeCast S2048x5128 (aW m c) shapeCasts_S1x2048x5128_S2048x5128) slices_S2048x5128_S2048x1024_0_3072) bitsLt_bf16_f32 := by
    show StableHlo.after _ _ _ = _
    simp only [List.flatten_cons, List.flatten_nil, List.append_nil, List.cons_append, List.nil_append]
    after_results_simp <;> rfl

set_option maxRecDepth 65536 in
theorem V10 : (V m c main_v10 : S2048x1024.Idx → EReal) = truncf (F := Ideal) .bf16 (extractStridedSlice S2048x1024 ![0, 4096] (shapeCast S2048x5128 (aW m c) shapeCasts_S1x2048x5128_S2048x5128) slices_S2048x5128_S2048x1024_0_4096) bitsLt_bf16_f32 := by
    show StableHlo.after _ _ _ = _
    simp only [List.flatten_cons, List.flatten_nil, List.append_nil, List.cons_append, List.nil_append]
    after_results_simp <;> rfl

set_option maxRecDepth 65536 in
theorem V16 : (V m c main_v16 : S2048x128.Idx → EReal) = truncf (F := Ideal) .bf16 (pad S2048x128 ![0, 0] ![0, 120] ![0, 0] (extractStridedSlice S2048x8 ![0, 5120] (shapeCast S2048x5128 (aW m c) shapeCasts_S1x2048x5128_S2048x5128) slices_S2048x5128_S2048x8_0_5120) (sitofp (F := Ideal) .f32 (constantI S_ 32 0#32)) pads_S2048x8_S2048x128_000_01200 h_S_) bitsLt_bf16_f32 := by
    show StableHlo.after _ _ _ = _
    simp only [List.flatten_cons, List.flatten_nil, List.append_nil, List.cons_append, List.nil_append]
    simp only [TRef.unary, TRef.binary, TRef.toBuf, TRef.ofBuf, cast_eq]
    after_results_simp <;> rfl

set_option maxRecDepth 65536 in
theorem V19 : (V m c main_v19 : S1x128.Idx → EReal) = pad S1x128 ![0, 0] ![0, 120] ![0, 0] (shapeCast S1x8 (shapeCast S8 (aB m c) shapeCasts_S1x8_S8) shapeCasts_S8_S1x8) (sitofp (F := Ideal) .f32 (constantI S_ 32 0#32)) pads_S1x8_S1x128_000_01200 h_S_ := by
    show StableHlo.after _ _ _ = _
    simp only [List.flatten_cons, List.flatten_nil, List.append_nil, List.cons_append, List.nil_append]
    simp only [TRef.unary, TRef.binary, TRef.toBuf, TRef.ofBuf, cast_eq]
    after_results_simp <;> rfl

set_option maxRecDepth 65536 in
theorem V21 : (V m c main_v21 : S1x128.Idx → EReal) = shapeCast S1x128 (shapeCast S128 (aQ m c) shapeCasts_S1x128_S128) shapeCasts_S128_S1x128 := by
    show StableHlo.after _ _ _ = _
    simp only [List.flatten_cons, List.flatten_nil, List.append_nil, List.cons_append, List.nil_append]
    after_results_simp <;> rfl

set_option maxRecDepth 65536 in
theorem V23 : (V m c main_v23 : S1x128.Idx → EReal) = shapeCast S1x128 (shapeCast S128 (aK m c) shapeCasts_S1x128_S128) shapeCasts_S128_S1x128 := by
    show StableHlo.after _ _ _ = _
    simp only [List.flatten_cons, List.flatten_nil, List.append_nil, List.cons_append, List.nil_append]
    after_results_simp <;> rfl

/-- Row `r` of the input. -/
def xrow (x : S2x4096x2048.Idx → EReal) (r : Fin 8192) : Fin 2048 → EReal :=
  fun k => x (ix3 (⟨r.val / 4096, by omega⟩ : Fin 2) (⟨r.val % 4096, by omega⟩ : Fin 4096) k)

theorem V11_apply (r : Fin 8192) (k : Fin 2048) : (V m c main_v11 : S8192x2048.Idx → EReal) (ix2 r k) = xrow (aX m c) r k := by
  rw [V11]
  refine shapeCast_apply _ _ _ _ ?_
  rw [Shape.rowMajor_val_three, Shape.rowMajor_val_two]
  show (r.val / 4096 * 4096 + r.val % 4096) * 2048 + k.val = r.val * 2048 + k.val
  omega

theorem V13_apply (k : Fin 2048) : (V m c main_v13 : S1x2048.Idx → EReal) (ix2 0 k) = aG m c (ix2 0 k) := by
  rw [V13]
  exact (shapeCast_a_1a_apply _ _ 0 k).trans (shapeCast_1a_a_apply _ _ k)

theorem V21_apply (k : Fin 128) : (V m c main_v21 : S1x128.Idx → EReal) (ix2 0 k) = aQ m c (ix2 0 k) := by
  rw [V21]
  exact (shapeCast_a_1a_apply _ _ 0 k).trans (shapeCast_1a_a_apply _ _ k)

theorem V23_apply (k : Fin 128) : (V m c main_v23 : S1x128.Idx → EReal) (ix2 0 k) = aK m c (ix2 0 k) := by
  rw [V23]
  exact (shapeCast_a_1a_apply _ _ 0 k).trans (shapeCast_1a_a_apply _ _ k)

theorem V19_apply (j : Fin 128) (h : Fin 8) (e : j.val = h.val) : (V m c main_v19 : S1x128.Idx → EReal) (ix2 0 j) = aB m c (ix2 0 h) := by
  rw [V19]
  refine (pad_apply_of_inside ![0, 0] ![0, 120] ![0, 0] _ _ _ _ _ (ix2 (0 : Fin 1) h) (fun a => ?_)).trans
    ((shapeCast_a_1a_apply _ _ 0 h).trans (shapeCast_1a_a_apply _ _ h))
  match a with
  | ⟨0, _⟩ => rfl
  | ⟨1, _⟩ => exact e.trans (by show h.val = 0 + h.val * (0 + 1); omega)

theorem V16_apply (k : Fin 2048) (j : Fin 128) (h : Fin 8) (q : Fin 5128) (e : j.val = h.val) (hq : q.val = 5120 + h.val) :
    (V m c main_v16 : S2048x128.Idx → EReal) (ix2 k j) = aW m c (ix3 0 k q) := by
  rw [V16]
  show (pad S2048x128 ![0, 0] ![0, 120] ![0, 0] (extractStridedSlice S2048x8 ![0, 5120] (shapeCast S2048x5128 (aW m c) shapeCasts_S1x2048x5128_S2048x5128) slices_S2048x5128_S2048x8_0_5120) (sitofp (F := Ideal) .f32 (constantI S_ 32 0#32)) pads_S2048x8_S2048x128_000_01200 h_S_ : S2048x128.Idx → EReal) (ix2 k j) = _
  refine (pad_apply_of_inside ![0, 0] ![0, 120] ![0, 0] _ _ _ _ _ (ix2 k h) (fun a => ?_)).trans
    ((slice2_axis1_apply 5120 _ _ k h q hq).trans (shapeCast_1ab_ab_apply _ _ k q))
  match a with
  | ⟨0, _⟩ => show k.val = 0 + k.val * (0 + 1); omega
  | ⟨1, _⟩ => exact e.trans (by show h.val = 0 + h.val * (0 + 1); omega)

theorem V2_apply (k : Fin 2048) (j : Fin 1024) (q : Fin 5128) (hq : q.val = 0 + j.val) :
    (V m c main_v2 : S2048x1024.Idx → EReal) (ix2 k j) = aW m c (ix3 0 k q) := by
  rw [V2]
  show (extractStridedSlice S2048x1024 ![0, 0] (shapeCast S2048x5128 (aW m c) shapeCasts_S1x2048x5128_S2048x5128) slices_S2048x5128_S2048x1024_0_0 : S2048x1024.Idx → EReal) (ix2 k j) = _
  exact (slice2_axis1_apply 0 _ _ k j q hq).trans (shapeCast_1ab_ab_apply _ _ k q)

theorem V4_apply (k : Fin 2048) (j : Fin 1024) (q : Fin 5128) (hq : q.val = 1024 + j.val) :
    (V m c main_v4 : S2048x1024.Idx → EReal) (ix2 k j) = aW m c (ix3 0 k q) := by
  rw [V4]
  show (extractStridedSlice S2048x1024 ![0, 1024] (shapeCast S2048x5128 (aW m c) shapeCasts_S1x2048x5128_S2048x5128) slices_S2048x5128_S2048x1024_0_1024 : S2048x1024.Idx → EReal) (ix2 k j) = _
  exact (slice2_axis1_apply 1024 _ _ k j q hq).trans (shapeCast_1ab_ab_apply _ _ k q)

theorem V6_apply (k : Fin 2048) (j : Fin 1024) (q : Fin 5128) (hq : q.val = 2048 + j.val) :
    (V m c main_v6 : S2048x1024.Idx → EReal) (ix2 k j) = aW m c (ix3 0 k q) := by
  rw [V6]
  show (extractStridedSlice S2048x1024 ![0, 2048] (shapeCast S2048x5128 (aW m c) shapeCasts_S1x2048x5128_S2048x5128) slices_S2048x5128_S2048x1024_0_2048 : S2048x1024.Idx → EReal) (ix2 k j) = _
  exact (slice2_axis1_apply 2048 _ _ k j q hq).trans (shapeCast_1ab_ab_apply _ _ k q)

theorem V8_apply (k : Fin 2048) (j : Fin 1024) (q : Fin 5128) (hq : q.val = 3072 + j.val) :
    (V m c main_v8 : S2048x1024.Idx → EReal) (ix2 k j) = aW m c (ix3 0 k q) := by
  rw [V8]
  show (extractStridedSlice S2048x1024 ![0, 3072] (shapeCast S2048x5128 (aW m c) shapeCasts_S1x2048x5128_S2048x5128) slices_S2048x5128_S2048x1024_0_3072 : S2048x1024.Idx → EReal) (ix2 k j) = _
  exact (slice2_axis1_apply 3072 _ _ k j q hq).trans (shapeCast_1ab_ab_apply _ _ k q)

theorem V10_apply (k : Fin 2048) (j : Fin 1024) (q : Fin 5128) (hq : q.val = 4096 + j.val) :
    (V m c main_v10 : S2048x1024.Idx → EReal) (ix2 k j) = aW m c (ix3 0 k q) := by
  rw [V10]
  show (extractStridedSlice S2048x1024 ![0, 4096] (shapeCast S2048x5128 (aW m c) shapeCasts_S1x2048x5128_S2048x5128) slices_S2048x5128_S2048x1024_0_4096 : S2048x1024.Idx → EReal) (ix2 k j) = _
  exact (slice2_axis1_apply 4096 _ _ k j q hq).trans (shapeCast_1ab_ab_apply _ _ k q)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)
theorem e13 : ∀ t : Fin cfg0.N, win0_13.index t = ![t.val, 0] := (by decide +kernel : ∀ t : Fin grid0.N, _)
theorem e14 : ∀ t : Fin cfg0.N, win0_14.index t = ![t.val, 0] := (by decide +kernel : ∀ t : Fin grid0.N, _)
theorem e15 : ∀ t : Fin cfg0.N, win0_15.index t = ![t.val, 0] := (by decide +kernel : ∀ t : Fin grid0.N, _)
theorem e16 : ∀ t : Fin cfg0.N, win0_16.index t = ![t.val, 0] := (by decide +kernel : ∀ t : Fin grid0.N, _)
theorem e17 : ∀ t : Fin cfg0.N, win0_17.index t = ![0, t.val] := (by decide +kernel : ∀ t : Fin grid0.N, _)
theorem e18 : ∀ t : Fin cfg0.N, win0_18.index t = ![t.val, 0] := (by decide +kernel : ∀ t : Fin grid0.N, _)

theorem ib0 (t : Fin cfg0.N) (r : Fin 512) (k : Fin 2048) (q : Fin 8192) (hq : q.val = t.val * 512 + r.val) :
    (iblk m c 0 t : S512x2048.Idx → EReal) (ix2 r k) = (V m c main_v11 : S8192x2048.Idx → EReal) (ix2 q k) := by
  show (V m c main_v11 : S8192x2048.Idx → EReal) (((cfg0.win 0).blk t).view.emb (ix2 r k)) = _
  refine congrArg _ (funext fun a => Fin.ext ?_)
  match a with
  | ⟨0, _⟩ => blk_simp [e0]; exact hq.symm
  | ⟨1, _⟩ => blk_simp [e0]

theorem ib1 (t : Fin cfg0.N) : (iblk m c 1 t : S1x2048.Idx → EReal) = (V m c main_v13 : S1x2048.Idx → EReal) := by
  funext y
  show (V m c main_v13 : S1x2048.Idx → EReal) (((cfg0.win 1).blk t).view.emb y) = _
  refine congrArg _ (funext fun a => Fin.ext ?_)
  match a with
  | ⟨0, _⟩ => blk_simp [e1]
  | ⟨1, _⟩ => blk_simp [e1]

theorem ib2 (t : Fin cfg0.N) : (iblk m c 2 t : S2048x1024.Idx → EReal) = (V m c main_v2 : S2048x1024.Idx → EReal) := by
  funext y
  show (V m c main_v2 : S2048x1024.Idx → EReal) (((cfg0.win 2).blk t).view.emb y) = _
  refine congrArg _ (funext fun a => Fin.ext ?_)
  match a with
  | ⟨0, _⟩ => blk_simp [e2]
  | ⟨1, _⟩ => blk_simp [e2]

theorem ib3 (t : Fin cfg0.N) : (iblk m c 3 t : S2048x1024.Idx → EReal) = (V m c main_v4 : S2048x1024.Idx → EReal) := by
  funext y
  show (V m c main_v4 : S2048x1024.Idx → EReal) (((cfg0.win 3).blk t).view.emb y) = _
  refine congrArg _ (funext fun a => Fin.ext ?_)
  match a with
  | ⟨0, _⟩ => blk_simp [e3]
  | ⟨1, _⟩ => blk_simp [e3]

theorem ib4 (t : Fin cfg0.N) : (iblk m c 4 t : S2048x1024.Idx → EReal) = (V m c main_v6 : S2048x1024.Idx → EReal) := by
  funext y
  show (V m c main_v6 : S2048x1024.Idx → EReal) (((cfg0.win 4).blk t).view.emb y) = _
  refine congrArg _ (funext fun a => Fin.ext ?_)
  match a with
  | ⟨0, _⟩ => blk_simp [e4]
  | ⟨1, _⟩ => blk_simp [e4]

theorem ib5 (t : Fin cfg0.N) : (iblk m c 5 t : S2048x1024.Idx → EReal) = (V m c main_v8 : S2048x1024.Idx → EReal) := by
  funext y
  show (V m c main_v8 : S2048x1024.Idx → EReal) (((cfg0.win 5).blk t).view.emb y) = _
  refine congrArg _ (funext fun a => Fin.ext ?_)
  match a with
  | ⟨0, _⟩ => blk_simp [e5]
  | ⟨1, _⟩ => blk_simp [e5]

theorem ib6 (t : Fin cfg0.N) : (iblk m c 6 t : S2048x1024.Idx → EReal) = (V m c main_v10 : S2048x1024.Idx → EReal) := by
  funext y
  show (V m c main_v10 : S2048x1024.Idx → EReal) (((cfg0.win 6).blk t).view.emb y) = _
  refine congrArg _ (funext fun a => Fin.ext ?_)
  match a with
  | ⟨0, _⟩ => blk_simp [e6]
  | ⟨1, _⟩ => blk_simp [e6]

theorem ib7 (t : Fin cfg0.N) : (iblk m c 7 t : S2048x128.Idx → EReal) = (V m c main_v16 : S2048x128.Idx → EReal) := by
  funext y
  show (V m c main_v16 : S2048x128.Idx → EReal) (((cfg0.win 7).blk t).view.emb y) = _
  refine congrArg _ (funext fun a => Fin.ext ?_)
  match a with
  | ⟨0, _⟩ => blk_simp [e7]
  | ⟨1, _⟩ => blk_simp [e7]

theorem ib8 (t : Fin cfg0.N) : (iblk m c 8 t : S1x128.Idx → EReal) = (V m c main_v19 : S1x128.Idx → EReal) := by
  funext y
  show (V m c main_v19 : S1x128.Idx → EReal) (((cfg0.win 8).blk t).view.emb y) = _
  refine congrArg _ (funext fun a => Fin.ext ?_)
  match a with
  | ⟨0, _⟩ => blk_simp [e8]
  | ⟨1, _⟩ => blk_simp [e8]

theorem ib9 (t : Fin cfg0.N) : (iblk m c 9 t : S1x128.Idx → EReal) = (V m c main_v21 : S1x128.Idx → EReal) := by
  funext y
  show (V m c main_v21 : S1x128.Idx → EReal) (((cfg0.win 9).blk t).view.emb y) = _
  refine congrArg _ (funext fun a => Fin.ext ?_)
  match a with
  | ⟨0, _⟩ => blk_simp [e9]
  | ⟨1, _⟩ => blk_simp [e9]

theorem ib10 (t : Fin cfg0.N) : (iblk m c 10 t : S1x128.Idx → EReal) = (V m c main_v23 : S1x128.Idx → EReal) := by
  funext y
  show (V m c main_v23 : S1x128.Idx → EReal) (((cfg0.win 10).blk t).view.emb y) = _
  refine congrArg _ (funext fun a => Fin.ext ?_)
  match a with
  | ⟨0, _⟩ => blk_simp [e10]
  | ⟨1, _⟩ => blk_simp [e10]

end Cert.Kernel2Ideal.Inp

end
-- ==== Proof.InOut.lean ====
/- The input projection's output arrays after the run: each entry a function of one row of the input. -/
module

public import proofs.«01_k».proof.Proof.InArr

@[expose] public section

noncomputable section

namespace Cert.Kernel2Ideal.Inp

open Cert.Kernel2Ideal Cert.Kernel2Ideal.Gen Cert.Inp Idealize.ShloMosaic.TcCoe Idealize.ShloMosaic.ValueIdx Idealize.ShloMosaic.StableHlo
open Idealize.ShloMosaic
open Idealize.ShloMosaic.Pipeline (Dat)

variable (m : (ℓ : Loc nD τ sig) → Buf (Elt Ideal) ℓ) (c : Dev nD)

/-- The first entries of a one-row array. -/
def gr {b : ℕ} (g : (⟨2, ![1, b]⟩ : Shape).Idx → EReal) : Fin b → EReal := fun k => g (ix2 0 k)

theorem row0 (t : Fin cfg0.N) (r : Fin 512) (q : Fin 8192) (hq : q.val = t.val * 512 + r.val) :
    rowOf (iblk m c 0 t : S512x2048.Idx → EReal) r = xrow (aX m c) q :=
  funext fun k => (ib0 m c t r k q hq).trans (V11_apply m c q k)

theorem row1 (t : Fin cfg0.N) : rowOf (iblk m c 1 t : S1x2048.Idx → EReal) 0 = gr (aG m c) :=
  funext fun k => (congrFun (ib1 m c t) _).trans (V13_apply m c k)

theorem row9 (t : Fin cfg0.N) : rowOf (iblk m c 9 t : S1x128.Idx → EReal) 0 = gr (aQ m c) :=
  funext fun k => (congrFun (ib9 m c t) _).trans (V21_apply m c k)

theorem row10 (t : Fin cfg0.N) : rowOf (iblk m c 10 t : S1x128.Idx → EReal) 0 = gr (aK m c) :=
  funext fun k => (congrFun (ib10 m c t) _).trans (V23_apply m c k)

theorem P2 (t : Fin cfg0.N) (r : Fin 512) (j : Fin 1024) (q : Fin 8192) (hq : q.val = t.val * 512 + r.val) (n : ℕ) (hn : n = j.val) :
    P (iblk m c 0 t) (iblk m c 1 t) (iblk m c 2 t : S2048x1024.Idx → EReal) r j = pp (xrow (aX m c) q) (gr (aG m c)) (aW m c) (0 + n) := by
  subst hn
  unfold P pp
  have hj := j.isLt
  refine congr (congr (congrArg prj (row0 m c t r q hq)) (row1 m c t)) (funext fun k => ?_)
  exact (congrFun (ib2 m c t) _).trans (V2_apply m c k j (cl (0 + j.val)) (by show (0 + j.val) % 5128 = _; omega))

theorem P3 (t : Fin cfg0.N) (r : Fin 512) (j : Fin 1024) (q : Fin 8192) (hq : q.val = t.val * 512 + r.val) (n : ℕ) (hn : n = j.val) :
    P (iblk m c 0 t) (iblk m c 1 t) (iblk m c 3 t : S2048x1024.Idx → EReal) r j = pp (xrow (aX m c) q) (gr (aG m c)) (aW m c) (1024 + n) := by
  subst hn
  unfold P pp
  have hj := j.isLt
  refine congr (congr (congrArg prj (row0 m c t r q hq)) (row1 m c t)) (funext fun k => ?_)
  exact (congrFun (ib3 m c t) _).trans (V4_apply m c k j (cl (1024 + j.val)) (by show (1024 + j.val) % 5128 = _; omega))

theorem P4 (t : Fin cfg0.N) (r : Fin 512) (j : Fin 1024) (q : Fin 8192) (hq : q.val = t.val * 512 + r.val) (n : ℕ) (hn : n = j.val) :
    P (iblk m c 0 t) (iblk m c 1 t) (iblk m c 4 t : S2048x1024.Idx → EReal) r j = pp (xrow (aX m c) q) (gr (aG m c)) (aW m c) (2048 + n) := by
  subst hn
  unfold P pp
  have hj := j.isLt
  refine congr (congr (congrArg prj (row0 m c t r q hq)) (row1 m c t)) (funext fun k => ?_)
  exact (congrFun (ib4 m c t) _).trans (V6_apply m c k j (cl (2048 + j.val)) (by show (2048 + j.val) % 5128 = _; omega))

theorem P5 (t : Fin cfg0.N) (r : Fin 512) (j : Fin 1024) (q : Fin 8192) (hq : q.val = t.val * 512 + r.val) (n : ℕ) (hn : n = j.val) :
    P (iblk m c 0 t) (iblk m c 1 t) (iblk m c 5 t : S2048x1024.Idx → EReal) r j = pp (xrow (aX m c) q) (gr (aG m c)) (aW m c) (3072 + n) := by
  subst hn
  unfold P pp
  have hj := j.isLt
  refine congr (congr (congrArg prj (row0 m c t r q hq)) (row1 m c t)) (funext fun k => ?_)
  exact (congrFun (ib5 m c t) _).trans (V8_apply m c k j (cl (3072 + j.val)) (by show (3072 + j.val) % 5128 = _; omega))

theorem P6 (t : Fin cfg0.N) (r : Fin 512) (j : Fin 1024) (q : Fin 8192) (hq : q.val = t.val * 512 + r.val) (n : ℕ) (hn : n = j.val) :
    P (iblk m c 0 t) (iblk m c 1 t) (iblk m c 6 t : S2048x1024.Idx → EReal) r j = pp (xrow (aX m c) q) (gr (aG m c)) (aW m c) (4096 + n) := by
  subst hn
  unfold P pp
  have hj := j.isLt
  refine congr (congr (congrArg prj (row0 m c t r q hq)) (row1 m c t)) (funext fun k => ?_)
  exact (congrFun (ib6 m c t) _).trans (V10_apply m c k j (cl (4096 + j.val)) (by show (4096 + j.val) % 5128 = _; omega))

theorem P7 (t : Fin cfg0.N) (r : Fin 512) (j : Fin 128) (h : Fin 8) (e : j.val = h.val) (q : Fin 8192) (hq : q.val = t.val * 512 + r.val) (n : ℕ) (hn : n = h.val) :
    P (iblk m c 0 t) (iblk m c 1 t) (iblk m c 7 t : S2048x128.Idx → EReal) r j = pp (xrow (aX m c) q) (gr (aG m c)) (aW m c) (5120 + n) := by
  subst hn
  unfold P pp
  have hh := h.isLt
  refine congr (congr (congrArg prj (row0 m c t r q hq)) (row1 m c t)) (funext fun k => ?_)
  exact (congrFun (ib7 m c t) _).trans (V16_apply m c k j h (cl (5120 + h.val)) e (by show (5120 + h.val) % 5128 = _; omega))

/-- The arrays. -/
def U (i : S8192x1024.Idx) : EReal := fu (xrow (aX m c) (i 0)) (gr (aG m c)) (aW m c) (i 1).val
def Kq (i : S8192x1024.Idx) : EReal := fh 2048 (xrow (aX m c) (i 0)) (gr (aG m c)) (aW m c) (gr (aQ m c)) (i 1).val * Ideal.ofBits .f32 0x3E0293EE#32
def Kk (i : S8192x1024.Idx) : EReal := fh 3072 (xrow (aX m c) (i 0)) (gr (aG m c)) (aW m c) (gr (aK m c)) (i 1).val
def Kv (i : S8192x1024.Idx) : EReal := pp (xrow (aX m c) (i 0)) (gr (aG m c)) (aW m c) (4096 + (i 1).val)
def Kt (i : S1024x8192.Idx) : EReal := pp (xrow (aX m c) (i 1)) (gr (aG m c)) (aW m c) (4096 + (i 0).val)
def Kl (i : S8192x8.Idx) : EReal := fl (xrow (aX m c) (i 0)) (gr (aG m c)) (aW m c) (aB m c (ix2 0 (i 1))) (i 1).val

theorem bh (w g) (o : ℕ) (gain : Fin 128 → EReal) (t : Fin cfg0.N) (hw : ∀ (r : Fin 512) (j : Fin 1024) (q : Fin 8192) (hq : q.val = t.val * 512 + r.val) (n : ℕ) (hn : n = j.val),
      P (iblk m c 0 t) (iblk m c 1 t) w r j = pp (xrow (aX m c) q) (gr (aG m c)) (aW m c) (o + n))
    (hg : rowOf g 0 = gain) (y : S512x1024.Idx) (q : Fin 8192) (n : Fin 1024) (hq : q.val = t.val * 512 + (y 0).val) (hn : n.val = (y 1).val) :
    Gh (iblk m c 0 t) (iblk m c 1 t) w g y = fh o (xrow (aX m c) q) (gr (aG m c)) (aW m c) gain n.val := by
  unfold Gh fh
  refine congr (congr (congrArg hd (funext fun e => ?_)) hg) (Fin.ext (by show _ % 128 = _ % 128; rw [hn]))
  exact hw _ _ q hq _ (by show _ = _ / 128 * 128 + e.val; rw [hn])

theorem fin11 : (dats m 0 c).arrAt 11 cfg0.N = U m c := by
  refine (dats m 0 c).arrAt_eq_of_covers 11 (U m c) (by decide +kernel) fun t hf y => ?_
  have h0 : ((((cfg0.win 11).blk t).view.emb y 0 : Fin _) : ℕ) = t.val * 512 + (y 0 : ℕ) := by blk_simp [e11]
  have h1 : ((((cfg0.win 11).blk t).view.emb y 1 : Fin _) : ℕ) = (y 1 : ℕ) := by blk_simp [e11]
  show (dats m 0 c).after 11 t y = _
  rw [after0_11]
  refine (out11 _ _ _ _ _ _ _ _ _ _ _ y).trans ?_
  exact congrArg₂ (fun a b : EReal => a * Ideal.logistic b) (P2 m c t _ _ _ h0 _ h1) (P3 m c t _ _ _ h0 _ h1)
theorem fin12 : (dats m 0 c).arrAt 12 cfg0.N = Kq m c := by
  refine (dats m 0 c).arrAt_eq_of_covers 12 (Kq m c) (by decide +kernel) fun t hf y => ?_
  have h0 : ((((cfg0.win 12).blk t).view.emb y 0 : Fin _) : ℕ) = t.val * 512 + (y 0 : ℕ) := by blk_simp [e12]
  have h1 : ((((cfg0.win 12).blk t).view.emb y 1 : Fin _) : ℕ) = (y 1 : ℕ) := by blk_simp [e12]
  show (dats m 0 c).after 12 t y = _
  rw [after0_12]
  refine (out12 _ _ _ _ _ _ _ _ _ _ _ y).trans ?_
  exact congrArg (· * Ideal.ofBits .f32 0x3E0293EE#32) (bh m c _ _ 2048 _ t (P4 m c t) (row9 m c t) y _ _ h0 h1)
theorem fin13 : (dats m 0 c).arrAt 13 cfg0.N = Kk m c := by
  refine (dats m 0 c).arrAt_eq_of_covers 13 (Kk m c) (by decide +kernel) fun t hf y => ?_
  have h0 : ((((cfg0.win 13).blk t).view.emb y 0 : Fin _) : ℕ) = t.val * 512 + (y 0 : ℕ) := by blk_simp [e13]
  have h1 : ((((cfg0.win 13).blk t).view.emb y 1 : Fin _) : ℕ) = (y 1 : ℕ) := by blk_simp [e13]
  show (dats m 0 c).after 13 t y = _
  rw [after0_13]
  refine (out13 _ _ _ _ _ _ _ _ _ _ _ y).trans ?_
  exact bh m c _ _ 3072 _ t (P5 m c t) (row10 m c t) y _ _ h0 h1
theorem fin14 : (dats m 0 c).arrAt 14 cfg0.N = Kk m c := by
  refine (dats m 0 c).arrAt_eq_of_covers 14 (Kk m c) (by decide +kernel) fun t hf y => ?_
  have h0 : ((((cfg0.win 14).blk t).view.emb y 0 : Fin _) : ℕ) = t.val * 512 + (y 0 : ℕ) := by blk_simp [e14]
  have h1 : ((((cfg0.win 14).blk t).view.emb y 1 : Fin _) : ℕ) = (y 1 : ℕ) := by blk_simp [e14]
  show (dats m 0 c).after 14 t y = _
  rw [after0_14]
  refine (out14 _ _ _ _ _ _ _ _ _ _ _ y).trans ?_
  exact bh m c _ _ 3072 _ t (P5 m c t) (row10 m c t) y _ _ h0 h1
theorem fin15 : (dats m 0 c).arrAt 15 cfg0.N = Kv m c := by
  refine (dats m 0 c).arrAt_eq_of_covers 15 (Kv m c) (by decide +kernel) fun t hf y => ?_
  have h0 : ((((cfg0.win 15).blk t).view.emb y 0 : Fin _) : ℕ) = t.val * 512 + (y 0 : ℕ) := by blk_simp [e15]
  have h1 : ((((cfg0.win 15).blk t).view.emb y 1 : Fin _) : ℕ) = (y 1 : ℕ) := by blk_simp [e15]
  show (dats m 0 c).after 15 t y = _
  rw [after0_15]
  refine (out15 _ _ _ _ _ _ _ _ _ _ _ y).trans ?_
  exact P6 m c t _ _ _ h0 _ h1
theorem fin16 : (dats m 0 c).arrAt 16 cfg0.N = Kv m c := by
  refine (dats m 0 c).arrAt_eq_of_covers 16 (Kv m c) (by decide +kernel) fun t hf y => ?_
  have h0 : ((((cfg0.win 16).blk t).view.emb y 0 : Fin _) : ℕ) = t.val * 512 + (y 0 : ℕ) := by blk_simp [e16]
  have h1 : ((((cfg0.win 16).blk t).view.emb y 1 : Fin _) : ℕ) = (y 1 : ℕ) := by blk_simp [e16]
  show (dats m 0 c).after 16 t y = _
  rw [after0_16]
  refine (out16 _ _ _ _ _ _ _ _ _ _ _ y).trans ?_
  exact P6 m c t _ _ _ h0 _ h1
theorem fin17 : (dats m 0 c).arrAt 17 cfg0.N = Kt m c := by
  refine (dats m 0 c).arrAt_eq_of_covers 17 (Kt m c) (by decide +kernel) fun t hf y => ?_
  have h0 : ((((cfg0.win 17).blk t).view.emb y 0 : Fin _) : ℕ) = (y 0 : ℕ) := by blk_simp [e17]
  have h1 : ((((cfg0.win 17).blk t).view.emb y 1 : Fin _) : ℕ) = t.val * 512 + (y 1 : ℕ) := by blk_simp [e17]
  show (dats m 0 c).after 17 t y = _
  rw [after0_17]
  refine (out17 _ _ _ _ _ _ _ _ _ _ _ y).trans ?_
  exact P6 m c t _ _ _ h1 _ h0
theorem fin18 : (dats m 0 c).arrAt 18 cfg0.N = Kl m c := by
  refine (dats m 0 c).arrAt_eq_of_covers 18 (Kl m c) (by decide +kernel) fun t hf y => ?_
  have h0 : ((((cfg0.win 18).blk t).view.emb y 0 : Fin _) : ℕ) = t.val * 512 + (y 0 : ℕ) := by blk_simp [e18]
  have h1 : ((((cfg0.win 18).blk t).view.emb y 1 : Fin _) : ℕ) = (y 1 : ℕ) := by blk_simp [e18]
  show (dats m 0 c).after 18 t y = _
  rw [after0_18]
  refine (out18 _ _ _ _ _ _ _ _ _ _ _ y).trans ?_
  exact congrArg₂ (fun a b : EReal => ls (a + b)) (P7 m c t _ _ _ h1.symm _ h0 _ rfl)
    ((congrFun (ib8 m c t) _).trans (V19_apply m c _ _ h1.symm))

end Cert.Kernel2Ideal.Inp

end
-- ==== Proof.InRef.lean ====
/- The reference's results as functions of one row of the input, and both programs' results set side by side. -/
module

public import proofs.«01_k».proof.Proof.InOut
public import proofs.«01_k».proof.Proof.Gen.Reference2Ideal.Run
public import proofs.«01_k».proof.Proof.Gen.Reference2Ideal.Read

@[expose] public section

noncomputable section

namespace Cert.Reference2Ideal.Inp

open Cert.Reference2Ideal Cert.Reference2Ideal.Read Cert.Inp Idealize.ShloMosaic Idealize.ShloMosaic.TcCoe Idealize.ShloMosaic.ValueIdx
open Cert.Kernel2Ideal.Inp (xrow gr)

variable (x : S2x4096x2048.Idx → EReal) (g : S1x2048.Idx → EReal) (w : S1x2048x5128.Idx → EReal) (b : S1x8.Idx → EReal)
  (qg kg : S1x128.Idx → EReal)

/-- The row of the input at a batch entry and a position. -/
def xr (a : Fin 2) (s : Fin 4096) : Fin 2048 → EReal := fun k => x (ix3 a s k)

theorem xr_eq (a : Fin 2) (s : Fin 4096) (r : Fin 8192) (ha : a.val = r.val / 4096) (hs : s.val = r.val % 4096) : xr x a s = xrow x r := by
  have ha' : a = ⟨r.val / 4096, by omega⟩ := Fin.ext ha
  have hs' : s = ⟨r.val % 4096, by omega⟩ := Fin.ext hs
  rw [ha', hs']
  rfl

/-- The normalised rows. -/
theorem R13 (i : S2x4096x2048.Idx) : val_main_v13 (F := Ideal) x g i = act (xr x (i 0) (i 1)) (gr g) (i 2) := by
  have e : ∀ k, idx_main_v2 (idx_main_v3 (idx_main_v9 i)) k = ix3 (i 0) (i 1) k := fun k => funext fun a => match a with
    | ⟨0, _⟩ => rfl
    | ⟨1, _⟩ => rfl
    | ⟨2, _⟩ => rfl
  have eg : idx_main_v0 (idx_main_v11 (idx_main_v12 i)) = ix2 0 (i 2) := funext fun a => match a with
    | ⟨0, _⟩ => rfl
    | ⟨1, _⟩ => Fin.ext (Nat.mod_eq_of_lt (i 2).isLt)
  have ei : i = ix3 (i 0) (i 1) (i 2) := eq_ix3 i
  rw [val_main_v13_apply, val_main_v10_apply, val_main_v9_apply, val_main_v8_apply, val_main_v7_apply, val_main_v5_apply, val_main_v3_apply, val_main_v2_apply, val_main_v4_apply, val_main_cst_0_apply, val_main_v6_apply, val_main_cst_1_apply, val_main_v12_apply, val_main_v11_apply, val_main_v0_apply, val_main_cst_apply, eg]
  simp only [val_main_v1_apply, e]
  show x i * Ideal.rsqrt (Ideal.div (Ideal.ofBits .f32 0x00000000#32 + ∑ k : Fin 2048, x (ix3 (i 0) (i 1) k) * x (ix3 (i 0) (i 1) k)) (Ideal.ofBits .f32 0x45000000#32) + Ideal.ofBits .f32 0x358637BD#32) * g (ix2 0 (i 2)) = _
  rw [Ideal.ofBits_zero_f32, zero_add]
  exact congrArg (fun p : EReal => p * Ideal.rsqrt (Ideal.div (∑ k : Fin 2048, x (ix3 (i 0) (i 1) k) * x (ix3 (i 0) (i 1) k)) (Ideal.ofBits .f32 0x45000000#32) + Ideal.ofBits .f32 0x358637BD#32) * g (ix2 0 (i 2))) (congrArg x ei)

/-- The projection. -/
theorem R15 (i : S2x4096x5128.Idx) : val_main_v15 (F := Ideal) x g w i = pp (xr x (i 0) (i 1)) (gr g) w (i 2).val := by
  rw [val_main_v15_apply]
  unfold pp prj
  refine Finset.sum_congr rfl fun k _ => ?_
  rw [R13, val_main_v14_apply]
  have hk := k.isLt
  have hi : (i 2).val < 5128 := (i 2).isLt
  refine congrArg₂ (fun p q : EReal => p * q) rfl (congrArg w (funext fun a => ?_))
  match a with
  | ⟨0, _⟩ => rfl
  | ⟨1, _⟩ => exact Fin.ext (by show (k.val * 5128 + (i 2).val) / 5128 % 2048 = k.val; omega)
  | ⟨2, _⟩ => exact Fin.ext (by show (k.val * 5128 + (i 2).val) % 5128 = (i 2).val % 5128; omega)

theorem ppc {z z' g' : Fin 2048 → EReal} {n n' : ℕ} (hz : z = z') (hn : n = n') : pp z g' w n = pp z' g' w n' := by
  subst hz hn; rfl

theorem Ru (i : S8192x1024.Idx) : val_main_v66 (F := Ideal) x g w i = fu (xrow x (i 0)) (gr g) w (i 1).val := by
  have h0 : (i 0).val < 8192 := (i 0).isLt
  have h1 : (i 1).val < 1024 := (i 1).isLt
  rw [val_main_v66_apply, val_main_v29_apply, val_main_v21_apply, val_main_v16_apply, val_main_v28_apply, val_main_v27_apply, val_main_cst_3_apply, val_main_v26_apply, val_main_v25_apply, val_main_cst_2_apply, val_main_v24_apply, val_main_v23_apply, val_main_v22_apply, val_main_v16_apply, R15, R15]
  show _ * Ideal.div (Ideal.ofBits .f32 0x3F800000#32) (Ideal.ofBits .f32 0x3F800000#32 + Ideal.exp (-_)) = _
  rw [one_f32]
  have hr := xr_eq x (idx_main_v66 i 0) (idx_main_v66 i 1) (i 0) (by show ((i 0).val * 1024 + (i 1).val) / 4194304 = _; omega)
    (by show ((i 0).val * 1024 + (i 1).val) / 1024 % 4096 = _; omega)
  refine congrArg₂ (fun p q : EReal => p * Ideal.logistic q) (ppc w hr ?_) (ppc w hr ?_)
  · show ((i 0).val * 1024 + (i 1).val) % 1024 = 0 + (i 1).val; omega
  · show 1024 + ((i 0).val * 1024 + (i 1).val) % 1024 = 1024 + (i 1).val; omega

/-- A head of the reference, read at an index. -/
theorem Rhq (i : S2x4096x8x128.Idx) : val_main_v44 (F := Ideal) x g w qg i
    = hd (fun e => pp (xr x (i 0) (i 1)) (gr g) w (2048 + ((i 2).val * 128 + e.val))) (gr qg) (i 3) := by
  have i0 : (i 0).val < 2 := (i 0).isLt
  have i1 : (i 1).val < 4096 := (i 1).isLt
  have i2 : (i 2).val < 8 := (i 2).isLt
  have hz : ∀ j : S2x4096x8x128.Idx, (j 0).val = (i 0).val → (j 1).val = (i 1).val → (j 2).val = (i 2).val → val_main_v30 (F := Ideal) x g w j
      = pp (xr x (i 0) (i 1)) (gr g) w (2048 + ((i 2).val * 128 + (j 3).val)) := fun j j0 j1 j2 => by
    have j3 : (j 3).val < 128 := (j 3).isLt
    rw [val_main_v30_apply, val_main_v17_apply, R15]
    refine ppc w (congrArg₂ (xr x) (Fin.ext ?_) (Fin.ext ?_)) ?_
    · show ((((j 0).val * 4096 + (j 1).val) * 8 + (j 2).val) * 128 + (j 3).val) / 4194304 = (i 0).val; omega
    · show ((((j 0).val * 4096 + (j 1).val) * 8 + (j 2).val) * 128 + (j 3).val) / 1024 % 4096 = (i 1).val; omega
    · show 2048 + ((((j 0).val * 4096 + (j 1).val) * 8 + (j 2).val) * 128 + (j 3).val) % 1024 = 2048 + ((i 2).val * 128 + (j 3).val); omega
  have eg : idx_main_v31 (idx_main_v42 (idx_main_v43 i)) = ix2 0 (i 3) := funext fun a => match a with
    | ⟨0, _⟩ => rfl
    | ⟨1, _⟩ => Fin.ext (Nat.mod_eq_of_lt (i 3).isLt)
  rw [val_main_v44_apply, val_main_v41_apply, val_main_v40_apply, val_main_v39_apply, val_main_v38_apply, val_main_v36_apply, val_main_v34_apply, val_main_v33_apply, val_main_v35_apply, val_main_cst_5_apply, val_main_v37_apply, val_main_cst_6_apply, val_main_v43_apply, val_main_v42_apply, val_main_v31_apply, val_main_cst_4_apply, eg]
  simp only [val_main_v32_apply]
  rw [hz i rfl rfl rfl]
  have hs : ∑ k : Fin 128, FloatOps.mulf (F := Ideal) (φ := .f32) (val_main_v30 (F := Ideal) x g w (idx_main_v33 (idx_main_v34 (idx_main_v40 i)) k)) (val_main_v30 (F := Ideal) x g w (idx_main_v33 (idx_main_v34 (idx_main_v40 i)) k))
      = ∑ k : Fin 128, pp (xr x (i 0) (i 1)) (gr g) w (2048 + ((i 2).val * 128 + k.val)) * pp (xr x (i 0) (i 1)) (gr g) w (2048 + ((i 2).val * 128 + k.val)) :=
    Finset.sum_congr rfl fun k _ => congrArg₂ (fun p q : EReal => p * q) (hz (idx_main_v33 (idx_main_v34 (idx_main_v40 i)) k) rfl rfl rfl) (hz (idx_main_v33 (idx_main_v34 (idx_main_v40 i)) k) rfl rfl rfl)
  rw [hs]
  show _ * Ideal.rsqrt (Ideal.div (Ideal.ofBits .f32 0x00000000#32 + _) (Ideal.ofBits .f32 0x43000000#32) + Ideal.ofBits .f32 0x358637BD#32) * qg (ix2 0 (i 3)) = _
  rw [Ideal.ofBits_zero_f32, zero_add]
  rfl

theorem Rhk (i : S2x4096x8x128.Idx) : val_main_v59 (F := Ideal) x g w kg i
    = hd (fun e => pp (xr x (i 0) (i 1)) (gr g) w (3072 + ((i 2).val * 128 + e.val))) (gr kg) (i 3) := by
  have i0 : (i 0).val < 2 := (i 0).isLt
  have i1 : (i 1).val < 4096 := (i 1).isLt
  have i2 : (i 2).val < 8 := (i 2).isLt
  have hz : ∀ j : S2x4096x8x128.Idx, (j 0).val = (i 0).val → (j 1).val = (i 1).val → (j 2).val = (i 2).val → val_main_v45 (F := Ideal) x g w j
      = pp (xr x (i 0) (i 1)) (gr g) w (3072 + ((i 2).val * 128 + (j 3).val)) := fun j j0 j1 j2 => by
    have j3 : (j 3).val < 128 := (j 3).isLt
    rw [val_main_v45_apply, val_main_v18_apply, R15]
    refine ppc w (congrArg₂ (xr x) (Fin.ext ?_) (Fin.ext ?_)) ?_
    · show ((((j 0).val * 4096 + (j 1).val) * 8 + (j 2).val) * 128 + (j 3).val) / 4194304 = (i 0).val; omega
    · show ((((j 0).val * 4096 + (j 1).val) * 8 + (j 2).val) * 128 + (j 3).val) / 1024 % 4096 = (i 1).val; omega
    · show 3072 + ((((j 0).val * 4096 + (j 1).val) * 8 + (j 2).val) * 128 + (j 3).val) % 1024 = 3072 + ((i 2).val * 128 + (j 3).val); omega
  have eg : idx_main_v46 (idx_main_v57 (idx_main_v58 i)) = ix2 0 (i 3) := funext fun a => match a with
    | ⟨0, _⟩ => rfl
    | ⟨1, _⟩ => Fin.ext (Nat.mod_eq_of_lt (i 3).isLt)
  rw [val_main_v59_apply, val_main_v56_apply, val_main_v55_apply, val_main_v54_apply, val_main_v53_apply, val_main_v51_apply, val_main_v49_apply, val_main_v48_apply, val_main_v50_apply, val_main_cst_8_apply, val_main_v52_apply, val_main_cst_9_apply, val_main_v58_apply, val_main_v57_apply, val_main_v46_apply, val_main_cst_7_apply, eg]
  simp only [val_main_v47_apply]
  rw [hz i rfl rfl rfl]
  have hs : ∑ k : Fin 128, FloatOps.mulf (F := Ideal) (φ := .f32) (val_main_v45 (F := Ideal) x g w (idx_main_v48 (idx_main_v49 (idx_main_v55 i)) k)) (val_main_v45 (F := Ideal) x g w (idx_main_v48 (idx_main_v49 (idx_main_v55 i)) k))
      = ∑ k : Fin 128, pp (xr x (i 0) (i 1)) (gr g) w (3072 + ((i 2).val * 128 + k.val)) * pp (xr x (i 0) (i 1)) (gr g) w (3072 + ((i 2).val * 128 + k.val)) :=
    Finset.sum_congr rfl fun k _ => congrArg₂ (fun p q : EReal => p * q) (hz (idx_main_v48 (idx_main_v49 (idx_main_v55 i)) k) rfl rfl rfl) (hz (idx_main_v48 (idx_main_v49 (idx_main_v55 i)) k) rfl rfl rfl)
  rw [hs]
  show _ * Ideal.rsqrt (Ideal.div (Ideal.ofBits .f32 0x00000000#32 + _) (Ideal.ofBits .f32 0x43000000#32) + Ideal.ofBits .f32 0x358637BD#32) * kg (ix2 0 (i 3)) = _
  rw [Ideal.ofBits_zero_f32, zero_add]
  rfl

theorem hdc {z z' : Fin 128 → EReal} {g' : Fin 128 → EReal} {n n' : Fin 128} (hz : z = z') (hn : n = n') : hd z g' n = hd z' g' n' := by
  subst hz hn; rfl

theorem Rq0 (i : S8192x1024.Idx) : val_main_v44 (F := Ideal) x g w qg (idx_main_v69 i) = fh 2048 (xrow x (i 0)) (gr g) w (gr qg) (i 1).val := by
  have h0 : (i 0).val < 8192 := (i 0).isLt
  have h1 : (i 1).val < 1024 := (i 1).isLt
  rw [Rhq]
  have hr := xr_eq x (idx_main_v69 i 0) (idx_main_v69 i 1) (i 0) (by show ((i 0).val * 1024 + (i 1).val) / 4194304 = _; omega)
    (by show ((i 0).val * 1024 + (i 1).val) / 1024 % 4096 = _; omega)
  unfold fh
  refine hdc (funext fun e => ppc w hr ?_) (Fin.ext ?_)
  · show 2048 + (((i 0).val * 1024 + (i 1).val) / 128 % 8 * 128 + e.val) = 2048 + ((i 1).val / 128 * 128 + e.val); omega
  · show ((i 0).val * 1024 + (i 1).val) % 128 = (i 1).val % 128; omega

theorem Rk0 (i : S8192x1024.Idx) : val_main_v59 (F := Ideal) x g w kg (idx_main_v71 i) = fh 3072 (xrow x (i 0)) (gr g) w (gr kg) (i 1).val := by
  have h0 : (i 0).val < 8192 := (i 0).isLt
  have h1 : (i 1).val < 1024 := (i 1).isLt
  rw [Rhk]
  have hr := xr_eq x (idx_main_v71 i 0) (idx_main_v71 i 1) (i 0) (by show ((i 0).val * 1024 + (i 1).val) / 4194304 = _; omega)
    (by show ((i 0).val * 1024 + (i 1).val) / 1024 % 4096 = _; omega)
  unfold fh
  refine hdc (funext fun e => ppc w hr ?_) (Fin.ext ?_)
  · show 3072 + (((i 0).val * 1024 + (i 1).val) / 128 % 8 * 128 + e.val) = 3072 + ((i 1).val / 128 * 128 + e.val); omega
  · show ((i 0).val * 1024 + (i 1).val) % 128 = (i 1).val % 128; omega

theorem Rk1 (i : S8192x1024.Idx) : val_main_v59 (F := Ideal) x g w kg (idx_main_v72 i) = fh 3072 (xrow x (i 0)) (gr g) w (gr kg) (i 1).val := by
  have h0 : (i 0).val < 8192 := (i 0).isLt
  have h1 : (i 1).val < 1024 := (i 1).isLt
  rw [Rhk]
  have hr := xr_eq x (idx_main_v72 i 0) (idx_main_v72 i 1) (i 0) (by show ((i 0).val * 1024 + (i 1).val) / 4194304 = _; omega)
    (by show ((i 0).val * 1024 + (i 1).val) / 1024 % 4096 = _; omega)
  unfold fh
  refine hdc (funext fun e => ppc w hr ?_) (Fin.ext ?_)
  · show 3072 + (((i 0).val * 1024 + (i 1).val) / 128 % 8 * 128 + e.val) = 3072 + ((i 1).val / 128 * 128 + e.val); omega
  · show ((i 0).val * 1024 + (i 1).val) % 128 = (i 1).val % 128; omega

theorem Rq (i : S8192x1024.Idx) : val_main_v70 (F := Ideal) x g w qg i = fh 2048 (xrow x (i 0)) (gr g) w (gr qg) (i 1).val * Ideal.ofBits .f32 0x3E0293EE#32 := by
  rw [val_main_v70_apply, val_main_v69_apply, val_main_v68_apply, val_main_v67_apply, val_main_cst_10_apply, Rq0]
  rfl

theorem Rk (i : S8192x1024.Idx) : val_main_v71 (F := Ideal) x g w kg i = fh 3072 (xrow x (i 0)) (gr g) w (gr kg) (i 1).val := by
  rw [val_main_v71_apply, Rk0]

theorem Rkb (i : S8192x1024.Idx) : val_main_v73 (F := Ideal) x g w kg i = fh 3072 (xrow x (i 0)) (gr g) w (gr kg) (i 1).val := by
  rw [val_main_v73_apply, val_main_v72_apply, Rk1]
  rfl

theorem Rv0 (i : S8192x1024.Idx) : val_main_v60 (F := Ideal) x g w (idx_main_v74 i) = pp (xrow x (i 0)) (gr g) w (4096 + (i 1).val) := by
  have h0 : (i 0).val < 8192 := (i 0).isLt
  have h1 : (i 1).val < 1024 := (i 1).isLt
  rw [val_main_v60_apply, val_main_v19_apply, R15]
  have e0 : (idx_main_v74 i 0).val = ((i 0).val * 1024 + (i 1).val) / 4194304 := rfl
  have e1 : (idx_main_v74 i 1).val = ((i 0).val * 1024 + (i 1).val) / 1024 % 4096 := rfl
  have e2 : (idx_main_v74 i 2).val = ((i 0).val * 1024 + (i 1).val) / 128 % 8 := rfl
  have e3 : (idx_main_v74 i 3).val = ((i 0).val * 1024 + (i 1).val) % 128 := rfl
  generalize idx_main_v74 i = j at e0 e1 e2 e3
  refine ppc w (xr_eq x _ _ (i 0) ?_ ?_) ?_
  · show ((((j 0).val * 4096 + (j 1).val) * 8 + (j 2).val) * 128 + (j 3).val) / 4194304 = _; omega
  · show ((((j 0).val * 4096 + (j 1).val) * 8 + (j 2).val) * 128 + (j 3).val) / 1024 % 4096 = _; omega
  · show 4096 + ((((j 0).val * 4096 + (j 1).val) * 8 + (j 2).val) * 128 + (j 3).val) % 1024 = 4096 + (i 1).val; omega

theorem Rv1 (i : S8192x1024.Idx) : val_main_v60 (F := Ideal) x g w (idx_main_v75 i) = pp (xrow x (i 0)) (gr g) w (4096 + (i 1).val) := by
  have h0 : (i 0).val < 8192 := (i 0).isLt
  have h1 : (i 1).val < 1024 := (i 1).isLt
  rw [val_main_v60_apply, val_main_v19_apply, R15]
  have e0 : (idx_main_v75 i 0).val = ((i 0).val * 1024 + (i 1).val) / 4194304 := rfl
  have e1 : (idx_main_v75 i 1).val = ((i 0).val * 1024 + (i 1).val) / 1024 % 4096 := rfl
  have e2 : (idx_main_v75 i 2).val = ((i 0).val * 1024 + (i 1).val) / 128 % 8 := rfl
  have e3 : (idx_main_v75 i 3).val = ((i 0).val * 1024 + (i 1).val) % 128 := rfl
  generalize idx_main_v75 i = j at e0 e1 e2 e3
  refine ppc w (xr_eq x _ _ (i 0) ?_ ?_) ?_
  · show ((((j 0).val * 4096 + (j 1).val) * 8 + (j 2).val) * 128 + (j 3).val) / 4194304 = _; omega
  · show ((((j 0).val * 4096 + (j 1).val) * 8 + (j 2).val) * 128 + (j 3).val) / 1024 % 4096 = _; omega
  · show 4096 + ((((j 0).val * 4096 + (j 1).val) * 8 + (j 2).val) * 128 + (j 3).val) % 1024 = 4096 + (i 1).val; omega

theorem Rv2 (i : S8192x1024.Idx) : val_main_v60 (F := Ideal) x g w (idx_main_v77 i) = pp (xrow x (i 0)) (gr g) w (4096 + (i 1).val) := by
  have h0 : (i 0).val < 8192 := (i 0).isLt
  have h1 : (i 1).val < 1024 := (i 1).isLt
  rw [val_main_v60_apply, val_main_v19_apply, R15]
  have e0 : (idx_main_v77 i 0).val = ((i 0).val * 1024 + (i 1).val) / 4194304 := rfl
  have e1 : (idx_main_v77 i 1).val = ((i 0).val * 1024 + (i 1).val) / 1024 % 4096 := rfl
  have e2 : (idx_main_v77 i 2).val = ((i 0).val * 1024 + (i 1).val) / 128 % 8 := rfl
  have e3 : (idx_main_v77 i 3).val = ((i 0).val * 1024 + (i 1).val) % 128 := rfl
  generalize idx_main_v77 i = j at e0 e1 e2 e3
  refine ppc w (xr_eq x _ _ (i 0) ?_ ?_) ?_
  · show ((((j 0).val * 4096 + (j 1).val) * 8 + (j 2).val) * 128 + (j 3).val) / 4194304 = _; omega
  · show ((((j 0).val * 4096 + (j 1).val) * 8 + (j 2).val) * 128 + (j 3).val) / 1024 % 4096 = _; omega
  · show 4096 + ((((j 0).val * 4096 + (j 1).val) * 8 + (j 2).val) * 128 + (j 3).val) % 1024 = 4096 + (i 1).val; omega

theorem Rv (i : S8192x1024.Idx) : val_main_v74 (F := Ideal) x g w i = pp (xrow x (i 0)) (gr g) w (4096 + (i 1).val) := by
  rw [val_main_v74_apply, Rv0]

theorem Rvb (i : S8192x1024.Idx) : val_main_v76 (F := Ideal) x g w i = pp (xrow x (i 0)) (gr g) w (4096 + (i 1).val) := by
  rw [val_main_v76_apply, val_main_v75_apply, Rv1]
  rfl

theorem Rvt (i : S1024x8192.Idx) : val_main_v79 (F := Ideal) x g w i = pp (xrow x (i 1)) (gr g) w (4096 + (i 0).val) := by
  rw [val_main_v79_apply, val_main_v78_apply, val_main_v77_apply, Rv2]
  rfl

theorem Rf (i : S8192x8.Idx) : val_main_v64 (F := Ideal) x g w b (idx_main_v80 i) = pp (xrow x (i 0)) (gr g) w (5120 + (i 1).val) + b (ix2 0 (i 1)) := by
  have h0 : (i 0).val < 8192 := (i 0).isLt
  have h1 : (i 1).val < 8 := (i 1).isLt
  rw [val_main_v64_apply, val_main_v20_apply, val_main_v63_apply, val_main_v62_apply, val_main_v61_apply, R15]
  have hr := xr_eq x (idx_main_v80 i 0) (idx_main_v80 i 1) (i 0) (by show ((i 0).val * 8 + (i 1).val) / 32768 = _; omega)
    (by show ((i 0).val * 8 + (i 1).val) / 8 % 4096 = _; omega)
  refine congrArg₂ (fun p q : EReal => p + q) (ppc w ?_ ?_) (congrArg b (funext fun a => ?_))
  · exact (congrArg₂ (xr x) (Fin.ext rfl) (Fin.ext rfl)).trans hr
  · show 5120 + ((i 0).val * 8 + (i 1).val) % 8 = 5120 + (i 1).val; omega
  · match a with
    | ⟨0, _⟩ => rfl
    | ⟨1, _⟩ => exact Fin.ext (by show ((i 0).val * 8 + (i 1).val) % 8 % 8 = (i 1).val; omega)

theorem Rl (i : S8192x8.Idx) : val_main_v80 (F := Ideal) x g w b i = fl (xrow x (i 0)) (gr g) w (b (ix2 0 (i 1))) (i 1).val := by
  rw [val_main_v80_apply, val_main_v65_apply, val_main_call0_v1_apply, val_main_call0_call0_v4_apply, val_main_call0_call0_v11_apply, val_main_call0_call0_v1_apply, val_main_call0_call0_v10_apply, val_main_call0_call0_v9_apply, val_main_call0_call0_v8_apply, val_main_call0_call0_v7_apply, val_main_call0_call0_v3_apply, val_main_call0_call0_v2_apply, val_main_call0_call0_v0_apply, val_main_call0_call0_cst_apply, val_main_call0_v0_apply, Rf]
  unfold fl
  rw [← ls_eq]
  generalize pp (xrow x (i 0)) (gr g) w (5120 + (i 1).val) + b (ix2 0 (i 1)) = f
  have hc : ∀ (y p q : EReal), Scalar.select (FloatOps.cmpf (F := Ideal) (φ := .f32) .une y y) p q = q := fun y p q => by
    simp [Scalar.select, Ideal.cmpf_def, Ideal.cmp]
  rw [hc]
  show -(max (-f) (Ideal.ofBits .f32 0x00000000#32) + Ideal.log1p (Ideal.exp (-(max (-f - Ideal.ofBits .f32 0x00000000#32) (-(-f - Ideal.ofBits .f32 0x00000000#32)))))) = _
  rw [Ideal.ofBits_zero_f32]

end Cert.Reference2Ideal.Inp

end
-- ==== Proof.InJoin.lean ====
/- The projection's two runs, the prompt's: what the kernel and the reference leave, and that it is the same. -/
module

public import proofs.«01_k».proof.Defs
public import proofs.«01_k».proof.Proof.InRef
public import proofs.«01_k».proof.Proof.Gen.Kernel2.Frame
public import proofs.«01_k».proof.Proof.Gen.Kernel2Ideal.Frame
public import Idealize.ShloMosaic.Adequacy
public import Idealize.ShloMosaic.Init

@[expose] public section

set_option maxRecDepth 16384

noncomputable section

namespace Cert.Reference2Ideal.Inp

open Cert.Reference2Ideal.Read Cert.Inp Idealize.ShloMosaic Idealize.ShloMosaic.TcCoe Idealize.SL.Sem

abbrev KMem := (ℓ : Loc Cert.Kernel2Ideal.nD Cert.Kernel2Ideal.τ Cert.Kernel2Ideal.sig) → Buf (Elt Ideal) ℓ

abbrev RMem := (ℓ : Loc Cert.Reference2Ideal.nD Cert.Reference2Ideal.τ Cert.Reference2Ideal.sig) → Buf (Elt Ideal) ℓ

/-- The two programs are given the same arrays. -/
def Same (m : KMem) (m' : RMem) (c : Dev Cert.Kernel2Ideal.nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)

theorem res66 (m : KMem) (m' : RMem) (c : Dev Cert.Kernel2Ideal.nD) (h : Same m m' c) :
    val_main_v66 (F := Ideal) (m' ((c.tc : Thread _ Cert.Reference2Ideal.τ).loc Cert.Reference2Ideal.main_arg0)) (m' ((c.tc : Thread _ Cert.Reference2Ideal.τ).loc Cert.Reference2Ideal.main_arg1)) (m' ((c.tc : Thread _ Cert.Reference2Ideal.τ).loc Cert.Reference2Ideal.main_arg2)) = Cert.Kernel2Ideal.Inp.U m c := by
  obtain ⟨h0, h1, h2, h3, h4, h5⟩ := h
  rw [h0, h1, h2]
  exact funext fun i => Ru _ _ _ i

theorem res70 (m : KMem) (m' : RMem) (c : Dev Cert.Kernel2Ideal.nD) (h : Same m m' c) :
    val_main_v70 (F := Ideal) (m' ((c.tc : Thread _ Cert.Reference2Ideal.τ).loc Cert.Reference2Ideal.main_arg0)) (m' ((c.tc : Thread _ Cert.Reference2Ideal.τ).loc Cert.Reference2Ideal.main_arg1)) (m' ((c.tc : Thread _ Cert.Reference2Ideal.τ).loc Cert.Reference2Ideal.main_arg2)) (m' ((c.tc : Thread _ Cert.Reference2Ideal.τ).loc Cert.Reference2Ideal.main_arg4)) = Cert.Kernel2Ideal.Inp.Kq m c := by
  obtain ⟨h0, h1, h2, h3, h4, h5⟩ := h
  rw [h0, h1, h2, h4]
  exact funext fun i => Rq _ _ _ _ i

theorem res71 (m : KMem) (m' : RMem) (c : Dev Cert.Kernel2Ideal.nD) (h : Same m m' c) :
    val_main_v71 (F := Ideal) (m' ((c.tc : Thread _ Cert.Reference2Ideal.τ).loc Cert.Reference2Ideal.main_arg0)) (m' ((c.tc : Thread _ Cert.Reference2Ideal.τ).loc Cert.Reference2Ideal.main_arg1)) (m' ((c.tc : Thread _ Cert.Reference2Ideal.τ).loc Cert.Reference2Ideal.main_arg2)) (m' ((c.tc : Thread _ Cert.Reference2Ideal.τ).loc Cert.Reference2Ideal.main_arg5)) = Cert.Kernel2Ideal.Inp.Kk m c := by
  obtain ⟨h0, h1, h2, h3, h4, h5⟩ := h
  rw [h0, h1, h2, h5]
  exact funext fun i => Rk _ _ _ _ i

theorem res73 (m : KMem) (m' : RMem) (c : Dev Cert.Kernel2Ideal.nD) (h : Same m m' c) :
    val_main_v73 (F := Ideal) (m' ((c.tc : Thread _ Cert.Reference2Ideal.τ).loc Cert.Reference2Ideal.main_arg0)) (m' ((c.tc : Thread _ Cert.Reference2Ideal.τ).loc Cert.Reference2Ideal.main_arg1)) (m' ((c.tc : Thread _ Cert.Reference2Ideal.τ).loc Cert.Reference2Ideal.main_arg2)) (m' ((c.tc : Thread _ Cert.Reference2Ideal.τ).loc Cert.Reference2Ideal.main_arg5)) = Cert.Kernel2Ideal.Inp.Kk m c := by
  obtain ⟨h0, h1, h2, h3, h4, h5⟩ := h
  rw [h0, h1, h2, h5]
  exact funext fun i => Rkb _ _ _ _ i

theorem res74 (m : KMem) (m' : RMem) (c : Dev Cert.Kernel2Ideal.nD) (h : Same m m' c) :
    val_main_v74 (F := Ideal) (m' ((c.tc : Thread _ Cert.Reference2Ideal.τ).loc Cert.Reference2Ideal.main_arg0)) (m' ((c.tc : Thread _ Cert.Reference2Ideal.τ).loc Cert.Reference2Ideal.main_arg1)) (m' ((c.tc : Thread _ Cert.Reference2Ideal.τ).loc Cert.Reference2Ideal.main_arg2)) = Cert.Kernel2Ideal.Inp.Kv m c := by
  obtain ⟨h0, h1, h2, h3, h4, h5⟩ := h
  rw [h0, h1, h2]
  exact funext fun i => Rv _ _ _ i

theorem res76 (m : KMem) (m' : RMem) (c : Dev Cert.Kernel2Ideal.nD) (h : Same m m' c) :
    val_main_v76 (F := Ideal) (m' ((c.tc : Thread _ Cert.Reference2Ideal.τ).loc Cert.Reference2Ideal.main_arg0)) (m' ((c.tc : Thread _ Cert.Reference2Ideal.τ).loc Cert.Reference2Ideal.main_arg1)) (m' ((c.tc : Thread _ Cert.Reference2Ideal.τ).loc Cert.Reference2Ideal.main_arg2)) = Cert.Kernel2Ideal.Inp.Kv m c := by
  obtain ⟨h0, h1, h2, h3, h4, h5⟩ := h
  rw [h0, h1, h2]
  exact funext fun i => Rvb _ _ _ i

theorem res79 (m : KMem) (m' : RMem) (c : Dev Cert.Kernel2Ideal.nD) (h : Same m m' c) :
    val_main_v79 (F := Ideal) (m' ((c.tc : Thread _ Cert.Reference2Ideal.τ).loc Cert.Reference2Ideal.main_arg0)) (m' ((c.tc : Thread _ Cert.Reference2Ideal.τ).loc Cert.Reference2Ideal.main_arg1)) (m' ((c.tc : Thread _ Cert.Reference2Ideal.τ).loc Cert.Reference2Ideal.main_arg2)) = Cert.Kernel2Ideal.Inp.Kt m c := by
  obtain ⟨h0, h1, h2, h3, h4, h5⟩ := h
  rw [h0, h1, h2]
  exact funext fun i => Rvt _ _ _ i

theorem res80 (m : KMem) (m' : RMem) (c : Dev Cert.Kernel2Ideal.nD) (h : Same m m' c) :
    val_main_v80 (F := Ideal) (m' ((c.tc : Thread _ Cert.Reference2Ideal.τ).loc Cert.Reference2Ideal.main_arg0)) (m' ((c.tc : Thread _ Cert.Reference2Ideal.τ).loc Cert.Reference2Ideal.main_arg1)) (m' ((c.tc : Thread _ Cert.Reference2Ideal.τ).loc Cert.Reference2Ideal.main_arg2)) (m' ((c.tc : Thread _ Cert.Reference2Ideal.τ).loc Cert.Reference2Ideal.main_arg3)) = Cert.Kernel2Ideal.Inp.Kl m c := by
  obtain ⟨h0, h1, h2, h3, h4, h5⟩ := h
  rw [h0, h1, h2, h3]
  exact funext fun i => Rl _ _ _ _ i

theorem frame_kernel : Cert.quiescent_Kernel2 := fun m g _ => Cert.Kernel2.Gen.frame m g

theorem frame_kernelIdeal : Cert.quiescent_Kernel2Ideal := fun m g _ => Cert.Kernel2Ideal.Gen.frame m g

theorem frame_reference : Cert.quiescent_Reference2Ideal := fun m g _ =>
  (θ_run Cert.Reference2Ideal.defs _ _).mono (fun r hr => ⟨fun c => (hr c).2.2.2.2.2.2.2.2, sem_eq_zero_of_no_sems (by decide) r.2⟩) (Cert.Reference2Ideal.Value.run m g)

/-- The two programs' results are equal at the ideal instance. -/
theorem algebraic : Cert.algebraic_Kernel2Ideal_Reference2Ideal := fun m g m' g' _ h =>
  ⟨fun c => Cert.Kernel2Ideal.Inp.U m c, fun c => Cert.Kernel2Ideal.Inp.Kq m c, fun c => Cert.Kernel2Ideal.Inp.Kk m c, fun c => Cert.Kernel2Ideal.Inp.Kk m c, fun c => Cert.Kernel2Ideal.Inp.Kv m c, fun c => Cert.Kernel2Ideal.Inp.Kv m c, fun c => Cert.Kernel2Ideal.Inp.Kt m c, fun c => Cert.Kernel2Ideal.Inp.Kl m c,
    (θ_run Cert.Kernel2Ideal.defs _ _).mono (fun r hr c => by
      obtain ⟨o0, o1, o2, o3, o4, o5, o6, o7, ha⟩ := hr c
      exact ⟨o0.trans (Cert.Kernel2Ideal.Inp.fin11 m c), o1.trans (Cert.Kernel2Ideal.Inp.fin12 m c), o2.trans (Cert.Kernel2Ideal.Inp.fin13 m c), o3.trans (Cert.Kernel2Ideal.Inp.fin14 m c), o4.trans (Cert.Kernel2Ideal.Inp.fin15 m c), o5.trans (Cert.Kernel2Ideal.Inp.fin16 m c), o6.trans (Cert.Kernel2Ideal.Inp.fin17 m c), o7.trans (Cert.Kernel2Ideal.Inp.fin18 m c), ha⟩) (Cert.Kernel2Ideal.Value.run_blocks m g),
    (θ_run Cert.Reference2Ideal.defs _ _).mono (fun r hr c => by
      obtain ⟨o0, o1, o2, o3, o4, o5, o6, o7, ha⟩ := hr c
      exact ⟨(o0.trans (val_main_v66_eq _ _ _)).trans (res66 m m' c (h c)), (o1.trans (val_main_v70_eq m' c)).trans (res70 m m' c (h c)), (o2.trans (val_main_v71_eq m' c)).trans (res71 m m' c (h c)), (o3.trans (val_main_v73_eq m' c)).trans (res73 m m' c (h c)), (o4.trans (val_main_v74_eq _ _ _)).trans (res74 m m' c (h c)), (o5.trans (val_main_v76_eq _ _ _)).trans (res76 m m' c (h c)), (o6.trans (val_main_v79_eq _ _ _)).trans (res79 m m' c (h c)), (o7.trans (val_main_v80_eq m' c)).trans (res80 m m' c (h c)), ha⟩) (Cert.Reference2Ideal.Value.run m' g')⟩

end Cert.Reference2Ideal.Inp

end
-- ==== Proof.InBlockS.lean ====
/- One grid point of the input projection: every output block is a row-wise function of the input blocks. -/
module

public import proofs.«01_k».proof.Proof.InVec
public import proofs.«01_k».proof.Proof.Gen.Kernel3Ideal.Value
public import Idealize.ShloMosaic.Lib.Pipeline.ValueKit.Tiles

@[expose] public section

noncomputable section

namespace Cert.Kernel3Ideal.Inp

open Cert.Kernel3Ideal Cert.Kernel3Ideal.Gen Cert.Inp Idealize.ShloMosaic Idealize.ShloMosaic.ValueIdx

/-- The product of a block of rows with 256 columns of weights. -/
def mm (a : FVec Ideal S256x2048 .bf16) (w : Vec Ideal S2048x256 .bf16) : FVec Ideal S256x256 .f32 :=
  matmul (F := Ideal) (φ₁ := .bf16) (φ₂ := .bf16) dot_S256x2048_S2048x256_S256x256_1_0_0_1_n_n none a (shapeCast (α := Ideal .bf16) S2048x256 w shapeCasts_S2048x256_S2048x256)
    (constant S256x256 .f32 0x00000000#32)

/-- A head normalised and scaled. -/
def hn (z : FVec Ideal S256x128 .f32) (g : Vec Ideal S1x128 .f32) : FVec Ideal S256x128 .f32 :=
  mulf (mulf z (broadcastTo S256x128 (rsqrt (addf (divf (shapeCast S256x1
      (multiReduction .add [1] S256 (mulf z z) 0x00000000#32 reduces_S256x128_S256 (.inl rfl) rfl) shapeCasts_S256_S256x1)
      (broadcast S256x1 (Scalar.ofBits .f32 0x43000000#32 : Ideal .f32)))
      (broadcast S256x1 (Scalar.ofBits .f32 0x358637BD#32 : Ideal .f32)))) broadcasts_S256x1_S256x128))
    (broadcastTo S256x128 (shapeCast S1x128 g shapeCasts_S1x128_S1x128) broadcasts_S1x128_S256x128)

theorem shapeCast_self {α : Type} {s : Shape} (x : s.Idx → α) (h : s.ShapeCasts s) : shapeCast s x h = x :=
  funext fun j => shapeCast_apply x h j j rfl

theorem embv {s : Shape} (off size : Fin s.rank → ℕ) (inb : ∀ a, off a + size a ≤ s.size a) (x : (Rect.unit off size inb).shape.Idx) (a : Fin s.rank) :
    ((Rect.unit off size inb).emb x a).val = off a + (x a).val := Rect.idx_unit_val off size inb x a

theorem lhs_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem rhs_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- The product read at an index is the sum over the columns of the rows. -/
theorem mm_apply (a : FVec Ideal S256x2048 .bf16) (w : Vec Ideal S2048x256 .bf16) (r : Fin 256) (j : Fin 256) :
    mm a w (ix2 r j) = ∑ k : Fin 2048, a (ix2 r k) * w (ix2 k j) := by
  unfold mm
  rw [shapeCast_self]
  simp only [matmul]
  rw [Ideal.matmul_constant_zero_apply, ← Equiv.sum_comp (ValueIdx.contrEquiv1 dot_S256x2048_S2048x256_S256x256_1_0_0_1_n_n 2048 rfl rfl).symm]
  refine Finset.sum_congr rfl fun k _ => ?_
  have hk := ValueIdx.contrEquiv1_symm_val dot_S256x2048_S2048x256_S256x256_1_0_0_1_n_n 2048 rfl rfl k
  have el : dot_S256x2048_S2048x256_S256x256_1_0_0_1_n_n.lhsIdx (ix2 r j) ((ValueIdx.contrEquiv1 dot_S256x2048_S2048x256_S256x256_1_0_0_1_n_n 2048 rfl rfl).symm k) = ix2 r k := funext fun a => Fin.ext (by
    match a with
    | ⟨0, _⟩ => exact lhs_0 _ _
    | ⟨1, _⟩ => exact (dot_S256x2048_S2048x256_S256x256_1_0_0_1_n_n.lhsIdx_val_of_single rfl _ _).trans hk)
  have er : dot_S256x2048_S2048x256_S256x256_1_0_0_1_n_n.rhsIdx (ix2 r j) ((ValueIdx.contrEquiv1 dot_S256x2048_S2048x256_S256x256_1_0_0_1_n_n 2048 rfl rfl).symm k) = ix2 k j := funext fun a => Fin.ext (by
    match a with
    | ⟨0, _⟩ => exact (dot_S256x2048_S2048x256_S256x256_1_0_0_1_n_n.rhsIdx_val_of_single rfl _ _).trans hk
    | ⟨1, _⟩ => exact rhs_1 _ _)
  rw [el, er]

theorem lhsf_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem rhsf_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- The product with the forget gate's columns, read at an index. -/
theorem mf_apply (a : FVec Ideal S256x2048 .bf16) (w : Vec Ideal S2048x128 .bf16) (r : Fin 256) (j : Fin 128) :
    matmul (F := Ideal) (φ₁ := .bf16) (φ₂ := .bf16) dot_S256x2048_S2048x128_S256x128_1_0_0_1_n_n none a w (constant S256x128 .f32 0x00000000#32) (ix2 r j)
      = ∑ k : Fin 2048, a (ix2 r k) * w (ix2 k j) := by
  simp only [matmul]
  rw [Ideal.matmul_constant_zero_apply, ← Equiv.sum_comp (ValueIdx.contrEquiv1 dot_S256x2048_S2048x128_S256x128_1_0_0_1_n_n 2048 rfl rfl).symm]
  refine Finset.sum_congr rfl fun k _ => ?_
  have hk := ValueIdx.contrEquiv1_symm_val dot_S256x2048_S2048x128_S256x128_1_0_0_1_n_n 2048 rfl rfl k
  have el : dot_S256x2048_S2048x128_S256x128_1_0_0_1_n_n.lhsIdx (ix2 r j) ((ValueIdx.contrEquiv1 dot_S256x2048_S2048x128_S256x128_1_0_0_1_n_n 2048 rfl rfl).symm k) = ix2 r k := funext fun a => Fin.ext (by
    match a with
    | ⟨0, _⟩ => exact lhsf_0 _ _
    | ⟨1, _⟩ => exact (dot_S256x2048_S2048x128_S256x128_1_0_0_1_n_n.lhsIdx_val_of_single rfl _ _).trans hk)
  have er : dot_S256x2048_S2048x128_S256x128_1_0_0_1_n_n.rhsIdx (ix2 r j) ((ValueIdx.contrEquiv1 dot_S256x2048_S2048x128_S256x128_1_0_0_1_n_n 2048 rfl rfl).symm k) = ix2 k j := funext fun a => Fin.ext (by
    match a with
    | ⟨0, _⟩ => exact (dot_S256x2048_S2048x128_S256x128_1_0_0_1_n_n.rhsIdx_val_of_single rfl _ _).trans hk
    | ⟨1, _⟩ => exact rhsf_1 _ _)
  rw [el, er]

theorem hn_apply (z : FVec Ideal S256x128 .f32) (g : Vec Ideal S1x128 .f32) (r : Fin 256) (j : Fin 128) :
    hn z g (ix2 r j) = hd (rowOf z r) (rowOf g 0) j := by
  unfold hn
  rw [shapeCast_self]
  exact hnorm_apply (by decide) z g _ (fun r j => nfac_apply (by decide) z _ _ _ _ _ r j) _ r j

/-- The normalised rows. -/
theorem pay1_apply (x0 : Vec Ideal S256x2048 .f32) (x1 : Vec Ideal S1x2048 .f32) (r : Fin 256) (k : Fin 2048) :
    k0_pay1 (F := Ideal) x0 x1 (ix2 r k) = act (rowOf x0 r) (rowOf x1 0) k := by
  unfold k0_pay1
  rw [shapeCast_self, shapeCast_self]
  exact anorm_apply (by decide) x0 x1 _ (fun r j => nfac_apply (by decide) x0 _ _ _ _ _ r j) _ r k

/-- A row of a block times a column of a matrix of weights. -/
def P {b : ℕ} (x0 : Vec Ideal S256x2048 .f32) (x1 : Vec Ideal S1x2048 .f32) (w : (⟨2, ![2048, b]⟩ : Shape).Idx → EReal) (r : Fin 256) (c : Fin b) : EReal :=
  prj (rowOf x0 r) (rowOf x1 0) (colOf w c)

/-- The gated value of a row. -/
def Gu (x0 : Vec Ideal S256x2048 .f32) (x1 : Vec Ideal S1x2048 .f32) (w w' : Vec Ideal S2048x1024 .bf16) (y : S256x1024.Idx) : EReal :=
  P x0 x1 w (y 0) (y 1) * Ideal.logistic (P x0 x1 w' (y 0) (y 1))

/-- The plain product. -/
def Gv (x0 : Vec Ideal S256x2048 .f32) (x1 : Vec Ideal S1x2048 .f32) (w : Vec Ideal S2048x1024 .bf16) (y : S256x1024.Idx) : EReal :=
  P x0 x1 w (y 0) (y 1)

/-- The plain product, transposed. -/
def Gt (x0 : Vec Ideal S256x2048 .f32) (x1 : Vec Ideal S1x2048 .f32) (w : Vec Ideal S2048x1024 .bf16) (y : S1024x256.Idx) : EReal :=
  P x0 x1 w (y 1) (y 0)

/-- Lane `e` of the head that column `c` belongs to. -/
def lane (c : Fin 1024) (e : Fin 128) : Fin 1024 := ⟨c.val / 128 * 128 + e.val, by omega⟩

/-- A normalised head. -/
def Gh (x0 : Vec Ideal S256x2048 .f32) (x1 : Vec Ideal S1x2048 .f32) (w : Vec Ideal S2048x1024 .bf16) (g : Vec Ideal S1x128 .f32) (y : S256x1024.Idx) : EReal :=
  hd (fun e => P x0 x1 w (y 0) (lane (y 1) e)) (rowOf g 0) ⟨(y 1).val % 128, Nat.mod_lt _ (by decide)⟩

/-- A normalised head, scaled. -/
def Gq (x0 : Vec Ideal S256x2048 .f32) (x1 : Vec Ideal S1x2048 .f32) (w : Vec Ideal S2048x1024 .bf16) (g : Vec Ideal S1x128 .f32) (y : S256x1024.Idx) : EReal :=
  Gh x0 x1 w g y * Ideal.ofBits .f32 0x3E0293EE#32

/-- The logarithm of the forget gate. -/
def Gl (x0 : Vec Ideal S256x2048 .f32) (x1 : Vec Ideal S1x2048 .f32) (w : Vec Ideal S2048x128 .bf16) (b : Vec Ideal S1x128 .f32) (y : S256x8.Idx) : EReal :=
  ls (P x0 x1 w (y 0) (⟨(y 1).val, lt_of_lt_of_le (y 1).isLt (by decide)⟩ : Fin 128) + b (ix2 0 (⟨(y 1).val, lt_of_lt_of_le (y 1).isLt (by decide)⟩ : Fin 128)))

section pieces

variable (x0 : Vec Ideal S256x2048 .f32) (x1 : Vec Ideal S1x2048 .f32) (x2 x3 x4 x5 x6 : Vec Ideal S2048x1024 .bf16)
  (x7 : Vec Ideal S2048x128 .bf16) (x8 x9 x10 : Vec Ideal S1x128 .f32)

theorem pay68_apply (r : Fin 256) (k : Fin 2048) :
    k0_pay68 x0 x1 x2 x3 x4 x5 x6 x7 x8 x9 x10 (ix2 r k) = act (rowOf x0 r) (rowOf x1 0) k := by
  unfold k0_pay68
  rw [show View.ld x0 r0_0 = x0 from funext fun y => View.ld_unit_apply_of x0 _ _ _ y y (fun a => by match a with | ⟨0, _⟩ => exact (Nat.zero_add _).symm | ⟨1, _⟩ => exact (Nat.zero_add _).symm),
    show View.ld x1 r0_1 = x1 from funext fun y => View.ld_unit_apply_of x1 _ _ _ y y (fun a => by match a with | ⟨0, _⟩ => exact (Nat.zero_add _).symm | ⟨1, _⟩ => exact (Nat.zero_add _).symm)]
  exact pay1_apply x0 x1 r k

theorem ldg (g : Vec Ideal S1x128 .f32) : View.ld g r0_10 = g :=
  funext fun y => View.ld_unit_apply_of g _ _ _ y y (fun a => by match a with | ⟨0, _⟩ => exact (Nat.zero_add _).symm | ⟨1, _⟩ => exact (Nat.zero_add _).symm)

theorem mmP (w : Vec Ideal S2048x1024 .bf16) (c : ℕ) (inb : ∀ a, (![0, c] : Fin 2 → ℕ) a + S2048x256.size a ≤ S2048x1024.size a)
    (r : Fin 256) (j : Fin 256) (q : Fin 1024) (hq : q.val = c + j.val) :
    mm (k0_pay68 x0 x1 x2 x3 x4 x5 x6 x7 x8 x9 x10) (View.ld w (Rect.unit (s := S2048x1024) ![0, c] S2048x256.size inb)) (ix2 r j) = P x0 x1 w r q := by
  rw [mm_apply]
  unfold P prj
  refine Finset.sum_congr rfl fun k _ => ?_
  rw [pay68_apply]
  exact congrArg (act (rowOf x0 r) (rowOf x1 0) k * ·) (View.ld_unit_apply_of w ![0, c] S2048x256.size inb (ix2 k j) (ix2 k q)
    (fun a => by match a with | ⟨0, _⟩ => exact (Nat.zero_add _).symm | ⟨1, _⟩ => exact hq))

theorem af (r : Fin 256) (j : Fin 128) :
    addf (matmul (F := Ideal) (φ₂ := .bf16) dot_S256x2048_S2048x128_S256x128_1_0_0_1_n_n none (k0_pay68 x0 x1 x2 x3 x4 x5 x6 x7 x8 x9 x10) x7 (constant S256x128 .f32 0x00000000#32))
      (broadcastTo S256x128 x8 broadcasts_S1x128_S256x128) (ix2 r j) = P x0 x1 x7 r j + x8 (ix2 0 j) := by
  rw [addf_apply, mf_apply]
  unfold P prj
  refine congrArg₂ (fun p q : EReal => p + q) ?_ (broadcastTo_1b_ab_apply x8 broadcasts_S1x128_S256x128 r j)
  refine (Finset.sum_congr rfl fun k _ => ?_)
  rw [pay68_apply]
  rfl

theorem pv (w : Vec Ideal S2048x1024 .bf16) (c : ℕ) (inb : ∀ a, (![0, c] : Fin 2 → ℕ) a + S2048x256.size a ≤ S2048x1024.size a)
    (inb' : ∀ a, (![0, c] : Fin 2 → ℕ) a + S256x256.size a ≤ S256x1024.size a) (x : S256x256.Idx) :
    mm (k0_pay68 x0 x1 x2 x3 x4 x5 x6 x7 x8 x9 x10) (View.ld w (Rect.unit (s := S2048x1024) ![0, c] S2048x256.size inb)) x
      = Gv x0 x1 w ((Rect.unit (s := S256x1024) ![0, c] S256x256.size inb').emb x) := by
  rw [eq_ix2 x]
  refine (mmP x0 x1 x2 x3 x4 x5 x6 x7 x8 x9 x10 w c inb (x 0) (x 1) ((Rect.unit (s := S256x1024) ![0, c] S256x256.size inb').emb x 1)
    (embv (s := S256x1024) ![0, c] S256x256.size inb' x 1)).trans ?_
  unfold Gv
  refine congrArg₂ (P x0 x1 w) (Fin.ext ?_) ?_
  · exact ((embv (s := S256x1024) ![0, c] S256x256.size inb' x 0).trans (Nat.zero_add _)).symm
  · rw [← eq_ix2 x]

theorem pt (w : Vec Ideal S2048x1024 .bf16) (c : ℕ) (inb : ∀ a, (![0, c] : Fin 2 → ℕ) a + S2048x256.size a ≤ S2048x1024.size a)
    (inb' : ∀ a, (![c, 0] : Fin 2 → ℕ) a + S256x256.size a ≤ S1024x256.size a) (h : S256x256.Transposes [1, 0] S256x256) (x : S256x256.Idx) :
    transpose S256x256 [1, 0] (mm (k0_pay68 x0 x1 x2 x3 x4 x5 x6 x7 x8 x9 x10) (View.ld w (Rect.unit (s := S2048x1024) ![0, c] S2048x256.size inb))) h x
      = Gt x0 x1 w ((Rect.unit (s := S1024x256) ![c, 0] S256x256.size inb').emb x) := by
  rw [eq_ix2 x]
  refine (transpose_ix2_apply _ h (x 0) (x 1)).trans ?_
  refine (mmP x0 x1 x2 x3 x4 x5 x6 x7 x8 x9 x10 w c inb (x 1) (x 0) ((Rect.unit (s := S1024x256) ![c, 0] S256x256.size inb').emb x 0)
    (embv (s := S1024x256) ![c, 0] S256x256.size inb' x 0)).trans ?_
  unfold Gt
  refine congrArg₂ (P x0 x1 w) (Fin.ext ?_) ?_
  · exact ((embv (s := S1024x256) ![c, 0] S256x256.size inb' x 1).trans (Nat.zero_add _)).symm
  · rw [← eq_ix2 x]

theorem pu (w w' : Vec Ideal S2048x1024 .bf16) (c : ℕ) (inb : ∀ a, (![0, c] : Fin 2 → ℕ) a + S2048x256.size a ≤ S2048x1024.size a)
    (inb' : ∀ a, (![0, c] : Fin 2 → ℕ) a + S256x256.size a ≤ S256x1024.size a) (x : S256x256.Idx) :
    mulf (mm (k0_pay68 x0 x1 x2 x3 x4 x5 x6 x7 x8 x9 x10) (View.ld w (Rect.unit (s := S2048x1024) ![0, c] S2048x256.size inb)))
      (logistic (mm (k0_pay68 x0 x1 x2 x3 x4 x5 x6 x7 x8 x9 x10) (View.ld w' (Rect.unit (s := S2048x1024) ![0, c] S2048x256.size inb)))) x
      = Gu x0 x1 w w' ((Rect.unit (s := S256x1024) ![0, c] S256x256.size inb').emb x) := by
  rw [mulf_apply]
  exact congrArg₂ (fun p q => p * Ideal.logistic q) (pv x0 x1 x2 x3 x4 x5 x6 x7 x8 x9 x10 w c inb inb' x) (pv x0 x1 x2 x3 x4 x5 x6 x7 x8 x9 x10 w' c inb inb' x)

theorem ph (w : Vec Ideal S2048x1024 .bf16) (g : Vec Ideal S1x128 .f32) (c o p : ℕ)
    (inb : ∀ a, (![0, c] : Fin 2 → ℕ) a + S2048x256.size a ≤ S2048x1024.size a)
    (inb' : ∀ a, (![0, p] : Fin 2 → ℕ) a + S256x128.size a ≤ S256x1024.size a)
    (hs : S256x256.Slices ![0, o] S256x128) (hp : p = c + o) (h8 : p % 128 = 0) (ho : o ≤ 128) (x : S256x128.Idx) :
    hn (extractStridedSlice S256x128 ![0, o] (mm (k0_pay68 x0 x1 x2 x3 x4 x5 x6 x7 x8 x9 x10) (View.ld w (Rect.unit (s := S2048x1024) ![0, c] S2048x256.size inb))) hs)
        (View.ld g r0_10) x
      = Gh x0 x1 w g ((Rect.unit (s := S256x1024) ![0, p] S256x128.size inb').emb x) := by
  have e1 : ((Rect.unit (s := S256x1024) ![0, p] S256x128.size inb').emb x 1).val = p + (x 1).val := embv (s := S256x1024) ![0, p] S256x128.size inb' x 1
  have e0 : ((Rect.unit (s := S256x1024) ![0, p] S256x128.size inb').emb x 0).val = (x 0).val :=
    (embv (s := S256x1024) ![0, p] S256x128.size inb' x 0).trans (Nat.zero_add _)
  have hx : (x 1).val < 128 := (x 1).isLt
  rw [ldg]
  refine ((congrArg (hn _ g) (eq_ix2 x)).trans (hn_apply _ g (x 0) (x 1))).trans ?_
  unfold Gh
  have hr : (Rect.unit (s := S256x1024) ![0, p] S256x128.size inb').emb x 0 = x 0 := Fin.ext e0
  have hj : (⟨((Rect.unit (s := S256x1024) ![0, p] S256x128.size inb').emb x 1).val % 128, Nat.mod_lt _ (by decide)⟩ : Fin 128) = x 1 :=
    Fin.ext (by show _ % 128 = _; rw [e1]; omega)
  rw [hj]
  refine congrArg (fun z => hd z (rowOf g 0) (x 1)) (funext fun e => ?_)
  have he := e.isLt
  refine (slice2_axis1_apply o _ hs (x 0) e ⟨o + e.val, by omega⟩ rfl).trans ?_
  refine (mmP x0 x1 x2 x3 x4 x5 x6 x7 x8 x9 x10 w c inb (x 0) ⟨o + e.val, by omega⟩ (lane ((Rect.unit (s := S256x1024) ![0, p] S256x128.size inb').emb x 1) e) ?_).trans ?_
  · show _ / 128 * 128 + e.val = c + (o + e.val)
    rw [e1]; omega
  · exact congrArg (fun r => P x0 x1 w r _) hr.symm

theorem pq (w : Vec Ideal S2048x1024 .bf16) (g : Vec Ideal S1x128 .f32) (c o p : ℕ)
    (inb : ∀ a, (![0, c] : Fin 2 → ℕ) a + S2048x256.size a ≤ S2048x1024.size a)
    (inb' : ∀ a, (![0, p] : Fin 2 → ℕ) a + S256x128.size a ≤ S256x1024.size a)
    (hs : S256x256.Slices ![0, o] S256x128) (hp : p = c + o) (h8 : p % 128 = 0) (ho : o ≤ 128) (x : S256x128.Idx) :
    mulf (hn (extractStridedSlice S256x128 ![0, o] (mm (k0_pay68 x0 x1 x2 x3 x4 x5 x6 x7 x8 x9 x10) (View.ld w (Rect.unit (s := S2048x1024) ![0, c] S2048x256.size inb))) hs)
        (View.ld g r0_10)) (broadcast S256x128 (Scalar.ofBits .f32 0x3E0293EE#32 : Ideal .f32)) x
      = Gq x0 x1 w g ((Rect.unit (s := S256x1024) ![0, p] S256x128.size inb').emb x) := by
  rw [mulf_apply, ph x0 x1 x2 x3 x4 x5 x6 x7 x8 x9 x10 w g c o p inb inb' hs hp h8 ho x]
  rfl

theorem out11 (y : S256x1024.Idx) : out0_11 x0 x1 x2 x3 x4 x5 x6 x7 x8 x9 x10 y = Gu x0 x1 x2 x3 y := by
  unfold out0_11
  refine View.canon_apply_of_pieces (Val := Elt Ideal) (Gu x0 x1 x2 x3) _ ?_ y (cover0_11 _ _ _ _ y)
  refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
  · exact pu x0 x1 x2 x3 x4 x5 x6 x7 x8 x9 x10 x2 x3 768 inb_S2048x1024_S2048x256_0_768 inb_S256x1024_S256x256_0_768 x
  · exact pu x0 x1 x2 x3 x4 x5 x6 x7 x8 x9 x10 x2 x3 512 inb_S2048x1024_S2048x256_0_512 inb_S256x1024_S256x256_0_512 x
  · exact pu x0 x1 x2 x3 x4 x5 x6 x7 x8 x9 x10 x2 x3 256 inb_S2048x1024_S2048x256_0_256 inb_S256x1024_S256x256_0_256 x
  · exact pu x0 x1 x2 x3 x4 x5 x6 x7 x8 x9 x10 x2 x3 0 inb_S2048x1024_S2048x256_0_0 inb_S256x1024_S256x256_0_0 x

theorem out12 (y : S256x1024.Idx) : out0_12 x0 x1 x2 x3 x4 x5 x6 x7 x8 x9 x10 y = Gq x0 x1 x4 x9 y := by
  unfold out0_12
  refine View.canon_apply_of_pieces (Val := Elt Ideal) (Gq x0 x1 x4 x9) _ ?_ y (cover0_12 _ _ _ _ _ _ _ _ y)
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩
  · exact pq x0 x1 x2 x3 x4 x5 x6 x7 x8 x9 x10 x4 x9 768 128 896 inb_S2048x1024_S2048x256_0_768 inb_S256x1024_S256x128_0_896 slices_S256x256_o0_128_S256x128 rfl rfl (by decide) x
  · exact pq x0 x1 x2 x3 x4 x5 x6 x7 x8 x9 x10 x4 x9 768 0 768 inb_S2048x1024_S2048x256_0_768 inb_S256x1024_S256x128_0_768 slices_S256x256_o0_0_S256x128 rfl rfl (by decide) x
  · exact pq x0 x1 x2 x3 x4 x5 x6 x7 x8 x9 x10 x4 x9 512 128 640 inb_S2048x1024_S2048x256_0_512 inb_S256x1024_S256x128_0_640 slices_S256x256_o0_128_S256x128 rfl rfl (by decide) x
  · exact pq x0 x1 x2 x3 x4 x5 x6 x7 x8 x9 x10 x4 x9 512 0 512 inb_S2048x1024_S2048x256_0_512 inb_S256x1024_S256x128_0_512 slices_S256x256_o0_0_S256x128 rfl rfl (by decide) x
  · exact pq x0 x1 x2 x3 x4 x5 x6 x7 x8 x9 x10 x4 x9 256 128 384 inb_S2048x1024_S2048x256_0_256 inb_S256x1024_S256x128_0_384 slices_S256x256_o0_128_S256x128 rfl rfl (by decide) x
  · exact pq x0 x1 x2 x3 x4 x5 x6 x7 x8 x9 x10 x4 x9 256 0 256 inb_S2048x1024_S2048x256_0_256 inb_S256x1024_S256x128_0_256 slices_S256x256_o0_0_S256x128 rfl rfl (by decide) x
  · exact pq x0 x1 x2 x3 x4 x5 x6 x7 x8 x9 x10 x4 x9 0 128 128 inb_S2048x1024_S2048x256_0_0 inb_S256x1024_S256x128_0_128 slices_S256x256_o0_128_S256x128 rfl rfl (by decide) x
  · exact pq x0 x1 x2 x3 x4 x5 x6 x7 x8 x9 x10 x4 x9 0 0 0 inb_S2048x1024_S2048x256_0_0 inb_S256x1024_S256x128_0_0 slices_S256x256_o0_0_S256x128 rfl rfl (by decide) x

theorem out13 (y : S256x1024.Idx) : out0_13 x0 x1 x2 x3 x4 x5 x6 x7 x8 x9 x10 y = Gh x0 x1 x5 x10 y := by
  unfold out0_13
  refine View.canon_apply_of_pieces (Val := Elt Ideal) (Gh x0 x1 x5 x10) _ ?_ y (cover0_13 _ _ _ _ _ _ _ _ y)
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩
  · exact ph x0 x1 x2 x3 x4 x5 x6 x7 x8 x9 x10 x5 x10 768 128 896 inb_S2048x1024_S2048x256_0_768 inb_S256x1024_S256x128_0_896 slices_S256x256_o0_128_S256x128 rfl rfl (by decide) x
  · exact ph x0 x1 x2 x3 x4 x5 x6 x7 x8 x9 x10 x5 x10 768 0 768 inb_S2048x1024_S2048x256_0_768 inb_S256x1024_S256x128_0_768 slices_S256x256_o0_0_S256x128 rfl rfl (by decide) x
  · exact ph x0 x1 x2 x3 x4 x5 x6 x7 x8 x9 x10 x5 x10 512 128 640 inb_S2048x1024_S2048x256_0_512 inb_S256x1024_S256x128_0_640 slices_S256x256_o0_128_S256x128 rfl rfl (by decide) x
  · exact ph x0 x1 x2 x3 x4 x5 x6 x7 x8 x9 x10 x5 x10 512 0 512 inb_S2048x1024_S2048x256_0_512 inb_S256x1024_S256x128_0_512 slices_S256x256_o0_0_S256x128 rfl rfl (by decide) x
  · exact ph x0 x1 x2 x3 x4 x5 x6 x7 x8 x9 x10 x5 x10 256 128 384 inb_S2048x1024_S2048x256_0_256 inb_S256x1024_S256x128_0_384 slices_S256x256_o0_128_S256x128 rfl rfl (by decide) x
  · exact ph x0 x1 x2 x3 x4 x5 x6 x7 x8 x9 x10 x5 x10 256 0 256 inb_S2048x1024_S2048x256_0_256 inb_S256x1024_S256x128_0_256 slices_S256x256_o0_0_S256x128 rfl rfl (by decide) x
  · exact ph x0 x1 x2 x3 x4 x5 x6 x7 x8 x9 x10 x5 x10 0 128 128 inb_S2048x1024_S2048x256_0_0 inb_S256x1024_S256x128_0_128 slices_S256x256_o0_128_S256x128 rfl rfl (by decide) x
  · exact ph x0 x1 x2 x3 x4 x5 x6 x7 x8 x9 x10 x5 x10 0 0 0 inb_S2048x1024_S2048x256_0_0 inb_S256x1024_S256x128_0_0 slices_S256x256_o0_0_S256x128 rfl rfl (by decide) x

theorem out14 (y : S256x1024.Idx) : out0_14 x0 x1 x2 x3 x4 x5 x6 x7 x8 x9 x10 y = Gh x0 x1 x5 x10 y := by
  unfold out0_14
  refine View.canon_apply_of_pieces (Val := Elt Ideal) (Gh x0 x1 x5 x10) _ ?_ y (cover0_14 _ _ _ _ _ _ _ _ y)
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩
  · exact ph x0 x1 x2 x3 x4 x5 x6 x7 x8 x9 x10 x5 x10 768 128 896 inb_S2048x1024_S2048x256_0_768 inb_S256x1024_S256x128_0_896 slices_S256x256_o0_128_S256x128 rfl rfl (by decide) x
  · exact ph x0 x1 x2 x3 x4 x5 x6 x7 x8 x9 x10 x5 x10 768 0 768 inb_S2048x1024_S2048x256_0_768 inb_S256x1024_S256x128_0_768 slices_S256x256_o0_0_S256x128 rfl rfl (by decide) x
  · exact ph x0 x1 x2 x3 x4 x5 x6 x7 x8 x9 x10 x5 x10 512 128 640 inb_S2048x1024_S2048x256_0_512 inb_S256x1024_S256x128_0_640 slices_S256x256_o0_128_S256x128 rfl rfl (by decide) x
  · exact ph x0 x1 x2 x3 x4 x5 x6 x7 x8 x9 x10 x5 x10 512 0 512 inb_S2048x1024_S2048x256_0_512 inb_S256x1024_S256x128_0_512 slices_S256x256_o0_0_S256x128 rfl rfl (by decide) x
  · exact ph x0 x1 x2 x3 x4 x5 x6 x7 x8 x9 x10 x5 x10 256 128 384 inb_S2048x1024_S2048x256_0_256 inb_S256x1024_S256x128_0_384 slices_S256x256_o0_128_S256x128 rfl rfl (by decide) x
  · exact ph x0 x1 x2 x3 x4 x5 x6 x7 x8 x9 x10 x5 x10 256 0 256 inb_S2048x1024_S2048x256_0_256 inb_S256x1024_S256x128_0_256 slices_S256x256_o0_0_S256x128 rfl rfl (by decide) x
  · exact ph x0 x1 x2 x3 x4 x5 x6 x7 x8 x9 x10 x5 x10 0 128 128 inb_S2048x1024_S2048x256_0_0 inb_S256x1024_S256x128_0_128 slices_S256x256_o0_128_S256x128 rfl rfl (by decide) x
  · exact ph x0 x1 x2 x3 x4 x5 x6 x7 x8 x9 x10 x5 x10 0 0 0 inb_S2048x1024_S2048x256_0_0 inb_S256x1024_S256x128_0_0 slices_S256x256_o0_0_S256x128 rfl rfl (by decide) x

theorem out15 (y : S256x1024.Idx) : out0_15 x0 x1 x2 x3 x4 x5 x6 x7 x8 x9 x10 y = Gv x0 x1 x6 y := by
  unfold out0_15
  refine View.canon_apply_of_pieces (Val := Elt Ideal) (Gv x0 x1 x6) _ ?_ y (cover0_15 _ _ _ _ y)
  refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
  · exact pv x0 x1 x2 x3 x4 x5 x6 x7 x8 x9 x10 x6 768 inb_S2048x1024_S2048x256_0_768 inb_S256x1024_S256x256_0_768 x
  · exact pv x0 x1 x2 x3 x4 x5 x6 x7 x8 x9 x10 x6 512 inb_S2048x1024_S2048x256_0_512 inb_S256x1024_S256x256_0_512 x
  · exact pv x0 x1 x2 x3 x4 x5 x6 x7 x8 x9 x10 x6 256 inb_S2048x1024_S2048x256_0_256 inb_S256x1024_S256x256_0_256 x
  · exact pv x0 x1 x2 x3 x4 x5 x6 x7 x8 x9 x10 x6 0 inb_S2048x1024_S2048x256_0_0 inb_S256x1024_S256x256_0_0 x

theorem out16 (y : S256x1024.Idx) : out0_16 x0 x1 x2 x3 x4 x5 x6 x7 x8 x9 x10 y = Gv x0 x1 x6 y := by
  unfold out0_16
  refine View.canon_apply_of_pieces (Val := Elt Ideal) (Gv x0 x1 x6) _ ?_ y (cover0_16 _ _ _ _ y)
  refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
  · exact pv x0 x1 x2 x3 x4 x5 x6 x7 x8 x9 x10 x6 768 inb_S2048x1024_S2048x256_0_768 inb_S256x1024_S256x256_0_768 x
  · exact pv x0 x1 x2 x3 x4 x5 x6 x7 x8 x9 x10 x6 512 inb_S2048x1024_S2048x256_0_512 inb_S256x1024_S256x256_0_512 x
  · exact pv x0 x1 x2 x3 x4 x5 x6 x7 x8 x9 x10 x6 256 inb_S2048x1024_S2048x256_0_256 inb_S256x1024_S256x256_0_256 x
  · exact pv x0 x1 x2 x3 x4 x5 x6 x7 x8 x9 x10 x6 0 inb_S2048x1024_S2048x256_0_0 inb_S256x1024_S256x256_0_0 x

theorem out17 (y : S1024x256.Idx) : out0_17 x0 x1 x2 x3 x4 x5 x6 x7 x8 x9 x10 y = Gt x0 x1 x6 y := by
  unfold out0_17
  refine View.canon_apply_of_pieces (Val := Elt Ideal) (Gt x0 x1 x6) _ ?_ y (cover0_17 _ _ _ _ y)
  refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
  · exact pt x0 x1 x2 x3 x4 x5 x6 x7 x8 x9 x10 x6 768 inb_S2048x1024_S2048x256_0_768 inb_S1024x256_S256x256_768_0 transposes_S256x256_p1_0_S256x256 x
  · exact pt x0 x1 x2 x3 x4 x5 x6 x7 x8 x9 x10 x6 512 inb_S2048x1024_S2048x256_0_512 inb_S1024x256_S256x256_512_0 transposes_S256x256_p1_0_S256x256 x
  · exact pt x0 x1 x2 x3 x4 x5 x6 x7 x8 x9 x10 x6 256 inb_S2048x1024_S2048x256_0_256 inb_S1024x256_S256x256_256_0 transposes_S256x256_p1_0_S256x256 x
  · exact pt x0 x1 x2 x3 x4 x5 x6 x7 x8 x9 x10 x6 0 inb_S2048x1024_S2048x256_0_0 inb_S1024x256_S256x256_0_0 transposes_S256x256_p1_0_S256x256 x

theorem out18 (y : S256x8.Idx) : out0_18 x0 x1 x2 x3 x4 x5 x6 x7 x8 x9 x10 y = Gl x0 x1 x7 x8 y := by
  unfold out0_18
  rw [View.canon_unit_zero (S := S256x8) (funext fun a => by match a with | ⟨0, _⟩ => rfl | ⟨1, _⟩ => rfl)]
  have h7 : View.ld x7 r0_23 = x7 := funext fun y => View.ld_unit_apply_of x7 _ _ _ y y (fun a => by match a with | ⟨0, _⟩ => exact (Nat.zero_add _).symm | ⟨1, _⟩ => exact (Nat.zero_add _).symm)
  rw [h7, ldg]
  unfold k0_pay67
  rw [shapeCast_self, shapeCast_self, eq_ix2 y]
  have hy : (y 1).val < 8 := (y 1).isLt
  refine (slice2_axis1_apply 0 _ _ (y 0) (y 1) (⟨(y 1).val, by omega⟩ : Fin 128) (Nat.zero_add _).symm).trans ?_
  rw [← eq_ix2 y]
  have e := af x0 x1 x2 x3 x4 x5 x6 x7 x8 x9 x10 (y 0) (⟨(y 1).val, by omega⟩ : Fin 128)
  unfold Gl
  rw [← e]
  generalize addf (matmul (F := Ideal) (φ₂ := .bf16) dot_S256x2048_S2048x128_S256x128_1_0_0_1_n_n none (k0_pay68 x0 x1 x2 x3 x4 x5 x6 x7 x8 x9 x10) x7 (constant S256x128 .f32 0x00000000#32))
      (broadcastTo S256x128 x8 broadcasts_S1x128_S256x128) = f
  show min _ (Ideal.ofBits .f32 0x00000000#32) - Ideal.log1p (Ideal.exp (Ideal.ofBits .f32 0x00000000#32 - _)) = _
  rw [Ideal.ofBits_zero_f32]
  rfl

end pieces

end Cert.Kernel3Ideal.Inp

end
-- ==== Proof.InArrS.lean ====
/- The input projection's output arrays after the run, as functions of the arguments. -/
module

public import proofs.«01_k».proof.Proof.InBlockS
public import Idealize.ShloMosaic.Lib.Pipeline.ValueKit.Geometry
public import Idealize.ShloMosaic.Lib.KernelVsHost
public import Idealize.ShloMosaic.Lib.StableHlo.RunRead

@[expose] public section

noncomputable section

namespace Cert.Kernel3Ideal.Inp

open Cert.Kernel3Ideal Cert.Kernel3Ideal.Gen Cert.Inp Idealize.ShloMosaic.TcCoe Idealize.ShloMosaic.ValueIdx Idealize.ShloMosaic.StableHlo
open Idealize.ShloMosaic

variable (m : (ℓ : Loc nD τ sig) → Buf (Elt Ideal) ℓ) (c : Dev nD)

/-- The arguments. -/
abbrev aX : S8x32x2048.Idx → EReal := m ((c : Thread nD τ).loc main_arg0)
abbrev aG : S1x2048.Idx → EReal := m ((c : Thread nD τ).loc main_arg1)
abbrev aW : S1x2048x5128.Idx → EReal := m ((c : Thread nD τ).loc main_arg2)
abbrev aB : S1x8.Idx → EReal := m ((c : Thread nD τ).loc main_arg3)
abbrev aQ : S1x128.Idx → EReal := m ((c : Thread nD τ).loc main_arg4)
abbrev aK : S1x128.Idx → EReal := m ((c : Thread nD τ).loc main_arg5)

set_option maxRecDepth 65536 in
theorem V11 : (V m c main_v11 : S256x2048.Idx → EReal) = shapeCast S256x2048 (aX m c) shapeCasts_S8x32x2048_S256x2048 := by
    show StableHlo.after _ _ _ = _
    simp only [List.flatten_cons, List.flatten_nil, List.append_nil, List.cons_append, List.nil_append]
    after_results_simp <;> rfl

set_option maxRecDepth 65536 in
theorem V13 : (V m c main_v13 : S1x2048.Idx → EReal) = shapeCast S1x2048 (shapeCast S2048 (aG m c) shapeCasts_S1x2048_S2048) shapeCasts_S2048_S1x2048 := by
    show StableHlo.after _ _ _ = _
    simp only [List.flatten_cons, List.flatten_nil, List.append_nil, List.cons_append, List.nil_append]
    after_results_simp <;> rfl

set_option maxRecDepth 65536 in
theorem V2 : (V m c main_v2 : S2048x1024.Idx → EReal) = truncf (F := Ideal) .bf16 (extractStridedSlice S2048x1024 ![0, 0] (shapeCast S2048x5128 (aW m c) shapeCasts_S1x2048x5128_S2048x5128) slices_S2048x5128_S2048x1024_0_0) bitsLt_bf16_f32 := by
    show StableHlo.after _ _ _ = _
    simp only [List.flatten_cons, List.flatten_nil, List.append_nil, List.cons_append, List.nil_append]
    after_results_simp <;> rfl

set_option maxRecDepth 65536 in
theorem V4 : (V m c main_v4 : S2048x1024.Idx → EReal) = truncf (F := Ideal) .bf16 (extractStridedSlice S2048x1024 ![0, 1024] (shapeCast S2048x5128 (aW m c) shapeCasts_S1x2048x5128_S2048x5128) slices_S2048x5128_S2048x1024_0_1024) bitsLt_bf16_f32 := by
    show StableHlo.after _ _ _ = _
    simp only [List.flatten_cons, List.flatten_nil, List.append_nil, List.cons_append, List.nil_append]
    after_results_simp <;> rfl

set_option maxRecDepth 65536 in
theorem V6 : (V m c main_v6 : S2048x1024.Idx → EReal) = truncf (F := Ideal) .bf16 (extractStridedSlice S2048x1024 ![0, 2048] (shapeCast S2048x5128 (aW m c) shapeCasts_S1x2048x5128_S2048x5128) slices_S2048x5128_S2048x1024_0_2048) bitsLt_bf16_f32 := by
    show StableHlo.after _ _ _ = _
    simp only [List.flatten_cons, List.flatten_nil, List.append_nil, List.cons_append, List.nil_append]
    after_results_simp <;> rfl

set_option maxRecDepth 65536 in
theorem V8 : (V m c main_v8 : S2048x1024.Idx → EReal) = truncf (F := Ideal) .bf16 (extractStridedSlice S2048x1024 ![0, 3072] (shapeCast S2048x5128 (aW m c) shapeCasts_S1x2048x5128_S2048x5128) slices_S2048x5128_S2048x1024_0_3072) bitsLt_bf16_f32 := by
    show StableHlo.after _ _ _ = _
    simp only [List.flatten_cons, List.flatten_nil, List.append_nil, List.cons_append, List.nil_append]
    after_results_simp <;> rfl

set_option maxRecDepth 65536 in
theorem V10 : (V m c main_v10 : S2048x1024.Idx → EReal) = truncf (F := Ideal) .bf16 (extractStridedSlice S2048x1024 ![0, 4096] (shapeCast S2048x5128 (aW m c) shapeCasts_S1x2048x5128_S2048x5128) slices_S2048x5128_S2048x1024_0_4096) bitsLt_bf16_f32 := by
    show StableHlo.after _ _ _ = _
    simp only [List.flatten_cons, List.flatten_nil, List.append_nil, List.cons_append, List.nil_append]
    after_results_simp <;> rfl

set_option maxRecDepth 65536 in
theorem V16 : (V m c main_v16 : S2048x128.Idx → EReal) = truncf (F := Ideal) .bf16 (pad S2048x128 ![0, 0] ![0, 120] ![0, 0] (extractStridedSlice S2048x8 ![0, 5120] (shapeCast S2048x5128 (aW m c) shapeCasts_S1x2048x5128_S2048x5128) slices_S2048x5128_S2048x8_0_5120) (sitofp (F := Ideal) .f32 (constantI S_ 32 0#32)) pads_S2048x8_S2048x128_000_01200 h_S_) bitsLt_bf16_f32 := by
    show StableHlo.after _ _ _ = _
    simp only [List.flatten_cons, List.flatten_nil, List.append_nil, List.cons_append, List.nil_append]
    simp only [TRef.unary, TRef.binary, TRef.toBuf, TRef.ofBuf, cast_eq]
    after_results_simp <;> rfl

set_option maxRecDepth 65536 in
theorem V19 : (V m c main_v19 : S1x128.Idx → EReal) = pad S1x128 ![0, 0] ![0, 120] ![0, 0] (shapeCast S1x8 (shapeCast S8 (aB m c) shapeCasts_S1x8_S8) shapeCasts_S8_S1x8) (sitofp (F := Ideal) .f32 (constantI S_ 32 0#32)) pads_S1x8_S1x128_000_01200 h_S_ := by
    show StableHlo.after _ _ _ = _
    simp only [List.flatten_cons, List.flatten_nil, List.append_nil, List.cons_append, List.nil_append]
    simp only [TRef.unary, TRef.binary, TRef.toBuf, TRef.ofBuf, cast_eq]
    after_results_simp <;> rfl

set_option maxRecDepth 65536 in
theorem V21 : (V m c main_v21 : S1x128.Idx → EReal) = shapeCast S1x128 (shapeCast S128 (aQ m c) shapeCasts_S1x128_S128) shapeCasts_S128_S1x128 := by
    show StableHlo.after _ _ _ = _
    simp only [List.flatten_cons, List.flatten_nil, List.append_nil, List.cons_append, List.nil_append]
    after_results_simp <;> rfl

set_option maxRecDepth 65536 in
theorem V23 : (V m c main_v23 : S1x128.Idx → EReal) = shapeCast S1x128 (shapeCast S128 (aK m c) shapeCasts_S1x128_S128) shapeCasts_S128_S1x128 := by
    show StableHlo.after _ _ _ = _
    simp only [List.flatten_cons, List.flatten_nil, List.append_nil, List.cons_append, List.nil_append]
    after_results_simp <;> rfl

/-- Row `r` of the input. -/
def xrow (x : S8x32x2048.Idx → EReal) (r : Fin 256) : Fin 2048 → EReal :=
  fun k => x (ix3 (⟨r.val / 32, by omega⟩ : Fin 8) (⟨r.val % 32, by omega⟩ : Fin 32) k)

theorem V11_apply (r : Fin 256) (k : Fin 2048) : (V m c main_v11 : S256x2048.Idx → EReal) (ix2 r k) = xrow (aX m c) r k := by
  rw [V11]
  refine shapeCast_apply _ _ _ _ ?_
  rw [Shape.rowMajor_val_three, Shape.rowMajor_val_two]
  show (r.val / 32 * 32 + r.val % 32) * 2048 + k.val = r.val * 2048 + k.val
  omega

theorem V13_apply (k : Fin 2048) : (V m c main_v13 : S1x2048.Idx → EReal) (ix2 0 k) = aG m c (ix2 0 k) := by
  rw [V13]
  exact (shapeCast_a_1a_apply _ _ 0 k).trans (shapeCast_1a_a_apply _ _ k)

theorem V21_apply (k : Fin 128) : (V m c main_v21 : S1x128.Idx → EReal) (ix2 0 k) = aQ m c (ix2 0 k) := by
  rw [V21]
  exact (shapeCast_a_1a_apply _ _ 0 k).trans (shapeCast_1a_a_apply _ _ k)

theorem V23_apply (k : Fin 128) : (V m c main_v23 : S1x128.Idx → EReal) (ix2 0 k) = aK m c (ix2 0 k) := by
  rw [V23]
  exact (shapeCast_a_1a_apply _ _ 0 k).trans (shapeCast_1a_a_apply _ _ k)

theorem V19_apply (j : Fin 128) (h : Fin 8) (e : j.val = h.val) : (V m c main_v19 : S1x128.Idx → EReal) (ix2 0 j) = aB m c (ix2 0 h) := by
  rw [V19]
  refine (pad_apply_of_inside ![0, 0] ![0, 120] ![0, 0] _ _ _ _ _ (ix2 (0 : Fin 1) h) (fun a => ?_)).trans
    ((shapeCast_a_1a_apply _ _ 0 h).trans (shapeCast_1a_a_apply _ _ h))
  match a with
  | ⟨0, _⟩ => rfl
  | ⟨1, _⟩ => exact e.trans (by show h.val = 0 + h.val * (0 + 1); omega)

theorem V16_apply (k : Fin 2048) (j : Fin 128) (h : Fin 8) (q : Fin 5128) (e : j.val = h.val) (hq : q.val = 5120 + h.val) :
    (V m c main_v16 : S2048x128.Idx → EReal) (ix2 k j) = aW m c (ix3 0 k q) := by
  rw [V16]
  show (pad S2048x128 ![0, 0] ![0, 120] ![0, 0] (extractStridedSlice S2048x8 ![0, 5120] (shapeCast S2048x5128 (aW m c) shapeCasts_S1x2048x5128_S2048x5128) slices_S2048x5128_S2048x8_0_5120) (sitofp (F := Ideal) .f32 (constantI S_ 32 0#32)) pads_S2048x8_S2048x128_000_01200 h_S_ : S2048x128.Idx → EReal) (ix2 k j) = _
  refine (pad_apply_of_inside ![0, 0] ![0, 120] ![0, 0] _ _ _ _ _ (ix2 k h) (fun a => ?_)).trans
    ((slice2_axis1_apply 5120 _ _ k h q hq).trans (shapeCast_1ab_ab_apply _ _ k q))
  match a with
  | ⟨0, _⟩ => show k.val = 0 + k.val * (0 + 1); omega
  | ⟨1, _⟩ => exact e.trans (by show h.val = 0 + h.val * (0 + 1); omega)

theorem V2_apply (k : Fin 2048) (j : Fin 1024) (q : Fin 5128) (hq : q.val = 0 + j.val) :
    (V m c main_v2 : S2048x1024.Idx → EReal) (ix2 k j) = aW m c (ix3 0 k q) := by
  rw [V2]
  show (extractStridedSlice S2048x1024 ![0, 0] (shapeCast S2048x5128 (aW m c) shapeCasts_S1x2048x5128_S2048x5128) slices_S2048x5128_S2048x1024_0_0 : S2048x1024.Idx → EReal) (ix2 k j) = _
  exact (slice2_axis1_apply 0 _ _ k j q hq).trans (shapeCast_1ab_ab_apply _ _ k q)

theorem V4_apply (k : Fin 2048) (j : Fin 1024) (q : Fin 5128) (hq : q.val = 1024 + j.val) :
    (V m c main_v4 : S2048x1024.Idx → EReal) (ix2 k j) = aW m c (ix3 0 k q) := by
  rw [V4]
  show (extractStridedSlice S2048x1024 ![0, 1024] (shapeCast S2048x5128 (aW m c) shapeCasts_S1x2048x5128_S2048x5128) slices_S2048x5128_S2048x1024_0_1024 : S2048x1024.Idx → EReal) (ix2 k j) = _
  exact (slice2_axis1_apply 1024 _ _ k j q hq).trans (shapeCast_1ab_ab_apply _ _ k q)

theorem V6_apply (k : Fin 2048) (j : Fin 1024) (q : Fin 5128) (hq : q.val = 2048 + j.val) :
    (V m c main_v6 : S2048x1024.Idx → EReal) (ix2 k j) = aW m c (ix3 0 k q) := by
  rw [V6]
  show (extractStridedSlice S2048x1024 ![0, 2048] (shapeCast S2048x5128 (aW m c) shapeCasts_S1x2048x5128_S2048x5128) slices_S2048x5128_S2048x1024_0_2048 : S2048x1024.Idx → EReal) (ix2 k j) = _
  exact (slice2_axis1_apply 2048 _ _ k j q hq).trans (shapeCast_1ab_ab_apply _ _ k q)

theorem V8_apply (k : Fin 2048) (j : Fin 1024) (q : Fin 5128) (hq : q.val = 3072 + j.val) :
    (V m c main_v8 : S2048x1024.Idx → EReal) (ix2 k j) = aW m c (ix3 0 k q) := by
  rw [V8]
  show (extractStridedSlice S2048x1024 ![0, 3072] (shapeCast S2048x5128 (aW m c) shapeCasts_S1x2048x5128_S2048x5128) slices_S2048x5128_S2048x1024_0_3072 : S2048x1024.Idx → EReal) (ix2 k j) = _
  exact (slice2_axis1_apply 3072 _ _ k j q hq).trans (shapeCast_1ab_ab_apply _ _ k q)

theorem V10_apply (k : Fin 2048) (j : Fin 1024) (q : Fin 5128) (hq : q.val = 4096 + j.val) :
    (V m c main_v10 : S2048x1024.Idx → EReal) (ix2 k j) = aW m c (ix3 0 k q) := by
  rw [V10]
  show (extractStridedSlice S2048x1024 ![0, 4096] (shapeCast S2048x5128 (aW m c) shapeCasts_S1x2048x5128_S2048x5128) slices_S2048x5128_S2048x1024_0_4096 : S2048x1024.Idx → EReal) (ix2 k j) = _
  exact (slice2_axis1_apply 4096 _ _ k j q hq).trans (shapeCast_1ab_ab_apply _ _ k q)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)
theorem e13 : ∀ t : Fin cfg0.N, win0_13.index t = ![t.val, 0] := (by decide +kernel : ∀ t : Fin grid0.N, _)
theorem e14 : ∀ t : Fin cfg0.N, win0_14.index t = ![t.val, 0] := (by decide +kernel : ∀ t : Fin grid0.N, _)
theorem e15 : ∀ t : Fin cfg0.N, win0_15.index t = ![t.val, 0] := (by decide +kernel : ∀ t : Fin grid0.N, _)
theorem e16 : ∀ t : Fin cfg0.N, win0_16.index t = ![t.val, 0] := (by decide +kernel : ∀ t : Fin grid0.N, _)
theorem e17 : ∀ t : Fin cfg0.N, win0_17.index t = ![0, t.val] := (by decide +kernel : ∀ t : Fin grid0.N, _)
theorem e18 : ∀ t : Fin cfg0.N, win0_18.index t = ![t.val, 0] := (by decide +kernel : ∀ t : Fin grid0.N, _)

theorem ib0 (t : Fin cfg0.N) (r : Fin 256) (k : Fin 2048) (q : Fin 256) (hq : q.val = t.val * 256 + r.val) :
    (iblk m c 0 t : S256x2048.Idx → EReal) (ix2 r k) = (V m c main_v11 : S256x2048.Idx → EReal) (ix2 q k) := by
  show (V m c main_v11 : S256x2048.Idx → EReal) (((cfg0.win 0).blk t).view.emb (ix2 r k)) = _
  refine congrArg _ (funext fun a => Fin.ext ?_)
  match a with
  | ⟨0, _⟩ => blk_simp [e0]; exact (show r.val = q.val by have ht : t.val < 1 := t.isLt; omega)
  | ⟨1, _⟩ => blk_simp [e0]

theorem ib1 (t : Fin cfg0.N) : (iblk m c 1 t : S1x2048.Idx → EReal) = (V m c main_v13 : S1x2048.Idx → EReal) := by
  funext y
  show (V m c main_v13 : S1x2048.Idx → EReal) (((cfg0.win 1).blk t).view.emb y) = _
  refine congrArg _ (funext fun a => Fin.ext ?_)
  match a with
  | ⟨0, _⟩ => blk_simp [e1]
  | ⟨1, _⟩ => blk_simp [e1]

theorem ib2 (t : Fin cfg0.N) : (iblk m c 2 t : S2048x1024.Idx → EReal) = (V m c main_v2 : S2048x1024.Idx → EReal) := by
  funext y
  show (V m c main_v2 : S2048x1024.Idx → EReal) (((cfg0.win 2).blk t).view.emb y) = _
  refine congrArg _ (funext fun a => Fin.ext ?_)
  match a with
  | ⟨0, _⟩ => blk_simp [e2]
  | ⟨1, _⟩ => blk_simp [e2]

theorem ib3 (t : Fin cfg0.N) : (iblk m c 3 t : S2048x1024.Idx → EReal) = (V m c main_v4 : S2048x1024.Idx → EReal) := by
  funext y
  show (V m c main_v4 : S2048x1024.Idx → EReal) (((cfg0.win 3).blk t).view.emb y) = _
  refine congrArg _ (funext fun a => Fin.ext ?_)
  match a with
  | ⟨0, _⟩ => blk_simp [e3]
  | ⟨1, _⟩ => blk_simp [e3]

theorem ib4 (t : Fin cfg0.N) : (iblk m c 4 t : S2048x1024.Idx → EReal) = (V m c main_v6 : S2048x1024.Idx → EReal) := by
  funext y
  show (V m c main_v6 : S2048x1024.Idx → EReal) (((cfg0.win 4).blk t).view.emb y) = _
  refine congrArg _ (funext fun a => Fin.ext ?_)
  match a with
  | ⟨0, _⟩ => blk_simp [e4]
  | ⟨1, _⟩ => blk_simp [e4]

theorem ib5 (t : Fin cfg0.N) : (iblk m c 5 t : S2048x1024.Idx → EReal) = (V m c main_v8 : S2048x1024.Idx → EReal) := by
  funext y
  show (V m c main_v8 : S2048x1024.Idx → EReal) (((cfg0.win 5).blk t).view.emb y) = _
  refine congrArg _ (funext fun a => Fin.ext ?_)
  match a with
  | ⟨0, _⟩ => blk_simp [e5]
  | ⟨1, _⟩ => blk_simp [e5]

theorem ib6 (t : Fin cfg0.N) : (iblk m c 6 t : S2048x1024.Idx → EReal) = (V m c main_v10 : S2048x1024.Idx → EReal) := by
  funext y
  show (V m c main_v10 : S2048x1024.Idx → EReal) (((cfg0.win 6).blk t).view.emb y) = _
  refine congrArg _ (funext fun a => Fin.ext ?_)
  match a with
  | ⟨0, _⟩ => blk_simp [e6]
  | ⟨1, _⟩ => blk_simp [e6]

theorem ib7 (t : Fin cfg0.N) : (iblk m c 7 t : S2048x128.Idx → EReal) = (V m c main_v16 : S2048x128.Idx → EReal) := by
  funext y
  show (V m c main_v16 : S2048x128.Idx → EReal) (((cfg0.win 7).blk t).view.emb y) = _
  refine congrArg _ (funext fun a => Fin.ext ?_)
  match a with
  | ⟨0, _⟩ => blk_simp [e7]
  | ⟨1, _⟩ => blk_simp [e7]

theorem ib8 (t : Fin cfg0.N) : (iblk m c 8 t : S1x128.Idx → EReal) = (V m c main_v19 : S1x128.Idx → EReal) := by
  funext y
  show (V m c main_v19 : S1x128.Idx → EReal) (((cfg0.win 8).blk t).view.emb y) = _
  refine congrArg _ (funext fun a => Fin.ext ?_)
  match a with
  | ⟨0, _⟩ => blk_simp [e8]
  | ⟨1, _⟩ => blk_simp [e8]

theorem ib9 (t : Fin cfg0.N) : (iblk m c 9 t : S1x128.Idx → EReal) = (V m c main_v21 : S1x128.Idx → EReal) := by
  funext y
  show (V m c main_v21 : S1x128.Idx → EReal) (((cfg0.win 9).blk t).view.emb y) = _
  refine congrArg _ (funext fun a => Fin.ext ?_)
  match a with
  | ⟨0, _⟩ => blk_simp [e9]
  | ⟨1, _⟩ => blk_simp [e9]

theorem ib10 (t : Fin cfg0.N) : (iblk m c 10 t : S1x128.Idx → EReal) = (V m c main_v23 : S1x128.Idx → EReal) := by
  funext y
  show (V m c main_v23 : S1x128.Idx → EReal) (((cfg0.win 10).blk t).view.emb y) = _
  refine congrArg _ (funext fun a => Fin.ext ?_)
  match a with
  | ⟨0, _⟩ => blk_simp [e10]
  | ⟨1, _⟩ => blk_simp [e10]

end Cert.Kernel3Ideal.Inp

end
-- ==== Proof.InOutS.lean ====
/- The input projection's output arrays after the run: each entry a function of one row of the input. -/
module

public import proofs.«01_k».proof.Proof.InArrS

@[expose] public section

noncomputable section

namespace Cert.Kernel3Ideal.Inp

open Cert.Kernel3Ideal Cert.Kernel3Ideal.Gen Cert.Inp Idealize.ShloMosaic.TcCoe Idealize.ShloMosaic.ValueIdx Idealize.ShloMosaic.StableHlo
open Idealize.ShloMosaic
open Idealize.ShloMosaic.Pipeline (Dat)

variable (m : (ℓ : Loc nD τ sig) → Buf (Elt Ideal) ℓ) (c : Dev nD)

/-- The first entries of a one-row array. -/
def gr {b : ℕ} (g : (⟨2, ![1, b]⟩ : Shape).Idx → EReal) : Fin b → EReal := fun k => g (ix2 0 k)

theorem row0 (t : Fin cfg0.N) (r : Fin 256) (q : Fin 256) (hq : q.val = t.val * 256 + r.val) :
    rowOf (iblk m c 0 t : S256x2048.Idx → EReal) r = xrow (aX m c) q :=
  funext fun k => (ib0 m c t r k q hq).trans (V11_apply m c q k)

theorem row1 (t : Fin cfg0.N) : rowOf (iblk m c 1 t : S1x2048.Idx → EReal) 0 = gr (aG m c) :=
  funext fun k => (congrFun (ib1 m c t) _).trans (V13_apply m c k)

theorem row9 (t : Fin cfg0.N) : rowOf (iblk m c 9 t : S1x128.Idx → EReal) 0 = gr (aQ m c) :=
  funext fun k => (congrFun (ib9 m c t) _).trans (V21_apply m c k)

theorem row10 (t : Fin cfg0.N) : rowOf (iblk m c 10 t : S1x128.Idx → EReal) 0 = gr (aK m c) :=
  funext fun k => (congrFun (ib10 m c t) _).trans (V23_apply m c k)

theorem P2 (t : Fin cfg0.N) (r : Fin 256) (j : Fin 1024) (q : Fin 256) (hq : q.val = t.val * 256 + r.val) (n : ℕ) (hn : n = j.val) :
    P (iblk m c 0 t) (iblk m c 1 t) (iblk m c 2 t : S2048x1024.Idx → EReal) r j = pp (xrow (aX m c) q) (gr (aG m c)) (aW m c) (0 + n) := by
  subst hn
  unfold P pp
  have hj := j.isLt
  refine congr (congr (congrArg prj (row0 m c t r q hq)) (row1 m c t)) (funext fun k => ?_)
  exact (congrFun (ib2 m c t) _).trans (V2_apply m c k j (cl (0 + j.val)) (by show (0 + j.val) % 5128 = _; omega))

theorem P3 (t : Fin cfg0.N) (r : Fin 256) (j : Fin 1024) (q : Fin 256) (hq : q.val = t.val * 256 + r.val) (n : ℕ) (hn : n = j.val) :
    P (iblk m c 0 t) (iblk m c 1 t) (iblk m c 3 t : S2048x1024.Idx → EReal) r j = pp (xrow (aX m c) q) (gr (aG m c)) (aW m c) (1024 + n) := by
  subst hn
  unfold P pp
  have hj := j.isLt
  refine congr (congr (congrArg prj (row0 m c t r q hq)) (row1 m c t)) (funext fun k => ?_)
  exact (congrFun (ib3 m c t) _).trans (V4_apply m c k j (cl (1024 + j.val)) (by show (1024 + j.val) % 5128 = _; omega))

theorem P4 (t : Fin cfg0.N) (r : Fin 256) (j : Fin 1024) (q : Fin 256) (hq : q.val = t.val * 256 + r.val) (n : ℕ) (hn : n = j.val) :
    P (iblk m c 0 t) (iblk m c 1 t) (iblk m c 4 t : S2048x1024.Idx → EReal) r j = pp (xrow (aX m c) q) (gr (aG m c)) (aW m c) (2048 + n) := by
  subst hn
  unfold P pp
  have hj := j.isLt
  refine congr (congr (congrArg prj (row0 m c t r q hq)) (row1 m c t)) (funext fun k => ?_)
  exact (congrFun (ib4 m c t) _).trans (V6_apply m c k j (cl (2048 + j.val)) (by show (2048 + j.val) % 5128 = _; omega))

theorem P5 (t : Fin cfg0.N) (r : Fin 256) (j : Fin 1024) (q : Fin 256) (hq : q.val = t.val * 256 + r.val) (n : ℕ) (hn : n = j.val) :
    P (iblk m c 0 t) (iblk m c 1 t) (iblk m c 5 t : S2048x1024.Idx → EReal) r j = pp (xrow (aX m c) q) (gr (aG m c)) (aW m c) (3072 + n) := by
  subst hn
  unfold P pp
  have hj := j.isLt
  refine congr (congr (congrArg prj (row0 m c t r q hq)) (row1 m c t)) (funext fun k => ?_)
  exact (congrFun (ib5 m c t) _).trans (V8_apply m c k j (cl (3072 + j.val)) (by show (3072 + j.val) % 5128 = _; omega))

theorem P6 (t : Fin cfg0.N) (r : Fin 256) (j : Fin 1024) (q : Fin 256) (hq : q.val = t.val * 256 + r.val) (n : ℕ) (hn : n = j.val) :
    P (iblk m c 0 t) (iblk m c 1 t) (iblk m c 6 t : S2048x1024.Idx → EReal) r j = pp (xrow (aX m c) q) (gr (aG m c)) (aW m c) (4096 + n) := by
  subst hn
  unfold P pp
  have hj := j.isLt
  refine congr (congr (congrArg prj (row0 m c t r q hq)) (row1 m c t)) (funext fun k => ?_)
  exact (congrFun (ib6 m c t) _).trans (V10_apply m c k j (cl (4096 + j.val)) (by show (4096 + j.val) % 5128 = _; omega))

theorem P7 (t : Fin cfg0.N) (r : Fin 256) (j : Fin 128) (h : Fin 8) (e : j.val = h.val) (q : Fin 256) (hq : q.val = t.val * 256 + r.val) (n : ℕ) (hn : n = h.val) :
    P (iblk m c 0 t) (iblk m c 1 t) (iblk m c 7 t : S2048x128.Idx → EReal) r j = pp (xrow (aX m c) q) (gr (aG m c)) (aW m c) (5120 + n) := by
  subst hn
  unfold P pp
  have hh := h.isLt
  refine congr (congr (congrArg prj (row0 m c t r q hq)) (row1 m c t)) (funext fun k => ?_)
  exact (congrFun (ib7 m c t) _).trans (V16_apply m c k j h (cl (5120 + h.val)) e (by show (5120 + h.val) % 5128 = _; omega))

/-- The arrays. -/
def U (i : S256x1024.Idx) : EReal := fu (xrow (aX m c) (i 0)) (gr (aG m c)) (aW m c) (i 1).val
def Kq (i : S256x1024.Idx) : EReal := fh 2048 (xrow (aX m c) (i 0)) (gr (aG m c)) (aW m c) (gr (aQ m c)) (i 1).val * Ideal.ofBits .f32 0x3E0293EE#32
def Kk (i : S256x1024.Idx) : EReal := fh 3072 (xrow (aX m c) (i 0)) (gr (aG m c)) (aW m c) (gr (aK m c)) (i 1).val
def Kv (i : S256x1024.Idx) : EReal := pp (xrow (aX m c) (i 0)) (gr (aG m c)) (aW m c) (4096 + (i 1).val)
def Kt (i : S1024x256.Idx) : EReal := pp (xrow (aX m c) (i 1)) (gr (aG m c)) (aW m c) (4096 + (i 0).val)
def Kl (i : S256x8.Idx) : EReal := fl (xrow (aX m c) (i 0)) (gr (aG m c)) (aW m c) (aB m c (ix2 0 (i 1))) (i 1).val

theorem bh (w g) (o : ℕ) (gain : Fin 128 → EReal) (t : Fin cfg0.N) (hw : ∀ (r : Fin 256) (j : Fin 1024) (q : Fin 256) (hq : q.val = t.val * 256 + r.val) (n : ℕ) (hn : n = j.val),
      P (iblk m c 0 t) (iblk m c 1 t) w r j = pp (xrow (aX m c) q) (gr (aG m c)) (aW m c) (o + n))
    (hg : rowOf g 0 = gain) (y : S256x1024.Idx) (q : Fin 256) (n : Fin 1024) (hq : q.val = t.val * 256 + (y 0).val) (hn : n.val = (y 1).val) :
    Gh (iblk m c 0 t) (iblk m c 1 t) w g y = fh o (xrow (aX m c) q) (gr (aG m c)) (aW m c) gain n.val := by
  unfold Gh fh
  refine congr (congr (congrArg hd (funext fun e => ?_)) hg) (Fin.ext (by show _ % 128 = _ % 128; rw [hn]))
  exact hw _ _ q hq _ (by show _ = _ / 128 * 128 + e.val; rw [hn])

theorem fin11 : (dats m 0 c).arrAt 11 cfg0.N = U m c := by
  refine (dats m 0 c).arrAt_eq_of_covers 11 (U m c) (by decide +kernel) fun t hf y => ?_
  have h0 : ((((cfg0.win 11).blk t).view.emb y 0 : Fin _) : ℕ) = t.val * 256 + (y 0 : ℕ) := by blk_simp [e11]
  have h1 : ((((cfg0.win 11).blk t).view.emb y 1 : Fin _) : ℕ) = (y 1 : ℕ) := by blk_simp [e11]
  show (dats m 0 c).after 11 t y = _
  rw [after0_11]
  refine (out11 _ _ _ _ _ _ _ _ _ _ _ y).trans ?_
  exact congrArg₂ (fun a b : EReal => a * Ideal.logistic b) (P2 m c t _ _ _ h0 _ h1) (P3 m c t _ _ _ h0 _ h1)
theorem fin12 : (dats m 0 c).arrAt 12 cfg0.N = Kq m c := by
  refine (dats m 0 c).arrAt_eq_of_covers 12 (Kq m c) (by decide +kernel) fun t hf y => ?_
  have h0 : ((((cfg0.win 12).blk t).view.emb y 0 : Fin _) : ℕ) = t.val * 256 + (y 0 : ℕ) := by blk_simp [e12]
  have h1 : ((((cfg0.win 12).blk t).view.emb y 1 : Fin _) : ℕ) = (y 1 : ℕ) := by blk_simp [e12]
  show (dats m 0 c).after 12 t y = _
  rw [after0_12]
  refine (out12 _ _ _ _ _ _ _ _ _ _ _ y).trans ?_
  exact congrArg (· * Ideal.ofBits .f32 0x3E0293EE#32) (bh m c _ _ 2048 _ t (P4 m c t) (row9 m c t) y _ _ h0 h1)
theorem fin13 : (dats m 0 c).arrAt 13 cfg0.N = Kk m c := by
  refine (dats m 0 c).arrAt_eq_of_covers 13 (Kk m c) (by decide +kernel) fun t hf y => ?_
  have h0 : ((((cfg0.win 13).blk t).view.emb y 0 : Fin _) : ℕ) = t.val * 256 + (y 0 : ℕ) := by blk_simp [e13]
  have h1 : ((((cfg0.win 13).blk t).view.emb y 1 : Fin _) : ℕ) = (y 1 : ℕ) := by blk_simp [e13]
  show (dats m 0 c).after 13 t y = _
  rw [after0_13]
  refine (out13 _ _ _ _ _ _ _ _ _ _ _ y).trans ?_
  exact bh m c _ _ 3072 _ t (P5 m c t) (row10 m c t) y _ _ h0 h1
theorem fin14 : (dats m 0 c).arrAt 14 cfg0.N = Kk m c := by
  refine (dats m 0 c).arrAt_eq_of_covers 14 (Kk m c) (by decide +kernel) fun t hf y => ?_
  have h0 : ((((cfg0.win 14).blk t).view.emb y 0 : Fin _) : ℕ) = t.val * 256 + (y 0 : ℕ) := by blk_simp [e14]
  have h1 : ((((cfg0.win 14).blk t).view.emb y 1 : Fin _) : ℕ) = (y 1 : ℕ) := by blk_simp [e14]
  show (dats m 0 c).after 14 t y = _
  rw [after0_14]
  refine (out14 _ _ _ _ _ _ _ _ _ _ _ y).trans ?_
  exact bh m c _ _ 3072 _ t (P5 m c t) (row10 m c t) y _ _ h0 h1
theorem fin15 : (dats m 0 c).arrAt 15 cfg0.N = Kv m c := by
  refine (dats m 0 c).arrAt_eq_of_covers 15 (Kv m c) (by decide +kernel) fun t hf y => ?_
  have h0 : ((((cfg0.win 15).blk t).view.emb y 0 : Fin _) : ℕ) = t.val * 256 + (y 0 : ℕ) := by blk_simp [e15]
  have h1 : ((((cfg0.win 15).blk t).view.emb y 1 : Fin _) : ℕ) = (y 1 : ℕ) := by blk_simp [e15]
  show (dats m 0 c).after 15 t y = _
  rw [after0_15]
  refine (out15 _ _ _ _ _ _ _ _ _ _ _ y).trans ?_
  exact P6 m c t _ _ _ h0 _ h1
theorem fin16 : (dats m 0 c).arrAt 16 cfg0.N = Kv m c := by
  refine (dats m 0 c).arrAt_eq_of_covers 16 (Kv m c) (by decide +kernel) fun t hf y => ?_
  have h0 : ((((cfg0.win 16).blk t).view.emb y 0 : Fin _) : ℕ) = t.val * 256 + (y 0 : ℕ) := by blk_simp [e16]
  have h1 : ((((cfg0.win 16).blk t).view.emb y 1 : Fin _) : ℕ) = (y 1 : ℕ) := by blk_simp [e16]
  show (dats m 0 c).after 16 t y = _
  rw [after0_16]
  refine (out16 _ _ _ _ _ _ _ _ _ _ _ y).trans ?_
  exact P6 m c t _ _ _ h0 _ h1
theorem fin17 : (dats m 0 c).arrAt 17 cfg0.N = Kt m c := by
  refine (dats m 0 c).arrAt_eq_of_covers 17 (Kt m c) (by decide +kernel) fun t hf y => ?_
  have h0 : ((((cfg0.win 17).blk t).view.emb y 0 : Fin _) : ℕ) = (y 0 : ℕ) := by blk_simp [e17]
  have h1 : ((((cfg0.win 17).blk t).view.emb y 1 : Fin _) : ℕ) = t.val * 256 + (y 1 : ℕ) := by blk_simp [e17]
  show (dats m 0 c).after 17 t y = _
  rw [after0_17]
  refine (out17 _ _ _ _ _ _ _ _ _ _ _ y).trans ?_
  exact P6 m c t _ _ _ h1 _ h0
theorem fin18 : (dats m 0 c).arrAt 18 cfg0.N = Kl m c := by
  refine (dats m 0 c).arrAt_eq_of_covers 18 (Kl m c) (by decide +kernel) fun t hf y => ?_
  have h0 : ((((cfg0.win 18).blk t).view.emb y 0 : Fin _) : ℕ) = t.val * 256 + (y 0 : ℕ) := by blk_simp [e18]
  have h1 : ((((cfg0.win 18).blk t).view.emb y 1 : Fin _) : ℕ) = (y 1 : ℕ) := by blk_simp [e18]
  show (dats m 0 c).after 18 t y = _
  rw [after0_18]
  refine (out18 _ _ _ _ _ _ _ _ _ _ _ y).trans ?_
  exact congrArg₂ (fun a b : EReal => ls (a + b)) (P7 m c t _ _ _ h1.symm _ h0 _ rfl)
    ((congrFun (ib8 m c t) _).trans (V19_apply m c _ _ h1.symm))

end Cert.Kernel3Ideal.Inp

end
-- ==== Proof.InRefS.lean ====
/- The reference's results as functions of one row of the input, and both programs' results set side by side. -/
module

public import proofs.«01_k».proof.Proof.InOutS
public import proofs.«01_k».proof.Proof.Gen.Reference3Ideal.Run
public import proofs.«01_k».proof.Proof.Gen.Reference3Ideal.Read

@[expose] public section

noncomputable section

namespace Cert.Reference3Ideal.Inp

open Cert.Reference3Ideal Cert.Reference3Ideal.Read Cert.Inp Idealize.ShloMosaic Idealize.ShloMosaic.TcCoe Idealize.ShloMosaic.ValueIdx
open Cert.Kernel3Ideal.Inp (xrow gr)

variable (x : S8x32x2048.Idx → EReal) (g : S1x2048.Idx → EReal) (w : S1x2048x5128.Idx → EReal) (b : S1x8.Idx → EReal)
  (qg kg : S1x128.Idx → EReal)

/-- The row of the input at a batch entry and a position. -/
def xr (a : Fin 8) (s : Fin 32) : Fin 2048 → EReal := fun k => x (ix3 a s k)

theorem xr_eq (a : Fin 8) (s : Fin 32) (r : Fin 256) (ha : a.val = r.val / 32) (hs : s.val = r.val % 32) : xr x a s = xrow x r := by
  have ha' : a = ⟨r.val / 32, by omega⟩ := Fin.ext ha
  have hs' : s = ⟨r.val % 32, by omega⟩ := Fin.ext hs
  rw [ha', hs']
  rfl

/-- The normalised rows. -/
theorem R13 (i : S8x32x2048.Idx) : val_main_v13 (F := Ideal) x g i = act (xr x (i 0) (i 1)) (gr g) (i 2) := by
  have e : ∀ k, idx_main_v2 (idx_main_v3 (idx_main_v9 i)) k = ix3 (i 0) (i 1) k := fun k => funext fun a => match a with
    | ⟨0, _⟩ => rfl
    | ⟨1, _⟩ => rfl
    | ⟨2, _⟩ => rfl
  have eg : idx_main_v0 (idx_main_v11 (idx_main_v12 i)) = ix2 0 (i 2) := funext fun a => match a with
    | ⟨0, _⟩ => rfl
    | ⟨1, _⟩ => Fin.ext (Nat.mod_eq_of_lt (i 2).isLt)
  have ei : i = ix3 (i 0) (i 1) (i 2) := eq_ix3 i
  rw [val_main_v13_apply, val_main_v10_apply, val_main_v9_apply, val_main_v8_apply, val_main_v7_apply, val_main_v5_apply, val_main_v3_apply, val_main_v2_apply, val_main_v4_apply, val_main_cst_0_apply, val_main_v6_apply, val_main_cst_1_apply, val_main_v12_apply, val_main_v11_apply, val_main_v0_apply, val_main_cst_apply, eg]
  simp only [val_main_v1_apply, e]
  show x i * Ideal.rsqrt (Ideal.div (Ideal.ofBits .f32 0x00000000#32 + ∑ k : Fin 2048, x (ix3 (i 0) (i 1) k) * x (ix3 (i 0) (i 1) k)) (Ideal.ofBits .f32 0x45000000#32) + Ideal.ofBits .f32 0x358637BD#32) * g (ix2 0 (i 2)) = _
  rw [Ideal.ofBits_zero_f32, zero_add]
  exact congrArg (fun p : EReal => p * Ideal.rsqrt (Ideal.div (∑ k : Fin 2048, x (ix3 (i 0) (i 1) k) * x (ix3 (i 0) (i 1) k)) (Ideal.ofBits .f32 0x45000000#32) + Ideal.ofBits .f32 0x358637BD#32) * g (ix2 0 (i 2))) (congrArg x ei)

/-- The projection. -/
theorem R15 (i : S8x32x5128.Idx) : val_main_v15 (F := Ideal) x g w i = pp (xr x (i 0) (i 1)) (gr g) w (i 2).val := by
  rw [val_main_v15_apply]
  unfold pp prj
  refine Finset.sum_congr rfl fun k _ => ?_
  rw [R13, val_main_v14_apply]
  have hk := k.isLt
  have hi : (i 2).val < 5128 := (i 2).isLt
  refine congrArg₂ (fun p q : EReal => p * q) rfl (congrArg w (funext fun a => ?_))
  match a with
  | ⟨0, _⟩ => rfl
  | ⟨1, _⟩ => exact Fin.ext (by show (k.val * 5128 + (i 2).val) / 5128 % 2048 = k.val; omega)
  | ⟨2, _⟩ => exact Fin.ext (by show (k.val * 5128 + (i 2).val) % 5128 = (i 2).val % 5128; omega)

theorem ppc {z z' g' : Fin 2048 → EReal} {n n' : ℕ} (hz : z = z') (hn : n = n') : pp z g' w n = pp z' g' w n' := by
  subst hz hn; rfl

theorem Ru (i : S256x1024.Idx) : val_main_v66 (F := Ideal) x g w i = fu (xrow x (i 0)) (gr g) w (i 1).val := by
  have h0 : (i 0).val < 256 := (i 0).isLt
  have h1 : (i 1).val < 1024 := (i 1).isLt
  rw [val_main_v66_apply, val_main_v29_apply, val_main_v21_apply, val_main_v16_apply, val_main_v28_apply, val_main_v27_apply, val_main_cst_3_apply, val_main_v26_apply, val_main_v25_apply, val_main_cst_2_apply, val_main_v24_apply, val_main_v23_apply, val_main_v22_apply, val_main_v16_apply, R15, R15]
  show _ * Ideal.div (Ideal.ofBits .f32 0x3F800000#32) (Ideal.ofBits .f32 0x3F800000#32 + Ideal.exp (-_)) = _
  rw [one_f32]
  have hr := xr_eq x (idx_main_v66 i 0) (idx_main_v66 i 1) (i 0) (by show ((i 0).val * 1024 + (i 1).val) / 32768 = _; omega)
    (by show ((i 0).val * 1024 + (i 1).val) / 1024 % 32 = _; omega)
  refine congrArg₂ (fun p q : EReal => p * Ideal.logistic q) (ppc w hr ?_) (ppc w hr ?_)
  · show ((i 0).val * 1024 + (i 1).val) % 1024 = 0 + (i 1).val; omega
  · show 1024 + ((i 0).val * 1024 + (i 1).val) % 1024 = 1024 + (i 1).val; omega

/-- A head of the reference, read at an index. -/
theorem Rhq (i : S8x32x8x128.Idx) : val_main_v44 (F := Ideal) x g w qg i
    = hd (fun e => pp (xr x (i 0) (i 1)) (gr g) w (2048 + ((i 2).val * 128 + e.val))) (gr qg) (i 3) := by
  have i0 : (i 0).val < 8 := (i 0).isLt
  have i1 : (i 1).val < 32 := (i 1).isLt
  have i2 : (i 2).val < 8 := (i 2).isLt
  have hz : ∀ j : S8x32x8x128.Idx, (j 0).val = (i 0).val → (j 1).val = (i 1).val → (j 2).val = (i 2).val → val_main_v30 (F := Ideal) x g w j
      = pp (xr x (i 0) (i 1)) (gr g) w (2048 + ((i 2).val * 128 + (j 3).val)) := fun j j0 j1 j2 => by
    have j3 : (j 3).val < 128 := (j 3).isLt
    rw [val_main_v30_apply, val_main_v17_apply, R15]
    refine ppc w (congrArg₂ (xr x) (Fin.ext ?_) (Fin.ext ?_)) ?_
    · show ((((j 0).val * 32 + (j 1).val) * 8 + (j 2).val) * 128 + (j 3).val) / 32768 = (i 0).val; omega
    · show ((((j 0).val * 32 + (j 1).val) * 8 + (j 2).val) * 128 + (j 3).val) / 1024 % 32 = (i 1).val; omega
    · show 2048 + ((((j 0).val * 32 + (j 1).val) * 8 + (j 2).val) * 128 + (j 3).val) % 1024 = 2048 + ((i 2).val * 128 + (j 3).val); omega
  have eg : idx_main_v31 (idx_main_v42 (idx_main_v43 i)) = ix2 0 (i 3) := funext fun a => match a with
    | ⟨0, _⟩ => rfl
    | ⟨1, _⟩ => Fin.ext (Nat.mod_eq_of_lt (i 3).isLt)
  rw [val_main_v44_apply, val_main_v41_apply, val_main_v40_apply, val_main_v39_apply, val_main_v38_apply, val_main_v36_apply, val_main_v34_apply, val_main_v33_apply, val_main_v35_apply, val_main_cst_5_apply, val_main_v37_apply, val_main_cst_6_apply, val_main_v43_apply, val_main_v42_apply, val_main_v31_apply, val_main_cst_4_apply, eg]
  simp only [val_main_v32_apply]
  rw [hz i rfl rfl rfl]
  have hs : ∑ k : Fin 128, FloatOps.mulf (F := Ideal) (φ := .f32) (val_main_v30 (F := Ideal) x g w (idx_main_v33 (idx_main_v34 (idx_main_v40 i)) k)) (val_main_v30 (F := Ideal) x g w (idx_main_v33 (idx_main_v34 (idx_main_v40 i)) k))
      = ∑ k : Fin 128, pp (xr x (i 0) (i 1)) (gr g) w (2048 + ((i 2).val * 128 + k.val)) * pp (xr x (i 0) (i 1)) (gr g) w (2048 + ((i 2).val * 128 + k.val)) :=
    Finset.sum_congr rfl fun k _ => congrArg₂ (fun p q : EReal => p * q) (hz (idx_main_v33 (idx_main_v34 (idx_main_v40 i)) k) rfl rfl rfl) (hz (idx_main_v33 (idx_main_v34 (idx_main_v40 i)) k) rfl rfl rfl)
  rw [hs]
  show _ * Ideal.rsqrt (Ideal.div (Ideal.ofBits .f32 0x00000000#32 + _) (Ideal.ofBits .f32 0x43000000#32) + Ideal.ofBits .f32 0x358637BD#32) * qg (ix2 0 (i 3)) = _
  rw [Ideal.ofBits_zero_f32, zero_add]
  rfl

theorem Rhk (i : S8x32x8x128.Idx) : val_main_v59 (F := Ideal) x g w kg i
    = hd (fun e => pp (xr x (i 0) (i 1)) (gr g) w (3072 + ((i 2).val * 128 + e.val))) (gr kg) (i 3) := by
  have i0 : (i 0).val < 8 := (i 0).isLt
  have i1 : (i 1).val < 32 := (i 1).isLt
  have i2 : (i 2).val < 8 := (i 2).isLt
  have hz : ∀ j : S8x32x8x128.Idx, (j 0).val = (i 0).val → (j 1).val = (i 1).val → (j 2).val = (i 2).val → val_main_v45 (F := Ideal) x g w j
      = pp (xr x (i 0) (i 1)) (gr g) w (3072 + ((i 2).val * 128 + (j 3).val)) := fun j j0 j1 j2 => by
    have j3 : (j 3).val < 128 := (j 3).isLt
    rw [val_main_v45_apply, val_main_v18_apply, R15]
    refine ppc w (congrArg₂ (xr x) (Fin.ext ?_) (Fin.ext ?_)) ?_
    · show ((((j 0).val * 32 + (j 1).val) * 8 + (j 2).val) * 128 + (j 3).val) / 32768 = (i 0).val; omega
    · show ((((j 0).val * 32 + (j 1).val) * 8 + (j 2).val) * 128 + (j 3).val) / 1024 % 32 = (i 1).val; omega
    · show 3072 + ((((j 0).val * 32 + (j 1).val) * 8 + (j 2).val) * 128 + (j 3).val) % 1024 = 3072 + ((i 2).val * 128 + (j 3).val); omega
  have eg : idx_main_v46 (idx_main_v57 (idx_main_v58 i)) = ix2 0 (i 3) := funext fun a => match a with
    | ⟨0, _⟩ => rfl
    | ⟨1, _⟩ => Fin.ext (Nat.mod_eq_of_lt (i 3).isLt)
  rw [val_main_v59_apply, val_main_v56_apply, val_main_v55_apply, val_main_v54_apply, val_main_v53_apply, val_main_v51_apply, val_main_v49_apply, val_main_v48_apply, val_main_v50_apply, val_main_cst_8_apply, val_main_v52_apply, val_main_cst_9_apply, val_main_v58_apply, val_main_v57_apply, val_main_v46_apply, val_main_cst_7_apply, eg]
  simp only [val_main_v47_apply]
  rw [hz i rfl rfl rfl]
  have hs : ∑ k : Fin 128, FloatOps.mulf (F := Ideal) (φ := .f32) (val_main_v45 (F := Ideal) x g w (idx_main_v48 (idx_main_v49 (idx_main_v55 i)) k)) (val_main_v45 (F := Ideal) x g w (idx_main_v48 (idx_main_v49 (idx_main_v55 i)) k))
      = ∑ k : Fin 128, pp (xr x (i 0) (i 1)) (gr g) w (3072 + ((i 2).val * 128 + k.val)) * pp (xr x (i 0) (i 1)) (gr g) w (3072 + ((i 2).val * 128 + k.val)) :=
    Finset.sum_congr rfl fun k _ => congrArg₂ (fun p q : EReal => p * q) (hz (idx_main_v48 (idx_main_v49 (idx_main_v55 i)) k) rfl rfl rfl) (hz (idx_main_v48 (idx_main_v49 (idx_main_v55 i)) k) rfl rfl rfl)
  rw [hs]
  show _ * Ideal.rsqrt (Ideal.div (Ideal.ofBits .f32 0x00000000#32 + _) (Ideal.ofBits .f32 0x43000000#32) + Ideal.ofBits .f32 0x358637BD#32) * kg (ix2 0 (i 3)) = _
  rw [Ideal.ofBits_zero_f32, zero_add]
  rfl

theorem hdc {z z' : Fin 128 → EReal} {g' : Fin 128 → EReal} {n n' : Fin 128} (hz : z = z') (hn : n = n') : hd z g' n = hd z' g' n' := by
  subst hz hn; rfl

theorem Rq0 (i : S256x1024.Idx) : val_main_v44 (F := Ideal) x g w qg (idx_main_v69 i) = fh 2048 (xrow x (i 0)) (gr g) w (gr qg) (i 1).val := by
  have h0 : (i 0).val < 256 := (i 0).isLt
  have h1 : (i 1).val < 1024 := (i 1).isLt
  rw [Rhq]
  have hr := xr_eq x (idx_main_v69 i 0) (idx_main_v69 i 1) (i 0) (by show ((i 0).val * 1024 + (i 1).val) / 32768 = _; omega)
    (by show ((i 0).val * 1024 + (i 1).val) / 1024 % 32 = _; omega)
  unfold fh
  refine hdc (funext fun e => ppc w hr ?_) (Fin.ext ?_)
  · show 2048 + (((i 0).val * 1024 + (i 1).val) / 128 % 8 * 128 + e.val) = 2048 + ((i 1).val / 128 * 128 + e.val); omega
  · show ((i 0).val * 1024 + (i 1).val) % 128 = (i 1).val % 128; omega

theorem Rk0 (i : S256x1024.Idx) : val_main_v59 (F := Ideal) x g w kg (idx_main_v71 i) = fh 3072 (xrow x (i 0)) (gr g) w (gr kg) (i 1).val := by
  have h0 : (i 0).val < 256 := (i 0).isLt
  have h1 : (i 1).val < 1024 := (i 1).isLt
  rw [Rhk]
  have hr := xr_eq x (idx_main_v71 i 0) (idx_main_v71 i 1) (i 0) (by show ((i 0).val * 1024 + (i 1).val) / 32768 = _; omega)
    (by show ((i 0).val * 1024 + (i 1).val) / 1024 % 32 = _; omega)
  unfold fh
  refine hdc (funext fun e => ppc w hr ?_) (Fin.ext ?_)
  · show 3072 + (((i 0).val * 1024 + (i 1).val) / 128 % 8 * 128 + e.val) = 3072 + ((i 1).val / 128 * 128 + e.val); omega
  · show ((i 0).val * 1024 + (i 1).val) % 128 = (i 1).val % 128; omega

theorem Rk1 (i : S256x1024.Idx) : val_main_v59 (F := Ideal) x g w kg (idx_main_v72 i) = fh 3072 (xrow x (i 0)) (gr g) w (gr kg) (i 1).val := by
  have h0 : (i 0).val < 256 := (i 0).isLt
  have h1 : (i 1).val < 1024 := (i 1).isLt
  rw [Rhk]
  have hr := xr_eq x (idx_main_v72 i 0) (idx_main_v72 i 1) (i 0) (by show ((i 0).val * 1024 + (i 1).val) / 32768 = _; omega)
    (by show ((i 0).val * 1024 + (i 1).val) / 1024 % 32 = _; omega)
  unfold fh
  refine hdc (funext fun e => ppc w hr ?_) (Fin.ext ?_)
  · show 3072 + (((i 0).val * 1024 + (i 1).val) / 128 % 8 * 128 + e.val) = 3072 + ((i 1).val / 128 * 128 + e.val); omega
  · show ((i 0).val * 1024 + (i 1).val) % 128 = (i 1).val % 128; omega

theorem Rq (i : S256x1024.Idx) : val_main_v70 (F := Ideal) x g w qg i = fh 2048 (xrow x (i 0)) (gr g) w (gr qg) (i 1).val * Ideal.ofBits .f32 0x3E0293EE#32 := by
  rw [val_main_v70_apply, val_main_v69_apply, val_main_v68_apply, val_main_v67_apply, val_main_cst_10_apply, Rq0]
  rfl

theorem Rk (i : S256x1024.Idx) : val_main_v71 (F := Ideal) x g w kg i = fh 3072 (xrow x (i 0)) (gr g) w (gr kg) (i 1).val := by
  rw [val_main_v71_apply, Rk0]

theorem Rkb (i : S256x1024.Idx) : val_main_v73 (F := Ideal) x g w kg i = fh 3072 (xrow x (i 0)) (gr g) w (gr kg) (i 1).val := by
  rw [val_main_v73_apply, val_main_v72_apply, Rk1]
  rfl

theorem Rv0 (i : S256x1024.Idx) : val_main_v60 (F := Ideal) x g w (idx_main_v74 i) = pp (xrow x (i 0)) (gr g) w (4096 + (i 1).val) := by
  have h0 : (i 0).val < 256 := (i 0).isLt
  have h1 : (i 1).val < 1024 := (i 1).isLt
  rw [val_main_v60_apply, val_main_v19_apply, R15]
  have e0 : (idx_main_v74 i 0).val = ((i 0).val * 1024 + (i 1).val) / 32768 := rfl
  have e1 : (idx_main_v74 i 1).val = ((i 0).val * 1024 + (i 1).val) / 1024 % 32 := rfl
  have e2 : (idx_main_v74 i 2).val = ((i 0).val * 1024 + (i 1).val) / 128 % 8 := rfl
  have e3 : (idx_main_v74 i 3).val = ((i 0).val * 1024 + (i 1).val) % 128 := rfl
  generalize idx_main_v74 i = j at e0 e1 e2 e3
  refine ppc w (xr_eq x _ _ (i 0) ?_ ?_) ?_
  · show ((((j 0).val * 32 + (j 1).val) * 8 + (j 2).val) * 128 + (j 3).val) / 32768 = _; omega
  · show ((((j 0).val * 32 + (j 1).val) * 8 + (j 2).val) * 128 + (j 3).val) / 1024 % 32 = _; omega
  · show 4096 + ((((j 0).val * 32 + (j 1).val) * 8 + (j 2).val) * 128 + (j 3).val) % 1024 = 4096 + (i 1).val; omega

theorem Rv1 (i : S256x1024.Idx) : val_main_v60 (F := Ideal) x g w (idx_main_v75 i) = pp (xrow x (i 0)) (gr g) w (4096 + (i 1).val) := by
  have h0 : (i 0).val < 256 := (i 0).isLt
  have h1 : (i 1).val < 1024 := (i 1).isLt
  rw [val_main_v60_apply, val_main_v19_apply, R15]
  have e0 : (idx_main_v75 i 0).val = ((i 0).val * 1024 + (i 1).val) / 32768 := rfl
  have e1 : (idx_main_v75 i 1).val = ((i 0).val * 1024 + (i 1).val) / 1024 % 32 := rfl
  have e2 : (idx_main_v75 i 2).val = ((i 0).val * 1024 + (i 1).val) / 128 % 8 := rfl
  have e3 : (idx_main_v75 i 3).val = ((i 0).val * 1024 + (i 1).val) % 128 := rfl
  generalize idx_main_v75 i = j at e0 e1 e2 e3
  refine ppc w (xr_eq x _ _ (i 0) ?_ ?_) ?_
  · show ((((j 0).val * 32 + (j 1).val) * 8 + (j 2).val) * 128 + (j 3).val) / 32768 = _; omega
  · show ((((j 0).val * 32 + (j 1).val) * 8 + (j 2).val) * 128 + (j 3).val) / 1024 % 32 = _; omega
  · show 4096 + ((((j 0).val * 32 + (j 1).val) * 8 + (j 2).val) * 128 + (j 3).val) % 1024 = 4096 + (i 1).val; omega

theorem Rv2 (i : S256x1024.Idx) : val_main_v60 (F := Ideal) x g w (idx_main_v77 i) = pp (xrow x (i 0)) (gr g) w (4096 + (i 1).val) := by
  have h0 : (i 0).val < 256 := (i 0).isLt
  have h1 : (i 1).val < 1024 := (i 1).isLt
  rw [val_main_v60_apply, val_main_v19_apply, R15]
  have e0 : (idx_main_v77 i 0).val = ((i 0).val * 1024 + (i 1).val) / 32768 := rfl
  have e1 : (idx_main_v77 i 1).val = ((i 0).val * 1024 + (i 1).val) / 1024 % 32 := rfl
  have e2 : (idx_main_v77 i 2).val = ((i 0).val * 1024 + (i 1).val) / 128 % 8 := rfl
  have e3 : (idx_main_v77 i 3).val = ((i 0).val * 1024 + (i 1).val) % 128 := rfl
  generalize idx_main_v77 i = j at e0 e1 e2 e3
  refine ppc w (xr_eq x _ _ (i 0) ?_ ?_) ?_
  · show ((((j 0).val * 32 + (j 1).val) * 8 + (j 2).val) * 128 + (j 3).val) / 32768 = _; omega
  · show ((((j 0).val * 32 + (j 1).val) * 8 + (j 2).val) * 128 + (j 3).val) / 1024 % 32 = _; omega
  · show 4096 + ((((j 0).val * 32 + (j 1).val) * 8 + (j 2).val) * 128 + (j 3).val) % 1024 = 4096 + (i 1).val; omega

theorem Rv (i : S256x1024.Idx) : val_main_v74 (F := Ideal) x g w i = pp (xrow x (i 0)) (gr g) w (4096 + (i 1).val) := by
  rw [val_main_v74_apply, Rv0]

theorem Rvb (i : S256x1024.Idx) : val_main_v76 (F := Ideal) x g w i = pp (xrow x (i 0)) (gr g) w (4096 + (i 1).val) := by
  rw [val_main_v76_apply, val_main_v75_apply, Rv1]
  rfl

theorem Rvt (i : S1024x256.Idx) : val_main_v79 (F := Ideal) x g w i = pp (xrow x (i 1)) (gr g) w (4096 + (i 0).val) := by
  rw [val_main_v79_apply, val_main_v78_apply, val_main_v77_apply, Rv2]
  rfl

theorem Rf (i : S256x8.Idx) : val_main_v64 (F := Ideal) x g w b (idx_main_v80 i) = pp (xrow x (i 0)) (gr g) w (5120 + (i 1).val) + b (ix2 0 (i 1)) := by
  have h0 : (i 0).val < 256 := (i 0).isLt
  have h1 : (i 1).val < 8 := (i 1).isLt
  rw [val_main_v64_apply, val_main_v20_apply, val_main_v63_apply, val_main_v62_apply, val_main_v61_apply, R15]
  have hr := xr_eq x (idx_main_v80 i 0) (idx_main_v80 i 1) (i 0) (by show ((i 0).val * 8 + (i 1).val) / 256 = _; omega)
    (by show ((i 0).val * 8 + (i 1).val) / 8 % 32 = _; omega)
  refine congrArg₂ (fun p q : EReal => p + q) (ppc w ?_ ?_) (congrArg b (funext fun a => ?_))
  · exact (congrArg₂ (xr x) (Fin.ext rfl) (Fin.ext rfl)).trans hr
  · show 5120 + ((i 0).val * 8 + (i 1).val) % 8 = 5120 + (i 1).val; omega
  · match a with
    | ⟨0, _⟩ => rfl
    | ⟨1, _⟩ => exact Fin.ext (by show ((i 0).val * 8 + (i 1).val) % 8 % 8 = (i 1).val; omega)

theorem Rl (i : S256x8.Idx) : val_main_v80 (F := Ideal) x g w b i = fl (xrow x (i 0)) (gr g) w (b (ix2 0 (i 1))) (i 1).val := by
  rw [val_main_v80_apply, val_main_v65_apply, val_main_call0_v1_apply, val_main_call0_call0_v4_apply, val_main_call0_call0_v11_apply, val_main_call0_call0_v1_apply, val_main_call0_call0_v10_apply, val_main_call0_call0_v9_apply, val_main_call0_call0_v8_apply, val_main_call0_call0_v7_apply, val_main_call0_call0_v3_apply, val_main_call0_call0_v2_apply, val_main_call0_call0_v0_apply, val_main_call0_call0_cst_apply, val_main_call0_v0_apply, Rf]
  unfold fl
  rw [← ls_eq]
  generalize pp (xrow x (i 0)) (gr g) w (5120 + (i 1).val) + b (ix2 0 (i 1)) = f
  have hc : ∀ (y p q : EReal), Scalar.select (FloatOps.cmpf (F := Ideal) (φ := .f32) .une y y) p q = q := fun y p q => by
    simp [Scalar.select, Ideal.cmpf_def, Ideal.cmp]
  rw [hc]
  show -(max (-f) (Ideal.ofBits .f32 0x00000000#32) + Ideal.log1p (Ideal.exp (-(max (-f - Ideal.ofBits .f32 0x00000000#32) (-(-f - Ideal.ofBits .f32 0x00000000#32)))))) = _
  rw [Ideal.ofBits_zero_f32]

end Cert.Reference3Ideal.Inp

end
-- ==== Proof.InJoinS.lean ====
/- The projection's two runs, the sample's: what the kernel and the reference leave, and that it is the same. -/
module

public import proofs.«01_k».proof.Defs
public import proofs.«01_k».proof.Proof.InRefS
public import proofs.«01_k».proof.Proof.Gen.Kernel3.Frame
public import proofs.«01_k».proof.Proof.Gen.Kernel3Ideal.Frame
public import Idealize.ShloMosaic.Adequacy
public import Idealize.ShloMosaic.Init

@[expose] public section

set_option maxRecDepth 16384

noncomputable section

namespace Cert.Reference3Ideal.Inp

open Cert.Reference3Ideal.Read Cert.Inp Idealize.ShloMosaic Idealize.ShloMosaic.TcCoe Idealize.SL.Sem

abbrev KMem := (ℓ : Loc Cert.Kernel3Ideal.nD Cert.Kernel3Ideal.τ Cert.Kernel3Ideal.sig) → Buf (Elt Ideal) ℓ

abbrev RMem := (ℓ : Loc Cert.Reference3Ideal.nD Cert.Reference3Ideal.τ Cert.Reference3Ideal.sig) → Buf (Elt Ideal) ℓ

/-- The two programs are given the same arrays. -/
def Same (m : KMem) (m' : RMem) (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
  ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)

theorem res66 (m : KMem) (m' : RMem) (c : Dev Cert.Kernel3Ideal.nD) (h : Same m m' c) :
    val_main_v66 (F := Ideal) (m' ((c.tc : Thread _ Cert.Reference3Ideal.τ).loc Cert.Reference3Ideal.main_arg0)) (m' ((c.tc : Thread _ Cert.Reference3Ideal.τ).loc Cert.Reference3Ideal.main_arg1)) (m' ((c.tc : Thread _ Cert.Reference3Ideal.τ).loc Cert.Reference3Ideal.main_arg2)) = Cert.Kernel3Ideal.Inp.U m c := by
  obtain ⟨h0, h1, h2, h3, h4, h5⟩ := h
  rw [h0, h1, h2]
  exact funext fun i => Ru _ _ _ i

theorem res70 (m : KMem) (m' : RMem) (c : Dev Cert.Kernel3Ideal.nD) (h : Same m m' c) :
    val_main_v70 (F := Ideal) (m' ((c.tc : Thread _ Cert.Reference3Ideal.τ).loc Cert.Reference3Ideal.main_arg0)) (m' ((c.tc : Thread _ Cert.Reference3Ideal.τ).loc Cert.Reference3Ideal.main_arg1)) (m' ((c.tc : Thread _ Cert.Reference3Ideal.τ).loc Cert.Reference3Ideal.main_arg2)) (m' ((c.tc : Thread _ Cert.Reference3Ideal.τ).loc Cert.Reference3Ideal.main_arg4)) = Cert.Kernel3Ideal.Inp.Kq m c := by
  obtain ⟨h0, h1, h2, h3, h4, h5⟩ := h
  rw [h0, h1, h2, h4]
  exact funext fun i => Rq _ _ _ _ i

theorem res71 (m : KMem) (m' : RMem) (c : Dev Cert.Kernel3Ideal.nD) (h : Same m m' c) :
    val_main_v71 (F := Ideal) (m' ((c.tc : Thread _ Cert.Reference3Ideal.τ).loc Cert.Reference3Ideal.main_arg0)) (m' ((c.tc : Thread _ Cert.Reference3Ideal.τ).loc Cert.Reference3Ideal.main_arg1)) (m' ((c.tc : Thread _ Cert.Reference3Ideal.τ).loc Cert.Reference3Ideal.main_arg2)) (m' ((c.tc : Thread _ Cert.Reference3Ideal.τ).loc Cert.Reference3Ideal.main_arg5)) = Cert.Kernel3Ideal.Inp.Kk m c := by
  obtain ⟨h0, h1, h2, h3, h4, h5⟩ := h
  rw [h0, h1, h2, h5]
  exact funext fun i => Rk _ _ _ _ i

theorem res73 (m : KMem) (m' : RMem) (c : Dev Cert.Kernel3Ideal.nD) (h : Same m m' c) :
    val_main_v73 (F := Ideal) (m' ((c.tc : Thread _ Cert.Reference3Ideal.τ).loc Cert.Reference3Ideal.main_arg0)) (m' ((c.tc : Thread _ Cert.Reference3Ideal.τ).loc Cert.Reference3Ideal.main_arg1)) (m' ((c.tc : Thread _ Cert.Reference3Ideal.τ).loc Cert.Reference3Ideal.main_arg2)) (m' ((c.tc : Thread _ Cert.Reference3Ideal.τ).loc Cert.Reference3Ideal.main_arg5)) = Cert.Kernel3Ideal.Inp.Kk m c := by
  obtain ⟨h0, h1, h2, h3, h4, h5⟩ := h
  rw [h0, h1, h2, h5]
  exact funext fun i => Rkb _ _ _ _ i

theorem res74 (m : KMem) (m' : RMem) (c : Dev Cert.Kernel3Ideal.nD) (h : Same m m' c) :
    val_main_v74 (F := Ideal) (m' ((c.tc : Thread _ Cert.Reference3Ideal.τ).loc Cert.Reference3Ideal.main_arg0)) (m' ((c.tc : Thread _ Cert.Reference3Ideal.τ).loc Cert.Reference3Ideal.main_arg1)) (m' ((c.tc : Thread _ Cert.Reference3Ideal.τ).loc Cert.Reference3Ideal.main_arg2)) = Cert.Kernel3Ideal.Inp.Kv m c := by
  obtain ⟨h0, h1, h2, h3, h4, h5⟩ := h
  rw [h0, h1, h2]
  exact funext fun i => Rv _ _ _ i

theorem res76 (m : KMem) (m' : RMem) (c : Dev Cert.Kernel3Ideal.nD) (h : Same m m' c) :
    val_main_v76 (F := Ideal) (m' ((c.tc : Thread _ Cert.Reference3Ideal.τ).loc Cert.Reference3Ideal.main_arg0)) (m' ((c.tc : Thread _ Cert.Reference3Ideal.τ).loc Cert.Reference3Ideal.main_arg1)) (m' ((c.tc : Thread _ Cert.Reference3Ideal.τ).loc Cert.Reference3Ideal.main_arg2)) = Cert.Kernel3Ideal.Inp.Kv m c := by
  obtain ⟨h0, h1, h2, h3, h4, h5⟩ := h
  rw [h0, h1, h2]
  exact funext fun i => Rvb _ _ _ i

theorem res79 (m : KMem) (m' : RMem) (c : Dev Cert.Kernel3Ideal.nD) (h : Same m m' c) :
    val_main_v79 (F := Ideal) (m' ((c.tc : Thread _ Cert.Reference3Ideal.τ).loc Cert.Reference3Ideal.main_arg0)) (m' ((c.tc : Thread _ Cert.Reference3Ideal.τ).loc Cert.Reference3Ideal.main_arg1)) (m' ((c.tc : Thread _ Cert.Reference3Ideal.τ).loc Cert.Reference3Ideal.main_arg2)) = Cert.Kernel3Ideal.Inp.Kt m c := by
  obtain ⟨h0, h1, h2, h3, h4, h5⟩ := h
  rw [h0, h1, h2]
  exact funext fun i => Rvt _ _ _ i

theorem res80 (m : KMem) (m' : RMem) (c : Dev Cert.Kernel3Ideal.nD) (h : Same m m' c) :
    val_main_v80 (F := Ideal) (m' ((c.tc : Thread _ Cert.Reference3Ideal.τ).loc Cert.Reference3Ideal.main_arg0)) (m' ((c.tc : Thread _ Cert.Reference3Ideal.τ).loc Cert.Reference3Ideal.main_arg1)) (m' ((c.tc : Thread _ Cert.Reference3Ideal.τ).loc Cert.Reference3Ideal.main_arg2)) (m' ((c.tc : Thread _ Cert.Reference3Ideal.τ).loc Cert.Reference3Ideal.main_arg3)) = Cert.Kernel3Ideal.Inp.Kl m c := by
  obtain ⟨h0, h1, h2, h3, h4, h5⟩ := h
  rw [h0, h1, h2, h3]
  exact funext fun i => Rl _ _ _ _ i

theorem frame_kernel : Cert.quiescent_Kernel3 := fun m g _ => Cert.Kernel3.Gen.frame m g

theorem frame_kernelIdeal : Cert.quiescent_Kernel3Ideal := fun m g _ => Cert.Kernel3Ideal.Gen.frame m g

theorem frame_reference : Cert.quiescent_Reference3Ideal := fun m g _ =>
  (θ_run Cert.Reference3Ideal.defs _ _).mono (fun r hr => ⟨fun c => (hr c).2.2.2.2.2.2.2.2, sem_eq_zero_of_no_sems (by decide) r.2⟩) (Cert.Reference3Ideal.Value.run m g)

/-- The two programs' results are equal at the ideal instance. -/
theorem algebraic : Cert.algebraic_Kernel3Ideal_Reference3Ideal := fun m g m' g' _ h =>
  ⟨fun c => Cert.Kernel3Ideal.Inp.U m c, fun c => Cert.Kernel3Ideal.Inp.Kq m c, fun c => Cert.Kernel3Ideal.Inp.Kk m c, fun c => Cert.Kernel3Ideal.Inp.Kk m c, fun c => Cert.Kernel3Ideal.Inp.Kv m c, fun c => Cert.Kernel3Ideal.Inp.Kv m c, fun c => Cert.Kernel3Ideal.Inp.Kt m c, fun c => Cert.Kernel3Ideal.Inp.Kl m c,
    (θ_run Cert.Kernel3Ideal.defs _ _).mono (fun r hr c => by
      obtain ⟨o0, o1, o2, o3, o4, o5, o6, o7, ha⟩ := hr c
      exact ⟨o0.trans (Cert.Kernel3Ideal.Inp.fin11 m c), o1.trans (Cert.Kernel3Ideal.Inp.fin12 m c), o2.trans (Cert.Kernel3Ideal.Inp.fin13 m c), o3.trans (Cert.Kernel3Ideal.Inp.fin14 m c), o4.trans (Cert.Kernel3Ideal.Inp.fin15 m c), o5.trans (Cert.Kernel3Ideal.Inp.fin16 m c), o6.trans (Cert.Kernel3Ideal.Inp.fin17 m c), o7.trans (Cert.Kernel3Ideal.Inp.fin18 m c), ha⟩) (Cert.Kernel3Ideal.Value.run_blocks m g),
    (θ_run Cert.Reference3Ideal.defs _ _).mono (fun r hr c => by
      obtain ⟨o0, o1, o2, o3, o4, o5, o6, o7, ha⟩ := hr c
      exact ⟨(o0.trans (val_main_v66_eq _ _ _)).trans (res66 m m' c (h c)), (o1.trans (val_main_v70_eq _ _ _ _)).trans (res70 m m' c (h c)), (o2.trans (val_main_v71_eq _ _ _ _)).trans (res71 m m' c (h c)), (o3.trans (val_main_v73_eq _ _ _ _)).trans (res73 m m' c (h c)), (o4.trans (val_main_v74_eq _ _ _)).trans (res74 m m' c (h c)), (o5.trans (val_main_v76_eq _ _ _)).trans (res76 m m' c (h c)), (o6.trans (val_main_v79_eq _ _ _)).trans (res79 m m' c (h c)), (o7.trans (val_main_v80_eq m' c)).trans (res80 m m' c (h c)), ha⟩) (Cert.Reference3Ideal.Value.run m' g')⟩

end Cert.Reference3Ideal.Inp

end
-- ==== Proof.MgBlock.lean ====
/- One grid point of the merge: the block of the stream it adds to is a row-wise function of the input blocks. -/
module

public import proofs.«01_k».proof.Proof.InVec
public import proofs.«01_k».proof.Proof.Gen.Kernel4Ideal.Value
public import Idealize.ShloMosaic.Lib.Pipeline.ValueKit.Tiles

@[expose] public section

noncomputable section

namespace Cert.Mg

open Cert.Inp

/-- A row of the attention's output normalised and scaled by its gain. -/
def an (z g : Fin 1024 → EReal) (k : Fin 1024) : EReal := z k * nf (Idealize.ShloMosaic.Ideal.ofBits .f32 0x44800000#32) z * g k

/-- An entry of the stream plus the two halves' products with their weights. -/
def ho (x : EReal) (yc ya g w w' : Fin 1024 → EReal) : EReal := x + (∑ k, yc k * w k + ∑ k, an ya g k * w' k)

end Cert.Mg

namespace Cert.Kernel4Ideal.Mg

open Cert.Kernel4Ideal Cert.Kernel4Ideal.Gen Cert.Inp Cert.Mg Idealize.ShloMosaic Idealize.ShloMosaic.ValueIdx

theorem shapeCast_self {α : Type} {s : Shape} (x : s.Idx → α) (h : s.ShapeCasts s) : shapeCast s x h = x :=
  funext fun j => shapeCast_apply x h j j rfl

theorem lhs_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem rhs_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The product read at an index is the sum over the columns of the rows. -/
theorem mm_apply (a : FVec Ideal S512x1024 .bf16) (w : FVec Ideal S1024x2048 .bf16) (r : Fin 512) (j : Fin 2048) :
    matmul (F := Ideal) (φ₁ := .bf16) (φ₂ := .bf16) dot_S512x1024_S1024x2048_S512x2048_1_0_0_1_n_n none a w (constant S512x2048 .f32 0x00000000#32) (ix2 r j)
      = ∑ k : Fin 1024, a (ix2 r k) * w (ix2 k j) := by
  simp only [matmul]
  rw [Ideal.matmul_constant_zero_apply, ← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 r j) ((ValueIdx.contrEquiv1 dot_S512x1024_S1024x2048_S512x2048_1_0_0_1_n_n 1024 rfl rfl).symm k) = ix2 r k := funext fun a => Fin.ext (by
    match a with
    | ⟨0, _⟩ => exact lhs_0 _ _
    | ⟨1, _⟩ => exact (dot_S512x1024_S1024x2048_S512x2048_1_0_0_1_n_n.lhsIdx_val_of_single rfl _ _).trans hk)
  have er : dot_S512x1024_S1024x2048_S512x2048_1_0_0_1_n_n.rhsIdx (ix2 r j) ((ValueIdx.contrEquiv1 dot_S512x1024_S1024x2048_S512x2048_1_0_0_1_n_n 1024 rfl rfl).symm k) = ix2 k j := funext fun a => Fin.ext (by
    match a with
    | ⟨0, _⟩ => exact (dot_S512x1024_S1024x2048_S512x2048_1_0_0_1_n_n.rhsIdx_val_of_single rfl _ _).trans hk
    | ⟨1, _⟩ => exact rhs_1 _ _)
  rw [el, er]

/-- The rows' normalisation as the kernel writes it, read at an index. -/
theorem an_apply (z : FVec Ideal S512x1024 .f32) (g : FVec Ideal S1x1024 .f32)
    (f : FVec Ideal S512x1024 .f32) (hf : ∀ r j, f (ix2 r j) = nf (Ideal.ofBits .f32 0x44800000#32) (rowOf z r))
    (hb : S1x1024.Broadcasts S512x1024) (r : Fin 512) (j : Fin 1024) :
    mulf (mulf z f) (broadcastTo S512x1024 g hb) (ix2 r j) = an (rowOf z r) (rowOf g 0) j := by
  rw [mulf_apply, mulf_apply, hf, broadcastTo_1b_ab_apply]
  rfl

/-- The block that a grid point writes. -/
theorem pay6_apply (v0 : Vec Ideal S512x1024 .f32) (v11 : Vec Ideal S1x1024 .f32) (v16 : Vec Ideal S512x1024 .bf16)
    (v17 v20 : Vec Ideal S1024x2048 .bf16) (v24 : Vec Ideal S512x2048 .f32) (r : Fin 512) (j : Fin 2048) :
    k0_pay6 (F := Ideal) v0 v11 v16 v17 v20 v24 (ix2 r j)
      = ho (v24 (ix2 r j)) (rowOf v16 r) (rowOf v0 r) (rowOf v11 0) (colOf v17 j) (colOf v20 j) := by
  unfold k0_pay6
  simp only [shapeCast_self]
  rw [addf_apply, addf_apply, mm_apply, mm_apply]
  refine congrArg (fun s : EReal => v24 (ix2 r j) + (∑ k, v16 (ix2 r k) * v17 (ix2 k j) + s)) (Finset.sum_congr rfl fun k _ => ?_)
  exact congrArg (fun s : EReal => s * v20 (ix2 k j))
    (an_apply v0 v11 _ (fun r j => nfac_apply (by decide) v0 _ _ _ _ _ r j) _ r k)

theorem out9 (x0 : Vec Ideal S512x1024 .bf16) (x1 : Vec Ideal S512x1024 .f32) (x2 : Vec Ideal S512x2048 .f32) (x3 : Vec Ideal S1x1024 .f32)
    (x4 x5 : Vec Ideal S1024x2048 .bf16) (x6 : Vec Ideal S1x2048 .f32) (x7 : Vec Ideal S2048x256 .bf16) (x8 : Vec Ideal S1x128 .f32)
    (y : S512x2048.Idx) :
    out0_9 x0 x1 x2 x3 x4 x5 x6 x7 x8 y
      = ho (x2 y) (rowOf x0 (y 0)) (rowOf x1 (y 0)) (rowOf x3 0) (colOf x4 (y 1)) (colOf x5 (y 1)) := by
  unfold out0_9
  rw [View.canon_unit_zero (S := S512x2048) (funext fun a => by match a with | ⟨0, _⟩ => rfl | ⟨1, _⟩ => rfl)]
  rw [show View.ld x0 r0_0 = x0 from funext fun y => View.ld_unit_apply_of x0 _ _ _ y y (fun a => by match a with | ⟨0, _⟩ => exact (Nat.zero_add _).symm | ⟨1, _⟩ => exact (Nat.zero_add _).symm),
    show View.ld x1 r0_0 = x1 from funext fun y => View.ld_unit_apply_of x1 _ _ _ y y (fun a => by match a with | ⟨0, _⟩ => exact (Nat.zero_add _).symm | ⟨1, _⟩ => exact (Nat.zero_add _).symm),
    show View.ld x2 r0_3 = x2 from funext fun y => View.ld_unit_apply_of x2 _ _ _ y y (fun a => by match a with | ⟨0, _⟩ => exact (Nat.zero_add _).symm | ⟨1, _⟩ => exact (Nat.zero_add _).symm),
    show View.ld x3 r0_1 = x3 from funext fun y => View.ld_unit_apply_of x3 _ _ _ y y (fun a => by match a with | ⟨0, _⟩ => exact (Nat.zero_add _).symm | ⟨1, _⟩ => exact (Nat.zero_add _).symm),
    show View.ld x4 r0_2 = x4 from funext fun y => View.ld_unit_apply_of x4 _ _ _ y y (fun a => by match a with | ⟨0, _⟩ => exact (Nat.zero_add _).symm | ⟨1, _⟩ => exact (Nat.zero_add _).symm),
    show View.ld x5 r0_2 = x5 from funext fun y => View.ld_unit_apply_of x5 _ _ _ y y (fun a => by match a with | ⟨0, _⟩ => exact (Nat.zero_add _).symm | ⟨1, _⟩ => exact (Nat.zero_add _).symm)]
  exact ((congrArg _ (eq_ix2 y)).trans (pay6_apply x1 x3 x0 x4 x5 x2 (y 0) (y 1))).trans
    (congrArg (fun z => ho (x2 z) (rowOf x0 (y 0)) (rowOf x1 (y 0)) (rowOf x3 0) (colOf x4 (y 1)) (colOf x5 (y 1))) (eq_ix2 y).symm)

end Cert.Kernel4Ideal.Mg

end
-- ==== Proof.MgArr.lean ====
/- The merge's stream after the run, as a function of the arguments. -/
module

public import proofs.«01_k».proof.Proof.MgBlock
public import Idealize.ShloMosaic.Lib.Pipeline.ValueKit.Geometry
public import Idealize.ShloMosaic.Lib.KernelVsHost
public import Idealize.ShloMosaic.Lib.StableHlo.RunRead

@[expose] public section

noncomputable section

namespace Cert.Kernel4Ideal.Mg

open Cert.Kernel4Ideal Cert.Kernel4Ideal.Gen Cert.Inp Cert.Mg Idealize.ShloMosaic.TcCoe Idealize.ShloMosaic.ValueIdx Idealize.ShloMosaic.StableHlo
open Idealize.ShloMosaic
open Idealize.ShloMosaic.Pipeline (Dat)

variable (m : (ℓ : Loc nD τ sig) → Buf (Elt Ideal) ℓ) (c : Dev nD)

/-- The arguments. -/
abbrev aC : S8192x1024.Idx → EReal := m ((c : Thread nD τ).loc main_arg0)
abbrev aA : S8192x1024.Idx → EReal := m ((c : Thread nD τ).loc main_arg1)
abbrev aX : S2x4096x2048.Idx → EReal := m ((c : Thread nD τ).loc main_arg2)
abbrev aG : S1x1024.Idx → EReal := m ((c : Thread nD τ).loc main_arg3)
abbrev aW : S1x2048x2048.Idx → EReal := m ((c : Thread nD τ).loc main_arg4)

theorem V0 : (V m c main_arg0 : S8192x1024.Idx → EReal) = aC m c := V_main_arg0 m c

theorem V1 : (V m c main_arg1 : S8192x1024.Idx → EReal) = aA m c := V_main_arg1 m c

set_option maxRecDepth 65536 in
theorem V15 : (V m c main_v15 : S8192x2048.Idx → EReal) = shapeCast S8192x2048 (aX m c) shapeCasts_S2x4096x2048_S8192x2048 := by
    show StableHlo.after _ _ _ = _
    simp only [List.flatten_cons, List.flatten_nil, List.append_nil, List.cons_append, List.nil_append]
    after_results_simp <;> rfl

set_option maxRecDepth 65536 in
theorem V17 : (V m c main_v17 : S1x1024.Idx → EReal) = shapeCast S1x1024 (shapeCast S1024 (aG m c) shapeCasts_S1x1024_S1024) shapeCasts_S1024_S1x1024 := by
    show StableHlo.after _ _ _ = _
    simp only [List.flatten_cons, List.flatten_nil, List.append_nil, List.cons_append, List.nil_append]
    after_results_simp <;> rfl

set_option maxRecDepth 65536 in
theorem Vw : (V m c main_v1 : S2048x2048.Idx → EReal) = truncf (F := Ideal) .bf16 (shapeCast S2048x2048 (aW m c) shapeCasts_S1x2048x2048_S2048x2048) bitsLt_bf16_f32 := by
    show StableHlo.after _ _ _ = _
    simp only [List.flatten_cons, List.flatten_nil, List.append_nil, List.cons_append, List.nil_append]
    after_results_simp <;> rfl

/-- Entry `k` of row `r` of the stream. -/
def xrow (x : S2x4096x2048.Idx → EReal) (r : Fin 8192) : Fin 2048 → EReal :=
  fun k => x (ix3 (⟨r.val / 4096, by omega⟩ : Fin 2) (⟨r.val % 4096, by omega⟩ : Fin 4096) k)

/-- The first entries of a one-row array. -/
def gr {b : ℕ} (g : (⟨2, ![1, b]⟩ : Shape).Idx → EReal) : Fin b → EReal := fun k => g (ix2 0 k)

/-- Column `j` of the weights, the rows from `o` on. -/
def wc (w : S1x2048x2048.Idx → EReal) (o : ℕ) (ho : o ≤ 1024) (j : Fin 2048) : Fin 1024 → EReal :=
  fun k => w (ix3 0 (⟨o + k.val, by omega⟩ : Fin 2048) j)

theorem V15_apply (r : Fin 8192) (k : Fin 2048) : (V m c main_v15 : S8192x2048.Idx → EReal) (ix2 r k) = xrow (aX m c) r k := by
  rw [V15]
  refine shapeCast_apply _ _ _ _ ?_
  rw [Shape.rowMajor_val_three, Shape.rowMajor_val_two]
  show (r.val / 4096 * 4096 + r.val % 4096) * 2048 + k.val = r.val * 2048 + k.val
  omega

theorem V17_apply (k : Fin 1024) : (V m c main_v17 : S1x1024.Idx → EReal) (ix2 0 k) = aG m c (ix2 0 k) := by
  rw [V17]
  exact (shapeCast_a_1a_apply _ _ 0 k).trans (shapeCast_1a_a_apply _ _ k)

theorem Vw_apply (k j : Fin 2048) : (V m c main_v1 : S2048x2048.Idx → EReal) (ix2 k j) = aW m c (ix3 0 k j) := by
  rw [Vw]
  refine shapeCast_apply _ _ (ix2 k j) (ix3 0 k j) ?_
  rw [Shape.rowMajor_val_three, Shape.rowMajor_val_two]
  show (0 * 2048 + k.val) * 2048 + j.val = k.val * 2048 + j.val
  omega

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![1, 0] := (by decide +kernel : ∀ t : Fin grid0.N, _)
theorem e9 : ∀ t : Fin cfg0.N, win0_9.index t = ![t.val, 0] := (by decide +kernel : ∀ t : Fin grid0.N, _)

theorem row0 (t : Fin cfg0.N) (r : Fin 512) (q : Fin 8192) (hq : q.val = t.val * 512 + r.val) :
    rowOf (iblk m c 0 t : S512x1024.Idx → EReal) r = rowOf (aC m c) q := by
  funext k
  show (V m c main_arg0 : S8192x1024.Idx → EReal) (((cfg0.win 0).blk t).view.emb (ix2 r k)) = _
  rw [V0]
  refine congrArg (aC m c) (funext fun a => Fin.ext ?_)
  match a with
  | ⟨0, _⟩ => blk_simp [e0]; exact hq.symm
  | ⟨1, _⟩ => blk_simp [e0]

theorem row1 (t : Fin cfg0.N) (r : Fin 512) (q : Fin 8192) (hq : q.val = t.val * 512 + r.val) :
    rowOf (iblk m c 1 t : S512x1024.Idx → EReal) r = rowOf (aA m c) q := by
  funext k
  show (V m c main_arg1 : S8192x1024.Idx → EReal) (((cfg0.win 1).blk t).view.emb (ix2 r k)) = _
  rw [V1]
  refine congrArg (aA m c) (funext fun a => Fin.ext ?_)
  match a with
  | ⟨0, _⟩ => blk_simp [e1]; exact hq.symm
  | ⟨1, _⟩ => blk_simp [e1]

theorem x2 (t : Fin cfg0.N) (y : S512x2048.Idx) (q : Fin 8192) (j : Fin 2048) (hq : q.val = t.val * 512 + (y 0).val) (hj : j.val = (y 1).val) :
    (iblk m c 2 t : S512x2048.Idx → EReal) y = xrow (aX m c) q j := by
  show (V m c main_v15 : S8192x2048.Idx → EReal) (((cfg0.win 2).blk t).view.emb y) = _
  rw [← V15_apply]
  refine congrArg (V m c main_v15 : S8192x2048.Idx → EReal) (funext fun a => Fin.ext ?_)
  match a with
  | ⟨0, _⟩ => blk_simp [e2]; exact hq.symm
  | ⟨1, _⟩ => blk_simp [e2]; exact hj.symm

theorem row3 (t : Fin cfg0.N) : rowOf (iblk m c 3 t : S1x1024.Idx → EReal) 0 = gr (aG m c) := by
  funext k
  show (V m c main_v17 : S1x1024.Idx → EReal) (((cfg0.win 3).blk t).view.emb (ix2 0 k)) = _
  refine Eq.trans ?_ (V17_apply m c k)
  refine congrArg (V m c main_v17 : S1x1024.Idx → EReal) (funext fun a => Fin.ext ?_)
  match a with
  | ⟨0, _⟩ => blk_simp [e3]
  | ⟨1, _⟩ => blk_simp [e3]

theorem col4 (t : Fin cfg0.N) (j q : Fin 2048) (hq : q.val = j.val) :
    colOf (iblk m c 4 t : S1024x2048.Idx → EReal) j = wc (aW m c) 0 (by omega) q := by
  funext k
  show (V m c main_v1 : S2048x2048.Idx → EReal) (((cfg0.win 4).blk t).view.emb (ix2 k j)) = _
  refine Eq.trans ?_ (Vw_apply m c _ q)
  refine congrArg (V m c main_v1 : S2048x2048.Idx → EReal) (funext fun a => Fin.ext ?_)
  match a with
  | ⟨0, _⟩ => blk_simp [e4]
  | ⟨1, _⟩ => blk_simp [e4]; exact hq.symm

theorem col5 (t : Fin cfg0.N) (j q : Fin 2048) (hq : q.val = j.val) :
    colOf (iblk m c 5 t : S1024x2048.Idx → EReal) j = wc (aW m c) 1024 (by omega) q := by
  funext k
  show (V m c main_v1 : S2048x2048.Idx → EReal) (((cfg0.win 5).blk t).view.emb (ix2 k j)) = _
  refine Eq.trans ?_ (Vw_apply m c _ q)
  refine congrArg (V m c main_v1 : S2048x2048.Idx → EReal) (funext fun a => Fin.ext ?_)
  match a with
  | ⟨0, _⟩ => blk_simp [e5]
  | ⟨1, _⟩ => blk_simp [e5]; exact hq.symm

/-- The stream after the merge. -/
def H (i : S8192x2048.Idx) : EReal :=
  ho (xrow (aX m c) (i 0) (i 1)) (rowOf (aC m c) (i 0)) (rowOf (aA m c) (i 0)) (gr (aG m c)) (wc (aW m c) 0 (by omega) (i 1)) (wc (aW m c) 1024 (by omega) (i 1))

theorem fin9 : (dats m 0 c).arrAt 9 cfg0.N = H m c := by
  refine (dats m 0 c).arrAt_eq_of_covers 9 (H m c) (by decide +kernel) fun t hf y => ?_
  have h0 : ((((cfg0.win 9).blk t).view.emb y 0 : Fin _) : ℕ) = t.val * 512 + (y 0 : ℕ) := by blk_simp [e9]
  have h1 : ((((cfg0.win 9).blk t).view.emb y 1 : Fin _) : ℕ) = (y 1 : ℕ) := by blk_simp [e9]
  show (dats m 0 c).after 9 t y = _
  rw [after0_9]
  refine (out9 _ _ _ _ _ _ _ _ _ y).trans ?_
  exact congr (congr (congr (congr (congr (congrArg ho (x2 m c t y _ _ h0 h1)) (row0 m c t _ _ h0)) (row1 m c t _ _ h0)) (row3 m c t))
    (col4 m c t _ _ h1)) (col5 m c t _ _ h1)

end Cert.Kernel4Ideal.Mg

end
-- ==== Proof.MgRef.lean ====
/- The reference's stream after the merge, as a function of the arguments. -/
module

public import proofs.«01_k».proof.Proof.MgArr
public import proofs.«01_k».proof.Proof.Gen.Reference4Ideal.Run
public import proofs.«01_k».proof.Proof.Gen.Reference4Ideal.Read

@[expose] public section

noncomputable section

namespace Cert.Reference4Ideal.Mg

open Cert.Reference4Ideal Cert.Reference4Ideal.Read Cert.Inp Cert.Mg Idealize.ShloMosaic Idealize.ShloMosaic.TcCoe Idealize.ShloMosaic.ValueIdx
open Cert.Kernel4Ideal.Mg (xrow gr wc)

variable (x0 x1 : S8192x1024.Idx → EReal) (x2 : S2x4096x2048.Idx → EReal) (x3 : S1x1024.Idx → EReal) (x4 : S1x2048x2048.Idx → EReal)

/-- The normalised rows of the attention's output. -/
theorem R14 (r : Fin 8192) (j : Fin 1024) : val_main_v14 (F := Ideal) x1 x3 (ix2 r j) = an (rowOf x1 r) (gr x3) j := by
  have e : ∀ k, idx_main_v3 (idx_main_v4 (idx_main_v10 (ix2 r j))) k = ix2 r k := fun k => funext fun a => match a with
    | ⟨0, _⟩ => rfl
    | ⟨1, _⟩ => rfl
  have eg : idx_main_v1 (idx_main_v12 (idx_main_v13 (ix2 r j))) = ix2 0 j := funext fun a => match a with
    | ⟨0, _⟩ => rfl
    | ⟨1, _⟩ => Fin.ext (Nat.mod_eq_of_lt j.isLt)
  rw [val_main_v14_apply, val_main_v11_apply, val_main_v10_apply, val_main_v9_apply, val_main_v8_apply, val_main_v6_apply, val_main_v4_apply, val_main_v3_apply, val_main_v5_apply, val_main_cst_0_apply, val_main_v7_apply, val_main_cst_1_apply, val_main_v13_apply, val_main_v12_apply, val_main_v1_apply, val_main_cst_apply, eg]
  simp only [val_main_v2_apply, e]
  show x1 (ix2 r j) * Ideal.rsqrt (Ideal.div (Ideal.ofBits .f32 0x00000000#32 + ∑ k : Fin 1024, x1 (ix2 r k) * x1 (ix2 r k)) (Ideal.ofBits .f32 0x44800000#32) + Ideal.ofBits .f32 0x358637BD#32) * x3 (ix2 0 j) = _
  rw [Ideal.ofBits_zero_f32, zero_add]
  rfl

/-- The first half of the joined rows. -/
theorem R15l (r : Fin 8192) (k : Fin 1024) (q : Fin 2048) (hq : q.val = k.val) : val_main_v15 (F := Ideal) x0 x1 x3 (ix2 r q) = rowOf x0 r k := by
  unfold val_main_v15
  exact concatenate_pair_apply_left (t := S8192x2048) (s₁ := S8192x1024) (s₂ := S8192x1024) (1 : Fin 2) _ _ _ _ rfl
    (ix2 r k) (by
      intro b
      match b with
      | ⟨0, _⟩ => rfl
      | ⟨1, _⟩ => exact hq.symm)

/-- The second half of the joined rows. -/
theorem R15r (r : Fin 8192) (k : Fin 1024) (q : Fin 2048) (hq : q.val = 1024 + k.val) : val_main_v15 (F := Ideal) x0 x1 x3 (ix2 r q) = an (rowOf x1 r) (gr x3) k := by
  unfold val_main_v15
  refine (concatenate_pair_apply_right (t := S8192x2048) (s₁ := S8192x1024) (s₂ := S8192x1024) (1 : Fin 2) _ _ _ _ rfl rfl
    (ix2 r k) ?_ ?_).trans (R14 x1 x3 r k)
  · intro b hb
    match b with
    | ⟨0, _⟩ => rfl
    | ⟨1, _⟩ => exact absurd rfl hb
  · show k.val + 1024 = q.val
    omega

theorem R17 (k j : Fin 2048) : val_main_v17 (F := Ideal) x4 (ix2 k j) = x4 (ix3 0 k j) := by
  rw [val_main_v17_apply]
  have hk := k.isLt
  have hj := j.isLt
  refine congrArg x4 (funext fun a => ?_)
  match a with
  | ⟨0, _⟩ => rfl
  | ⟨1, _⟩ => exact Fin.ext (by show (k.val * 2048 + j.val) / 2048 % 2048 = k.val; omega)
  | ⟨2, _⟩ => exact Fin.ext (by show (k.val * 2048 + j.val) % 2048 = j.val; omega)

/-- The stream after the merge. -/
theorem R19 (i : S8192x2048.Idx) : val_main_v19 (F := Ideal) x0 x1 x2 x3 x4 i
    = ho (xrow x2 (i 0) (i 1)) (rowOf x0 (i 0)) (rowOf x1 (i 0)) (gr x3) (wc x4 0 (by omega) (i 1)) (wc x4 1024 (by omega) (i 1)) := by
  have h0 : (i 0).val < 8192 := (i 0).isLt
  have h1 : (i 1).val < 2048 := (i 1).isLt
  rw [val_main_v19_apply, val_main_v16_apply, val_main_v18_apply]
  have ex : idx_main_v16 i = ix3 (⟨(i 0).val / 4096, by omega⟩ : Fin 2) (⟨(i 0).val % 4096, by omega⟩ : Fin 4096) (i 1) := funext fun a => match a with
    | ⟨0, _⟩ => Fin.ext (by show ((i 0).val * 2048 + (i 1).val) / 8388608 = (i 0).val / 4096; omega)
    | ⟨1, _⟩ => Fin.ext (by show ((i 0).val * 2048 + (i 1).val) / 2048 % 4096 = (i 0).val % 4096; omega)
    | ⟨2, _⟩ => Fin.ext (by show ((i 0).val * 2048 + (i 1).val) % 2048 = (i 1).val; omega)
  rw [ex]
  have el : ∀ k, lidx_main_v18 i k = ix2 (i 0) k := fun k => funext fun a => match a with
    | ⟨0, _⟩ => rfl
    | ⟨1, _⟩ => rfl
  have er : ∀ k, ridx_main_v18 i k = ix2 k (i 1) := fun k => funext fun a => match a with
    | ⟨0, _⟩ => rfl
    | ⟨1, _⟩ => rfl
  have hs : (∑ k : Fin 2048, val_main_v15 (F := Ideal) x0 x1 x3 (lidx_main_v18 i k) * val_main_v17 (F := Ideal) x4 (ridx_main_v18 i k) : EReal)
      = ∑ k, rowOf x0 (i 0) k * wc x4 0 (by omega) (i 1) k + ∑ k, an (rowOf x1 (i 0)) (gr x3) k * wc x4 1024 (by omega) (i 1) k := by
    refine (Fin.sum_univ_add (a := 1024) (b := 1024) (fun k : Fin 2048 => val_main_v15 (F := Ideal) x0 x1 x3 (lidx_main_v18 i k) * val_main_v17 (F := Ideal) x4 (ridx_main_v18 i k))).trans ?_
    refine congrArg₂ (fun a b : EReal => a + b) (Finset.sum_congr rfl fun k _ => ?_) (Finset.sum_congr rfl fun k _ => ?_)
    · rw [el, er]
      refine congrArg₂ (fun a b : EReal => a * b) (R15l x0 x1 x3 (i 0) k _ rfl) ((R17 x4 _ (i 1)).trans ?_)
      exact congrArg (fun q : Fin 2048 => x4 (ix3 0 q (i 1))) (Fin.ext (Nat.zero_add _).symm)
    · rw [el, er]
      exact congrArg₂ (fun a b : EReal => a * b) (R15r x0 x1 x3 (i 0) k _ rfl) (R17 x4 _ (i 1))
  rw [hs]
  rfl

end Cert.Reference4Ideal.Mg

end
-- ==== Proof.MgJoin.lean ====
/- The merge's two runs: what the kernel and the reference leave, and that it is the same. -/
module

public import proofs.«01_k».proof.Defs
public import proofs.«01_k».proof.Proof.MgRef
public import proofs.«01_k».proof.Proof.Gen.Kernel4.Frame
public import proofs.«01_k».proof.Proof.Gen.Kernel4Ideal.Frame
public import Idealize.ShloMosaic.Adequacy
public import Idealize.ShloMosaic.Init
public import Idealize.ShloMosaic.Lib.Bf16Pair
public import Idealize.ShloMosaic.Lib.Bf16PairInverse

@[expose] public section

set_option maxRecDepth 16384

noncomputable section

namespace Cert.Reference4Ideal.Mg

open Cert.Reference4Ideal.Read Cert.Mg Idealize.ShloMosaic Idealize.ShloMosaic.TcCoe Idealize.SL.Sem

abbrev KMem := (ℓ : Loc Cert.Kernel4Ideal.nD Cert.Kernel4Ideal.τ Cert.Kernel4Ideal.sig) → Buf (Elt Ideal) ℓ

abbrev RMem := (ℓ : Loc Cert.Reference4Ideal.nD Cert.Reference4Ideal.τ Cert.Reference4Ideal.sig) → Buf (Elt Ideal) ℓ

/-- The two programs are given the same arrays. -/
def Same (m : KMem) (m' : RMem) (c : Dev Cert.Kernel4Ideal.nD) : Prop :=
  m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
  ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
  ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
  ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
  ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
  ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
  ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
  ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
  ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
  ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)

theorem res19 (m : KMem) (m' : RMem) (c : Dev Cert.Kernel4Ideal.nD) (h : Same m m' c) :
    val_main_v19 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = Cert.Kernel4Ideal.Mg.H m c := by
  obtain ⟨h0, h1, h2, h3, h4, _⟩ := h
  rw [h0, h1, h2, h3, h4]
  exact funext fun i => R19 _ _ _ _ _ i

theorem frame_kernel : Cert.quiescent_Kernel4 := fun m g _ => Cert.Kernel4.Gen.frame m g

theorem frame_kernelIdeal : Cert.quiescent_Kernel4Ideal := fun m g _ => Cert.Kernel4Ideal.Gen.frame m g

theorem frame_reference : Cert.quiescent_Reference4Ideal := fun m g _ =>
  (θ_run Cert.Reference4Ideal.defs _ _).mono (fun r hr => ⟨fun c => (hr c).2, sem_eq_zero_of_no_sems (by decide) r.2⟩) (Cert.Reference4Ideal.Value.run m g)

/-- The sites where the kernel's packed words are read as pairs. -/
theorem preserves : Cert.preserves_Kernel4_Kernel4Ideal :=
  ⟨IdealRules.bf16_pair.bufferStatement _ _, IdealRules.bf16_pair.bufferStatement _ _, IdealRules.bf16_pair.statement _ _, IdealRules.bf16_pack.statement _⟩

/-- The two programs' results are equal at the ideal instance. -/
theorem algebraic : Cert.algebraic_Kernel4Ideal_Reference4Ideal := fun m g m' g' _ h =>
  ⟨fun c => Cert.Kernel4Ideal.Mg.H m c,
    (θ_run Cert.Kernel4Ideal.defs _ _).mono (fun r hr c => by
      obtain ⟨o0, _, _, ha⟩ := hr c
      exact ⟨o0.trans (Cert.Kernel4Ideal.Mg.fin9 m c), ha⟩) (Cert.Kernel4Ideal.Value.run_blocks m g),
    (θ_run Cert.Reference4Ideal.defs _ _).mono (fun r hr c => by
      obtain ⟨o0, ha⟩ := hr c
      exact ⟨(o0.trans (val_main_v19_eq _ _ _ _ _)).trans (res19 m m' c (h c)), ha⟩) (Cert.Reference4Ideal.Value.run m' g')⟩

end Cert.Reference4Ideal.Mg

end
-- ==== Proof.MgBlockS.lean ====
/- The grid point of the sample's merge: the block of the stream it adds to is a row-wise function of the input blocks. -/
module

public import proofs.«01_k».proof.Proof.MgBlock
public import proofs.«01_k».proof.Proof.Gen.Kernel5Ideal.Value
public import Idealize.ShloMosaic.Lib.Pipeline.ValueKit.Tiles

@[expose] public section

noncomputable section

namespace Cert.Kernel5Ideal.Mg

open Cert.Kernel5Ideal Cert.Kernel5Ideal.Gen Cert.Inp Cert.Mg Idealize.ShloMosaic Idealize.ShloMosaic.ValueIdx

theorem shapeCast_self {α : Type} {s : Shape} (x : s.Idx → α) (h : s.ShapeCasts s) : shapeCast s x h = x :=
  funext fun j => shapeCast_apply x h j j rfl

theorem lhs_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem rhs_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The product read at an index is the sum over the columns of the rows. -/
theorem mm_apply (a : FVec Ideal S256x1024 .bf16) (w : FVec Ideal S1024x2048 .bf16) (r : Fin 256) (j : Fin 2048) :
    matmul (F := Ideal) (φ₁ := .bf16) (φ₂ := .bf16) dot_S256x1024_S1024x2048_S256x2048_1_0_0_1_n_n none a w (constant S256x2048 .f32 0x00000000#32) (ix2 r j)
      = ∑ k : Fin 1024, a (ix2 r k) * w (ix2 k j) := by
  simp only [matmul]
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 r j) ((ValueIdx.contrEquiv1 dot_S256x1024_S1024x2048_S256x2048_1_0_0_1_n_n 1024 rfl rfl).symm k) = ix2 r k := funext fun a => Fin.ext (by
    match a with
    | ⟨0, _⟩ => exact lhs_0 _ _
    | ⟨1, _⟩ => exact (dot_S256x1024_S1024x2048_S256x2048_1_0_0_1_n_n.lhsIdx_val_of_single rfl _ _).trans hk)
  have er : dot_S256x1024_S1024x2048_S256x2048_1_0_0_1_n_n.rhsIdx (ix2 r j) ((ValueIdx.contrEquiv1 dot_S256x1024_S1024x2048_S256x2048_1_0_0_1_n_n 1024 rfl rfl).symm k) = ix2 k j := funext fun a => Fin.ext (by
    match a with
    | ⟨0, _⟩ => exact (dot_S256x1024_S1024x2048_S256x2048_1_0_0_1_n_n.rhsIdx_val_of_single rfl _ _).trans hk
    | ⟨1, _⟩ => exact rhs_1 _ _)
  rw [el, er]

/-- The rows' normalisation as the kernel writes it, read at an index. -/
theorem an_apply (z : FVec Ideal S256x1024 .f32) (g : FVec Ideal S1x1024 .f32)
    (f : FVec Ideal S256x1024 .f32) (hf : ∀ r j, f (ix2 r j) = nf (Ideal.ofBits .f32 0x44800000#32) (rowOf z r))
    (hb : S1x1024.Broadcasts S256x1024) (r : Fin 256) (j : Fin 1024) :
    mulf (mulf z f) (broadcastTo S256x1024 g hb) (ix2 r j) = an (rowOf z r) (rowOf g 0) j := by
  rw [mulf_apply, mulf_apply, hf, broadcastTo_1b_ab_apply]
  rfl

/-- The block that a grid point writes. -/
theorem pay6_apply (v0 : Vec Ideal S256x1024 .f32) (v11 : Vec Ideal S1x1024 .f32) (v16 : Vec Ideal S256x1024 .bf16)
    (v17 v20 : Vec Ideal S1024x2048 .bf16) (v24 : Vec Ideal S256x2048 .f32) (r : Fin 256) (j : Fin 2048) :
    k0_pay6 (F := Ideal) v0 v11 v16 v17 v20 v24 (ix2 r j)
      = ho (v24 (ix2 r j)) (rowOf v16 r) (rowOf v0 r) (rowOf v11 0) (colOf v17 j) (colOf v20 j) := by
  unfold k0_pay6
  simp only [shapeCast_self]
  rw [addf_apply, addf_apply, mm_apply, mm_apply]
  refine congrArg (fun s : EReal => v24 (ix2 r j) + (∑ k, v16 (ix2 r k) * v17 (ix2 k j) + s)) (Finset.sum_congr rfl fun k _ => ?_)
  exact congrArg (fun s : EReal => s * v20 (ix2 k j))
    (an_apply v0 v11 _ (fun r j => nfac_apply (by decide) v0 _ _ _ _ _ r j) _ r k)

theorem out9 (x0 : Vec Ideal S256x1024 .bf16) (x1 : Vec Ideal S256x1024 .f32) (x2 : Vec Ideal S256x2048 .f32) (x3 : Vec Ideal S1x1024 .f32)
    (x4 x5 : Vec Ideal S1024x2048 .bf16) (x6 : Vec Ideal S1x2048 .f32) (x7 : Vec Ideal S2048x256 .bf16) (x8 : Vec Ideal S1x128 .f32)
    (y : S256x2048.Idx) :
    out0_9 x0 x1 x2 x3 x4 x5 x6 x7 x8 y
      = ho (x2 y) (rowOf x0 (y 0)) (rowOf x1 (y 0)) (rowOf x3 0) (colOf x4 (y 1)) (colOf x5 (y 1)) := by
  unfold out0_9
  rw [View.canon_unit_zero (S := S256x2048) (funext fun a => by match a with | ⟨0, _⟩ => rfl | ⟨1, _⟩ => rfl)]
  rw [show View.ld x0 r0_0 = x0 from funext fun y => View.ld_unit_apply_of x0 _ _ _ y y (fun a => by match a with | ⟨0, _⟩ => exact (Nat.zero_add _).symm | ⟨1, _⟩ => exact (Nat.zero_add _).symm),
    show View.ld x1 r0_0 = x1 from funext fun y => View.ld_unit_apply_of x1 _ _ _ y y (fun a => by match a with | ⟨0, _⟩ => exact (Nat.zero_add _).symm | ⟨1, _⟩ => exact (Nat.zero_add _).symm),
    show View.ld x2 r0_3 = x2 from funext fun y => View.ld_unit_apply_of x2 _ _ _ y y (fun a => by match a with | ⟨0, _⟩ => exact (Nat.zero_add _).symm | ⟨1, _⟩ => exact (Nat.zero_add _).symm),
    show View.ld x3 r0_1 = x3 from funext fun y => View.ld_unit_apply_of x3 _ _ _ y y (fun a => by match a with | ⟨0, _⟩ => exact (Nat.zero_add _).symm | ⟨1, _⟩ => exact (Nat.zero_add _).symm),
    show View.ld x4 r0_2 = x4 from funext fun y => View.ld_unit_apply_of x4 _ _ _ y y (fun a => by match a with | ⟨0, _⟩ => exact (Nat.zero_add _).symm | ⟨1, _⟩ => exact (Nat.zero_add _).symm),
    show View.ld x5 r0_2 = x5 from funext fun y => View.ld_unit_apply_of x5 _ _ _ y y (fun a => by match a with | ⟨0, _⟩ => exact (Nat.zero_add _).symm | ⟨1, _⟩ => exact (Nat.zero_add _).symm)]
  exact ((congrArg _ (eq_ix2 y)).trans (pay6_apply x1 x3 x0 x4 x5 x2 (y 0) (y 1))).trans
    (congrArg (fun z => ho (x2 z) (rowOf x0 (y 0)) (rowOf x1 (y 0)) (rowOf x3 0) (colOf x4 (y 1)) (colOf x5 (y 1))) (eq_ix2 y).symm)

end Cert.Kernel5Ideal.Mg

end
-- ==== Proof.MgArrS.lean ====
/- The stream of the sample's merge after the run, as a function of the arguments. -/
module

public import proofs.«01_k».proof.Proof.MgBlockS
public import Idealize.ShloMosaic.Lib.Pipeline.ValueKit.Geometry
public import Idealize.ShloMosaic.Lib.KernelVsHost
public import Idealize.ShloMosaic.Lib.StableHlo.RunRead

@[expose] public section

noncomputable section

namespace Cert.Kernel5Ideal.Mg

open Cert.Kernel5Ideal Cert.Kernel5Ideal.Gen Cert.Inp Cert.Mg Idealize.ShloMosaic.TcCoe Idealize.ShloMosaic.ValueIdx Idealize.ShloMosaic.StableHlo
open Idealize.ShloMosaic
open Idealize.ShloMosaic.Pipeline (Dat)

variable (m : (ℓ : Loc nD τ sig) → Buf (Elt Ideal) ℓ) (c : Dev nD)

/-- The arguments. -/
abbrev aC : S256x1024.Idx → EReal := m ((c : Thread nD τ).loc main_arg0)
abbrev aA : S256x1024.Idx → EReal := m ((c : Thread nD τ).loc main_arg1)
abbrev aX : S8x32x2048.Idx → EReal := m ((c : Thread nD τ).loc main_arg2)
abbrev aG : S1x1024.Idx → EReal := m ((c : Thread nD τ).loc main_arg3)
abbrev aW : S1x2048x2048.Idx → EReal := m ((c : Thread nD τ).loc main_arg4)

theorem V0 : (V m c main_arg0 : S256x1024.Idx → EReal) = aC m c := V_main_arg0 m c

theorem V1 : (V m c main_arg1 : S256x1024.Idx → EReal) = aA m c := V_main_arg1 m c

set_option maxRecDepth 65536 in
theorem V15 : (V m c main_v15 : S256x2048.Idx → EReal) = shapeCast S256x2048 (aX m c) shapeCasts_S8x32x2048_S256x2048 := by
    show StableHlo.after _ _ _ = _
    simp only [List.flatten_cons, List.flatten_nil, List.append_nil, List.cons_append, List.nil_append]
    after_results_simp <;> rfl

set_option maxRecDepth 65536 in
theorem V17 : (V m c main_v17 : S1x1024.Idx → EReal) = shapeCast S1x1024 (shapeCast S1024 (aG m c) shapeCasts_S1x1024_S1024) shapeCasts_S1024_S1x1024 := by
    show StableHlo.after _ _ _ = _
    simp only [List.flatten_cons, List.flatten_nil, List.append_nil, List.cons_append, List.nil_append]
    after_results_simp <;> rfl

set_option maxRecDepth 65536 in
theorem Vw : (V m c main_v1 : S2048x2048.Idx → EReal) = truncf (F := Ideal) .bf16 (shapeCast S2048x2048 (aW m c) shapeCasts_S1x2048x2048_S2048x2048) bitsLt_bf16_f32 := by
    show StableHlo.after _ _ _ = _
    simp only [List.flatten_cons, List.flatten_nil, List.append_nil, List.cons_append, List.nil_append]
    after_results_simp <;> rfl

/-- Entry `k` of row `r` of the stream. -/
def xrow (x : S8x32x2048.Idx → EReal) (r : Fin 256) : Fin 2048 → EReal :=
  fun k => x (ix3 (⟨r.val / 32, by omega⟩ : Fin 8) (⟨r.val % 32, by omega⟩ : Fin 32) k)

/-- The first entries of a one-row array. -/
def gr {b : ℕ} (g : (⟨2, ![1, b]⟩ : Shape).Idx → EReal) : Fin b → EReal := fun k => g (ix2 0 k)

/-- Column `j` of the weights, the rows from `o` on. -/
def wc (w : S1x2048x2048.Idx → EReal) (o : ℕ) (ho : o ≤ 1024) (j : Fin 2048) : Fin 1024 → EReal :=
  fun k => w (ix3 0 (⟨o + k.val, by omega⟩ : Fin 2048) j)

theorem V15_apply (r : Fin 256) (k : Fin 2048) : (V m c main_v15 : S256x2048.Idx → EReal) (ix2 r k) = xrow (aX m c) r k := by
  rw [V15]
  refine shapeCast_apply _ _ _ _ ?_
  rw [Shape.rowMajor_val_three, Shape.rowMajor_val_two]
  show (r.val / 32 * 32 + r.val % 32) * 2048 + k.val = r.val * 2048 + k.val
  omega

theorem V17_apply (k : Fin 1024) : (V m c main_v17 : S1x1024.Idx → EReal) (ix2 0 k) = aG m c (ix2 0 k) := by
  rw [V17]
  exact (shapeCast_a_1a_apply _ _ 0 k).trans (shapeCast_1a_a_apply _ _ k)

theorem Vw_apply (k j : Fin 2048) : (V m c main_v1 : S2048x2048.Idx → EReal) (ix2 k j) = aW m c (ix3 0 k j) := by
  rw [Vw]
  refine shapeCast_apply _ _ (ix2 k j) (ix3 0 k j) ?_
  rw [Shape.rowMajor_val_three, Shape.rowMajor_val_two]
  show (0 * 2048 + k.val) * 2048 + j.val = k.val * 2048 + j.val
  omega

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![1, 0] := (by decide +kernel : ∀ t : Fin grid0.N, _)
theorem e9 : ∀ t : Fin cfg0.N, win0_9.index t = ![t.val, 0] := (by decide +kernel : ∀ t : Fin grid0.N, _)

theorem row0 (t : Fin cfg0.N) (r : Fin 256) (q : Fin 256) (hq : q.val = t.val * 256 + r.val) :
    rowOf (iblk m c 0 t : S256x1024.Idx → EReal) r = rowOf (aC m c) q := by
  funext k
  show (V m c main_arg0 : S256x1024.Idx → EReal) (((cfg0.win 0).blk t).view.emb (ix2 r k)) = _
  rw [V0]
  refine congrArg (aC m c) (funext fun a => Fin.ext ?_)
  match a with
  | ⟨0, _⟩ => blk_simp [e0]; exact (show r.val = q.val by have ht : t.val < 1 := t.isLt; omega)
  | ⟨1, _⟩ => blk_simp [e0]

theorem row1 (t : Fin cfg0.N) (r : Fin 256) (q : Fin 256) (hq : q.val = t.val * 256 + r.val) :
    rowOf (iblk m c 1 t : S256x1024.Idx → EReal) r = rowOf (aA m c) q := by
  funext k
  show (V m c main_arg1 : S256x1024.Idx → EReal) (((cfg0.win 1).blk t).view.emb (ix2 r k)) = _
  rw [V1]
  refine congrArg (aA m c) (funext fun a => Fin.ext ?_)
  match a with
  | ⟨0, _⟩ => blk_simp [e1]; exact (show r.val = q.val by have ht : t.val < 1 := t.isLt; omega)
  | ⟨1, _⟩ => blk_simp [e1]

theorem x2 (t : Fin cfg0.N) (y : S256x2048.Idx) (q : Fin 256) (j : Fin 2048) (hq : q.val = t.val * 256 + (y 0).val) (hj : j.val = (y 1).val) :
    (iblk m c 2 t : S256x2048.Idx → EReal) y = xrow (aX m c) q j := by
  show (V m c main_v15 : S256x2048.Idx → EReal) (((cfg0.win 2).blk t).view.emb y) = _
  rw [← V15_apply]
  refine congrArg (V m c main_v15 : S256x2048.Idx → EReal) (funext fun a => Fin.ext ?_)
  match a with
  | ⟨0, _⟩ => blk_simp [e2]; exact (show (y 0).val = q.val by have ht : t.val < 1 := t.isLt; omega)
  | ⟨1, _⟩ => blk_simp [e2]; exact hj.symm

theorem row3 (t : Fin cfg0.N) : rowOf (iblk m c 3 t : S1x1024.Idx → EReal) 0 = gr (aG m c) := by
  funext k
  show (V m c main_v17 : S1x1024.Idx → EReal) (((cfg0.win 3).blk t).view.emb (ix2 0 k)) = _
  refine Eq.trans ?_ (V17_apply m c k)
  refine congrArg (V m c main_v17 : S1x1024.Idx → EReal) (funext fun a => Fin.ext ?_)
  match a with
  | ⟨0, _⟩ => blk_simp [e3]
  | ⟨1, _⟩ => blk_simp [e3]

theorem col4 (t : Fin cfg0.N) (j q : Fin 2048) (hq : q.val = j.val) :
    colOf (iblk m c 4 t : S1024x2048.Idx → EReal) j = wc (aW m c) 0 (by omega) q := by
  funext k
  show (V m c main_v1 : S2048x2048.Idx → EReal) (((cfg0.win 4).blk t).view.emb (ix2 k j)) = _
  refine Eq.trans ?_ (Vw_apply m c _ q)
  refine congrArg (V m c main_v1 : S2048x2048.Idx → EReal) (funext fun a => Fin.ext ?_)
  match a with
  | ⟨0, _⟩ => blk_simp [e4]
  | ⟨1, _⟩ => blk_simp [e4]; exact hq.symm

theorem col5 (t : Fin cfg0.N) (j q : Fin 2048) (hq : q.val = j.val) :
    colOf (iblk m c 5 t : S1024x2048.Idx → EReal) j = wc (aW m c) 1024 (by omega) q := by
  funext k
  show (V m c main_v1 : S2048x2048.Idx → EReal) (((cfg0.win 5).blk t).view.emb (ix2 k j)) = _
  refine Eq.trans ?_ (Vw_apply m c _ q)
  refine congrArg (V m c main_v1 : S2048x2048.Idx → EReal) (funext fun a => Fin.ext ?_)
  match a with
  | ⟨0, _⟩ => blk_simp [e5]
  | ⟨1, _⟩ => blk_simp [e5]; exact hq.symm

/-- The stream after the merge. -/
def H (i : S256x2048.Idx) : EReal :=
  ho (xrow (aX m c) (i 0) (i 1)) (rowOf (aC m c) (i 0)) (rowOf (aA m c) (i 0)) (gr (aG m c)) (wc (aW m c) 0 (by omega) (i 1)) (wc (aW m c) 1024 (by omega) (i 1))

theorem fin9 : (dats m 0 c).arrAt 9 cfg0.N = H m c := by
  refine (dats m 0 c).arrAt_eq_of_covers 9 (H m c) (by decide +kernel) fun t hf y => ?_
  have h0 : ((((cfg0.win 9).blk t).view.emb y 0 : Fin _) : ℕ) = t.val * 256 + (y 0 : ℕ) := by blk_simp [e9]
  have h1 : ((((cfg0.win 9).blk t).view.emb y 1 : Fin _) : ℕ) = (y 1 : ℕ) := by blk_simp [e9]
  show (dats m 0 c).after 9 t y = _
  rw [after0_9]
  refine (out9 _ _ _ _ _ _ _ _ _ y).trans ?_
  exact congr (congr (congr (congr (congr (congrArg ho (x2 m c t y _ _ h0 h1)) (row0 m c t _ _ h0)) (row1 m c t _ _ h0)) (row3 m c t))
    (col4 m c t _ _ h1)) (col5 m c t _ _ h1)

end Cert.Kernel5Ideal.Mg

end
-- ==== Proof.MgRefS.lean ====
/- The reference's stream after the sample's merge, as a function of the arguments. -/
module

public import proofs.«01_k».proof.Proof.MgArrS
public import proofs.«01_k».proof.Proof.Gen.Reference5Ideal.Run
public import proofs.«01_k».proof.Proof.Gen.Reference5Ideal.Read

@[expose] public section

noncomputable section

namespace Cert.Reference5Ideal.Mg

open Cert.Reference5Ideal Cert.Reference5Ideal.Read Cert.Inp Cert.Mg Idealize.ShloMosaic Idealize.ShloMosaic.TcCoe Idealize.ShloMosaic.ValueIdx
open Cert.Kernel5Ideal.Mg (xrow gr wc)

variable (x0 x1 : S256x1024.Idx → EReal) (x2 : S8x32x2048.Idx → EReal) (x3 : S1x1024.Idx → EReal) (x4 : S1x2048x2048.Idx → EReal)

/-- The normalised rows of the attention's output. -/
theorem R14 (r : Fin 256) (j : Fin 1024) : val_main_v14 (F := Ideal) x1 x3 (ix2 r j) = an (rowOf x1 r) (gr x3) j := by
  have e : ∀ k, idx_main_v3 (idx_main_v4 (idx_main_v10 (ix2 r j))) k = ix2 r k := fun k => funext fun a => match a with
    | ⟨0, _⟩ => rfl
    | ⟨1, _⟩ => rfl
  have eg : idx_main_v1 (idx_main_v12 (idx_main_v13 (ix2 r j))) = ix2 0 j := funext fun a => match a with
    | ⟨0, _⟩ => rfl
    | ⟨1, _⟩ => Fin.ext (Nat.mod_eq_of_lt j.isLt)
  rw [val_main_v14_apply, val_main_v11_apply, val_main_v10_apply, val_main_v9_apply, val_main_v8_apply, val_main_v6_apply, val_main_v4_apply, val_main_v3_apply, val_main_v5_apply, val_main_cst_0_apply, val_main_v7_apply, val_main_cst_1_apply, val_main_v13_apply, val_main_v12_apply, val_main_v1_apply, val_main_cst_apply, eg]
  simp only [val_main_v2_apply, e]
  show x1 (ix2 r j) * Ideal.rsqrt (Ideal.div (Ideal.ofBits .f32 0x00000000#32 + ∑ k : Fin 1024, x1 (ix2 r k) * x1 (ix2 r k)) (Ideal.ofBits .f32 0x44800000#32) + Ideal.ofBits .f32 0x358637BD#32) * x3 (ix2 0 j) = _
  rw [Ideal.ofBits_zero_f32, zero_add]
  rfl

/-- The first half of the joined rows. -/
theorem R15l (r : Fin 256) (k : Fin 1024) (q : Fin 2048) (hq : q.val = k.val) : val_main_v15 (F := Ideal) x0 x1 x3 (ix2 r q) = rowOf x0 r k := by
  unfold val_main_v15
  exact concatenate_pair_apply_left (t := S256x2048) (s₁ := S256x1024) (s₂ := S256x1024) (1 : Fin 2) _ _ _ _ rfl
    (ix2 r k) (by
      intro b
      match b with
      | ⟨0, _⟩ => rfl
      | ⟨1, _⟩ => exact hq.symm)

/-- The second half of the joined rows. -/
theorem R15r (r : Fin 256) (k : Fin 1024) (q : Fin 2048) (hq : q.val = 1024 + k.val) : val_main_v15 (F := Ideal) x0 x1 x3 (ix2 r q) = an (rowOf x1 r) (gr x3) k := by
  unfold val_main_v15
  refine (concatenate_pair_apply_right (t := S256x2048) (s₁ := S256x1024) (s₂ := S256x1024) (1 : Fin 2) _ _ _ _ rfl rfl
    (ix2 r k) ?_ ?_).trans (R14 x1 x3 r k)
  · intro b hb
    match b with
    | ⟨0, _⟩ => rfl
    | ⟨1, _⟩ => exact absurd rfl hb
  · show k.val + 1024 = q.val
    omega

theorem R17 (k j : Fin 2048) : val_main_v17 (F := Ideal) x4 (ix2 k j) = x4 (ix3 0 k j) := by
  rw [val_main_v17_apply]
  have hk := k.isLt
  have hj := j.isLt
  refine congrArg x4 (funext fun a => ?_)
  match a with
  | ⟨0, _⟩ => rfl
  | ⟨1, _⟩ => exact Fin.ext (by show (k.val * 2048 + j.val) / 2048 % 2048 = k.val; omega)
  | ⟨2, _⟩ => exact Fin.ext (by show (k.val * 2048 + j.val) % 2048 = j.val; omega)

/-- The stream after the merge. -/
theorem R19 (i : S256x2048.Idx) : val_main_v19 (F := Ideal) x0 x1 x2 x3 x4 i
    = ho (xrow x2 (i 0) (i 1)) (rowOf x0 (i 0)) (rowOf x1 (i 0)) (gr x3) (wc x4 0 (by omega) (i 1)) (wc x4 1024 (by omega) (i 1)) := by
  have h0 : (i 0).val < 256 := (i 0).isLt
  have h1 : (i 1).val < 2048 := (i 1).isLt
  rw [val_main_v19_apply, val_main_v16_apply, val_main_v18_apply]
  have ex : idx_main_v16 i = ix3 (⟨(i 0).val / 32, by omega⟩ : Fin 8) (⟨(i 0).val % 32, by omega⟩ : Fin 32) (i 1) := funext fun a => match a with
    | ⟨0, _⟩ => Fin.ext (by show ((i 0).val * 2048 + (i 1).val) / 65536 = (i 0).val / 32; omega)
    | ⟨1, _⟩ => Fin.ext (by show ((i 0).val * 2048 + (i 1).val) / 2048 % 32 = (i 0).val % 32; omega)
    | ⟨2, _⟩ => Fin.ext (by show ((i 0).val * 2048 + (i 1).val) % 2048 = (i 1).val; omega)
  rw [ex]
  have el : ∀ k, lidx_main_v18 i k = ix2 (i 0) k := fun k => funext fun a => match a with
    | ⟨0, _⟩ => rfl
    | ⟨1, _⟩ => rfl
  have er : ∀ k, ridx_main_v18 i k = ix2 k (i 1) := fun k => funext fun a => match a with
    | ⟨0, _⟩ => rfl
    | ⟨1, _⟩ => rfl
  have hs : (∑ k : Fin 2048, val_main_v15 (F := Ideal) x0 x1 x3 (lidx_main_v18 i k) * val_main_v17 (F := Ideal) x4 (ridx_main_v18 i k) : EReal)
      = ∑ k, rowOf x0 (i 0) k * wc x4 0 (by omega) (i 1) k + ∑ k, an (rowOf x1 (i 0)) (gr x3) k * wc x4 1024 (by omega) (i 1) k := by
    refine (Fin.sum_univ_add (a := 1024) (b := 1024) (fun k : Fin 2048 => val_main_v15 (F := Ideal) x0 x1 x3 (lidx_main_v18 i k) * val_main_v17 (F := Ideal) x4 (ridx_main_v18 i k))).trans ?_
    refine congrArg₂ (fun a b : EReal => a + b) (Finset.sum_congr rfl fun k _ => ?_) (Finset.sum_congr rfl fun k _ => ?_)
    · rw [el, er]
      refine congrArg₂ (fun a b : EReal => a * b) (R15l x0 x1 x3 (i 0) k _ rfl) ((R17 x4 _ (i 1)).trans ?_)
      exact congrArg (fun q : Fin 2048 => x4 (ix3 0 q (i 1))) (Fin.ext (Nat.zero_add _).symm)
    · rw [el, er]
      exact congrArg₂ (fun a b : EReal => a * b) (R15r x0 x1 x3 (i 0) k _ rfl) (R17 x4 _ (i 1))
  rw [hs]
  rfl

end Cert.Reference5Ideal.Mg

end
-- ==== Proof.MgJoinS.lean ====
/- The two runs of the sample's merge: what the kernel and the reference leave, and that it is the same. -/
module

public import proofs.«01_k».proof.Defs
public import proofs.«01_k».proof.Proof.MgRefS
public import proofs.«01_k».proof.Proof.Gen.Kernel5.Frame
public import proofs.«01_k».proof.Proof.Gen.Kernel5Ideal.Frame
public import Idealize.ShloMosaic.Adequacy
public import Idealize.ShloMosaic.Init
public import Idealize.ShloMosaic.Lib.Bf16Pair
public import Idealize.ShloMosaic.Lib.Bf16PairInverse

@[expose] public section

set_option maxRecDepth 16384

noncomputable section

namespace Cert.Reference5Ideal.Mg

open Cert.Reference5Ideal.Read Cert.Mg Idealize.ShloMosaic Idealize.ShloMosaic.TcCoe Idealize.SL.Sem

abbrev KMem := (ℓ : Loc Cert.Kernel5Ideal.nD Cert.Kernel5Ideal.τ Cert.Kernel5Ideal.sig) → Buf (Elt Ideal) ℓ

abbrev RMem := (ℓ : Loc Cert.Reference5Ideal.nD Cert.Reference5Ideal.τ Cert.Reference5Ideal.sig) → Buf (Elt Ideal) ℓ

/-- The two programs are given the same arrays. -/
def Same (m : KMem) (m' : RMem) (c : Dev Cert.Kernel5Ideal.nD) : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
  ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
  ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
  ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
  ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
  ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
  ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
  ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
  ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
  ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)

theorem res19 (m : KMem) (m' : RMem) (c : Dev Cert.Kernel5Ideal.nD) (h : Same m m' c) :
    val_main_v19 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = Cert.Kernel5Ideal.Mg.H m c := by
  obtain ⟨h0, h1, h2, h3, h4, _⟩ := h
  rw [h0, h1, h2, h3, h4]
  exact funext fun i => R19 _ _ _ _ _ i

theorem frame_kernel : Cert.quiescent_Kernel5 := fun m g _ => Cert.Kernel5.Gen.frame m g

theorem frame_kernelIdeal : Cert.quiescent_Kernel5Ideal := fun m g _ => Cert.Kernel5Ideal.Gen.frame m g

theorem frame_reference : Cert.quiescent_Reference5Ideal := fun m g _ =>
  (θ_run Cert.Reference5Ideal.defs _ _).mono (fun r hr => ⟨fun c => (hr c).2, sem_eq_zero_of_no_sems (by decide) r.2⟩) (Cert.Reference5Ideal.Value.run m g)

/-- The sites where the kernel's packed words are read as pairs. -/
theorem preserves : Cert.preserves_Kernel5_Kernel5Ideal :=
  ⟨IdealRules.bf16_pair.bufferStatement _ _, IdealRules.bf16_pair.statement _ _, IdealRules.bf16_pack.statement _⟩

/-- The two programs' results are equal at the ideal instance. -/
theorem algebraic : Cert.algebraic_Kernel5Ideal_Reference5Ideal := fun m g m' g' _ h =>
  ⟨fun c => Cert.Kernel5Ideal.Mg.H m c,
    (θ_run Cert.Kernel5Ideal.defs _ _).mono (fun r hr c => by
      obtain ⟨o0, _, _, ha⟩ := hr c
      exact ⟨o0.trans (Cert.Kernel5Ideal.Mg.fin9 m c), ha⟩) (Cert.Kernel5Ideal.Value.run_blocks m g),
    (θ_run Cert.Reference5Ideal.defs _ _).mono (fun r hr c => by
      obtain ⟨o0, ha⟩ := hr c
      exact ⟨(o0.trans (val_main_v19_eq _ _ _ _ _)).trans (res19 m m' c (h c)), ha⟩) (Cert.Reference5Ideal.Value.run m' g')⟩

end Cert.Reference5Ideal.Mg

end
-- ==== Proof.Soft.lean ====
/- The running maximum and sum of a softmax, over the extended reals: one tile's step, and where the steps end. -/
module

public import Idealize.ShloMosaic.PureOps.Ideal
public import Mathlib.Analysis.SpecialFunctions.Pow.Real
public import Mathlib.Tactic.LinearCombination

@[expose] public section

noncomputable section

namespace Cert.Attn

open Idealize.ShloMosaic

/-- A score's weight: two to its power, zero at minus infinity. -/
def wt (x : EReal) : ℝ := (Ideal.exp2 x).toReal

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem wt_nonneg (x : EReal) : 0 ≤ wt x := by
  induction x with
  | bot => simp [wt]
  | top => simp [wt]
  | coe x => simp only [wt, Ideal.exp2_coe, EReal.toReal_coe]; exact Real.rpow_nonneg (by norm_num) _

theorem wt_pos (x : ℝ) : 0 < wt x := by
  simp only [wt, Ideal.exp2_coe, EReal.toReal_coe]; exact Real.rpow_pos_of_pos (by norm_num) _

theorem exp2_sub (x : EReal) (hx : x ≠ ⊤) (m : ℝ) : Ideal.exp2 (x - m) = ((wt x * (2 : ℝ) ^ (-m) : ℝ) : EReal) := by
  induction x with
  | bot => simp [wt]
  | top => exact absurd rfl hx
  | coe x =>
    rw [← EReal.coe_sub]
    simp only [wt, Ideal.exp2_coe, EReal.toReal_coe]
    congr 1
    show (2 : ℝ) ^ (x - m) = (2 : ℝ) ^ x * (2 : ℝ) ^ (-m)
    rw [← Real.rpow_add (by norm_num)]; rfl

theorem max_real (m : ℝ) (y : EReal) (hy : y ≠ ⊤) : ∃ m' : ℝ, max (m : EReal) y = m' := by
  induction y with
  | bot => exact ⟨m, max_eq_left bot_le⟩
  | top => exact absurd rfl hy
  | coe y => exact ⟨max m y, (EReal.coe_strictMono.monotone.map_max).symm⟩

/-- What the running triple holds after scores of total weight `Z` and weighted sum `N`. -/
def Held (Z N : ℝ) (M L A : EReal) : Prop := ∃ m : ℝ, M = m ∧ L = ((Z * (2 : ℝ) ^ (-m) : ℝ) : EReal) ∧ A = ((N * (2 : ℝ) ^ (-m) : ℝ) : EReal)

theorem held_zero (m : ℝ) : Held 0 0 m 0 0 := ⟨m, rfl, by simp, by simp⟩

/-- One tile's step. -/
theorem held_step {n : ℕ} {Z N : ℝ} {M L A : EReal} (h : Held Z N M L A) (s : Fin n → EReal) (v : Fin n → ℝ) (y : EReal)
    (hs : ∀ k, s k ≠ ⊤) (hy : y ≠ ⊤) :
    Held (Z + ∑ k, wt (s k)) (N + ∑ k, v k * wt (s k)) (max M y)
      (Ideal.exp2 (M - max M y) * L + ∑ k, Ideal.exp2 (s k - max M y))
      (Ideal.exp2 (M - max M y) * A + ∑ k, (v k : EReal) * Ideal.exp2 (s k - max M y)) := by
  obtain ⟨m, rfl, rfl, rfl⟩ := h
  obtain ⟨m', hm⟩ := max_real m y hy
  rw [hm]
  have e : (2 : ℝ) ^ m * (2 : ℝ) ^ (-m) = 1 := by rw [← Real.rpow_add (by norm_num)]; simp
  have hw : wt (m : EReal) = (2 : ℝ) ^ m := by simp only [wt, Ideal.exp2_coe, EReal.toReal_coe]; rfl
  refine ⟨m', rfl, ?_, ?_⟩
  · rw [exp2_sub _ (EReal.coe_ne_top m), Finset.sum_congr rfl (fun k _ => exp2_sub (s k) (hs k) m'), ← coe_sum, ← EReal.coe_mul, ← EReal.coe_add, hw]
    congr 1
    rw [← Finset.sum_mul]
    linear_combination (Z * (2 : ℝ) ^ (-m')) * e
  · rw [exp2_sub _ (EReal.coe_ne_top m), Finset.sum_congr rfl (fun k _ => by rw [exp2_sub (s k) (hs k) m', ← EReal.coe_mul]), ← coe_sum, ← EReal.coe_mul, ← EReal.coe_add, hw]
    congr 1
    simp only [← mul_assoc]
    rw [← Finset.sum_mul]
    linear_combination (N * (2 : ℝ) ^ (-m')) * e

/-- Where the steps end: the weighted mean. -/
theorem held_div {Z N : ℝ} {M L A : EReal} (h : Held Z N M L A) (hZ : 0 < Z) : Ideal.div A L = ((N / Z : ℝ) : EReal) := by
  obtain ⟨m, rfl, rfl, rfl⟩ := h
  have hp : (0 : ℝ) < (2 : ℝ) ^ (-m) := Real.rpow_pos_of_pos (by norm_num) _
  rw [Ideal.div_coe (mul_pos hZ hp).ne', ← EReal.coe_mul]
  congr 1
  field_simp

end Cert.Attn
-- ==== Proof.Tile.lean ====
/- One key tile of one head of the prompt's attention: the kernel's arithmetic on a tile, and each array read at an index. -/
module

public import proofs.«01_k».proof.Proof.Soft
public import proofs.«01_k».proof.Proof.Gen.Kernel6Ideal.Value
public import Idealize.ShloMosaic.Lib.Pipeline.ValueKit.Tiles
public import Idealize.ShloMosaic.PureOps.Ideal.Laws
public import Idealize.ShloMosaic.Lib.ValueIdx
public import Idealize.ShloMosaic.Lib.ValueIdxCore
public import Idealize.ShloMosaic.Lib.ValueLayout

@[expose] public section

noncomputable section

namespace Cert.Kernel6Ideal.Attn

open Cert.Kernel6Ideal Cert.Kernel6Ideal.Gen Cert.Attn
open Idealize.ShloMosaic Idealize.ShloMosaic.ValueIdx

/-- The scores of a tile. -/
def tS (k ka : Vec Ideal S256x128 .bf16) (q : Vec Ideal S1x256x256 .bf16) : FVec Ideal S256x256 .f32 :=
  matmul dot_S256x256_S256x256_S256x256_1_0_0_1_n_n none (concatenate S256x256 1 [⟨S256x128, k⟩, ⟨S256x128, ka⟩] concatenates_S256x128_S256x128_S256x256_d1 : FVec Ideal S256x256 .bf16)
    (shapeCast S256x256 q shapeCasts_S1x256x256_S256x256 : FVec Ideal S256x256 .bf16) (constant S256x256 .f32 0x00000000#32)

/-- The new maximum. -/
def uM (s : FVec Ideal S256x256 .f32) (m : Vec Ideal S1x1x256 .f32) : FVec Ideal S1x256 .f32 :=
  maximumf (shapeCast S1x256 m shapeCasts_S1x1x256_S1x256)
    (shapeCast S1x256 (multiReduction .maximumf [0] S256 s 0xFF800000#32 reduces_S256x256_S256 (.inl rfl) rfl) shapeCasts_S256_S1x256)

/-- The factor by which what is held shrinks. -/
def uA (s : FVec Ideal S256x256 .f32) (m : Vec Ideal S1x1x256 .f32) : FVec Ideal S1x256 .f32 :=
  exp2 (subf (shapeCast S1x256 m shapeCasts_S1x1x256_S1x256) (uM s m))

/-- The tile's weights under the new maximum. -/
def uP (s : FVec Ideal S256x256 .f32) (m : Vec Ideal S1x1x256 .f32) : FVec Ideal S256x256 .f32 :=
  exp2 (subf s (broadcastTo S256x256 (uM s m) broadcasts_S1x256_S256x256))

def tM (s : FVec Ideal S256x256 .f32) (m : Vec Ideal S1x1x256 .f32) : Vec Ideal S1x1x256 .f32 :=
  shapeCast S1x1x256 (uM s m) shapeCasts_S1x256_S1x1x256

def tL (s : FVec Ideal S256x256 .f32) (m l : Vec Ideal S1x1x256 .f32) : Vec Ideal S1x1x256 .f32 :=
  shapeCast S1x1x256 (addf (mulf (uA s m) (shapeCast S1x256 l shapeCasts_S1x1x256_S1x256))
    (shapeCast S1x256 (multiReduction .add [0] S256 (uP s m) 0x00000000#32 reduces_S256x256_S256 (.inl rfl) rfl) shapeCasts_S256_S1x256)) shapeCasts_S1x256_S1x1x256

def tA (s : FVec Ideal S256x256 .f32) (m : Vec Ideal S1x1x256 .f32) (v : Vec Ideal S128x256 .bf16) (a : Vec Ideal S1x128x256 .f32) : Vec Ideal S1x128x256 .f32 :=
  shapeCast S1x128x256 (addf (mulf (broadcastTo S128x256 (uA s m) broadcasts_S1x256_S128x256) (shapeCast S128x256 a shapeCasts_S1x128x256_S128x256))
    (matmul (φ₁ := .bf16) (φ₂ := .bf16) dot_S128x256_S256x256_S128x256_1_0_0_1_n_n none (v : FVec Ideal S128x256 .bf16) (truncf .bf16 (uP s m) bitsLt_bf16_f32) (constant S128x256 .f32 0x00000000#32))) shapeCasts_S128x256_S1x128x256

def tO (a : Vec Ideal S1x128x256 .f32) (l : Vec Ideal S1x1x256 .f32) : FVec Ideal S256x128 .f32 :=
  transpose S256x128 [1, 0] (divf (shapeCast S128x256 a shapeCasts_S1x128x256_S128x256 : FVec Ideal S128x256 .f32)
    (broadcastTo S128x256 (shapeCast S1x256 l shapeCasts_S1x1x256_S1x256) broadcasts_S1x256_S128x256)) transposes_S128x256_p1_0_S256x128

theorem sl_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem sr_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

theorem sm_apply (a : FVec Ideal S256x256 .bf16) (w : FVec Ideal S256x256 .bf16) (r j : Fin 256) :
    matmul (F := Ideal) (φ₁ := .bf16) (φ₂ := .bf16) dot_S256x256_S256x256_S256x256_1_0_0_1_n_n none a w (constant S256x256 .f32 0x00000000#32) (ix2 r j)
      = ∑ k : Fin 256, a (ix2 r k) * w (ix2 k j) := by
  simp only [matmul]
  rw [Ideal.matmul_constant_zero_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 r j) ((ValueIdx.contrEquiv1 dot_S256x256_S256x256_S256x256_1_0_0_1_n_n 256 rfl rfl).symm k) = ix2 r k := funext fun a => Fin.ext (by
    match a with
    | ⟨0, _⟩ => exact sl_0 _ _
    | ⟨1, _⟩ => exact (dot_S256x256_S256x256_S256x256_1_0_0_1_n_n.lhsIdx_val_of_single rfl _ _).trans hk)
  have er : dot_S256x256_S256x256_S256x256_1_0_0_1_n_n.rhsIdx (ix2 r j) ((ValueIdx.contrEquiv1 dot_S256x256_S256x256_S256x256_1_0_0_1_n_n 256 rfl rfl).symm k) = ix2 k j := funext fun a => Fin.ext (by
    match a with
    | ⟨0, _⟩ => exact (dot_S256x256_S256x256_S256x256_1_0_0_1_n_n.rhsIdx_val_of_single rfl _ _).trans hk
    | ⟨1, _⟩ => exact sr_1 _ _)
  rw [el, er]

theorem vl_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem vr_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

theorem vm_apply (a : FVec Ideal S128x256 .bf16) (w : FVec Ideal S256x256 .bf16) (r : Fin 128) (j : Fin 256) :
    matmul (F := Ideal) (φ₁ := .bf16) (φ₂ := .bf16) dot_S128x256_S256x256_S128x256_1_0_0_1_n_n none a w (constant S128x256 .f32 0x00000000#32) (ix2 r j)
      = ∑ k : Fin 256, a (ix2 r k) * w (ix2 k j) := by
  simp only [matmul]
  rw [Ideal.matmul_constant_zero_apply, ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ix2 r j) ((ValueIdx.contrEquiv1 dot_S128x256_S256x256_S128x256_1_0_0_1_n_n 256 rfl rfl).symm k) = ix2 r k := funext fun a => Fin.ext (by
    match a with
    | ⟨0, _⟩ => exact vl_0 _ _
    | ⟨1, _⟩ => exact (dot_S128x256_S256x256_S128x256_1_0_0_1_n_n.lhsIdx_val_of_single rfl _ _).trans hk)
  have er : dot_S128x256_S256x256_S128x256_1_0_0_1_n_n.rhsIdx (ix2 r j) ((ValueIdx.contrEquiv1 dot_S128x256_S256x256_S128x256_1_0_0_1_n_n 256 rfl rfl).symm k) = ix2 k j := funext fun a => Fin.ext (by
    match a with
    | ⟨0, _⟩ => exact (dot_S128x256_S256x256_S128x256_1_0_0_1_n_n.rhsIdx_val_of_single rfl _ _).trans hk
    | ⟨1, _⟩ => exact vr_1 _ _)
  rw [el, er]

/-- A key's entry `e`: the key's own lanes, then its extra ones. -/
def kent (k ka : Vec Ideal S256x128 .bf16) (r e : Fin 256) : EReal :=
  if h : e.val < 128 then k (ix2 r (⟨e.val, h⟩ : Fin 128)) else ka (ix2 r (⟨e.val - 128, by omega⟩ : Fin 128))

theorem tS_apply (k ka : Vec Ideal S256x128 .bf16) (q : Vec Ideal S1x256x256 .bf16) (r c : Fin 256) :
    tS k ka q (ix2 r c) = ∑ e : Fin 256, kent k ka r e * q (ix3 0 e c) := by
  unfold tS
  rw [sm_apply]
  refine Finset.sum_congr rfl fun e _ => ?_
  rw [shapeCast_1ab_ab_apply]
  refine congrArg (· * (q (ix3 0 e c) : EReal)) ?_
  unfold kent
  split
  · next h =>
    exact concatenate_pair_apply_left (t := S256x256) (s₁ := S256x128) (s₂ := S256x128) (1 : Fin 2) k ka _ (ix2 r e) rfl (ix2 r (⟨e.val, h⟩ : Fin 128))
      (fun b => by match b with | ⟨0, _⟩ => rfl | ⟨1, _⟩ => rfl)
  · next h =>
    refine concatenate_pair_apply_right (t := S256x256) (s₁ := S256x128) (s₂ := S256x128) (1 : Fin 2) k ka _ (ix2 r e) rfl rfl (ix2 r (⟨e.val - 128, by omega⟩ : Fin 128))
      (fun b hb => by match b, hb with | ⟨0, _⟩, _ => rfl | ⟨1, _⟩, hb => exact absurd rfl hb) ?_
    show (e.val - 128) + 128 = e.val
    omega

/-- The largest of a tile's scores. -/
def mx (f : Fin 256 → EReal) : EReal := (Finset.univ : Finset (Fin 256)).fold max (Ideal.ofBits .f32 0xFF800000#32) f

theorem ninf : Ideal.ofBits .f32 0xFF800000#32 = ⊥ := by decide

theorem mx_ne_top (f : Fin 256 → EReal) (hf : ∀ k, f k ≠ ⊤) : mx f ≠ ⊤ := by
  unfold mx
  rw [ninf]
  refine ne_of_lt ?_
  rw [Finset.fold_max_lt]
  exact ⟨bot_lt_top, fun k _ => lt_top_iff_ne_top.mpr (hf k)⟩

theorem lift0 (c k : Fin 256) : reduces_S256x256_S256.lift (ix1 c) k = ix2 k c := by
  funext ax; apply Fin.ext
  match ax with
  | ⟨0, _⟩ => rfl
  | ⟨1, _⟩ => rfl

theorem uM_apply (s : FVec Ideal S256x256 .f32) (m : Vec Ideal S1x1x256 .f32) (c : Fin 256) :
    uM s m (ix2 0 c) = max (m (ix3 0 0 c) : EReal) (mx fun k => s (ix2 k c)) := by
  unfold uM
  rw [maximumf_apply, shapeCast_1ab_ab_apply, shapeCast_a_1a_apply]
  refine congrArg (max (m (ix3 0 0 c) : EReal)) ((Ideal.multiReduction_maximumf_single _ _ _ _ _ _).trans ?_)
  unfold mx
  refine congrArg (fun f => (Finset.univ : Finset (Fin 256)).fold max (Ideal.ofBits .f32 0xFF800000#32) f) (funext fun k => ?_)
  exact congrArg s (lift0 c k)

theorem exp2_at {s : Shape} (x : FVec Ideal s .f32) (i : s.Idx) : exp2 x i = Ideal.exp2 (x i) := rfl

theorem uA_apply (s : FVec Ideal S256x256 .f32) (m : Vec Ideal S1x1x256 .f32) (c : Fin 256) :
    uA s m (ix2 0 c) = Ideal.exp2 ((m (ix3 0 0 c) : EReal) - max (m (ix3 0 0 c) : EReal) (mx fun k => s (ix2 k c))) := by
  unfold uA
  rw [exp2_at, subf_apply, uM_apply, shapeCast_1ab_ab_apply]

theorem uP_apply (s : FVec Ideal S256x256 .f32) (m : Vec Ideal S1x1x256 .f32) (k c : Fin 256) :
    uP s m (ix2 k c) = Ideal.exp2 ((s (ix2 k c) : EReal) - max (m (ix3 0 0 c) : EReal) (mx fun k => s (ix2 k c))) := by
  unfold uP
  rw [exp2_at, subf_apply, broadcastTo_1b_ab_apply, uM_apply]

theorem tM_apply (s : FVec Ideal S256x256 .f32) (m : Vec Ideal S1x1x256 .f32) (c : Fin 256) :
    tM s m (ix3 0 0 c) = max (m (ix3 0 0 c) : EReal) (mx fun k => s (ix2 k c)) := by
  unfold tM
  rw [shapeCast_ab_1ab_apply, uM_apply]

theorem tL_apply (s : FVec Ideal S256x256 .f32) (m l : Vec Ideal S1x1x256 .f32) (c : Fin 256) :
    tL s m l (ix3 0 0 c) = Ideal.exp2 ((m (ix3 0 0 c) : EReal) - max (m (ix3 0 0 c) : EReal) (mx fun k => s (ix2 k c))) * l (ix3 0 0 c)
      + ∑ k : Fin 256, Ideal.exp2 ((s (ix2 k c) : EReal) - max (m (ix3 0 0 c) : EReal) (mx fun k => s (ix2 k c))) := by
  unfold tL
  rw [shapeCast_ab_1ab_apply, addf_apply, mulf_apply, uA_apply, shapeCast_1ab_ab_apply, shapeCast_a_1a_apply]
  refine congrArg (fun x : EReal => _ + x) ((Ideal.multiReduction_add_single _ _ _ _ _ _).trans (Finset.sum_congr rfl fun k _ => ?_))
  exact (congrArg (uP s m) (lift0 c k)).trans (uP_apply s m k c)

theorem tA_apply (s : FVec Ideal S256x256 .f32) (m : Vec Ideal S1x1x256 .f32) (v : Vec Ideal S128x256 .bf16) (a : Vec Ideal S1x128x256 .f32) (d : Fin 128) (c : Fin 256) :
    tA s m v a (ix3 0 d c) = Ideal.exp2 ((m (ix3 0 0 c) : EReal) - max (m (ix3 0 0 c) : EReal) (mx fun k => s (ix2 k c))) * a (ix3 0 d c)
      + ∑ k : Fin 256, (v (ix2 d k) : EReal) * Ideal.exp2 ((s (ix2 k c) : EReal) - max (m (ix3 0 0 c) : EReal) (mx fun k => s (ix2 k c))) := by
  unfold tA
  rw [shapeCast_ab_1ab_apply, addf_apply, mulf_apply, broadcastTo_1b_ab_apply, uA_apply, shapeCast_1ab_ab_apply, vm_apply]
  refine congrArg (fun x : EReal => _ + x) (Finset.sum_congr rfl fun k _ => ?_)
  exact congrArg (fun x : EReal => (v (ix2 d k) : EReal) * x) (uP_apply s m k c)

theorem tO_apply (a : Vec Ideal S1x128x256 .f32) (l : Vec Ideal S1x1x256 .f32) (c : Fin 256) (d : Fin 128) :
    tO a l (ix2 c d) = Ideal.div (a (ix3 0 d c)) (l (ix3 0 0 c)) := by
  unfold tO
  rw [transpose_ix2_apply, divf_apply, broadcastTo_1b_ab_apply, shapeCast_1ab_ab_apply, shapeCast_1ab_ab_apply]

/-- One tile's step, read at a column of the head. -/
theorem step {Z N : ℝ} (s : FVec Ideal S256x256 .f32) (m l : Vec Ideal S1x1x256 .f32) (v : Vec Ideal S128x256 .bf16) (a : Vec Ideal S1x128x256 .f32)
    (d : Fin 128) (c : Fin 256) (h : Held Z N (m (ix3 0 0 c)) (l (ix3 0 0 c)) (a (ix3 0 d c))) (hs : ∀ k, s (ix2 k c) ≠ ⊤)
    (w : Fin 256 → ℝ) (hv : ∀ k, v (ix2 d k) = (w k : EReal)) :
    Held (Z + ∑ k, wt (s (ix2 k c))) (N + ∑ k, w k * wt (s (ix2 k c))) (tM s m (ix3 0 0 c)) (tL s m l (ix3 0 0 c)) (tA s m v a (ix3 0 d c)) := by
  rw [tM_apply, tL_apply, tA_apply]
  simp only [hv]
  exact held_step h (fun k => s (ix2 k c)) w _ hs (mx_ne_top _ hs)

end Cert.Kernel6Ideal.Attn
-- ==== Proof.Trip.lean ====
/- One key tile of all eight heads: what the loop's body stores, and what it leaves of a softmax's running maximum and sum. -/
module

public import proofs.«01_k».proof.Proof.Tile
public import Idealize.ShloMosaic.Lib.WritesUnit

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Read

variable {sg : RefSig} {κ : Kind} {sp : Space} {e : EltTy} {Val : EltTy → Type} {n a b : ℕ}

/-- An entry of the newest slab stored. -/
theorem hit (v : View sg κ sp ⟨3, ![n, a, b]⟩ e) (f : v.ty.Contents Val) (h : ℕ)
    (inb : ∀ x, (![h, 0, 0] : Fin 3 → ℕ) x + (![1, a, b] : Fin 3 → ℕ) x ≤ (⟨3, ![n, a, b]⟩ : Shape).size x)
    (w : (Rect.unit (s := ⟨3, ![n, a, b]⟩) ![h, 0, 0] ![1, a, b] inb).shape.Idx → Val e) (L : List (View.Piece Val ⟨3, ![n, a, b]⟩ e))
    (j : Fin n) (hj : j.val = h) (x : Fin a) (y : Fin b) :
    v.read Val (v.writes Val f (⟨Rect.unit (s := ⟨3, ![n, a, b]⟩) ![h, 0, 0] ![1, a, b] inb, w⟩ :: L)) (ix3 j x y) = w (ix3 (0 : Fin 1) x y) :=
  View.read_writes_cons_unit_of_mem v f inb w L _ (ix3 (0 : Fin 1) x y) rfl (fun q => by
    match q with
    | ⟨0, _⟩ => exact hj
    | ⟨1, _⟩ => exact (Nat.zero_add _).symm
    | ⟨2, _⟩ => exact (Nat.zero_add _).symm)

/-- An entry of another slab than the newest stored. -/
theorem miss (v : View sg κ sp ⟨3, ![n, a, b]⟩ e) (f : v.ty.Contents Val) (h : ℕ)
    (inb : ∀ x, (![h, 0, 0] : Fin 3 → ℕ) x + (![1, a, b] : Fin 3 → ℕ) x ≤ (⟨3, ![n, a, b]⟩ : Shape).size x)
    (w : (Rect.unit (s := ⟨3, ![n, a, b]⟩) ![h, 0, 0] ![1, a, b] inb).shape.Idx → Val e) (L : List (View.Piece Val ⟨3, ![n, a, b]⟩ e))
    (j : Fin n) (hj : j.val ≠ h) (x : Fin a) (y : Fin b) :
    v.read Val (v.writes Val f (⟨Rect.unit (s := ⟨3, ![n, a, b]⟩) ![h, 0, 0] ![1, a, b] inb, w⟩ :: L)) (ix3 j x y) = v.read Val (v.writes Val f L) (ix3 j x y) :=
  View.read_writes_cons_unit_of_not_mem v f inb w L _ rfl (0 : Fin 3) (by
    show j.val < h ∨ h + 1 ≤ j.val
    omega)

/-- An entry of a slab loaded. -/
theorem ld3 (X : (⟨3, ![n, a, b]⟩ : Shape).Idx → Val e) (h : ℕ)
    (inb : ∀ x, (![h, 0, 0] : Fin 3 → ℕ) x + (![1, a, b] : Fin 3 → ℕ) x ≤ (⟨3, ![n, a, b]⟩ : Shape).size x) (j : Fin n) (hj : j.val = h) (x : Fin a) (y : Fin b) :
    View.ld X (Rect.unit (s := ⟨3, ![n, a, b]⟩) ![h, 0, 0] ![1, a, b] inb) (ix3 (0 : Fin 1) x y) = X (ix3 j x y) :=
  View.ld_unit_apply_of X _ _ inb _ _ (fun q => by
    match q with
    | ⟨0, _⟩ => exact hj
    | ⟨1, _⟩ => exact (Nat.zero_add _).symm
    | ⟨2, _⟩ => exact (Nat.zero_add _).symm)

/-- An entry of a tile loaded from a matrix. -/
theorem ld2 {c d : ℕ} (X : (⟨2, ![c, d]⟩ : Shape).Idx → Val e) (o : Fin 2 → ℕ)
    (inb : ∀ x, o x + (![a, b] : Fin 2 → ℕ) x ≤ (⟨2, ![c, d]⟩ : Shape).size x) (x : Fin a) (y : Fin b) (j : Fin c) (k : Fin d)
    (hj : j.val = o 0 + x.val) (hk : k.val = o 1 + y.val) :
    View.ld X (Rect.unit (s := ⟨2, ![c, d]⟩) o ![a, b] inb) (ix2 x y) = X (ix2 j k) :=
  View.ld_unit_apply_of X _ _ inb _ _ (fun q => by
    match q with
    | ⟨0, _⟩ => exact hj
    | ⟨1, _⟩ => exact hk)

end Read

/-- A slab stored for each head, the last first. -/
def pcM (g : Fin 8 → Vec Ideal S1x1x256 .f32) (T : List (View.Piece (Elt Ideal) S8x1x256 .f32)) : List (View.Piece (Elt Ideal) S8x1x256 .f32) :=
  ⟨Rect.unit ![7, 0, 0] ![1, 1, 256] inb_S8x1x256_S1x1x256_7_0_0, g 7⟩ :: ⟨Rect.unit ![6, 0, 0] ![1, 1, 256] inb_S8x1x256_S1x1x256_6_0_0, g 6⟩ :: ⟨Rect.unit ![5, 0, 0] ![1, 1, 256] inb_S8x1x256_S1x1x256_5_0_0, g 5⟩ :: ⟨Rect.unit ![4, 0, 0] ![1, 1, 256] inb_S8x1x256_S1x1x256_4_0_0, g 4⟩ :: ⟨Rect.unit ![3, 0, 0] ![1, 1, 256] inb_S8x1x256_S1x1x256_3_0_0, g 3⟩ :: ⟨Rect.unit ![2, 0, 0] ![1, 1, 256] inb_S8x1x256_S1x1x256_2_0_0, g 2⟩ :: ⟨Rect.unit ![1, 0, 0] ![1, 1, 256] inb_S8x1x256_S1x1x256_1_0_0, g 1⟩ :: ⟨Rect.unit ![0, 0, 0] ![1, 1, 256] inb_S8x1x256_S1x1x256_0_0_0, g 0⟩ :: T

theorem pcM_read (v : View sig .tc .vmem S8x1x256 .f32) (f : v.ty.Contents (Elt Ideal)) (g : Fin 8 → Vec Ideal S1x1x256 .f32) (T : List (View.Piece (Elt Ideal) S8x1x256 .f32))
    (h : Fin 8) (x : Fin 1) (y : Fin 256) : v.read (Elt Ideal) (v.writes (Elt Ideal) f (pcM g T)) (ix3 h x y) = g h (ix3 0 x y) := by
  unfold pcM
  match h with
  | ⟨0, _⟩ => exact (miss v f 7 _ _ _ _ (show (0 : ℕ) ≠ 7 by decide) x y).trans ((miss v f 6 _ _ _ _ (show (0 : ℕ) ≠ 6 by decide) x y).trans ((miss v f 5 _ _ _ _ (show (0 : ℕ) ≠ 5 by decide) x y).trans ((miss v f 4 _ _ _ _ (show (0 : ℕ) ≠ 4 by decide) x y).trans ((miss v f 3 _ _ _ _ (show (0 : ℕ) ≠ 3 by decide) x y).trans ((miss v f 2 _ _ _ _ (show (0 : ℕ) ≠ 2 by decide) x y).trans ((miss v f 1 _ _ _ _ (show (0 : ℕ) ≠ 1 by decide) x y).trans (hit v f 0 _ _ _ _ rfl x y)))))))
  | ⟨1, _⟩ => exact (miss v f 7 _ _ _ _ (show (1 : ℕ) ≠ 7 by decide) x y).trans ((miss v f 6 _ _ _ _ (show (1 : ℕ) ≠ 6 by decide) x y).trans ((miss v f 5 _ _ _ _ (show (1 : ℕ) ≠ 5 by decide) x y).trans ((miss v f 4 _ _ _ _ (show (1 : ℕ) ≠ 4 by decide) x y).trans ((miss v f 3 _ _ _ _ (show (1 : ℕ) ≠ 3 by decide) x y).trans ((miss v f 2 _ _ _ _ (show (1 : ℕ) ≠ 2 by decide) x y).trans (hit v f 1 _ _ _ _ rfl x y))))))
  | ⟨2, _⟩ => exact (miss v f 7 _ _ _ _ (show (2 : ℕ) ≠ 7 by decide) x y).trans ((miss v f 6 _ _ _ _ (show (2 : ℕ) ≠ 6 by decide) x y).trans ((miss v f 5 _ _ _ _ (show (2 : ℕ) ≠ 5 by decide) x y).trans ((miss v f 4 _ _ _ _ (show (2 : ℕ) ≠ 4 by decide) x y).trans ((miss v f 3 _ _ _ _ (show (2 : ℕ) ≠ 3 by decide) x y).trans (hit v f 2 _ _ _ _ rfl x y)))))
  | ⟨3, _⟩ => exact (miss v f 7 _ _ _ _ (show (3 : ℕ) ≠ 7 by decide) x y).trans ((miss v f 6 _ _ _ _ (show (3 : ℕ) ≠ 6 by decide) x y).trans ((miss v f 5 _ _ _ _ (show (3 : ℕ) ≠ 5 by decide) x y).trans ((miss v f 4 _ _ _ _ (show (3 : ℕ) ≠ 4 by decide) x y).trans (hit v f 3 _ _ _ _ rfl x y))))
  | ⟨4, _⟩ => exact (miss v f 7 _ _ _ _ (show (4 : ℕ) ≠ 7 by decide) x y).trans ((miss v f 6 _ _ _ _ (show (4 : ℕ) ≠ 6 by decide) x y).trans ((miss v f 5 _ _ _ _ (show (4 : ℕ) ≠ 5 by decide) x y).trans (hit v f 4 _ _ _ _ rfl x y)))
  | ⟨5, _⟩ => exact (miss v f 7 _ _ _ _ (show (5 : ℕ) ≠ 7 by decide) x y).trans ((miss v f 6 _ _ _ _ (show (5 : ℕ) ≠ 6 by decide) x y).trans (hit v f 5 _ _ _ _ rfl x y))
  | ⟨6, _⟩ => exact (miss v f 7 _ _ _ _ (show (6 : ℕ) ≠ 7 by decide) x y).trans (hit v f 6 _ _ _ _ rfl x y)
  | ⟨7, _⟩ => exact hit v f 7 _ _ _ _ rfl x y

/-- A slab stored for each head, the last first. -/
def pcA (g : Fin 8 → Vec Ideal S1x128x256 .f32) (T : List (View.Piece (Elt Ideal) S8x128x256 .f32)) : List (View.Piece (Elt Ideal) S8x128x256 .f32) :=
  ⟨Rect.unit ![7, 0, 0] ![1, 128, 256] inb_S8x128x256_S1x128x256_7_0_0, g 7⟩ :: ⟨Rect.unit ![6, 0, 0] ![1, 128, 256] inb_S8x128x256_S1x128x256_6_0_0, g 6⟩ :: ⟨Rect.unit ![5, 0, 0] ![1, 128, 256] inb_S8x128x256_S1x128x256_5_0_0, g 5⟩ :: ⟨Rect.unit ![4, 0, 0] ![1, 128, 256] inb_S8x128x256_S1x128x256_4_0_0, g 4⟩ :: ⟨Rect.unit ![3, 0, 0] ![1, 128, 256] inb_S8x128x256_S1x128x256_3_0_0, g 3⟩ :: ⟨Rect.unit ![2, 0, 0] ![1, 128, 256] inb_S8x128x256_S1x128x256_2_0_0, g 2⟩ :: ⟨Rect.unit ![1, 0, 0] ![1, 128, 256] inb_S8x128x256_S1x128x256_1_0_0, g 1⟩ :: ⟨Rect.unit ![0, 0, 0] ![1, 128, 256] inb_S8x128x256_S1x128x256_0_0_0, g 0⟩ :: T

theorem pcA_read (v : View sig .tc .vmem S8x128x256 .f32) (f : v.ty.Contents (Elt Ideal)) (g : Fin 8 → Vec Ideal S1x128x256 .f32) (T : List (View.Piece (Elt Ideal) S8x128x256 .f32))
    (h : Fin 8) (x : Fin 128) (y : Fin 256) : v.read (Elt Ideal) (v.writes (Elt Ideal) f (pcA g T)) (ix3 h x y) = g h (ix3 0 x y) := by
  unfold pcA
  match h with
  | ⟨0, _⟩ => exact (miss v f 7 _ _ _ _ (show (0 : ℕ) ≠ 7 by decide) x y).trans ((miss v f 6 _ _ _ _ (show (0 : ℕ) ≠ 6 by decide) x y).trans ((miss v f 5 _ _ _ _ (show (0 : ℕ) ≠ 5 by decide) x y).trans ((miss v f 4 _ _ _ _ (show (0 : ℕ) ≠ 4 by decide) x y).trans ((miss v f 3 _ _ _ _ (show (0 : ℕ) ≠ 3 by decide) x y).trans ((miss v f 2 _ _ _ _ (show (0 : ℕ) ≠ 2 by decide) x y).trans ((miss v f 1 _ _ _ _ (show (0 : ℕ) ≠ 1 by decide) x y).trans (hit v f 0 _ _ _ _ rfl x y)))))))
  | ⟨1, _⟩ => exact (miss v f 7 _ _ _ _ (show (1 : ℕ) ≠ 7 by decide) x y).trans ((miss v f 6 _ _ _ _ (show (1 : ℕ) ≠ 6 by decide) x y).trans ((miss v f 5 _ _ _ _ (show (1 : ℕ) ≠ 5 by decide) x y).trans ((miss v f 4 _ _ _ _ (show (1 : ℕ) ≠ 4 by decide) x y).trans ((miss v f 3 _ _ _ _ (show (1 : ℕ) ≠ 3 by decide) x y).trans ((miss v f 2 _ _ _ _ (show (1 : ℕ) ≠ 2 by decide) x y).trans (hit v f 1 _ _ _ _ rfl x y))))))
  | ⟨2, _⟩ => exact (miss v f 7 _ _ _ _ (show (2 : ℕ) ≠ 7 by decide) x y).trans ((miss v f 6 _ _ _ _ (show (2 : ℕ) ≠ 6 by decide) x y).trans ((miss v f 5 _ _ _ _ (show (2 : ℕ) ≠ 5 by decide) x y).trans ((miss v f 4 _ _ _ _ (show (2 : ℕ) ≠ 4 by decide) x y).trans ((miss v f 3 _ _ _ _ (show (2 : ℕ) ≠ 3 by decide) x y).trans (hit v f 2 _ _ _ _ rfl x y)))))
  | ⟨3, _⟩ => exact (miss v f 7 _ _ _ _ (show (3 : ℕ) ≠ 7 by decide) x y).trans ((miss v f 6 _ _ _ _ (show (3 : ℕ) ≠ 6 by decide) x y).trans ((miss v f 5 _ _ _ _ (show (3 : ℕ) ≠ 5 by decide) x y).trans ((miss v f 4 _ _ _ _ (show (3 : ℕ) ≠ 4 by decide) x y).trans (hit v f 3 _ _ _ _ rfl x y))))
  | ⟨4, _⟩ => exact (miss v f 7 _ _ _ _ (show (4 : ℕ) ≠ 7 by decide) x y).trans ((miss v f 6 _ _ _ _ (show (4 : ℕ) ≠ 6 by decide) x y).trans ((miss v f 5 _ _ _ _ (show (4 : ℕ) ≠ 5 by decide) x y).trans (hit v f 4 _ _ _ _ rfl x y)))
  | ⟨5, _⟩ => exact (miss v f 7 _ _ _ _ (show (5 : ℕ) ≠ 7 by decide) x y).trans ((miss v f 6 _ _ _ _ (show (5 : ℕ) ≠ 6 by decide) x y).trans (hit v f 5 _ _ _ _ rfl x y))
  | ⟨6, _⟩ => exact (miss v f 7 _ _ _ _ (show (6 : ℕ) ≠ 7 by decide) x y).trans (hit v f 6 _ _ _ _ rfl x y)
  | ⟨7, _⟩ => exact hit v f 7 _ _ _ _ rfl x y

/-- A slab stored for each head, the last first. -/
def pcS (g : Fin 4 → Vec Ideal S1x256x256 .f32) (T : List (View.Piece (Elt Ideal) S4x256x256 .f32)) : List (View.Piece (Elt Ideal) S4x256x256 .f32) :=
  ⟨Rect.unit ![3, 0, 0] ![1, 256, 256] inb_S4x256x256_S1x256x256_3_0_0, g 3⟩ :: ⟨Rect.unit ![2, 0, 0] ![1, 256, 256] inb_S4x256x256_S1x256x256_2_0_0, g 2⟩ :: ⟨Rect.unit ![1, 0, 0] ![1, 256, 256] inb_S4x256x256_S1x256x256_1_0_0, g 1⟩ :: ⟨Rect.unit ![0, 0, 0] ![1, 256, 256] inb_S4x256x256_S1x256x256_0_0_0, g 0⟩ :: T

theorem pcS_read (v : View sig .tc .vmem S4x256x256 .f32) (f : v.ty.Contents (Elt Ideal)) (g : Fin 4 → Vec Ideal S1x256x256 .f32) (T : List (View.Piece (Elt Ideal) S4x256x256 .f32))
    (h : Fin 4) (x : Fin 256) (y : Fin 256) : v.read (Elt Ideal) (v.writes (Elt Ideal) f (pcS g T)) (ix3 h x y) = g h (ix3 0 x y) := by
  unfold pcS
  match h with
  | ⟨0, _⟩ => exact (miss v f 3 _ _ _ _ (show (0 : ℕ) ≠ 3 by decide) x y).trans ((miss v f 2 _ _ _ _ (show (0 : ℕ) ≠ 2 by decide) x y).trans ((miss v f 1 _ _ _ _ (show (0 : ℕ) ≠ 1 by decide) x y).trans (hit v f 0 _ _ _ _ rfl x y)))
  | ⟨1, _⟩ => exact (miss v f 3 _ _ _ _ (show (1 : ℕ) ≠ 3 by decide) x y).trans ((miss v f 2 _ _ _ _ (show (1 : ℕ) ≠ 2 by decide) x y).trans (hit v f 1 _ _ _ _ rfl x y))
  | ⟨2, _⟩ => exact (miss v f 3 _ _ _ _ (show (2 : ℕ) ≠ 3 by decide) x y).trans (hit v f 2 _ _ _ _ rfl x y)
  | ⟨3, _⟩ => exact hit v f 3 _ _ _ _ rfl x y

/-- The slab of a head. -/
def mF (X : S8x1x256.Idx → Elt Ideal .f32) : Fin 8 → Vec Ideal S1x1x256 .f32 :=
  ![(View.ld X (Rect.unit ![0, 0, 0] S1x1x256.size inb_S8x1x256_S1x1x256_0_0_0)), (View.ld X (Rect.unit ![1, 0, 0] S1x1x256.size inb_S8x1x256_S1x1x256_1_0_0)), (View.ld X (Rect.unit ![2, 0, 0] S1x1x256.size inb_S8x1x256_S1x1x256_2_0_0)), (View.ld X (Rect.unit ![3, 0, 0] S1x1x256.size inb_S8x1x256_S1x1x256_3_0_0)), (View.ld X (Rect.unit ![4, 0, 0] S1x1x256.size inb_S8x1x256_S1x1x256_4_0_0)), (View.ld X (Rect.unit ![5, 0, 0] S1x1x256.size inb_S8x1x256_S1x1x256_5_0_0)), (View.ld X (Rect.unit ![6, 0, 0] S1x1x256.size inb_S8x1x256_S1x1x256_6_0_0)), (View.ld X (Rect.unit ![7, 0, 0] S1x1x256.size inb_S8x1x256_S1x1x256_7_0_0))]

theorem mF_apply (X : S8x1x256.Idx → Elt Ideal .f32) (h : Fin 8) (x : Fin 1) (y : Fin 256) : mF X h (ix3 0 x y) = X (ix3 h x y) := by
  match h with
  | ⟨0, _⟩ => exact ld3 X 0 _ _ rfl x y
  | ⟨1, _⟩ => exact ld3 X 1 _ _ rfl x y
  | ⟨2, _⟩ => exact ld3 X 2 _ _ rfl x y
  | ⟨3, _⟩ => exact ld3 X 3 _ _ rfl x y
  | ⟨4, _⟩ => exact ld3 X 4 _ _ rfl x y
  | ⟨5, _⟩ => exact ld3 X 5 _ _ rfl x y
  | ⟨6, _⟩ => exact ld3 X 6 _ _ rfl x y
  | ⟨7, _⟩ => exact ld3 X 7 _ _ rfl x y

/-- The slab of a head. -/
def aF (X : S8x128x256.Idx → Elt Ideal .f32) : Fin 8 → Vec Ideal S1x128x256 .f32 :=
  ![(View.ld X (Rect.unit ![0, 0, 0] S1x128x256.size inb_S8x128x256_S1x128x256_0_0_0)), (View.ld X (Rect.unit ![1, 0, 0] S1x128x256.size inb_S8x128x256_S1x128x256_1_0_0)), (View.ld X (Rect.unit ![2, 0, 0] S1x128x256.size inb_S8x128x256_S1x128x256_2_0_0)), (View.ld X (Rect.unit ![3, 0, 0] S1x128x256.size inb_S8x128x256_S1x128x256_3_0_0)), (View.ld X (Rect.unit ![4, 0, 0] S1x128x256.size inb_S8x128x256_S1x128x256_4_0_0)), (View.ld X (Rect.unit ![5, 0, 0] S1x128x256.size inb_S8x128x256_S1x128x256_5_0_0)), (View.ld X (Rect.unit ![6, 0, 0] S1x128x256.size inb_S8x128x256_S1x128x256_6_0_0)), (View.ld X (Rect.unit ![7, 0, 0] S1x128x256.size inb_S8x128x256_S1x128x256_7_0_0))]

theorem aF_apply (X : S8x128x256.Idx → Elt Ideal .f32) (h : Fin 8) (x : Fin 128) (y : Fin 256) : aF X h (ix3 0 x y) = X (ix3 h x y) := by
  match h with
  | ⟨0, _⟩ => exact ld3 X 0 _ _ rfl x y
  | ⟨1, _⟩ => exact ld3 X 1 _ _ rfl x y
  | ⟨2, _⟩ => exact ld3 X 2 _ _ rfl x y
  | ⟨3, _⟩ => exact ld3 X 3 _ _ rfl x y
  | ⟨4, _⟩ => exact ld3 X 4 _ _ rfl x y
  | ⟨5, _⟩ => exact ld3 X 5 _ _ rfl x y
  | ⟨6, _⟩ => exact ld3 X 6 _ _ rfl x y
  | ⟨7, _⟩ => exact ld3 X 7 _ _ rfl x y

/-- The slab of a head. -/
def pF (X : S4x256x256.Idx → Elt Ideal .f32) : Fin 4 → Vec Ideal S1x256x256 .f32 :=
  ![(View.ld X (Rect.unit ![0, 0, 0] S1x256x256.size inb_S4x256x256_S1x256x256_0_0_0)), (View.ld X (Rect.unit ![1, 0, 0] S1x256x256.size inb_S4x256x256_S1x256x256_1_0_0)), (View.ld X (Rect.unit ![2, 0, 0] S1x256x256.size inb_S4x256x256_S1x256x256_2_0_0)), (View.ld X (Rect.unit ![3, 0, 0] S1x256x256.size inb_S4x256x256_S1x256x256_3_0_0))]

theorem pF_apply (X : S4x256x256.Idx → Elt Ideal .f32) (h : Fin 4) (x : Fin 256) (y : Fin 256) : pF X h (ix3 0 x y) = X (ix3 h x y) := by
  match h with
  | ⟨0, _⟩ => exact ld3 X 0 _ _ rfl x y
  | ⟨1, _⟩ => exact ld3 X 1 _ _ rfl x y
  | ⟨2, _⟩ => exact ld3 X 2 _ _ rfl x y
  | ⟨3, _⟩ => exact ld3 X 3 _ _ rfl x y

/-- The slab of a head. -/
def qF (X : S8x256x256.Idx → Elt Ideal .bf16) : Fin 8 → Vec Ideal S1x256x256 .bf16 :=
  ![(View.ld X (Rect.unit ![0, 0, 0] S1x256x256.size inb_S8x256x256_S1x256x256_0_0_0)), (View.ld X (Rect.unit ![1, 0, 0] S1x256x256.size inb_S8x256x256_S1x256x256_1_0_0)), (View.ld X (Rect.unit ![2, 0, 0] S1x256x256.size inb_S8x256x256_S1x256x256_2_0_0)), (View.ld X (Rect.unit ![3, 0, 0] S1x256x256.size inb_S8x256x256_S1x256x256_3_0_0)), (View.ld X (Rect.unit ![4, 0, 0] S1x256x256.size inb_S8x256x256_S1x256x256_4_0_0)), (View.ld X (Rect.unit ![5, 0, 0] S1x256x256.size inb_S8x256x256_S1x256x256_5_0_0)), (View.ld X (Rect.unit ![6, 0, 0] S1x256x256.size inb_S8x256x256_S1x256x256_6_0_0)), (View.ld X (Rect.unit ![7, 0, 0] S1x256x256.size inb_S8x256x256_S1x256x256_7_0_0))]

theorem qF_apply (X : S8x256x256.Idx → Elt Ideal .bf16) (h : Fin 8) (x : Fin 256) (y : Fin 256) : qF X h (ix3 0 x y) = X (ix3 h x y) := by
  match h with
  | ⟨0, _⟩ => exact ld3 X 0 _ _ rfl x y
  | ⟨1, _⟩ => exact ld3 X 1 _ _ rfl x y
  | ⟨2, _⟩ => exact ld3 X 2 _ _ rfl x y
  | ⟨3, _⟩ => exact ld3 X 3 _ _ rfl x y
  | ⟨4, _⟩ => exact ld3 X 4 _ _ rfl x y
  | ⟨5, _⟩ => exact ld3 X 5 _ _ rfl x y
  | ⟨6, _⟩ => exact ld3 X 6 _ _ rfl x y
  | ⟨7, _⟩ => exact ld3 X 7 _ _ rfl x y

/-- The key at position `r` of tile `n`. -/
def kj (n : ℕ) (r : Fin 256) : Fin 4096 := ⟨(n * 256 + r.val) % 4096, Nat.mod_lt _ (by decide)⟩

theorem kj_val (n : ℕ) (hn : n < 16) (r : Fin 256) : (kj n r).val = n * 256 + r.val := Nat.mod_eq_of_lt (by omega)

/-- Lane `e` of head `h`. -/
def hd (h : Fin 8) (e : Fin 128) : Fin 1024 := ⟨h.val * 128 + e.val, by omega⟩

/-- The score of key `j` for the query of column `c`. -/
def sig0 (K : S4096x1024.Idx → EReal) (KA : S4096x128.Idx → EReal) (Q : S8x256x256.Idx → EReal) (h : Fin 8) (j : Fin 4096) (c : Fin 256) : EReal :=
  ∑ e : Fin 256, (if he : e.val < 128 then K (ix2 j (hd h ⟨e.val, he⟩)) else KA (ix2 j (⟨e.val - 128, by omega⟩ : Fin 128))) * Q (ix3 h e c)

theorem tS_sig (K : S4096x1024.Idx → Elt Ideal .bf16) (KA : S4096x128.Idx → Elt Ideal .bf16) (Q : S8x256x256.Idx → Elt Ideal .bf16) (n : ℕ) (hn : n < 16) (h : Fin 8)
    (o o' : Fin 2 → ℕ) (inb : ∀ a, o a + S256x128.size a ≤ S4096x1024.size a) (inb' : ∀ a, o' a + S256x128.size a ≤ S4096x128.size a)
    (ho : o = ![n * 256, h.val * 128]) (ho' : o' = ![n * 256, 0]) (r c : Fin 256) :
    tS (View.ld K (Rect.unit o S256x128.size inb)) (View.ld KA (Rect.unit o' S256x128.size inb')) (qF Q h) (ix2 r c) = sig0 K KA Q h (kj n r) c := by
  rw [tS_apply]
  unfold sig0
  refine Finset.sum_congr rfl fun e _ => ?_
  rw [qF_apply]
  refine congrArg (· * (Q (ix3 h e c) : EReal)) ?_
  unfold kent
  split
  · next he =>
    refine (ld2 (a := 256) (b := 128) (c := 4096) (d := 1024) K o inb r ⟨e.val, he⟩ (kj n r) (hd h ⟨e.val, he⟩) ?_ ?_).trans rfl
    · rw [ho, kj_val n hn]; rfl
    · rw [ho]; rfl
  · next he =>
    refine (ld2 (a := 256) (b := 128) (c := 4096) (d := 128) KA o' inb' r ⟨e.val - 128, by omega⟩ (kj n r) ⟨e.val - 128, by omega⟩ ?_ ?_).trans rfl
    · rw [ho', kj_val n hn]; rfl
    · rw [ho']; exact (Nat.zero_add _).symm

section Trip

variable (i : grid0.Coords) (k : Fin (k0_t1_loop i).trips)

/-- The scores the trip works on. -/
def sF (K : S4096x1024.Idx → Elt Ideal .bf16) (KA : S4096x128.Idx → Elt Ideal .bf16) (Q : S8x256x256.Idx → Elt Ideal .bf16) (P : S4x256x256.Idx → Elt Ideal .f32) : Fin 8 → FVec Ideal S256x256 .f32 :=
  ![shapeCast S256x256 (pF P 0) shapeCasts_S1x256x256_S256x256, shapeCast S256x256 (pF P 1) shapeCasts_S1x256x256_S256x256, shapeCast S256x256 (pF P 2) shapeCasts_S1x256x256_S256x256, shapeCast S256x256 (pF P 3) shapeCasts_S1x256x256_S256x256, tS (View.ld K (Rect.unit (k0_off1 i k) S256x128.size (k0_off1_inb i k))) (View.ld KA (Rect.unit (k0_off2 i k) S256x128.size (k0_off2_inb i k))) (qF Q 4), tS (View.ld K (Rect.unit (k0_off4 i k) S256x128.size (k0_off4_inb i k))) (View.ld KA (Rect.unit (k0_off2 i k) S256x128.size (k0_off2_inb i k))) (qF Q 5), tS (View.ld K (Rect.unit (k0_off6 i k) S256x128.size (k0_off6_inb i k))) (View.ld KA (Rect.unit (k0_off2 i k) S256x128.size (k0_off2_inb i k))) (qF Q 6), tS (View.ld K (Rect.unit (k0_off8 i k) S256x128.size (k0_off8_inb i k))) (View.ld KA (Rect.unit (k0_off2 i k) S256x128.size (k0_off2_inb i k))) (qF Q 7)]

/-- The next tile's scores of the first heads. -/
def nF (K : S4096x1024.Idx → Elt Ideal .bf16) (KA : S4096x128.Idx → Elt Ideal .bf16) (Q : S8x256x256.Idx → Elt Ideal .bf16) : Fin 4 → Vec Ideal S1x256x256 .f32 :=
  ![shapeCast S1x256x256 (tS (View.ld K (Rect.unit (k0_off10 i k) S256x128.size (k0_off10_inb i k))) (View.ld KA (Rect.unit (k0_off11 i k) S256x128.size (k0_off11_inb i k))) (qF Q 0)) shapeCasts_S256x256_S1x256x256, shapeCast S1x256x256 (tS (View.ld K (Rect.unit (k0_off13 i k) S256x128.size (k0_off13_inb i k))) (View.ld KA (Rect.unit (k0_off11 i k) S256x128.size (k0_off11_inb i k))) (qF Q 1)) shapeCasts_S256x256_S1x256x256, shapeCast S1x256x256 (tS (View.ld K (Rect.unit (k0_off15 i k) S256x128.size (k0_off15_inb i k))) (View.ld KA (Rect.unit (k0_off11 i k) S256x128.size (k0_off11_inb i k))) (qF Q 2)) shapeCasts_S256x256_S1x256x256, shapeCast S1x256x256 (tS (View.ld K (Rect.unit (k0_off17 i k) S256x128.size (k0_off17_inb i k))) (View.ld KA (Rect.unit (k0_off11 i k) S256x128.size (k0_off11_inb i k))) (qF Q 3)) shapeCasts_S256x256_S1x256x256]

/-- The values' tile of a head. -/
def vF (V : S1024x4096.Idx → Elt Ideal .bf16) : Fin 8 → Vec Ideal S128x256 .bf16 :=
  ![(View.ld V (Rect.unit (k0_off3 i k) S128x256.size (k0_off3_inb i k))), (View.ld V (Rect.unit (k0_off5 i k) S128x256.size (k0_off5_inb i k))), (View.ld V (Rect.unit (k0_off7 i k) S128x256.size (k0_off7_inb i k))), (View.ld V (Rect.unit (k0_off9 i k) S128x256.size (k0_off9_inb i k))), (View.ld V (Rect.unit (k0_off12 i k) S128x256.size (k0_off12_inb i k))), (View.ld V (Rect.unit (k0_off14 i k) S128x256.size (k0_off14_inb i k))), (View.ld V (Rect.unit (k0_off16 i k) S128x256.size (k0_off16_inb i k))), (View.ld V (Rect.unit (k0_off18 i k) S128x256.size (k0_off18_inb i k)))]

end Trip

section Lists

variable (𝒱 : Variants) (c : Dev nD) (bd : Option 𝒱.V) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (arg1 : BitVec 32) (v154 : Vec Ideal S256x128 .bf16)
  (X4 : BufTy.Contents (Elt Ideal) arg4.view.ty) (X5 : BufTy.Contents (Elt Ideal) arg5.view.ty) (X6 : BufTy.Contents (Elt Ideal) arg6.view.ty) (X11 : BufTy.Contents (Elt Ideal) arg11.view.ty) (k : Fin (k0_t1_loop i).trips) (f8 : BufTy.Contents (Elt Ideal) arg8.view.ty) (f9 : BufTy.Contents (Elt Ideal) arg9.view.ty) (f10 : BufTy.Contents (Elt Ideal) arg10.view.ty) (f12 : BufTy.Contents (Elt Ideal) arg12.view.ty)

theorem trip_m (T) : (trip_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 k).1 f8 f9 f10 f12 ++ T = pcM (fun h => tM (sF i k (arg4.view.read (Elt Ideal) X4) (arg5.view.read (Elt Ideal) X5) (arg11.view.read (Elt Ideal) X11) (arg12.view.read (Elt Ideal) f12) h) (mF (arg8.view.read (Elt Ideal) f8) h)) T := by
  unfold trip_k0_t1
  dsimp only
  rfl

theorem trip_l (T) : (trip_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 k).2.1 f8 f9 f10 f12 ++ T = pcM (fun h => tL (sF i k (arg4.view.read (Elt Ideal) X4) (arg5.view.read (Elt Ideal) X5) (arg11.view.read (Elt Ideal) X11) (arg12.view.read (Elt Ideal) f12) h) (mF (arg8.view.read (Elt Ideal) f8) h) (mF (arg9.view.read (Elt Ideal) f9) h)) T := by
  unfold trip_k0_t1
  dsimp only
  rfl

theorem trip_a (T) : (trip_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 k).2.2.1 f8 f9 f10 f12 ++ T = pcA (fun h => tA (sF i k (arg4.view.read (Elt Ideal) X4) (arg5.view.read (Elt Ideal) X5) (arg11.view.read (Elt Ideal) X11) (arg12.view.read (Elt Ideal) f12) h) (mF (arg8.view.read (Elt Ideal) f8) h) (vF i k (arg6.view.read (Elt Ideal) X6) h) (aF (arg10.view.read (Elt Ideal) f10) h)) T := by
  unfold trip_k0_t1
  dsimp only
  rfl

theorem trip_s (T) : (trip_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 k).2.2.2.1 f8 f9 f10 f12 ++ T = pcS (nF i k (arg4.view.read (Elt Ideal) X4) (arg5.view.read (Elt Ideal) X5) (arg11.view.read (Elt Ideal) X11)) T := by
  unfold trip_k0_t1
  dsimp only
  rfl

end Lists

end Cert.Kernel6Ideal.Attn
-- ==== Proof.Loop.lean ====
/- The loop over the key tiles below the diagonal: what it leaves of the softmax's running maximum and sum. -/
module

public import proofs.«01_k».proof.Proof.Trip

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

theorem trips1 : ∀ i : grid0.Coords, (k0_t1_loop i).trips = (i 1).val := by decide +kernel

theorem trips2 : ∀ i : grid0.Coords, (k0_t2_loop i).trips = 0 := by decide +kernel

theorem lt16 (i : grid0.Coords) (k : Fin (k0_t1_loop i).trips) : k.val + 1 < 16 := by
  have h1 := k.isLt
  have h2 := trips1 i
  have h3 : (i 1).val < 16 := (i 1).isLt
  omega

theorem tile0 : ∀ n : Fin 16, (Scalar.indexCast (Scalar.muli (Scf.iv 0#32 1#32 n.val) 256#32)).toNat = n.val * 256 := by decide +kernel

theorem tile1 : ∀ n : Fin 15, (Scalar.indexCast (Scalar.muli (Scalar.addi (Scf.iv 0#32 1#32 n.val) 1#32) 256#32)).toNat = (n.val + 1) * 256 := by decide +kernel

theorem tile2 : ∀ n : Fin 16, (Scalar.indexCast (Scalar.muli (BitVec.ofNat 32 n.val) 256#32)).toNat = n.val * 256 := by decide +kernel

section Offsets

variable (i : grid0.Coords) (k : Fin (k0_t1_loop i).trips)

theorem o1 : k0_off1 i k = ![k.val * 256, 512] := by
  unfold k0_off1
  dsimp only
  rw [show _ = _ from tile0 ⟨k.val, (by have := lt16 i k; omega)⟩]

theorem o4 : k0_off4 i k = ![k.val * 256, 640] := by
  unfold k0_off4
  dsimp only
  rw [show _ = _ from tile0 ⟨k.val, (by have := lt16 i k; omega)⟩]

theorem o6 : k0_off6 i k = ![k.val * 256, 768] := by
  unfold k0_off6
  dsimp only
  rw [show _ = _ from tile0 ⟨k.val, (by have := lt16 i k; omega)⟩]

theorem o8 : k0_off8 i k = ![k.val * 256, 896] := by
  unfold k0_off8
  dsimp only
  rw [show _ = _ from tile0 ⟨k.val, (by have := lt16 i k; omega)⟩]

theorem o2 : k0_off2 i k = ![k.val * 256, 0] := by
  unfold k0_off2
  dsimp only
  rw [show _ = _ from tile0 ⟨k.val, (by have := lt16 i k; omega)⟩]

theorem o3 : k0_off3 i k = ![0, k.val * 256] := by
  unfold k0_off3
  dsimp only
  rw [show _ = _ from tile0 ⟨k.val, (by have := lt16 i k; omega)⟩]

theorem o5 : k0_off5 i k = ![128, k.val * 256] := by
  unfold k0_off5
  dsimp only
  rw [show _ = _ from tile0 ⟨k.val, (by have := lt16 i k; omega)⟩]

theorem o7 : k0_off7 i k = ![256, k.val * 256] := by
  unfold k0_off7
  dsimp only
  rw [show _ = _ from tile0 ⟨k.val, (by have := lt16 i k; omega)⟩]

theorem o9 : k0_off9 i k = ![384, k.val * 256] := by
  unfold k0_off9
  dsimp only
  rw [show _ = _ from tile0 ⟨k.val, (by have := lt16 i k; omega)⟩]

theorem o12 : k0_off12 i k = ![512, k.val * 256] := by
  unfold k0_off12
  dsimp only
  rw [show _ = _ from tile0 ⟨k.val, (by have := lt16 i k; omega)⟩]

theorem o14 : k0_off14 i k = ![640, k.val * 256] := by
  unfold k0_off14
  dsimp only
  rw [show _ = _ from tile0 ⟨k.val, (by have := lt16 i k; omega)⟩]

theorem o16 : k0_off16 i k = ![768, k.val * 256] := by
  unfold k0_off16
  dsimp only
  rw [show _ = _ from tile0 ⟨k.val, (by have := lt16 i k; omega)⟩]

theorem o18 : k0_off18 i k = ![896, k.val * 256] := by
  unfold k0_off18
  dsimp only
  rw [show _ = _ from tile0 ⟨k.val, (by have := lt16 i k; omega)⟩]

theorem o10 : k0_off10 i k = ![(k.val + 1) * 256, 0] := by
  unfold k0_off10
  dsimp only
  rw [show _ = _ from tile1 ⟨k.val, (by have := lt16 i k; omega)⟩]

theorem o13 : k0_off13 i k = ![(k.val + 1) * 256, 128] := by
  unfold k0_off13
  dsimp only
  rw [show _ = _ from tile1 ⟨k.val, (by have := lt16 i k; omega)⟩]

theorem o15 : k0_off15 i k = ![(k.val + 1) * 256, 256] := by
  unfold k0_off15
  dsimp only
  rw [show _ = _ from tile1 ⟨k.val, (by have := lt16 i k; omega)⟩]

theorem o17 : k0_off17 i k = ![(k.val + 1) * 256, 384] := by
  unfold k0_off17
  dsimp only
  rw [show _ = _ from tile1 ⟨k.val, (by have := lt16 i k; omega)⟩]

theorem o11 : k0_off11 i k = ![(k.val + 1) * 256, 0] := by
  unfold k0_off11
  dsimp only
  rw [show _ = _ from tile1 ⟨k.val, (by have := lt16 i k; omega)⟩]

end Offsets

section Scores

variable (i : grid0.Coords) (k : Fin (k0_t1_loop i).trips) (K : S4096x1024.Idx → Elt Ideal .bf16) (KA : S4096x128.Idx → Elt Ideal .bf16) (Q : S8x256x256.Idx → Elt Ideal .bf16)

theorem sF_sig (P : S4x256x256.Idx → Elt Ideal .f32) (hP : ∀ (a : Fin 4) (r c : Fin 256), P (ix3 a r c) = sig0 K KA Q (⟨a.val, by omega⟩ : Fin 8) (kj k.val r) c) (h : Fin 8) (r c : Fin 256) :
    sF i k K KA Q P h (ix2 r c) = sig0 K KA Q h (kj k.val r) c := by
  have hn := lt16 i k
  match h with
  | ⟨0, _⟩ => exact (shapeCast_1ab_ab_apply _ _ r c).trans ((pF_apply P 0 r c).trans (hP 0 r c))
  | ⟨1, _⟩ => exact (shapeCast_1ab_ab_apply _ _ r c).trans ((pF_apply P 1 r c).trans (hP 1 r c))
  | ⟨2, _⟩ => exact (shapeCast_1ab_ab_apply _ _ r c).trans ((pF_apply P 2 r c).trans (hP 2 r c))
  | ⟨3, _⟩ => exact (shapeCast_1ab_ab_apply _ _ r c).trans ((pF_apply P 3 r c).trans (hP 3 r c))
  | ⟨4, _⟩ => exact tS_sig K KA Q k.val (by omega) 4 _ _ _ _ (o1 i k) (o2 i k) r c
  | ⟨5, _⟩ => exact tS_sig K KA Q k.val (by omega) 5 _ _ _ _ (o4 i k) (o2 i k) r c
  | ⟨6, _⟩ => exact tS_sig K KA Q k.val (by omega) 6 _ _ _ _ (o6 i k) (o2 i k) r c
  | ⟨7, _⟩ => exact tS_sig K KA Q k.val (by omega) 7 _ _ _ _ (o8 i k) (o2 i k) r c

theorem nF_sig (a : Fin 4) (r c : Fin 256) : nF i k K KA Q a (ix3 0 r c) = sig0 K KA Q (⟨a.val, by omega⟩ : Fin 8) (kj (k.val + 1) r) c := by
  have hn := lt16 i k
  match a with
  | ⟨0, _⟩ => exact (shapeCast_ab_1ab_apply _ _ 0 r c).trans (tS_sig K KA Q (k.val + 1) hn 0 _ _ _ _ (o10 i k) (o11 i k) r c)
  | ⟨1, _⟩ => exact (shapeCast_ab_1ab_apply _ _ 0 r c).trans (tS_sig K KA Q (k.val + 1) hn 1 _ _ _ _ (o13 i k) (o11 i k) r c)
  | ⟨2, _⟩ => exact (shapeCast_ab_1ab_apply _ _ 0 r c).trans (tS_sig K KA Q (k.val + 1) hn 2 _ _ _ _ (o15 i k) (o11 i k) r c)
  | ⟨3, _⟩ => exact (shapeCast_ab_1ab_apply _ _ 0 r c).trans (tS_sig K KA Q (k.val + 1) hn 3 _ _ _ _ (o17 i k) (o11 i k) r c)

theorem vF_val (V : S1024x4096.Idx → Elt Ideal .bf16) (h : Fin 8) (d : Fin 128) (r : Fin 256) : vF i k V h (ix2 d r) = V (ix2 (hd h d) (kj k.val r)) := by
  have hn := lt16 i k
  have hk : (kj k.val r).val = k.val * 256 + r.val := kj_val k.val (by omega) r
  match h with
  | ⟨0, _⟩ =>
    refine ld2 (a := 128) (b := 256) (c := 1024) (d := 4096) V _ _ d r (hd 0 d) (kj k.val r) ?_ ?_
    · rw [o3 i k]; rfl
    · rw [o3 i k]; exact hk
  | ⟨1, _⟩ =>
    refine ld2 (a := 128) (b := 256) (c := 1024) (d := 4096) V _ _ d r (hd 1 d) (kj k.val r) ?_ ?_
    · rw [o5 i k]; rfl
    · rw [o5 i k]; exact hk
  | ⟨2, _⟩ =>
    refine ld2 (a := 128) (b := 256) (c := 1024) (d := 4096) V _ _ d r (hd 2 d) (kj k.val r) ?_ ?_
    · rw [o7 i k]; rfl
    · rw [o7 i k]; exact hk
  | ⟨3, _⟩ =>
    refine ld2 (a := 128) (b := 256) (c := 1024) (d := 4096) V _ _ d r (hd 3 d) (kj k.val r) ?_ ?_
    · rw [o9 i k]; rfl
    · rw [o9 i k]; exact hk
  | ⟨4, _⟩ =>
    refine ld2 (a := 128) (b := 256) (c := 1024) (d := 4096) V _ _ d r (hd 4 d) (kj k.val r) ?_ ?_
    · rw [o12 i k]; rfl
    · rw [o12 i k]; exact hk
  | ⟨5, _⟩ =>
    refine ld2 (a := 128) (b := 256) (c := 1024) (d := 4096) V _ _ d r (hd 5 d) (kj k.val r) ?_ ?_
    · rw [o14 i k]; rfl
    · rw [o14 i k]; exact hk
  | ⟨6, _⟩ =>
    refine ld2 (a := 128) (b := 256) (c := 1024) (d := 4096) V _ _ d r (hd 6 d) (kj k.val r) ?_ ?_
    · rw [o16 i k]; rfl
    · rw [o16 i k]; exact hk
  | ⟨7, _⟩ =>
    refine ld2 (a := 128) (b := 256) (c := 1024) (d := 4096) V _ _ d r (hd 7 d) (kj k.val r) ?_ ?_
    · rw [o18 i k]; rfl
    · rw [o18 i k]; exact hk

end Scores

/-- The weights of the tiles before `n`, added up. -/
def zs (K : S4096x1024.Idx → EReal) (KA : S4096x128.Idx → EReal) (Q : S8x256x256.Idx → EReal) (h : Fin 8) (c : Fin 256) (n : ℕ) : ℝ :=
  ∑ t ∈ Finset.range n, ∑ r : Fin 256, wt (sig0 K KA Q h (kj t r) c)

/-- The weighted values of the tiles before `n`, added up. -/
def ns (K : S4096x1024.Idx → EReal) (KA : S4096x128.Idx → EReal) (Q : S8x256x256.Idx → EReal) (w : Fin 1024 → Fin 4096 → ℝ) (h : Fin 8) (d : Fin 128) (c : Fin 256) (n : ℕ) : ℝ :=
  ∑ t ∈ Finset.range n, ∑ r : Fin 256, w (hd h d) (kj t r) * wt (sig0 K KA Q h (kj t r) c)

section Loop

variable (𝒱 : Variants) (c : Dev nD) (bd : Option 𝒱.V) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (arg1 : BitVec 32) (v154 : Vec Ideal S256x128 .bf16)
  (X4 : BufTy.Contents (Elt Ideal) arg4.view.ty) (X5 : BufTy.Contents (Elt Ideal) arg5.view.ty) (X6 : BufTy.Contents (Elt Ideal) arg6.view.ty) (X11 : BufTy.Contents (Elt Ideal) arg11.view.ty) (G8 : BufTy.Contents (Elt Ideal) arg8.view.ty) (G9 : BufTy.Contents (Elt Ideal) arg9.view.ty) (G10 : BufTy.Contents (Elt Ideal) arg10.view.ty) (G12 : BufTy.Contents (Elt Ideal) arg12.view.ty)

/-- What holds before the loop's trip `n`. -/
theorem loop (w : Fin 1024 → Fin 4096 → ℝ) (hw : ∀ a b, (arg6.view.read (Elt Ideal) X6) (ix2 a b) = (w a b : EReal))
    (hs : ∀ h j x, sig0 (arg4.view.read (Elt Ideal) X4) (arg5.view.read (Elt Ideal) X5) (arg11.view.read (Elt Ideal) X11) h j x ≠ ⊤)
    (h0 : ∀ (h : Fin 8) (d : Fin 128) (x : Fin 256), Held 0 0 ((arg8.view.read (Elt Ideal) G8) (ix3 h 0 x)) ((arg9.view.read (Elt Ideal) G9) (ix3 h 0 x)) ((arg10.view.read (Elt Ideal) G10) (ix3 h d x)))
    (hp : ∀ (a : Fin 4) (r x : Fin 256), (arg12.view.read (Elt Ideal) G12) (ix3 a r x) = sig0 (arg4.view.read (Elt Ideal) X4) (arg5.view.read (Elt Ideal) X5) (arg11.view.read (Elt Ideal) X11) (⟨a.val, by omega⟩ : Fin 8) (kj 0 r) x) (n : ℕ) (hn : n ≤ (k0_t1_loop i).trips) :
    (∀ (h : Fin 8) (d : Fin 128) (x : Fin 256), Held (zs (arg4.view.read (Elt Ideal) X4) (arg5.view.read (Elt Ideal) X5) (arg11.view.read (Elt Ideal) X11) h x n) (ns (arg4.view.read (Elt Ideal) X4) (arg5.view.read (Elt Ideal) X5) (arg11.view.read (Elt Ideal) X11) w h d x n)
        (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 G8 G9 G10 G12 n).1) (ix3 h 0 x)) (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 G8 G9 G10 G12 n).2.1) (ix3 h 0 x))
        (arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 G8 G9 G10 G12 n).2.2.1) (ix3 h d x)))
      ∧ ∀ (a : Fin 4) (r x : Fin 256), arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 G8 G9 G10 G12 n).2.2.2) (ix3 a r x) = sig0 (arg4.view.read (Elt Ideal) X4) (arg5.view.read (Elt Ideal) X5) (arg11.view.read (Elt Ideal) X11) (⟨a.val, by omega⟩ : Fin 8) (kj n r) x := by
  induction n with
  | zero =>
    refine ⟨fun h d x => ?_, hp⟩
    unfold zs ns
    rw [Finset.sum_range_zero, Finset.sum_range_zero]
    exact h0 h d x
  | succ n ih =>
    obtain ⟨ih1, ih2⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 G8 G9 G10 G12 ⟨n, hn⟩
    dsimp only at e
    rw [e]
    generalize (pb_k0_t1 (F := Ideal) 𝒱 c bd i arg2 harg2 arg3 harg3 arg4 harg4 arg5 harg5 arg6 harg6 arg7 harg7 arg8 harg8 arg9 harg9 arg10 harg10 arg11 harg11 arg12 harg12 arg1 v154 X4 X5 X6 X11 G8 G9 G10 G12 n) = p at ih1 ih2 ⊢
    obtain ⟨p8, p9, p10, p12⟩ := p
    dsimp only at ih1 ih2 ⊢
    rw [trip_m, trip_l, trip_a, trip_s]
    refine ⟨fun h d x => ?_, fun a r x => ?_⟩
    · rw [pcM_read, pcM_read, pcA_read]
      have hS := fun r x => sF_sig i ⟨n, hn⟩ (arg4.view.read (Elt Ideal) X4) (arg5.view.read (Elt Ideal) X5) (arg11.view.read (Elt Ideal) X11) _ ih2 h r x
      have hH : Held (zs (arg4.view.read (Elt Ideal) X4) (arg5.view.read (Elt Ideal) X5) (arg11.view.read (Elt Ideal) X11) h x n) (ns (arg4.view.read (Elt Ideal) X4) (arg5.view.read (Elt Ideal) X5) (arg11.view.read (Elt Ideal) X11) w h d x n) (mF (arg8.view.read (Elt Ideal) (arg8.view.writes (Elt Ideal) G8 p8)) h (ix3 0 0 x)) (mF (arg9.view.read (Elt Ideal) (arg9.view.writes (Elt Ideal) G9 p9)) h (ix3 0 0 x))
          (aF (arg10.view.read (Elt Ideal) (arg10.view.writes (Elt Ideal) G10 p10)) h (ix3 0 d x)) := by
        rw [mF_apply, mF_apply, aF_apply]
        exact ih1 h d x
      have st := step (sF i ⟨n, hn⟩ (arg4.view.read (Elt Ideal) X4) (arg5.view.read (Elt Ideal) X5) (arg11.view.read (Elt Ideal) X11) _ h) (mF _ h) (mF _ h) (vF i ⟨n, hn⟩ (arg6.view.read (Elt Ideal) X6) h) (aF _ h) d x hH
        (fun r => by rw [hS]; exact hs h _ x) (fun r => w (hd h d) (kj n r)) (fun r => by rw [vF_val]; exact hw _ _)
      unfold zs ns
      rw [Finset.sum_range_succ, Finset.sum_range_succ]
      simp only [hS] at st
      exact st
    · rw [pcS_read]
      exact nF_sig i ⟨n, hn⟩ _ _ _ a r x

end Loop

end Cert.Kernel6Ideal.Attn
-- ==== Proof.Final.lean ====
/- The masked tile on the diagonal and the division: what one block of queries stores. -/
module

public import proofs.«01_k».proof.Proof.Loop

@[expose] public section

noncomputable section

namespace Cert.Kernel6Ideal.Attn

open Cert.Kernel6Ideal Cert.Kernel6Ideal.Gen Cert.Kernel6Ideal.Gen.kernelRun0_A.sl Cert.Attn
open Idealize.ShloMosaic Idealize.ShloMosaic.TcCoe Idealize.ShloMosaic.ValueIdx

/-- The scores with the keys after the query left out. -/
def msk (s : FVec Ideal S256x256 .f32) : FVec Ideal S256x256 .f32 :=
  select (cmpi .sle (iota Kind.tc S256x256 32 [0] iota_S256x256_d0_w32) (iota Kind.tc S256x256 32 [1] iota_S256x256_d1_w32)) s (broadcast S256x256 (Scalar.ofBits .f32 0xFF800000#32 : Ideal .f32))

def gS (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : Fin 8 → FVec Ideal S256x256 .f32 :=
  ![(shapeCast S256x256 (v170 (F := Ideal) c i arg2 harg2 arg3 harg3 arg4 harg4 arg5 harg5 arg6 harg6 arg7 harg7 arg8 harg8 arg9 harg9 arg10 harg10 arg11 harg11 arg12 harg12 x0 x1 x2 x3 x4) shapeCasts_S1x256x256_S256x256), (shapeCast S256x256 (v172 (F := Ideal) c i arg2 harg2 arg3 harg3 arg4 harg4 arg5 harg5 arg6 harg6 arg7 harg7 arg8 harg8 arg9 harg9 arg10 harg10 arg11 harg11 arg12 harg12 x0 x1 x2 x3 x4) shapeCasts_S1x256x256_S256x256), (shapeCast S256x256 (v174 (F := Ideal) c i arg2 harg2 arg3 harg3 arg4 harg4 arg5 harg5 arg6 harg6 arg7 harg7 arg8 harg8 arg9 harg9 arg10 harg10 arg11 harg11 arg12 harg12 x0 x1 x2 x3 x4) shapeCasts_S1x256x256_S256x256), (shapeCast S256x256 (v176 (F := Ideal) c i arg2 harg2 arg3 harg3 arg4 harg4 arg5 harg5 arg6 harg6 arg7 harg7 arg8 harg8 arg9 harg9 arg10 harg10 arg11 harg11 arg12 harg12 x0 x1 x2 x3 x4) shapeCasts_S1x256x256_S256x256), (tS (View.readAt (Elt Ideal) arg4.view (Rect.unit (s := S4096x1024) (k0_off37 i) S256x128.size (k0_off37_inb i)).toLoadRect (harg4.unread x2)) (View.readAt (Elt Ideal) arg5.view (Rect.unit (s := S4096x128) (k0_off38 i) S256x128.size (k0_off38_inb i)).toLoadRect (harg5.unread x3)) (View.ld (arg11.view.read (Elt Ideal) (arg11.view.writes (Elt Ideal) arg11.view.junk (HS3_8 (F := Ideal) c arg2 harg2 arg3 harg3 x0 x1))) (Rect.unit (s := S8x256x256) ![4, 0, 0] S1x256x256.size inb_S8x256x256_S1x256x256_4_0_0))), (tS (View.readAt (Elt Ideal) arg4.view (Rect.unit (s := S4096x1024) (k0_off40 i) S256x128.size (k0_off40_inb i)).toLoadRect (harg4.unread x2)) (View.readAt (Elt Ideal) arg5.view (Rect.unit (s := S4096x128) (k0_off38 i) S256x128.size (k0_off38_inb i)).toLoadRect (harg5.unread x3)) (View.ld (arg11.view.read (Elt Ideal) (arg11.view.writes (Elt Ideal) arg11.view.junk (HS3_8 (F := Ideal) c arg2 harg2 arg3 harg3 x0 x1))) (Rect.unit (s := S8x256x256) ![5, 0, 0] S1x256x256.size inb_S8x256x256_S1x256x256_5_0_0))), (tS (View.readAt (Elt Ideal) arg4.view (Rect.unit (s := S4096x1024) (k0_off42 i) S256x128.size (k0_off42_inb i)).toLoadRect (harg4.unread x2)) (View.readAt (Elt Ideal) arg5.view (Rect.unit (s := S4096x128) (k0_off38 i) S256x128.size (k0_off38_inb i)).toLoadRect (harg5.unread x3)) (View.ld (arg11.view.read (Elt Ideal) (arg11.view.writes (Elt Ideal) arg11.view.junk (HS3_8 (F := Ideal) c arg2 harg2 arg3 harg3 x0 x1))) (Rect.unit (s := S8x256x256) ![6, 0, 0] S1x256x256.size inb_S8x256x256_S1x256x256_6_0_0))), (tS (View.readAt (Elt Ideal) arg4.view (Rect.unit (s := S4096x1024) (k0_off44 i) S256x128.size (k0_off44_inb i)).toLoadRect (harg4.unread x2)) (View.readAt (Elt Ideal) arg5.view (Rect.unit (s := S4096x128) (k0_off38 i) S256x128.size (k0_off38_inb i)).toLoadRect (harg5.unread x3)) (View.ld (arg11.view.read (Elt Ideal) (arg11.view.writes (Elt Ideal) arg11.view.junk (HS3_8 (F := Ideal) c arg2 harg2 arg3 harg3 x0 x1))) (Rect.unit (s := S8x256x256) ![7, 0, 0] S1x256x256.size inb_S8x256x256_S1x256x256_7_0_0)))]

def gM (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : Fin 8 → Vec Ideal S1x1x256 .f32 :=
  ![(v189 (F := Ideal) c i arg2 harg2 arg3 harg3 arg4 harg4 arg5 harg5 arg6 harg6 arg7 harg7 arg8 harg8 arg9 harg9 arg10 harg10 arg11 harg11 arg12 harg12 x0 x1 x2 x3 x4), (v234 (F := Ideal) c i arg2 harg2 arg3 harg3 arg4 harg4 arg5 harg5 arg6 harg6 arg7 harg7 arg8 harg8 arg9 harg9 arg10 harg10 arg11 harg11 arg12 harg12 x0 x1 x2 x3 x4), (v279 (F := Ideal) c i arg2 harg2 arg3 harg3 arg4 harg4 arg5 harg5 arg6 harg6 arg7 harg7 arg8 harg8 arg9 harg9 arg10 harg10 arg11 harg11 arg12 harg12 x0 x1 x2 x3 x4), (v324 (F := Ideal) c i arg2 harg2 arg3 harg3 arg4 harg4 arg5 harg5 arg6 harg6 arg7 harg7 arg8 harg8 arg9 harg9 arg10 harg10 arg11 harg11 arg12 harg12 x0 x1 x2 x3 x4), (v361 (F := Ideal) c i arg2 harg2 arg3 harg3 arg4 harg4 arg5 harg5 arg6 harg6 arg7 harg7 arg8 harg8 arg9 harg9 arg10 harg10 arg11 harg11 arg12 harg12 x0 x1 x2 x3 x4), (v398 (F := Ideal) c i arg2 harg2 arg3 harg3 arg4 harg4 arg5 harg5 arg6 harg6 arg7 harg7 arg8 harg8 arg9 harg9 arg10 harg10 arg11 harg11 arg12 harg12 x0 x1 x2 x3 x4), (v435 (F := Ideal) c i arg2 harg2 arg3 harg3 arg4 harg4 arg5 harg5 arg6 harg6 arg7 harg7 arg8 harg8 arg9 harg9 arg10 harg10 arg11 harg11 arg12 harg12 x0 x1 x2 x3 x4), (v472 (F := Ideal) c i arg2 harg2 arg3 harg3 arg4 harg4 arg5 harg5 arg6 harg6 arg7 harg7 arg8 harg8 arg9 harg9 arg10 harg10 arg11 harg11 arg12 harg12 x0 x1 x2 x3 x4)]

def gL (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : Fin 8 → Vec Ideal S1x1x256 .f32 :=
  ![(v202 (F := Ideal) c i arg2 harg2 arg3 harg3 arg4 harg4 arg5 harg5 arg6 harg6 arg7 harg7 arg8 harg8 arg9 harg9 arg10 harg10 arg11 harg11 arg12 harg12 x0 x1 x2 x3 x4), (v247 (F := Ideal) c i arg2 harg2 arg3 harg3 arg4 harg4 arg5 harg5 arg6 harg6 arg7 harg7 arg8 harg8 arg9 harg9 arg10 harg10 arg11 harg11 arg12 harg12 x0 x1 x2 x3 x4), (v292 (F := Ideal) c i arg2 harg2 arg3 harg3 arg4 harg4 arg5 harg5 arg6 harg6 arg7 harg7 arg8 harg8 arg9 harg9 arg10 harg10 arg11 harg11 arg12 harg12 x0 x1 x2 x3 x4), (v337 (F := Ideal) c i arg2 harg2 arg3 harg3 arg4 harg4 arg5 harg5 arg6 harg6 arg7 harg7 arg8 harg8 arg9 harg9 arg10 harg10 arg11 harg11 arg12 harg12 x0 x1 x2 x3 x4), (v374 (F := Ideal) c i arg2 harg2 arg3 harg3 arg4 harg4 arg5 harg5 arg6 harg6 arg7 harg7 arg8 harg8 arg9 harg9 arg10 harg10 arg11 harg11 arg12 harg12 x0 x1 x2 x3 x4), (v411 (F := Ideal) c i arg2 harg2 arg3 harg3 arg4 harg4 arg5 harg5 arg6 harg6 arg7 harg7 arg8 harg8 arg9 harg9 arg10 harg10 arg11 harg11 arg12 harg12 x0 x1 x2 x3 x4), (v448 (F := Ideal) c i arg2 harg2 arg3 harg3 arg4 harg4 arg5 harg5 arg6 harg6 arg7 harg7 arg8 harg8 arg9 harg9 arg10 harg10 arg11 harg11 arg12 harg12 x0 x1 x2 x3 x4), (v485 (F := Ideal) c i arg2 harg2 arg3 harg3 arg4 harg4 arg5 harg5 arg6 harg6 arg7 harg7 arg8 harg8 arg9 harg9 arg10 harg10 arg11 harg11 arg12 harg12 x0 x1 x2 x3 x4)]

def gA (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : Fin 8 → Vec Ideal S1x128x256 .f32 :=
  ![(v215 (F := Ideal) c i arg2 harg2 arg3 harg3 arg4 harg4 arg5 harg5 arg6 harg6 arg7 harg7 arg8 harg8 arg9 harg9 arg10 harg10 arg11 harg11 arg12 harg12 x0 x1 x2 x3 x4), (v260 (F := Ideal) c i arg2 harg2 arg3 harg3 arg4 harg4 arg5 harg5 arg6 harg6 arg7 harg7 arg8 harg8 arg9 harg9 arg10 harg10 arg11 harg11 arg12 harg12 x0 x1 x2 x3 x4), (v305 (F := Ideal) c i arg2 harg2 arg3 harg3 arg4 harg4 arg5 harg5 arg6 harg6 arg7 harg7 arg8 harg8 arg9 harg9 arg10 harg10 arg11 harg11 arg12 harg12 x0 x1 x2 x3 x4), (v350 (F := Ideal) c i arg2 harg2 arg3 harg3 arg4 harg4 arg5 harg5 arg6 harg6 arg7 harg7 arg8 harg8 arg9 harg9 arg10 harg10 arg11 harg11 arg12 harg12 x0 x1 x2 x3 x4), (v387 (F := Ideal) c i arg2 harg2 arg3 harg3 arg4 harg4 arg5 harg5 arg6 harg6 arg7 harg7 arg8 harg8 arg9 harg9 arg10 harg10 arg11 harg11 arg12 harg12 x0 x1 x2 x3 x4), (v424 (F := Ideal) c i arg2 harg2 arg3 harg3 arg4 harg4 arg5 harg5 arg6 harg6 arg7 harg7 arg8 harg8 arg9 harg9 arg10 harg10 arg11 harg11 arg12 harg12 x0 x1 x2 x3 x4), (v461 (F := Ideal) c i arg2 harg2 arg3 harg3 arg4 harg4 arg5 harg5 arg6 harg6 arg7 harg7 arg8 harg8 arg9 harg9 arg10 harg10 arg11 harg11 arg12 harg12 x0 x1 x2 x3 x4), (v498 (F := Ideal) c i arg2 harg2 arg3 harg3 arg4 harg4 arg5 harg5 arg6 harg6 arg7 harg7 arg8 harg8 arg9 harg9 arg10 harg10 arg11 harg11 arg12 harg12 x0 x1 x2 x3 x4)]

def gV (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : Fin 8 → Vec Ideal S128x256 .bf16 :=
  ![(View.readAt (Elt Ideal) arg6.view (Rect.unit (s := S1024x4096) (k0_off39 i) S128x256.size (k0_off39_inb i)).toLoadRect (harg6.unread x4)), (View.readAt (Elt Ideal) arg6.view (Rect.unit (s := S1024x4096) (k0_off41 i) S128x256.size (k0_off41_inb i)).toLoadRect (harg6.unread x4)), (View.readAt (Elt Ideal) arg6.view (Rect.unit (s := S1024x4096) (k0_off43 i) S128x256.size (k0_off43_inb i)).toLoadRect (harg6.unread x4)), (View.readAt (Elt Ideal) arg6.view (Rect.unit (s := S1024x4096) (k0_off45 i) S128x256.size (k0_off45_inb i)).toLoadRect (harg6.unread x4)), (View.readAt (Elt Ideal) arg6.view (Rect.unit (s := S1024x4096) (k0_off46 i) S128x256.size (k0_off46_inb i)).toLoadRect (harg6.unread x4)), (View.readAt (Elt Ideal) arg6.view (Rect.unit (s := S1024x4096) (k0_off47 i) S128x256.size (k0_off47_inb i)).toLoadRect (harg6.unread x4)), (View.readAt (Elt Ideal) arg6.view (Rect.unit (s := S1024x4096) (k0_off48 i) S128x256.size (k0_off48_inb i)).toLoadRect (harg6.unread x4)), (View.readAt (Elt Ideal) arg6.view (Rect.unit (s := S1024x4096) (k0_off49 i) S128x256.size (k0_off49_inb i)).toLoadRect (harg6.unread x4))]

def t0 (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : List (View.Piece (Elt Ideal) S8x1x256 .f32) :=
  ((pb_k0_t2 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (v167 i) (harg4.unread x2) (harg5.unread x3) (harg6.unread x4) (arg11.view.writes (Elt Ideal) arg11.view.junk (HS3_8 (F := Ideal) c arg2 harg2 arg3 harg3 x0 x1)) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).1 ++ (HS0_1 (F := Ideal)))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.1 ++ (HS1_1 (F := Ideal)))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.1 ++ (HS2_1 (F := Ideal)))) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.2 ++ HS4_4 (F := Ideal) c arg2 harg2 arg3 harg3 arg4 harg4 arg5 harg5 arg11 x0 x1 x2 x3)) (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).1 ++ (HS0_1 (F := Ideal))))

def t1 (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : List (View.Piece (Elt Ideal) S8x1x256 .f32) :=
  ((pb_k0_t2 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (v167 i) (harg4.unread x2) (harg5.unread x3) (harg6.unread x4) (arg11.view.writes (Elt Ideal) arg11.view.junk (HS3_8 (F := Ideal) c arg2 harg2 arg3 harg3 x0 x1)) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).1 ++ (HS0_1 (F := Ideal)))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.1 ++ (HS1_1 (F := Ideal)))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.1 ++ (HS2_1 (F := Ideal)))) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.2 ++ HS4_4 (F := Ideal) c arg2 harg2 arg3 harg3 arg4 harg4 arg5 harg5 arg11 x0 x1 x2 x3)) (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.1 ++ (HS1_1 (F := Ideal))))

def t2 (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : List (View.Piece (Elt Ideal) S8x128x256 .f32) :=
  ((pb_k0_t2 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (v167 i) (harg4.unread x2) (harg5.unread x3) (harg6.unread x4) (arg11.view.writes (Elt Ideal) arg11.view.junk (HS3_8 (F := Ideal) c arg2 harg2 arg3 harg3 x0 x1)) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).1 ++ (HS0_1 (F := Ideal)))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.1 ++ (HS1_1 (F := Ideal)))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.1 ++ (HS2_1 (F := Ideal)))) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.2 ++ HS4_4 (F := Ideal) c arg2 harg2 arg3 harg3 arg4 harg4 arg5 harg5 arg11 x0 x1 x2 x3)) (Scf.trips (k0_t2_loop i).lb (k0_t2_loop i).ub (k0_t2_loop i).st)).2.2.1 ++ ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.1 ++ (HS2_1 (F := Ideal))))

def t3 (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole) (x0 : Vec Ideal S256x1024 .bf16) (x1 : Vec Ideal S256x128 .bf16) (x2 : Vec Ideal S4096x1024 .bf16) (x3 : Vec Ideal S4096x128 .bf16) (x4 : Vec Ideal S1024x4096 .bf16) : List (View.Piece (Elt Ideal) S4x256x256 .f32) :=
  ((pb_k0_t2 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (v167 i) (harg4.unread x2) (harg5.unread x3) (harg6.unread x4) (arg11.view.writes (Elt Ideal) arg11.view.junk (HS3_8 (F := Ideal) c arg2 harg2 arg3 harg3 x0 x1)) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).1 ++ (HS0_1 (F := Ideal)))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.1 ++ (HS1_1 (F := Ideal)))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.1 ++ (HS2_1 (F := Ideal)))) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.2 ++ HS4_4 (F := Ideal) c arg2 harg2 arg3 harg3 arg4 harg4 arg5 harg5 arg11 x0 x1 x2 x3)) (Scf.trips (k0_t2_loop i).lb (k0_t2_loop i).ub (k0_t2_loop i).st)).2.2.2 ++ ((pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (r_3 (F := Ideal) c arg4 harg4 x2) (harg4.unread x2) (harg5.unread x3) (harg6.unread x4) (arg11.view.writes (Elt Ideal) arg11.view.junk (HS3_8 (F := Ideal) c arg2 harg2 arg3 harg3 x0 x1)) (arg8.view.writes (Elt Ideal) arg8.view.junk (HS0_1 (F := Ideal))) (arg9.view.writes (Elt Ideal) arg9.view.junk (HS1_1 (F := Ideal))) (arg10.view.writes (Elt Ideal) arg10.view.junk (HS2_1 (F := Ideal))) (arg12.view.writes (Elt Ideal) arg12.view.junk (HS4_4 (F := Ideal) c arg2 harg2 arg3 harg3 arg4 harg4 arg5 harg5 arg11 x0 x1 x2 x3)) (Scf.trips (k0_t1_loop i).lb (k0_t1_loop i).ub (k0_t1_loop i).st)).2.2.2 ++ (HS4_4 (F := Ideal) c arg2 harg2 arg3 harg3 arg4 harg4 arg5 harg5 arg11 x0 x1 x2 x3)))

section Lists

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)
/-- The stored block's pieces, one head's columns each. -/
def pcO (g : Fin 8 → FVec Ideal S256x128 .f32) : List (View.Piece (Elt Ideal) S256x1024 .f32) :=
  [⟨Rect.unit ![0, 896] S256x128.size inb_S256x1024_S256x128_0_896, g 7⟩, ⟨Rect.unit ![0, 768] S256x128.size inb_S256x1024_S256x128_0_768, g 6⟩, ⟨Rect.unit ![0, 640] S256x128.size inb_S256x1024_S256x128_0_640, g 5⟩, ⟨Rect.unit ![0, 512] S256x128.size inb_S256x1024_S256x128_0_512, g 4⟩, ⟨Rect.unit ![0, 384] S256x128.size inb_S256x1024_S256x128_0_384, g 3⟩, ⟨Rect.unit ![0, 256] S256x128.size inb_S256x1024_S256x128_0_256, g 2⟩, ⟨Rect.unit ![0, 128] S256x128.size inb_S256x1024_S256x128_0_128, g 1⟩, ⟨Rect.unit ![0, 0] S256x128.size inb_S256x1024_S256x128_0_0, g 0⟩]

theorem o_eq : (Gen.kernelRun0_A (F := Ideal) c i arg2 harg2 arg3 harg3 arg4 harg4 arg5 harg5 arg6 harg6 arg7 harg7 arg8 harg8 arg9 harg9 arg10 harg10 arg11 harg11 arg12 harg12 x0 x1 x2 x3 x4).1 = pcO (fun h => tO (aF (arg10.view.read (Elt Ideal) (arg10.view.writes (Elt Ideal) arg10.view.junk (HS2_8 (F := Ideal) c i arg2 harg2 arg3 harg3 arg4 harg4 arg5 harg5 arg6 harg6 arg7 harg7 arg8 harg8 arg9 harg9 arg10 harg10 arg11 harg11 arg12 harg12 x0 x1 x2 x3 x4))) h) (mF (arg9.view.read (Elt Ideal) (arg9.view.writes (Elt Ideal) arg9.view.junk (HS1_8 (F := Ideal) c i arg2 harg2 arg3 harg3 arg4 harg4 arg5 harg5 arg6 harg6 arg7 harg7 arg8 harg8 arg9 harg9 arg10 harg10 arg11 harg11 arg12 harg12 x0 x1 x2 x3 x4))) h)) := rfl

theorem p2_nil (n : ℕ) (hn : n = 0) (v154 : Vec Ideal S256x128 .bf16) (b0 b1 : BitVec 32) (X4 : BufTy.Contents (Elt Ideal) arg4.view.ty) (X5 : BufTy.Contents (Elt Ideal) arg5.view.ty) (X6 : BufTy.Contents (Elt Ideal) arg6.view.ty) (X11 : BufTy.Contents (Elt Ideal) arg11.view.ty)
    (G8 : BufTy.Contents (Elt Ideal) arg8.view.ty) (G9 : BufTy.Contents (Elt Ideal) arg9.view.ty) (G10 : BufTy.Contents (Elt Ideal) arg10.view.ty) (G12 : BufTy.Contents (Elt Ideal) arg12.view.ty) :
    pb_k0_t2 (F := Ideal) Variants.none c none i arg2 harg2 arg3 harg3 arg4 harg4 arg5 harg5 arg6 harg6 arg7 harg7 arg8 harg8 arg9 harg9 arg10 harg10 arg11 harg11 arg12 harg12 b0 v154 b1 X4 X5 X6 X11 G8 G9 G10 G12 n = ([], [], [], []) := by
  subst hn; rfl

end Lists

end Cert.Kernel6Ideal.Attn
-- ==== Proof.Plain.lean ====
/- Causal attention as plain mathematics, and the sums both programs reach it by. -/
module

public import proofs.«01_k».proof.Proof.Soft
public import Idealize.ShloMosaic.Lib.ValueIdx
public import Idealize.ShloMosaic.Lib.ValueIdxCore
public import Idealize.ShloMosaic.Lib.ValueLayout

@[expose] public section

noncomputable section

namespace Cert.Attn

open Idealize.ShloMosaic Idealize.ShloMosaic.ValueIdx

abbrev A1 := (⟨2, ![8192, 1024]⟩ : Shape).Idx → EReal
abbrev A2 := (⟨2, ![8192, 128]⟩ : Shape).Idx → EReal
abbrev A3 := (⟨2, ![1024, 8192]⟩ : Shape).Idx → EReal

/-- Row `i` of batch `b`. -/
def row (b : Fin 2) (i : Fin 4096) : Fin 8192 := ⟨b.val * 4096 + i.val, by omega⟩

/-- Column `e` of head `h`. -/
def col (h : Fin 8) (e : Fin 128) : Fin 1024 := ⟨h.val * 128 + e.val, by omega⟩

/-- Lane `e` of head `h`. -/
def lane (h : Fin 8) (e : Fin 16) : Fin 128 := ⟨h.val * 16 + e.val, by omega⟩

/-- The score of key `j` for query `i`. -/
def sc (q k : A1) (qa ka : A2) (b : Fin 2) (h : Fin 8) (i j : Fin 4096) : EReal :=
  ∑ e : Fin 128, q (ix2 (row b i) (col h e)) * k (ix2 (row b j) (col h e)) + ∑ e : Fin 16, qa (ix2 (row b i) (lane h e)) * ka (ix2 (row b j) (lane h e))

/-- The score, a key after the query left out. -/
def scm (q k : A1) (qa ka : A2) (b : Fin 2) (h : Fin 8) (i j : Fin 4096) : EReal := if j.val ≤ i.val then sc q k qa ka b h i j else ⊥

/-- The attention's value. -/
def att (q k : A1) (qa ka : A2) (v : A3) (b : Fin 2) (h : Fin 8) (i : Fin 4096) (d : Fin 128) : EReal :=
  (((∑ j, (v (ix2 (col h d) (row b j))).toReal * wt (scm q k qa ka b h i j)) / ∑ j, wt (scm q k qa ka b h i j) : ℝ) : EReal)

def IsR (x : EReal) : Prop := ∃ r : ℝ, x = r

theorem IsR.mul {x y : EReal} : IsR x → IsR y → IsR (x * y) := by
  rintro ⟨a, rfl⟩ ⟨b, rfl⟩; exact ⟨a * b, (EReal.coe_mul a b).symm⟩

theorem IsR.add {x y : EReal} : IsR x → IsR y → IsR (x + y) := by
  rintro ⟨a, rfl⟩ ⟨b, rfl⟩; exact ⟨a + b, (EReal.coe_add a b).symm⟩

theorem IsR.sum {ι : Type} [Fintype ι] (f : ι → EReal) (h : ∀ i, IsR (f i)) : IsR (∑ i, f i) := by
  choose g hg using h
  exact ⟨∑ i, g i, by rw [coe_sum]; exact Finset.sum_congr rfl fun i _ => hg i⟩

theorem IsR.ne_top {x : EReal} : IsR x → x ≠ ⊤ := by
  rintro ⟨a, rfl⟩; exact EReal.coe_ne_top a

theorem IsR.ne_bot {x : EReal} : IsR x → x ≠ ⊥ := by
  rintro ⟨a, rfl⟩; exact EReal.coe_ne_bot a

theorem IsR.of {x : EReal} (h1 : x ≠ ⊤) (h2 : x ≠ ⊥) : IsR x := ⟨x.toReal, (EReal.coe_toReal h1 h2).symm⟩

theorem IsR.coe {x : EReal} (h : IsR x) : ((x.toReal : ℝ) : EReal) = x := EReal.coe_toReal h.ne_top h.ne_bot

section Finite

variable {q k : A1} {qa ka : A2} (hq : ∀ i, IsR (q i)) (hk : ∀ i, IsR (k i)) (hqa : ∀ i, IsR (qa i)) (hka : ∀ i, IsR (ka i))
include hq hk hqa hka

theorem sc_real (b : Fin 2) (h : Fin 8) (i j : Fin 4096) : IsR (sc q k qa ka b h i j) :=
  IsR.add (IsR.sum _ fun e => (hq _).mul (hk _)) (IsR.sum _ fun e => (hqa _).mul (hka _))

theorem scm_ne_top (b : Fin 2) (h : Fin 8) (i j : Fin 4096) : scm q k qa ka b h i j ≠ ⊤ := by
  unfold scm
  split
  · exact (sc_real hq hk hqa hka b h i j).ne_top
  · exact bot_ne_top

theorem wt_sum_pos (b : Fin 2) (h : Fin 8) (i : Fin 4096) : 0 < ∑ j, wt (scm q k qa ka b h i j) := by
  refine Finset.sum_pos' (fun j _ => wt_nonneg _) ⟨i, Finset.mem_univ _, ?_⟩
  unfold scm
  rw [if_pos le_rfl]
  obtain ⟨r, hr⟩ := sc_real hq hk hqa hka b h i i
  rw [hr]
  exact wt_pos r

end Finite

theorem wt_bot : wt ⊥ = 0 := by simp [wt]

theorem pow_two (x : EReal) : Ideal.pow ((2 : ℝ) : EReal) x = Ideal.exp2 x := by
  induction x with
  | bot => rw [Ideal.pow_coe_bot, if_neg (by norm_num), if_pos (by norm_num)]; rfl
  | top => rw [Ideal.pow_coe_top, if_neg (by norm_num), if_pos (by norm_num)]; rfl
  | coe x => rfl

/-- A softmax shifted by any real number. -/
theorem soft {n : ℕ} (s : Fin n → EReal) (hs : ∀ j, s j ≠ ⊤) (m : ℝ) (v : Fin n → ℝ) (hZ : 0 < ∑ j, wt (s j)) :
    ∑ j, (v j : EReal) * Ideal.div (Ideal.exp2 (s j - m)) (0 + ∑ k, Ideal.exp2 (s k - m)) = (((∑ j, v j * wt (s j)) / ∑ j, wt (s j) : ℝ) : EReal) := by
  have hp : (0 : ℝ) < (2 : ℝ) ^ (-m) := Real.rpow_pos_of_pos (by norm_num) _
  have e : ∀ j, Ideal.exp2 (s j - m) = ((wt (s j) * (2 : ℝ) ^ (-m) : ℝ) : EReal) := fun j => exp2_sub (s j) (hs j) m
  simp only [e]
  rw [← coe_sum, zero_add, ← Finset.sum_mul]
  have e2 : ∀ j, (v j : EReal) * Ideal.div ((wt (s j) * (2 : ℝ) ^ (-m) : ℝ) : EReal) (((∑ k, wt (s k)) * (2 : ℝ) ^ (-m) : ℝ) : EReal) = ((v j * wt (s j) / ∑ k, wt (s k) : ℝ) : EReal) := by
    intro j
    rw [Ideal.div_coe (mul_pos hZ hp).ne', ← EReal.coe_mul, ← EReal.coe_mul]
    congr 1
    field_simp
  simp only [e2]
  rw [← coe_sum, Finset.sum_div]

/-- The maximum of real numbers and of `-∞`s is real. -/
theorem fold_max_real {ι : Type} (f : ι → EReal) (hf : ∀ a, f a ≠ ⊤) : ∀ (l : List ι) (z : EReal), z ≠ ⊤ → (IsR z ∨ ∃ a ∈ l, IsR (f a)) →
    IsR (l.foldl (fun r a => max r (f a)) z)
  | [], z, hz, h => by
    rcases h with h | ⟨a, ha, _⟩
    · exact h
    · exact absurd ha (by simp)
  | a :: l, z, hz, h => by
    refine fold_max_real f hf l (max z (f a)) ?_ ?_
    · rcases max_choice z (f a) with e | e <;> rw [e]
      exacts [hz, hf a]
    · rcases h with h | ⟨b, hb, hr⟩
      · exact Or.inl (IsR.of (by rcases max_choice z (f a) with e | e <;> rw [e]; exacts [hz, hf a])
          (ne_bot_of_le_ne_bot h.ne_bot (le_max_left _ _)))
      · rcases List.mem_cons.1 hb with rfl | hb
        · exact Or.inl (IsR.of (by rcases max_choice z (f b) with e | e <;> rw [e]; exacts [hz, hf b])
            (ne_bot_of_le_ne_bot hr.ne_bot (le_max_right _ _)))
        · exact Or.inr ⟨b, hb, hr⟩

/-- Row `r` of key tile `t`. -/
def kt (t : ℕ) (r : Fin 256) : Fin 4096 := ⟨(t * 256 + r.val) % 4096, Nat.mod_lt _ (by decide)⟩

/-- A sum over the keys, tile by tile. -/
theorem tiles (f : Fin 4096 → ℝ) : ∑ j, f j = ∑ t ∈ Finset.range 16, ∑ r : Fin 256, f (kt t r) := by
  rw [Finset.sum_range]
  rw [← (finProdFinEquiv : Fin 16 × Fin 256 ≃ Fin (16 * 256)).sum_comp (fun j : Fin (16 * 256) => f j), Fintype.sum_prod_type]
  refine Finset.sum_congr rfl fun t _ => Finset.sum_congr rfl fun r _ => ?_
  refine congrArg f (Fin.ext ?_)
  show r.val + 256 * t.val = (t.val * 256 + r.val) % 4096
  omega

/-- A sum over the keys whose tiles after the `n`-th add nothing. -/
theorem tiles_upto (f : Fin 4096 → ℝ) (n : ℕ) (hn : n < 16) (h : ∀ t, n < t → t < 16 → ∀ r, f (kt t r) = 0) :
    ∑ j, f j = ∑ t ∈ Finset.range n, ∑ r : Fin 256, f (kt t r) + ∑ r : Fin 256, f (kt n r) := by
  rw [tiles, ← Finset.sum_range_succ (fun t => ∑ r : Fin 256, f (kt t r))]
  symm
  refine Finset.sum_subset (Finset.range_subset_range.2 hn) fun t ht hnt => ?_
  refine Finset.sum_eq_zero fun r _ => h t ?_ (Finset.mem_range.1 ht) r
  rw [Finset.mem_range] at hnt
  omega

/-- The lanes of another head add nothing. -/
theorem lanes (h : Fin 8) (f : Fin 128 → EReal) : ∑ l : Fin 128, (if h.val * 16 ≤ l.val ∧ l.val < h.val * 16 + 16 then f l else 0) = ∑ e : Fin 16, f (lane h e) := by
  rw [← Finset.sum_filter]
  symm
  refine Finset.sum_nbij (lane h) (fun e _ => ?_) (fun a _ b _ e => ?_) (fun l hl => ?_) (fun _ _ => rfl)
  · rw [Finset.mem_filter]
    exact ⟨Finset.mem_univ _, Nat.le_add_right _ _, Nat.add_lt_add_left e.isLt _⟩
  · have e1 : h.val * 16 + a.val = h.val * 16 + b.val := congrArg Fin.val e
    exact Fin.ext (by omega)
  · have hl' := (Finset.mem_filter.1 hl).2
    exact ⟨⟨l.val - h.val * 16, by omega⟩, Finset.mem_coe.2 (Finset.mem_univ _), Fin.ext (by show h.val * 16 + (l.val - h.val * 16) = l.val; omega)⟩

theorem sle_nat (a b : ℕ) (ha : a < 2 ^ 31) (hb : b < 2 ^ 31) : (BitVec.ofNat 32 a).sle (BitVec.ofNat 32 b) = decide (a ≤ b) := by
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

end Cert.Attn
-- ==== Proof.Quer.lean ====
/- The queries a block keeps for its heads, and what the masked scores and the stored columns read. -/
module

public import proofs.«01_k».proof.Proof.Final
public import proofs.«01_k».proof.Proof.Plain

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

/-- The queries of one head beside the head's own lanes of the further queries. -/
def qS (b0 b1 : BitVec 32) (qa q : Vec Ideal S256x128 .bf16) : FVec Ideal S1x256x256 .bf16 :=
  shapeCast S1x256x256 (transpose S256x256 [1, 0] (concatenate S256x256 1 [⟨S256x128, q⟩, ⟨S256x128, (select (andi (cmpi .sge (iota .tc S256x128 32 [1] iota_S256x128_d1_w32) (broadcast S256x128 b0)) (cmpi .slt (iota .tc S256x128 32 [1] iota_S256x128_d1_w32) (broadcast S256x128 b1))) qa (broadcast S256x128 (Scalar.ofBits .bf16 0x0000#16 : Ideal .bf16)) : Vec Ideal S256x128 .bf16)⟩] concatenates_S256x128_S256x128_S256x256_d1) transposes_S256x256_p1_0_S256x256) shapeCasts_S256x256_S1x256x256

theorem lane_in : ∀ (n : Fin 8) (l : Fin 128), IntOp.andi (IntOp.cmpi .sge (BitVec.ofNat 32 l.val) (BitVec.ofNat 32 (n.val * 16))) (IntOp.cmpi .slt (BitVec.ofNat 32 l.val) (BitVec.ofNat 32 (n.val * 16 + 16)))
    = BitVec.ofBool (decide (n.val * 16 ≤ l.val ∧ l.val < n.val * 16 + 16)) := by decide +kernel

theorem qS_apply (n : Fin 8) (qa q : Vec Ideal S256x128 .bf16) (e c : Fin 256) :
    qS (BitVec.ofNat 32 (n.val * 16)) (BitVec.ofNat 32 (n.val * 16 + 16)) qa q (ix3 0 e c)
      = if he : e.val < 128 then q (ix2 c ⟨e.val, he⟩) else if n.val * 16 ≤ e.val - 128 ∧ e.val - 128 < n.val * 16 + 16 then qa (ix2 c (⟨e.val - 128, by omega⟩ : Fin 128)) else (0 : EReal) := by
  unfold qS
  refine (shapeCast_ab_1ab_apply _ _ 0 e c).trans ((transpose_ix2_apply _ _ e c).trans ?_)
  split
  · next he =>
    exact concatenate_pair_apply_left (t := S256x256) (s₁ := S256x128) (s₂ := S256x128) (1 : Fin 2) q _ _ (ix2 c e) rfl (ix2 c ⟨e.val, he⟩) (fun a => by match a with | ⟨0, _⟩ => rfl | ⟨1, _⟩ => rfl)
  · next he =>
    refine (concatenate_pair_apply_right (t := S256x256) (s₁ := S256x128) (s₂ := S256x128) (1 : Fin 2) q _ _ (ix2 c e) rfl rfl (ix2 c (⟨e.val - 128, by omega⟩ : Fin 128))
      (fun b hb => by match b, hb with | ⟨0, _⟩, _ => rfl | ⟨1, _⟩, hb => exact absurd rfl hb) (show (e.val - 128) + 128 = e.val by omega)).trans ?_
    unfold select andi cmpi
    rw [iota_single_apply]
    show Scalar.select (IntOp.andi (IntOp.cmpi .sge (BitVec.ofNat 32 (e.val - 128)) (BitVec.ofNat 32 (n.val * 16))) (IntOp.cmpi .slt (BitVec.ofNat 32 (e.val - 128)) (BitVec.ofNat 32 (n.val * 16 + 16)))) _ (Ideal.ofBits .bf16 0x0000#16) = _
    rw [lane_in n (⟨e.val - 128, by omega⟩ : Fin 128), (by simp [Ideal.ofBits, Ideal.ieee] : Ideal.ofBits .bf16 0x0000#16 = 0)]
    by_cases hl : n.val * 16 ≤ e.val - 128 ∧ e.val - 128 < n.val * 16 + 16
    · rw [decide_eq_true hl, if_pos hl]; rfl
    · rw [decide_eq_false hl, if_neg hl]; rfl

/-- A slab stored for each head, the last first. -/
def pcQ (g : Fin 8 → Vec Ideal S1x256x256 .bf16) : List (View.Piece (Elt Ideal) S8x256x256 .bf16) :=
  ⟨Rect.unit ![7, 0, 0] ![1, 256, 256] inb_S8x256x256_S1x256x256_7_0_0, g 7⟩ :: ⟨Rect.unit ![6, 0, 0] ![1, 256, 256] inb_S8x256x256_S1x256x256_6_0_0, g 6⟩ :: ⟨Rect.unit ![5, 0, 0] ![1, 256, 256] inb_S8x256x256_S1x256x256_5_0_0, g 5⟩ :: ⟨Rect.unit ![4, 0, 0] ![1, 256, 256] inb_S8x256x256_S1x256x256_4_0_0, g 4⟩ :: ⟨Rect.unit ![3, 0, 0] ![1, 256, 256] inb_S8x256x256_S1x256x256_3_0_0, g 3⟩ :: ⟨Rect.unit ![2, 0, 0] ![1, 256, 256] inb_S8x256x256_S1x256x256_2_0_0, g 2⟩ :: ⟨Rect.unit ![1, 0, 0] ![1, 256, 256] inb_S8x256x256_S1x256x256_1_0_0, g 1⟩ :: ⟨Rect.unit ![0, 0, 0] ![1, 256, 256] inb_S8x256x256_S1x256x256_0_0_0, g 0⟩ :: []

theorem pcQ_read (v : View sig .tc .vmem S8x256x256 .bf16) (f : v.ty.Contents (Elt Ideal)) (g : Fin 8 → Vec Ideal S1x256x256 .bf16)
    (h : Fin 8) (x : Fin 256) (y : Fin 256) : v.read (Elt Ideal) (v.writes (Elt Ideal) f (pcQ g)) (ix3 h x y) = g h (ix3 0 x y) := by
  unfold pcQ
  match h with
  | ⟨0, _⟩ => exact (miss v f 7 _ _ _ _ (show (0 : ℕ) ≠ 7 by decide) x y).trans ((miss v f 6 _ _ _ _ (show (0 : ℕ) ≠ 6 by decide) x y).trans ((miss v f 5 _ _ _ _ (show (0 : ℕ) ≠ 5 by decide) x y).trans ((miss v f 4 _ _ _ _ (show (0 : ℕ) ≠ 4 by decide) x y).trans ((miss v f 3 _ _ _ _ (show (0 : ℕ) ≠ 3 by decide) x y).trans ((miss v f 2 _ _ _ _ (show (0 : ℕ) ≠ 2 by decide) x y).trans ((miss v f 1 _ _ _ _ (show (0 : ℕ) ≠ 1 by decide) x y).trans (hit v f 0 _ _ _ _ rfl x y)))))))
  | ⟨1, _⟩ => exact (miss v f 7 _ _ _ _ (show (1 : ℕ) ≠ 7 by decide) x y).trans ((miss v f 6 _ _ _ _ (show (1 : ℕ) ≠ 6 by decide) x y).trans ((miss v f 5 _ _ _ _ (show (1 : ℕ) ≠ 5 by decide) x y).trans ((miss v f 4 _ _ _ _ (show (1 : ℕ) ≠ 4 by decide) x y).trans ((miss v f 3 _ _ _ _ (show (1 : ℕ) ≠ 3 by decide) x y).trans ((miss v f 2 _ _ _ _ (show (1 : ℕ) ≠ 2 by decide) x y).trans (hit v f 1 _ _ _ _ rfl x y))))))
  | ⟨2, _⟩ => exact (miss v f 7 _ _ _ _ (show (2 : ℕ) ≠ 7 by decide) x y).trans ((miss v f 6 _ _ _ _ (show (2 : ℕ) ≠ 6 by decide) x y).trans ((miss v f 5 _ _ _ _ (show (2 : ℕ) ≠ 5 by decide) x y).trans ((miss v f 4 _ _ _ _ (show (2 : ℕ) ≠ 4 by decide) x y).trans ((miss v f 3 _ _ _ _ (show (2 : ℕ) ≠ 3 by decide) x y).trans (hit v f 2 _ _ _ _ rfl x y)))))
  | ⟨3, _⟩ => exact (miss v f 7 _ _ _ _ (show (3 : ℕ) ≠ 7 by decide) x y).trans ((miss v f 6 _ _ _ _ (show (3 : ℕ) ≠ 6 by decide) x y).trans ((miss v f 5 _ _ _ _ (show (3 : ℕ) ≠ 5 by decide) x y).trans ((miss v f 4 _ _ _ _ (show (3 : ℕ) ≠ 4 by decide) x y).trans (hit v f 3 _ _ _ _ rfl x y))))
  | ⟨4, _⟩ => exact (miss v f 7 _ _ _ _ (show (4 : ℕ) ≠ 7 by decide) x y).trans ((miss v f 6 _ _ _ _ (show (4 : ℕ) ≠ 6 by decide) x y).trans ((miss v f 5 _ _ _ _ (show (4 : ℕ) ≠ 5 by decide) x y).trans (hit v f 4 _ _ _ _ rfl x y)))
  | ⟨5, _⟩ => exact (miss v f 7 _ _ _ _ (show (5 : ℕ) ≠ 7 by decide) x y).trans ((miss v f 6 _ _ _ _ (show (5 : ℕ) ≠ 6 by decide) x y).trans (hit v f 5 _ _ _ _ rfl x y))
  | ⟨6, _⟩ => exact (miss v f 7 _ _ _ _ (show (6 : ℕ) ≠ 7 by decide) x y).trans (hit v f 6 _ _ _ _ rfl x y)
  | ⟨7, _⟩ => exact hit v f 7 _ _ _ _ rfl x y

/-- An entry of an array stored whole. -/
theorem whole3 {n a b : ℕ} {e : EltTy} (v : View sig .tc .vmem ⟨3, ![n, a, b]⟩ e) (f : v.ty.Contents (Elt Ideal))
    (inb : ∀ x, (![0, 0, 0] : Fin 3 → ℕ) x + (![n, a, b] : Fin 3 → ℕ) x ≤ (⟨3, ![n, a, b]⟩ : Shape).size x)
    (w : (Rect.unit (s := ⟨3, ![n, a, b]⟩) ![0, 0, 0] ![n, a, b] inb).shape.Idx → Elt Ideal e) (j : Fin n) (x : Fin a) (y : Fin b) :
    v.read (Elt Ideal) (v.writes (Elt Ideal) f [⟨Rect.unit (s := ⟨3, ![n, a, b]⟩) ![0, 0, 0] ![n, a, b] inb, w⟩]) (ix3 j x y) = w (ix3 j x y) :=
  View.read_writes_cons_unit_of_mem v f inb w [] _ (ix3 j x y) rfl (fun q => by
    match q with
    | ⟨0, _⟩ => exact (Nat.zero_add _).symm
    | ⟨1, _⟩ => exact (Nat.zero_add _).symm
    | ⟨2, _⟩ => exact (Nat.zero_add _).symm)

/-- An entry of the newest columns stored. -/
theorem hitO {sg : RefSig} {κ : Kind} {sp : Space} (v : View sg κ sp ⟨2, ![256, 1024]⟩ .f32) (f : v.ty.Contents (Elt Ideal)) (o : ℕ)
    (inb : ∀ x, (![0, o] : Fin 2 → ℕ) x + (![256, 128] : Fin 2 → ℕ) x ≤ (⟨2, ![256, 1024]⟩ : Shape).size x)
    (w : (Rect.unit (s := ⟨2, ![256, 1024]⟩) ![0, o] ![256, 128] inb).shape.Idx → Elt Ideal .f32) (L : List (View.Piece (Elt Ideal) ⟨2, ![256, 1024]⟩ .f32))
    (x : Fin 256) (k : Fin 1024) (d : Fin 128) (hk : k.val = o + d.val) :
    v.read (Elt Ideal) (v.writes (Elt Ideal) f (⟨Rect.unit (s := ⟨2, ![256, 1024]⟩) ![0, o] ![256, 128] inb, w⟩ :: L)) (ix2 x k) = w (ix2 x d) :=
  View.read_writes_cons_unit_of_mem v f inb w L _ (ix2 x d) rfl (fun q => by
    match q with
    | ⟨0, _⟩ => exact (Nat.zero_add _).symm
    | ⟨1, _⟩ => exact hk)

/-- An entry of other columns than the newest stored. -/
theorem missO {sg : RefSig} {κ : Kind} {sp : Space} (v : View sg κ sp ⟨2, ![256, 1024]⟩ .f32) (f : v.ty.Contents (Elt Ideal)) (o : ℕ)
    (inb : ∀ x, (![0, o] : Fin 2 → ℕ) x + (![256, 128] : Fin 2 → ℕ) x ≤ (⟨2, ![256, 1024]⟩ : Shape).size x)
    (w : (Rect.unit (s := ⟨2, ![256, 1024]⟩) ![0, o] ![256, 128] inb).shape.Idx → Elt Ideal .f32) (L : List (View.Piece (Elt Ideal) ⟨2, ![256, 1024]⟩ .f32))
    (x : Fin 256) (k : Fin 1024) (hk : k.val < o ∨ o + 128 ≤ k.val) :
    v.read (Elt Ideal) (v.writes (Elt Ideal) f (⟨Rect.unit (s := ⟨2, ![256, 1024]⟩) ![0, o] ![256, 128] inb, w⟩ :: L)) (ix2 x k) = v.read (Elt Ideal) (v.writes (Elt Ideal) f L) (ix2 x k) :=
  View.read_writes_cons_unit_of_not_mem v f inb w L _ rfl (1 : Fin 2) hk

theorem pcO_read {sg : RefSig} {κ : Kind} {sp : Space} (v : View sg κ sp ⟨2, ![256, 1024]⟩ .f32) (f : v.ty.Contents (Elt Ideal)) (g : Fin 8 → FVec Ideal S256x128 .f32)
    (h : Fin 8) (x : Fin 256) (d : Fin 128) : v.read (Elt Ideal) (v.writes (Elt Ideal) f (pcO g)) (ix2 x (hd h d)) = g h (ix2 x d) := by
  unfold pcO
  match h with
  | ⟨0, _⟩ => exact (missO v f 896 _ _ _ x _ (Or.inl (show 0 * 128 + d.val < 896 by omega))).trans ((missO v f 768 _ _ _ x _ (Or.inl (show 0 * 128 + d.val < 768 by omega))).trans ((missO v f 640 _ _ _ x _ (Or.inl (show 0 * 128 + d.val < 640 by omega))).trans ((missO v f 512 _ _ _ x _ (Or.inl (show 0 * 128 + d.val < 512 by omega))).trans ((missO v f 384 _ _ _ x _ (Or.inl (show 0 * 128 + d.val < 384 by omega))).trans ((missO v f 256 _ _ _ x _ (Or.inl (show 0 * 128 + d.val < 256 by omega))).trans ((missO v f 128 _ _ _ x _ (Or.inl (show 0 * 128 + d.val < 128 by omega))).trans (hitO v f 0 _ _ _ x _ d rfl)))))))
  | ⟨1, _⟩ => exact (missO v f 896 _ _ _ x _ (Or.inl (show 1 * 128 + d.val < 896 by omega))).trans ((missO v f 768 _ _ _ x _ (Or.inl (show 1 * 128 + d.val < 768 by omega))).trans ((missO v f 640 _ _ _ x _ (Or.inl (show 1 * 128 + d.val < 640 by omega))).trans ((missO v f 512 _ _ _ x _ (Or.inl (show 1 * 128 + d.val < 512 by omega))).trans ((missO v f 384 _ _ _ x _ (Or.inl (show 1 * 128 + d.val < 384 by omega))).trans ((missO v f 256 _ _ _ x _ (Or.inl (show 1 * 128 + d.val < 256 by omega))).trans (hitO v f 128 _ _ _ x _ d rfl))))))
  | ⟨2, _⟩ => exact (missO v f 896 _ _ _ x _ (Or.inl (show 2 * 128 + d.val < 896 by omega))).trans ((missO v f 768 _ _ _ x _ (Or.inl (show 2 * 128 + d.val < 768 by omega))).trans ((missO v f 640 _ _ _ x _ (Or.inl (show 2 * 128 + d.val < 640 by omega))).trans ((missO v f 512 _ _ _ x _ (Or.inl (show 2 * 128 + d.val < 512 by omega))).trans ((missO v f 384 _ _ _ x _ (Or.inl (show 2 * 128 + d.val < 384 by omega))).trans (hitO v f 256 _ _ _ x _ d rfl)))))
  | ⟨3, _⟩ => exact (missO v f 896 _ _ _ x _ (Or.inl (show 3 * 128 + d.val < 896 by omega))).trans ((missO v f 768 _ _ _ x _ (Or.inl (show 3 * 128 + d.val < 768 by omega))).trans ((missO v f 640 _ _ _ x _ (Or.inl (show 3 * 128 + d.val < 640 by omega))).trans ((missO v f 512 _ _ _ x _ (Or.inl (show 3 * 128 + d.val < 512 by omega))).trans (hitO v f 384 _ _ _ x _ d rfl))))
  | ⟨4, _⟩ => exact (missO v f 896 _ _ _ x _ (Or.inl (show 4 * 128 + d.val < 896 by omega))).trans ((missO v f 768 _ _ _ x _ (Or.inl (show 4 * 128 + d.val < 768 by omega))).trans ((missO v f 640 _ _ _ x _ (Or.inl (show 4 * 128 + d.val < 640 by omega))).trans (hitO v f 512 _ _ _ x _ d rfl)))
  | ⟨5, _⟩ => exact (missO v f 896 _ _ _ x _ (Or.inl (show 5 * 128 + d.val < 896 by omega))).trans ((missO v f 768 _ _ _ x _ (Or.inl (show 5 * 128 + d.val < 768 by omega))).trans (hitO v f 640 _ _ _ x _ d rfl))
  | ⟨6, _⟩ => exact (missO v f 896 _ _ _ x _ (Or.inl (show 6 * 128 + d.val < 896 by omega))).trans (hitO v f 768 _ _ _ x _ d rfl)
  | ⟨7, _⟩ => exact hitO v f 896 _ _ _ x _ d rfl

theorem msk_apply (s : FVec Ideal S256x256 .f32) (r c : Fin 256) : msk s (ix2 r c) = if r.val ≤ c.val then s (ix2 r c) else (⊥ : EReal) := by
  unfold msk select cmpi
  rw [iota_single_apply, iota_single_apply]
  show Scalar.select (BitVec.ofBool ((BitVec.ofNat 32 r.val).sle (BitVec.ofNat 32 c.val))) (s (ix2 r c)) (Ideal.ofBits .f32 0xFF800000#32) = _
  rw [sle_nat _ _ (by omega) (by omega), ninf]
  by_cases h : r.val ≤ c.val
  · rw [decide_eq_true h, if_pos h]; rfl
  · rw [decide_eq_false h, if_neg h]; rfl

end Cert.Kernel6Ideal.Attn
-- ==== Proof.Init.lean ====
/- What a block of queries starts from: its queries, the first key tile's scores, and the empty softmax. -/
module

public import proofs.«01_k».proof.Proof.Quer

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Init

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

/-- The queries a block keeps. -/
def Qv (x0 : Vec Ideal S256x1024 .bf16) (x1 : Vec Ideal S256x128 .bf16) : S8x256x256.Idx → EReal := fun j =>
  if he : (j 1).val < 128 then x0 (ix2 (j 2) (hd (j 0) ⟨(j 1).val, he⟩)) else if (j 0).val * 16 ≤ (j 1).val - 128 ∧ (j 1).val - 128 < (j 0).val * 16 + 16 then x1 (ix2 (j 2) (⟨(j 1).val - 128, by have h1 : (j 1).val < 256 := (j 1).isLt; omega⟩ : Fin 128)) else (0 : EReal)

theorem q_eq : Gen.kernelRun0_A.sl.HS3_8 (F := Ideal) c arg2 harg2 arg3 harg3 x0 x1 = pcQ ![qS 0#32 16#32 (View.readAt (Elt Ideal) arg3.view (Rect.unit (s := S256x128) ![0, 0] S256x128.size inb_S256x128_S256x128_0_0).toLoadRect (harg3.unread x1)) (View.readAt (Elt Ideal) arg2.view (Rect.unit (s := S256x1024) ![0, 0] S256x128.size inb_S256x1024_S256x128_0_0).toLoadRect (harg2.unread x0)), qS 16#32 32#32 (View.readAt (Elt Ideal) arg3.view (Rect.unit (s := S256x128) ![0, 0] S256x128.size inb_S256x128_S256x128_0_0).toLoadRect (harg3.unread x1)) (View.readAt (Elt Ideal) arg2.view (Rect.unit (s := S256x1024) ![0, 128] S256x128.size inb_S256x1024_S256x128_0_128).toLoadRect (harg2.unread x0)), qS 32#32 48#32 (View.readAt (Elt Ideal) arg3.view (Rect.unit (s := S256x128) ![0, 0] S256x128.size inb_S256x128_S256x128_0_0).toLoadRect (harg3.unread x1)) (View.readAt (Elt Ideal) arg2.view (Rect.unit (s := S256x1024) ![0, 256] S256x128.size inb_S256x1024_S256x128_0_256).toLoadRect (harg2.unread x0)), qS 48#32 64#32 (View.readAt (Elt Ideal) arg3.view (Rect.unit (s := S256x128) ![0, 0] S256x128.size inb_S256x128_S256x128_0_0).toLoadRect (harg3.unread x1)) (View.readAt (Elt Ideal) arg2.view (Rect.unit (s := S256x1024) ![0, 384] S256x128.size inb_S256x1024_S256x128_0_384).toLoadRect (harg2.unread x0)), qS 64#32 80#32 (View.readAt (Elt Ideal) arg3.view (Rect.unit (s := S256x128) ![0, 0] S256x128.size inb_S256x128_S256x128_0_0).toLoadRect (harg3.unread x1)) (View.readAt (Elt Ideal) arg2.view (Rect.unit (s := S256x1024) ![0, 512] S256x128.size inb_S256x1024_S256x128_0_512).toLoadRect (harg2.unread x0)), qS 80#32 96#32 (View.readAt (Elt Ideal) arg3.view (Rect.unit (s := S256x128) ![0, 0] S256x128.size inb_S256x128_S256x128_0_0).toLoadRect (harg3.unread x1)) (View.readAt (Elt Ideal) arg2.view (Rect.unit (s := S256x1024) ![0, 640] S256x128.size inb_S256x1024_S256x128_0_640).toLoadRect (harg2.unread x0)), qS 96#32 112#32 (View.readAt (Elt Ideal) arg3.view (Rect.unit (s := S256x128) ![0, 0] S256x128.size inb_S256x128_S256x128_0_0).toLoadRect (harg3.unread x1)) (View.readAt (Elt Ideal) arg2.view (Rect.unit (s := S256x1024) ![0, 768] S256x128.size inb_S256x1024_S256x128_0_768).toLoadRect (harg2.unread x0)), qS 112#32 128#32 (View.readAt (Elt Ideal) arg3.view (Rect.unit (s := S256x128) ![0, 0] S256x128.size inb_S256x128_S256x128_0_0).toLoadRect (harg3.unread x1)) (View.readAt (Elt Ideal) arg2.view (Rect.unit (s := S256x1024) ![0, 896] S256x128.size inb_S256x1024_S256x128_0_896).toLoadRect (harg2.unread x0))] := rfl

theorem qv : arg11.view.read (Elt Ideal) (arg11.view.writes (Elt Ideal) arg11.view.junk (Gen.kernelRun0_A.sl.HS3_8 (F := Ideal) c arg2 harg2 arg3 harg3 x0 x1)) = Qv x0 x1 := by
  funext j
  obtain ⟨h, e, c', rfl⟩ : ∃ (h : Fin 8) (e c' : Fin 256), j = ix3 h e c' := ⟨j 0, j 1, j 2, funext fun a => match a with | ⟨0, _⟩ => rfl | ⟨1, _⟩ => rfl | ⟨2, _⟩ => rfl⟩
  rw [q_eq, pcQ_read]
  have key : ∀ (h : Fin 8) (o : ℕ) (ho : o = h.val * 128) (inb), qS (BitVec.ofNat 32 (h.val * 16)) (BitVec.ofNat 32 (h.val * 16 + 16)) (View.readAt (Elt Ideal) arg3.view (Rect.unit (s := S256x128) ![0, 0] S256x128.size inb_S256x128_S256x128_0_0).toLoadRect (harg3.unread x1)) (View.readAt (Elt Ideal) arg2.view (Rect.unit (s := S256x1024) ![0, o] S256x128.size inb).toLoadRect (harg2.unread x0)) (ix3 0 e c') = Qv x0 x1 (ix3 h e c') := by
    intro h o ho inb
    rw [qS_apply]
    unfold Qv
    refine dite_congr rfl (fun he => ?_) (fun he => if_congr Iff.rfl ?_ rfl)
    · refine (ld2 (a := 256) (b := 128) (c := 256) (d := 1024) (arg2.view.read (Elt Ideal) (harg2.unread x0)) ![0, o] inb c' _ c' (hd h _) (Nat.zero_add _).symm ?_).trans (congrFun (harg2.read_unread x0) _)
      rw [ho]; rfl
    · exact (ld2 (a := 256) (b := 128) (c := 256) (d := 128) (arg3.view.read (Elt Ideal) (harg3.unread x1)) ![0, 0] inb_S256x128_S256x128_0_0 c' _ c' _ (Nat.zero_add _).symm (Nat.zero_add _).symm).trans (congrFun (harg3.read_unread x1) _)
  match h with
  | ⟨0, _⟩ => exact key 0 0 rfl _
  | ⟨1, _⟩ => exact key 1 128 rfl _
  | ⟨2, _⟩ => exact key 2 256 rfl _
  | ⟨3, _⟩ => exact key 3 384 rfl _
  | ⟨4, _⟩ => exact key 4 512 rfl _
  | ⟨5, _⟩ => exact key 5 640 rfl _
  | ⟨6, _⟩ => exact key 6 768 rfl _
  | ⟨7, _⟩ => exact key 7 896 rfl _

theorem s_eq : Gen.kernelRun0_A.sl.HS4_4 (F := Ideal) c arg2 harg2 arg3 harg3 arg4 harg4 arg5 harg5 arg11 x0 x1 x2 x3
    = pcS ![shapeCast S1x256x256 (tS (View.readAt (Elt Ideal) arg4.view (Rect.unit (s := S4096x1024) ![0, 0] S256x128.size inb_S4096x1024_S256x128_0_0).toLoadRect (harg4.unread x2)) (View.readAt (Elt Ideal) arg5.view (Rect.unit (s := S4096x128) ![0, 0] S256x128.size inb_S4096x128_S256x128_0_0).toLoadRect (harg5.unread x3)) (qF (arg11.view.read (Elt Ideal) (arg11.view.writes (Elt Ideal) arg11.view.junk (Gen.kernelRun0_A.sl.HS3_8 (F := Ideal) c arg2 harg2 arg3 harg3 x0 x1))) 0)) shapeCasts_S256x256_S1x256x256, shapeCast S1x256x256 (tS (View.readAt (Elt Ideal) arg4.view (Rect.unit (s := S4096x1024) ![0, 128] S256x128.size inb_S4096x1024_S256x128_0_128).toLoadRect (harg4.unread x2)) (View.readAt (Elt Ideal) arg5.view (Rect.unit (s := S4096x128) ![0, 0] S256x128.size inb_S4096x128_S256x128_0_0).toLoadRect (harg5.unread x3)) (qF (arg11.view.read (Elt Ideal) (arg11.view.writes (Elt Ideal) arg11.view.junk (Gen.kernelRun0_A.sl.HS3_8 (F := Ideal) c arg2 harg2 arg3 harg3 x0 x1))) 1)) shapeCasts_S256x256_S1x256x256, shapeCast S1x256x256 (tS (View.readAt (Elt Ideal) arg4.view (Rect.unit (s := S4096x1024) ![0, 256] S256x128.size inb_S4096x1024_S256x128_0_256).toLoadRect (harg4.unread x2)) (View.readAt (Elt Ideal) arg5.view (Rect.unit (s := S4096x128) ![0, 0] S256x128.size inb_S4096x128_S256x128_0_0).toLoadRect (harg5.unread x3)) (qF (arg11.view.read (Elt Ideal) (arg11.view.writes (Elt Ideal) arg11.view.junk (Gen.kernelRun0_A.sl.HS3_8 (F := Ideal) c arg2 harg2 arg3 harg3 x0 x1))) 2)) shapeCasts_S256x256_S1x256x256, shapeCast S1x256x256 (tS (View.readAt (Elt Ideal) arg4.view (Rect.unit (s := S4096x1024) ![0, 384] S256x128.size inb_S4096x1024_S256x128_0_384).toLoadRect (harg4.unread x2)) (View.readAt (Elt Ideal) arg5.view (Rect.unit (s := S4096x128) ![0, 0] S256x128.size inb_S4096x128_S256x128_0_0).toLoadRect (harg5.unread x3)) (qF (arg11.view.read (Elt Ideal) (arg11.view.writes (Elt Ideal) arg11.view.junk (Gen.kernelRun0_A.sl.HS3_8 (F := Ideal) c arg2 harg2 arg3 harg3 x0 x1))) 3)) shapeCasts_S256x256_S1x256x256] [] := rfl

theorem s_init (a : Fin 4) (r x : Fin 256) : arg12.view.read (Elt Ideal) (arg12.view.writes (Elt Ideal) arg12.view.junk (Gen.kernelRun0_A.sl.HS4_4 (F := Ideal) c arg2 harg2 arg3 harg3 arg4 harg4 arg5 harg5 arg11 x0 x1 x2 x3)) (ix3 a r x) = sig0 x2 x3 (Qv x0 x1) (⟨a.val, by omega⟩ : Fin 8) (kj 0 r) x := by
  rw [s_eq, pcS_read, ← qv c arg2 harg2 arg3 harg3 arg11 x0 x1]
  have key : ∀ (h : Fin 8) (o : ℕ) (ho : o = h.val * 128) (inb), shapeCast S1x256x256 (tS (View.readAt (Elt Ideal) arg4.view (Rect.unit (s := S4096x1024) ![0, o] S256x128.size inb).toLoadRect (harg4.unread x2)) (View.readAt (Elt Ideal) arg5.view (Rect.unit (s := S4096x128) ![0, 0] S256x128.size inb_S4096x128_S256x128_0_0).toLoadRect (harg5.unread x3)) (qF (arg11.view.read (Elt Ideal) (arg11.view.writes (Elt Ideal) arg11.view.junk (Gen.kernelRun0_A.sl.HS3_8 (F := Ideal) c arg2 harg2 arg3 harg3 x0 x1))) h)) shapeCasts_S256x256_S1x256x256 (ix3 0 r x) = sig0 x2 x3 (arg11.view.read (Elt Ideal) (arg11.view.writes (Elt Ideal) arg11.view.junk (Gen.kernelRun0_A.sl.HS3_8 (F := Ideal) c arg2 harg2 arg3 harg3 x0 x1))) h (kj 0 r) x := by
    intro h o ho inb
    refine (shapeCast_ab_1ab_apply _ _ 0 r x).trans ((tS_sig (arg4.view.read (Elt Ideal) (harg4.unread x2)) (arg5.view.read (Elt Ideal) (harg5.unread x3)) _ 0 (by decide) h ![0, o] ![0, 0] inb _ (by rw [ho, Nat.zero_mul]) (by rw [Nat.zero_mul]) r x).trans ?_)
    rw [harg4.read_unread, harg5.read_unread]
  match a with
  | ⟨0, _⟩ => exact key 0 0 rfl _
  | ⟨1, _⟩ => exact key 1 128 rfl _
  | ⟨2, _⟩ => exact key 2 256 rfl _
  | ⟨3, _⟩ => exact key 3 384 rfl _

theorem big_real : IsR (Ideal.ofBits .f32 0xF149F2CA#32) := by
  unfold IsR
  simp [Ideal.ofBits, Ideal.ieee, -EReal.coe_mul]
  exact ⟨_, (EReal.coe_neg _).symm⟩

theorem held_init (h : Fin 8) (d : Fin 128) (x : Fin 256) : Held 0 0 (arg8.view.read (Elt Ideal) (arg8.view.writes (Elt Ideal) arg8.view.junk (Gen.kernelRun0_A.sl.HS0_1 (F := Ideal))) (ix3 h 0 x))
    (arg9.view.read (Elt Ideal) (arg9.view.writes (Elt Ideal) arg9.view.junk (Gen.kernelRun0_A.sl.HS1_1 (F := Ideal))) (ix3 h 0 x))
    (arg10.view.read (Elt Ideal) (arg10.view.writes (Elt Ideal) arg10.view.junk (Gen.kernelRun0_A.sl.HS2_1 (F := Ideal))) (ix3 h d x)) := by
  obtain ⟨m, hm⟩ := big_real
  have e8 : arg8.view.read (Elt Ideal) (arg8.view.writes (Elt Ideal) arg8.view.junk (Gen.kernelRun0_A.sl.HS0_1 (F := Ideal))) (ix3 h 0 x) = (m : EReal) :=
    (whole3 (n := 8) (a := 1) (b := 256) arg8.view _ _ (k0_pay149 (F := Ideal)) h 0 x).trans ((show k0_pay149 (F := Ideal) (ix3 h 0 x) = Ideal.ofBits .f32 0xF149F2CA#32 from rfl).trans hm)
  have e9 : arg9.view.read (Elt Ideal) (arg9.view.writes (Elt Ideal) arg9.view.junk (Gen.kernelRun0_A.sl.HS1_1 (F := Ideal))) (ix3 h 0 x) = (0 : EReal) :=
    (whole3 (n := 8) (a := 1) (b := 256) arg9.view _ _ (k0_pay150 (F := Ideal)) h 0 x).trans ((show k0_pay150 (F := Ideal) (ix3 h 0 x) = Ideal.ofBits .f32 0x00000000#32 from rfl).trans Ideal.ofBits_zero_f32)
  have e10 : arg10.view.read (Elt Ideal) (arg10.view.writes (Elt Ideal) arg10.view.junk (Gen.kernelRun0_A.sl.HS2_1 (F := Ideal))) (ix3 h d x) = (0 : EReal) :=
    (whole3 (n := 8) (a := 128) (b := 256) arg10.view _ _ (k0_pay151 (F := Ideal)) h d x).trans ((show k0_pay151 (F := Ideal) (ix3 h d x) = Ideal.ofBits .f32 0x00000000#32 from rfl).trans Ideal.ofBits_zero_f32)
  rw [e8, e9, e10]
  exact held_zero m

end Init

end Cert.Kernel6Ideal.Attn
-- ==== Proof.DiagT.lean ====
/- What one block of queries stores: its softmax over the key tiles up to the diagonal. -/
module

public import proofs.«01_k».proof.Proof.Init

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

theorem app2 {sig : RefSig} {κ : Kind} {sp : Space} {s : Shape} {e : EltTy} {Val : EltTy → Type} {v : View sig κ sp s e} {f : v.ty.Contents Val} {P L L' : List (View.Piece Val s e)} (h : P = []) : v.writes Val f (P ++ (L ++ L')) = v.writes Val (v.writes Val f L') L := by
  subst h
  rw [List.nil_append]
  exact View.writes_append _ _ _ _

section Diag

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

/-- The stores before the masked tile, the second loop making none. -/
theorem t0_eq : arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4) = arg8.view.writes (Elt Ideal) (arg8.view.writes (Elt Ideal) arg8.view.junk (Gen.kernelRun0_A.sl.HS0_1 (F := Ideal))) (pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (Gen.kernelRun0_A.sl.r_3 (F := Ideal) c arg4 harg4 x2) (harg4.unread x2) (harg5.unread x3) (harg6.unread x4) (arg11.view.writes (Elt Ideal) arg11.view.junk (Gen.kernelRun0_A.sl.HS3_8 (F := Ideal) c arg2 harg2 arg3 harg3 x0 x1)) (arg8.view.writes (Elt Ideal) arg8.view.junk (Gen.kernelRun0_A.sl.HS0_1 (F := Ideal))) (arg9.view.writes (Elt Ideal) arg9.view.junk (Gen.kernelRun0_A.sl.HS1_1 (F := Ideal))) (arg10.view.writes (Elt Ideal) arg10.view.junk (Gen.kernelRun0_A.sl.HS2_1 (F := Ideal))) (arg12.view.writes (Elt Ideal) arg12.view.junk (Gen.kernelRun0_A.sl.HS4_4 (F := Ideal) c arg2 harg2 arg3 harg3 arg4 harg4 arg5 harg5 arg11 x0 x1 x2 x3)) (k0_t1_loop i).trips).1 := by
  unfold t0
  exact app2 (congrArg (fun q => q.1) (p2_nil c i arg2 harg2 arg3 harg3 arg4 harg4 arg5 harg5 arg6 harg6 arg7 harg7 arg8 harg8 arg9 harg9 arg10 harg10 arg11 harg11 arg12 harg12 _ (trips2 i) _ _ _ _ _ _ _ _ _ _ _))

theorem t1_eq : arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4) = arg9.view.writes (Elt Ideal) (arg9.view.writes (Elt Ideal) arg9.view.junk (Gen.kernelRun0_A.sl.HS1_1 (F := Ideal))) (pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (Gen.kernelRun0_A.sl.r_3 (F := Ideal) c arg4 harg4 x2) (harg4.unread x2) (harg5.unread x3) (harg6.unread x4) (arg11.view.writes (Elt Ideal) arg11.view.junk (Gen.kernelRun0_A.sl.HS3_8 (F := Ideal) c arg2 harg2 arg3 harg3 x0 x1)) (arg8.view.writes (Elt Ideal) arg8.view.junk (Gen.kernelRun0_A.sl.HS0_1 (F := Ideal))) (arg9.view.writes (Elt Ideal) arg9.view.junk (Gen.kernelRun0_A.sl.HS1_1 (F := Ideal))) (arg10.view.writes (Elt Ideal) arg10.view.junk (Gen.kernelRun0_A.sl.HS2_1 (F := Ideal))) (arg12.view.writes (Elt Ideal) arg12.view.junk (Gen.kernelRun0_A.sl.HS4_4 (F := Ideal) c arg2 harg2 arg3 harg3 arg4 harg4 arg5 harg5 arg11 x0 x1 x2 x3)) (k0_t1_loop i).trips).2.1 := by
  unfold t1
  exact app2 (congrArg (fun q => q.2.1) (p2_nil c i arg2 harg2 arg3 harg3 arg4 harg4 arg5 harg5 arg6 harg6 arg7 harg7 arg8 harg8 arg9 harg9 arg10 harg10 arg11 harg11 arg12 harg12 _ (trips2 i) _ _ _ _ _ _ _ _ _ _ _))

theorem t2_eq : arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4) = arg10.view.writes (Elt Ideal) (arg10.view.writes (Elt Ideal) arg10.view.junk (Gen.kernelRun0_A.sl.HS2_1 (F := Ideal))) (pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (Gen.kernelRun0_A.sl.r_3 (F := Ideal) c arg4 harg4 x2) (harg4.unread x2) (harg5.unread x3) (harg6.unread x4) (arg11.view.writes (Elt Ideal) arg11.view.junk (Gen.kernelRun0_A.sl.HS3_8 (F := Ideal) c arg2 harg2 arg3 harg3 x0 x1)) (arg8.view.writes (Elt Ideal) arg8.view.junk (Gen.kernelRun0_A.sl.HS0_1 (F := Ideal))) (arg9.view.writes (Elt Ideal) arg9.view.junk (Gen.kernelRun0_A.sl.HS1_1 (F := Ideal))) (arg10.view.writes (Elt Ideal) arg10.view.junk (Gen.kernelRun0_A.sl.HS2_1 (F := Ideal))) (arg12.view.writes (Elt Ideal) arg12.view.junk (Gen.kernelRun0_A.sl.HS4_4 (F := Ideal) c arg2 harg2 arg3 harg3 arg4 harg4 arg5 harg5 arg11 x0 x1 x2 x3)) (k0_t1_loop i).trips).2.2.1 := by
  unfold t2
  exact app2 (congrArg (fun q => q.2.2.1) (p2_nil c i arg2 harg2 arg3 harg3 arg4 harg4 arg5 harg5 arg6 harg6 arg7 harg7 arg8 harg8 arg9 harg9 arg10 harg10 arg11 harg11 arg12 harg12 _ (trips2 i) _ _ _ _ _ _ _ _ _ _ _))

theorem t3_eq : arg12.view.writes (Elt Ideal) arg12.view.junk (t3 c i arg2 harg2 arg3 harg3 arg4 harg4 arg5 harg5 arg6 harg6 arg7 harg7 arg8 harg8 arg9 harg9 arg10 harg10 arg11 harg11 arg12 harg12 x0 x1 x2 x3 x4) = arg12.view.writes (Elt Ideal) (arg12.view.writes (Elt Ideal) arg12.view.junk (Gen.kernelRun0_A.sl.HS4_4 (F := Ideal) c arg2 harg2 arg3 harg3 arg4 harg4 arg5 harg5 arg11 x0 x1 x2 x3)) (pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) (Gen.kernelRun0_A.sl.r_3 (F := Ideal) c arg4 harg4 x2) (harg4.unread x2) (harg5.unread x3) (harg6.unread x4) (arg11.view.writes (Elt Ideal) arg11.view.junk (Gen.kernelRun0_A.sl.HS3_8 (F := Ideal) c arg2 harg2 arg3 harg3 x0 x1)) (arg8.view.writes (Elt Ideal) arg8.view.junk (Gen.kernelRun0_A.sl.HS0_1 (F := Ideal))) (arg9.view.writes (Elt Ideal) arg9.view.junk (Gen.kernelRun0_A.sl.HS1_1 (F := Ideal))) (arg10.view.writes (Elt Ideal) arg10.view.junk (Gen.kernelRun0_A.sl.HS2_1 (F := Ideal))) (arg12.view.writes (Elt Ideal) arg12.view.junk (Gen.kernelRun0_A.sl.HS4_4 (F := Ideal) c arg2 harg2 arg3 harg3 arg4 harg4 arg5 harg5 arg11 x0 x1 x2 x3)) (k0_t1_loop i).trips).2.2.2 := by
  unfold t3
  exact app2 (congrArg (fun q => q.2.2.2) (p2_nil c i arg2 harg2 arg3 harg3 arg4 harg4 arg5 harg5 arg6 harg6 arg7 harg7 arg8 harg8 arg9 harg9 arg10 harg10 arg11 harg11 arg12 harg12 _ (trips2 i) _ _ _ _ _ _ _ _ _ _ _))

end Diag

end Cert.Kernel6Ideal.Attn
-- ==== Proof.DiagS.lean ====
/- What one block of queries stores: its softmax over the key tiles up to the diagonal. -/
module

public import proofs.«01_k».proof.Proof.Init

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Offsets

variable (i : grid0.Coords)

theorem f37 : k0_off37 i = ![(i 1).val * 256, 512] := by
  unfold k0_off37
  dsimp only
  rw [show _ = _ from tile2 (i 1)]

theorem f40 : k0_off40 i = ![(i 1).val * 256, 640] := by
  unfold k0_off40
  dsimp only
  rw [show _ = _ from tile2 (i 1)]

theorem f42 : k0_off42 i = ![(i 1).val * 256, 768] := by
  unfold k0_off42
  dsimp only
  rw [show _ = _ from tile2 (i 1)]

theorem f44 : k0_off44 i = ![(i 1).val * 256, 896] := by
  unfold k0_off44
  dsimp only
  rw [show _ = _ from tile2 (i 1)]

theorem f38 : k0_off38 i = ![(i 1).val * 256, 0] := by
  unfold k0_off38
  dsimp only
  rw [show _ = _ from tile2 (i 1)]

theorem f39 : k0_off39 i = ![0, (i 1).val * 256] := by
  unfold k0_off39
  dsimp only
  rw [show _ = _ from tile2 (i 1)]

theorem f41 : k0_off41 i = ![128, (i 1).val * 256] := by
  unfold k0_off41
  dsimp only
  rw [show _ = _ from tile2 (i 1)]

theorem f43 : k0_off43 i = ![256, (i 1).val * 256] := by
  unfold k0_off43
  dsimp only
  rw [show _ = _ from tile2 (i 1)]

theorem f45 : k0_off45 i = ![384, (i 1).val * 256] := by
  unfold k0_off45
  dsimp only
  rw [show _ = _ from tile2 (i 1)]

theorem f46 : k0_off46 i = ![512, (i 1).val * 256] := by
  unfold k0_off46
  dsimp only
  rw [show _ = _ from tile2 (i 1)]

theorem f47 : k0_off47 i = ![640, (i 1).val * 256] := by
  unfold k0_off47
  dsimp only
  rw [show _ = _ from tile2 (i 1)]

theorem f48 : k0_off48 i = ![768, (i 1).val * 256] := by
  unfold k0_off48
  dsimp only
  rw [show _ = _ from tile2 (i 1)]

theorem f49 : k0_off49 i = ![896, (i 1).val * 256] := by
  unfold k0_off49
  dsimp only
  rw [show _ = _ from tile2 (i 1)]

end Offsets

section Diag

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

theorem gS_val (a3 : ∀ (a : Fin 4) (r x : Fin 256), arg12.view.read (Elt Ideal) (arg12.view.writes (Elt Ideal) arg12.view.junk (t3 c i arg2 harg2 arg3 harg3 arg4 harg4 arg5 harg5 arg6 harg6 arg7 harg7 arg8 harg8 arg9 harg9 arg10 harg10 arg11 harg11 arg12 harg12 x0 x1 x2 x3 x4)) (ix3 a r x) = sig0 x2 x3 (Qv x0 x1) (⟨a.val, by omega⟩ : Fin 8) (kj (i 1).val r) x)
    (h : Fin 8) (r x : Fin 256) : gS c i arg2 harg2 arg3 harg3 arg4 harg4 arg5 harg5 arg6 harg6 arg7 harg7 arg8 harg8 arg9 harg9 arg10 harg10 arg11 harg11 arg12 harg12 x0 x1 x2 x3 x4 h (ix2 r x) = sig0 x2 x3 (Qv x0 x1) h (kj (i 1).val r) x := by
  unfold gS
  have key : ∀ (h : Fin 8) (o : Fin 2 → ℕ) (inb) (ho : o = ![(i 1).val * 256, h.val * 128]), tS (View.readAt (Elt Ideal) arg4.view (Rect.unit (s := S4096x1024) o S256x128.size inb).toLoadRect (harg4.unread x2)) (View.readAt (Elt Ideal) arg5.view (Rect.unit (s := S4096x128) (k0_off38 i) S256x128.size (k0_off38_inb i)).toLoadRect (harg5.unread x3)) (qF (arg11.view.read (Elt Ideal) (arg11.view.writes (Elt Ideal) arg11.view.junk (Gen.kernelRun0_A.sl.HS3_8 (F := Ideal) c arg2 harg2 arg3 harg3 x0 x1))) h) (ix2 r x) = sig0 x2 x3 (Qv x0 x1) h (kj (i 1).val r) x := by
    intro h o inb ho
    refine (tS_sig (arg4.view.read (Elt Ideal) (harg4.unread x2)) (arg5.view.read (Elt Ideal) (harg5.unread x3)) _ (i 1).val (i 1).isLt h o _ inb _ ho (f38 i) r x).trans ?_
    rw [harg4.read_unread, harg5.read_unread, qv]
  match h with
  | ⟨0, _⟩ => exact (shapeCast_1ab_ab_apply _ _ r x).trans ((ld3 (arg12.view.read (Elt Ideal) (arg12.view.writes (Elt Ideal) arg12.view.junk (t3 c i arg2 harg2 arg3 harg3 arg4 harg4 arg5 harg5 arg6 harg6 arg7 harg7 arg8 harg8 arg9 harg9 arg10 harg10 arg11 harg11 arg12 harg12 x0 x1 x2 x3 x4))) 0 inb_S4x256x256_S1x256x256_0_0_0 0 rfl r x).trans (a3 0 r x))
  | ⟨1, _⟩ => exact (shapeCast_1ab_ab_apply _ _ r x).trans ((ld3 (arg12.view.read (Elt Ideal) (arg12.view.writes (Elt Ideal) arg12.view.junk (t3 c i arg2 harg2 arg3 harg3 arg4 harg4 arg5 harg5 arg6 harg6 arg7 harg7 arg8 harg8 arg9 harg9 arg10 harg10 arg11 harg11 arg12 harg12 x0 x1 x2 x3 x4))) 1 inb_S4x256x256_S1x256x256_1_0_0 1 rfl r x).trans (a3 1 r x))
  | ⟨2, _⟩ => exact (shapeCast_1ab_ab_apply _ _ r x).trans ((ld3 (arg12.view.read (Elt Ideal) (arg12.view.writes (Elt Ideal) arg12.view.junk (t3 c i arg2 harg2 arg3 harg3 arg4 harg4 arg5 harg5 arg6 harg6 arg7 harg7 arg8 harg8 arg9 harg9 arg10 harg10 arg11 harg11 arg12 harg12 x0 x1 x2 x3 x4))) 2 inb_S4x256x256_S1x256x256_2_0_0 2 rfl r x).trans (a3 2 r x))
  | ⟨3, _⟩ => exact (shapeCast_1ab_ab_apply _ _ r x).trans ((ld3 (arg12.view.read (Elt Ideal) (arg12.view.writes (Elt Ideal) arg12.view.junk (t3 c i arg2 harg2 arg3 harg3 arg4 harg4 arg5 harg5 arg6 harg6 arg7 harg7 arg8 harg8 arg9 harg9 arg10 harg10 arg11 harg11 arg12 harg12 x0 x1 x2 x3 x4))) 3 inb_S4x256x256_S1x256x256_3_0_0 3 rfl r x).trans (a3 3 r x))
  | ⟨4, _⟩ => exact key 4 _ _ (f37 i)
  | ⟨5, _⟩ => exact key 5 _ _ (f40 i)
  | ⟨6, _⟩ => exact key 6 _ _ (f42 i)
  | ⟨7, _⟩ => exact key 7 _ _ (f44 i)

theorem gV_val (h : Fin 8) (d : Fin 128) (r : Fin 256) : gV c i arg2 harg2 arg3 harg3 arg4 harg4 arg5 harg5 arg6 harg6 arg7 harg7 arg8 harg8 arg9 harg9 arg10 harg10 arg11 harg11 arg12 harg12 x0 x1 x2 x3 x4 h (ix2 d r) = x4 (ix2 (hd h d) (kj (i 1).val r)) := by
  unfold gV
  have key : ∀ (h : Fin 8) (o : Fin 2 → ℕ) (inb) (ho : o = ![h.val * 128, (i 1).val * 256]), (View.readAt (Elt Ideal) arg6.view (Rect.unit (s := S1024x4096) o S128x256.size inb).toLoadRect (harg6.unread x4)) (ix2 d r) = x4 (ix2 (hd h d) (kj (i 1).val r)) := by
    intro h o inb ho
    refine (ld2 (a := 128) (b := 256) (c := 1024) (d := 4096) (arg6.view.read (Elt Ideal) (harg6.unread x4)) o inb d r (hd h d) (kj (i 1).val r) ?_ ?_).trans (congrFun (harg6.read_unread x4) _)
    · rw [ho]; rfl
    · rw [ho, kj_val _ (i 1).isLt]; rfl
  match h with
  | ⟨0, _⟩ => exact key 0 _ _ (f39 i)
  | ⟨1, _⟩ => exact key 1 _ _ (f41 i)
  | ⟨2, _⟩ => exact key 2 _ _ (f43 i)
  | ⟨3, _⟩ => exact key 3 _ _ (f45 i)
  | ⟨4, _⟩ => exact key 4 _ _ (f46 i)
  | ⟨5, _⟩ => exact key 5 _ _ (f47 i)
  | ⟨6, _⟩ => exact key 6 _ _ (f48 i)
  | ⟨7, _⟩ => exact key 7 _ _ (f49 i)

end Diag

end Cert.Kernel6Ideal.Attn
-- ==== Proof.Diag.lean ====
/- What one block of queries stores: its softmax over the key tiles up to the diagonal. -/
module

public import proofs.«01_k».proof.Proof.DiagT
public import proofs.«01_k».proof.Proof.DiagS

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Diag

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

theorem before (w : Fin 1024 → Fin 4096 → ℝ) (hw : ∀ a b, x4 (ix2 a b) = (w a b : EReal)) (hs : ∀ h j x, sig0 x2 x3 (Qv x0 x1) h j x ≠ ⊤) :
    (∀ (h : Fin 8) (d : Fin 128) (x : Fin 256), Held (zs x2 x3 (Qv x0 x1) h x (i 1).val) (ns x2 x3 (Qv x0 x1) w h d x (i 1).val) (arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 h 0 x)) (arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 h 0 x)) (arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 h d x)))
      ∧ ∀ (a : Fin 4) (r x : Fin 256), arg12.view.read (Elt Ideal) (arg12.view.writes (Elt Ideal) arg12.view.junk (t3 c i arg2 harg2 arg3 harg3 arg4 harg4 arg5 harg5 arg6 harg6 arg7 harg7 arg8 harg8 arg9 harg9 arg10 harg10 arg11 harg11 arg12 harg12 x0 x1 x2 x3 x4)) (ix3 a r x) = sig0 x2 x3 (Qv x0 x1) (⟨a.val, by omega⟩ : Fin 8) (kj (i 1).val r) x := by
  rw [t0_eq, t1_eq, t2_eq, t3_eq, trips1]
  have e4 := harg4.read_unread x2
  have e5 := harg5.read_unread x3
  have e6 := harg6.read_unread x4
  have e11 := qv c arg2 harg2 arg3 harg3 arg11 x0 x1
  have L := loop Variants.none c none i arg2 harg2 arg3 harg3 arg4 harg4 arg5 harg5 arg6 harg6 arg7 harg7 arg8 harg8 arg9 harg9 arg10 harg10 arg11 harg11 arg12 harg12 (BitVec.ofNat 32 ↑(i 1)) (Gen.kernelRun0_A.sl.r_3 (F := Ideal) c arg4 harg4 x2) (harg4.unread x2) (harg5.unread x3) (harg6.unread x4) (arg11.view.writes (Elt Ideal) arg11.view.junk (Gen.kernelRun0_A.sl.HS3_8 (F := Ideal) c arg2 harg2 arg3 harg3 x0 x1))
    (arg8.view.writes (Elt Ideal) arg8.view.junk (Gen.kernelRun0_A.sl.HS0_1 (F := Ideal))) (arg9.view.writes (Elt Ideal) arg9.view.junk (Gen.kernelRun0_A.sl.HS1_1 (F := Ideal))) (arg10.view.writes (Elt Ideal) arg10.view.junk (Gen.kernelRun0_A.sl.HS2_1 (F := Ideal))) (arg12.view.writes (Elt Ideal) arg12.view.junk (Gen.kernelRun0_A.sl.HS4_4 (F := Ideal) c arg2 harg2 arg3 harg3 arg4 harg4 arg5 harg5 arg11 x0 x1 x2 x3))
    w (by rw [e6]; exact hw) (by rw [e4, e5, e11]; exact hs) (fun h d x => held_init arg8 arg9 arg10 h d x) (by rw [e4, e5, e11]; exact s_init c arg2 harg2 arg3 harg3 arg4 harg4 arg5 harg5 arg11 arg12 x0 x1 x2 x3) (i 1).val (trips1 i).ge
  rw [e4, e5, e11] at L
  exact L

end Diag

end Cert.Kernel6Ideal.Attn
-- ==== Proof.FinalL.lean ====
/- The running sums the masked tile stores, head by head. -/
module

public import proofs.«01_k».proof.Proof.Final

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Lists

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

theorem l0 : (Gen.kernelRun0_A.sl.HS1_1_1 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![0, 0, 0] ![1, 1, 256] inb_S8x1x256_S1x1x256_0_0_0, tL (msk ((gS c i arg2 harg2 arg3 harg3 arg4 harg4 arg5 harg5 arg6 harg6 arg7 harg7 arg8 harg8 arg9 harg9 arg10 harg10 arg11 harg11 arg12 harg12 x0 x1 x2 x3 x4) 0)) ((gM c i arg2 harg2 arg3 harg3 arg4 harg4 arg5 harg5 arg6 harg6 arg7 harg7 arg8 harg8 arg9 harg9 arg10 harg10 arg11 harg11 arg12 harg12 x0 x1 x2 x3 x4) 0) ((gL c i arg2 harg2 arg3 harg3 arg4 harg4 arg5 harg5 arg6 harg6 arg7 harg7 arg8 harg8 arg9 harg9 arg10 harg10 arg11 harg11 arg12 harg12 x0 x1 x2 x3 x4) 0)⟩ :: (t1 c i arg2 harg2 arg3 harg3 arg4 harg4 arg5 harg5 arg6 harg6 arg7 harg7 arg8 harg8 arg9 harg9 arg10 harg10 arg11 harg11 arg12 harg12 x0 x1 x2 x3 x4) := rfl

theorem l1 : (Gen.kernelRun0_A.sl.HS1_2 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![1, 0, 0] ![1, 1, 256] inb_S8x1x256_S1x1x256_1_0_0, tL (msk ((gS c i arg2 harg2 arg3 harg3 arg4 harg4 arg5 harg5 arg6 harg6 arg7 harg7 arg8 harg8 arg9 harg9 arg10 harg10 arg11 harg11 arg12 harg12 x0 x1 x2 x3 x4) 1)) ((gM c i arg2 harg2 arg3 harg3 arg4 harg4 arg5 harg5 arg6 harg6 arg7 harg7 arg8 harg8 arg9 harg9 arg10 harg10 arg11 harg11 arg12 harg12 x0 x1 x2 x3 x4) 1) ((gL c i arg2 harg2 arg3 harg3 arg4 harg4 arg5 harg5 arg6 harg6 arg7 harg7 arg8 harg8 arg9 harg9 arg10 harg10 arg11 harg11 arg12 harg12 x0 x1 x2 x3 x4) 1)⟩ :: (Gen.kernelRun0_A.sl.HS1_1_1 (F := Ideal) c i arg2 harg2 arg3 harg3 arg4 harg4 arg5 harg5 arg6 harg6 arg7 harg7 arg8 harg8 arg9 harg9 arg10 harg10 arg11 harg11 arg12 harg12 x0 x1 x2 x3 x4) := rfl

theorem l2 : (Gen.kernelRun0_A.sl.HS1_3 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![2, 0, 0] ![1, 1, 256] inb_S8x1x256_S1x1x256_2_0_0, tL (msk ((gS c i arg2 harg2 arg3 harg3 arg4 harg4 arg5 harg5 arg6 harg6 arg7 harg7 arg8 harg8 arg9 harg9 arg10 harg10 arg11 harg11 arg12 harg12 x0 x1 x2 x3 x4) 2)) ((gM c i arg2 harg2 arg3 harg3 arg4 harg4 arg5 harg5 arg6 harg6 arg7 harg7 arg8 harg8 arg9 harg9 arg10 harg10 arg11 harg11 arg12 harg12 x0 x1 x2 x3 x4) 2) ((gL c i arg2 harg2 arg3 harg3 arg4 harg4 arg5 harg5 arg6 harg6 arg7 harg7 arg8 harg8 arg9 harg9 arg10 harg10 arg11 harg11 arg12 harg12 x0 x1 x2 x3 x4) 2)⟩ :: (Gen.kernelRun0_A.sl.HS1_2 (F := Ideal) c i arg2 harg2 arg3 harg3 arg4 harg4 arg5 harg5 arg6 harg6 arg7 harg7 arg8 harg8 arg9 harg9 arg10 harg10 arg11 harg11 arg12 harg12 x0 x1 x2 x3 x4) := rfl

theorem l3 : (Gen.kernelRun0_A.sl.HS1_4 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![3, 0, 0] ![1, 1, 256] inb_S8x1x256_S1x1x256_3_0_0, tL (msk ((gS c i arg2 harg2 arg3 harg3 arg4 harg4 arg5 harg5 arg6 harg6 arg7 harg7 arg8 harg8 arg9 harg9 arg10 harg10 arg11 harg11 arg12 harg12 x0 x1 x2 x3 x4) 3)) ((gM c i arg2 harg2 arg3 harg3 arg4 harg4 arg5 harg5 arg6 harg6 arg7 harg7 arg8 harg8 arg9 harg9 arg10 harg10 arg11 harg11 arg12 harg12 x0 x1 x2 x3 x4) 3) ((gL c i arg2 harg2 arg3 harg3 arg4 harg4 arg5 harg5 arg6 harg6 arg7 harg7 arg8 harg8 arg9 harg9 arg10 harg10 arg11 harg11 arg12 harg12 x0 x1 x2 x3 x4) 3)⟩ :: (Gen.kernelRun0_A.sl.HS1_3 (F := Ideal) c i arg2 harg2 arg3 harg3 arg4 harg4 arg5 harg5 arg6 harg6 arg7 harg7 arg8 harg8 arg9 harg9 arg10 harg10 arg11 harg11 arg12 harg12 x0 x1 x2 x3 x4) := rfl

theorem l4 : (Gen.kernelRun0_A.sl.HS1_5 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![4, 0, 0] ![1, 1, 256] inb_S8x1x256_S1x1x256_4_0_0, tL (msk ((gS c i arg2 harg2 arg3 harg3 arg4 harg4 arg5 harg5 arg6 harg6 arg7 harg7 arg8 harg8 arg9 harg9 arg10 harg10 arg11 harg11 arg12 harg12 x0 x1 x2 x3 x4) 4)) ((gM c i arg2 harg2 arg3 harg3 arg4 harg4 arg5 harg5 arg6 harg6 arg7 harg7 arg8 harg8 arg9 harg9 arg10 harg10 arg11 harg11 arg12 harg12 x0 x1 x2 x3 x4) 4) ((gL c i arg2 harg2 arg3 harg3 arg4 harg4 arg5 harg5 arg6 harg6 arg7 harg7 arg8 harg8 arg9 harg9 arg10 harg10 arg11 harg11 arg12 harg12 x0 x1 x2 x3 x4) 4)⟩ :: (Gen.kernelRun0_A.sl.HS1_4 (F := Ideal) c i arg2 harg2 arg3 harg3 arg4 harg4 arg5 harg5 arg6 harg6 arg7 harg7 arg8 harg8 arg9 harg9 arg10 harg10 arg11 harg11 arg12 harg12 x0 x1 x2 x3 x4) := rfl

theorem l5 : (Gen.kernelRun0_A.sl.HS1_6 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![5, 0, 0] ![1, 1, 256] inb_S8x1x256_S1x1x256_5_0_0, tL (msk ((gS c i arg2 harg2 arg3 harg3 arg4 harg4 arg5 harg5 arg6 harg6 arg7 harg7 arg8 harg8 arg9 harg9 arg10 harg10 arg11 harg11 arg12 harg12 x0 x1 x2 x3 x4) 5)) ((gM c i arg2 harg2 arg3 harg3 arg4 harg4 arg5 harg5 arg6 harg6 arg7 harg7 arg8 harg8 arg9 harg9 arg10 harg10 arg11 harg11 arg12 harg12 x0 x1 x2 x3 x4) 5) ((gL c i arg2 harg2 arg3 harg3 arg4 harg4 arg5 harg5 arg6 harg6 arg7 harg7 arg8 harg8 arg9 harg9 arg10 harg10 arg11 harg11 arg12 harg12 x0 x1 x2 x3 x4) 5)⟩ :: (Gen.kernelRun0_A.sl.HS1_5 (F := Ideal) c i arg2 harg2 arg3 harg3 arg4 harg4 arg5 harg5 arg6 harg6 arg7 harg7 arg8 harg8 arg9 harg9 arg10 harg10 arg11 harg11 arg12 harg12 x0 x1 x2 x3 x4) := rfl

theorem l6 : (Gen.kernelRun0_A.sl.HS1_7 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![6, 0, 0] ![1, 1, 256] inb_S8x1x256_S1x1x256_6_0_0, tL (msk ((gS c i arg2 harg2 arg3 harg3 arg4 harg4 arg5 harg5 arg6 harg6 arg7 harg7 arg8 harg8 arg9 harg9 arg10 harg10 arg11 harg11 arg12 harg12 x0 x1 x2 x3 x4) 6)) ((gM c i arg2 harg2 arg3 harg3 arg4 harg4 arg5 harg5 arg6 harg6 arg7 harg7 arg8 harg8 arg9 harg9 arg10 harg10 arg11 harg11 arg12 harg12 x0 x1 x2 x3 x4) 6) ((gL c i arg2 harg2 arg3 harg3 arg4 harg4 arg5 harg5 arg6 harg6 arg7 harg7 arg8 harg8 arg9 harg9 arg10 harg10 arg11 harg11 arg12 harg12 x0 x1 x2 x3 x4) 6)⟩ :: (Gen.kernelRun0_A.sl.HS1_6 (F := Ideal) c i arg2 harg2 arg3 harg3 arg4 harg4 arg5 harg5 arg6 harg6 arg7 harg7 arg8 harg8 arg9 harg9 arg10 harg10 arg11 harg11 arg12 harg12 x0 x1 x2 x3 x4) := rfl

theorem l7 : (Gen.kernelRun0_A.sl.HS1_8 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![7, 0, 0] ![1, 1, 256] inb_S8x1x256_S1x1x256_7_0_0, tL (msk ((gS c i arg2 harg2 arg3 harg3 arg4 harg4 arg5 harg5 arg6 harg6 arg7 harg7 arg8 harg8 arg9 harg9 arg10 harg10 arg11 harg11 arg12 harg12 x0 x1 x2 x3 x4) 7)) ((gM c i arg2 harg2 arg3 harg3 arg4 harg4 arg5 harg5 arg6 harg6 arg7 harg7 arg8 harg8 arg9 harg9 arg10 harg10 arg11 harg11 arg12 harg12 x0 x1 x2 x3 x4) 7) ((gL c i arg2 harg2 arg3 harg3 arg4 harg4 arg5 harg5 arg6 harg6 arg7 harg7 arg8 harg8 arg9 harg9 arg10 harg10 arg11 harg11 arg12 harg12 x0 x1 x2 x3 x4) 7)⟩ :: (Gen.kernelRun0_A.sl.HS1_7 (F := Ideal) c i arg2 harg2 arg3 harg3 arg4 harg4 arg5 harg5 arg6 harg6 arg7 harg7 arg8 harg8 arg9 harg9 arg10 harg10 arg11 harg11 arg12 harg12 x0 x1 x2 x3 x4) := rfl

theorem l_eq : (Gen.kernelRun0_A.sl.HS1_8 (F := Ideal) c i arg2 harg2 arg3 harg3 arg4 harg4 arg5 harg5 arg6 harg6 arg7 harg7 arg8 harg8 arg9 harg9 arg10 harg10 arg11 harg11 arg12 harg12 x0 x1 x2 x3 x4) = pcM (fun h => tL (msk ((gS c i arg2 harg2 arg3 harg3 arg4 harg4 arg5 harg5 arg6 harg6 arg7 harg7 arg8 harg8 arg9 harg9 arg10 harg10 arg11 harg11 arg12 harg12 x0 x1 x2 x3 x4) h)) ((gM c i arg2 harg2 arg3 harg3 arg4 harg4 arg5 harg5 arg6 harg6 arg7 harg7 arg8 harg8 arg9 harg9 arg10 harg10 arg11 harg11 arg12 harg12 x0 x1 x2 x3 x4) h) ((gL c i arg2 harg2 arg3 harg3 arg4 harg4 arg5 harg5 arg6 harg6 arg7 harg7 arg8 harg8 arg9 harg9 arg10 harg10 arg11 harg11 arg12 harg12 x0 x1 x2 x3 x4) h)) (t1 c i arg2 harg2 arg3 harg3 arg4 harg4 arg5 harg5 arg6 harg6 arg7 harg7 arg8 harg8 arg9 harg9 arg10 harg10 arg11 harg11 arg12 harg12 x0 x1 x2 x3 x4) := by
  rw [l7, l6, l5, l4, l3, l2, l1, l0]
  rfl

end Lists

end Cert.Kernel6Ideal.Attn
-- ==== Proof.FinalA.lean ====
/- The running products the masked tile stores, head by head. -/
module

public import proofs.«01_k».proof.Proof.Final

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Lists

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

theorem a0 : (Gen.kernelRun0_A.sl.HS2_1_1 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![0, 0, 0] ![1, 128, 256] inb_S8x128x256_S1x128x256_0_0_0, tA (msk ((gS c i arg2 harg2 arg3 harg3 arg4 harg4 arg5 harg5 arg6 harg6 arg7 harg7 arg8 harg8 arg9 harg9 arg10 harg10 arg11 harg11 arg12 harg12 x0 x1 x2 x3 x4) 0)) ((gM c i arg2 harg2 arg3 harg3 arg4 harg4 arg5 harg5 arg6 harg6 arg7 harg7 arg8 harg8 arg9 harg9 arg10 harg10 arg11 harg11 arg12 harg12 x0 x1 x2 x3 x4) 0) ((gV c i arg2 harg2 arg3 harg3 arg4 harg4 arg5 harg5 arg6 harg6 arg7 harg7 arg8 harg8 arg9 harg9 arg10 harg10 arg11 harg11 arg12 harg12 x0 x1 x2 x3 x4) 0) ((gA c i arg2 harg2 arg3 harg3 arg4 harg4 arg5 harg5 arg6 harg6 arg7 harg7 arg8 harg8 arg9 harg9 arg10 harg10 arg11 harg11 arg12 harg12 x0 x1 x2 x3 x4) 0)⟩ :: (t2 c i arg2 harg2 arg3 harg3 arg4 harg4 arg5 harg5 arg6 harg6 arg7 harg7 arg8 harg8 arg9 harg9 arg10 harg10 arg11 harg11 arg12 harg12 x0 x1 x2 x3 x4) := rfl

theorem a1 : (Gen.kernelRun0_A.sl.HS2_2 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![1, 0, 0] ![1, 128, 256] inb_S8x128x256_S1x128x256_1_0_0, tA (msk ((gS c i arg2 harg2 arg3 harg3 arg4 harg4 arg5 harg5 arg6 harg6 arg7 harg7 arg8 harg8 arg9 harg9 arg10 harg10 arg11 harg11 arg12 harg12 x0 x1 x2 x3 x4) 1)) ((gM c i arg2 harg2 arg3 harg3 arg4 harg4 arg5 harg5 arg6 harg6 arg7 harg7 arg8 harg8 arg9 harg9 arg10 harg10 arg11 harg11 arg12 harg12 x0 x1 x2 x3 x4) 1) ((gV c i arg2 harg2 arg3 harg3 arg4 harg4 arg5 harg5 arg6 harg6 arg7 harg7 arg8 harg8 arg9 harg9 arg10 harg10 arg11 harg11 arg12 harg12 x0 x1 x2 x3 x4) 1) ((gA c i arg2 harg2 arg3 harg3 arg4 harg4 arg5 harg5 arg6 harg6 arg7 harg7 arg8 harg8 arg9 harg9 arg10 harg10 arg11 harg11 arg12 harg12 x0 x1 x2 x3 x4) 1)⟩ :: (Gen.kernelRun0_A.sl.HS2_1_1 (F := Ideal) c i arg2 harg2 arg3 harg3 arg4 harg4 arg5 harg5 arg6 harg6 arg7 harg7 arg8 harg8 arg9 harg9 arg10 harg10 arg11 harg11 arg12 harg12 x0 x1 x2 x3 x4) := rfl

theorem a2 : (Gen.kernelRun0_A.sl.HS2_3 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![2, 0, 0] ![1, 128, 256] inb_S8x128x256_S1x128x256_2_0_0, tA (msk ((gS c i arg2 harg2 arg3 harg3 arg4 harg4 arg5 harg5 arg6 harg6 arg7 harg7 arg8 harg8 arg9 harg9 arg10 harg10 arg11 harg11 arg12 harg12 x0 x1 x2 x3 x4) 2)) ((gM c i arg2 harg2 arg3 harg3 arg4 harg4 arg5 harg5 arg6 harg6 arg7 harg7 arg8 harg8 arg9 harg9 arg10 harg10 arg11 harg11 arg12 harg12 x0 x1 x2 x3 x4) 2) ((gV c i arg2 harg2 arg3 harg3 arg4 harg4 arg5 harg5 arg6 harg6 arg7 harg7 arg8 harg8 arg9 harg9 arg10 harg10 arg11 harg11 arg12 harg12 x0 x1 x2 x3 x4) 2) ((gA c i arg2 harg2 arg3 harg3 arg4 harg4 arg5 harg5 arg6 harg6 arg7 harg7 arg8 harg8 arg9 harg9 arg10 harg10 arg11 harg11 arg12 harg12 x0 x1 x2 x3 x4) 2)⟩ :: (Gen.kernelRun0_A.sl.HS2_2 (F := Ideal) c i arg2 harg2 arg3 harg3 arg4 harg4 arg5 harg5 arg6 harg6 arg7 harg7 arg8 harg8 arg9 harg9 arg10 harg10 arg11 harg11 arg12 harg12 x0 x1 x2 x3 x4) := rfl

theorem a3 : (Gen.kernelRun0_A.sl.HS2_4 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![3, 0, 0] ![1, 128, 256] inb_S8x128x256_S1x128x256_3_0_0, tA (msk ((gS c i arg2 harg2 arg3 harg3 arg4 harg4 arg5 harg5 arg6 harg6 arg7 harg7 arg8 harg8 arg9 harg9 arg10 harg10 arg11 harg11 arg12 harg12 x0 x1 x2 x3 x4) 3)) ((gM c i arg2 harg2 arg3 harg3 arg4 harg4 arg5 harg5 arg6 harg6 arg7 harg7 arg8 harg8 arg9 harg9 arg10 harg10 arg11 harg11 arg12 harg12 x0 x1 x2 x3 x4) 3) ((gV c i arg2 harg2 arg3 harg3 arg4 harg4 arg5 harg5 arg6 harg6 arg7 harg7 arg8 harg8 arg9 harg9 arg10 harg10 arg11 harg11 arg12 harg12 x0 x1 x2 x3 x4) 3) ((gA c i arg2 harg2 arg3 harg3 arg4 harg4 arg5 harg5 arg6 harg6 arg7 harg7 arg8 harg8 arg9 harg9 arg10 harg10 arg11 harg11 arg12 harg12 x0 x1 x2 x3 x4) 3)⟩ :: (Gen.kernelRun0_A.sl.HS2_3 (F := Ideal) c i arg2 harg2 arg3 harg3 arg4 harg4 arg5 harg5 arg6 harg6 arg7 harg7 arg8 harg8 arg9 harg9 arg10 harg10 arg11 harg11 arg12 harg12 x0 x1 x2 x3 x4) := rfl

theorem a4 : (Gen.kernelRun0_A.sl.HS2_5 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![4, 0, 0] ![1, 128, 256] inb_S8x128x256_S1x128x256_4_0_0, tA (msk ((gS c i arg2 harg2 arg3 harg3 arg4 harg4 arg5 harg5 arg6 harg6 arg7 harg7 arg8 harg8 arg9 harg9 arg10 harg10 arg11 harg11 arg12 harg12 x0 x1 x2 x3 x4) 4)) ((gM c i arg2 harg2 arg3 harg3 arg4 harg4 arg5 harg5 arg6 harg6 arg7 harg7 arg8 harg8 arg9 harg9 arg10 harg10 arg11 harg11 arg12 harg12 x0 x1 x2 x3 x4) 4) ((gV c i arg2 harg2 arg3 harg3 arg4 harg4 arg5 harg5 arg6 harg6 arg7 harg7 arg8 harg8 arg9 harg9 arg10 harg10 arg11 harg11 arg12 harg12 x0 x1 x2 x3 x4) 4) ((gA c i arg2 harg2 arg3 harg3 arg4 harg4 arg5 harg5 arg6 harg6 arg7 harg7 arg8 harg8 arg9 harg9 arg10 harg10 arg11 harg11 arg12 harg12 x0 x1 x2 x3 x4) 4)⟩ :: (Gen.kernelRun0_A.sl.HS2_4 (F := Ideal) c i arg2 harg2 arg3 harg3 arg4 harg4 arg5 harg5 arg6 harg6 arg7 harg7 arg8 harg8 arg9 harg9 arg10 harg10 arg11 harg11 arg12 harg12 x0 x1 x2 x3 x4) := rfl

theorem a5 : (Gen.kernelRun0_A.sl.HS2_6 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![5, 0, 0] ![1, 128, 256] inb_S8x128x256_S1x128x256_5_0_0, tA (msk ((gS c i arg2 harg2 arg3 harg3 arg4 harg4 arg5 harg5 arg6 harg6 arg7 harg7 arg8 harg8 arg9 harg9 arg10 harg10 arg11 harg11 arg12 harg12 x0 x1 x2 x3 x4) 5)) ((gM c i arg2 harg2 arg3 harg3 arg4 harg4 arg5 harg5 arg6 harg6 arg7 harg7 arg8 harg8 arg9 harg9 arg10 harg10 arg11 harg11 arg12 harg12 x0 x1 x2 x3 x4) 5) ((gV c i arg2 harg2 arg3 harg3 arg4 harg4 arg5 harg5 arg6 harg6 arg7 harg7 arg8 harg8 arg9 harg9 arg10 harg10 arg11 harg11 arg12 harg12 x0 x1 x2 x3 x4) 5) ((gA c i arg2 harg2 arg3 harg3 arg4 harg4 arg5 harg5 arg6 harg6 arg7 harg7 arg8 harg8 arg9 harg9 arg10 harg10 arg11 harg11 arg12 harg12 x0 x1 x2 x3 x4) 5)⟩ :: (Gen.kernelRun0_A.sl.HS2_5 (F := Ideal) c i arg2 harg2 arg3 harg3 arg4 harg4 arg5 harg5 arg6 harg6 arg7 harg7 arg8 harg8 arg9 harg9 arg10 harg10 arg11 harg11 arg12 harg12 x0 x1 x2 x3 x4) := rfl

theorem a6 : (Gen.kernelRun0_A.sl.HS2_7 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![6, 0, 0] ![1, 128, 256] inb_S8x128x256_S1x128x256_6_0_0, tA (msk ((gS c i arg2 harg2 arg3 harg3 arg4 harg4 arg5 harg5 arg6 harg6 arg7 harg7 arg8 harg8 arg9 harg9 arg10 harg10 arg11 harg11 arg12 harg12 x0 x1 x2 x3 x4) 6)) ((gM c i arg2 harg2 arg3 harg3 arg4 harg4 arg5 harg5 arg6 harg6 arg7 harg7 arg8 harg8 arg9 harg9 arg10 harg10 arg11 harg11 arg12 harg12 x0 x1 x2 x3 x4) 6) ((gV c i arg2 harg2 arg3 harg3 arg4 harg4 arg5 harg5 arg6 harg6 arg7 harg7 arg8 harg8 arg9 harg9 arg10 harg10 arg11 harg11 arg12 harg12 x0 x1 x2 x3 x4) 6) ((gA c i arg2 harg2 arg3 harg3 arg4 harg4 arg5 harg5 arg6 harg6 arg7 harg7 arg8 harg8 arg9 harg9 arg10 harg10 arg11 harg11 arg12 harg12 x0 x1 x2 x3 x4) 6)⟩ :: (Gen.kernelRun0_A.sl.HS2_6 (F := Ideal) c i arg2 harg2 arg3 harg3 arg4 harg4 arg5 harg5 arg6 harg6 arg7 harg7 arg8 harg8 arg9 harg9 arg10 harg10 arg11 harg11 arg12 harg12 x0 x1 x2 x3 x4) := rfl

theorem a7 : (Gen.kernelRun0_A.sl.HS2_8 (F := Ideal) c i arg2 harg2 arg3 harg3 arg4 harg4 arg5 harg5 arg6 harg6 arg7 harg7 arg8 harg8 arg9 harg9 arg10 harg10 arg11 harg11 arg12 harg12 x0 x1 x2 x3 x4) = ⟨Rect.unit ![7, 0, 0] ![1, 128, 256] inb_S8x128x256_S1x128x256_7_0_0, tA (msk ((gS c i arg2 harg2 arg3 harg3 arg4 harg4 arg5 harg5 arg6 harg6 arg7 harg7 arg8 harg8 arg9 harg9 arg10 harg10 arg11 harg11 arg12 harg12 x0 x1 x2 x3 x4) 7)) ((gM c i arg2 harg2 arg3 harg3 arg4 harg4 arg5 harg5 arg6 harg6 arg7 harg7 arg8 harg8 arg9 harg9 arg10 harg10 arg11 harg11 arg12 harg12 x0 x1 x2 x3 x4) 7) ((gV c i arg2 harg2 arg3 harg3 arg4 harg4 arg5 harg5 arg6 harg6 arg7 harg7 arg8 harg8 arg9 harg9 arg10 harg10 arg11 harg11 arg12 harg12 x0 x1 x2 x3 x4) 7) ((gA c i arg2 harg2 arg3 harg3 arg4 harg4 arg5 harg5 arg6 harg6 arg7 harg7 arg8 harg8 arg9 harg9 arg10 harg10 arg11 harg11 arg12 harg12 x0 x1 x2 x3 x4) 7)⟩ :: (Gen.kernelRun0_A.sl.HS2_7 (F := Ideal) c i arg2 harg2 arg3 harg3 arg4 harg4 arg5 harg5 arg6 harg6 arg7 harg7 arg8 harg8 arg9 harg9 arg10 harg10 arg11 harg11 arg12 harg12 x0 x1 x2 x3 x4) := rfl

theorem a_eq : (Gen.kernelRun0_A.sl.HS2_8 (F := Ideal) c i arg2 harg2 arg3 harg3 arg4 harg4 arg5 harg5 arg6 harg6 arg7 harg7 arg8 harg8 arg9 harg9 arg10 harg10 arg11 harg11 arg12 harg12 x0 x1 x2 x3 x4) = pcA (fun h => tA (msk ((gS c i arg2 harg2 arg3 harg3 arg4 harg4 arg5 harg5 arg6 harg6 arg7 harg7 arg8 harg8 arg9 harg9 arg10 harg10 arg11 harg11 arg12 harg12 x0 x1 x2 x3 x4) h)) ((gM c i arg2 harg2 arg3 harg3 arg4 harg4 arg5 harg5 arg6 harg6 arg7 harg7 arg8 harg8 arg9 harg9 arg10 harg10 arg11 harg11 arg12 harg12 x0 x1 x2 x3 x4) h) ((gV c i arg2 harg2 arg3 harg3 arg4 harg4 arg5 harg5 arg6 harg6 arg7 harg7 arg8 harg8 arg9 harg9 arg10 harg10 arg11 harg11 arg12 harg12 x0 x1 x2 x3 x4) h) ((gA c i arg2 harg2 arg3 harg3 arg4 harg4 arg5 harg5 arg6 harg6 arg7 harg7 arg8 harg8 arg9 harg9 arg10 harg10 arg11 harg11 arg12 harg12 x0 x1 x2 x3 x4) h)) (t2 c i arg2 harg2 arg3 harg3 arg4 harg4 arg5 harg5 arg6 harg6 arg7 harg7 arg8 harg8 arg9 harg9 arg10 harg10 arg11 harg11 arg12 harg12 x0 x1 x2 x3 x4) := by
  rw [a7, a6, a5, a4, a3, a2, a1, a0]
  rfl

end Lists

end Cert.Kernel6Ideal.Attn
-- ==== Proof.FinalGM.lean ====
/- The maxima the masked tile loads, head by head. -/
module

public import proofs.«01_k».proof.Proof.Final

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Lists

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

theorem gM_apply0 (y : Fin 256) : (gM c i arg2 harg2 arg3 harg3 arg4 harg4 arg5 harg5 arg6 harg6 arg7 harg7 arg8 harg8 arg9 harg9 arg10 harg10 arg11 harg11 arg12 harg12 x0 x1 x2 x3 x4) 0 (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 0 0 y) :=
  (ld3 (arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4))) 0 _ 0 rfl 0 y).trans (rfl)

theorem gM_apply1 (y : Fin 256) : (gM c i arg2 harg2 arg3 harg3 arg4 harg4 arg5 harg5 arg6 harg6 arg7 harg7 arg8 harg8 arg9 harg9 arg10 harg10 arg11 harg11 arg12 harg12 x0 x1 x2 x3 x4) 1 (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 1 0 y) :=
  (ld3 (arg8.view.read (Elt Ideal) (arg8.view.writes (Elt Ideal) arg8.view.junk (Gen.kernelRun0_A.sl.HS0_1_1 (F := Ideal) c i arg2 harg2 arg3 harg3 arg4 harg4 arg5 harg5 arg6 harg6 arg7 harg7 arg8 harg8 arg9 harg9 arg10 harg10 arg11 harg11 arg12 harg12 x0 x1 x2 x3 x4))) 1 _ 1 rfl 0 y).trans ((miss arg8.view arg8.view.junk 0 _ _ _ _ (show (1 : ℕ) ≠ 0 by decide) 0 y).trans (rfl))

theorem gM_apply2 (y : Fin 256) : (gM c i arg2 harg2 arg3 harg3 arg4 harg4 arg5 harg5 arg6 harg6 arg7 harg7 arg8 harg8 arg9 harg9 arg10 harg10 arg11 harg11 arg12 harg12 x0 x1 x2 x3 x4) 2 (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 2 0 y) :=
  (ld3 (arg8.view.read (Elt Ideal) (arg8.view.writes (Elt Ideal) arg8.view.junk (Gen.kernelRun0_A.sl.HS0_2 (F := Ideal) c i arg2 harg2 arg3 harg3 arg4 harg4 arg5 harg5 arg6 harg6 arg7 harg7 arg8 harg8 arg9 harg9 arg10 harg10 arg11 harg11 arg12 harg12 x0 x1 x2 x3 x4))) 2 _ 2 rfl 0 y).trans ((miss arg8.view arg8.view.junk 1 _ _ _ _ (show (2 : ℕ) ≠ 1 by decide) 0 y).trans ((miss arg8.view arg8.view.junk 0 _ _ _ _ (show (2 : ℕ) ≠ 0 by decide) 0 y).trans (rfl)))

theorem gM_apply3 (y : Fin 256) : (gM c i arg2 harg2 arg3 harg3 arg4 harg4 arg5 harg5 arg6 harg6 arg7 harg7 arg8 harg8 arg9 harg9 arg10 harg10 arg11 harg11 arg12 harg12 x0 x1 x2 x3 x4) 3 (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 3 0 y) :=
  (ld3 (arg8.view.read (Elt Ideal) (arg8.view.writes (Elt Ideal) arg8.view.junk (Gen.kernelRun0_A.sl.HS0_3 (F := Ideal) c i arg2 harg2 arg3 harg3 arg4 harg4 arg5 harg5 arg6 harg6 arg7 harg7 arg8 harg8 arg9 harg9 arg10 harg10 arg11 harg11 arg12 harg12 x0 x1 x2 x3 x4))) 3 _ 3 rfl 0 y).trans ((miss arg8.view arg8.view.junk 2 _ _ _ _ (show (3 : ℕ) ≠ 2 by decide) 0 y).trans ((miss arg8.view arg8.view.junk 1 _ _ _ _ (show (3 : ℕ) ≠ 1 by decide) 0 y).trans ((miss arg8.view arg8.view.junk 0 _ _ _ _ (show (3 : ℕ) ≠ 0 by decide) 0 y).trans (rfl))))

theorem gM_apply4 (y : Fin 256) : (gM c i arg2 harg2 arg3 harg3 arg4 harg4 arg5 harg5 arg6 harg6 arg7 harg7 arg8 harg8 arg9 harg9 arg10 harg10 arg11 harg11 arg12 harg12 x0 x1 x2 x3 x4) 4 (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 4 0 y) :=
  (ld3 (arg8.view.read (Elt Ideal) (arg8.view.writes (Elt Ideal) arg8.view.junk (Gen.kernelRun0_A.sl.HS0_4 (F := Ideal) c i arg2 harg2 arg3 harg3 arg4 harg4 arg5 harg5 arg6 harg6 arg7 harg7 arg8 harg8 arg9 harg9 arg10 harg10 arg11 harg11 arg12 harg12 x0 x1 x2 x3 x4))) 4 _ 4 rfl 0 y).trans ((miss arg8.view arg8.view.junk 3 _ _ _ _ (show (4 : ℕ) ≠ 3 by decide) 0 y).trans ((miss arg8.view arg8.view.junk 2 _ _ _ _ (show (4 : ℕ) ≠ 2 by decide) 0 y).trans ((miss arg8.view arg8.view.junk 1 _ _ _ _ (show (4 : ℕ) ≠ 1 by decide) 0 y).trans ((miss arg8.view arg8.view.junk 0 _ _ _ _ (show (4 : ℕ) ≠ 0 by decide) 0 y).trans (rfl)))))

theorem gM_apply5 (y : Fin 256) : (gM c i arg2 harg2 arg3 harg3 arg4 harg4 arg5 harg5 arg6 harg6 arg7 harg7 arg8 harg8 arg9 harg9 arg10 harg10 arg11 harg11 arg12 harg12 x0 x1 x2 x3 x4) 5 (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 5 0 y) :=
  (ld3 (arg8.view.read (Elt Ideal) (arg8.view.writes (Elt Ideal) arg8.view.junk (Gen.kernelRun0_A.sl.HS0_5 (F := Ideal) c i arg2 harg2 arg3 harg3 arg4 harg4 arg5 harg5 arg6 harg6 arg7 harg7 arg8 harg8 arg9 harg9 arg10 harg10 arg11 harg11 arg12 harg12 x0 x1 x2 x3 x4))) 5 _ 5 rfl 0 y).trans ((miss arg8.view arg8.view.junk 4 _ _ _ _ (show (5 : ℕ) ≠ 4 by decide) 0 y).trans ((miss arg8.view arg8.view.junk 3 _ _ _ _ (show (5 : ℕ) ≠ 3 by decide) 0 y).trans ((miss arg8.view arg8.view.junk 2 _ _ _ _ (show (5 : ℕ) ≠ 2 by decide) 0 y).trans ((miss arg8.view arg8.view.junk 1 _ _ _ _ (show (5 : ℕ) ≠ 1 by decide) 0 y).trans ((miss arg8.view arg8.view.junk 0 _ _ _ _ (show (5 : ℕ) ≠ 0 by decide) 0 y).trans (rfl))))))

theorem gM_apply6 (y : Fin 256) : (gM c i arg2 harg2 arg3 harg3 arg4 harg4 arg5 harg5 arg6 harg6 arg7 harg7 arg8 harg8 arg9 harg9 arg10 harg10 arg11 harg11 arg12 harg12 x0 x1 x2 x3 x4) 6 (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 6 0 y) :=
  (ld3 (arg8.view.read (Elt Ideal) (arg8.view.writes (Elt Ideal) arg8.view.junk (Gen.kernelRun0_A.sl.HS0_6 (F := Ideal) c i arg2 harg2 arg3 harg3 arg4 harg4 arg5 harg5 arg6 harg6 arg7 harg7 arg8 harg8 arg9 harg9 arg10 harg10 arg11 harg11 arg12 harg12 x0 x1 x2 x3 x4))) 6 _ 6 rfl 0 y).trans ((miss arg8.view arg8.view.junk 5 _ _ _ _ (show (6 : ℕ) ≠ 5 by decide) 0 y).trans ((miss arg8.view arg8.view.junk 4 _ _ _ _ (show (6 : ℕ) ≠ 4 by decide) 0 y).trans ((miss arg8.view arg8.view.junk 3 _ _ _ _ (show (6 : ℕ) ≠ 3 by decide) 0 y).trans ((miss arg8.view arg8.view.junk 2 _ _ _ _ (show (6 : ℕ) ≠ 2 by decide) 0 y).trans ((miss arg8.view arg8.view.junk 1 _ _ _ _ (show (6 : ℕ) ≠ 1 by decide) 0 y).trans ((miss arg8.view arg8.view.junk 0 _ _ _ _ (show (6 : ℕ) ≠ 0 by decide) 0 y).trans (rfl)))))))

theorem gM_apply7 (y : Fin 256) : (gM c i arg2 harg2 arg3 harg3 arg4 harg4 arg5 harg5 arg6 harg6 arg7 harg7 arg8 harg8 arg9 harg9 arg10 harg10 arg11 harg11 arg12 harg12 x0 x1 x2 x3 x4) 7 (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 7 0 y) :=
  (ld3 (arg8.view.read (Elt Ideal) (arg8.view.writes (Elt Ideal) arg8.view.junk (Gen.kernelRun0_A.sl.HS0_7 (F := Ideal) c i arg2 harg2 arg3 harg3 arg4 harg4 arg5 harg5 arg6 harg6 arg7 harg7 arg8 harg8 arg9 harg9 arg10 harg10 arg11 harg11 arg12 harg12 x0 x1 x2 x3 x4))) 7 _ 7 rfl 0 y).trans ((miss arg8.view arg8.view.junk 6 _ _ _ _ (show (7 : ℕ) ≠ 6 by decide) 0 y).trans ((miss arg8.view arg8.view.junk 5 _ _ _ _ (show (7 : ℕ) ≠ 5 by decide) 0 y).trans ((miss arg8.view arg8.view.junk 4 _ _ _ _ (show (7 : ℕ) ≠ 4 by decide) 0 y).trans ((miss arg8.view arg8.view.junk 3 _ _ _ _ (show (7 : ℕ) ≠ 3 by decide) 0 y).trans ((miss arg8.view arg8.view.junk 2 _ _ _ _ (show (7 : ℕ) ≠ 2 by decide) 0 y).trans ((miss arg8.view arg8.view.junk 1 _ _ _ _ (show (7 : ℕ) ≠ 1 by decide) 0 y).trans ((miss arg8.view arg8.view.junk 0 _ _ _ _ (show (7 : ℕ) ≠ 0 by decide) 0 y).trans (rfl))))))))

theorem gM_apply (h : Fin 8) (y : Fin 256) : (gM c i arg2 harg2 arg3 harg3 arg4 harg4 arg5 harg5 arg6 harg6 arg7 harg7 arg8 harg8 arg9 harg9 arg10 harg10 arg11 harg11 arg12 harg12 x0 x1 x2 x3 x4) h (ix3 0 0 y) = arg8.view.read (Elt Ideal) (arg8.view.writes (Elt Ideal) arg8.view.junk (t0 c i arg2 harg2 arg3 harg3 arg4 harg4 arg5 harg5 arg6 harg6 arg7 harg7 arg8 harg8 arg9 harg9 arg10 harg10 arg11 harg11 arg12 harg12 x0 x1 x2 x3 x4)) (ix3 h 0 y) := by
  match h with
  | ⟨0, _⟩ => exact gM_apply0 c i arg2 harg2 arg3 harg3 arg4 harg4 arg5 harg5 arg6 harg6 arg7 harg7 arg8 harg8 arg9 harg9 arg10 harg10 arg11 harg11 arg12 harg12 x0 x1 x2 x3 x4 y
  | ⟨1, _⟩ => exact gM_apply1 c i arg2 harg2 arg3 harg3 arg4 harg4 arg5 harg5 arg6 harg6 arg7 harg7 arg8 harg8 arg9 harg9 arg10 harg10 arg11 harg11 arg12 harg12 x0 x1 x2 x3 x4 y
  | ⟨2, _⟩ => exact gM_apply2 c i arg2 harg2 arg3 harg3 arg4 harg4 arg5 harg5 arg6 harg6 arg7 harg7 arg8 harg8 arg9 harg9 arg10 harg10 arg11 harg11 arg12 harg12 x0 x1 x2 x3 x4 y
  | ⟨3, _⟩ => exact gM_apply3 c i arg2 harg2 arg3 harg3 arg4 harg4 arg5 harg5 arg6 harg6 arg7 harg7 arg8 harg8 arg9 harg9 arg10 harg10 arg11 harg11 arg12 harg12 x0 x1 x2 x3 x4 y
  | ⟨4, _⟩ => exact gM_apply4 c i arg2 harg2 arg3 harg3 arg4 harg4 arg5 harg5 arg6 harg6 arg7 harg7 arg8 harg8 arg9 harg9 arg10 harg10 arg11 harg11 arg12 harg12 x0 x1 x2 x3 x4 y
  | ⟨5, _⟩ => exact gM_apply5 c i arg2 harg2 arg3 harg3 arg4 harg4 arg5 harg5 arg6 harg6 arg7 harg7 arg8 harg8 arg9 harg9 arg10 harg10 arg11 harg11 arg12 harg12 x0 x1 x2 x3 x4 y
  | ⟨6, _⟩ => exact gM_apply6 c i arg2 harg2 arg3 harg3 arg4 harg4 arg5 harg5 arg6 harg6 arg7 harg7 arg8 harg8 arg9 harg9 arg10 harg10 arg11 harg11 arg12 harg12 x0 x1 x2 x3 x4 y
  | ⟨7, _⟩ => exact gM_apply7 c i arg2 harg2 arg3 harg3 arg4 harg4 arg5 harg5 arg6 harg6 arg7 harg7 arg8 harg8 arg9 harg9 arg10 harg10 arg11 harg11 arg12 harg12 x0 x1 x2 x3 x4 y

end Lists

end Cert.Kernel6Ideal.Attn
-- ==== Proof.FinalGL.lean ====
/- The running sums the masked tile loads, head by head. -/
module

public import proofs.«01_k».proof.Proof.Final

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Lists

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

theorem gL_apply0 (y : Fin 256) : (gL c i arg2 harg2 arg3 harg3 arg4 harg4 arg5 harg5 arg6 harg6 arg7 harg7 arg8 harg8 arg9 harg9 arg10 harg10 arg11 harg11 arg12 harg12 x0 x1 x2 x3 x4) 0 (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 0 0 y) :=
  (ld3 (arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4))) 0 _ 0 rfl 0 y).trans (rfl)

theorem gL_apply1 (y : Fin 256) : (gL c i arg2 harg2 arg3 harg3 arg4 harg4 arg5 harg5 arg6 harg6 arg7 harg7 arg8 harg8 arg9 harg9 arg10 harg10 arg11 harg11 arg12 harg12 x0 x1 x2 x3 x4) 1 (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 1 0 y) :=
  (ld3 (arg9.view.read (Elt Ideal) (arg9.view.writes (Elt Ideal) arg9.view.junk (Gen.kernelRun0_A.sl.HS1_1_1 (F := Ideal) c i arg2 harg2 arg3 harg3 arg4 harg4 arg5 harg5 arg6 harg6 arg7 harg7 arg8 harg8 arg9 harg9 arg10 harg10 arg11 harg11 arg12 harg12 x0 x1 x2 x3 x4))) 1 _ 1 rfl 0 y).trans ((miss arg9.view arg9.view.junk 0 _ _ _ _ (show (1 : ℕ) ≠ 0 by decide) 0 y).trans (rfl))

theorem gL_apply2 (y : Fin 256) : (gL c i arg2 harg2 arg3 harg3 arg4 harg4 arg5 harg5 arg6 harg6 arg7 harg7 arg8 harg8 arg9 harg9 arg10 harg10 arg11 harg11 arg12 harg12 x0 x1 x2 x3 x4) 2 (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 2 0 y) :=
  (ld3 (arg9.view.read (Elt Ideal) (arg9.view.writes (Elt Ideal) arg9.view.junk (Gen.kernelRun0_A.sl.HS1_2 (F := Ideal) c i arg2 harg2 arg3 harg3 arg4 harg4 arg5 harg5 arg6 harg6 arg7 harg7 arg8 harg8 arg9 harg9 arg10 harg10 arg11 harg11 arg12 harg12 x0 x1 x2 x3 x4))) 2 _ 2 rfl 0 y).trans ((miss arg9.view arg9.view.junk 1 _ _ _ _ (show (2 : ℕ) ≠ 1 by decide) 0 y).trans ((miss arg9.view arg9.view.junk 0 _ _ _ _ (show (2 : ℕ) ≠ 0 by decide) 0 y).trans (rfl)))

theorem gL_apply3 (y : Fin 256) : (gL c i arg2 harg2 arg3 harg3 arg4 harg4 arg5 harg5 arg6 harg6 arg7 harg7 arg8 harg8 arg9 harg9 arg10 harg10 arg11 harg11 arg12 harg12 x0 x1 x2 x3 x4) 3 (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 3 0 y) :=
  (ld3 (arg9.view.read (Elt Ideal) (arg9.view.writes (Elt Ideal) arg9.view.junk (Gen.kernelRun0_A.sl.HS1_3 (F := Ideal) c i arg2 harg2 arg3 harg3 arg4 harg4 arg5 harg5 arg6 harg6 arg7 harg7 arg8 harg8 arg9 harg9 arg10 harg10 arg11 harg11 arg12 harg12 x0 x1 x2 x3 x4))) 3 _ 3 rfl 0 y).trans ((miss arg9.view arg9.view.junk 2 _ _ _ _ (show (3 : ℕ) ≠ 2 by decide) 0 y).trans ((miss arg9.view arg9.view.junk 1 _ _ _ _ (show (3 : ℕ) ≠ 1 by decide) 0 y).trans ((miss arg9.view arg9.view.junk 0 _ _ _ _ (show (3 : ℕ) ≠ 0 by decide) 0 y).trans (rfl))))

theorem gL_apply4 (y : Fin 256) : (gL c i arg2 harg2 arg3 harg3 arg4 harg4 arg5 harg5 arg6 harg6 arg7 harg7 arg8 harg8 arg9 harg9 arg10 harg10 arg11 harg11 arg12 harg12 x0 x1 x2 x3 x4) 4 (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 4 0 y) :=
  (ld3 (arg9.view.read (Elt Ideal) (arg9.view.writes (Elt Ideal) arg9.view.junk (Gen.kernelRun0_A.sl.HS1_4 (F := Ideal) c i arg2 harg2 arg3 harg3 arg4 harg4 arg5 harg5 arg6 harg6 arg7 harg7 arg8 harg8 arg9 harg9 arg10 harg10 arg11 harg11 arg12 harg12 x0 x1 x2 x3 x4))) 4 _ 4 rfl 0 y).trans ((miss arg9.view arg9.view.junk 3 _ _ _ _ (show (4 : ℕ) ≠ 3 by decide) 0 y).trans ((miss arg9.view arg9.view.junk 2 _ _ _ _ (show (4 : ℕ) ≠ 2 by decide) 0 y).trans ((miss arg9.view arg9.view.junk 1 _ _ _ _ (show (4 : ℕ) ≠ 1 by decide) 0 y).trans ((miss arg9.view arg9.view.junk 0 _ _ _ _ (show (4 : ℕ) ≠ 0 by decide) 0 y).trans (rfl)))))

theorem gL_apply5 (y : Fin 256) : (gL c i arg2 harg2 arg3 harg3 arg4 harg4 arg5 harg5 arg6 harg6 arg7 harg7 arg8 harg8 arg9 harg9 arg10 harg10 arg11 harg11 arg12 harg12 x0 x1 x2 x3 x4) 5 (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 5 0 y) :=
  (ld3 (arg9.view.read (Elt Ideal) (arg9.view.writes (Elt Ideal) arg9.view.junk (Gen.kernelRun0_A.sl.HS1_5 (F := Ideal) c i arg2 harg2 arg3 harg3 arg4 harg4 arg5 harg5 arg6 harg6 arg7 harg7 arg8 harg8 arg9 harg9 arg10 harg10 arg11 harg11 arg12 harg12 x0 x1 x2 x3 x4))) 5 _ 5 rfl 0 y).trans ((miss arg9.view arg9.view.junk 4 _ _ _ _ (show (5 : ℕ) ≠ 4 by decide) 0 y).trans ((miss arg9.view arg9.view.junk 3 _ _ _ _ (show (5 : ℕ) ≠ 3 by decide) 0 y).trans ((miss arg9.view arg9.view.junk 2 _ _ _ _ (show (5 : ℕ) ≠ 2 by decide) 0 y).trans ((miss arg9.view arg9.view.junk 1 _ _ _ _ (show (5 : ℕ) ≠ 1 by decide) 0 y).trans ((miss arg9.view arg9.view.junk 0 _ _ _ _ (show (5 : ℕ) ≠ 0 by decide) 0 y).trans (rfl))))))

theorem gL_apply6 (y : Fin 256) : (gL c i arg2 harg2 arg3 harg3 arg4 harg4 arg5 harg5 arg6 harg6 arg7 harg7 arg8 harg8 arg9 harg9 arg10 harg10 arg11 harg11 arg12 harg12 x0 x1 x2 x3 x4) 6 (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 6 0 y) :=
  (ld3 (arg9.view.read (Elt Ideal) (arg9.view.writes (Elt Ideal) arg9.view.junk (Gen.kernelRun0_A.sl.HS1_6 (F := Ideal) c i arg2 harg2 arg3 harg3 arg4 harg4 arg5 harg5 arg6 harg6 arg7 harg7 arg8 harg8 arg9 harg9 arg10 harg10 arg11 harg11 arg12 harg12 x0 x1 x2 x3 x4))) 6 _ 6 rfl 0 y).trans ((miss arg9.view arg9.view.junk 5 _ _ _ _ (show (6 : ℕ) ≠ 5 by decide) 0 y).trans ((miss arg9.view arg9.view.junk 4 _ _ _ _ (show (6 : ℕ) ≠ 4 by decide) 0 y).trans ((miss arg9.view arg9.view.junk 3 _ _ _ _ (show (6 : ℕ) ≠ 3 by decide) 0 y).trans ((miss arg9.view arg9.view.junk 2 _ _ _ _ (show (6 : ℕ) ≠ 2 by decide) 0 y).trans ((miss arg9.view arg9.view.junk 1 _ _ _ _ (show (6 : ℕ) ≠ 1 by decide) 0 y).trans ((miss arg9.view arg9.view.junk 0 _ _ _ _ (show (6 : ℕ) ≠ 0 by decide) 0 y).trans (rfl)))))))

theorem gL_apply7 (y : Fin 256) : (gL c i arg2 harg2 arg3 harg3 arg4 harg4 arg5 harg5 arg6 harg6 arg7 harg7 arg8 harg8 arg9 harg9 arg10 harg10 arg11 harg11 arg12 harg12 x0 x1 x2 x3 x4) 7 (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 7 0 y) :=
  (ld3 (arg9.view.read (Elt Ideal) (arg9.view.writes (Elt Ideal) arg9.view.junk (Gen.kernelRun0_A.sl.HS1_7 (F := Ideal) c i arg2 harg2 arg3 harg3 arg4 harg4 arg5 harg5 arg6 harg6 arg7 harg7 arg8 harg8 arg9 harg9 arg10 harg10 arg11 harg11 arg12 harg12 x0 x1 x2 x3 x4))) 7 _ 7 rfl 0 y).trans ((miss arg9.view arg9.view.junk 6 _ _ _ _ (show (7 : ℕ) ≠ 6 by decide) 0 y).trans ((miss arg9.view arg9.view.junk 5 _ _ _ _ (show (7 : ℕ) ≠ 5 by decide) 0 y).trans ((miss arg9.view arg9.view.junk 4 _ _ _ _ (show (7 : ℕ) ≠ 4 by decide) 0 y).trans ((miss arg9.view arg9.view.junk 3 _ _ _ _ (show (7 : ℕ) ≠ 3 by decide) 0 y).trans ((miss arg9.view arg9.view.junk 2 _ _ _ _ (show (7 : ℕ) ≠ 2 by decide) 0 y).trans ((miss arg9.view arg9.view.junk 1 _ _ _ _ (show (7 : ℕ) ≠ 1 by decide) 0 y).trans ((miss arg9.view arg9.view.junk 0 _ _ _ _ (show (7 : ℕ) ≠ 0 by decide) 0 y).trans (rfl))))))))

theorem gL_apply (h : Fin 8) (y : Fin 256) : (gL c i arg2 harg2 arg3 harg3 arg4 harg4 arg5 harg5 arg6 harg6 arg7 harg7 arg8 harg8 arg9 harg9 arg10 harg10 arg11 harg11 arg12 harg12 x0 x1 x2 x3 x4) h (ix3 0 0 y) = arg9.view.read (Elt Ideal) (arg9.view.writes (Elt Ideal) arg9.view.junk (t1 c i arg2 harg2 arg3 harg3 arg4 harg4 arg5 harg5 arg6 harg6 arg7 harg7 arg8 harg8 arg9 harg9 arg10 harg10 arg11 harg11 arg12 harg12 x0 x1 x2 x3 x4)) (ix3 h 0 y) := by
  match h with
  | ⟨0, _⟩ => exact gL_apply0 c i arg2 harg2 arg3 harg3 arg4 harg4 arg5 harg5 arg6 harg6 arg7 harg7 arg8 harg8 arg9 harg9 arg10 harg10 arg11 harg11 arg12 harg12 x0 x1 x2 x3 x4 y
  | ⟨1, _⟩ => exact gL_apply1 c i arg2 harg2 arg3 harg3 arg4 harg4 arg5 harg5 arg6 harg6 arg7 harg7 arg8 harg8 arg9 harg9 arg10 harg10 arg11 harg11 arg12 harg12 x0 x1 x2 x3 x4 y
  | ⟨2, _⟩ => exact gL_apply2 c i arg2 harg2 arg3 harg3 arg4 harg4 arg5 harg5 arg6 harg6 arg7 harg7 arg8 harg8 arg9 harg9 arg10 harg10 arg11 harg11 arg12 harg12 x0 x1 x2 x3 x4 y
  | ⟨3, _⟩ => exact gL_apply3 c i arg2 harg2 arg3 harg3 arg4 harg4 arg5 harg5 arg6 harg6 arg7 harg7 arg8 harg8 arg9 harg9 arg10 harg10 arg11 harg11 arg12 harg12 x0 x1 x2 x3 x4 y
  | ⟨4, _⟩ => exact gL_apply4 c i arg2 harg2 arg3 harg3 arg4 harg4 arg5 harg5 arg6 harg6 arg7 harg7 arg8 harg8 arg9 harg9 arg10 harg10 arg11 harg11 arg12 harg12 x0 x1 x2 x3 x4 y
  | ⟨5, _⟩ => exact gL_apply5 c i arg2 harg2 arg3 harg3 arg4 harg4 arg5 harg5 arg6 harg6 arg7 harg7 arg8 harg8 arg9 harg9 arg10 harg10 arg11 harg11 arg12 harg12 x0 x1 x2 x3 x4 y
  | ⟨6, _⟩ => exact gL_apply6 c i arg2 harg2 arg3 harg3 arg4 harg4 arg5 harg5 arg6 harg6 arg7 harg7 arg8 harg8 arg9 harg9 arg10 harg10 arg11 harg11 arg12 harg12 x0 x1 x2 x3 x4 y
  | ⟨7, _⟩ => exact gL_apply7 c i arg2 harg2 arg3 harg3 arg4 harg4 arg5 harg5 arg6 harg6 arg7 harg7 arg8 harg8 arg9 harg9 arg10 harg10 arg11 harg11 arg12 harg12 x0 x1 x2 x3 x4 y

end Lists

end Cert.Kernel6Ideal.Attn
-- ==== Proof.FinalGA.lean ====
/- The running products the masked tile loads, head by head. -/
module

public import proofs.«01_k».proof.Proof.Final

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

section Lists

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

theorem gA_apply0 (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) 0 (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 0 x y) :=
  (ld3 (arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4))) 0 _ 0 rfl x y).trans (rfl)

theorem gA_apply1 (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) 1 (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 1 x y) :=
  (ld3 (arg10.view.read (Elt Ideal) (arg10.view.writes (Elt Ideal) arg10.view.junk (Gen.kernelRun0_A.sl.HS2_1_1 (F := Ideal) c i arg2 harg2 arg3 harg3 arg4 harg4 arg5 harg5 arg6 harg6 arg7 harg7 arg8 harg8 arg9 harg9 arg10 harg10 arg11 harg11 arg12 harg12 x0 x1 x2 x3 x4))) 1 _ 1 rfl x y).trans ((miss arg10.view arg10.view.junk 0 _ _ _ _ (show (1 : ℕ) ≠ 0 by decide) x y).trans (rfl))

theorem gA_apply2 (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) 2 (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 2 x y) :=
  (ld3 (arg10.view.read (Elt Ideal) (arg10.view.writes (Elt Ideal) arg10.view.junk (Gen.kernelRun0_A.sl.HS2_2 (F := Ideal) c i arg2 harg2 arg3 harg3 arg4 harg4 arg5 harg5 arg6 harg6 arg7 harg7 arg8 harg8 arg9 harg9 arg10 harg10 arg11 harg11 arg12 harg12 x0 x1 x2 x3 x4))) 2 _ 2 rfl x y).trans ((miss arg10.view arg10.view.junk 1 _ _ _ _ (show (2 : ℕ) ≠ 1 by decide) x y).trans ((miss arg10.view arg10.view.junk 0 _ _ _ _ (show (2 : ℕ) ≠ 0 by decide) x y).trans (rfl)))

theorem gA_apply3 (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) 3 (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 3 x y) :=
  (ld3 (arg10.view.read (Elt Ideal) (arg10.view.writes (Elt Ideal) arg10.view.junk (Gen.kernelRun0_A.sl.HS2_3 (F := Ideal) c i arg2 harg2 arg3 harg3 arg4 harg4 arg5 harg5 arg6 harg6 arg7 harg7 arg8 harg8 arg9 harg9 arg10 harg10 arg11 harg11 arg12 harg12 x0 x1 x2 x3 x4))) 3 _ 3 rfl x y).trans ((miss arg10.view arg10.view.junk 2 _ _ _ _ (show (3 : ℕ) ≠ 2 by decide) x y).trans ((miss arg10.view arg10.view.junk 1 _ _ _ _ (show (3 : ℕ) ≠ 1 by decide) x y).trans ((miss arg10.view arg10.view.junk 0 _ _ _ _ (show (3 : ℕ) ≠ 0 by decide) x y).trans (rfl))))

theorem gA_apply4 (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) 4 (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 4 x y) :=
  (ld3 (arg10.view.read (Elt Ideal) (arg10.view.writes (Elt Ideal) arg10.view.junk (Gen.kernelRun0_A.sl.HS2_4 (F := Ideal) c i arg2 harg2 arg3 harg3 arg4 harg4 arg5 harg5 arg6 harg6 arg7 harg7 arg8 harg8 arg9 harg9 arg10 harg10 arg11 harg11 arg12 harg12 x0 x1 x2 x3 x4))) 4 _ 4 rfl x y).trans ((miss arg10.view arg10.view.junk 3 _ _ _ _ (show (4 : ℕ) ≠ 3 by decide) x y).trans ((miss arg10.view arg10.view.junk 2 _ _ _ _ (show (4 : ℕ) ≠ 2 by decide) x y).trans ((miss arg10.view arg10.view.junk 1 _ _ _ _ (show (4 : ℕ) ≠ 1 by decide) x y).trans ((miss arg10.view arg10.view.junk 0 _ _ _ _ (show (4 : ℕ) ≠ 0 by decide) x y).trans (rfl)))))

theorem gA_apply5 (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) 5 (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 5 x y) :=
  (ld3 (arg10.view.read (Elt Ideal) (arg10.view.writes (Elt Ideal) arg10.view.junk (Gen.kernelRun0_A.sl.HS2_5 (F := Ideal) c i arg2 harg2 arg3 harg3 arg4 harg4 arg5 harg5 arg6 harg6 arg7 harg7 arg8 harg8 arg9 harg9 arg10 harg10 arg11 harg11 arg12 harg12 x0 x1 x2 x3 x4))) 5 _ 5 rfl x y).trans ((miss arg10.view arg10.view.junk 4 _ _ _ _ (show (5 : ℕ) ≠ 4 by decide) x y).trans ((miss arg10.view arg10.view.junk 3 _ _ _ _ (show (5 : ℕ) ≠ 3 by decide) x y).trans ((miss arg10.view arg10.view.junk 2 _ _ _ _ (show (5 : ℕ) ≠ 2 by decide) x y).trans ((miss arg10.view arg10.view.junk 1 _ _ _ _ (show (5 : ℕ) ≠ 1 by decide) x y).trans ((miss arg10.view arg10.view.junk 0 _ _ _ _ (show (5 : ℕ) ≠ 0 by decide) x y).trans (rfl))))))

theorem gA_apply6 (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) 6 (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 6 x y) :=
  (ld3 (arg10.view.read (Elt Ideal) (arg10.view.writes (Elt Ideal) arg10.view.junk (Gen.kernelRun0_A.sl.HS2_6 (F := Ideal) c i arg2 harg2 arg3 harg3 arg4 harg4 arg5 harg5 arg6 harg6 arg7 harg7 arg8 harg8 arg9 harg9 arg10 harg10 arg11 harg11 arg12 harg12 x0 x1 x2 x3 x4))) 6 _ 6 rfl x y).trans ((miss arg10.view arg10.view.junk 5 _ _ _ _ (show (6 : ℕ) ≠ 5 by decide) x y).trans ((miss arg10.view arg10.view.junk 4 _ _ _ _ (show (6 : ℕ) ≠ 4 by decide) x y).trans ((miss arg10.view arg10.view.junk 3 _ _ _ _ (show (6 : ℕ) ≠ 3 by decide) x y).trans ((miss arg10.view arg10.view.junk 2 _ _ _ _ (show (6 : ℕ) ≠ 2 by decide) x y).trans ((miss arg10.view arg10.view.junk 1 _ _ _ _ (show (6 : ℕ) ≠ 1 by decide) x y).trans ((miss arg10.view arg10.view.junk 0 _ _ _ _ (show (6 : ℕ) ≠ 0 by decide) x y).trans (rfl)))))))

theorem gA_apply7 (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) 7 (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 7 x y) :=
  (ld3 (arg10.view.read (Elt Ideal) (arg10.view.writes (Elt Ideal) arg10.view.junk (Gen.kernelRun0_A.sl.HS2_7 (F := Ideal) c i arg2 harg2 arg3 harg3 arg4 harg4 arg5 harg5 arg6 harg6 arg7 harg7 arg8 harg8 arg9 harg9 arg10 harg10 arg11 harg11 arg12 harg12 x0 x1 x2 x3 x4))) 7 _ 7 rfl x y).trans ((miss arg10.view arg10.view.junk 6 _ _ _ _ (show (7 : ℕ) ≠ 6 by decide) x y).trans ((miss arg10.view arg10.view.junk 5 _ _ _ _ (show (7 : ℕ) ≠ 5 by decide) x y).trans ((miss arg10.view arg10.view.junk 4 _ _ _ _ (show (7 : ℕ) ≠ 4 by decide) x y).trans ((miss arg10.view arg10.view.junk 3 _ _ _ _ (show (7 : ℕ) ≠ 3 by decide) x y).trans ((miss arg10.view arg10.view.junk 2 _ _ _ _ (show (7 : ℕ) ≠ 2 by decide) x y).trans ((miss arg10.view arg10.view.junk 1 _ _ _ _ (show (7 : ℕ) ≠ 1 by decide) x y).trans ((miss arg10.view arg10.view.junk 0 _ _ _ _ (show (7 : ℕ) ≠ 0 by decide) x y).trans (rfl))))))))

theorem gA_apply (h : Fin 8) (x : Fin 128) (y : Fin 256) : (gA c i arg2 harg2 arg3 harg3 arg4 harg4 arg5 harg5 arg6 harg6 arg7 harg7 arg8 harg8 arg9 harg9 arg10 harg10 arg11 harg11 arg12 harg12 x0 x1 x2 x3 x4) h (ix3 0 x y) = arg10.view.read (Elt Ideal) (arg10.view.writes (Elt Ideal) arg10.view.junk (t2 c i arg2 harg2 arg3 harg3 arg4 harg4 arg5 harg5 arg6 harg6 arg7 harg7 arg8 harg8 arg9 harg9 arg10 harg10 arg11 harg11 arg12 harg12 x0 x1 x2 x3 x4)) (ix3 h x y) := by
  match h with
  | ⟨0, _⟩ => exact gA_apply0 c i arg2 harg2 arg3 harg3 arg4 harg4 arg5 harg5 arg6 harg6 arg7 harg7 arg8 harg8 arg9 harg9 arg10 harg10 arg11 harg11 arg12 harg12 x0 x1 x2 x3 x4 x y
  | ⟨1, _⟩ => exact gA_apply1 c i arg2 harg2 arg3 harg3 arg4 harg4 arg5 harg5 arg6 harg6 arg7 harg7 arg8 harg8 arg9 harg9 arg10 harg10 arg11 harg11 arg12 harg12 x0 x1 x2 x3 x4 x y
  | ⟨2, _⟩ => exact gA_apply2 c i arg2 harg2 arg3 harg3 arg4 harg4 arg5 harg5 arg6 harg6 arg7 harg7 arg8 harg8 arg9 harg9 arg10 harg10 arg11 harg11 arg12 harg12 x0 x1 x2 x3 x4 x y
  | ⟨3, _⟩ => exact gA_apply3 c i arg2 harg2 arg3 harg3 arg4 harg4 arg5 harg5 arg6 harg6 arg7 harg7 arg8 harg8 arg9 harg9 arg10 harg10 arg11 harg11 arg12 harg12 x0 x1 x2 x3 x4 x y
  | ⟨4, _⟩ => exact gA_apply4 c i arg2 harg2 arg3 harg3 arg4 harg4 arg5 harg5 arg6 harg6 arg7 harg7 arg8 harg8 arg9 harg9 arg10 harg10 arg11 harg11 arg12 harg12 x0 x1 x2 x3 x4 x y
  | ⟨5, _⟩ => exact gA_apply5 c i arg2 harg2 arg3 harg3 arg4 harg4 arg5 harg5 arg6 harg6 arg7 harg7 arg8 harg8 arg9 harg9 arg10 harg10 arg11 harg11 arg12 harg12 x0 x1 x2 x3 x4 x y
  | ⟨6, _⟩ => exact gA_apply6 c i arg2 harg2 arg3 harg3 arg4 harg4 arg5 harg5 arg6 harg6 arg7 harg7 arg8 harg8 arg9 harg9 arg10 harg10 arg11 harg11 arg12 harg12 x0 x1 x2 x3 x4 x y
  | ⟨7, _⟩ => exact gA_apply7 c i arg2 harg2 arg3 harg3 arg4 harg4 arg5 harg5 arg6 harg6 arg7 harg7 arg8 harg8 arg9 harg9 arg10 harg10 arg11 harg11 arg12 harg12 x0 x1 x2 x3 x4 x y

end Lists

end Cert.Kernel6Ideal.Attn
-- ==== Proof.Block.lean ====
/- The value one block of queries stores. -/
module

public import proofs.«01_k».proof.Proof.Diag
public import proofs.«01_k».proof.Proof.FinalL
public import proofs.«01_k».proof.Proof.FinalA
public import proofs.«01_k».proof.Proof.FinalGM
public import proofs.«01_k».proof.Proof.FinalGL
public import proofs.«01_k».proof.Proof.FinalGA

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx

/-- The diagonal tile's score, a key after the query left out. -/
def dg (x0 : Vec Ideal S256x1024 .bf16) (x1 : Vec Ideal S256x128 .bf16) (x2 : Vec Ideal S4096x1024 .bf16) (x3 : Vec Ideal S4096x128 .bf16) (n : ℕ) (h : Fin 8) (r x : Fin 256) : EReal :=
  if r.val ≤ x.val then sig0 x2 x3 (Qv x0 x1) h (kj n r) x else ⊥

section Block

variable (c : Dev nD) (i : grid0.Coords) (arg2 : Memref sig .tc .vmem S256x1024 .bf16) (harg2 : arg2.IsWhole) (arg3 : Memref sig .tc .vmem S256x128 .bf16) (harg3 : arg3.IsWhole) (arg4 : Memref sig .tc .vmem S4096x1024 .bf16) (harg4 : arg4.IsWhole) (arg5 : Memref sig .tc .vmem S4096x128 .bf16) (harg5 : arg5.IsWhole) (arg6 : Memref sig .tc .vmem S1024x4096 .bf16) (harg6 : arg6.IsWhole) (arg7 : Memref sig .tc .vmem S256x1024 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x128x256 .f32) (harg10 : arg10.IsWhole) (arg11 : Memref sig .tc .vmem S8x256x256 .bf16) (harg11 : arg11.IsWhole) (arg12 : Memref sig .tc .vmem S4x256x256 .f32) (harg12 : arg12.IsWhole)
  (x0 : Vec Ideal S256x1024 .bf16) (x1 : Vec Ideal S256x128 .bf16) (x2 : Vec Ideal S4096x1024 .bf16) (x3 : Vec Ideal S4096x128 .bf16) (x4 : Vec Ideal S1024x4096 .bf16)

theorem block (w : Fin 1024 → Fin 4096 → ℝ) (hw : ∀ a b, x4 (ix2 a b) = (w a b : EReal)) (hs : ∀ h j x, sig0 x2 x3 (Qv x0 x1) h j x ≠ ⊤)
    (h : Fin 8) (d : Fin 128) (x : Fin 256) (hZ : 0 < zs x2 x3 (Qv x0 x1) h x (i 1).val + ∑ r, wt (dg x0 x1 x2 x3 (i 1).val h r x)) :
    out0_A_5 (F := Ideal) c i arg2 harg2 arg3 harg3 arg4 harg4 arg5 harg5 arg6 harg6 arg7 harg7 arg8 harg8 arg9 harg9 arg10 harg10 arg11 harg11 arg12 harg12 x0 x1 x2 x3 x4 (ix2 x (hd h d)) = (((ns x2 x3 (Qv x0 x1) w h d x (i 1).val + ∑ r, w (hd h d) (kj (i 1).val r) * wt (dg x0 x1 x2 x3 (i 1).val h r x)) / (zs x2 x3 (Qv x0 x1) h x (i 1).val + ∑ r, wt (dg x0 x1 x2 x3 (i 1).val h r x)) : ℝ) : EReal) := by
  obtain ⟨b1, b2⟩ := before c i arg2 harg2 arg3 harg3 arg4 harg4 arg5 harg5 arg6 harg6 arg7 harg7 arg8 harg8 arg9 harg9 arg10 harg10 arg11 harg11 arg12 harg12 x0 x1 x2 x3 x4 w hw hs
  have hS : ∀ r, msk (gS c i arg2 harg2 arg3 harg3 arg4 harg4 arg5 harg5 arg6 harg6 arg7 harg7 arg8 harg8 arg9 harg9 arg10 harg10 arg11 harg11 arg12 harg12 x0 x1 x2 x3 x4 h) (ix2 r x) = dg x0 x1 x2 x3 (i 1).val h r x := fun r => by
    rw [msk_apply, gS_val c i arg2 harg2 arg3 harg3 arg4 harg4 arg5 harg5 arg6 harg6 arg7 harg7 arg8 harg8 arg9 harg9 arg10 harg10 arg11 harg11 arg12 harg12 x0 x1 x2 x3 x4 b2]; rfl
  have hH : Held (zs x2 x3 (Qv x0 x1) h x (i 1).val) (ns x2 x3 (Qv x0 x1) w h d x (i 1).val) (gM c i arg2 harg2 arg3 harg3 arg4 harg4 arg5 harg5 arg6 harg6 arg7 harg7 arg8 harg8 arg9 harg9 arg10 harg10 arg11 harg11 arg12 harg12 x0 x1 x2 x3 x4 h (ix3 0 0 x)) (gL c i arg2 harg2 arg3 harg3 arg4 harg4 arg5 harg5 arg6 harg6 arg7 harg7 arg8 harg8 arg9 harg9 arg10 harg10 arg11 harg11 arg12 harg12 x0 x1 x2 x3 x4 h (ix3 0 0 x)) (gA c i arg2 harg2 arg3 harg3 arg4 harg4 arg5 harg5 arg6 harg6 arg7 harg7 arg8 harg8 arg9 harg9 arg10 harg10 arg11 harg11 arg12 harg12 x0 x1 x2 x3 x4 h (ix3 0 d x)) := by
    rw [gM_apply, gL_apply, gA_apply]
    exact b1 h d x
  have st := step (msk (gS c i arg2 harg2 arg3 harg3 arg4 harg4 arg5 harg5 arg6 harg6 arg7 harg7 arg8 harg8 arg9 harg9 arg10 harg10 arg11 harg11 arg12 harg12 x0 x1 x2 x3 x4 h)) (gM c i arg2 harg2 arg3 harg3 arg4 harg4 arg5 harg5 arg6 harg6 arg7 harg7 arg8 harg8 arg9 harg9 arg10 harg10 arg11 harg11 arg12 harg12 x0 x1 x2 x3 x4 h) (gL c i arg2 harg2 arg3 harg3 arg4 harg4 arg5 harg5 arg6 harg6 arg7 harg7 arg8 harg8 arg9 harg9 arg10 harg10 arg11 harg11 arg12 harg12 x0 x1 x2 x3 x4 h) (gV c i arg2 harg2 arg3 harg3 arg4 harg4 arg5 harg5 arg6 harg6 arg7 harg7 arg8 harg8 arg9 harg9 arg10 harg10 arg11 harg11 arg12 harg12 x0 x1 x2 x3 x4 h) (gA c i arg2 harg2 arg3 harg3 arg4 harg4 arg5 harg5 arg6 harg6 arg7 harg7 arg8 harg8 arg9 harg9 arg10 harg10 arg11 harg11 arg12 harg12 x0 x1 x2 x3 x4 h) d x hH
    (fun r => by rw [hS]; unfold dg; split; exacts [hs h _ x, bot_ne_top]) (fun r => w (hd h d) (kj (i 1).val r)) (fun r => by rw [gV_val]; exact hw _ _)
  simp only [hS] at st
  unfold out0_A_5
  rw [o_eq]
  refine (pcO_read _ _ _ h x d).trans ?_
  rw [tO_apply, aF_apply, mF_apply, a_eq, l_eq, pcA_read, pcM_read]
  exact held_div st hZ

end Block

end Cert.Kernel6Ideal.Attn
-- ==== Proof.Arr.lean ====
/- The attention's array after the run, as a function of the arguments. -/
module

public import proofs.«01_k».proof.Proof.Block
public import proofs.«01_k».proof.Proof.Gen.Kernel6Ideal.Value
public import Idealize.ShloMosaic.Lib.Pipeline.ValueKit.Geometry

@[expose] public section

noncomputable section

namespace Cert.Kernel6Ideal.Attn

open Cert.Kernel6Ideal Cert.Kernel6Ideal.Gen Cert.Attn
open Idealize.ShloMosaic Idealize.ShloMosaic.TcCoe Idealize.ShloMosaic.ValueIdx
open Idealize.ShloMosaic.Pipeline (Dat)

/-- A block's score is the plain score. -/
theorem sig_sc (x0 : Vec Ideal S256x1024 .bf16) (x1 : Vec Ideal S256x128 .bf16) (x2 : Vec Ideal S4096x1024 .bf16) (x3 : Vec Ideal S4096x128 .bf16) (q k : A1) (qa ka : A2)
    (b : Fin 2) (h : Fin 8) (i j : Fin 4096) (x : Fin 256)
    (e0 : ∀ l, x0 (ix2 x l) = q (ix2 (row b i) l)) (e1 : ∀ l, x1 (ix2 x l) = qa (ix2 (row b i) l))
    (e2 : ∀ l, x2 (ix2 j l) = k (ix2 (row b j) l)) (e3 : ∀ l, x3 (ix2 j l) = ka (ix2 (row b j) l)) :
    sig0 x2 x3 (Qv x0 x1) h j x = sc q k qa ka b h i j := by
  unfold sig0 sc
  refine (Fin.sum_univ_add (a := 128) (b := 128) _).trans ?_
  congr 1
  · refine Finset.sum_congr rfl fun e _ => ?_
    have hl : (Fin.castAdd 128 e).val < 128 := e.isLt
    have hQ : Qv x0 x1 (ix3 h (Fin.castAdd 128 e) x) = x0 (ix2 x (hd h e)) := dif_pos hl
    rw [dif_pos hl, hQ, mul_comm]
    exact congr (congrArg HMul.hMul (e0 (hd h e))) (e2 (hd h e))
  · rw [← lanes h (fun l => qa (ix2 (row b i) l) * ka (ix2 (row b j) l))]
    refine Finset.sum_congr rfl fun l _ => ?_
    have hl : ¬ (Fin.natAdd 128 l).val < 128 := by
      show ¬ 128 + l.val < 128
      omega
    have hv : (Fin.natAdd 128 l).val - 128 = l.val := by
      show 128 + l.val - 128 = l.val
      omega
    have hQ : Qv x0 x1 (ix3 h (Fin.natAdd 128 l) x) = if h.val * 16 ≤ l.val ∧ l.val < h.val * 16 + 16 then qa (ix2 (row b i) l) else 0 := by
      refine (dif_neg hl).trans (if_congr (by show _ ↔ _; rw [← hv]) ?_ rfl)
      exact (congrArg (fun z => x1 (ix2 x z)) (Fin.ext hv)).trans (e1 l)
    have hK : x3 (ix2 j (⟨(Fin.natAdd 128 l).val - 128, by omega⟩ : Fin 128)) = ka (ix2 (row b j) l) := (congrArg (fun z => x3 (ix2 j z)) (Fin.ext hv)).trans (e3 l)
    rw [dif_neg hl, hQ, hK]
    split
    · exact mul_comm _ _
    · exact mul_zero _

section Run

variable (m : (ℓ : Loc nD τ sig) → Buf (Elt Ideal) ℓ) (c : Dev nD)

/-- The arguments. -/
abbrev aQ : A1 := m ((c : Thread nD τ).loc main_arg0)
abbrev aQA : A2 := m ((c : Thread nD τ).loc main_arg1)
abbrev aK : A1 := m ((c : Thread nD τ).loc main_arg2)
abbrev aKA : A2 := m ((c : Thread nD τ).loc main_arg3)
abbrev aV : A3 := m ((c : Thread nD τ).loc main_arg4)

theorem w0 : ∀ t : Fin cfg0.N, win0_0.index t = ![t.val, 0] := (by decide +kernel : ∀ t : Fin grid0.N, _)
theorem w1 : ∀ t : Fin cfg0.N, win0_1.index t = ![t.val, 0] := (by decide +kernel : ∀ t : Fin grid0.N, _)
theorem w2 : ∀ t : Fin cfg0.N, win0_2.index t = ![t.val / 16, 0] := (by decide +kernel : ∀ t : Fin grid0.N, _)
theorem w3 : ∀ t : Fin cfg0.N, win0_3.index t = ![t.val / 16, 0] := (by decide +kernel : ∀ t : Fin grid0.N, _)
theorem w4 : ∀ t : Fin cfg0.N, win0_4.index t = ![0, t.val / 16] := (by decide +kernel : ∀ t : Fin grid0.N, _)
theorem w5 : ∀ t : Fin cfg0.N, win0_5.index t = ![t.val, 0] := (by decide +kernel : ∀ t : Fin grid0.N, _)
theorem g1 : ∀ t : Fin cfg0.N, ((grid0.coords t) 1).val = t.val % 16 := (by decide +kernel : ∀ t : Fin grid0.N, _)
theorem tlt : ∀ t : Fin cfg0.N, t.val < 32 := (by decide +kernel : ∀ t : Fin grid0.N, _)

/-- A grid point's batch, and its queries. -/
def bt (t : Fin cfg0.N) : Fin 2 := ⟨t.val / 16, by have := tlt t; omega⟩
def qi (t : Fin cfg0.N) (x : Fin 256) : Fin 4096 := ⟨t.val % 16 * 256 + x.val, by omega⟩

theorem blk0 (t : Fin cfg0.N) (x : Fin 256) (l : Fin 1024) : (iblk m c 0 t : S256x1024.Idx → EReal) (ix2 x l) = aQ m c (ix2 (row (bt t) (qi t x)) l) := by
  show (V m c main_arg0 : S8192x1024.Idx → EReal) (((cfg0.win 0).blk t).view.emb (ix2 x l)) = _
  rw [show (V m c main_arg0 : S8192x1024.Idx → EReal) = aQ m c from V_main_arg0 m c]
  refine congrArg (aQ m c) (funext fun a => Fin.ext ?_)
  match a with
  | ⟨0, _⟩ =>
    blk_simp [w0]
    show t.val * 256 + x.val = t.val / 16 * 4096 + (t.val % 16 * 256 + x.val)
    omega
  | ⟨1, _⟩ => blk_simp [w0]

theorem blk1 (t : Fin cfg0.N) (x : Fin 256) (l : Fin 128) : (iblk m c 1 t : S256x128.Idx → EReal) (ix2 x l) = aQA m c (ix2 (row (bt t) (qi t x)) l) := by
  show (V m c main_arg1 : S8192x128.Idx → EReal) (((cfg0.win 1).blk t).view.emb (ix2 x l)) = _
  rw [show (V m c main_arg1 : S8192x128.Idx → EReal) = aQA m c from V_main_arg1 m c]
  refine congrArg (aQA m c) (funext fun a => Fin.ext ?_)
  match a with
  | ⟨0, _⟩ =>
    blk_simp [w1]
    show t.val * 256 + x.val = t.val / 16 * 4096 + (t.val % 16 * 256 + x.val)
    omega
  | ⟨1, _⟩ => blk_simp [w1]

theorem blk2 (t : Fin cfg0.N) (j : Fin 4096) (l : Fin 1024) : (iblk m c 2 t : S4096x1024.Idx → EReal) (ix2 j l) = aK m c (ix2 (row (bt t) j) l) := by
  show (V m c main_arg2 : S8192x1024.Idx → EReal) (((cfg0.win 2).blk t).view.emb (ix2 j l)) = _
  rw [show (V m c main_arg2 : S8192x1024.Idx → EReal) = aK m c from V_main_arg2 m c]
  refine congrArg (aK m c) (funext fun a => Fin.ext ?_)
  match a with
  | ⟨0, _⟩ => blk_simp [w2]; rfl
  | ⟨1, _⟩ => blk_simp [w2]

theorem blk3 (t : Fin cfg0.N) (j : Fin 4096) (l : Fin 128) : (iblk m c 3 t : S4096x128.Idx → EReal) (ix2 j l) = aKA m c (ix2 (row (bt t) j) l) := by
  show (V m c main_arg3 : S8192x128.Idx → EReal) (((cfg0.win 3).blk t).view.emb (ix2 j l)) = _
  rw [show (V m c main_arg3 : S8192x128.Idx → EReal) = aKA m c from V_main_arg3 m c]
  refine congrArg (aKA m c) (funext fun a => Fin.ext ?_)
  match a with
  | ⟨0, _⟩ => blk_simp [w3]; rfl
  | ⟨1, _⟩ => blk_simp [w3]

theorem blk4 (t : Fin cfg0.N) (l : Fin 1024) (j : Fin 4096) : (iblk m c 4 t : S1024x4096.Idx → EReal) (ix2 l j) = aV m c (ix2 l (row (bt t) j)) := by
  show (V m c main_arg4 : S1024x8192.Idx → EReal) (((cfg0.win 4).blk t).view.emb (ix2 l j)) = _
  rw [show (V m c main_arg4 : S1024x8192.Idx → EReal) = aV m c from V_main_arg4 m c]
  refine congrArg (aV m c) (funext fun a => Fin.ext ?_)
  match a with
  | ⟨0, _⟩ => blk_simp [w4]
  | ⟨1, _⟩ => blk_simp [w4]; rfl

/-- The attention's array. -/
def H (i : S8192x1024.Idx) : EReal :=
  att (aQ m c) (aK m c) (aQA m c) (aKA m c) (aV m c) (⟨(i 0).val / 4096, by have h : (i 0).val < 8192 := (i 0).isLt; omega⟩ : Fin 2) (⟨(i 1).val / 128, by have h : (i 1).val < 1024 := (i 1).isLt; omega⟩ : Fin 8)
    (⟨(i 0).val % 4096, by omega⟩ : Fin 4096) (⟨(i 1).val % 128, by omega⟩ : Fin 128)

section Finite

variable (hq : ∀ i, IsR (aQ m c i)) (hqa : ∀ i, IsR (aQA m c i)) (hk : ∀ i, IsR (aK m c i)) (hka : ∀ i, IsR (aKA m c i)) (hv : ∀ i, IsR (aV m c i))
include hq hqa hk hka

theorem sig_eq (t : Fin cfg0.N) (h : Fin 8) (j : Fin 4096) (x : Fin 256) :
    sig0 (iblk m c 2 t : S4096x1024.Idx → EReal) (iblk m c 3 t : S4096x128.Idx → EReal) (Qv (iblk m c 0 t : S256x1024.Idx → EReal) (iblk m c 1 t : S256x128.Idx → EReal)) h j x
      = sc (aQ m c) (aK m c) (aQA m c) (aKA m c) (bt t) h (qi t x) j :=
  sig_sc _ _ _ _ _ _ _ _ (bt t) h (qi t x) j x (fun l => blk0 m c t x l) (fun l => blk1 m c t x l) (fun l => blk2 m c t j l) (fun l => blk3 m c t j l)

/-- A sum over the keys, weighted, is what the tiles up to the diagonal add up to. -/
theorem upto (t : Fin cfg0.N) (h : Fin 8) (x : Fin 256) (u : Fin 4096 → ℝ) :
    ∑ j, u j * wt (scm (aQ m c) (aK m c) (aQA m c) (aKA m c) (bt t) h (qi t x) j)
      = ∑ n ∈ Finset.range ((grid0.coords t) 1).val, ∑ r : Fin 256, u (kj n r) * wt (sig0 (iblk m c 2 t : S4096x1024.Idx → EReal) (iblk m c 3 t : S4096x128.Idx → EReal) (Qv (iblk m c 0 t : S256x1024.Idx → EReal) (iblk m c 1 t : S256x128.Idx → EReal)) h (kj n r) x)
        + ∑ r : Fin 256, u (kj ((grid0.coords t) 1).val r) * wt (dg (iblk m c 0 t : S256x1024.Idx → EReal) (iblk m c 1 t : S256x128.Idx → EReal) (iblk m c 2 t : S4096x1024.Idx → EReal) (iblk m c 3 t : S4096x128.Idx → EReal) ((grid0.coords t) 1).val h r x) := by
  have hg := g1 t
  generalize ((grid0.coords t) 1).val = n at hg ⊢
  have hn : n < 16 := by omega
  have hqi : ∀ x : Fin 256, (qi t x).val = n * 256 + x.val := fun x => by
    show t.val % 16 * 256 + x.val = _
    rw [hg]
  refine (tiles_upto _ n hn ?_).trans ?_
  · intro s hs hs' r
    have e : (kt s r).val = s * 256 + r.val := kj_val s hs' r
    have : ¬ (kt s r).val ≤ (qi t x).val := by rw [e, hqi]; omega
    unfold scm
    rw [if_neg this, wt_bot, mul_zero]
  · congr 1
    · refine Finset.sum_congr rfl fun s hs => Finset.sum_congr rfl fun r _ => ?_
      have hs' : s < n := Finset.mem_range.1 hs
      have e : (kt s r).val = s * 256 + r.val := kj_val s (by omega) r
      have hle : (kt s r).val ≤ (qi t x).val := by rw [e, hqi]; omega
      rw [sig_eq m c hq hqa hk hka]
      unfold scm
      rw [if_pos hle]
      rfl
    · refine Finset.sum_congr rfl fun r _ => ?_
      have e : (kt n r).val = n * 256 + r.val := kj_val n hn r
      unfold scm dg
      rw [sig_eq m c hq hqa hk hka]
      have hiff : (kt n r).val ≤ (qi t x).val ↔ r.val ≤ x.val := by rw [e, hqi]; omega
      rw [if_congr hiff rfl rfl]
      rfl

include hv

theorem out_att (t : Fin cfg0.N) (h : Fin 8) (d : Fin 128) (x : Fin 256) :
    (outsAt0 m c t : S256x1024.Idx → EReal) (ix2 x (hd h d)) = att (aQ m c) (aK m c) (aQA m c) (aKA m c) (aV m c) (bt t) h (qi t x) d := by
  have hZ := upto m c hq hqa hk hka t h x (fun _ => 1)
  have hN := upto m c hq hqa hk hka t h x (fun j => (aV m c (ix2 (col h d) (row (bt t) j))).toReal)
  simp only [one_mul] at hZ
  have hp := wt_sum_pos hq hk hqa hka (bt t) h (qi t x)
  unfold att
  rw [hZ] at hp ⊢
  rw [hN]
  unfold outsAt0
  exact block c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) (fun a j => (aV m c (ix2 a (row (bt t) j))).toReal)
    (fun a j => (blk4 m c t a j).trans (hv _).coe.symm) (fun h j x => by rw [sig_eq m c hq hqa hk hka]; exact (sc_real hq hk hqa hka _ _ _ _).ne_top) h d x hp

theorem fin5 : (dats m 0 c).arrAt 5 cfg0.N = H m c := by
  refine (dats m 0 c).arrAt_eq_of_covers 5 (H m c) (by decide +kernel) fun t hf y => ?_
  have h0 : ((((cfg0.win 5).blk t).view.emb y 0 : Fin _) : ℕ) = t.val * 256 + (y 0 : ℕ) := by blk_simp [w5]
  have h1 : ((((cfg0.win 5).blk t).view.emb y 1 : Fin _) : ℕ) = (y 1 : ℕ) := by blk_simp [w5]
  show (dats m 0 c).after 5 t y = _
  rw [after0_5]
  have y0 : (y 0).val < 256 := (y 0).isLt
  have y1 : (y 1).val < 1024 := (y 1).isLt
  have ey : y = ix2 (⟨(y 0).val, y0⟩ : Fin 256) (hd (⟨(y 1).val / 128, by omega⟩ : Fin 8) (⟨(y 1).val % 128, by omega⟩ : Fin 128)) := funext fun a => Fin.ext (match a with
    | ⟨0, _⟩ => rfl
    | ⟨1, _⟩ => show (y 1).val = (y 1).val / 128 * 128 + (y 1).val % 128 by omega)
  refine (congrArg (outsAt0 m c t : S256x1024.Idx → EReal) ey).trans ((out_att m c hq hqa hk hka hv t _ _ _).trans ?_)
  have ht := tlt t
  unfold H
  congr 1
  · exact Fin.ext (by show t.val / 16 = _ / 4096; rw [h0]; omega)
  · exact Fin.ext (by show (y 1).val / 128 = _ / 128; rw [h1])
  · exact Fin.ext (by show t.val % 16 * 256 + (y 0).val = _ % 4096; rw [h0]; omega)
  · exact Fin.ext (by show (y 1).val % 128 = _ % 128; rw [h1])

end Finite

end Run

end Cert.Kernel6Ideal.Attn

end
-- ==== Proof.Ref.lean ====
/- The reference, an entry at a time: causal attention. -/
module

public import proofs.«01_k».proof.Proof.Plain
public import proofs.«01_k».proof.Proof.Gen.Reference6Ideal.Read
public import Idealize.ShloMosaic.Lib.ValueIdx
public import Idealize.ShloMosaic.Lib.ValueIdxCore
public import Idealize.ShloMosaic.Lib.ValueIdxCoords
public import Idealize.ShloMosaic.Lib.ValueLayout
public import Idealize.ShloMosaic.Lib.KernelVsHost
public import Idealize.ShloMosaic.Lib.ReduceAll

@[expose] public section

noncomputable section

namespace Cert.Reference6Ideal.Attn

open Cert.Reference6Ideal Cert.Reference6Ideal.Read Cert.Attn
open Idealize.ShloMosaic Idealize.ShloMosaic.TcCoe Idealize.ShloMosaic.ValueIdx

variable (q k : A1) (qa ka : A2) (v : A3)

theorem heads1 (x : A1) (b : Fin 2) (i : Fin 4096) (h : Fin 8) (e : Fin 128) : val_main_v4 (F := Ideal) x (ix4 b i h e) = x (ix2 (row b i) (col h e)) := by
  rw [val_main_v4_apply, val_main_v3_apply, Ideal.extf_def]
  refine congrArg x (funext fun a => Fin.ext ?_)
  match a with
  | ⟨0, _⟩ =>
    show (((b.val * 4096 + i.val) * 8 + h.val) * 128 + e.val) / 1024 = b.val * 4096 + i.val
    omega
  | ⟨1, _⟩ =>
    show (((b.val * 4096 + i.val) * 8 + h.val) * 128 + e.val) % 1024 = h.val * 128 + e.val
    omega

theorem heads1' (x : A1) (b : Fin 2) (i : Fin 4096) (h : Fin 8) (e : Fin 128) : val_main_v6 (F := Ideal) x (ix4 b i h e) = x (ix2 (row b i) (col h e)) :=
  heads1 x b i h e

theorem heads2 (x : A2) (b : Fin 2) (i : Fin 4096) (h : Fin 8) (e : Fin 16) : val_main_v9 (F := Ideal) x (ix4 b i h e) = x (ix2 (row b i) (lane h e)) := by
  rw [val_main_v9_apply, val_main_v8_apply, Ideal.extf_def]
  refine congrArg x (funext fun a => Fin.ext ?_)
  match a with
  | ⟨0, _⟩ =>
    show (((b.val * 4096 + i.val) * 8 + h.val) * 16 + e.val) / 128 = b.val * 4096 + i.val
    omega
  | ⟨1, _⟩ =>
    show (((b.val * 4096 + i.val) * 8 + h.val) * 16 + e.val) % 128 = h.val * 16 + e.val
    omega

theorem heads2' (x : A2) (b : Fin 2) (i : Fin 4096) (h : Fin 8) (e : Fin 16) : val_main_v11 (F := Ideal) x (ix4 b i h e) = x (ix2 (row b i) (lane h e)) :=
  heads2 x b i h e

theorem heads3 (x : A3) (b : Fin 2) (i : Fin 4096) (h : Fin 8) (e : Fin 128) : val_main_v2 (F := Ideal) x (ix4 b i h e) = x (ix2 (col h e) (row b i)) := by
  rw [val_main_v2_apply, val_main_v1_apply, val_main_v0_apply, Ideal.extf_def]
  refine congrArg x (funext fun a => Fin.ext ?_)
  match a with
  | ⟨1, _⟩ =>
    show (((b.val * 4096 + i.val) * 8 + h.val) * 128 + e.val) / 1024 = b.val * 4096 + i.val
    omega
  | ⟨0, _⟩ =>
    show (((b.val * 4096 + i.val) * 8 + h.val) * 128 + e.val) % 1024 = h.val * 128 + e.val
    omega

theorem ix4_eq {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun x => Fin.ext (match x with
    | ⟨0, _⟩ => h0
    | ⟨1, _⟩ => h1
    | ⟨2, _⟩ => h2
    | ⟨3, _⟩ => h3)

/-- The reference's scores. -/
theorem scores (b : Fin 2) (h : Fin 8) (i j : Fin 4096) : val_main_v13 (F := Ideal) q qa k ka (ix4 b h i j) = sc q k qa ka b h i j := by
  rw [val_main_v13_apply, val_main_v7_apply, val_main_v12_apply, Ideal.addf_def]
  unfold sc
  congr 1
  · refine Finset.sum_congr rfl fun e _ => ?_
    rw [ix4_eq (lidx_main_v7 (ix4 b h i j) e) b i h e rfl rfl rfl rfl, ix4_eq (ridx_main_v7 (ix4 b h i j) e) b j h e rfl rfl rfl rfl, heads1, heads1']
  · refine Finset.sum_congr rfl fun e _ => ?_
    rw [ix4_eq (lidx_main_v12 (ix4 b h i j) e) b i h e rfl rfl rfl rfl, ix4_eq (ridx_main_v12 (ix4 b h i j) e) b j h e rfl rfl rfl rfl, heads2, heads2']

theorem ninf : (FloatOps.ofBits .f32 0xFF800000#32 : Ideal .f32) = ⊥ :=
  (by decide : Ideal.ofBits .f32 0xFF800000#32 = ⊥)

theorem masked (b : Fin 2) (h : Fin 8) (i j : Fin 4096) : val_main_v20 (F := Ideal) q qa k ka (ix4 b h i j) = scm q k qa ka b h i j := by
  rw [val_main_v20_apply, val_main_call0_v1_apply, val_main_v19_apply, val_main_v17_apply, val_main_v18_apply, val_main_v15_apply, val_main_v16_apply,
    val_main_v14_apply, val_main_v14_apply, val_main_call0_v2_apply, val_main_call0_v0_apply, val_main_cst_apply, scores, ninf]
  show Scalar.select (BitVec.ofBool ((BitVec.ofNat 32 j.val).sle (BitVec.ofNat 32 i.val))) _ _ = _
  rw [sle_nat _ _ (by omega) (by omega)]
  unfold scm
  by_cases hji : j.val ≤ i.val
  · rw [decide_eq_true hji, if_pos hji]; rfl
  · rw [decide_eq_false hji, if_neg hji]; rfl

section Finite

variable {q k : A1} {qa ka : A2} (hq : ∀ i, IsR (q i)) (hk : ∀ i, IsR (k i)) (hqa : ∀ i, IsR (qa i)) (hka : ∀ i, IsR (ka i))
include hq hk hqa hka

/-- The row's maximum is a real number. -/
theorem top_real (b : Fin 2) (h : Fin 8) (i : Fin 4096) : IsR (val_main_v21 (F := Ideal) q qa k ka (ix3 b h i)) := by
  unfold val_main_v21
  rw [Host.reduce_eq_foldl]
  have ht : ∀ a, val_main_v20 (F := Ideal) q qa k ka a ≠ ⊤ := fun a => by
    rw [ix4_eq a (a 0) (a 1) (a 2) (a 3) rfl rfl rfl rfl]
    exact fun h => scm_ne_top hq hk hqa hka (a 0) (a 1) (a 2) (a 3) ((masked q k qa ka (a 0) (a 1) (a 2) (a 3)).symm.trans h)
  refine fold_max_real (val_main_v20 (F := Ideal) q qa k ka) ht _ _ ?_ (Or.inr ⟨ix4 b h i i, ?_, ?_⟩)
  · rw [val_main_cst_0_apply, ninf]
    exact bot_ne_top
  · rw [List.mem_filter]
    refine ⟨List.mem_map.2 ⟨(⟨4, ![2, 8, 4096, 4096]⟩ : Shape).rowMajor (ix4 b h i i), List.mem_finRange _, Equiv.symm_apply_apply _ _⟩, ?_⟩
    refine decide_eq_true (funext fun a => Fin.ext ?_)
    match a with
    | ⟨0, _⟩ => rfl
    | ⟨1, _⟩ => rfl
    | ⟨2, _⟩ => rfl
  · rw [masked]
    unfold scm
    rw [if_pos le_rfl]
    exact sc_real hq hk hqa hka b h i i

theorem weights (b : Fin 2) (h : Fin 8) (i : Fin 4096) (m : ℝ) (hm : val_main_v21 (F := Ideal) q qa k ka (ix3 b h i) = m) (j : Fin 4096) :
    val_main_v26 (F := Ideal) q qa k ka (ix4 b h i j) = Ideal.exp2 (scm q k qa ka b h i j - m) := by
  have e2 : (FloatOps.ofBits .f32 0x40000000#32 : Ideal .f32) = ((2 : ℝ) : EReal) := by
    rw [Ideal.ofBits_def]
    simp [Ideal.ofBits, Ideal.ieee, -EReal.coe_mul]; norm_num
  have e23 : val_main_v23 (F := Ideal) q qa k ka (ix4 b h i j) = m := by
    rw [val_main_v23_apply, val_main_v22_apply, ← hm]
    exact congrArg (val_main_v21 (F := Ideal) q qa k ka) (funext fun a => match a with | ⟨0, _⟩ => rfl | ⟨1, _⟩ => rfl | ⟨2, _⟩ => rfl)
  rw [val_main_v26_apply, val_main_v25_apply, val_main_cst_1_apply, val_main_v24_apply, e23, masked, e2, Ideal.hostPowf_def, Ideal.subf_def, Cert.Attn.pow_two]

/-- The reference's result. -/
theorem ref_eq (v : A3) (hv : ∀ i, IsR (v i)) (b : Fin 2) (h : Fin 8) (i : Fin 4096) (d : Fin 128) :
    val_main_v33 (F := Ideal) q qa k ka v (ix2 (row b i) (col h d)) = att q k qa ka v b h i d := by
  obtain ⟨m, hm⟩ := top_real hq hk hqa hka b h i
  have e33 : idx_main_v33 (ix2 (row b i) (col h d)) = ix4 b i h d := by
    refine ix4_eq _ _ _ _ _ ?_ ?_ ?_ ?_
    · show ((b.val * 4096 + i.val) * 1024 + (h.val * 128 + d.val)) / 4194304 = b.val
      omega
    · show ((b.val * 4096 + i.val) * 1024 + (h.val * 128 + d.val)) / 1024 % 4096 = i.val
      omega
    · show ((b.val * 4096 + i.val) * 1024 + (h.val * 128 + d.val)) / 128 % 8 = h.val
      omega
    · show ((b.val * 4096 + i.val) * 1024 + (h.val * 128 + d.val)) % 128 = d.val
      omega
  have e32 : idx_main_v32 (ix4 b i h d) = ix4 b h d i := ix4_eq _ _ _ _ _ rfl rfl rfl rfl
  have e27 : val_main_v27 (F := Ideal) q qa k ka (ix3 b h i) = 0 + ∑ j, Ideal.exp2 (scm q k qa ka b h i j - m) := by
    rw [val_main_v27_apply, val_main_cst_2_apply, Ideal.ofBits_def, Ideal.ofBits_zero_f32]
    refine congrArg (0 + ·) (Finset.sum_congr rfl fun j _ => ?_)
    rw [ix4_eq (idx_main_v27 (ix3 b h i) j) b h i j rfl rfl rfl rfl]
    exact weights hq hk hqa hka b h i m hm j
  have e29 : ∀ j, val_main_v29 (F := Ideal) q qa k ka (ix4 b h i j) = 0 + ∑ j, Ideal.exp2 (scm q k qa ka b h i j - m) := fun j => by
    rw [val_main_v29_apply, val_main_v28_apply, ← e27]
    exact congrArg (val_main_v27 (F := Ideal) q qa k ka) (funext fun a => match a with | ⟨0, _⟩ => rfl | ⟨1, _⟩ => rfl | ⟨2, _⟩ => rfl)
  rw [val_main_v33_apply, e33, val_main_v32_apply, e32, val_main_v31_apply]
  refine Eq.trans (Finset.sum_congr rfl fun j _ => ?_) (soft (fun j => scm q k qa ka b h i j) (fun j => scm_ne_top hq hk hqa hka b h i j) m
    (fun j => (v (ix2 (col h d) (row b j))).toReal) (wt_sum_pos hq hk hqa hka b h i))
  rw [ix4_eq (lidx_main_v31 (ix4 b h d i) j) b j h d rfl rfl rfl rfl, ix4_eq (ridx_main_v31 (ix4 b h d i) j) b h i j rfl rfl rfl rfl, heads3, val_main_v30_apply,
    e29, weights hq hk hqa hka b h i m hm j, Ideal.hostDivf_def, (hv _).coe]

end Finite

end Cert.Reference6Ideal.Attn
-- ==== Proof.Fin.lean ====
/- What the precondition says of the attention's arguments: every entry is a real number. -/
module

public import proofs.«01_k».proof.Pre_all_finite
public import proofs.«01_k».proof.Proof.Plain
public import Idealize.ShloMosaic.Lib.ReduceAll
public import Idealize.ShloMosaic.PureOps.Ideal
public import Idealize.ShloMosaic.PureOps.Ideal.Laws

@[expose] public section

set_option maxRecDepth 16384

noncomputable section

namespace Cert.Attn

open Idealize.ShloMosaic

theorem pinf : Ideal.ofBits .f32 0x7F800000#32 = ⊤ := by decide

/-- A number whose magnitude is below the infinity is real. -/
theorem real_of_lt (x : EReal) (h : Ideal.cmp .olt (max x (-x)) (Ideal.ofBits .f32 0x7F800000#32) = 1#1) : IsR x := by
  rw [pinf] at h
  have h' : max x (-x) < ⊤ := by
    by_contra hn
    rw [show Ideal.cmp .olt (max x (-x)) ⊤ = BitVec.ofBool (decide (max x (-x) < ⊤)) from rfl, decide_eq_false hn] at h
    exact absurd h (by decide)
  obtain ⟨h1, h2⟩ := max_lt_iff.1 h'
  refine IsR.of h1.ne (fun e => ?_)
  rw [e, EReal.neg_bot] at h2
  exact lt_irrefl _ h2

/-- The precondition makes every entry of every argument real. -/
theorem finite_of_pre [Cert.Pre_all_finite.Facts] (q k : A1) (qa ka : A2) (v : A3)
    (h : Cert.Pre_all_finite.fn (F := Ideal) q qa k ka v = fun _ => 1#1) : (∀ i, IsR (q i)) ∧ (∀ i, IsR (qa i)) ∧ (∀ i, IsR (k i)) ∧ (∀ i, IsR (ka i)) ∧ ∀ i, IsR (v i) := by
  have h := congrFun h (fun a => a.elim0)
  unfold Cert.Pre_all_finite.fn Cert.Pre_all_finite.fn_part1 at h
  change IntOp.andi (IntOp.andi (IntOp.andi (IntOp.andi (Host.reduce IntOp.andi _ _ _ _ _) (Host.reduce IntOp.andi _ _ _ _ _)) (Host.reduce IntOp.andi _ _ _ _ _)) (Host.reduce IntOp.andi _ _ _ _ _)) (Host.reduce IntOp.andi _ _ _ _ _) = 1#1 at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  clear h
  haveI : Subsingleton (Cert.Pre_all_finite.S_).Idx := ⟨fun a b => funext fun x => x.elim0⟩
  exact ⟨fun i => real_of_lt _ (Host.reduce_andi_all _ _ _ _ _ h1 i), fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i)⟩

end Cert.Attn

end
-- ==== Proof.AttnJoin.lean ====
/- The attention's two runs: what the kernel and the reference leave, and that it is the same. -/
module

public import proofs.«01_k».proof.Defs
public import proofs.«01_k».proof.Proof.Arr
public import proofs.«01_k».proof.Proof.Ref
public import proofs.«01_k».proof.Proof.Fin
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Adequacy
public import Idealize.ShloMosaic.Init

@[expose] public section

set_option maxRecDepth 16384

noncomputable section

namespace Cert.Reference6Ideal.Attn

open Cert.Reference6Ideal.Read Cert.Attn Idealize.ShloMosaic Idealize.ShloMosaic.TcCoe Idealize.ShloMosaic.ValueIdx Idealize.SL.Sem

theorem frame_reference : Cert.quiescent_Reference6Ideal := fun m g _ =>
  (θ_run Cert.Reference6Ideal.defs _ _).mono (fun r hr => ⟨fun c => (hr c).2, sem_eq_zero_of_no_sems (by decide) r.2⟩) (Cert.Reference6Ideal.Value.run m g)

/-- The reference's array is the attention's. -/
theorem ref_H (q k : A1) (qa ka : A2) (v : A3) (hq : ∀ i, IsR (q i)) (hqa : ∀ i, IsR (qa i)) (hk : ∀ i, IsR (k i)) (hka : ∀ i, IsR (ka i)) (hv : ∀ i, IsR (v i)) (i : (⟨2, ![8192, 1024]⟩ : Shape).Idx) :
    val_main_v33 (F := Ideal) q qa k ka v i = att q k qa ka v (⟨(i 0).val / 4096, by have h : (i 0).val < 8192 := (i 0).isLt; omega⟩ : Fin 2) (⟨(i 1).val / 128, by have h : (i 1).val < 1024 := (i 1).isLt; omega⟩ : Fin 8)
      (⟨(i 0).val % 4096, by omega⟩ : Fin 4096) (⟨(i 1).val % 128, by omega⟩ : Fin 128) := by
  refine Eq.trans (congrArg (val_main_v33 (F := Ideal) q qa k ka v) (funext fun a => Fin.ext ?_)) (ref_eq hq hk hqa hka v hv _ _ _ _)
  match a with
  | ⟨0, _⟩ => show (i 0).val = (i 0).val / 4096 * 4096 + (i 0).val % 4096; omega
  | ⟨1, _⟩ => show (i 1).val = (i 1).val / 128 * 128 + (i 1).val % 128; omega

/-- The two programs' results are equal at the ideal instance, every argument's entries being real numbers. -/
theorem algebraic [hPre_all_finite : Cert.Pre_all_finite.Facts] : Cert.algebraic_Kernel6Ideal_Reference6Ideal_pre_all_finite := fun m g m' g' hp h =>
  ⟨fun c => Cert.Kernel6Ideal.Attn.H m c,
    (θ_run Cert.Kernel6Ideal.defs _ _).mono (fun r hr c => by
      obtain ⟨o0, ha⟩ := hr c
      obtain ⟨f0, f1, f2, f3, f4⟩ := finite_of_pre _ _ _ _ _ (hp c)
      exact ⟨o0.trans (Cert.Kernel6Ideal.Attn.fin5 m c f0 f1 f2 f3 f4), ha⟩) (Cert.Kernel6Ideal.Value.run_blocks m g),
    (θ_run Cert.Reference6Ideal.defs _ _).mono (fun r hr c => by
      obtain ⟨o0, ha⟩ := hr c
      obtain ⟨f0, f1, f2, f3, f4⟩ := finite_of_pre _ _ _ _ _ (hp c)
      obtain ⟨a0, a1, a2, a3, a4⟩ := h c
      refine ⟨(o0.trans (val_main_v33_eq _ _)).trans ?_, ha⟩
      rw [a0, a1, a2, a3, a4]
      exact funext fun i => ref_H _ _ _ _ _ f0 f1 f2 f3 f4 i) (Cert.Reference6Ideal.Value.run m' g')⟩

end Cert.Reference6Ideal.Attn

end
-- ==== Proof.Spec.lean ====
/- What the dispatch leaves in its result: the sets of rows, the deliveries of its copies, and the facts about one row's copy. -/
module

public import proofs.«01_k».proof.Proof.Gen.KernelIdeal.Loops
public import proofs.«01_k».proof.Proof.Gen.KernelIdeal.Launch
public import Idealize.ShloMosaic.Lib.Batch
public import Idealize.ShloMosaic.Lib.Ring
public import Idealize.ShloMosaic.Lib.Pipeline.FrameValue
public import Idealize.ShloMosaic.Lib.StableHlo.Predicate

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The separation-logic algebra: the frame kit's with counters beside it. -/
abbrev UU : Type := Pipeline.UD sig nD τ
local notation "𝕄" => MT nD τ sig Unit (Elt F) ℕ UU ℕ

abbrev mDest : Memref sig .tc .smem S16896 .i32 := Memref.whole main_arg0
abbrev mFlag : Memref sig .tc .smem S98 .i32 := Memref.whole main_arg1
abbrev mA : Memref sig .tc .vmem S8192x1024 .i32 := Memref.whole cc0_stg0_0
abbrev mB : Memref sig .tc .vmem S256x1024 .i32 := Memref.whole cc0_stg1_0
abbrev mOut : Memref sig .tc .hbm S25088x1024 .i32 := Memref.whole main_v0
abbrev mZero : Memref sig .tc .vmem S256x1024 .i32 := Memref.whole cc0_scratch0

/-! ## Sets of rows -/

/-- The elements of row `r` of the result. -/
def orow (r : ℕ) : Finset S25088x1024.Idx := Finset.univ.filter fun i => (i 0).val = r
/-- The elements of block `b` (256 rows) of the result. -/
def oblk (b : ℕ) : Finset S25088x1024.Idx := Finset.univ.filter fun i => (i 0).val / 256 = b
/-- The elements of row `r` of the first source. -/
def arow (r : ℕ) : Finset S8192x1024.Idx := Finset.univ.filter fun i => (i 0).val = r
/-- The elements of row `r` of the second source. -/
def brow (r : ℕ) : Finset S256x1024.Idx := Finset.univ.filter fun i => (i 0).val = r

theorem mem_orow {r : ℕ} {i : S25088x1024.Idx} : i ∈ orow r ↔ (i 0).val = r := by simp [orow]
theorem mem_oblk {r : ℕ} {i : S25088x1024.Idx} : i ∈ oblk r ↔ (i 0).val / 256 = r := by simp [oblk]
theorem mem_arow {r : ℕ} {i : S8192x1024.Idx} : i ∈ arow r ↔ (i 0).val = r := by simp [arow]
theorem mem_brow {r : ℕ} {i : S256x1024.Idx} : i ∈ brow r ↔ (i 0).val = r := by simp [brow]

theorem orow_disj {r r' : ℕ} (h : r ≠ r') : Disjoint (orow r) (orow r') := by
  rw [Finset.disjoint_left]; intro i hi hi'; rw [mem_orow] at hi hi'; exact h (hi.symm.trans hi')
theorem oblk_disj {r r' : ℕ} (h : r ≠ r') : Disjoint (oblk r) (oblk r') := by
  rw [Finset.disjoint_left]; intro i hi hi'; rw [mem_oblk] at hi hi'; exact h (hi.symm.trans hi')
theorem arow_disj {r r' : ℕ} (h : r ≠ r') : Disjoint (arow r) (arow r') := by
  rw [Finset.disjoint_left]; intro i hi hi'; rw [mem_arow] at hi hi'; exact h (hi.symm.trans hi')
theorem brow_disj {r r' : ℕ} (h : r ≠ r') : Disjoint (brow r) (brow r') := by
  rw [Finset.disjoint_left]; intro i hi hi'; rw [mem_brow] at hi hi'; exact h (hi.symm.trans hi')

/-! ## The tables and contents -/

/-- Entry `j` of the slots' table, as a number. -/
def dst (tb : S16896.Idx → BitVec 32) (j : ℕ) : ℕ := if h : j < 16896 then (tb (fun | ⟨0, _⟩ => ⟨j, h⟩)).toNat else 0

/-- The word a load at offset `j` reads. -/
theorem dst_eq (tb : S16896.Idx → BitVec 32) {j : ℕ} (h : j < 16896) : (tb (fun | ⟨0, _⟩ => ⟨j, h⟩)).toNat = dst tb j := by
  unfold dst; rw [dif_pos h]

/-- One row-copy's delivery out of the first source: the row of the result at the final contents, the source row's share back. -/
def delA (c : Dev nD) (tb : S16896.Idx → BitVec 32) (q : PosShare TreeShare) (off : ℕ) (fa : S8192x1024.Idx → Elt F .i32)
    (G : S25088x1024.Idx → Elt F .i32) (t : ℕ) : sProp 𝕄 :=
  iprop((mOut.view.loc (c : Thread nD τ) ↦[orow (dst tb (off + t))]{fullShare} G) ∗ (mA.view.loc (c : Thread nD τ) ↦[arow t]{q} fa))

def delB (c : Dev nD) (tb : S16896.Idx → BitVec 32) (q : PosShare TreeShare) (off : ℕ) (fb : S256x1024.Idx → Elt F .i32)
    (G : S25088x1024.Idx → Elt F .i32) (t : ℕ) : sProp 𝕄 :=
  iprop((mOut.view.loc (c : Thread nD τ) ↦[orow (dst tb (off + t))]{fullShare} G) ∗ (mB.view.loc (c : Thread nD τ) ↦[brow t]{q} fb))

instance delA_storable (c : Dev nD) (tb : S16896.Idx → BitVec 32) (q : PosShare TreeShare) (off : ℕ) (fa : S8192x1024.Idx → Elt F .i32)
    (G : S25088x1024.Idx → Elt F .i32) (t : ℕ) : BI.Storable (upEmb : UEmb _ 𝕄) (delA c tb q off fa G t) := by unfold delA; infer_instance
instance delB_storable (c : Dev nD) (tb : S16896.Idx → BitVec 32) (q : PosShare TreeShare) (off : ℕ) (fb : S256x1024.Idx → Elt F .i32)
    (G : S25088x1024.Idx → Elt F .i32) (t : ℕ) : BI.Storable (upEmb : UEmb _ 𝕄) (delB c tb q off fb G t) := by unfold delB; infer_instance

abbrev tok (k : ℕ) : PosShare TreeShare := Transfers.shareTokN fullShare k

/-- The deliveries of the first source's copies, in issue order. -/
abbrev DA (c : Dev nD) (tb : S16896.Idx → BitVec 32) (fa : S8192x1024.Idx → Elt F .i32) (G : S25088x1024.Idx → Elt F .i32) :
    Fin (2 * 8192) → sProp 𝕄 := Ring.interleaved 8192 (delA c tb (tok 0) 0 fa G) (delA c tb (tok 1) 8448 fa G)
/-- The deliveries of the second source's copies, in issue order. -/
abbrev DB (c : Dev nD) (tb : S16896.Idx → BitVec 32) (fb : S256x1024.Idx → Elt F .i32) (G : S25088x1024.Idx → Elt F .i32) :
    Fin (2 * 256) → sProp 𝕄 := Ring.interleaved 256 (delB c tb (tok 0) 8192 fb G) (delB c tb (tok 1) (8192 + 8448) fb G)

/-- One row's credit. -/
abbrev NR : ℕ := (mOut.slice (Rect.unit (s := S25088x1024) ![0, 0] S1x1024.size (by decide)) (fun _ => rfl)).view.dmaCredit

abbrev batchA (c : Dev nD) (tb : S16896.Idx → BitVec 32) (fa : S8192x1024.Idx → Elt F .i32) (G : S25088x1024.Idx → Elt F .i32) (j u : ℕ) : sProp 𝕄 :=
  Transfers.Batch (countersEmb (U := UU)) (c : Thread nD τ) (.dma cc0_scratch1.sem) () NR (DA c tb fa G) j u

/-- The slots the rows `[lo, hi)` of a source go to, at contents `V`. -/
def outs (c : Dev nD) (tb : S16896.Idx → BitVec 32) (off : ℕ) (V : S25088x1024.Idx → Elt F .i32) (lo hi : ℕ) : sProp 𝕄 :=
  bigSep (Finset.Ico lo hi) fun t => iprop(mOut.view.loc (c : Thread nD τ) ↦[orow (dst tb (off + t))]{fullShare} V)
/-- The rows `[lo, hi)` of the first source, at share `q`. -/
def rowsA (c : Dev nD) (q : PosShare TreeShare) (fa : S8192x1024.Idx → Elt F .i32) (lo hi : ℕ) : sProp 𝕄 :=
  bigSep (Finset.Ico lo hi) fun t => iprop(mA.view.loc (c : Thread nD τ) ↦[arow t]{q} fa)
def rowsB (c : Dev nD) (q : PosShare TreeShare) (fb : S256x1024.Idx → Elt F .i32) (lo hi : ℕ) : sProp 𝕄 :=
  bigSep (Finset.Ico lo hi) fun t => iprop(mB.view.loc (c : Thread nD τ) ↦[brow t]{q} fb)

theorem bigSep_Ico_head {Φ : ℕ → sProp 𝕄} {lo hi : ℕ} (h : lo < hi) :
    bigSep (Finset.Ico lo hi) Φ = iprop(Φ lo ∗ bigSep (Finset.Ico (lo + 1) hi) Φ) := by
  have e : Finset.Ico lo hi = insert lo (Finset.Ico (lo + 1) hi) := by
    ext x; simp only [Finset.mem_insert, Finset.mem_Ico]; omega
  rw [e, bigSep_insert (by simp)]; rfl

theorem outs_head (c : Dev nD) (tb : S16896.Idx → BitVec 32) (off : ℕ) (V : S25088x1024.Idx → Elt F .i32) {lo hi : ℕ} (h : lo < hi) :
    outs c tb off V lo hi = iprop((mOut.view.loc (c : Thread nD τ) ↦[orow (dst tb (off + lo))]{fullShare} V) ∗ outs c tb off V (lo + 1) hi) := by
  unfold outs; rw [bigSep_Ico_head h]
theorem rowsA_head (c : Dev nD) (q : PosShare TreeShare) (fa : S8192x1024.Idx → Elt F .i32) {lo hi : ℕ} (h : lo < hi) :
    rowsA c q fa lo hi = iprop((mA.view.loc (c : Thread nD τ) ↦[arow lo]{q} fa) ∗ rowsA c q fa (lo + 1) hi) := by
  unfold rowsA; rw [bigSep_Ico_head h]
theorem rowsB_head (c : Dev nD) (q : PosShare TreeShare) (fb : S256x1024.Idx → Elt F .i32) {lo hi : ℕ} (h : lo < hi) :
    rowsB c q fb lo hi = iprop((mB.view.loc (c : Thread nD τ) ↦[brow lo]{q} fb) ∗ rowsB c q fb (lo + 1) hi) := by
  unfold rowsB; rw [bigSep_Ico_head h]

/-- Every slot is a row of the result. -/
def InRange (tb : S16896.Idx → BitVec 32) : Prop := ∀ j, j < 16896 → dst tb j < 25088

/-- The final contents hold the sources' rows at their slots. -/
def HoldsA (tb : S16896.Idx → BitVec 32) (fa : S8192x1024.Idx → Elt F .i32) (G : S25088x1024.Idx → Elt F .i32) : Prop :=
  ∀ t, ∀ h : t < 8192, ∀ k, k < 2 → ∀ i : S25088x1024.Idx, (i 0).val = dst tb (8448 * k + t) → G i = fa (ij ⟨t, h⟩ (i 1))

def HoldsB (tb : S16896.Idx → BitVec 32) (fb : S256x1024.Idx → Elt F .i32) (G : S25088x1024.Idx → Elt F .i32) : Prop :=
  ∀ t, ∀ h : t < 256, ∀ k, k < 2 → ∀ i : S25088x1024.Idx, (i 0).val = dst tb (8192 + 8448 * k + t) → G i = fb (ij ⟨t, h⟩ (i 1))

abbrev batchB (c : Dev nD) (tb : S16896.Idx → BitVec 32) (fb : S256x1024.Idx → Elt F .i32) (G : S25088x1024.Idx → Elt F .i32) (j u : ℕ) : sProp 𝕄 :=
  Transfers.Batch (countersEmb (U := UU)) (c : Thread nD τ) (.dma cc0_scratch2.sem) () NR (DB c tb fb G) j u

end Cert.KernelIdeal.Disp
-- ==== Proof.Rows.lean ====
/- One row's copy: the sets its two views name, and what it leaves. -/
module

public import proofs.«01_k».proof.Proof.Spec

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- A load of the slots' table at offset `j` reads slot `j`. -/
theorem load_dst (tb : S16896.Idx → BitVec 32) {j : ℕ} (hj : j < 16896) (off : Fin 1 → ℕ) (h : ∀ a, off a + S1.size a ≤ S16896.size a) (e : off = ![j])
    (x : (Rect.unit (s := S16896) off S1.size h).toLoadRect.shape.Idx) :
    BitVec.toNat (View.readAt (Elt F) mDest.view (Rect.unit (s := S16896) off S1.size h).toLoadRect tb x) = dst tb j := by
  subst e
  rw [← dst_eq tb hj]
  congr 1
  show tb _ = tb _
  congr 1
  funext a
  have ha : a = (0 : Fin 1) := Fin.ext (Nat.lt_one_iff.mp a.isLt)
  subst ha
  have hx : (x 0).val = 0 := by have := (x 0).isLt; exact Nat.lt_one_iff.mp this
  apply Fin.ext
  show j + 1 * (x 0).val = j
  omega

theorem set_out (off : Fin 2 → ℕ) (h : ∀ a, off a + S1x1024.size a ≤ S25088x1024.size a) {r : ℕ} (e : off = ![r, 0]) :
    (mOut.slice (Rect.unit (s := S25088x1024) off S1x1024.size h) (fun _ => rfl)).view.set = orow r := by
  subst e
  refine (View.set_slice_whole main_v0 _).trans ?_
  ext i
  rw [mem_orow]
  refine Rect.mem_set_unit.trans ?_
  have h1 : (i 1).val < 1024 := (i 1).isLt
  constructor
  · intro hh; have := hh 0; have h2 : r ≤ (i 0).val ∧ (i 0).val < r + 1 := this; omega
  · intro hh a
    match a with
    | ⟨0, _⟩ => show r ≤ (i 0).val ∧ (i 0).val < r + 1; omega
    | ⟨1, _⟩ => show 0 ≤ (i 1).val ∧ (i 1).val < 0 + 1024; omega

theorem set_srcA (off : Fin 2 → ℕ) (h : ∀ a, off a + S1x1024.size a ≤ S8192x1024.size a) {r : ℕ} (e : off = ![r, 0]) :
    (mA.slice (Rect.unit (s := S8192x1024) off S1x1024.size h) (fun _ => rfl)).view.set = arow r := by
  subst e
  refine (View.set_slice_whole cc0_stg0_0 _).trans ?_
  ext i
  rw [mem_arow]
  refine Rect.mem_set_unit.trans ?_
  have h1 : (i 1).val < 1024 := (i 1).isLt
  constructor
  · intro hh; have := hh 0; have h2 : r ≤ (i 0).val ∧ (i 0).val < r + 1 := this; omega
  · intro hh a
    match a with
    | ⟨0, _⟩ => show r ≤ (i 0).val ∧ (i 0).val < r + 1; omega
    | ⟨1, _⟩ => show 0 ≤ (i 1).val ∧ (i 1).val < 0 + 1024; omega

/-- The copy leaves the source's row on the slot's row. -/
theorem write_rowA (fa : S8192x1024.Idx → Elt F .i32) (V : S25088x1024.Idx → Elt F .i32)
    (offd : Fin 2 → ℕ) (hd : ∀ a, offd a + S1x1024.size a ≤ S25088x1024.size a) {r : ℕ} (ed : offd = ![r, 0])
    (offs : Fin 2 → ℕ) (hs : ∀ a, offs a + S1x1024.size a ≤ S8192x1024.size a) {t : ℕ} (es : offs = ![t, 0]) (ht : t < 8192)
    (i : S25088x1024.Idx) (hi : (i 0).val = r) :
    (mOut.slice (Rect.unit (s := S25088x1024) offd S1x1024.size hd) (fun _ => rfl)).view.write (Elt F) V
      ((mA.slice (Rect.unit (s := S8192x1024) offs S1x1024.size hs) (fun _ => rfl)).view.read (Elt F) fa) Finset.univ i = fa (ij ⟨t, ht⟩ (i 1)) := by
  subst ed es
  have hx : i = (mOut.slice (Rect.unit (s := S25088x1024) ![r, 0] S1x1024.size hd) (fun _ => rfl)).view.emb
      (fun | ⟨0, _⟩ => (⟨0, by decide⟩ : Fin 1) | ⟨1, _⟩ => i 1 : S1x1024.Idx) := by
    funext a
    match a with
    | ⟨0, _⟩ => exact Fin.ext (by show (i 0).val = r + 1 * 0; omega)
    | ⟨1, _⟩ => exact Fin.ext (by show (i 1).val = 0 + 1 * (i 1).val; omega)
  conv_lhs => rw [hx]
  refine (View.write_emb_of_mem _ _ (Finset.mem_univ _)).trans ?_
  show fa _ = fa _
  congr 1
  funext a
  match a with
  | ⟨0, _⟩ => exact Fin.ext (by show t + 1 * 0 = t; omega)
  | ⟨1, _⟩ => exact Fin.ext (by show 0 + 1 * (i 1).val = (i 1).val; omega)

theorem deliverA (c : Dev nD) (q : PosShare TreeShare) (fa : S8192x1024.Idx → Elt F .i32) (V G : S25088x1024.Idx → Elt F .i32)
    (offd : Fin 2 → ℕ) (hd : ∀ a, offd a + S1x1024.size a ≤ S25088x1024.size a) {r : ℕ} (ed : offd = ![r, 0])
    (offs : Fin 2 → ℕ) (hs : ∀ a, offs a + S1x1024.size a ≤ S8192x1024.size a) {t : ℕ} (es : offs = ![t, 0]) (ht : t < 8192)
    (hG : ∀ i : S25088x1024.Idx, (i 0).val = r → G i = fa (ij ⟨t, ht⟩ (i 1))) :
    iprop((mOut.view.loc (c : Thread nD τ) ↦[orow r]{fullShare}
        (mOut.slice (Rect.unit (s := S25088x1024) offd S1x1024.size hd) (fun _ => rfl)).view.write (Elt F) V
          ((mA.slice (Rect.unit (s := S8192x1024) offs S1x1024.size hs) (fun _ => rfl)).view.read (Elt F) fa) Finset.univ)
      ∗ ((mA.slice (Rect.unit (s := S8192x1024) offs S1x1024.size hs) (fun _ => rfl)).view.loc (c : Thread nD τ)
          ↦[(mA.slice (Rect.unit (s := S8192x1024) offs S1x1024.size hs) (fun _ => rfl)).view.set]{q} fa))
    ⊢ (iprop((mOut.view.loc (c : Thread nD τ) ↦[orow r]{fullShare} G) ∗ (mA.view.loc (c : Thread nD τ) ↦[arow t]{q} fa)) : sProp 𝕄) := by
  have key : ∀ i ∈ orow r, (mOut.slice (Rect.unit (s := S25088x1024) offd S1x1024.size hd) (fun _ => rfl)).view.write (Elt F) V
          ((mA.slice (Rect.unit (s := S8192x1024) offs S1x1024.size hs) (fun _ => rfl)).view.read (Elt F) fa) Finset.univ i = G i :=
    fun i hi => (write_rowA fa V offd hd ed offs hs es ht i (mem_orow.mp hi)).trans (hG i (mem_orow.mp hi)).symm
  generalize (mOut.slice (Rect.unit (s := S25088x1024) offd S1x1024.size hd) (fun _ => rfl)).view.write (Elt F) V
          ((mA.slice (Rect.unit (s := S8192x1024) offs S1x1024.size hs) (fun _ => rfl)).view.read (Elt F) fa) Finset.univ = W at key ⊢
  rw [set_srcA offs hs es, pointsTo_congr (ℓ := mOut.view.loc (c : Thread nD τ)) (I := orow r) (f := W) (g := G) key]

theorem set_srcB (off : Fin 2 → ℕ) (h : ∀ a, off a + S1x1024.size a ≤ S256x1024.size a) {r : ℕ} (e : off = ![r, 0]) :
    (mB.slice (Rect.unit (s := S256x1024) off S1x1024.size h) (fun _ => rfl)).view.set = brow r := by
  subst e
  refine (View.set_slice_whole cc0_stg1_0 _).trans ?_
  ext i
  rw [mem_brow]
  refine Rect.mem_set_unit.trans ?_
  have h1 : (i 1).val < 1024 := (i 1).isLt
  constructor
  · intro hh; have := hh 0; have h2 : r ≤ (i 0).val ∧ (i 0).val < r + 1 := this; omega
  · intro hh a
    match a with
    | ⟨0, _⟩ => show r ≤ (i 0).val ∧ (i 0).val < r + 1; omega
    | ⟨1, _⟩ => show 0 ≤ (i 1).val ∧ (i 1).val < 0 + 1024; omega

/-- The copy leaves the source's row on the slot's row. -/
theorem write_rowB (fb : S256x1024.Idx → Elt F .i32) (V : S25088x1024.Idx → Elt F .i32)
    (offd : Fin 2 → ℕ) (hd : ∀ a, offd a + S1x1024.size a ≤ S25088x1024.size a) {r : ℕ} (ed : offd = ![r, 0])
    (offs : Fin 2 → ℕ) (hs : ∀ a, offs a + S1x1024.size a ≤ S256x1024.size a) {t : ℕ} (es : offs = ![t, 0]) (ht : t < 256)
    (i : S25088x1024.Idx) (hi : (i 0).val = r) :
    (mOut.slice (Rect.unit (s := S25088x1024) offd S1x1024.size hd) (fun _ => rfl)).view.write (Elt F) V
      ((mB.slice (Rect.unit (s := S256x1024) offs S1x1024.size hs) (fun _ => rfl)).view.read (Elt F) fb) Finset.univ i = fb (ij ⟨t, ht⟩ (i 1)) := by
  subst ed es
  have hx : i = (mOut.slice (Rect.unit (s := S25088x1024) ![r, 0] S1x1024.size hd) (fun _ => rfl)).view.emb
      (fun | ⟨0, _⟩ => (⟨0, by decide⟩ : Fin 1) | ⟨1, _⟩ => i 1 : S1x1024.Idx) := by
    funext a
    match a with
    | ⟨0, _⟩ => exact Fin.ext (by show (i 0).val = r + 1 * 0; omega)
    | ⟨1, _⟩ => exact Fin.ext (by show (i 1).val = 0 + 1 * (i 1).val; omega)
  conv_lhs => rw [hx]
  refine (View.write_emb_of_mem _ _ (Finset.mem_univ _)).trans ?_
  show fb _ = fb _
  congr 1
  funext a
  match a with
  | ⟨0, _⟩ => exact Fin.ext (by show t + 1 * 0 = t; omega)
  | ⟨1, _⟩ => exact Fin.ext (by show 0 + 1 * (i 1).val = (i 1).val; omega)

theorem deliverB (c : Dev nD) (q : PosShare TreeShare) (fb : S256x1024.Idx → Elt F .i32) (V G : S25088x1024.Idx → Elt F .i32)
    (offd : Fin 2 → ℕ) (hd : ∀ a, offd a + S1x1024.size a ≤ S25088x1024.size a) {r : ℕ} (ed : offd = ![r, 0])
    (offs : Fin 2 → ℕ) (hs : ∀ a, offs a + S1x1024.size a ≤ S256x1024.size a) {t : ℕ} (es : offs = ![t, 0]) (ht : t < 256)
    (hG : ∀ i : S25088x1024.Idx, (i 0).val = r → G i = fb (ij ⟨t, ht⟩ (i 1))) :
    iprop((mOut.view.loc (c : Thread nD τ) ↦[orow r]{fullShare}
        (mOut.slice (Rect.unit (s := S25088x1024) offd S1x1024.size hd) (fun _ => rfl)).view.write (Elt F) V
          ((mB.slice (Rect.unit (s := S256x1024) offs S1x1024.size hs) (fun _ => rfl)).view.read (Elt F) fb) Finset.univ)
      ∗ ((mB.slice (Rect.unit (s := S256x1024) offs S1x1024.size hs) (fun _ => rfl)).view.loc (c : Thread nD τ)
          ↦[(mB.slice (Rect.unit (s := S256x1024) offs S1x1024.size hs) (fun _ => rfl)).view.set]{q} fb))
    ⊢ (iprop((mOut.view.loc (c : Thread nD τ) ↦[orow r]{fullShare} G) ∗ (mB.view.loc (c : Thread nD τ) ↦[brow t]{q} fb)) : sProp 𝕄) := by
  have key : ∀ i ∈ orow r, (mOut.slice (Rect.unit (s := S25088x1024) offd S1x1024.size hd) (fun _ => rfl)).view.write (Elt F) V
          ((mB.slice (Rect.unit (s := S256x1024) offs S1x1024.size hs) (fun _ => rfl)).view.read (Elt F) fb) Finset.univ i = G i :=
    fun i hi => (write_rowB fb V offd hd ed offs hs es ht i (mem_orow.mp hi)).trans (hG i (mem_orow.mp hi)).symm
  generalize (mOut.slice (Rect.unit (s := S25088x1024) offd S1x1024.size hd) (fun _ => rfl)).view.write (Elt F) V
          ((mB.slice (Rect.unit (s := S256x1024) offs S1x1024.size hs) (fun _ => rfl)).view.read (Elt F) fb) Finset.univ = W at key ⊢
  rw [set_srcB offs hs es, pointsTo_congr (ℓ := mOut.view.loc (c : Thread nD τ)) (I := orow r) (f := W) (g := G) key]

/-- A word below the result's rows fits the checks of the row copies. -/
theorem row_fits {w : BitVec 32} (h : w.toNat < 25088) (a : Fin 2) : (![w.toNat, 0] : Fin 2 → ℕ) a + S1x1024.size a ≤ S25088x1024.size a := by
  match a with
  | ⟨0, _⟩ => show w.toNat + 1 ≤ 25088; omega
  | ⟨1, _⟩ => show 0 + 1024 ≤ 1024; omega

/-- Any load of the slots' table reads some slot. -/
theorem load_some (tb : S16896.Idx → BitVec 32) (off : Fin 1 → ℕ) (h : ∀ a, off a + S1.size a ≤ S16896.size a)
    (x : (Rect.unit (s := S16896) off S1.size h).toLoadRect.shape.Idx) :
    ∃ j, j < 16896 ∧ BitVec.toNat (View.readAt (Elt F) mDest.view (Rect.unit (s := S16896) off S1.size h).toLoadRect tb x) = dst tb j := by
  have h0 : off 0 + 1 ≤ 16896 := h 0
  refine ⟨off 0, by omega, load_dst tb (by omega) off h ?_ x⟩
  funext a
  match a with
  | ⟨0, _⟩ => rfl

end Cert.KernelIdeal.Disp
-- ==== Proof.Zero.lean ====
/- The zeroing loops: one copy of the zero block to each flagged block. -/
module

public import proofs.«01_k».proof.Proof.Rows

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- Block `b` is flagged: it ends a routed range, or lies past the last one. -/
def flg (fl : S98.Idx → BitVec 32) (b : ℕ) : Prop := ∃ h : b < 98, fl (fun | ⟨0, _⟩ => ⟨b, h⟩) ≠ 0#32

instance (fl : S98.Idx → BitVec 32) : DecidablePred (flg fl) := fun b => by unfold flg; infer_instance

/-- The number of flagged blocks below `k`. -/
def cnt (fl : S98.Idx → BitVec 32) (k : ℕ) : ℕ := ((Finset.range k).filter (flg fl)).card

theorem cnt_succ (fl : S98.Idx → BitVec 32) (k : ℕ) : cnt fl (k + 1) = cnt fl k + if flg fl k then 1 else 0 := by
  unfold cnt
  rw [Finset.range_add_one, Finset.filter_insert]
  split
  · rw [Finset.card_insert_of_notMem (by simp)]
  · rfl
theorem cnt_mono (fl : S98.Idx → BitVec 32) {a b : ℕ} (h : a ≤ b) : cnt fl a ≤ cnt fl b :=
  Finset.card_le_card (Finset.filter_subset_filter _ (Finset.range_subset_range.mpr h))
theorem cnt_lt (fl : S98.Idx → BitVec 32) {a b : ℕ} (ha : flg fl a) (h : a < b) : cnt fl a < cnt fl b := by
  have := cnt_mono fl (Nat.succ_le_of_lt h)
  rw [Nat.succ_eq_add_one, cnt_succ, if_pos ha] at this
  omega
theorem cnt_inj (fl : S98.Idx → BitVec 32) {a b : ℕ} (ha : flg fl a) (hb : flg fl b) (h : cnt fl a = cnt fl b) : a = b := by
  rcases lt_trichotomy a b with hl | hl | hl
  · have := cnt_lt fl ha hl; omega
  · exact hl
  · have := cnt_lt fl hb hl; omega

/-- The number of flagged blocks. -/
abbrev nfl (fl : S98.Idx → BitVec 32) : ℕ := cnt fl 98
/-- The block of the `j`-th zero copy. -/
def fblk (fl : S98.Idx → BitVec 32) (j : ℕ) : ℕ := by
  classical exact if h : ∃ b, flg fl b ∧ cnt fl b = j then h.choose else 0
theorem fblk_cnt (fl : S98.Idx → BitVec 32) {b : ℕ} (hb : flg fl b) : fblk fl (cnt fl b) = b := by
  have h : ∃ b', flg fl b' ∧ cnt fl b' = cnt fl b := ⟨b, hb, rfl⟩
  unfold fblk
  rw [dif_pos h]
  exact cnt_inj fl h.choose_spec.1 hb h.choose_spec.2

/-- One block's credit. -/
abbrev NZ : ℕ := (mOut.slice (Rect.unit (s := S25088x1024) ![0, 0] S256x1024.size (by decide)) (fun _ => rfl)).view.dmaCredit

/-- One zero copy's delivery. -/
def delZ (c : Dev nD) (fl : S98.Idx → BitVec 32) (fz : S256x1024.Idx → Elt F .i32) (V : S25088x1024.Idx → Elt F .i32) (j : ℕ) : sProp 𝕄 :=
  iprop((mOut.view.loc (c : Thread nD τ) ↦[oblk (fblk fl j)]{fullShare} V) ∗ (mZero.view.loc (c : Thread nD τ) ↦[Finset.univ]{tok j} fz))

instance delZ_storable (c : Dev nD) (fl : S98.Idx → BitVec 32) (fz : S256x1024.Idx → Elt F .i32) (V : S25088x1024.Idx → Elt F .i32) (j : ℕ) :
    BI.Storable (upEmb : UEmb _ 𝕄) (delZ c fl fz V j) := by unfold delZ; infer_instance

abbrev DZ (c : Dev nD) (fl : S98.Idx → BitVec 32) (fz : S256x1024.Idx → Elt F .i32) (V : S25088x1024.Idx → Elt F .i32) : Fin (nfl fl) → sProp 𝕄 :=
  fun j => delZ c fl fz V j.val

abbrev batchZ (c : Dev nD) (fl : S98.Idx → BitVec 32) (fz : S256x1024.Idx → Elt F .i32) (V : S25088x1024.Idx → Elt F .i32) (j u : ℕ) : sProp 𝕄 :=
  Transfers.Batch (countersEmb (U := UU)) (c : Thread nD τ) (.dma cc0_scratch3.sem) () NZ (DZ c fl fz V) j u

/-- The flagged blocks not yet issued. -/
def blks (c : Dev nD) (fl : S98.Idx → BitVec 32) (V : S25088x1024.Idx → Elt F .i32) (lo : ℕ) : sProp 𝕄 :=
  bigSep (Finset.Ico lo (nfl fl)) fun j => iprop(mOut.view.loc (c : Thread nD τ) ↦[oblk (fblk fl j)]{fullShare} V)
/-- The read tokens of the zero block not yet lent. -/
def ztoks (c : Dev nD) (fl : S98.Idx → BitVec 32) (fz : S256x1024.Idx → Elt F .i32) (lo : ℕ) : sProp 𝕄 :=
  bigSep (Finset.Ico lo (nfl fl)) fun j => iprop(mZero.view.loc (c : Thread nD τ) ↦[Finset.univ]{tok j} fz)

theorem blks_head (c : Dev nD) (fl : S98.Idx → BitVec 32) (V : S25088x1024.Idx → Elt F .i32) {lo : ℕ} (h : lo < nfl fl) :
    blks c fl V lo = iprop((mOut.view.loc (c : Thread nD τ) ↦[oblk (fblk fl lo)]{fullShare} V) ∗ blks c fl V (lo + 1)) := by
  unfold blks; rw [bigSep_Ico_head h]
theorem ztoks_head (c : Dev nD) (fl : S98.Idx → BitVec 32) (fz : S256x1024.Idx → Elt F .i32) {lo : ℕ} (h : lo < nfl fl) :
    ztoks c fl fz lo = iprop((mZero.view.loc (c : Thread nD τ) ↦[Finset.univ]{tok lo} fz) ∗ ztoks c fl fz (lo + 1)) := by
  unfold ztoks; rw [bigSep_Ico_head h]

/-- The kernel's test of a flag. -/
theorem test_iff (v : BitVec 32) : Iff (Scalar.cmpi .ne (Scalar.extui (Scalar.cmpi .ne v 0#32) : BitVec 32) 0#32 = 1#1) (v ≠ 0#32) := by
  by_cases h : v = 0#32
  · subst h; decide
  · have : Scalar.cmpi .ne v 0#32 = 1#1 := by
      show BitVec.ofBool (v != 0#32) = 1#1
      rw [bne_iff_ne.mpr h]; rfl
    rw [this]
    exact iff_of_true (by decide) h

/-- The flags' table at block `k`. -/
theorem load_flag (fl : S98.Idx → BitVec 32) {j : ℕ} (hj : j < 98) (off : Fin 1 → ℕ) (h : ∀ a, off a + S1.size a ≤ S98.size a) (e : off = ![j])
    (x : (Rect.unit (s := S98) off S1.size h).toLoadRect.shape.Idx) :
    View.readAt (Elt F) mFlag.view (Rect.unit (s := S98) off S1.size h).toLoadRect fl x = fl (fun | ⟨0, _⟩ => ⟨j, hj⟩) := by
  subst e
  show fl _ = fl _
  congr 1
  funext a
  have ha : a = (0 : Fin 1) := Fin.ext (Nat.lt_one_iff.mp a.isLt)
  subst ha
  have hx : (x 0).val = 0 := by have := (x 0).isLt; exact Nat.lt_one_iff.mp this
  apply Fin.ext
  show j + 1 * (x 0).val = j
  omega

theorem test_flag (fl : S98.Idx → BitVec 32) {j : ℕ} (hj : j < 98) (off : Fin 1 → ℕ) (h : ∀ a, off a + S1.size a ≤ S98.size a) (e : off = ![j])
    (x : (Rect.unit (s := S98) off S1.size h).toLoadRect.shape.Idx) :
    Iff (Scalar.cmpi .ne (Scalar.extui (Scalar.cmpi .ne (View.readAt (Elt F) mFlag.view (Rect.unit (s := S98) off S1.size h).toLoadRect fl x) 0#32) : BitVec 32) 0#32 = 1#1)
      (flg fl j) := by
  rw [load_flag fl hj off h e x, test_iff]
  exact ⟨fun h => ⟨hj, h⟩, fun ⟨_, h⟩ => h⟩

theorem set_blk (off : Fin 2 → ℕ) (h : ∀ a, off a + S256x1024.size a ≤ S25088x1024.size a) {b : ℕ} (e : off = ![256 * b, 0]) :
    (mOut.slice (Rect.unit (s := S25088x1024) off S256x1024.size h) (fun _ => rfl)).view.set = oblk b := by
  subst e
  refine (View.set_slice_whole main_v0 _).trans ?_
  ext i
  rw [mem_oblk]
  refine Rect.mem_set_unit.trans ?_
  have h1 : (i 1).val < 1024 := (i 1).isLt
  constructor
  · intro hh; have := hh 0; have h2 : 256 * b ≤ (i 0).val ∧ (i 0).val < 256 * b + 256 := this; omega
  · intro hh a
    match a with
    | ⟨0, _⟩ => show 256 * b ≤ (i 0).val ∧ (i 0).val < 256 * b + 256; omega
    | ⟨1, _⟩ => show 0 ≤ (i 1).val ∧ (i 1).val < 0 + 1024; omega

theorem write_blk (fz : S256x1024.Idx → Elt F .i32) (hz : ∀ x, fz x = 0#32) (V : S25088x1024.Idx → Elt F .i32)
    (offd : Fin 2 → ℕ) (hd : ∀ a, offd a + S256x1024.size a ≤ S25088x1024.size a) {b : ℕ} (ed : offd = ![256 * b, 0])
    (i : S25088x1024.Idx) (hi : (i 0).val / 256 = b) :
    (mOut.slice (Rect.unit (s := S25088x1024) offd S256x1024.size hd) (fun _ => rfl)).view.write (Elt F) V (mZero.view.read (Elt F) fz) Finset.univ i = 0#32 := by
  subst ed
  have hx : i = (mOut.slice (Rect.unit (s := S25088x1024) ![256 * b, 0] S256x1024.size hd) (fun _ => rfl)).view.emb
      (fun | ⟨0, _⟩ => (⟨(i 0).val % 256, Nat.mod_lt _ (by decide)⟩ : Fin 256) | ⟨1, _⟩ => i 1 : S256x1024.Idx) := by
    funext a
    match a with
    | ⟨0, _⟩ => exact Fin.ext (by show (i 0).val = 256 * b + 1 * ((i 0).val % 256); omega)
    | ⟨1, _⟩ => exact Fin.ext (by show (i 1).val = 0 + 1 * (i 1).val; omega)
  conv_lhs => rw [hx]
  refine (View.write_emb_of_mem _ _ (Finset.mem_univ _)).trans ?_
  show fz _ = _
  exact hz _

theorem deliverZ (c : Dev nD) (q : PosShare TreeShare) (fz : S256x1024.Idx → Elt F .i32) (hz : ∀ x, fz x = 0#32) (V V' : S25088x1024.Idx → Elt F .i32)
    (offd : Fin 2 → ℕ) (hd : ∀ a, offd a + S256x1024.size a ≤ S25088x1024.size a) {b : ℕ} (ed : offd = ![256 * b, 0])
    (hV : ∀ i : S25088x1024.Idx, (i 0).val / 256 = b → V' i = 0#32) :
    iprop((mOut.view.loc (c : Thread nD τ) ↦[oblk b]{fullShare}
        (mOut.slice (Rect.unit (s := S25088x1024) offd S256x1024.size hd) (fun _ => rfl)).view.write (Elt F) V (mZero.view.read (Elt F) fz) Finset.univ)
      ∗ (mZero.view.loc (c : Thread nD τ) ↦[mZero.view.set]{q} fz))
    ⊢ (iprop((mOut.view.loc (c : Thread nD τ) ↦[oblk b]{fullShare} V') ∗ (mZero.view.loc (c : Thread nD τ) ↦[Finset.univ]{q} fz)) : sProp 𝕄) := by
  have key : ∀ i ∈ oblk b, (mOut.slice (Rect.unit (s := S25088x1024) offd S256x1024.size hd) (fun _ => rfl)).view.write (Elt F) V (mZero.view.read (Elt F) fz) Finset.univ i = V' i :=
    fun i hi => (write_blk fz hz V offd hd ed i (mem_oblk.mp hi)).trans (hV i (mem_oblk.mp hi)).symm
  generalize (mOut.slice (Rect.unit (s := S25088x1024) offd S256x1024.size hd) (fun _ => rfl)).view.write (Elt F) V (mZero.view.read (Elt F) fz) Finset.univ = W at key ⊢
  rw [(Memref.isWhole_whole cc0_scratch0).set_eq_univ, pointsTo_congr (ℓ := mOut.view.loc (c : Thread nD τ)) (I := oblk b) (f := W) (g := V') key]

variable (c : Dev nD) (fl : S98.Idx → BitVec 32) (qf : PosShare TreeShare) (fz : S256x1024.Idx → Elt F .i32) (V V' : S25088x1024.Idx → Elt F .i32)

theorem trips1 : k0_t1_loop.trips = 98 := by decide +kernel
theorem trips2 : k0_t2_loop.trips = 98 := by decide +kernel

/-- Before block `k` of the zeroing loop. -/
def inv1 (k : ℕ) (_ : Unit) : sProp 𝕄 :=
  iprop((mFlag.view.loc (c : Thread nD τ) ↦[Finset.univ]{qf} fl) ∗ batchZ c fl fz V' (cnt fl k) 0
    ∗ blks c fl V (cnt fl k) ∗ ztoks c fl fz (cnt fl k))

theorem step1 [∀ e, Nonempty (Elt F e)] (hz : ∀ x, fz x = 0#32) (hV : ∀ i : S25088x1024.Idx, flg fl ((i 0).val / 256) → V' i = 0#32) (i : grid0.Coords)
    (k : Fin k0_t1_loop.trips) (acc : Unit) :
    inv1 c fl qf fz V V' k.val acc ⊢ wp frame (wpE defs₀ Variants.none (c : Thread nD τ) none) Set.univ
      (k0_t1_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 k acc)
      (inv1 c fl qf fz V V' (k.val + 1)) := by
  have hk : k.val < 98 := lt_of_lt_of_le k.isLt k0_t1_abs.2.1
  unfold inv1
  by_cases hf : flg fl k.val
  · have hlt : cnt fl k.val < nfl fl := cnt_lt fl hf hk
    have hnth : fblk fl (cnt fl k.val) = k.val := fblk_cnt fl hf
    rw [blks_head c fl V hlt, ztoks_head c fl fz hlt, cnt_succ, if_pos hf, hnth]
    iintro ⟨Hf, HB, ⟨HO, HOs⟩, HZ, HZs⟩
    unfold k0_t1_body
    sl_exec
    have ht : step1.sl.v14 (F := F) fl k = 1#1 := (test_flag fl hk _ _ (k0_off1_eq k) _).mpr hf
    sl_exec
    iapply (Transfers.wp_dmaBatch (countersEmb (U := UU)) Variants.none (c : Thread nD τ) none () NZ rfl
      (Finset.subset_of_eq (set_blk _ _ (k0_off2_eq k)))
      (D := DZ c fl fz V') (j := cnt fl k.val) (u := 0) (q := tok (cnt fl k.val)) (fs := fz) (fd := V) hlt (Nat.zero_le _)
      (by
        show _ ⊢ delZ c fl fz V' (cnt fl k.val)
        unfold delZ
        rw [hnth]
        exact deliverZ c (tok (cnt fl k.val)) fz hz V V' _ _ (k0_off2_eq k) (fun i hi => hV i (by rw [hi]; exact hf)))) $$ [HZ HO HB]
    · isplitl [HZ]
      · iapply (Entails.of_eq (by rw [(Memref.isWhole_whole cc0_scratch0).set_eq_univ])) $$ HZ
      isplitl [HO]
      · iexact HO
      · iexact HB
    iintro HB
    sl_step
    isplitl [Hf]; · iexact Hf
    isplitl [HB]; · iexact HB
    isplitl [HOs]; · iexact HOs
    iexact HZs
  · rw [cnt_succ, if_neg hf, Nat.add_zero]
    iintro ⟨Hf, HB, HO, HZ⟩
    unfold k0_t1_body
    sl_exec
    have ht : ¬ step1.sl.v14_1 (F := F) fl k = 1#1 := fun h => hf ((test_flag fl hk _ _ (k0_off1_eq k) _).mp h)
    sl_exec
    sl_step
    isplitl [Hf]; · iexact Hf
    isplitl [HB]; · iexact HB
    isplitl [HO]; · iexact HO
    iexact HZ

/-- Before block `k` of the loop that awaits the zero copies. -/
def inv2 (k : ℕ) (_ : Unit) : sProp 𝕄 :=
  iprop((mFlag.view.loc (c : Thread nD τ) ↦[Finset.univ]{qf} fl) ∗ batchZ c fl fz V' (nfl fl) (cnt fl k * NZ) ∗ (∃ W, owes (c : Thread nD τ) 0 W))

theorem step2 [∀ e, Nonempty (Elt F e)] (i : grid0.Coords) (k : Fin k0_t2_loop.trips) (acc : Unit) :
    inv2 c fl qf fz V' k.val acc ⊢ wp frame (wpE defs₀ Variants.none (c : Thread nD τ) none) Set.univ
      (k0_t2_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 k acc)
      (inv2 c fl qf fz V' (k.val + 1)) := by
  have hk : k.val < 98 := lt_of_lt_of_le k.isLt k0_t2_abs.2.1
  unfold inv2
  iintro ⟨Hf, HB, ⟨%W, HO⟩⟩
  by_cases hf : flg fl k.val
  · have hlt : cnt fl k.val + 1 ≤ nfl fl := cnt_lt fl hf hk
    rw [cnt_succ, if_pos hf, Nat.add_mul]
    unfold k0_t2_body
    sl_exec
    have ht : step2.sl.v14 (F := F) fl k = 1#1 := (test_flag fl hk _ _ (k0_off3_eq k) _).mpr hf
    sl_exec
    iapply (Transfers.wp_waitBatchMulSized (countersEmb (U := UU)) Variants.none (c : Thread nD τ) none (b := main_v0) (s := S256x1024) (e := .i32) (hk := .inl rfl) () (N := NZ) 1 (Nat.one_mul _).symm
      (D := DZ c fl fz V') (j := nfl fl) (u := cnt fl k.val * NZ) (by
        rw [← Nat.add_mul, Nat.mul_comm NZ]; exact Nat.mul_le_mul_right _ hlt)) $$ [HB HO]
    · isplitl [HB]
      · iexact HB
      · iexact HO
    iintro ⟨HB, HO⟩
    sl_step
    isplitl [Hf]; · iexact Hf
    isplitl [HB]; · iexact HB
    iexists _; iexact HO
  · rw [cnt_succ, if_neg hf, Nat.add_zero]
    unfold k0_t2_body
    sl_exec
    have ht : ¬ step2.sl.v14_1 (F := F) fl k = 1#1 := fun h => hf ((test_flag fl hk _ _ (k0_off3_eq k) _).mp h)
    sl_exec
    sl_step
    isplitl [Hf]; · iexact Hf
    isplitl [HB]; · iexact HB
    iexists _; iexact HO

end Cert.KernelIdeal.Disp
-- ==== Proof.Split.lean ====
/- The result, the sources and the zero block split into what the copies take. -/
module

public import proofs.«01_k».proof.Proof.Zero

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- No two entries of the slots' table name the same slot. -/
def Distinct (tb : S16896.Idx → BitVec 32) : Prop := ∀ j, j < 16896 → ∀ j', j' < 16896 → dst tb j = dst tb j' → j = j'

/-- The rows of the result some source row goes to. -/
def hitSet (tb : S16896.Idx → BitVec 32) : Finset S25088x1024.Idx := (Finset.Ico 0 16896).biUnion fun j => orow (dst tb j)

theorem bigSep_shift (A : ℕ → sProp 𝕄) (a b k : ℕ) : bigSep (Finset.Ico a b) (fun g => A (g + k)) = bigSep (Finset.Ico (a + k) (b + k)) A := by
  rw [show Finset.Ico (a + k) (b + k) = (Finset.Ico a b).map ⟨fun g => g + k, fun x y h => Nat.add_right_cancel h⟩ from by
    ext x
    rw [Finset.mem_map, Finset.mem_Ico]
    constructor
    · intro h; exact ⟨x - k, Finset.mem_Ico.mpr (by omega), Nat.sub_add_cancel (by omega)⟩
    · rintro ⟨y, hy, e⟩
      have e : y + k = x := e
      have hy := Finset.mem_Ico.mp hy
      omega]
  exact (bigSep_map (Φ := A) (⟨fun g => g + k, fun x y h => Nat.add_right_cancel h⟩ : ℕ ↪ ℕ)).symm
theorem bigSep_pair (s : Finset ℕ) (A B : ℕ → sProp 𝕄) : bigSep s (fun i => iprop(A i ∗ B i)) = iprop(bigSep s A ∗ bigSep s B) := bigSep_sep s A B
theorem bigSep_chain {a b d : ℕ} (hab : a ≤ b) (hbd : b ≤ d) (A : ℕ → sProp 𝕄) :
    bigSep (Finset.Ico a d) A = iprop(bigSep (Finset.Ico a b) A ∗ bigSep (Finset.Ico b d) A) := by
  rw [← Finset.Ico_union_Ico_eq_Ico hab hbd, bigSep_union (Finset.Ico_disjoint_Ico_consecutive a b d)]; rfl

theorem hit_rows (c : Dev nD) (tb : S16896.Idx → BitVec 32) (hd : Distinct tb) (V : S25088x1024.Idx → Elt F .i32) :
    ((mOut.view.loc (c : Thread nD τ) ↦[hitSet tb]{fullShare} V : sProp 𝕄))
      = iprop(outs c tb 0 V 0 8192 ∗ outs c tb 8192 V 0 256 ∗ outs c tb 8448 V 0 8192 ∗ outs c tb 16640 V 0 256) := by
  unfold hitSet
  have e := pointsTo_biUnion (Val := Elt F) (Ix := Unit) (Name := ℕ) (U := UU) (Lvl := ℕ) (ℓ := mOut.view.loc (c : Thread nD τ)) (q := fullShare) (f := V) (Finset.Ico 0 16896) (fun j => orow (dst tb j)) (fun t ht t' ht' hne =>
    orow_disj fun h => hne (hd t (Finset.mem_Ico.mp ht).2 t' (Finset.mem_Ico.mp ht').2 h))
  refine e.trans ?_
  have sh : ∀ off n, outs c tb off V 0 n = bigSep (Finset.Ico off (off + n)) fun j => iprop(mOut.view.loc (c : Thread nD τ) ↦[orow (dst tb j)]{fullShare} V) := by
    intro off n
    have := bigSep_shift (fun j => (iprop(mOut.view.loc (c : Thread nD τ) ↦[orow (dst tb j)]{fullShare} V) : sProp 𝕄)) 0 n off
    rw [Nat.zero_add, Nat.add_comm n off] at this
    rw [← this]
    unfold outs
    exact congrArg _ (funext fun t => by rw [Nat.add_comm off t])
  rw [sh, sh, sh, sh]
  rw [bigSep_chain (a := 0) (b := 0 + 8192) (d := 16896) (by omega) (by omega),
    bigSep_chain (a := 0 + 8192) (b := 8192 + 256) (d := 16896) (by omega) (by omega),
    bigSep_chain (a := 8192 + 256) (b := 8448 + 8192) (d := 16896) (by omega) (by omega)]

theorem rowsA_all (c : Dev nD) (q : PosShare TreeShare) (fa : S8192x1024.Idx → Elt F .i32) :
    ((mA.view.loc (c : Thread nD τ) ↦[Finset.univ]{q} fa : sProp 𝕄)) = rowsA c q fa 0 8192 := by
  have e := pointsTo_biUnion (Val := Elt F) (Ix := Unit) (Name := ℕ) (U := UU) (Lvl := ℕ) (ℓ := mA.view.loc (c : Thread nD τ)) (q := q) (f := fa) (Finset.Ico 0 8192) (fun j => arow j) (fun t _ t' _ hne => arow_disj hne)
  have u : (Finset.Ico 0 8192).biUnion (fun j => arow j) = Finset.univ := by
    ext i
    simp only [Finset.mem_biUnion, Finset.mem_Ico, mem_arow, Finset.mem_univ, iff_true]
    exact ⟨(i 0).val, ⟨Nat.zero_le _, (i 0).isLt⟩, rfl⟩
  rw [u] at e
  exact e

theorem rowsB_all (c : Dev nD) (q : PosShare TreeShare) (fb : S256x1024.Idx → Elt F .i32) :
    ((mB.view.loc (c : Thread nD τ) ↦[Finset.univ]{q} fb : sProp 𝕄)) = rowsB c q fb 0 256 := by
  have e := pointsTo_biUnion (Val := Elt F) (Ix := Unit) (Name := ℕ) (U := UU) (Lvl := ℕ) (ℓ := mB.view.loc (c : Thread nD τ)) (q := q) (f := fb) (Finset.Ico 0 256) (fun j => brow j) (fun t _ t' _ hne => brow_disj hne)
  have u : (Finset.Ico 0 256).biUnion (fun j => brow j) = Finset.univ := by
    ext i
    simp only [Finset.mem_biUnion, Finset.mem_Ico, mem_brow, Finset.mem_univ, iff_true]
    exact ⟨(i 0).val, ⟨Nat.zero_le _, (i 0).isLt⟩, rfl⟩
  rw [u] at e
  exact e

/-- The deliveries of the first source's copies, by pass. -/
theorem DA_all (c : Dev nD) (tb : S16896.Idx → BitVec 32) (fa : S8192x1024.Idx → Elt F .i32) (G : S25088x1024.Idx → Elt F .i32) :
    bigSep Finset.univ (DA c tb fa G) = iprop((outs c tb 0 G 0 8192 ∗ rowsA c (tok 0) fa 0 8192) ∗ (outs c tb 8448 G 0 8192 ∗ rowsA c (tok 1) fa 0 8192)) := by
  rw [Ring.bigSep_interleaved]
  unfold delA outs rowsA
  rw [bigSep_pair, bigSep_pair, Finset.range_eq_Ico]
theorem DB_all (c : Dev nD) (tb : S16896.Idx → BitVec 32) (fb : S256x1024.Idx → Elt F .i32) (G : S25088x1024.Idx → Elt F .i32) :
    bigSep Finset.univ (DB c tb fb G) = iprop((outs c tb 8192 G 0 256 ∗ rowsB c (tok 0) fb 0 256) ∗ (outs c tb 16640 G 0 256 ∗ rowsB c (tok 1) fb 0 256)) := by
  rw [Ring.bigSep_interleaved]
  unfold delB outs rowsB
  rw [bigSep_pair, bigSep_pair, Finset.range_eq_Ico]

theorem DZ_all (c : Dev nD) (fl : S98.Idx → BitVec 32) (fz : S256x1024.Idx → Elt F .i32) (V : S25088x1024.Idx → Elt F .i32) :
    bigSep Finset.univ (DZ c fl fz V) = iprop(blks c fl V 0 ∗ ztoks c fl fz 0) := by
  rw [Ring.bigSep_fin_eq_range (nfl fl) _ (fun j => delZ c fl fz V j) (fun t h => rfl)]
  unfold delZ blks ztoks
  rw [bigSep_pair, Finset.range_eq_Ico]

theorem cnt_surj (fl : S98.Idx → BitVec 32) (k j : ℕ) (h : j < cnt fl k) : ∃ b, b < k ∧ flg fl b ∧ cnt fl b = j := by
  induction k with
  | zero => exact absurd h (by simp [cnt])
  | succ k ih =>
    by_cases hj : j < cnt fl k
    · obtain ⟨b, hb, h⟩ := ih hj; exact ⟨b, by omega, h⟩
    · rw [cnt_succ] at h
      by_cases hf : flg fl k
      · rw [if_pos hf] at h; exact ⟨k, by omega, hf, by omega⟩
      · rw [if_neg hf] at h; omega

theorem fblk_spec (fl : S98.Idx → BitVec 32) {j : ℕ} (h : j < nfl fl) : flg fl (fblk fl j) ∧ cnt fl (fblk fl j) = j := by
  obtain ⟨b, _, hf, rfl⟩ := cnt_surj fl 98 j h
  rw [fblk_cnt fl hf]; exact ⟨hf, rfl⟩

/-- The elements of the flagged blocks. -/
def flgSet (fl : S98.Idx → BitVec 32) : Finset S25088x1024.Idx := (Finset.Ico 0 (nfl fl)).biUnion fun j => oblk (fblk fl j)

theorem mem_flgSet (fl : S98.Idx → BitVec 32) (i : S25088x1024.Idx) : Iff (i ∈ flgSet fl) (flg fl ((i 0).val / 256)) := by
  unfold flgSet
  simp only [Finset.mem_biUnion, Finset.mem_Ico, mem_oblk]
  constructor
  · rintro ⟨j, ⟨_, hj⟩, e⟩; rw [e]; exact (fblk_spec fl hj).1
  · intro hf
    obtain ⟨hb, _⟩ := id hf
    exact ⟨cnt fl ((i 0).val / 256), ⟨Nat.zero_le _, cnt_lt fl hf hb⟩, (fblk_cnt fl hf).symm⟩

theorem flg_blks (c : Dev nD) (fl : S98.Idx → BitVec 32) (V : S25088x1024.Idx → Elt F .i32) :
    ((mOut.view.loc (c : Thread nD τ) ↦[flgSet fl]{fullShare} V : sProp 𝕄)) = blks c fl V 0 := by
  unfold flgSet
  exact pointsTo_biUnion (Val := Elt F) (Ix := Unit) (Name := ℕ) (U := UU) (Lvl := ℕ) (ℓ := mOut.view.loc (c : Thread nD τ)) (q := fullShare) (f := V) (Finset.Ico 0 (nfl fl)) (fun j => oblk (fblk fl j)) (fun t ht t' ht' hne =>
    oblk_disj fun h => hne (by
      have h1 := (fblk_spec fl (Finset.mem_Ico.mp ht).2).2; have h2 := (fblk_spec fl (Finset.mem_Ico.mp ht').2).2
      rw [h] at h1; exact h1.symm.trans h2))

end Cert.KernelIdeal.Disp
-- ==== Proof.Result.lean ====
/- The dispatch's result, and the buffers split and rejoined around its loops. -/
module

public import proofs.«01_k».proof.Proof.Split

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- The row a slot is given: row `j mod 8448` of the two sources laid end to end. -/
def srcRow (fa : S8192x1024.Idx → Elt F .i32) (fb : S256x1024.Idx → Elt F .i32) (j : ℕ) (d : Fin 1024) : Elt F .i32 :=
  if h : j % 8448 < 8192 then fa (ij ⟨j % 8448, h⟩ d) else fb (ij ⟨j % 8448 - 8192, by omega⟩ d)

/-- The result after the zeroing loops: zero on the flagged blocks. -/
def mid (fl : S98.Idx → BitVec 32) (V : S25088x1024.Idx → Elt F .i32) : S25088x1024.Idx → Elt F .i32 :=
  fun i => if flg fl ((i 0).val / 256) then 0#32 else V i

/-- The result at the end: a slot's row is its source row, and what no row goes to is as the zeroing loops left it. -/
def fin (tb : S16896.Idx → BitVec 32) (fl : S98.Idx → BitVec 32) (fa : S8192x1024.Idx → Elt F .i32) (fb : S256x1024.Idx → Elt F .i32)
    (V : S25088x1024.Idx → Elt F .i32) : S25088x1024.Idx → Elt F .i32 := fun i => by
  classical exact if h : ∃ j, j < 16896 ∧ dst tb j = (i 0).val then srcRow fa fb h.choose (i 1) else mid fl V i

variable (tb : S16896.Idx → BitVec 32) (fl : S98.Idx → BitVec 32) (fa : S8192x1024.Idx → Elt F .i32) (fb : S256x1024.Idx → Elt F .i32)
    (V : S25088x1024.Idx → Elt F .i32)

theorem fin_hit (hd : Distinct tb) {j : ℕ} (hj : j < 16896) {i : S25088x1024.Idx} (e : dst tb j = (i 0).val) :
    fin tb fl fa fb V i = srcRow fa fb j (i 1) := by
  have h : ∃ j, j < 16896 ∧ dst tb j = (i 0).val := ⟨j, hj, e⟩
  unfold fin
  rw [dif_pos h]
  congr 1
  exact hd _ h.choose_spec.1 _ hj (h.choose_spec.2.trans e.symm)
theorem fin_miss {i : S25088x1024.Idx} (h : ¬ ∃ j, j < 16896 ∧ dst tb j = (i 0).val) : fin tb fl fa fb V i = mid fl V i := by
  unfold fin
  rw [dif_neg h]

theorem holdsA (hd : Distinct tb) : HoldsA tb fa (fin tb fl fa fb V) := by
  intro t ht k hk i e
  have hm : (8448 * k + t) % 8448 = t := by omega
  rw [fin_hit tb fl fa fb V hd (j := 8448 * k + t) (by omega) e.symm]
  unfold srcRow
  rw [dif_pos (by omega)]
  exact congrArg (fun r => fa (ij r (i 1))) (Fin.ext hm)
theorem holdsB (hd : Distinct tb) : HoldsB tb fb (fin tb fl fa fb V) := by
  intro t ht k hk i e
  have hm : (8192 + 8448 * k + t) % 8448 = 8192 + t := by omega
  rw [fin_hit tb fl fa fb V hd (j := 8192 + 8448 * k + t) (by omega) e.symm]
  unfold srcRow
  rw [dif_neg (by omega)]
  exact congrArg (fun r => fb (ij r (i 1))) (Fin.ext (Nat.sub_eq_of_eq_add (hm.trans (Nat.add_comm _ _))))

theorem mem_hitSet (i : S25088x1024.Idx) : Iff (i ∈ hitSet tb) (∃ j, j < 16896 ∧ dst tb j = (i 0).val) := by
  unfold hitSet
  rw [Finset.mem_biUnion]
  constructor
  · rintro ⟨j, h, e⟩
    exact ⟨j, (Finset.mem_Ico.mp h).2, ((mem_orow).mp e).symm⟩
  · rintro ⟨j, h, e⟩
    exact ⟨j, Finset.mem_Ico.mpr ⟨Nat.zero_le _, h⟩, (mem_orow).mpr e.symm⟩

attribute [local irreducible] hitSet in
theorem fin_off {i : S25088x1024.Idx} (h : i ∉ hitSet tb) : fin tb fl fa fb V i = mid fl V i := by
  apply fin_miss
  intro h2
  rw [← mem_hitSet] at h2
  exact h h2

variable (c : Dev nD)

/-- The result's buffer split at the flagged blocks. -/
theorem out_flg (W : S25088x1024.Idx → Elt F .i32) :
    (mOut.view.loc (c : Thread nD τ) ↦[Finset.univ]{fullShare} W : sProp 𝕄) ⊣⊢ iprop(blks c fl W 0 ∗ (mOut.view.loc (c : Thread nD τ) ↦[Finset.univ \ flgSet fl]{fullShare} W)) := by
  rw [← flg_blks]
  exact pointsTo_split_subset (Finset.subset_univ _)
/-- and at the slots' rows. -/
theorem out_hit (hd : Distinct tb) (W : S25088x1024.Idx → Elt F .i32) :
    (mOut.view.loc (c : Thread nD τ) ↦[Finset.univ]{fullShare} W : sProp 𝕄) ⊣⊢
      iprop((outs c tb 0 W 0 8192 ∗ outs c tb 8192 W 0 256 ∗ outs c tb 8448 W 0 8192 ∗ outs c tb 16640 W 0 256) ∗ (mOut.view.loc (c : Thread nD τ) ↦[Finset.univ \ hitSet tb]{fullShare} W)) := by
  rw [← hit_rows c tb hd]
  exact pointsTo_split_subset (Finset.subset_univ _)

theorem out_unflg : (mOut.view.loc (c : Thread nD τ) ↦[Finset.univ \ flgSet fl]{fullShare} V : sProp 𝕄)
    = (mOut.view.loc (c : Thread nD τ) ↦[Finset.univ \ flgSet fl]{fullShare} mid fl V) :=
  pointsTo_congr (ℓ := mOut.view.loc (c : Thread nD τ)) fun i hi => by
    have h := (Finset.mem_sdiff.mp hi).2
    rw [mem_flgSet] at h
    exact (if_neg h).symm
attribute [local irreducible] hitSet in
theorem out_unhit : (mOut.view.loc (c : Thread nD τ) ↦[Finset.univ \ hitSet tb]{fullShare} mid fl V : sProp 𝕄)
    = (mOut.view.loc (c : Thread nD τ) ↦[Finset.univ \ hitSet tb]{fullShare} fin tb fl fa fb V) :=
  by
  have key : ∀ i ∈ Finset.univ \ hitSet tb, mid fl V i = fin tb fl fa fb V i := by
    intro i hi
    exact (fin_off tb fl fa fb V fun h3 => by
      generalize hitSet tb = T at hi h3
      rw [Finset.mem_sdiff] at hi
      exact hi.2 h3).symm
  exact pointsTo_congr (ℓ := mOut.view.loc (c : Thread nD τ)) key

/-- The first source's buffer as two read tokens, row by row, and what is left of it. -/
theorem srcA_toks : (mA.view.loc (c : Thread nD τ) ↦[Finset.univ]{fullShare} fa : sProp 𝕄) ⊣⊢
    iprop((mA.view.loc (c : Thread nD τ) ↦[Finset.univ]{Transfers.shareDrop fullShare 2} fa) ∗ rowsA c (tok 0) fa 0 8192 ∗ rowsA c (tok 1) fa 0 8192) := by
  have h := Transfers.pointsTo_toks_range (Val := Elt F) (Ix := Unit) (Name := ℕ) (U := UU) (Lvl := ℕ) (ℓ := mA.view.loc (c : Thread nD τ)) (S := Finset.univ) (f := fa) fullShare 2
  rw [Finset.range_eq_Ico, bigSep_Ico_head (lo := 0) (by decide), bigSep_Ico_head (lo := 0 + 1) (by decide), Finset.Ico_self, bigSep_empty] at h
  rw [show (Transfers.shareTokN fullShare 0 : PosShare TreeShare) = tok 0 from rfl, show (Transfers.shareTokN fullShare (0 + 1) : PosShare TreeShare) = tok 1 from rfl, rowsA_all c (tok 0), rowsA_all c (tok 1)] at h
  refine ⟨h.1.trans ?_, ?_⟩
  · iintro ⟨H, H0, H1, -⟩
    isplitl [H]; · iexact H
    isplitl [H0]; · iexact H0
    iexact H1
  · refine BIBase.Entails.trans ?_ h.2
    iintro ⟨H, H0, H1⟩
    isplitl [H]; · iexact H
    isplitl [H0]; · iexact H0
    isplitl [H1]; · iexact H1
    iempintro
theorem srcB_toks : (mB.view.loc (c : Thread nD τ) ↦[Finset.univ]{fullShare} fb : sProp 𝕄) ⊣⊢
    iprop((mB.view.loc (c : Thread nD τ) ↦[Finset.univ]{Transfers.shareDrop fullShare 2} fb) ∗ rowsB c (tok 0) fb 0 256 ∗ rowsB c (tok 1) fb 0 256) := by
  have h := Transfers.pointsTo_toks_range (Val := Elt F) (Ix := Unit) (Name := ℕ) (U := UU) (Lvl := ℕ) (ℓ := mB.view.loc (c : Thread nD τ)) (S := Finset.univ) (f := fb) fullShare 2
  rw [Finset.range_eq_Ico, bigSep_Ico_head (lo := 0) (by decide), bigSep_Ico_head (lo := 0 + 1) (by decide), Finset.Ico_self, bigSep_empty] at h
  rw [show (Transfers.shareTokN fullShare 0 : PosShare TreeShare) = tok 0 from rfl, show (Transfers.shareTokN fullShare (0 + 1) : PosShare TreeShare) = tok 1 from rfl, rowsB_all c (tok 0), rowsB_all c (tok 1)] at h
  refine ⟨h.1.trans ?_, ?_⟩
  · iintro ⟨H, H0, H1, -⟩
    isplitl [H]; · iexact H
    isplitl [H0]; · iexact H0
    iexact H1
  · refine BIBase.Entails.trans ?_ h.2
    iintro ⟨H, H0, H1⟩
    isplitl [H]; · iexact H
    isplitl [H0]; · iexact H0
    isplitl [H1]; · iexact H1
    iempintro
theorem zero_toks (fz : S256x1024.Idx → Elt F .i32) : (mZero.view.loc (c : Thread nD τ) ↦[Finset.univ]{fullShare} fz : sProp 𝕄) ⊣⊢
    iprop((mZero.view.loc (c : Thread nD τ) ↦[Finset.univ]{Transfers.shareDrop fullShare (nfl fl)} fz) ∗ ztoks c fl fz 0) := by
  have h := Transfers.pointsTo_toks_range (Val := Elt F) (Ix := Unit) (Name := ℕ) (U := UU) (Lvl := ℕ) (ℓ := mZero.view.loc (c : Thread nD τ)) (S := Finset.univ) (f := fz) fullShare (nfl fl)
  rw [Finset.range_eq_Ico] at h
  exact h

end Cert.KernelIdeal.Disp
-- ==== Proof.IssueA.lean ====
/- One trip of a chunk's issue loop. -/
module

public import proofs.«01_k».proof.Proof.Rows

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (c : Dev nD) (tb : S16896.Idx → BitVec 32) (qd : PosShare TreeShare) (fa : S8192x1024.Idx → Elt F .i32) (V G : S25088x1024.Idx → Elt F .i32)

theorem DA_even {t : ℕ} (ht : t < 8192) (h : 2 * t < 2 * 8192) : DA c tb fa G ⟨2 * t, h⟩ = delA c tb (tok 0) 0 fa G t := by
  show (if 2 * t % 2 = 0 then delA c tb (tok 0) 0 fa G (2 * t / 2) else delA c tb (tok 1) 8448 fa G (2 * t / 2)) = _
  rw [if_pos (by omega), Nat.mul_div_cancel_left _ (by decide)]
theorem DA_odd {t : ℕ} (ht : t < 8192) (h : 2 * t + 1 < 2 * 8192) : DA c tb fa G ⟨2 * t + 1, h⟩ = delA c tb (tok 1) 8448 fa G t := by
  show (if (2 * t + 1) % 2 = 0 then delA c tb (tok 0) 0 fa G ((2 * t + 1) / 2) else delA c tb (tok 1) 8448 fa G ((2 * t + 1) / 2)) = _
  rw [if_neg (by omega), show (2 * t + 1) / 2 = t by omega]

/-- Before trip `k` of a chunk's issue loop: `2 (lo + k)` copies issued. -/
def inv4 (lo u : ℕ) (k : ℕ) (_ : Unit) : sProp 𝕄 :=
  iprop((mDest.view.loc (c : Thread nD τ) ↦[Finset.univ]{qd} tb) ∗ batchA c tb fa G (2 * (lo + k)) u
    ∗ outs c tb 0 V (lo + k) 8192 ∗ outs c tb 8448 V (lo + k) 8192 ∗ rowsA c (tok 0) fa (lo + k) 8192 ∗ rowsA c (tok 1) fa (lo + k) 8192)

theorem step4 [∀ e, Nonempty (Elt F e)] (hin : InRange tb) (hG : HoldsA tb fa G) (i : grid0.Coords) (t3 : Fin k0_t3_loop.trips) (u : ℕ) (hu : u ≤ 256 * t3.val * NR)
    (k : Fin k0_t4_loop.trips) (acc : Unit) :
    inv4 c tb qd fa V G (128 * t3.val) u k.val acc ⊢ wp frame (wpE defs₀ Variants.none (c : Thread nD τ) none) Set.univ
      (k0_t4_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 t3 k acc)
      (inv4 c tb qd fa V G (128 * t3.val) u (k.val + 1)) := by
  have hk : k.val < 128 := lt_of_lt_of_le k.isLt k0_t4_abs.2.1
  have ht : t3.val < 64 := lt_of_lt_of_le t3.isLt k0_t3_abs.2.1
  unfold inv4
  rw [outs_head (off := 0) (h := by omega), outs_head (off := 8448) (h := by omega), rowsA_head (q := tok 0) (h := by omega), rowsA_head (q := tok 1) (h := by omega),
    show 128 * t3.val + (k.val + 1) = 128 * t3.val + k.val + 1 by omega]
  iintro ⟨Hd, HB, ⟨HO0, HOs0⟩, ⟨HO1, HOs1⟩, ⟨HA0, HAs0⟩, HA1, HAs1⟩
  unfold k0_t4_body
  sl_exec
  have e0 : (step4.sl.r (F := F) tb t3 k).toNat = dst tb (0 + (128 * t3.val + k.val)) := by
    delta step4.sl.r
    refine load_dst tb (by omega) _ _ ?_ _
    rw [k0_off5_eq]
    congr 1
    omega
  generalize step4.sl.r (F := F) tb t3 k = w0 at *
  have hc0 : k0_chk1 w0 := row_fits (by rw [e0]; exact hin _ (by omega))
  sl_exec
  iapply (Transfers.wp_dmaBatch (countersEmb (U := UU)) Variants.none (c : Thread nD τ) none () NR rfl
    (Finset.subset_of_eq (set_out _ _ (r := dst tb (0 + (128 * t3.val + k.val))) (by rw [← e0]; rfl)))
    (D := DA c tb fa G) (j := 2 * (128 * t3.val + k.val)) (u := u) (q := tok 0) (fs := fa) (fd := V) (by omega) (le_trans hu (Nat.mul_le_mul_right _ (by omega)))
    (by
      rw [DA_even c tb fa G (by omega) _]
      exact deliverA c (tok 0) fa V G _ _ (r := dst tb (0 + (128 * t3.val + k.val))) (by rw [← e0]; rfl) _ _ (k0_off7_eq t3 k) (by omega)
        (hG _ _ 0 (by omega)))) $$ [HA0 HO0 HB]
  · isplitl [HA0]
    · iapply (Entails.of_eq (by rw [set_srcA _ _ (k0_off7_eq t3 k)])) $$ HA0
    isplitl [HO0]
    · iexact HO0
    · iexact HB
  iintro HB
  sl_exec
  have e1 : (step4.sl.r_1 (F := F) tb t3 k).toNat = dst tb (8448 + (128 * t3.val + k.val)) := by
    delta step4.sl.r_1
    refine load_dst tb (by omega) _ _ ?_ _
    rw [k0_off8_eq]
    congr 1
    omega
  generalize step4.sl.r_1 (F := F) tb t3 k = w1 at *
  have hc1 : k0_chk2 w1 := row_fits (by rw [e1]; exact hin _ (by omega))
  sl_exec
  iapply (Transfers.wp_dmaBatch (countersEmb (U := UU)) Variants.none (c : Thread nD τ) none () NR rfl
    (Finset.subset_of_eq (set_out _ _ (r := dst tb (8448 + (128 * t3.val + k.val))) (by rw [← e1]; rfl)))
    (D := DA c tb fa G) (j := 2 * (128 * t3.val + k.val) + 1) (u := u) (q := tok 1) (fs := fa) (fd := V) (by omega) (le_trans hu (Nat.mul_le_mul_right _ (by omega)))
    (by
      rw [DA_odd c tb fa G (by omega) _]
      exact deliverA c (tok 1) fa V G _ _ (r := dst tb (8448 + (128 * t3.val + k.val))) (by rw [← e1]; rfl) _ _ (k0_off10_eq t3 k) (by omega)
        (hG _ _ 1 (by omega)))) $$ [HA1 HO1 HB]
  · isplitl [HA1]
    · iapply (Entails.of_eq (by rw [set_srcA _ _ (k0_off10_eq t3 k)])) $$ HA1
    isplitl [HO1]
    · iexact HO1
    · iexact HB
  iintro HB
  sl_step
  isplitl [Hd]; · iexact Hd
  isplitl [HB]; · iexact HB
  isplitl [HOs0]; · iexact HOs0
  isplitl [HOs1]; · iexact HOs1
  isplitl [HAs0]; · iexact HAs0
  iexact HAs1

end Cert.KernelIdeal.Disp
-- ==== Proof.DrainA.lean ====
/- One trip of a chunk's drain loop. -/
module

public import proofs.«01_k».proof.Proof.Rows

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (c : Dev nD) (tb : S16896.Idx → BitVec 32) (qd : PosShare TreeShare) (fa : S8192x1024.Idx → Elt F .i32) (V G : S25088x1024.Idx → Elt F .i32)

/-- Before trip `k` of a chunk's drain loop: `j` copies issued, the amounts of `2 k` more awaited. -/
def inv5 (j u : ℕ) (k : ℕ) (_ : Unit) : sProp 𝕄 :=
  iprop((mDest.view.loc (c : Thread nD τ) ↦[Finset.univ]{qd} tb) ∗ batchA c tb fa G j (u + 2 * k * NR) ∗ (∃ W, owes (c : Thread nD τ) 0 W))

theorem step5 [∀ e, Nonempty (Elt F e)] (hin : InRange tb) (i : grid0.Coords) (t3 : Fin k0_t3_loop.trips) (k0_h3 : k0_cond3 t3 = 1#1) (j u : ℕ) (hu : u + 256 * NR ≤ NR * j)
    (k : Fin k0_t5_loop.trips) (acc : Unit) :
    inv5 c tb qd fa G j u k.val acc ⊢ wp frame (wpE defs₀ Variants.none (c : Thread nD τ) none) Set.univ
      (k0_t5_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 t3 k0_h3 k acc)
      (inv5 c tb qd fa G j u (k.val + 1)) := by
  have hk : k.val < 128 := lt_of_lt_of_le k.isLt k0_t5_abs.2.1
  unfold inv5
  iintro ⟨Hd, HB, ⟨%W, HO⟩⟩
  unfold k0_t5_body
  sl_exec
  have e0 : ∃ j, j < 16896 ∧ (step5.sl.r (F := F) tb t3 k0_h3 k).toNat = dst tb j := by
    delta step5.sl.r
    exact load_some tb _ _ _
  generalize step5.sl.r (F := F) tb t3 k0_h3 k = w0 at *
  obtain ⟨j0, hj0, e0⟩ := e0
  have hc0 : k0_chk3 t3 w0 := fun _ => row_fits (by rw [e0]; exact hin _ hj0)
  sl_exec
  iapply (Transfers.wp_waitBatchMulSized (countersEmb (U := UU)) Variants.none (c : Thread nD τ) none (b := main_v0) (s := S1x1024) (e := .i32) (hk := .inl rfl) () (N := NR) 1 (Nat.one_mul _).symm
    (D := DA c tb fa G) (j := j) (u := u + (2 * k.val) * NR) (by
      have h1 : (2 * k.val) * NR + 1 * NR ≤ 256 * NR := by rw [← Nat.add_mul]; exact Nat.mul_le_mul_right _ (by omega)
      omega)) $$ [HB HO]
  · isplitl [HB]
    · iexact HB
    · iexact HO
  iintro ⟨HB, HO⟩
  rw [show u + 2 * k.val * NR + 1 * NR = u + (2 * k.val + 1) * NR by rw [Nat.add_assoc, ← Nat.add_mul]]
  sl_exec
  have e1 : ∃ j, j < 16896 ∧ (step5.sl.r_1 (F := F) tb t3 k0_h3 k).toNat = dst tb j := by
    delta step5.sl.r_1
    exact load_some tb _ _ _
  generalize step5.sl.r_1 (F := F) tb t3 k0_h3 k = w1 at *
  obtain ⟨j1, hj1, e1⟩ := e1
  have hc1 : k0_chk4 t3 w1 := fun _ => row_fits (by rw [e1]; exact hin _ hj1)
  sl_exec
  iapply (Transfers.wp_waitBatchMulSized (countersEmb (U := UU)) Variants.none (c : Thread nD τ) none (b := main_v0) (s := S1x1024) (e := .i32) (hk := .inl rfl) () (N := NR) 1 (Nat.one_mul _).symm
    (D := DA c tb fa G) (j := j) (u := u + (2 * k.val + 1) * NR) (by
      have h1 : (2 * k.val + 1) * NR + 1 * NR ≤ 256 * NR := by rw [← Nat.add_mul]; exact Nat.mul_le_mul_right _ (by omega)
      omega)) $$ [HB HO]
  · isplitl [HB]
    · iexact HB
    · iexact HO
  iintro ⟨HB, HO⟩
  rw [show u + (2 * k.val + 1) * NR + 1 * NR = u + 2 * (k.val + 1) * NR by rw [Nat.add_assoc, ← Nat.add_mul, show 2 * k.val + 1 + 1 = 2 * (k.val + 1) by omega]]
  sl_step
  isplitl [Hd]; · iexact Hd
  isplitl [HB]; · iexact HB
  iexists _; iexact HO

theorem step6 [∀ e, Nonempty (Elt F e)] (hin : InRange tb) (i : grid0.Coords) (j u : ℕ) (hu : u + 256 * NR ≤ NR * j)
    (k : Fin k0_t6_loop.trips) (acc : Unit) :
    inv5 c tb qd fa G j u k.val acc ⊢ wp frame (wpE defs₀ Variants.none (c : Thread nD τ) none) Set.univ
      (k0_t6_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 k acc)
      (inv5 c tb qd fa G j u (k.val + 1)) := by
  have hk : k.val < 128 := lt_of_lt_of_le k.isLt k0_t6_abs.2.1
  unfold inv5
  iintro ⟨Hd, HB, ⟨%W, HO⟩⟩
  unfold k0_t6_body
  sl_exec
  have e0 : ∃ j, j < 16896 ∧ (step6.sl.r (F := F) tb k).toNat = dst tb j := by
    delta step6.sl.r
    exact load_some tb _ _ _
  generalize step6.sl.r (F := F) tb k = w0 at *
  obtain ⟨j0, hj0, e0⟩ := e0
  have hc0 : k0_chk5 w0 := row_fits (by rw [e0]; exact hin _ hj0)
  sl_exec
  iapply (Transfers.wp_waitBatchMulSized (countersEmb (U := UU)) Variants.none (c : Thread nD τ) none (b := main_v0) (s := S1x1024) (e := .i32) (hk := .inl rfl) () (N := NR) 1 (Nat.one_mul _).symm
    (D := DA c tb fa G) (j := j) (u := u + (2 * k.val) * NR) (by
      have h1 : (2 * k.val) * NR + 1 * NR ≤ 256 * NR := by rw [← Nat.add_mul]; exact Nat.mul_le_mul_right _ (by omega)
      omega)) $$ [HB HO]
  · isplitl [HB]
    · iexact HB
    · iexact HO
  iintro ⟨HB, HO⟩
  rw [show u + 2 * k.val * NR + 1 * NR = u + (2 * k.val + 1) * NR by rw [Nat.add_assoc, ← Nat.add_mul]]
  sl_exec
  have e1 : ∃ j, j < 16896 ∧ (step6.sl.r_1 (F := F) tb k).toNat = dst tb j := by
    delta step6.sl.r_1
    exact load_some tb _ _ _
  generalize step6.sl.r_1 (F := F) tb k = w1 at *
  obtain ⟨j1, hj1, e1⟩ := e1
  have hc1 : k0_chk6 w1 := row_fits (by rw [e1]; exact hin _ hj1)
  sl_exec
  iapply (Transfers.wp_waitBatchMulSized (countersEmb (U := UU)) Variants.none (c : Thread nD τ) none (b := main_v0) (s := S1x1024) (e := .i32) (hk := .inl rfl) () (N := NR) 1 (Nat.one_mul _).symm
    (D := DA c tb fa G) (j := j) (u := u + (2 * k.val + 1) * NR) (by
      have h1 : (2 * k.val + 1) * NR + 1 * NR ≤ 256 * NR := by rw [← Nat.add_mul]; exact Nat.mul_le_mul_right _ (by omega)
      omega)) $$ [HB HO]
  · isplitl [HB]
    · iexact HB
    · iexact HO
  iintro ⟨HB, HO⟩
  rw [show u + (2 * k.val + 1) * NR + 1 * NR = u + 2 * (k.val + 1) * NR by rw [Nat.add_assoc, ← Nat.add_mul, show 2 * k.val + 1 + 1 = 2 * (k.val + 1) by omega]]
  sl_step
  isplitl [Hd]; · iexact Hd
  isplitl [HB]; · iexact HB
  iexists _; iexact HO

end Cert.KernelIdeal.Disp
-- ==== Proof.ChunkA.lean ====
/- One chunk: its copies issued, the chunk's before it awaited. -/
module

public import proofs.«01_k».proof.Proof.IssueA
public import proofs.«01_k».proof.Proof.DrainA

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (c : Dev nD) (tb : S16896.Idx → BitVec 32) (qd : PosShare TreeShare) (fa : S8192x1024.Idx → Elt F .i32) (V G : S25088x1024.Idx → Elt F .i32)

theorem trips3 : k0_t3_loop.trips = 64 := by decide +kernel
theorem trips4 : k0_t4_loop.trips = 128 := by decide +kernel
theorem trips5 : k0_t5_loop.trips = 128 := by decide +kernel
theorem trips6 : k0_t6_loop.trips = 128 := by decide +kernel
theorem condh3 (t3 : Fin k0_t3_loop.trips) : k0_cond3 t3 = 1#1 ↔ 0 < t3.val := by
  revert t3; decide +kernel

/-- Before chunk `k`: every earlier chunk's copies issued, and all but the last one's awaited. -/
def inv3 (k : ℕ) (_ : Unit) : sProp 𝕄 :=
  iprop((mDest.view.loc (c : Thread nD τ) ↦[Finset.univ]{qd} tb) ∗ batchA c tb fa G (2 * (128 * k)) (256 * (k - 1) * NR)
    ∗ outs c tb 0 V (128 * k) 8192 ∗ outs c tb 8448 V (128 * k) 8192 ∗ rowsA c (tok 0) fa (128 * k) 8192 ∗ rowsA c (tok 1) fa (128 * k) 8192
    ∗ (∃ W, owes (c : Thread nD τ) 0 W))

theorem step3 [∀ e, Nonempty (Elt F e)] (hin : InRange tb) (hG : HoldsA tb fa G) (i : grid0.Coords)
    (k : Fin k0_t3_loop.trips) (acc : Unit) :
    inv3 c tb qd fa V G k.val acc ⊢ wp frame (wpE defs₀ Variants.none (c : Thread nD τ) none) Set.univ
      (k0_t3_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 k acc)
      (inv3 c tb qd fa V G (k.val + 1)) := by
  have hk : k.val < 64 := lt_of_lt_of_le k.isLt k0_t3_abs.2.1
  unfold inv3
  iintro ⟨Hd, HB, HO0, HO1, HA0, HA1, %W, HO⟩
  unfold k0_t3_body
  sl_for (inv4 c tb qd fa V G (128 * k.val) (256 * (k.val - 1) * NR)) $$ [Hd HB HO0 HO1 HA0 HA1]
  · intro j acc
    exact step4 c tb qd fa V G hin hG i k _ (Nat.mul_le_mul_right _ (by omega)) j acc
  · unfold inv4
    rw [Nat.add_zero]
    isplitl [Hd]; · iexact Hd
    isplitl [HB]; · iexact HB
    isplitl [HO0]; · iexact HO0
    isplitl [HO1]; · iexact HO1
    isplitl [HA0]; · iexact HA0
    iexact HA1
  iintro %acc HL
  have e128 : inv4 c tb qd fa V G (128 * k.val) (256 * (k.val - 1) * NR) (Scf.trips k0_t4_loop.lb k0_t4_loop.ub k0_t4_loop.st) acc
      = inv4 c tb qd fa V G (128 * k.val) (256 * (k.val - 1) * NR) 128 acc := congrArg (fun n => inv4 c tb qd fa V G (128 * k.val) (256 * (k.val - 1) * NR) n acc) trips4
  ihave HL' := (Entails.of_eq e128) $$ HL
  unfold inv4
  rw [show 128 * k.val + 128 = 128 * (k.val + 1) by omega]
  icases HL' with ⟨Hd, HB, HO0, HO1, HA0, HA1⟩
  by_cases h : k0_cond3 k = 1#1
  · have hk0 := (condh3 k).mp h
    sl_exec
    sl_for (inv5 c tb qd fa G (2 * (128 * (k.val + 1))) (256 * (k.val - 1) * NR)) $$ [Hd HB HO]
    · intro j acc
      exact step5 c tb qd fa G hin i k h _ _ (by rw [← Nat.add_mul, Nat.mul_comm NR]; exact Nat.mul_le_mul_right _ (by omega)) j acc
    · unfold inv5
      isplitl [Hd]; · iexact Hd
      isplitl [HB]; · iapply (Entails.of_eq (by rw [Nat.mul_zero, Nat.zero_mul]; rfl)) $$ HB
      iexists _; iexact HO
    iintro %acc HL
    have e128' : inv5 c tb qd fa G (2 * (128 * (k.val + 1))) (256 * (k.val - 1) * NR) (Scf.trips k0_t5_loop.lb k0_t5_loop.ub k0_t5_loop.st) acc
      = inv5 c tb qd fa G (2 * (128 * (k.val + 1))) (256 * (k.val - 1) * NR) 128 acc := congrArg (fun n => inv5 c tb qd fa G (2 * (128 * (k.val + 1))) (256 * (k.val - 1) * NR) n acc) trips5
    ihave HL' := (Entails.of_eq e128') $$ HL
    unfold inv5
    rw [← Nat.add_mul, show 256 * (k.val - 1) + 2 * 128 = 256 * (k.val + 1 - 1) by omega]
    icases HL' with ⟨Hd, HB, HO⟩
    sl_exec
    sl_step
    isplitl [Hd]; · iexact Hd
    isplitl [HB]; · iexact HB
    isplitl [HO0]; · iexact HO0
    isplitl [HO1]; · iexact HO1
    isplitl [HA0]; · iexact HA0
    isplitl [HA1]; · iexact HA1
    iexact HO
  · have hk0 : k.val = 0 := by have := mt (condh3 k).mpr h; omega
    sl_exec
    sl_step
    rw [hk0]
    isplitl [Hd]; · iexact Hd
    isplitl [HB]; · iexact HB
    isplitl [HO0]; · iexact HO0
    isplitl [HO1]; · iexact HO1
    isplitl [HA0]; · iexact HA0
    isplitl [HA1]; · iexact HA1
    iexists _; iexact HO

end Cert.KernelIdeal.Disp
-- ==== Proof.IssueB.lean ====
/- One trip of a chunk's issue loop. -/
module

public import proofs.«01_k».proof.Proof.Rows

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (c : Dev nD) (tb : S16896.Idx → BitVec 32) (qd : PosShare TreeShare) (fb : S256x1024.Idx → Elt F .i32) (V G : S25088x1024.Idx → Elt F .i32)

theorem DB_even {t : ℕ} (ht : t < 256) (h : 2 * t < 2 * 256) : DB c tb fb G ⟨2 * t, h⟩ = delB c tb (tok 0) 8192 fb G t := by
  show (if 2 * t % 2 = 0 then delB c tb (tok 0) 8192 fb G (2 * t / 2) else delB c tb (tok 1) 16640 fb G (2 * t / 2)) = _
  rw [if_pos (by omega), Nat.mul_div_cancel_left _ (by decide)]
theorem DB_odd {t : ℕ} (ht : t < 256) (h : 2 * t + 1 < 2 * 256) : DB c tb fb G ⟨2 * t + 1, h⟩ = delB c tb (tok 1) 16640 fb G t := by
  show (if (2 * t + 1) % 2 = 0 then delB c tb (tok 0) 8192 fb G ((2 * t + 1) / 2) else delB c tb (tok 1) 16640 fb G ((2 * t + 1) / 2)) = _
  rw [if_neg (by omega), show (2 * t + 1) / 2 = t by omega]

/-- Before trip `k` of a chunk's issue loop: `2 (lo + k)` copies issued. -/
def inv8 (lo u : ℕ) (k : ℕ) (_ : Unit) : sProp 𝕄 :=
  iprop((mDest.view.loc (c : Thread nD τ) ↦[Finset.univ]{qd} tb) ∗ batchB c tb fb G (2 * (lo + k)) u
    ∗ outs c tb 8192 V (lo + k) 256 ∗ outs c tb 16640 V (lo + k) 256 ∗ rowsB c (tok 0) fb (lo + k) 256 ∗ rowsB c (tok 1) fb (lo + k) 256)

theorem step8 [∀ e, Nonempty (Elt F e)] (hin : InRange tb) (hG : HoldsB tb fb G) (i : grid0.Coords) (t7 : Fin k0_t7_loop.trips) (u : ℕ) (hu : u ≤ 256 * t7.val * NR)
    (k : Fin k0_t8_loop.trips) (acc : Unit) :
    inv8 c tb qd fb V G (128 * t7.val) u k.val acc ⊢ wp frame (wpE defs₀ Variants.none (c : Thread nD τ) none) Set.univ
      (k0_t8_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 t7 k acc)
      (inv8 c tb qd fb V G (128 * t7.val) u (k.val + 1)) := by
  have hk : k.val < 128 := lt_of_lt_of_le k.isLt k0_t8_abs.2.1
  have ht : t7.val < 2 := lt_of_lt_of_le t7.isLt k0_t7_abs.2.1
  unfold inv8
  rw [outs_head (off := 8192) (h := by omega), outs_head (off := 16640) (h := by omega), rowsB_head (q := tok 0) (h := by omega), rowsB_head (q := tok 1) (h := by omega),
    show 128 * t7.val + (k.val + 1) = 128 * t7.val + k.val + 1 by omega]
  iintro ⟨Hd, HB, ⟨HO0, HOs0⟩, ⟨HO1, HOs1⟩, ⟨HB0, HBs0⟩, HB1, HBs1⟩
  unfold k0_t8_body
  sl_exec
  have e0 : (step8.sl.r (F := F) tb t7 k).toNat = dst tb (8192 + (128 * t7.val + k.val)) := by
    delta step8.sl.r
    refine load_dst tb (by omega) _ _ ?_ _
    rw [k0_off23_eq]
    congr 1
    omega
  generalize step8.sl.r (F := F) tb t7 k = w0 at *
  have hc0 : k0_chk7 w0 := row_fits (by rw [e0]; exact hin _ (by omega))
  sl_exec
  iapply (Transfers.wp_dmaBatch (countersEmb (U := UU)) Variants.none (c : Thread nD τ) none () NR rfl
    (Finset.subset_of_eq (set_out _ _ (r := dst tb (8192 + (128 * t7.val + k.val))) (by rw [← e0]; rfl)))
    (D := DB c tb fb G) (j := 2 * (128 * t7.val + k.val)) (u := u) (q := tok 0) (fs := fb) (fd := V) (by omega) (le_trans hu (Nat.mul_le_mul_right _ (by omega)))
    (by
      rw [DB_even c tb fb G (by omega) _]
      exact deliverB c (tok 0) fb V G _ _ (r := dst tb (8192 + (128 * t7.val + k.val))) (by rw [← e0]; rfl) _ _ (k0_off25_eq t7 k) (by omega)
        (hG _ _ 0 (by omega)))) $$ [HB0 HO0 HB]
  · isplitl [HB0]
    · iapply (Entails.of_eq (by rw [set_srcB _ _ (k0_off25_eq t7 k)])) $$ HB0
    isplitl [HO0]
    · iexact HO0
    · iexact HB
  iintro HB
  sl_exec
  have e1 : (step8.sl.r_1 (F := F) tb t7 k).toNat = dst tb (16640 + (128 * t7.val + k.val)) := by
    delta step8.sl.r_1
    refine load_dst tb (by omega) _ _ ?_ _
    rw [k0_off26_eq]
    congr 1
    omega
  generalize step8.sl.r_1 (F := F) tb t7 k = w1 at *
  have hc1 : k0_chk8 w1 := row_fits (by rw [e1]; exact hin _ (by omega))
  sl_exec
  iapply (Transfers.wp_dmaBatch (countersEmb (U := UU)) Variants.none (c : Thread nD τ) none () NR rfl
    (Finset.subset_of_eq (set_out _ _ (r := dst tb (16640 + (128 * t7.val + k.val))) (by rw [← e1]; rfl)))
    (D := DB c tb fb G) (j := 2 * (128 * t7.val + k.val) + 1) (u := u) (q := tok 1) (fs := fb) (fd := V) (by omega) (le_trans hu (Nat.mul_le_mul_right _ (by omega)))
    (by
      rw [DB_odd c tb fb G (by omega) _]
      exact deliverB c (tok 1) fb V G _ _ (r := dst tb (16640 + (128 * t7.val + k.val))) (by rw [← e1]; rfl) _ _ (k0_off28_eq t7 k) (by omega)
        (hG _ _ 1 (by omega)))) $$ [HB1 HO1 HB]
  · isplitl [HB1]
    · iapply (Entails.of_eq (by rw [set_srcB _ _ (k0_off28_eq t7 k)])) $$ HB1
    isplitl [HO1]
    · iexact HO1
    · iexact HB
  iintro HB
  sl_step
  isplitl [Hd]; · iexact Hd
  isplitl [HB]; · iexact HB
  isplitl [HOs0]; · iexact HOs0
  isplitl [HOs1]; · iexact HOs1
  isplitl [HBs0]; · iexact HBs0
  iexact HBs1

end Cert.KernelIdeal.Disp
-- ==== Proof.DrainB.lean ====
/- One trip of a chunk's drain loop. -/
module

public import proofs.«01_k».proof.Proof.Rows

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (c : Dev nD) (tb : S16896.Idx → BitVec 32) (qd : PosShare TreeShare) (fb : S256x1024.Idx → Elt F .i32) (V G : S25088x1024.Idx → Elt F .i32)

/-- Before trip `k` of a chunk's drain loop: `j` copies issued, the amounts of `2 k` more awaited. -/
def inv9 (j u : ℕ) (k : ℕ) (_ : Unit) : sProp 𝕄 :=
  iprop((mDest.view.loc (c : Thread nD τ) ↦[Finset.univ]{qd} tb) ∗ batchB c tb fb G j (u + 2 * k * NR) ∗ (∃ W, owes (c : Thread nD τ) 0 W))

theorem step9 [∀ e, Nonempty (Elt F e)] (hin : InRange tb) (i : grid0.Coords) (t7 : Fin k0_t7_loop.trips) (k0_h4 : k0_cond4 t7 = 1#1) (j u : ℕ) (hu : u + 256 * NR ≤ NR * j)
    (k : Fin k0_t9_loop.trips) (acc : Unit) :
    inv9 c tb qd fb G j u k.val acc ⊢ wp frame (wpE defs₀ Variants.none (c : Thread nD τ) none) Set.univ
      (k0_t9_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 t7 k0_h4 k acc)
      (inv9 c tb qd fb G j u (k.val + 1)) := by
  have hk : k.val < 128 := lt_of_lt_of_le k.isLt k0_t9_abs.2.1
  unfold inv9
  iintro ⟨Hd, HB, ⟨%W, HO⟩⟩
  unfold k0_t9_body
  sl_exec
  have e0 : ∃ j, j < 16896 ∧ (step9.sl.r (F := F) tb t7 k0_h4 k).toNat = dst tb j := by
    delta step9.sl.r
    exact load_some tb _ _ _
  generalize step9.sl.r (F := F) tb t7 k0_h4 k = w0 at *
  obtain ⟨j0, hj0, e0⟩ := e0
  have hc0 : k0_chk9 t7 w0 := fun _ => row_fits (by rw [e0]; exact hin _ hj0)
  sl_exec
  iapply (Transfers.wp_waitBatchMulSized (countersEmb (U := UU)) Variants.none (c : Thread nD τ) none (b := main_v0) (s := S1x1024) (e := .i32) (hk := .inl rfl) () (N := NR) 1 (Nat.one_mul _).symm
    (D := DB c tb fb G) (j := j) (u := u + (2 * k.val) * NR) (by
      have h1 : (2 * k.val) * NR + 1 * NR ≤ 256 * NR := by rw [← Nat.add_mul]; exact Nat.mul_le_mul_right _ (by omega)
      omega)) $$ [HB HO]
  · isplitl [HB]
    · iexact HB
    · iexact HO
  iintro ⟨HB, HO⟩
  rw [show u + 2 * k.val * NR + 1 * NR = u + (2 * k.val + 1) * NR by rw [Nat.add_assoc, ← Nat.add_mul]]
  sl_exec
  have e1 : ∃ j, j < 16896 ∧ (step9.sl.r_1 (F := F) tb t7 k0_h4 k).toNat = dst tb j := by
    delta step9.sl.r_1
    exact load_some tb _ _ _
  generalize step9.sl.r_1 (F := F) tb t7 k0_h4 k = w1 at *
  obtain ⟨j1, hj1, e1⟩ := e1
  have hc1 : k0_chk10 t7 w1 := fun _ => row_fits (by rw [e1]; exact hin _ hj1)
  sl_exec
  iapply (Transfers.wp_waitBatchMulSized (countersEmb (U := UU)) Variants.none (c : Thread nD τ) none (b := main_v0) (s := S1x1024) (e := .i32) (hk := .inl rfl) () (N := NR) 1 (Nat.one_mul _).symm
    (D := DB c tb fb G) (j := j) (u := u + (2 * k.val + 1) * NR) (by
      have h1 : (2 * k.val + 1) * NR + 1 * NR ≤ 256 * NR := by rw [← Nat.add_mul]; exact Nat.mul_le_mul_right _ (by omega)
      omega)) $$ [HB HO]
  · isplitl [HB]
    · iexact HB
    · iexact HO
  iintro ⟨HB, HO⟩
  rw [show u + (2 * k.val + 1) * NR + 1 * NR = u + 2 * (k.val + 1) * NR by rw [Nat.add_assoc, ← Nat.add_mul, show 2 * k.val + 1 + 1 = 2 * (k.val + 1) by omega]]
  sl_step
  isplitl [Hd]; · iexact Hd
  isplitl [HB]; · iexact HB
  iexists _; iexact HO

theorem step10 [∀ e, Nonempty (Elt F e)] (hin : InRange tb) (i : grid0.Coords) (j u : ℕ) (hu : u + 256 * NR ≤ NR * j)
    (k : Fin k0_t10_loop.trips) (acc : Unit) :
    inv9 c tb qd fb G j u k.val acc ⊢ wp frame (wpE defs₀ Variants.none (c : Thread nD τ) none) Set.univ
      (k0_t10_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 k acc)
      (inv9 c tb qd fb G j u (k.val + 1)) := by
  have hk : k.val < 128 := lt_of_lt_of_le k.isLt k0_t10_abs.2.1
  unfold inv9
  iintro ⟨Hd, HB, ⟨%W, HO⟩⟩
  unfold k0_t10_body
  sl_exec
  have e0 : ∃ j, j < 16896 ∧ (step10.sl.r (F := F) tb k).toNat = dst tb j := by
    delta step10.sl.r
    exact load_some tb _ _ _
  generalize step10.sl.r (F := F) tb k = w0 at *
  obtain ⟨j0, hj0, e0⟩ := e0
  have hc0 : k0_chk11 w0 := row_fits (by rw [e0]; exact hin _ hj0)
  sl_exec
  iapply (Transfers.wp_waitBatchMulSized (countersEmb (U := UU)) Variants.none (c : Thread nD τ) none (b := main_v0) (s := S1x1024) (e := .i32) (hk := .inl rfl) () (N := NR) 1 (Nat.one_mul _).symm
    (D := DB c tb fb G) (j := j) (u := u + (2 * k.val) * NR) (by
      have h1 : (2 * k.val) * NR + 1 * NR ≤ 256 * NR := by rw [← Nat.add_mul]; exact Nat.mul_le_mul_right _ (by omega)
      omega)) $$ [HB HO]
  · isplitl [HB]
    · iexact HB
    · iexact HO
  iintro ⟨HB, HO⟩
  rw [show u + 2 * k.val * NR + 1 * NR = u + (2 * k.val + 1) * NR by rw [Nat.add_assoc, ← Nat.add_mul]]
  sl_exec
  have e1 : ∃ j, j < 16896 ∧ (step10.sl.r_1 (F := F) tb k).toNat = dst tb j := by
    delta step10.sl.r_1
    exact load_some tb _ _ _
  generalize step10.sl.r_1 (F := F) tb k = w1 at *
  obtain ⟨j1, hj1, e1⟩ := e1
  have hc1 : k0_chk12 w1 := row_fits (by rw [e1]; exact hin _ hj1)
  sl_exec
  iapply (Transfers.wp_waitBatchMulSized (countersEmb (U := UU)) Variants.none (c : Thread nD τ) none (b := main_v0) (s := S1x1024) (e := .i32) (hk := .inl rfl) () (N := NR) 1 (Nat.one_mul _).symm
    (D := DB c tb fb G) (j := j) (u := u + (2 * k.val + 1) * NR) (by
      have h1 : (2 * k.val + 1) * NR + 1 * NR ≤ 256 * NR := by rw [← Nat.add_mul]; exact Nat.mul_le_mul_right _ (by omega)
      omega)) $$ [HB HO]
  · isplitl [HB]
    · iexact HB
    · iexact HO
  iintro ⟨HB, HO⟩
  rw [show u + (2 * k.val + 1) * NR + 1 * NR = u + 2 * (k.val + 1) * NR by rw [Nat.add_assoc, ← Nat.add_mul, show 2 * k.val + 1 + 1 = 2 * (k.val + 1) by omega]]
  sl_step
  isplitl [Hd]; · iexact Hd
  isplitl [HB]; · iexact HB
  iexists _; iexact HO

end Cert.KernelIdeal.Disp
-- ==== Proof.ChunkB.lean ====
/- One chunk: its copies issued, the chunk's before it awaited. -/
module

public import proofs.«01_k».proof.Proof.IssueB
public import proofs.«01_k».proof.Proof.DrainB

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (c : Dev nD) (tb : S16896.Idx → BitVec 32) (qd : PosShare TreeShare) (fb : S256x1024.Idx → Elt F .i32) (V G : S25088x1024.Idx → Elt F .i32)

theorem trips7 : k0_t7_loop.trips = 2 := by decide +kernel
theorem trips8 : k0_t8_loop.trips = 128 := by decide +kernel
theorem trips9 : k0_t9_loop.trips = 128 := by decide +kernel
theorem trips10 : k0_t10_loop.trips = 128 := by decide +kernel
theorem condh4 (t7 : Fin k0_t7_loop.trips) : k0_cond4 t7 = 1#1 ↔ 0 < t7.val := by
  revert t7; decide +kernel

/-- Before chunk `k`: every earlier chunk's copies issued, and all but the last one's awaited. -/
def inv7 (k : ℕ) (_ : Unit) : sProp 𝕄 :=
  iprop((mDest.view.loc (c : Thread nD τ) ↦[Finset.univ]{qd} tb) ∗ batchB c tb fb G (2 * (128 * k)) (256 * (k - 1) * NR)
    ∗ outs c tb 8192 V (128 * k) 256 ∗ outs c tb 16640 V (128 * k) 256 ∗ rowsB c (tok 0) fb (128 * k) 256 ∗ rowsB c (tok 1) fb (128 * k) 256
    ∗ (∃ W, owes (c : Thread nD τ) 0 W))

theorem step7 [∀ e, Nonempty (Elt F e)] (hin : InRange tb) (hG : HoldsB tb fb G) (i : grid0.Coords)
    (k : Fin k0_t7_loop.trips) (acc : Unit) :
    inv7 c tb qd fb V G k.val acc ⊢ wp frame (wpE defs₀ Variants.none (c : Thread nD τ) none) Set.univ
      (k0_t7_body i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3 k acc)
      (inv7 c tb qd fb V G (k.val + 1)) := by
  have hk : k.val < 2 := lt_of_lt_of_le k.isLt k0_t7_abs.2.1
  unfold inv7
  iintro ⟨Hd, HB, HO0, HO1, HA0, HA1, %W, HO⟩
  unfold k0_t7_body
  sl_for (inv8 c tb qd fb V G (128 * k.val) (256 * (k.val - 1) * NR)) $$ [Hd HB HO0 HO1 HA0 HA1]
  · intro j acc
    exact step8 c tb qd fb V G hin hG i k _ (Nat.mul_le_mul_right _ (by omega)) j acc
  · unfold inv8
    rw [Nat.add_zero]
    isplitl [Hd]; · iexact Hd
    isplitl [HB]; · iexact HB
    isplitl [HO0]; · iexact HO0
    isplitl [HO1]; · iexact HO1
    isplitl [HA0]; · iexact HA0
    iexact HA1
  iintro %acc HL
  have e128 : inv8 c tb qd fb V G (128 * k.val) (256 * (k.val - 1) * NR) (Scf.trips k0_t8_loop.lb k0_t8_loop.ub k0_t8_loop.st) acc
      = inv8 c tb qd fb V G (128 * k.val) (256 * (k.val - 1) * NR) 128 acc := congrArg (fun n => inv8 c tb qd fb V G (128 * k.val) (256 * (k.val - 1) * NR) n acc) trips8
  ihave HL' := (Entails.of_eq e128) $$ HL
  unfold inv8
  rw [show 128 * k.val + 128 = 128 * (k.val + 1) by omega]
  icases HL' with ⟨Hd, HB, HO0, HO1, HA0, HA1⟩
  by_cases h : k0_cond4 k = 1#1
  · have hk0 := (condh4 k).mp h
    sl_exec
    sl_for (inv9 c tb qd fb G (2 * (128 * (k.val + 1))) (256 * (k.val - 1) * NR)) $$ [Hd HB HO]
    · intro j acc
      exact step9 c tb qd fb G hin i k h _ _ (by rw [← Nat.add_mul, Nat.mul_comm NR]; exact Nat.mul_le_mul_right _ (by omega)) j acc
    · unfold inv9
      isplitl [Hd]; · iexact Hd
      isplitl [HB]; · iapply (Entails.of_eq (by rw [Nat.mul_zero, Nat.zero_mul]; rfl)) $$ HB
      iexists _; iexact HO
    iintro %acc HL
    have e128' : inv9 c tb qd fb G (2 * (128 * (k.val + 1))) (256 * (k.val - 1) * NR) (Scf.trips k0_t9_loop.lb k0_t9_loop.ub k0_t9_loop.st) acc
      = inv9 c tb qd fb G (2 * (128 * (k.val + 1))) (256 * (k.val - 1) * NR) 128 acc := congrArg (fun n => inv9 c tb qd fb G (2 * (128 * (k.val + 1))) (256 * (k.val - 1) * NR) n acc) trips9
    ihave HL' := (Entails.of_eq e128') $$ HL
    unfold inv9
    rw [← Nat.add_mul, show 256 * (k.val - 1) + 2 * 128 = 256 * (k.val + 1 - 1) by omega]
    icases HL' with ⟨Hd, HB, HO⟩
    sl_exec
    sl_step
    isplitl [Hd]; · iexact Hd
    isplitl [HB]; · iexact HB
    isplitl [HO0]; · iexact HO0
    isplitl [HO1]; · iexact HO1
    isplitl [HA0]; · iexact HA0
    isplitl [HA1]; · iexact HA1
    iexact HO
  · have hk0 : k.val = 0 := by have := mt (condh4 k).mpr h; omega
    sl_exec
    sl_step
    rw [hk0]
    isplitl [Hd]; · iexact Hd
    isplitl [HB]; · iexact HB
    isplitl [HO0]; · iexact HO0
    isplitl [HO1]; · iexact HO1
    isplitl [HA0]; · iexact HA0
    isplitl [HA1]; · iexact HA1
    iexists _; iexact HO

end Cert.KernelIdeal.Disp
-- ==== Proof.Body.lean ====
/- The dispatch's body, run from its operands. -/
module

public import proofs.«01_k».proof.Proof.Result
public import proofs.«01_k».proof.Proof.ChunkA
public import proofs.«01_k».proof.Proof.ChunkB

public import Idealize.ShloMosaic.Lib.VecWindow

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

instance DA_storable (c : Dev nD) (tb : S16896.Idx → BitVec 32) (fa : S8192x1024.Idx → Elt F .i32) (G : S25088x1024.Idx → Elt F .i32) (t) :
    BI.Storable (upEmb : UEmb _ 𝕄) (DA c tb fa G t) := by delta DA Ring.interleaved; split <;> infer_instance
instance DB_storable (c : Dev nD) (tb : S16896.Idx → BitVec 32) (fb : S256x1024.Idx → Elt F .i32) (G : S25088x1024.Idx → Elt F .i32) (t) :
    BI.Storable (upEmb : UEmb _ 𝕄) (DB c tb fb G t) := by delta DB Ring.interleaved; split <;> infer_instance

theorem read_zero (f : S256x1024.Idx → Elt F .i32) : mZero.view.read (Elt F) f = f := rfl
theorem pay_zero (x : S256x1024.Idx) : (k0_pay1 : S256x1024.Idx → BitVec 32) x = 0#32 := rfl
theorem zero_stored [∀ e, Nonempty (Elt F e)] (x : S256x1024.Idx) : (mZero.view.writes (Elt F) mZero.view.junk [⟨Rect.unit (s := S256x1024) ![0, 0] S256x1024.size inb_S256x1024_S256x1024_0_0, (k0_pay1 : S256x1024.Idx → BitVec 32)⟩] : S256x1024.Idx → Elt F .i32) x = 0#32 := by
  have h := View.read_writes_full (Val := Elt F) mZero.view mZero.view.junk inb_S256x1024_S256x1024_0_0 (k0_pay1 : S256x1024.Idx → BitVec 32) []
  rw [read_zero] at h
  exact (congrFun h x).trans (pay_zero x)

variable (tb : S16896.Idx → BitVec 32) (fl : S98.Idx → BitVec 32) (fa : S8192x1024.Idx → Elt F .i32) (fb : S256x1024.Idx → Elt F .i32)
    (V : S25088x1024.Idx → Elt F .i32) (c : Dev nD) (qd qf : PosShare TreeShare)

/-- The kernel's whole body: from the launch contents of the result to `fin`. -/
theorem body_run [∀ e, Nonempty (Elt F e)] (hin : InRange tb) (hd : Distinct tb) (i : grid0.Coords) :
    iprop((mDest.view.loc (c : Thread nD τ) ↦[Finset.univ]{qd} tb) ∗ (mFlag.view.loc (c : Thread nD τ) ↦[Finset.univ]{qf} fl)
      ∗ (mA.view.loc (c : Thread nD τ) ↦[Finset.univ]{fullShare} fa) ∗ (mB.view.loc (c : Thread nD τ) ↦[Finset.univ]{fullShare} fb)
      ∗ (mOut.view.loc (c : Thread nD τ) ↦[Finset.univ]{fullShare} V) ∗ (∃ f, mZero.view.loc (c : Thread nD τ) ↦[Finset.univ]{fullShare} f)
      ∗ semVal ((c : Thread nD τ), SemLoc.dma cc0_scratch1.sem) 0 ∗ semVal ((c : Thread nD τ), SemLoc.dma cc0_scratch2.sem) 0
      ∗ semVal ((c : Thread nD τ), SemLoc.dma cc0_scratch3.sem) 0 ∗ (∃ W, owes (c : Thread nD τ) 0 W))
    ⊢ wp frame (wpE defs₀ Variants.none (c : Thread nD τ) none) Set.univ
      (cc0_dispatch i mDest (Memref.isWhole_whole _) mFlag (Memref.isWhole_whole _) mA (Memref.isWhole_whole _) mB (Memref.isWhole_whole _) mOut (Memref.isWhole_whole _) mZero (Memref.isWhole_whole _) cc0_scratch1 cc0_scratch2 cc0_scratch3) fun _ =>
      (iprop((mDest.view.loc (c : Thread nD τ) ↦[Finset.univ]{qd} tb) ∗ (mFlag.view.loc (c : Thread nD τ) ↦[Finset.univ]{qf} fl)
      ∗ (mA.view.loc (c : Thread nD τ) ↦[Finset.univ]{fullShare} fa) ∗ (mB.view.loc (c : Thread nD τ) ↦[Finset.univ]{fullShare} fb)
      ∗ (mOut.view.loc (c : Thread nD τ) ↦[Finset.univ]{fullShare} fin tb fl fa fb V) ∗ (∃ f, mZero.view.loc (c : Thread nD τ) ↦[Finset.univ]{fullShare} f)
      ∗ semVal ((c : Thread nD τ), SemLoc.dma cc0_scratch1.sem) 0 ∗ semVal ((c : Thread nD τ), SemLoc.dma cc0_scratch2.sem) 0
      ∗ semVal ((c : Thread nD τ), SemLoc.dma cc0_scratch3.sem) 0 ∗ (∃ W, owes (c : Thread nD τ) 0 W)) : sProp 𝕄) := by
  iintro ⟨Hd, Hf, HSA, HSB, HO, ⟨%fz0, HZ⟩, Hs1, Hs2, Hs3, ⟨%W, HW⟩⟩
  rw [cc0_dispatch_eq_skeleton]
  unfold cc0_dispatch_skel
  sl_exec
  have hz : ∀ x : S256x1024.Idx, (mZero.view.writes (Elt F) mZero.view.junk body_run.sl.HZ_1 : S256x1024.Idx → Elt F .i32) x = 0#32 := by
    delta body_run.sl.HZ_1
    exact zero_stored
  generalize (mZero.view.writes (Elt F) mZero.view.junk body_run.sl.HZ_1 : S256x1024.Idx → Elt F .i32) = fz at *
  clear fz0
  ihave HW : (∃ W, owes (c : Thread nD τ) 0 W : sProp 𝕄) $$ [HW]
  · iexists W; iexact HW
  ihave ⟨HZr, HZt⟩ := (zero_toks fl c fz).1 $$ HZ
  ihave ⟨HOb, HOr⟩ := (out_flg fl c V).1 $$ HO
  imod (Transfers.batch_alloc' (Lvl := ℕ) (countersEmb (U := UU)) (c : Thread nD τ) () NZ (DZ c fl fz (mid fl V)) (sm := .dma cc0_scratch3.sem) (E := Set.univ)) $$ Hs3 with HB
  sl_for (inv1 c fl qf fz V (mid fl V)) $$ [Hf HB HOb HZt]
  · intro j acc
    exact step1 c fl qf fz V (mid fl V) hz (fun i h => if_pos h) i j acc
  · unfold inv1
    rw [show cnt fl 0 = 0 from rfl]
    isplitl [Hf]; · iexact Hf
    isplitl [HB]; · iexact HB
    isplitl [HOb]; · iexact HOb
    iexact HZt
  iintro %acc HL
  have e1 : inv1 c fl qf fz V (mid fl V) (Scf.trips k0_t1_loop.lb k0_t1_loop.ub k0_t1_loop.st) acc = inv1 c fl qf fz V (mid fl V) 98 acc := congrArg (fun n => inv1 c fl qf fz V (mid fl V) n acc) trips1
  ihave HL' := (Entails.of_eq e1) $$ HL
  unfold inv1
  icases HL' with ⟨Hf, HB, -, -⟩
  sl_for (inv2 c fl qf fz (mid fl V)) $$ [Hf HB HW]
  · intro j acc
    exact step2 c fl qf fz (mid fl V) i j acc
  · unfold inv2
    rw [show cnt fl 0 * NZ = 0 from Nat.zero_mul _]
    isplitl [Hf]; · iexact Hf
    isplitl [HB]; · iexact HB
    iexact HW
  iintro %acc HL
  have e2 : inv2 c fl qf fz (mid fl V) (Scf.trips k0_t2_loop.lb k0_t2_loop.ub k0_t2_loop.st) acc = inv2 c fl qf fz (mid fl V) 98 acc := congrArg (fun n => inv2 c fl qf fz (mid fl V) n acc) trips2
  ihave HL' := (Entails.of_eq e2) $$ HL
  unfold inv2
  rw [show cnt fl 98 * NZ = NZ * nfl fl from Nat.mul_comm _ _]
  icases HL' with ⟨Hf, HB, HW⟩
  imod (Transfers.batch_collect' (countersEmb (U := UU)) (c : Thread nD τ) (by decide : 0 < NZ) (D := DZ c fl fz (mid fl V))) $$ HB with ⟨HD, Hs3⟩
  ihave HD' := (Entails.of_eq (DZ_all c fl fz (mid fl V))) $$ HD
  icases HD' with ⟨HOb, HZt⟩
  ihave HZ := (zero_toks fl c fz).2 $$ [HZr HZt]
  · isplitl [HZr]; · iexact HZr
    iexact HZt
  ihave HOr := (Entails.of_eq (out_unflg fl V c)) $$ HOr
  ihave HO := (out_flg fl c (mid fl V)).2 $$ [HOb HOr]
  · isplitl [HOb]; · iexact HOb
    iexact HOr
  ihave ⟨⟨H0, H1, H2, H3⟩, HOr⟩ := (out_hit tb c hd (mid fl V)).1 $$ HO
  ihave HOr := (Entails.of_eq (out_unhit tb fl fa fb V c)) $$ HOr
  ihave ⟨HR, HX0, HX1⟩ := (srcA_toks fa c).1 $$ HSA
  imod (Transfers.batch_alloc' (Lvl := ℕ) (countersEmb (U := UU)) (c : Thread nD τ) () NR (DA c tb fa (fin tb fl fa fb V)) (sm := .dma cc0_scratch1.sem) (E := Set.univ)) $$ Hs1 with HB
  sl_for (inv3 c tb qd fa (mid fl V) (fin tb fl fa fb V)) $$ [Hd HB H0 H2 HX0 HX1 HW]
  · intro j acc
    exact step3 c tb qd fa (mid fl V) (fin tb fl fa fb V) hin (holdsA tb fl fa fb V hd) i j acc
  · unfold inv3
    isplitl [Hd]; · iexact Hd
    isplitl [HB]; · iexact HB
    isplitl [H0]; · iexact H0
    isplitl [H2]; · iexact H2
    isplitl [HX0]; · iexact HX0
    isplitl [HX1]; · iexact HX1
    iexact HW
  iintro %acc HL
  have e3 : inv3 c tb qd fa (mid fl V) (fin tb fl fa fb V) (Scf.trips k0_t3_loop.lb k0_t3_loop.ub k0_t3_loop.st) acc = inv3 c tb qd fa (mid fl V) (fin tb fl fa fb V) 64 acc := congrArg (fun n => inv3 c tb qd fa (mid fl V) (fin tb fl fa fb V) n acc) trips3
  ihave HL' := (Entails.of_eq e3) $$ HL
  unfold inv3
  icases HL' with ⟨Hd, HB, -, -, -, -, HW⟩
  sl_for (inv5 c tb qd fa (fin tb fl fa fb V) (2 * (128 * 64)) (256 * (64 - 1) * NR)) $$ [Hd HB HW]
  · intro j acc
    exact step6 c tb qd fa (fin tb fl fa fb V) hin i _ _ (by rw [← Nat.add_mul, Nat.mul_comm NR]) j acc
  · unfold inv5
    isplitl [Hd]; · iexact Hd
    isplitl [HB]; · iapply (Entails.of_eq (by rw [Nat.mul_zero, Nat.zero_mul]; rfl)) $$ HB
    iexact HW
  iintro %acc HL
  have e6 : inv5 c tb qd fa (fin tb fl fa fb V) (2 * (128 * 64)) (256 * (64 - 1) * NR) (Scf.trips k0_t6_loop.lb k0_t6_loop.ub k0_t6_loop.st) acc = inv5 c tb qd fa (fin tb fl fa fb V) (2 * (128 * 64)) (256 * (64 - 1) * NR) 128 acc := congrArg (fun n => inv5 c tb qd fa (fin tb fl fa fb V) (2 * (128 * 64)) (256 * (64 - 1) * NR) n acc) trips6
  ihave HL' := (Entails.of_eq e6) $$ HL
  unfold inv5
  rw [show 256 * (64 - 1) * NR + 2 * 128 * NR = NR * (2 * (128 * 64)) by rw [← Nat.add_mul, Nat.mul_comm NR]]
  icases HL' with ⟨Hd, HB, HW⟩
  imod (Transfers.batch_collect' (countersEmb (U := UU)) (c : Thread nD τ) (by decide : 0 < NR) (D := DA c tb fa (fin tb fl fa fb V))) $$ HB with ⟨HD, Hs1⟩
  ihave HD' := (Entails.of_eq (DA_all c tb fa (fin tb fl fa fb V))) $$ HD
  icases HD' with ⟨⟨H0, HX0⟩, ⟨H2, HX1⟩⟩
  ihave HSA := (srcA_toks fa c).2 $$ [HR HX0 HX1]
  · isplitl [HR]; · iexact HR
    isplitl [HX0]; · iexact HX0
    iexact HX1
  ihave ⟨HR, HX0, HX1⟩ := (srcB_toks fb c).1 $$ HSB
  imod (Transfers.batch_alloc' (Lvl := ℕ) (countersEmb (U := UU)) (c : Thread nD τ) () NR (DB c tb fb (fin tb fl fa fb V)) (sm := .dma cc0_scratch2.sem) (E := Set.univ)) $$ Hs2 with HB
  sl_for (inv7 c tb qd fb (mid fl V) (fin tb fl fa fb V)) $$ [Hd HB H1 H3 HX0 HX1 HW]
  · intro j acc
    exact step7 c tb qd fb (mid fl V) (fin tb fl fa fb V) hin (holdsB tb fl fa fb V hd) i j acc
  · unfold inv7
    isplitl [Hd]; · iexact Hd
    isplitl [HB]; · iexact HB
    isplitl [H1]; · iexact H1
    isplitl [H3]; · iexact H3
    isplitl [HX0]; · iexact HX0
    isplitl [HX1]; · iexact HX1
    iexact HW
  iintro %acc HL
  have e7 : inv7 c tb qd fb (mid fl V) (fin tb fl fa fb V) (Scf.trips k0_t7_loop.lb k0_t7_loop.ub k0_t7_loop.st) acc = inv7 c tb qd fb (mid fl V) (fin tb fl fa fb V) 2 acc := congrArg (fun n => inv7 c tb qd fb (mid fl V) (fin tb fl fa fb V) n acc) trips7
  ihave HL' := (Entails.of_eq e7) $$ HL
  unfold inv7
  icases HL' with ⟨Hd, HB, -, -, -, -, HW⟩
  sl_for (inv9 c tb qd fb (fin tb fl fa fb V) (2 * (128 * 2)) (256 * (2 - 1) * NR)) $$ [Hd HB HW]
  · intro j acc
    exact step10 c tb qd fb (fin tb fl fa fb V) hin i _ _ (by rw [← Nat.add_mul, Nat.mul_comm NR]) j acc
  · unfold inv9
    isplitl [Hd]; · iexact Hd
    isplitl [HB]; · iapply (Entails.of_eq (by rw [Nat.mul_zero, Nat.zero_mul]; rfl)) $$ HB
    iexact HW
  iintro %acc HL
  have e10 : inv9 c tb qd fb (fin tb fl fa fb V) (2 * (128 * 2)) (256 * (2 - 1) * NR) (Scf.trips k0_t10_loop.lb k0_t10_loop.ub k0_t10_loop.st) acc = inv9 c tb qd fb (fin tb fl fa fb V) (2 * (128 * 2)) (256 * (2 - 1) * NR) 128 acc := congrArg (fun n => inv9 c tb qd fb (fin tb fl fa fb V) (2 * (128 * 2)) (256 * (2 - 1) * NR) n acc) trips10
  ihave HL' := (Entails.of_eq e10) $$ HL
  unfold inv9
  rw [show 256 * (2 - 1) * NR + 2 * 128 * NR = NR * (2 * (128 * 2)) by rw [← Nat.add_mul, Nat.mul_comm NR]]
  icases HL' with ⟨Hd, HB, HW⟩
  imod (Transfers.batch_collect' (countersEmb (U := UU)) (c : Thread nD τ) (by decide : 0 < NR) (D := DB c tb fb (fin tb fl fa fb V))) $$ HB with ⟨HD, Hs2⟩
  ihave HD' := (Entails.of_eq (DB_all c tb fb (fin tb fl fa fb V))) $$ HD
  icases HD' with ⟨⟨H1, HX0⟩, ⟨H3, HX1⟩⟩
  ihave HSB := (srcB_toks fb c).2 $$ [HR HX0 HX1]
  · isplitl [HR]; · iexact HR
    isplitl [HX0]; · iexact HX0
    iexact HX1
  ihave HO := (out_hit tb c hd (fin tb fl fa fb V)).2 $$ [H0 H1 H2 H3 HOr]
  · isplitr [HOr]
    · isplitl [H0]; · iexact H0
      isplitl [H1]; · iexact H1
      isplitl [H2]; · iexact H2
      iexact H3
    iexact HOr
  sl_step
  isplitl [Hd]; · iexact Hd
  isplitl [Hf]; · iexact Hf
  isplitl [HSA]; · iexact HSA
  isplitl [HSB]; · iexact HSB
  isplitl [HO]; · iexact HO
  isplitl [HZ]; · iexists fz; iexact HZ
  isplitl [Hs1]; · iexact Hs1
  isplitl [Hs2]; · iexact Hs2
  isplitl [Hs3]; · iexact Hs3
  iexact HW

end Cert.KernelIdeal.Disp
-- ==== Proof.Run.lean ====
/- The dispatch launched: its whole run, with what its result holds. -/
module

public import proofs.«01_k».proof.Proof.Body

@[expose] public section

set_option maxRecDepth 16384

noncomputable section

namespace Cert.KernelIdeal.Disp

open Cert.KernelIdeal Cert.KernelIdeal.Gen
open Idealize.ShloMosaic Idealize.ShloMosaic.TcCoe Idealize.ShloMosaic.Tactic
open Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (m : (ℓ : Loc nD τ sig) → Buf (Elt F) ℓ)

/-- The contents at entry. -/
abbrev V0 (c : Dev nD) (b : Ref sig .tc) : Buf (Elt F) ((c.tc : Thread nD τ).loc b) := m ((c.tc : Thread nD τ).loc b)
/-- What the result holds at the end. -/
abbrev outV (c : Dev nD) : S25088x1024.Idx → Elt F .i32 := fin (V0 m c main_arg0) (V0 m c main_arg1) (V0 m c main_arg2) (V0 m c main_arg3) (V0 m c main_v0)
/-- The contents at the end. -/
def V1 (c : Dev nD) : (b : Ref sig .tc) → Buf (Elt F) ((c.tc : Thread nD τ).loc b) := Function.update (V0 m c) main_v0 (outV m c)

/-- The kernel's own DMA semaphores. -/
abbrev osem : Fin 3 → SemLoc sig := fun | 0 => .dma cc0_scratch1.sem | 1 => .dma cc0_scratch2.sem | 2 => .dma cc0_scratch3.sem
theorem ownFacts : Pipeline.OwnSemFacts spec0 osem := by decide

/-- The tables at entry. -/
abbrev tabs (p : Fin 1) : (pcfgs (F := F) p).Adm := ⟨fun k => V0 m (0 : Dev nD) (pre0.ref k), trivial⟩

/-- The proof data. -/
def dats (p : Fin 1) (c : Dev nD) : Pipeline.Dat τ (Elt F) Unit ℕ UU ℕ (Pipeline.pin pcfgs (tabs m) p) c where
  A w := V0 m c (Pipeline.arrRef spec0 w)
  after w _ := match w with
    | 0 => V0 m c main_arg2
    | 1 => V0 m c main_arg3
    | ⟨_ + 2, h⟩ => absurd h (Nat.not_lt.2 (Nat.le_add_left _ _))
  Φ t := iprop(Pipeline.ΦDRG osem spec0 ∅ {main_v0} (V0 m) (if t.val = 0 then V0 m else V1 m) c ∗ Pipeline.ΦT pre0 (tabs m p).1 c)
  q _ := fullShare
  owed _ := 0

theorem before_eq (w : Fin 2) (c : Dev nD) (d) : (dats m 0 c).before w t0_0 d = (dats m 0 c).after w t0_0 := by
  unfold Pipeline.Dat.before
  match w with
  | 0 =>
    refine (if_pos rfl).trans ?_
    funext x
    show V0 m c main_arg2 _ = V0 m c main_arg2 _
    congr 1
    funext a
    apply Fin.ext
    show cc0_transform_0 (grid0.coords t0_0) a * S8192x1024.size a + 1 * (x a).val = (x a).val
    have h0 : cc0_transform_0 (grid0.coords t0_0) a = 0 := by fin_cases a <;> rfl
    rw [h0]; omega
  | 1 =>
    refine (if_pos rfl).trans ?_
    funext x
    show V0 m c main_arg3 _ = V0 m c main_arg3 _
    congr 1
    funext a
    apply Fin.ext
    show cc0_transform_1 (grid0.coords t0_0) a * S256x1024.size a + 1 * (x a).val = (x a).val
    have h0 : cc0_transform_1 (grid0.coords t0_0) a = 0 := by fin_cases a <;> rfl
    rw [h0]; omega
theorem body_obl [∀ e, Nonempty (Elt F e)] (hin : ∀ c, InRange (V0 m c main_arg0)) (hd : ∀ c, Distinct (V0 m c main_arg0)) (p : Fin 1) (c : Dev nD) :
    Pipeline.BodyObligationLoose (dats m p c) defs₀ Variants.none () Set.univ := by
  intro t
  obtain rfl : p = 0 := Subsingleton.elim _ _
  obtain rfl : c = 0 := Subsingleton.elim _ _
  obtain rfl := fin_N0 t
  rw [bigSep_W0, bigSep_W0]
  have hD : ∀ W : (b : Ref sig .tc) → Buf (Elt F) (((0 : Dev nD).tc : Thread nD τ).loc b), (Pipeline.routed {main_v0} (0 : Dev nD) W : sProp 𝕄) = iprop(mOut.view.loc ((0 : Dev nD) : Thread nD τ) ↦[Finset.univ]{fullShare} W main_v0) := fun W => by
    unfold Pipeline.routed; rw [bigSep_singleton]
  have hΦ0 : (dats m 0 0).Φ t0_0.castSucc = iprop(Pipeline.ΦDRG osem spec0 ∅ {main_v0} (V0 m) (V0 m) 0 ∗ Pipeline.ΦT pre0 (tabs m 0).1 0) := rfl
  have hΦ1 : (dats m 0 0).Φ t0_0.succ = iprop(Pipeline.ΦDRG osem spec0 ∅ {main_v0} (V0 m) (V1 m) 0 ∗ Pipeline.ΦT pre0 (tabs m 0).1 0) := rfl
  have hS : (Pipeline.ownSems0 (Ix := Unit) (Name := ℕ) (U := UU) (Lvl := ℕ) (Val := Elt F) (τ := τ) osem (0 : Dev nD) : sProp 𝕄)
      = iprop(semVal (((0 : Dev nD) : Thread nD τ), SemLoc.dma cc0_scratch1.sem) 0 ∗ semVal (((0 : Dev nD) : Thread nD τ), SemLoc.dma cc0_scratch2.sem) 0 ∗ semVal (((0 : Dev nD) : Thread nD τ), SemLoc.dma cc0_scratch3.sem) 0) :=
    bigSep_univ_eq_bigSepL [(0 : Fin 3), (1 : Fin 3), (2 : Fin 3)] (by decide) (by decide) _
  have hT : (Pipeline.ΦT pre0 (tabs m 0).1 (0 : Dev nD) : sProp 𝕄) = iprop((mDest.view.loc ((0 : Dev nD) : Thread nD τ) ↦[Finset.univ]{fullShare.right} V0 m 0 main_arg0) ∗ (mFlag.view.loc ((0 : Dev nD) : Thread nD τ) ↦[Finset.univ]{fullShare.right} V0 m 0 main_arg1)) :=
    bigSep_univ_eq_bigSepL [(0 : Fin 2), (1 : Fin 2)] (by decide) (by decide) _
  rw [hΦ0, hΦ1, Pipeline.ΦDRG_eq, Pipeline.ΦDRG_eq, scopedRest0_eq, hS, hT, hD, hD, bigSep_empty]
  have hw : ∀ (w : Fin 2) (d), (dats m 0 0).before w t0_0 d = (dats m 0 0).after w t0_0 := fun w d => before_eq m w 0 d
  simp only [hw]
  have hV1 : V1 m 0 main_v0 = outV m 0 := Function.update_self _ _ _
  rw [hV1]
  have h2 : ∀ (X : S8192x1024.Idx → Elt F .i32), (owns ((0 : Dev nD) : Thread nD τ) (spec0_0.stage (((Pipeline.pin (pcfgs (F := F)) (tabs m) 0).slots t0_0 0 : Fin 1))) fullShare X : sProp 𝕄) = iprop(mA.view.loc ((0 : Dev nD) : Thread nD τ) ↦[Finset.univ]{fullShare} X) := fun X => owns_whole _ _ _ _
  have h3 : ∀ (X : S256x1024.Idx → Elt F .i32), (owns ((0 : Dev nD) : Thread nD τ) (spec0_1.stage (((Pipeline.pin (pcfgs (F := F)) (tabs m) 0).slots t0_0 1 : Fin 1))) fullShare X : sProp 𝕄) = iprop(mB.view.loc ((0 : Dev nD) : Thread nD τ) ↦[Finset.univ]{fullShare} X) := fun X => owns_whole _ _ _ _
  have ha0 : (dats m 0 0).after 0 t0_0 = V0 m 0 main_arg2 := rfl
  have ha1 : (dats m 0 0).after 1 t0_0 = V0 m 0 main_arg3 := rfl
  rw [ha0, ha1]
  have hb := body_run (V0 m 0 main_arg0) (V0 m 0 main_arg1) (V0 m 0 main_arg2) (V0 m 0 main_arg3) (V0 m 0 main_v0) 0 fullShare.right fullShare.right
    (hin 0) (hd 0) (grid0.coords t0_0)
  refine BIBase.Entails.trans ?_ (BIBase.Entails.trans (BIClass.sep_mono hb (BIBase.Entails.rfl (P := iprop(∃ r, prngReg (0 : Dev nD) r)))) (BIBase.Entails.trans (wp_frame_r _ _ _) (wp_mono _ _ _ fun _ => ?_)))
  · iintro ⟨⟨⟨HZ, Hr, ⟨Hs1, Hs2, Hs3⟩, -, HO⟩, Hd, Hf⟩, ⟨%W, -, HW⟩, ⟨%d0, HA⟩, ⟨%d1, HB⟩⟩
    ihave HA := (Entails.of_eq (h2 _)) $$ HA
    ihave HB := (Entails.of_eq (h3 _)) $$ HB
    isplitr [Hr]
    · isplitl [Hd]; · iexact Hd
      isplitl [Hf]; · iexact Hf
      isplitl [HA]; · iexact HA
      isplitl [HB]; · iexact HB
      isplitl [HO]; · iexact HO
      isplitl [HZ]; · iexact HZ
      isplitl [Hs1]; · iexact Hs1
      isplitl [Hs2]; · iexact Hs2
      isplitl [Hs3]; · iexact Hs3
      iexists W; iexact HW
    · iexact Hr
  · iintro ⟨⟨Hd, Hf, HA, HB, HO, HZ, Hs1, Hs2, Hs3, ⟨%W, HW⟩⟩, Hr⟩
    ihave HA := (Entails.of_eq (h2 _).symm) $$ HA
    ihave HB := (Entails.of_eq (h3 _).symm) $$ HB
    isplitr [HW HA HB]
    · isplitr [Hd Hf]
      · isplitl [HZ]; · iexact HZ
        isplitl [Hr]; · iexact Hr
        isplitl [Hs1 Hs2 Hs3]
        · isplitl [Hs1]; · iexact Hs1
          isplitl [Hs2]; · iexact Hs2
          iexact Hs3
        isplitr; · iempintro
        iexact HO
      · isplitl [Hd]; · iexact Hd
        iexact Hf
    · isplitl [HW]
      · iexists W
        isplitr
        · ipureintro
          exact fun x _ => Or.inl trivial
        · iexact HW
      · isplitl [HA]; · iexact HA
        iexact HB

theorem rest0 : main_arg0 ∈ Pipeline.restRefs sig spec0 \ {main_v0} := by decide
theorem rest1 : main_arg1 ∈ Pipeline.restRefs sig spec0 \ {main_v0} := by decide

theorem run_main [∀ e, Nonempty (Elt F e)] (g : Dev nD → PrngReg) (hin : ∀ c, InRange (V0 m c main_arg0)) (hd : ∀ c, Distinct (V0 m c main_arg0)) :
    θ_run (defs (F := F)) (onTc (τ := τ) (main (F := F))) ⟨m, fun _ => 0, g⟩ (fun r =>
      (∀ c : Dev nD, r.2.mem ((c.tc : Thread nD τ).loc main_v0) = outV m c
        ∧ r.2.mem ((c.tc : Thread nD τ).loc main_arg0) = V0 m c main_arg0 ∧ r.2.mem ((c.tc : Thread nD τ).loc main_arg1) = V0 m c main_arg1
        ∧ r.2.mem ((c.tc : Thread nD τ).loc main_arg2) = V0 m c main_arg2 ∧ r.2.mem ((c.tc : Thread nD τ).loc main_arg3) = V0 m c main_arg3)
      ∧ r.2.sem = fun _ => 0) := by
  refine Pipeline.θ_run_frameP_dmaRG (pcfgs (F := F)) (tabs m) (dats m) 0 launch0 osem defs₀ Variants.none ownFacts ∅ {main_v0}
    (Finset.empty_subset _) (by decide : ({main_v0} : Finset (Ref sig .tc)) ⊆ Pipeline.restRefsP sig pre0 spec0 \ ∅) m g main (body_obl m hin hd 0) (fun c w => by unfold Pipeline.Dat.share; split <;> rfl) (fun c t => rfl) (V0 m)
    (Pipeline.hmainP_region _ _ _ _ m main (fun c => rfl)) (fun c w => rfl) (fun c k => by obtain rfl : c = 0 := Subsingleton.elim _ _; rfl) (V1 m) (fun c => .rfl) (fun c => ?_) _ ?_
  · show iprop(Pipeline.ΦDRG osem spec0 ∅ {main_v0} (V0 m) (V1 m) c ∗ Pipeline.ΦT pre0 (tabs m 0).1 c) ⊢ Pipeline.ΦDRG osem spec0 ∅ {main_v0} (V0 m) (V1 m) c
    iintro ⟨H, -⟩
    iexact H
  · rintro r ⟨h, hs⟩
    refine ⟨fun c => ?_, hs⟩
    have hR := h.2 c main_v0 (Finset.mem_singleton_self _)
    have hW := (h.1 c).1
    have hT := (h.1 c).2
    refine ⟨hR.trans (Function.update_self _ _ _), hT main_arg0 rest0, hT main_arg1 rest1, ?_, ?_⟩
    · exact (hW 0).trans ((dats m 0 c).arrAt_in 0 rfl _)
    · exact (hW 1).trans ((dats m 0 c).arrAt_in 1 rfl _)

end Cert.KernelIdeal.Disp
-- ==== Proof.Pre.lean ====
/- What the precondition says of the tables: every slot in range, no two rows to one slot, every slot filled or in a flagged block. -/
module

public import proofs.«01_k».proof.Proof.Split
public import proofs.«01_k».proof.Proof.Gen.Pre_distinct_slots
public import Idealize.ShloMosaic.Lib.Pipeline.Value
public import Idealize.ShloMosaic.Lib.ReduceAll
public import Idealize.ShloMosaic.Lib.WordArith

@[expose] public section

set_option maxRecDepth 16384

noncomputable section

namespace Cert.KernelIdeal.Disp

open Cert.KernelIdeal
open Idealize.ShloMosaic
open Idealize.ShloMosaic.StableHlo.Predicate

variable {F : FTy → Type} [FloatOps F]

/-- Every slot is some row's or lies in a flagged block. -/
def Covered (tb : S16896.Idx → BitVec 32) (fl : S98.Idx → BitVec 32) : Prop :=
  ∀ r, r < 25088 → (∃ j, j < 16896 ∧ dst tb j = r) ∨ flg fl (r / 256)

theorem foldl_ori_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_one f l _ h with h | ⟨n, hn, e⟩
    · rcases IntOp.ori_eq_one.1 h with h | h
      · exact Or.inl h
      · exact Or.inr ⟨a, List.mem_cons_self .., h⟩
    · exact Or.inr ⟨n, List.mem_cons_of_mem _ hn, e⟩

theorem ofFin_eq {n : ℕ} (p : Fin n) : (Shape.Idx.ofFin p : (⟨1, ![n]⟩ : Shape).Idx) = (fun | ⟨0, _⟩ => p) := by
  funext a; match a with | ⟨0, _⟩ => rfl

theorem dst_ofFin (tb : S16896.Idx → BitVec 32) (p : Fin 16896) : dst tb p.val = (tb (Shape.Idx.ofFin p)).toNat := by
  exact (dst_eq tb p.isLt).symm.trans (congrArg (fun k => (tb k).toNat) (funext fun a => match a with | ⟨0, _⟩ => rfl))

theorem slots_of_pre (tb : IVec S16896 32) (fl : IVec S98 32) (fa : IVec S8192x1024 32) (fb : IVec S256x1024 32)
    (h : Cert.Pre_distinct_slots.fn (F := F) tb fl fa fb = fun _ => 1#1) : InRange tb ∧ Distinct tb ∧ Covered tb fl := by
  have h := congrFun h (fun a => a.elim0)
  unfold Cert.Pre_distinct_slots.fn Cert.Pre_distinct_slots.fn_part1 at h
  change IntOp.andi (IntOp.andi (Host.reduce IntOp.andi _ _ _ _ _) (Host.reduce IntOp.andi _ _ _ _ _)) (Host.reduce IntOp.andi _ _ _ _ _) = 1#1 at h
  obtain ⟨h, h3⟩ := IntOp.andi_eq_one.1 h
  obtain ⟨h1, h2⟩ := IntOp.andi_eq_one.1 h
  clear h
  haveI : Subsingleton (Cert.Pre_distinct_slots.S_).Idx := ⟨fun a b => funext fun x => x.elim0⟩
  have H1 := Host.reduce_andi_all _ _ _ _ _ h1
  have H2 := Host.reduce_andi_all _ _ _ _ _ h2
  have H3 := Host.reduce_andi_all _ _ _ _ _ h3
  clear h1 h2 h3
  have hA : InRange tb := by
    intro j hj
    have e := H1 (Shape.Idx.ofFin ⟨j, hj⟩)
    change IntOp.andi (BitVec.ofBool (BitVec.sle 0#32 (tb (Shape.Idx.ofFin ⟨j, hj⟩)))) (BitVec.ofBool (BitVec.slt (tb (Shape.Idx.ofFin ⟨j, hj⟩)) 25088#32)) = 1#1 at e
    obtain ⟨e1, e2⟩ := IntOp.andi_eq_one.1 e
    clear H1 H2 H3
    have := dst_ofFin tb ⟨j, hj⟩
    rw [show dst tb j = _ from this]
    exact WordArith.toNat_lt_of_zero_sle_of_slt_ofNat _ 25088 (by decide) ((ofBool_eq_one_iff _).1 e1) ((ofBool_eq_one_iff _).1 e2)
  have hB : Distinct tb := by
    intro j hj j' hj' e
    have H := H2 (ij ⟨j, hj⟩ ⟨j', hj'⟩)
    clear H1 H2 H3
    change IntOp.ori (IntOp.cmpi .ne (broadcastInDim _ _ _ (broadcastInDim _ _ _ tb) (ij ⟨j, hj⟩ ⟨j', hj'⟩)) (broadcastInDim _ _ _ (broadcastInDim _ _ _ tb) (ij ⟨j, hj⟩ ⟨j', hj'⟩)))
      (IntOp.cmpi .eq (broadcastInDim _ _ _ (broadcastInDim _ _ _ (iotaInDim _ 32 0)) (ij ⟨j, hj⟩ ⟨j', hj'⟩)) (broadcastInDim _ _ _ (broadcastInDim _ _ _ (iotaInDim _ 32 0)) (ij ⟨j, hj⟩ ⟨j', hj'⟩))) = 1#1 at H
    rw [bcast_rows, bcast_cols, bcast_rows, bcast_cols, iota_apply, iota_apply] at H
    have ee : tb (Shape.Idx.ofFin ⟨j, hj⟩) = tb (Shape.Idx.ofFin ⟨j', hj'⟩) := by
      have a1 := dst_ofFin tb ⟨j, hj⟩
      have a2 := dst_ofFin tb ⟨j', hj'⟩
      exact BitVec.eq_of_toNat_eq (a1.symm.trans (Eq.trans e a2))
    rcases IntOp.ori_eq_one.1 H with H | H
    · rw [ee] at H
      simp [IntOp.cmpi] at H
    · have := congrArg BitVec.toNat (cmpi_eq_iff.1 H)
      simp only [BitVec.toNat_ofNat] at this
      omega
  have hC : Covered tb fl := by
    intro r hr
    have hb : r / 256 < 98 := by omega
    have hy : r % 256 < 256 := Nat.mod_lt _ (by decide)
    have H := H3 (ij ⟨r / 256, hb⟩ ⟨r % 256, hy⟩)
    clear H1 H2 H3
    change IntOp.ori (shapeCast _ (Host.reduce IntOp.ori _ _ _ _) _ (ij ⟨r / 256, hb⟩ ⟨r % 256, hy⟩))
      (broadcastInDim _ _ _ (broadcastInDim _ _ _ (cmpi .ne fl _)) (ij ⟨r / 256, hb⟩ ⟨r % 256, hy⟩)) = 1#1 at H
    rcases IntOp.ori_eq_one.1 H with H | H
    · left
      rw [shapeCast_apply _ _ _ (Shape.Idx.ofFin ⟨r, hr⟩) (by
        rw [Shape.rowMajor_val_one, Shape.rowMajor_val_two]
        show r = r / 256 * 256 + r % 256
        omega), Host.reduce_eq_foldl] at H
      rcases foldl_ori_one _ _ _ H with H | ⟨n, hn, H⟩
      · exact absurd H (by decide)
      · obtain ⟨a, b, rfl⟩ : ∃ (a : Fin 25088) (b : Fin 16896), n = ij a b := ⟨n 0, n 1, (ij_eta n).symm⟩
        have hd := of_decide_eq_true (List.mem_filter.1 hn).2
        have hd0 := congrArg Fin.val (congrFun hd 0)
        rw [Shape.ReducesTo.drop_apply_val_of_eq _ _ 0 0] at hd0
        change a.val = r at hd0
        change IntOp.cmpi .eq (broadcastInDim _ _ _ (broadcastInDim _ _ _ tb) (ij a b)) (broadcastInDim _ _ _ (broadcastInDim _ _ _ (iotaInDim _ 32 0)) (ij a b)) = 1#1 at H
        rw [bcast_rows, bcast_cols, iota_apply] at H
        have e := congrArg BitVec.toNat (cmpi_eq_iff.1 H)
        refine ⟨b.val, b.isLt, ?_⟩
        rw [dst_ofFin tb b, e, BitVec.toNat_ofNat, hd0]
        exact Nat.mod_eq_of_lt (lt_trans hr (by decide))
    · right
      rw [bcast_rows] at H
      refine ⟨hb, fun e => ?_⟩
      replace e : fl (Shape.Idx.ofFin ⟨r / 256, hb⟩) = 0#32 := by
        refine Eq.trans (congrArg fl ?_) e
        funext a; match a with | ⟨0, _⟩ => rfl
      change IntOp.cmpi .ne (fl (Shape.Idx.ofFin ⟨r / 256, hb⟩)) 0#32 = 1#1 at H
      rw [e] at H
      exact absurd H (by decide)
  exact ⟨hA, hB, hC⟩

end Cert.KernelIdeal.Disp
-- ==== Proof.RefValue.lean ====
/- The reference's result: a slot's row is its source row, every other row zero. -/
module

public import proofs.«01_k».proof.Proof.Pre
public import proofs.«01_k».proof.Proof.Result
public import proofs.«01_k».proof.Proof.Gen.ReferenceIdeal.Run
public import Idealize.ShloMosaic.Lib.Routing.OpsSet
public import Idealize.ShloMosaic.Lib.Routing.Ops

@[expose] public section

set_option maxRecDepth 16384

noncomputable section

namespace Cert.ReferenceIdeal.Disp

open Cert.ReferenceIdeal Cert.ReferenceIdeal.Gen
open Cert.KernelIdeal.Disp (dst InRange Distinct Covered dst_ofFin fin srcRow fin_hit fin_miss mid flg)
open Idealize.ShloMosaic
open Idealize.ShloMosaic.StableHlo.Predicate

variable {F : FTy → Type} [FloatOps F]

/-- Update `i` of a scatter of `M` scalars into a vector of `N`, one index each, lands at `x` exactly when its index is `x`. -/
theorem lands {N M : Nat} (d : ScatterDims ⟨1, ![N]⟩ ⟨2, ![M, 1]⟩ ⟨1, ![M]⟩) (hiw : d.insertedWindowDims = [0])
    (hsd : d.scatterDimsToOperandDims = [0]) (hivd : d.indexVectorDim = 1) (idx : IVec ⟨2, ![M, 1]⟩ 32) (i : Fin M) (x : Fin N) :
    d.resultIdx? (Shape.Idx.ofFin i) idx = some (Shape.Idx.ofFin x) ↔ (idx (ixP i)).toInt = (x.val : Int) := by
  have hw : ∀ a, d.window (Shape.Idx.ofFin i) a = 0 := fun a => by
    unfold ScatterDims.window
    refine dif_neg fun h => (of_decide_eq_true (List.mem_filter.1 h).2) ?_
    rw [hiw, Subsingleton.elim a 0]; exact List.mem_singleton.2 rfl
  have hs : ∀ a, d.start (Shape.Idx.ofFin i) idx a = (idx (ixP i)).toInt := fun a => by
    obtain rfl : a = 0 := Subsingleton.elim _ _
    unfold ScatterDims.start
    rw [dif_pos (by rw [hsd]; exact List.mem_singleton.2 rfl)]
    refine congrArg (fun k => (idx k).toInt) (funext fun b => Fin.ext ?_)
    unfold ScatterDims.siIdx
    match b with
    | ⟨0, _⟩ =>
      rw [dif_neg (by rw [hivd]; exact Nat.zero_ne_one)]
      unfold ScatterDims.siCoord
      rw [Fin.val_cast]
      exact congrArg (fun X : Fin 1 => ((Shape.Idx.ofFin i : (⟨1, ![M]⟩ : Shape).Idx) X).val) (Subsingleton.elim _ (0 : Fin 1))
    | ⟨1, _⟩ =>
      rw [dif_pos (by rw [hivd])]
      show List.idxOf (0 : Fin 1) d.scatterDimsToOperandDims = 0
      rw [hsd]; simp
  unfold ScatterDims.resultIdx?
  simp only [hw, hs]
  have hx := x.isLt
  split
  · next h =>
    constructor
    · intro e
      have e0 := congrArg Fin.val (congrFun (Option.some.inj e) 0)
      change ((idx (ixP i)).toInt + ((0 : ℕ) : Int)).toNat = x.val at e0
      have h0 := (h 0).1
      omega
    · intro e
      refine congrArg some (funext fun a => Fin.ext ?_)
      obtain rfl : a = 0 := Subsingleton.elim _ _
      show ((idx (ixP i)).toInt + ((0 : ℕ) : Int)).toNat = x.val
      omega
  · next h =>
    refine ⟨fun e => (nomatch e), fun e => (h fun a => ?_).elim⟩
    obtain rfl : a = 0 := Subsingleton.elim _ _
    show 0 ≤ (idx (ixP i)).toInt + ((0 : ℕ) : Int) ∧ (idx (ixP i)).toInt + ((0 : ℕ) : Int) < (N : Int)
    omega

/-- The sources' rows' numbers, twice over. -/
abbrev stok : IVec S16896 32 := shapeCast _ (broadcastInDim S2x8448 ![0, 1] bcast_S1x8448_S2x8448_0_1 (shapeCast _ (iotaInDim S8448 32 0) shapeCasts_S8448_S1x8448)) shapeCasts_S2x8448_S16896

theorem stok_eq (j : Fin 16896) : stok (Shape.Idx.ofFin j) = BitVec.ofNat 32 (j.val % 8448) := by
  have hj := j.isLt
  unfold stok
  rw [shapeCast_apply _ _ _ (ij (n := 2) (m := 8448) ⟨j.val / 8448, by omega⟩ ⟨j.val % 8448, by omega⟩) (by
    rw [Shape.rowMajor_val_one, Shape.rowMajor_val_two]
    show j.val / 8448 * 8448 + j.val % 8448 = j.val
    omega), bcast_of_row, shapeCast_apply _ _ _ (Shape.Idx.ofFin (n := 8448) ⟨j.val % 8448, by omega⟩) (by
    rw [Shape.rowMajor_val_one, Shape.rowMajor_val_two]
    show j.val % 8448 = 0 * 8448 + j.val % 8448
    omega)]
  rfl

variable (tb : IVec S16896 32) (fa : IVec S8192x1024 32) (fb : IVec S256x1024 32)

/-- A negative index counted from the end. -/
abbrev wrapT : IVec S16896 32 := select (cmpi .slt tb (broadcastInDim S16896 ![] bcast_S_S16896 (constantI S_ 32 0#32))) (addi tb (broadcastInDim S16896 ![] bcast_S_S16896 (constantI S_ 32 25088#32))) tb
/-- The row number each slot is given, 8448 where none is. -/
abbrev rowTok : IVec S25088 32 := Host.scatter scatter_S25088_S16896x1_S16896_n_0_0_1 (fun _ b => b) (broadcastInDim S25088 ![] bcast_S_S25088 (constantI S_ 32 8448#32))
  (broadcastInDim S16896x1 ![0] bcast_S16896_S16896x1_0 (wrapT tb)) stok
/-- The same, a negative index counted from the end. -/
abbrev wrapR : IVec S25088 32 := select (cmpi .slt (rowTok tb) (broadcastInDim S25088 ![] bcast_S_S25088 (constantI S_ 32 0#32))) (addi (rowTok tb) (broadcastInDim S25088 ![] bcast_S_S25088 (constantI S_ 32 8449#32))) (rowTok tb)
/-- The two sources end to end, a row of zeros after. -/
abbrev xpad : IVec S8449x1024 32 := concatenate S8449x1024 0 [⟨S8192x1024, fa⟩, ⟨S256x1024, fb⟩, ⟨S1x1024, broadcastInDim S1x1024 ![] bcast_S_S1x1024 (constantI S_ 32 0#32)⟩] concatenates_S8192x1024_S256x1024_S1x1024_S8449x1024_d0
/-- The reference's result. -/
abbrev out : IVec S25088x1024 32 := Host.gather gather_S8449x1024_S25088x1_S25088x1024_1_0_n_n_0_1_11024 (xpad fa fb) (broadcastInDim S25088x1 ![0] bcast_S25088_S25088x1_0 (wrapR tb))

theorem not_slt_zero {w : BitVec 32} (h : w.toNat < 2 ^ 31) : IntOp.cmpi .slt w 0#32 ≠ 1#1 := fun e => by
  have := (slt_iff_toNat h (by decide)).1 e
  simp at this

theorem wrapT_eq (hin : InRange tb) (j : Fin 16896) : wrapT tb (Shape.Idx.ofFin j) = tb (Shape.Idx.ofFin j) := by
  have h : (tb (Shape.Idx.ofFin j)).toNat < 2 ^ 31 := by rw [← dst_ofFin]; exact lt_trans (hin _ j.isLt) (by decide)
  exact if_neg (not_slt_zero h)

theorem lands_slot (hin : InRange tb) (j : Fin 16896) (r : Fin 25088) :
    scatter_S25088_S16896x1_S16896_n_0_0_1.resultIdx? (Shape.Idx.ofFin j) (broadcastInDim S16896x1 ![0] bcast_S16896_S16896x1_0 (wrapT tb)) = some (Shape.Idx.ofFin r)
      ↔ dst tb j.val = r.val := by
  refine (lands scatter_S25088_S16896x1_S16896_n_0_0_1 rfl rfl rfl _ j r).trans ?_
  rw [bcast_col1, wrapT_eq tb hin, dst_ofFin]
  have h : (tb (Shape.Idx.ofFin j)).toNat < 2 ^ 31 := by rw [← dst_ofFin]; exact lt_trans (hin _ j.isLt) (by decide)
  rw [toInt_eq_toNat_of_lt h]
  exact Int.ofNat_inj

theorem idx1_eta {n : ℕ} (k : (⟨1, ![n]⟩ : Shape).Idx) : k = Shape.Idx.ofFin (k 0) := by
  funext a; match a with | ⟨0, _⟩ => rfl

theorem rowTok_hit (hin : InRange tb) (hd : Distinct tb) (j : Fin 16896) (r : Fin 25088) (e : dst tb j.val = r.val) :
    rowTok tb (Shape.Idx.ofFin r) = BitVec.ofNat 32 (j.val % 8448) := by
  refine Routing.scatter_set_hit _ _ _ _ _ _ (fun k hk => ?_) (Shape.Idx.ofFin j) ((lands_slot tb hin j r).2 e)
  rw [idx1_eta k] at hk ⊢
  have e' := (lands_slot tb hin _ r).1 hk
  rw [show (k 0 : Fin 16896) = j from Fin.ext (hd _ (k 0).isLt _ j.isLt (e'.trans e.symm))]
  exact stok_eq j

theorem rowTok_miss (hin : InRange tb) (r : Fin 25088) (h : ¬ ∃ j, j < 16896 ∧ dst tb j = r.val) :
    rowTok tb (Shape.Idx.ofFin r) = 8448#32 := by
  refine (Routing.scatter_set_miss _ _ _ _ _ (fun k hk => ?_)).trans rfl
  rw [idx1_eta k] at hk
  exact h ⟨(k 0).val, (k 0).isLt, (lands_slot tb hin _ r).1 hk⟩

theorem wrap_eq (T : IVec S25088 32) (r : Fin 25088) (n : ℕ) (hn : n < 8449) (e : T (Shape.Idx.ofFin r) = BitVec.ofNat 32 n) :
    select (cmpi .slt T (broadcastInDim S25088 ![] bcast_S_S25088 (constantI S_ 32 0#32))) (addi T (broadcastInDim S25088 ![] bcast_S_S25088 (constantI S_ 32 8449#32))) T (Shape.Idx.ofFin r) = BitVec.ofNat 32 n := by
  have h : (T (Shape.Idx.ofFin r)).toNat < 2 ^ 31 := by rw [e, BitVec.toNat_ofNat]; exact lt_of_le_of_lt (Nat.mod_le _ _) (by omega)
  exact (if_neg (not_slt_zero h)).trans e

theorem wrapR_eq (r : Fin 25088) (n : ℕ) (hn : n < 8449) (e : rowTok tb (Shape.Idx.ofFin r) = BitVec.ofNat 32 n) :
    wrapR tb (Shape.Idx.ofFin r) = BitVec.ofNat 32 n := wrap_eq (rowTok tb) r n hn e

theorem row_of (X : IVec S8449x1024 32) (W : IVec S25088 32) (r : Fin 25088) (y : Fin 1024) (n : Fin 8449) (e : W (Shape.Idx.ofFin r) = BitVec.ofNat 32 n.val) :
    Host.gather gather_S8449x1024_S25088x1_S25088x1024_1_0_n_n_0_1_11024 X (broadcastInDim S25088x1 ![0] bcast_S25088_S25088x1_0 W) (ValueIdx.ix2 r y) = X (ValueIdx.ix2 n y) := by
  refine Routing.gather_row gather_S8449x1024_S25088x1_S25088x1024_1_0_n_n_0_1_11024 rfl rfl rfl rfl rfl _ _ r y n ?_ (by decide)
  refine Eq.trans ?_ e
  have hi : (ValueIdx.ix2 r 0 : (⟨2, ![25088, 1]⟩ : Shape).Idx) = ixP r := by
    funext a; match a with | ⟨0, _⟩ => rfl | ⟨1, _⟩ => rfl
  exact (congrArg (broadcastInDim S25088x1 ![0] bcast_S25088_S25088x1_0 W) hi).trans (bcast_col1 _ _ r)

theorem out_row (r : Fin 25088) (y : Fin 1024) (n : ℕ) (hn : n < 8449) (e : rowTok tb (Shape.Idx.ofFin r) = BitVec.ofNat 32 n) :
    out tb fa fb (ValueIdx.ix2 r y) = xpad fa fb (ValueIdx.ix2 ⟨n, hn⟩ y) :=
  row_of (xpad fa fb) (wrapR tb) r y ⟨n, hn⟩ (wrapR_eq tb r n hn e)

/-- The sources' pieces, the row of zeros last. -/
abbrev pieces : List ((s : Shape) × IVec s 32) := [⟨S8192x1024, fa⟩, ⟨S256x1024, fb⟩, ⟨S1x1024, broadcastInDim S1x1024 ![] bcast_S_S1x1024 (constantI S_ 32 0#32)⟩]

theorem xpad_a (n : ℕ) (hn : n < 8449) (y : Fin 1024) (h : n < 8192) : xpad fa fb (ValueIdx.ix2 ⟨n, hn⟩ y) = fa (ij ⟨n, h⟩ y) := by
  refine concatenate_apply_piece (t := S8449x1024) 0 (pieces fa fb) _ (ValueIdx.ix2 ⟨n, hn⟩ y) 0 (by decide : _ < 3) S8192x1024 fa rfl rfl 0 rfl (ij ⟨n, h⟩ y) (fun b hb => ?_) (Nat.zero_add _)
  match b with
  | ⟨0, _⟩ => exact absurd rfl hb
  | ⟨1, _⟩ => rfl
theorem xpad_b (n : ℕ) (hn : n < 8449) (y : Fin 1024) (h : ¬ n < 8192) (h' : n < 8448) : xpad fa fb (ValueIdx.ix2 ⟨n, hn⟩ y) = fb (ij ⟨n - 8192, by omega⟩ y) := by
  refine concatenate_apply_piece (t := S8449x1024) 0 (pieces fa fb) _ (ValueIdx.ix2 ⟨n, hn⟩ y) 1 (by decide : _ < 3) S256x1024 fb rfl rfl 8192 rfl (ij ⟨n - 8192, by omega⟩ y) (fun b hb => ?_) ?_
  · match b with
    | ⟨0, _⟩ => exact absurd rfl hb
    | ⟨1, _⟩ => rfl
  · show 8192 + (n - 8192) = n
    omega
theorem xpad_z (n : ℕ) (hn : n < 8449) (y : Fin 1024) (h : ¬ n < 8448) : xpad fa fb (ValueIdx.ix2 ⟨n, hn⟩ y) = 0#32 := by
  refine Eq.trans (concatenate_apply_piece (t := S8449x1024) 0 (pieces fa fb) _ (ValueIdx.ix2 ⟨n, hn⟩ y) 2 (by decide : _ < 3) S1x1024 (broadcastInDim S1x1024 ![] bcast_S_S1x1024 (constantI S_ 32 0#32)) rfl rfl 8448 rfl (ij ⟨n - 8448, by omega⟩ y) (fun b hb => ?_) ?_) ?_
  · match b with
    | ⟨0, _⟩ => exact absurd rfl hb
    | ⟨1, _⟩ => rfl
  · show 8448 + (n - 8448) = n
    omega
  · rfl

/-- Under the precondition the reference's result is the kernel's. -/
theorem out_eq (fl : IVec S98 32) (V : IVec S25088x1024 32) (hin : InRange tb) (hd : Distinct tb) (hc : Covered tb fl) :
    out tb fa fb = fin (F := F) tb fl fa fb V := by
  funext i
  rw [ValueIdx.eq_ix2 i]
  have hr : (i 0).val < 25088 := (i 0).isLt
  by_cases h : ∃ j, j < 16896 ∧ dst tb j = (i 0).val
  · obtain ⟨j, hj, e⟩ := h
    refine Eq.trans ?_ (fin_hit tb fl fa fb V hd (i := ValueIdx.ix2 (i 0) (i 1)) hj e).symm
    refine (out_row tb fa fb (i 0) (i 1) (j % 8448) (by omega) (rowTok_hit tb hin hd ⟨j, hj⟩ (i 0) e)).trans ?_
    unfold srcRow
    split
    · next h => exact xpad_a fa fb _ _ _ h
    · next h => exact xpad_b fa fb _ _ _ h (Nat.mod_lt _ (by decide))
  · refine Eq.trans ?_ (fin_miss tb fl fa fb V (i := ValueIdx.ix2 (i 0) (i 1)) h).symm
    refine (out_row tb fa fb (i 0) (i 1) 8448 (by decide) (rowTok_miss tb hin (i 0) h)).trans ((xpad_z fa fb 8448 (by decide) _ (by decide)).trans ?_)
    unfold mid
    exact (if_pos ((hc _ hr).resolve_left h)).symm

end Cert.ReferenceIdeal.Disp
-- ==== Proof.Dispatch.lean ====
/- The two programs' values meet: at any float values, from memories agreeing on the arguments. -/
module

public import proofs.«01_k».proof.Proof.Run
public import proofs.«01_k».proof.Proof.RefValue

@[expose] public section

set_option maxRecDepth 16384

noncomputable section

namespace Cert.Disp

open Cert.KernelIdeal.Disp (V0 outV run_main slots_of_pre)
open Idealize.ShloMosaic Idealize.ShloMosaic.TcCoe
open Idealize.SL.Sem

variable {F : FTy → Type} [FloatOps F] [∀ e, Nonempty (Elt F e)]

abbrev KMem (F : FTy → Type) := (ℓ : Loc Cert.KernelIdeal.nD Cert.KernelIdeal.τ Cert.KernelIdeal.sig) → Buf (Elt F) ℓ
abbrev RMem (F : FTy → Type) := (ℓ : Loc Cert.ReferenceIdeal.nD Cert.ReferenceIdeal.τ Cert.ReferenceIdeal.sig) → Buf (Elt F) ℓ

/-- The precondition of the kernel's arguments. -/
def Pre (m : KMem F) : Prop :=
  ∀ c, Cert.Pre_distinct_slots.fn (F := F) (V0 m c Cert.KernelIdeal.main_arg0) (V0 m c Cert.KernelIdeal.main_arg1) (V0 m c Cert.KernelIdeal.main_arg2) (V0 m c Cert.KernelIdeal.main_arg3) = fun _ => 1#1

/-- The kernel's run: its result, its arguments, its semaphores. -/
theorem run_kernel (m : KMem F) (g : Dev Cert.KernelIdeal.nD → PrngReg) (h : Pre m) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem (c.tc.loc Cert.KernelIdeal.main_v0) = outV m c
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)) ∧ r.2.sem = fun _ => 0) :=
  run_main m g (fun c => (slots_of_pre _ _ _ _ (h c)).1) (fun c => (slots_of_pre _ _ _ _ (h c)).2.1)

/-- The reference's run: its result is the kernel's. -/
theorem run_reference (m : KMem F) (m' : RMem F) (g' : Dev Cert.ReferenceIdeal.nD → PrngReg) (h : Pre m)
    (ha : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
        r.2.mem ((c.tc : Thread Cert.ReferenceIdeal.nD Cert.ReferenceIdeal.τ).loc Cert.ReferenceIdeal.main_v20) = outV m c
        ∧ r.2.mem (c.tc.loc Cert.ReferenceIdeal.main_arg0) = m' (c.tc.loc Cert.ReferenceIdeal.main_arg0)
        ∧ r.2.mem (c.tc.loc Cert.ReferenceIdeal.main_arg1) = m' (c.tc.loc Cert.ReferenceIdeal.main_arg1)
        ∧ r.2.mem (c.tc.loc Cert.ReferenceIdeal.main_arg2) = m' (c.tc.loc Cert.ReferenceIdeal.main_arg2)
        ∧ r.2.mem (c.tc.loc Cert.ReferenceIdeal.main_arg3) = m' (c.tc.loc Cert.ReferenceIdeal.main_arg3)) := by
  refine (θ_run Cert.ReferenceIdeal.defs _ _).mono (fun r hr c => ⟨(hr c).1.trans ?_, (hr c).2⟩) (Cert.ReferenceIdeal.Value.run m' g')
  obtain ⟨a0, a1, a2, a3⟩ := ha c
  rw [a0, a2, a3]
  have hs := slots_of_pre _ _ _ _ (h c)
  exact Cert.ReferenceIdeal.Disp.out_eq (F := F) _ _ _ _ _ hs.1 hs.2.1 hs.2.2

/-- The reference's run leaves its arguments and its semaphores as they were. -/
theorem frame_reference (m' : RMem F) (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩ (fun r => (∀ c : Dev Cert.ReferenceIdeal.nD,
        r.2.mem (c.tc.loc Cert.ReferenceIdeal.main_arg0) = m' (c.tc.loc Cert.ReferenceIdeal.main_arg0)
        ∧ r.2.mem (c.tc.loc Cert.ReferenceIdeal.main_arg1) = m' (c.tc.loc Cert.ReferenceIdeal.main_arg1)
        ∧ r.2.mem (c.tc.loc Cert.ReferenceIdeal.main_arg2) = m' (c.tc.loc Cert.ReferenceIdeal.main_arg2)
        ∧ r.2.mem (c.tc.loc Cert.ReferenceIdeal.main_arg3) = m' (c.tc.loc Cert.ReferenceIdeal.main_arg3)) ∧ r.2.sem = fun _ => 0) :=
  (θ_run Cert.ReferenceIdeal.defs _ _).mono (fun r hr => ⟨fun c => (hr c).2, sem_eq_zero_of_no_sems (by decide) r.2⟩) (Cert.ReferenceIdeal.Value.run m' g')

end Cert.Disp
-- ==== Proof.Same.lean ====
/- The kernel as printed and as read at the ideal instance have the same text: at the bits their programs are equal. -/
module
public import proofs.«01_k».proof.Defs
public import proofs.«01_k».proof.Proof.Gen.Kernel
public import proofs.«01_k».proof.Proof.Gen.KernelIdeal
public import Idealize.ShloMosaic.Lib.Pipeline.Value
@[expose] public section

namespace Cert.Disp

open Idealize.ShloMosaic Idealize.SL.Sem

theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => exact rfl

theorem defs_eq : Cert.Kernel.defs (F := Bits) = Cert.KernelIdeal.defs (F := Bits) :=
  congrArg (Idealize.ShloMosaic.Pipeline.defs (Cert.KernelIdeal.pcfgs (F := Bits))) defs₀_eq

/-- So a run of the one is a run of the other. -/
theorem run_bits (s : MemSt Cert.KernelIdeal.nD Cert.KernelIdeal.τ Cert.KernelIdeal.sig (Elt Bits))
    (Q : PUnit × MemSt Cert.KernelIdeal.nD Cert.KernelIdeal.τ Cert.KernelIdeal.sig (Elt Bits) → Prop)
    (h : θ_run Cert.KernelIdeal.defs (onTc (τ := Cert.KernelIdeal.τ) (Cert.KernelIdeal.main (F := Bits))) s Q) :
    θ_run Cert.Kernel.defs (onTc (τ := Cert.Kernel.τ) (Cert.Kernel.main (F := Bits))) s Q := by
  rw [defs_eq]
  exact h

end Cert.Disp

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Reference
public import proofs.«01_k».proof.Proof.Gen.Pre_distinct_slots
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.InJoin
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.InJoinS
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.MgJoin
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MgJoinS
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_all_finite
public import proofs.«01_k».proof.Proof.AttnJoin
public import proofs.«01_k».proof.Proof.Dispatch
public import proofs.«01_k».proof.Proof.Same

@[expose] public section

set_option maxRecDepth 16384

noncomputable section

namespace Cert.Proof

open Idealize.ShloMosaic Idealize.SL.Sem
open Cert.Disp

/-- `Kernel` runs and leaves its arguments and its semaphores as they were. -/
theorem frame_kernel : Cert.quiescent_Kernel := fun m g h =>
  run_bits _ _ ((θ_run Cert.KernelIdeal.defs _ _).mono (fun _ hr => ⟨fun c => (hr.1 c).2, hr.2⟩) (run_kernel (F := Bits) m g h))

/-- The same at the ideal instance. -/
theorem frame_kernelIdeal : Cert.quiescent_KernelIdeal := fun m g h =>
  (θ_run Cert.KernelIdeal.defs _ _).mono (fun _ hr => ⟨fun c => (hr.1 c).2, hr.2⟩) (run_kernel (F := Ideal) m g h)

theorem frame_referenceIdeal : Cert.quiescent_ReferenceIdeal := fun m g _ => frame_reference (F := Ideal) m g

theorem frame_referenceIdeal_pre : Cert.quiescent_ReferenceIdeal_pre_distinct_slots := fun m g _ => frame_reference (F := Ideal) m g

theorem frame_referenceBits : Cert.quiescent_Reference := fun m g _ => frame_reference (F := Bits) m g

/-- The two programs' results are equal at the ideal instance. -/
theorem algebraic : Cert.algebraic_KernelIdeal_ReferenceIdeal := fun m g m' g' h ha =>
  ⟨fun c => Cert.KernelIdeal.Disp.outV m c,
    (θ_run Cert.KernelIdeal.defs _ _).mono (fun _ hr c => hr.1 c) (run_kernel (F := Ideal) m g h),
    run_reference (F := Ideal) m m' g' h ha⟩

/-- The two programs' results are equal bit by bit. -/
theorem bitexact : Cert.bitexact_Kernel_Reference := fun m g m' g' h ha =>
  ⟨fun c => Cert.KernelIdeal.Disp.outV (F := Bits) m c,
    run_bits _ _ ((θ_run Cert.KernelIdeal.defs _ _).mono (fun _ hr c => hr.1 c) (run_kernel (F := Bits) m g h)),
    run_reference (F := Bits) m m' g' h ha⟩

/-- The prompt's attention runs and leaves its arguments and its semaphores as they were. -/
theorem frame_attn : Cert.quiescent_Kernel6 := fun m g _ => Cert.Kernel6.Gen.frame m g

/-- The same at the ideal instance. -/
theorem frame_attnIdeal : Cert.quiescent_Kernel6Ideal := fun m g _ => Cert.Kernel6Ideal.Gen.frame m g

/-- The same of finite arguments. -/
theorem frame_attnIdeal_pre : Cert.quiescent_Kernel6Ideal_pre_all_finite := fun m g _ => Cert.Kernel6Ideal.Gen.frame m g

/-- The attention's reference, of finite arguments. -/
theorem frame_attnReference_pre : Cert.quiescent_Reference6Ideal_pre_all_finite := fun m g _ => Cert.Reference6Ideal.Attn.frame_reference m g trivial

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_distinct_slots.Gen.facts, Cert.Pre_all_finite.Gen.facts,
    frame_kernel, frame_kernelIdeal, frame_referenceIdeal, frame_referenceIdeal_pre, frame_referenceBits,
    Cert.Reference2Ideal.Inp.frame_kernel, Cert.Reference2Ideal.Inp.frame_kernelIdeal, Cert.Reference2Ideal.Inp.frame_reference,
    Cert.Reference3Ideal.Inp.frame_kernel, Cert.Reference3Ideal.Inp.frame_kernelIdeal, Cert.Reference3Ideal.Inp.frame_reference,
    Cert.Reference4Ideal.Mg.frame_kernel, Cert.Reference4Ideal.Mg.frame_kernelIdeal, Cert.Reference4Ideal.Mg.frame_reference,
    Cert.Reference5Ideal.Mg.frame_kernel, Cert.Reference5Ideal.Mg.frame_kernelIdeal, Cert.Reference5Ideal.Mg.frame_reference,
    frame_attn, frame_attnIdeal, frame_attnIdeal_pre, Cert.Reference6Ideal.Attn.frame_reference, frame_attnReference_pre,
    trivial, algebraic, bitexact,
    trivial, Cert.Reference2Ideal.Inp.algebraic,
    trivial, Cert.Reference3Ideal.Inp.algebraic,
    Cert.Reference4Ideal.Mg.preserves, Cert.Reference4Ideal.Mg.algebraic,
    Cert.Reference5Ideal.Mg.preserves, Cert.Reference5Ideal.Mg.algebraic,
    trivial, Cert.Reference6Ideal.Attn.algebraic⟩

end Cert.Proof
